-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Kernel28Ideal_finite28 [hPre_finite28 : Cert.Pre_finite28.Facts] (m : (ℓ : Loc Cert.Kernel28Ideal.nD Cert.Kernel28Ideal.τ Cert.Kernel28Ideal.sig) → Buf (Elt Ideal) ℓ) : Prop :=
  ∀ c : Dev Cert.Kernel28Ideal.nD,
    (Cert.Pre_finite28.fn (F := Ideal) (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2)) (m ((c.tc : Thread Cert.Kernel28Ideal.nD Cert.Kernel28Ideal.τ).loc Cert.Kernel28Ideal.main_arg3))).1 = (fun _ => 1#1)
    ∧ (Cert.Pre_finite28.fn (F := Ideal) (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2)) (m ((c.tc : Thread Cert.Kernel28Ideal.nD Cert.Kernel28Ideal.τ).loc Cert.Kernel28Ideal.main_arg3))).2.1 = (fun _ => 1#1)
    ∧ (Cert.Pre_finite28.fn (F := Ideal) (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2)) (m ((c.tc : Thread Cert.Kernel28Ideal.nD Cert.Kernel28Ideal.τ).loc Cert.Kernel28Ideal.main_arg3))).2.2.1 = (fun _ => 1#1)
    ∧ (Cert.Pre_finite28.fn (F := Ideal) (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2)) (m ((c.tc : Thread Cert.Kernel28Ideal.nD Cert.Kernel28Ideal.τ).loc Cert.Kernel28Ideal.main_arg3))).2.2.2 = (fun _ => 1#1)

def Pre_Reference28Ideal (m : (ℓ : Loc Cert.Reference28Ideal.nD Cert.Reference28Ideal.τ Cert.Reference28Ideal.sig) → Buf (Elt Ideal) ℓ) : Prop :=
  True

def Pre_Reference28Ideal_finite28 [hPre_finite28 : Cert.Pre_finite28.Facts] (m : (ℓ : Loc Cert.Reference28Ideal.nD Cert.Reference28Ideal.τ Cert.Reference28Ideal.sig) → Buf (Elt Ideal) ℓ) : Prop :=
  ∀ c : Dev Cert.Reference28Ideal.nD,
    (Cert.Pre_finite28.fn (F := Ideal) (m ((c.tc : Thread Cert.Reference28Ideal.nD Cert.Reference28Ideal.τ).loc Cert.Reference28Ideal.main_arg0)) (m ((c.tc : Thread Cert.Reference28Ideal.nD Cert.Reference28Ideal.τ).loc Cert.Reference28Ideal.main_arg1)) (m ((c.tc : Thread Cert.Reference28Ideal.nD Cert.Reference28Ideal.τ).loc Cert.Reference28Ideal.main_arg2)) (m ((c.tc : Thread Cert.Reference28Ideal.nD Cert.Reference28Ideal.τ).loc Cert.Reference28Ideal.main_arg3))).1 = (fun _ => 1#1)
    ∧ (Cert.Pre_finite28.fn (F := Ideal) (m ((c.tc : Thread Cert.Reference28Ideal.nD Cert.Reference28Ideal.τ).loc Cert.Reference28Ideal.main_arg0)) (m ((c.tc : Thread Cert.Reference28Ideal.nD Cert.Reference28Ideal.τ).loc Cert.Reference28Ideal.main_arg1)) (m ((c.tc : Thread Cert.Reference28Ideal.nD Cert.Reference28Ideal.τ).loc Cert.Reference28Ideal.main_arg2)) (m ((c.tc : Thread Cert.Reference28Ideal.nD Cert.Reference28Ideal.τ).loc Cert.Reference28Ideal.main_arg3))).2.1 = (fun _ => 1#1)
    ∧ (Cert.Pre_finite28.fn (F := Ideal) (m ((c.tc : Thread Cert.Reference28Ideal.nD Cert.Reference28Ideal.τ).loc Cert.Reference28Ideal.main_arg0)) (m ((c.tc : Thread Cert.Reference28Ideal.nD Cert.Reference28Ideal.τ).loc Cert.Reference28Ideal.main_arg1)) (m ((c.tc : Thread Cert.Reference28Ideal.nD Cert.Reference28Ideal.τ).loc Cert.Reference28Ideal.main_arg2)) (m ((c.tc : Thread Cert.Reference28Ideal.nD Cert.Reference28Ideal.τ).loc Cert.Reference28Ideal.main_arg3))).2.2.1 = (fun _ => 1#1)
    ∧ (Cert.Pre_finite28.fn (F := Ideal) (m ((c.tc : Thread Cert.Reference28Ideal.nD Cert.Reference28Ideal.τ).loc Cert.Reference28Ideal.main_arg0)) (m ((c.tc : Thread Cert.Reference28Ideal.nD Cert.Reference28Ideal.τ).loc Cert.Reference28Ideal.main_arg1)) (m ((c.tc : Thread Cert.Reference28Ideal.nD Cert.Reference28Ideal.τ).loc Cert.Reference28Ideal.main_arg2)) (m ((c.tc : Thread Cert.Reference28Ideal.nD Cert.Reference28Ideal.τ).loc Cert.Reference28Ideal.main_arg3))).2.2.2 = (fun _ => 1#1)

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Kernel31Ideal_finite31 [hPre_finite31 : Cert.Pre_finite31.Facts] (m : (ℓ : Loc Cert.Kernel31Ideal.nD Cert.Kernel31Ideal.τ Cert.Kernel31Ideal.sig) → Buf (Elt Ideal) ℓ) : Prop :=
  ∀ c : Dev Cert.Kernel31Ideal.nD,
    (Cert.Pre_finite31.fn (F := Ideal) (m ((c.tc : Thread Cert.Kernel31Ideal.nD Cert.Kernel31Ideal.τ).loc Cert.Kernel31Ideal.main_arg0)) (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg2))).1 = (fun _ => 1#1)
    ∧ (Cert.Pre_finite31.fn (F := Ideal) (m ((c.tc : Thread Cert.Kernel31Ideal.nD Cert.Kernel31Ideal.τ).loc Cert.Kernel31Ideal.main_arg0)) (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg2))).2.1 = (fun _ => 1#1)
    ∧ (Cert.Pre_finite31.fn (F := Ideal) (m ((c.tc : Thread Cert.Kernel31Ideal.nD Cert.Kernel31Ideal.τ).loc Cert.Kernel31Ideal.main_arg0)) (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg2))).2.2 = (fun _ => 1#1)

def Pre_Reference31Ideal (m : (ℓ : Loc Cert.Reference31Ideal.nD Cert.Reference31Ideal.τ Cert.Reference31Ideal.sig) → Buf (Elt Ideal) ℓ) : Prop :=
  True

def Pre_Reference31Ideal_finite31 [hPre_finite31 : Cert.Pre_finite31.Facts] (m : (ℓ : Loc Cert.Reference31Ideal.nD Cert.Reference31Ideal.τ Cert.Reference31Ideal.sig) → Buf (Elt Ideal) ℓ) : Prop :=
  ∀ c : Dev Cert.Reference31Ideal.nD,
    (Cert.Pre_finite31.fn (F := Ideal) (m ((c.tc : Thread Cert.Reference31Ideal.nD Cert.Reference31Ideal.τ).loc Cert.Reference31Ideal.main_arg0)) (m ((c.tc : Thread Cert.Reference31Ideal.nD Cert.Reference31Ideal.τ).loc Cert.Reference31Ideal.main_arg1)) (m ((c.tc : Thread Cert.Reference31Ideal.nD Cert.Reference31Ideal.τ).loc Cert.Reference31Ideal.main_arg2))).1 = (fun _ => 1#1)
    ∧ (Cert.Pre_finite31.fn (F := Ideal) (m ((c.tc : Thread Cert.Reference31Ideal.nD Cert.Reference31Ideal.τ).loc Cert.Reference31Ideal.main_arg0)) (m ((c.tc : Thread Cert.Reference31Ideal.nD Cert.Reference31Ideal.τ).loc Cert.Reference31Ideal.main_arg1)) (m ((c.tc : Thread Cert.Reference31Ideal.nD Cert.Reference31Ideal.τ).loc Cert.Reference31Ideal.main_arg2))).2.1 = (fun _ => 1#1)
    ∧ (Cert.Pre_finite31.fn (F := Ideal) (m ((c.tc : Thread Cert.Reference31Ideal.nD Cert.Reference31Ideal.τ).loc Cert.Reference31Ideal.main_arg0)) (m ((c.tc : Thread Cert.Reference31Ideal.nD Cert.Reference31Ideal.τ).loc Cert.Reference31Ideal.main_arg1)) (m ((c.tc : Thread Cert.Reference31Ideal.nD Cert.Reference31Ideal.τ).loc Cert.Reference31Ideal.main_arg2))).2.2 = (fun _ => 1#1)

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Kernel32Ideal_finite32 [hPre_finite32 : Cert.Pre_finite32.Facts] (m : (ℓ : Loc Cert.Kernel32Ideal.nD Cert.Kernel32Ideal.τ Cert.Kernel32Ideal.sig) → Buf (Elt Ideal) ℓ) : Prop :=
  ∀ c : Dev Cert.Kernel32Ideal.nD,
    (Cert.Pre_finite32.fn (F := Ideal) (m ((c.tc : Thread Cert.Kernel32Ideal.nD Cert.Kernel32Ideal.τ).loc Cert.Kernel32Ideal.main_arg0)) (m ((c.tc : Thread Cert.Kernel32Ideal.nD Cert.Kernel32Ideal.τ).loc Cert.Kernel32Ideal.main_arg1)) (m ((c.tc : Thread Cert.Kernel32Ideal.nD Cert.Kernel32Ideal.τ).loc Cert.Kernel32Ideal.main_arg2)) (m ((c.tc : Thread Cert.Kernel32Ideal.nD Cert.Kernel32Ideal.τ).loc Cert.Kernel32Ideal.main_arg3)) (m ((c.tc : Thread Cert.Kernel32Ideal.nD Cert.Kernel32Ideal.τ).loc Cert.Kernel32Ideal.main_arg4)) (m ((c.tc : Thread Cert.Kernel32Ideal.nD Cert.Kernel32Ideal.τ).loc Cert.Kernel32Ideal.main_arg5)) (m ((c.tc : Thread Cert.Kernel32Ideal.nD Cert.Kernel32Ideal.τ).loc Cert.Kernel32Ideal.main_arg6))).1 = (fun _ => 1#1)
    ∧ (Cert.Pre_finite32.fn (F := Ideal) (m ((c.tc : Thread Cert.Kernel32Ideal.nD Cert.Kernel32Ideal.τ).loc Cert.Kernel32Ideal.main_arg0)) (m ((c.tc : Thread Cert.Kernel32Ideal.nD Cert.Kernel32Ideal.τ).loc Cert.Kernel32Ideal.main_arg1)) (m ((c.tc : Thread Cert.Kernel32Ideal.nD Cert.Kernel32Ideal.τ).loc Cert.Kernel32Ideal.main_arg2)) (m ((c.tc : Thread Cert.Kernel32Ideal.nD Cert.Kernel32Ideal.τ).loc Cert.Kernel32Ideal.main_arg3)) (m ((c.tc : Thread Cert.Kernel32Ideal.nD Cert.Kernel32Ideal.τ).loc Cert.Kernel32Ideal.main_arg4)) (m ((c.tc : Thread Cert.Kernel32Ideal.nD Cert.Kernel32Ideal.τ).loc Cert.Kernel32Ideal.main_arg5)) (m ((c.tc : Thread Cert.Kernel32Ideal.nD Cert.Kernel32Ideal.τ).loc Cert.Kernel32Ideal.main_arg6))).2.1 = (fun _ => 1#1)
    ∧ (Cert.Pre_finite32.fn (F := Ideal) (m ((c.tc : Thread Cert.Kernel32Ideal.nD Cert.Kernel32Ideal.τ).loc Cert.Kernel32Ideal.main_arg0)) (m ((c.tc : Thread Cert.Kernel32Ideal.nD Cert.Kernel32Ideal.τ).loc Cert.Kernel32Ideal.main_arg1)) (m ((c.tc : Thread Cert.Kernel32Ideal.nD Cert.Kernel32Ideal.τ).loc Cert.Kernel32Ideal.main_arg2)) (m ((c.tc : Thread Cert.Kernel32Ideal.nD Cert.Kernel32Ideal.τ).loc Cert.Kernel32Ideal.main_arg3)) (m ((c.tc : Thread Cert.Kernel32Ideal.nD Cert.Kernel32Ideal.τ).loc Cert.Kernel32Ideal.main_arg4)) (m ((c.tc : Thread Cert.Kernel32Ideal.nD Cert.Kernel32Ideal.τ).loc Cert.Kernel32Ideal.main_arg5)) (m ((c.tc : Thread Cert.Kernel32Ideal.nD Cert.Kernel32Ideal.τ).loc Cert.Kernel32Ideal.main_arg6))).2.2.1 = (fun _ => 1#1)
    ∧ (Cert.Pre_finite32.fn (F := Ideal) (m ((c.tc : Thread Cert.Kernel32Ideal.nD Cert.Kernel32Ideal.τ).loc Cert.Kernel32Ideal.main_arg0)) (m ((c.tc : Thread Cert.Kernel32Ideal.nD Cert.Kernel32Ideal.τ).loc Cert.Kernel32Ideal.main_arg1)) (m ((c.tc : Thread Cert.Kernel32Ideal.nD Cert.Kernel32Ideal.τ).loc Cert.Kernel32Ideal.main_arg2)) (m ((c.tc : Thread Cert.Kernel32Ideal.nD Cert.Kernel32Ideal.τ).loc Cert.Kernel32Ideal.main_arg3)) (m ((c.tc : Thread Cert.Kernel32Ideal.nD Cert.Kernel32Ideal.τ).loc Cert.Kernel32Ideal.main_arg4)) (m ((c.tc : Thread Cert.Kernel32Ideal.nD Cert.Kernel32Ideal.τ).loc Cert.Kernel32Ideal.main_arg5)) (m ((c.tc : Thread Cert.Kernel32Ideal.nD Cert.Kernel32Ideal.τ).loc Cert.Kernel32Ideal.main_arg6))).2.2.2.1 = (fun _ => 1#1)
    ∧ (Cert.Pre_finite32.fn (F := Ideal) (m ((c.tc : Thread Cert.Kernel32Ideal.nD Cert.Kernel32Ideal.τ).loc Cert.Kernel32Ideal.main_arg0)) (m ((c.tc : Thread Cert.Kernel32Ideal.nD Cert.Kernel32Ideal.τ).loc Cert.Kernel32Ideal.main_arg1)) (m ((c.tc : Thread Cert.Kernel32Ideal.nD Cert.Kernel32Ideal.τ).loc Cert.Kernel32Ideal.main_arg2)) (m ((c.tc : Thread Cert.Kernel32Ideal.nD Cert.Kernel32Ideal.τ).loc Cert.Kernel32Ideal.main_arg3)) (m ((c.tc : Thread Cert.Kernel32Ideal.nD Cert.Kernel32Ideal.τ).loc Cert.Kernel32Ideal.main_arg4)) (m ((c.tc : Thread Cert.Kernel32Ideal.nD Cert.Kernel32Ideal.τ).loc Cert.Kernel32Ideal.main_arg5)) (m ((c.tc : Thread Cert.Kernel32Ideal.nD Cert.Kernel32Ideal.τ).loc Cert.Kernel32Ideal.main_arg6))).2.2.2.2.1 = (fun _ => 1#1)
    ∧ (Cert.Pre_finite32.fn (F := Ideal) (m ((c.tc : Thread Cert.Kernel32Ideal.nD Cert.Kernel32Ideal.τ).loc Cert.Kernel32Ideal.main_arg0)) (m ((c.tc : Thread Cert.Kernel32Ideal.nD Cert.Kernel32Ideal.τ).loc Cert.Kernel32Ideal.main_arg1)) (m ((c.tc : Thread Cert.Kernel32Ideal.nD Cert.Kernel32Ideal.τ).loc Cert.Kernel32Ideal.main_arg2)) (m ((c.tc : Thread Cert.Kernel32Ideal.nD Cert.Kernel32Ideal.τ).loc Cert.Kernel32Ideal.main_arg3)) (m ((c.tc : Thread Cert.Kernel32Ideal.nD Cert.Kernel32Ideal.τ).loc Cert.Kernel32Ideal.main_arg4)) (m ((c.tc : Thread Cert.Kernel32Ideal.nD Cert.Kernel32Ideal.τ).loc Cert.Kernel32Ideal.main_arg5)) (m ((c.tc : Thread Cert.Kernel32Ideal.nD Cert.Kernel32Ideal.τ).loc Cert.Kernel32Ideal.main_arg6))).2.2.2.2.2.1 = (fun _ => 1#1)
    ∧ (Cert.Pre_finite32.fn (F := Ideal) (m ((c.tc : Thread Cert.Kernel32Ideal.nD Cert.Kernel32Ideal.τ).loc Cert.Kernel32Ideal.main_arg0)) (m ((c.tc : Thread Cert.Kernel32Ideal.nD Cert.Kernel32Ideal.τ).loc Cert.Kernel32Ideal.main_arg1)) (m ((c.tc : Thread Cert.Kernel32Ideal.nD Cert.Kernel32Ideal.τ).loc Cert.Kernel32Ideal.main_arg2)) (m ((c.tc : Thread Cert.Kernel32Ideal.nD Cert.Kernel32Ideal.τ).loc Cert.Kernel32Ideal.main_arg3)) (m ((c.tc : Thread Cert.Kernel32Ideal.nD Cert.Kernel32Ideal.τ).loc Cert.Kernel32Ideal.main_arg4)) (m ((c.tc : Thread Cert.Kernel32Ideal.nD Cert.Kernel32Ideal.τ).loc Cert.Kernel32Ideal.main_arg5)) (m ((c.tc : Thread Cert.Kernel32Ideal.nD Cert.Kernel32Ideal.τ).loc Cert.Kernel32Ideal.main_arg6))).2.2.2.2.2.2 = (fun _ => 1#1)

def Pre_Reference32Ideal (m : (ℓ : Loc Cert.Reference32Ideal.nD Cert.Reference32Ideal.τ Cert.Reference32Ideal.sig) → Buf (Elt Ideal) ℓ) : Prop :=
  True

def Pre_Reference32Ideal_finite32 [hPre_finite32 : Cert.Pre_finite32.Facts] (m : (ℓ : Loc Cert.Reference32Ideal.nD Cert.Reference32Ideal.τ Cert.Reference32Ideal.sig) → Buf (Elt Ideal) ℓ) : Prop :=
  ∀ c : Dev Cert.Reference32Ideal.nD,
    (Cert.Pre_finite32.fn (F := Ideal) (m ((c.tc : Thread Cert.Reference32Ideal.nD Cert.Reference32Ideal.τ).loc Cert.Reference32Ideal.main_arg0)) (m ((c.tc : Thread Cert.Reference32Ideal.nD Cert.Reference32Ideal.τ).loc Cert.Reference32Ideal.main_arg1)) (m ((c.tc : Thread Cert.Reference32Ideal.nD Cert.Reference32Ideal.τ).loc Cert.Reference32Ideal.main_arg2)) (m ((c.tc : Thread Cert.Reference32Ideal.nD Cert.Reference32Ideal.τ).loc Cert.Reference32Ideal.main_arg3)) (m ((c.tc : Thread Cert.Reference32Ideal.nD Cert.Reference32Ideal.τ).loc Cert.Reference32Ideal.main_arg4)) (m ((c.tc : Thread Cert.Reference32Ideal.nD Cert.Reference32Ideal.τ).loc Cert.Reference32Ideal.main_arg5)) (m ((c.tc : Thread Cert.Reference32Ideal.nD Cert.Reference32Ideal.τ).loc Cert.Reference32Ideal.main_arg6))).1 = (fun _ => 1#1)
    ∧ (Cert.Pre_finite32.fn (F := Ideal) (m ((c.tc : Thread Cert.Reference32Ideal.nD Cert.Reference32Ideal.τ).loc Cert.Reference32Ideal.main_arg0)) (m ((c.tc : Thread Cert.Reference32Ideal.nD Cert.Reference32Ideal.τ).loc Cert.Reference32Ideal.main_arg1)) (m ((c.tc : Thread Cert.Reference32Ideal.nD Cert.Reference32Ideal.τ).loc Cert.Reference32Ideal.main_arg2)) (m ((c.tc : Thread Cert.Reference32Ideal.nD Cert.Reference32Ideal.τ).loc Cert.Reference32Ideal.main_arg3)) (m ((c.tc : Thread Cert.Reference32Ideal.nD Cert.Reference32Ideal.τ).loc Cert.Reference32Ideal.main_arg4)) (m ((c.tc : Thread Cert.Reference32Ideal.nD Cert.Reference32Ideal.τ).loc Cert.Reference32Ideal.main_arg5)) (m ((c.tc : Thread Cert.Reference32Ideal.nD Cert.Reference32Ideal.τ).loc Cert.Reference32Ideal.main_arg6))).2.1 = (fun _ => 1#1)
    ∧ (Cert.Pre_finite32.fn (F := Ideal) (m ((c.tc : Thread Cert.Reference32Ideal.nD Cert.Reference32Ideal.τ).loc Cert.Reference32Ideal.main_arg0)) (m ((c.tc : Thread Cert.Reference32Ideal.nD Cert.Reference32Ideal.τ).loc Cert.Reference32Ideal.main_arg1)) (m ((c.tc : Thread Cert.Reference32Ideal.nD Cert.Reference32Ideal.τ).loc Cert.Reference32Ideal.main_arg2)) (m ((c.tc : Thread Cert.Reference32Ideal.nD Cert.Reference32Ideal.τ).loc Cert.Reference32Ideal.main_arg3)) (m ((c.tc : Thread Cert.Reference32Ideal.nD Cert.Reference32Ideal.τ).loc Cert.Reference32Ideal.main_arg4)) (m ((c.tc : Thread Cert.Reference32Ideal.nD Cert.Reference32Ideal.τ).loc Cert.Reference32Ideal.main_arg5)) (m ((c.tc : Thread Cert.Reference32Ideal.nD Cert.Reference32Ideal.τ).loc Cert.Reference32Ideal.main_arg6))).2.2.1 = (fun _ => 1#1)
    ∧ (Cert.Pre_finite32.fn (F := Ideal) (m ((c.tc : Thread Cert.Reference32Ideal.nD Cert.Reference32Ideal.τ).loc Cert.Reference32Ideal.main_arg0)) (m ((c.tc : Thread Cert.Reference32Ideal.nD Cert.Reference32Ideal.τ).loc Cert.Reference32Ideal.main_arg1)) (m ((c.tc : Thread Cert.Reference32Ideal.nD Cert.Reference32Ideal.τ).loc Cert.Reference32Ideal.main_arg2)) (m ((c.tc : Thread Cert.Reference32Ideal.nD Cert.Reference32Ideal.τ).loc Cert.Reference32Ideal.main_arg3)) (m ((c.tc : Thread Cert.Reference32Ideal.nD Cert.Reference32Ideal.τ).loc Cert.Reference32Ideal.main_arg4)) (m ((c.tc : Thread Cert.Reference32Ideal.nD Cert.Reference32Ideal.τ).loc Cert.Reference32Ideal.main_arg5)) (m ((c.tc : Thread Cert.Reference32Ideal.nD Cert.Reference32Ideal.τ).loc Cert.Reference32Ideal.main_arg6))).2.2.2.1 = (fun _ => 1#1)
    ∧ (Cert.Pre_finite32.fn (F := Ideal) (m ((c.tc : Thread Cert.Reference32Ideal.nD Cert.Reference32Ideal.τ).loc Cert.Reference32Ideal.main_arg0)) (m ((c.tc : Thread Cert.Reference32Ideal.nD Cert.Reference32Ideal.τ).loc Cert.Reference32Ideal.main_arg1)) (m ((c.tc : Thread Cert.Reference32Ideal.nD Cert.Reference32Ideal.τ).loc Cert.Reference32Ideal.main_arg2)) (m ((c.tc : Thread Cert.Reference32Ideal.nD Cert.Reference32Ideal.τ).loc Cert.Reference32Ideal.main_arg3)) (m ((c.tc : Thread Cert.Reference32Ideal.nD Cert.Reference32Ideal.τ).loc Cert.Reference32Ideal.main_arg4)) (m ((c.tc : Thread Cert.Reference32Ideal.nD Cert.Reference32Ideal.τ).loc Cert.Reference32Ideal.main_arg5)) (m ((c.tc : Thread Cert.Reference32Ideal.nD Cert.Reference32Ideal.τ).loc Cert.Reference32Ideal.main_arg6))).2.2.2.2.1 = (fun _ => 1#1)
    ∧ (Cert.Pre_finite32.fn (F := Ideal) (m ((c.tc : Thread Cert.Reference32Ideal.nD Cert.Reference32Ideal.τ).loc Cert.Reference32Ideal.main_arg0)) (m ((c.tc : Thread Cert.Reference32Ideal.nD Cert.Reference32Ideal.τ).loc Cert.Reference32Ideal.main_arg1)) (m ((c.tc : Thread Cert.Reference32Ideal.nD Cert.Reference32Ideal.τ).loc Cert.Reference32Ideal.main_arg2)) (m ((c.tc : Thread Cert.Reference32Ideal.nD Cert.Reference32Ideal.τ).loc Cert.Reference32Ideal.main_arg3)) (m ((c.tc : Thread Cert.Reference32Ideal.nD Cert.Reference32Ideal.τ).loc Cert.Reference32Ideal.main_arg4)) (m ((c.tc : Thread Cert.Reference32Ideal.nD Cert.Reference32Ideal.τ).loc Cert.Reference32Ideal.main_arg5)) (m ((c.tc : Thread Cert.Reference32Ideal.nD Cert.Reference32Ideal.τ).loc Cert.Reference32Ideal.main_arg6))).2.2.2.2.2.1 = (fun _ => 1#1)
    ∧ (Cert.Pre_finite32.fn (F := Ideal) (m ((c.tc : Thread Cert.Reference32Ideal.nD Cert.Reference32Ideal.τ).loc Cert.Reference32Ideal.main_arg0)) (m ((c.tc : Thread Cert.Reference32Ideal.nD Cert.Reference32Ideal.τ).loc Cert.Reference32Ideal.main_arg1)) (m ((c.tc : Thread Cert.Reference32Ideal.nD Cert.Reference32Ideal.τ).loc Cert.Reference32Ideal.main_arg2)) (m ((c.tc : Thread Cert.Reference32Ideal.nD Cert.Reference32Ideal.τ).loc Cert.Reference32Ideal.main_arg3)) (m ((c.tc : Thread Cert.Reference32Ideal.nD Cert.Reference32Ideal.τ).loc Cert.Reference32Ideal.main_arg4)) (m ((c.tc : Thread Cert.Reference32Ideal.nD Cert.Reference32Ideal.τ).loc Cert.Reference32Ideal.main_arg5)) (m ((c.tc : Thread Cert.Reference32Ideal.nD Cert.Reference32Ideal.τ).loc Cert.Reference32Ideal.main_arg6))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4)
      ∧ r.2.mem ((c.tc : Thread Cert.Kernel24.nD Cert.Kernel24.τ).loc Cert.Kernel24.main_arg5) = m ((c.tc : Thread Cert.Kernel24.nD Cert.Kernel24.τ).loc Cert.Kernel24.main_arg5)
      ∧ r.2.mem ((c.tc : Thread Cert.Kernel24.nD Cert.Kernel24.τ).loc Cert.Kernel24.main_arg6) = m ((c.tc : Thread Cert.Kernel24.nD Cert.Kernel24.τ).loc Cert.Kernel24.main_arg6)
      ∧ r.2.mem ((c.tc : Thread Cert.Kernel24.nD Cert.Kernel24.τ).loc Cert.Kernel24.main_arg7) = m ((c.tc : Thread Cert.Kernel24.nD Cert.Kernel24.τ).loc Cert.Kernel24.main_arg7)
      ∧ r.2.mem ((c.tc : Thread Cert.Kernel24.nD Cert.Kernel24.τ).loc Cert.Kernel24.main_arg8) = m ((c.tc : Thread Cert.Kernel24.nD Cert.Kernel24.τ).loc Cert.Kernel24.main_arg8)
      ∧ r.2.mem ((c.tc : Thread Cert.Kernel24.nD Cert.Kernel24.τ).loc Cert.Kernel24.main_arg9) = m ((c.tc : Thread Cert.Kernel24.nD Cert.Kernel24.τ).loc Cert.Kernel24.main_arg9)
      ∧ r.2.mem ((c.tc : Thread Cert.Kernel24.nD Cert.Kernel24.τ).loc Cert.Kernel24.main_arg10) = m ((c.tc : Thread Cert.Kernel24.nD Cert.Kernel24.τ).loc Cert.Kernel24.main_arg10)
      ∧ r.2.mem ((c.tc : Thread Cert.Kernel24.nD Cert.Kernel24.τ).loc Cert.Kernel24.main_arg11) = m ((c.tc : Thread Cert.Kernel24.nD Cert.Kernel24.τ).loc Cert.Kernel24.main_arg11)
      ∧ r.2.mem ((c.tc : Thread Cert.Kernel24.nD Cert.Kernel24.τ).loc Cert.Kernel24.main_arg12) = m ((c.tc : Thread Cert.Kernel24.nD Cert.Kernel24.τ).loc Cert.Kernel24.main_arg12))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
      ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
      ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6)
      ∧ r.2.mem ((c.tc : Thread Cert.Kernel24Ideal.nD Cert.Kernel24Ideal.τ).loc Cert.Kernel24Ideal.main_arg7) = m ((c.tc : Thread Cert.Kernel24Ideal.nD Cert.Kernel24Ideal.τ).loc Cert.Kernel24Ideal.main_arg7)
      ∧ r.2.mem ((c.tc : Thread Cert.Kernel24Ideal.nD Cert.Kernel24Ideal.τ).loc Cert.Kernel24Ideal.main_arg8) = m ((c.tc : Thread Cert.Kernel24Ideal.nD Cert.Kernel24Ideal.τ).loc Cert.Kernel24Ideal.main_arg8)
      ∧ r.2.mem ((c.tc : Thread Cert.Kernel24Ideal.nD Cert.Kernel24Ideal.τ).loc Cert.Kernel24Ideal.main_arg9) = m ((c.tc : Thread Cert.Kernel24Ideal.nD Cert.Kernel24Ideal.τ).loc Cert.Kernel24Ideal.main_arg9)
      ∧ r.2.mem ((c.tc : Thread Cert.Kernel24Ideal.nD Cert.Kernel24Ideal.τ).loc Cert.Kernel24Ideal.main_arg10) = m ((c.tc : Thread Cert.Kernel24Ideal.nD Cert.Kernel24Ideal.τ).loc Cert.Kernel24Ideal.main_arg10)
      ∧ r.2.mem ((c.tc : Thread Cert.Kernel24Ideal.nD Cert.Kernel24Ideal.τ).loc Cert.Kernel24Ideal.main_arg11) = m ((c.tc : Thread Cert.Kernel24Ideal.nD Cert.Kernel24Ideal.τ).loc Cert.Kernel24Ideal.main_arg11)
      ∧ r.2.mem ((c.tc : Thread Cert.Kernel24Ideal.nD Cert.Kernel24Ideal.τ).loc Cert.Kernel24Ideal.main_arg12) = m ((c.tc : Thread Cert.Kernel24Ideal.nD Cert.Kernel24Ideal.τ).loc Cert.Kernel24Ideal.main_arg12))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5)
      ∧ r.2.mem ((c.tc : Thread Cert.Reference24Ideal.nD Cert.Reference24Ideal.τ).loc Cert.Reference24Ideal.main_arg6) = m ((c.tc : Thread Cert.Reference24Ideal.nD Cert.Reference24Ideal.τ).loc Cert.Reference24Ideal.main_arg6)
      ∧ r.2.mem ((c.tc : Thread Cert.Reference24Ideal.nD Cert.Reference24Ideal.τ).loc Cert.Reference24Ideal.main_arg7) = m ((c.tc : Thread Cert.Reference24Ideal.nD Cert.Reference24Ideal.τ).loc Cert.Reference24Ideal.main_arg7)
      ∧ r.2.mem ((c.tc : Thread Cert.Reference24Ideal.nD Cert.Reference24Ideal.τ).loc Cert.Reference24Ideal.main_arg8) = m ((c.tc : Thread Cert.Reference24Ideal.nD Cert.Reference24Ideal.τ).loc Cert.Reference24Ideal.main_arg8)
      ∧ r.2.mem ((c.tc : Thread Cert.Reference24Ideal.nD Cert.Reference24Ideal.τ).loc Cert.Reference24Ideal.main_arg9) = m ((c.tc : Thread Cert.Reference24Ideal.nD Cert.Reference24Ideal.τ).loc Cert.Reference24Ideal.main_arg9)
      ∧ r.2.mem ((c.tc : Thread Cert.Reference24Ideal.nD Cert.Reference24Ideal.τ).loc Cert.Reference24Ideal.main_arg10) = m ((c.tc : Thread Cert.Reference24Ideal.nD Cert.Reference24Ideal.τ).loc Cert.Reference24Ideal.main_arg10)
      ∧ r.2.mem ((c.tc : Thread Cert.Reference24Ideal.nD Cert.Reference24Ideal.τ).loc Cert.Reference24Ideal.main_arg11) = m ((c.tc : Thread Cert.Reference24Ideal.nD Cert.Reference24Ideal.τ).loc Cert.Reference24Ideal.main_arg11)
      ∧ r.2.mem ((c.tc : Thread Cert.Reference24Ideal.nD Cert.Reference24Ideal.τ).loc Cert.Reference24Ideal.main_arg12) = m ((c.tc : Thread Cert.Reference24Ideal.nD Cert.Reference24Ideal.τ).loc Cert.Reference24Ideal.main_arg12))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Kernel28Ideal_pre_finite28 [hKernel28Ideal : Cert.Kernel28Ideal.Facts] [hPre_finite28 : Cert.Pre_finite28.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal_finite28 m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Reference28Ideal_pre_finite28 [hReference28Ideal : Cert.Reference28Ideal.Facts] [hPre_finite28 : Cert.Pre_finite28.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal_finite28 m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ r.2.sem = fun _ => 0)

def quiescent_Kernel31Ideal_pre_finite31 [hKernel31Ideal : Cert.Kernel31Ideal.Facts] [hPre_finite31 : Cert.Pre_finite31.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal_finite31 m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def quiescent_Reference31Ideal_pre_finite31 [hReference31Ideal : Cert.Reference31Ideal.Facts] [hPre_finite31 : Cert.Pre_finite31.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal_finite31 m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3)
      ∧ r.2.mem ((c.tc : Thread Cert.Kernel32.nD Cert.Kernel32.τ).loc Cert.Kernel32.main_arg4) = m ((c.tc : Thread Cert.Kernel32.nD Cert.Kernel32.τ).loc Cert.Kernel32.main_arg4)
      ∧ r.2.mem ((c.tc : Thread Cert.Kernel32.nD Cert.Kernel32.τ).loc Cert.Kernel32.main_arg5) = m ((c.tc : Thread Cert.Kernel32.nD Cert.Kernel32.τ).loc Cert.Kernel32.main_arg5)
      ∧ r.2.mem ((c.tc : Thread Cert.Kernel32.nD Cert.Kernel32.τ).loc Cert.Kernel32.main_arg6) = m ((c.tc : Thread Cert.Kernel32.nD Cert.Kernel32.τ).loc Cert.Kernel32.main_arg6))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
      ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4)
      ∧ r.2.mem ((c.tc : Thread Cert.Kernel32Ideal.nD Cert.Kernel32Ideal.τ).loc Cert.Kernel32Ideal.main_arg5) = m ((c.tc : Thread Cert.Kernel32Ideal.nD Cert.Kernel32Ideal.τ).loc Cert.Kernel32Ideal.main_arg5)
      ∧ r.2.mem ((c.tc : Thread Cert.Kernel32Ideal.nD Cert.Kernel32Ideal.τ).loc Cert.Kernel32Ideal.main_arg6) = m ((c.tc : Thread Cert.Kernel32Ideal.nD Cert.Kernel32Ideal.τ).loc Cert.Kernel32Ideal.main_arg6))
      ∧ r.2.sem = fun _ => 0)

def quiescent_Kernel32Ideal_pre_finite32 [hKernel32Ideal : Cert.Kernel32Ideal.Facts] [hPre_finite32 : Cert.Pre_finite32.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal_finite32 m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
      ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4)
      ∧ r.2.mem ((c.tc : Thread Cert.Kernel32Ideal.nD Cert.Kernel32Ideal.τ).loc Cert.Kernel32Ideal.main_arg5) = m ((c.tc : Thread Cert.Kernel32Ideal.nD Cert.Kernel32Ideal.τ).loc Cert.Kernel32Ideal.main_arg5)
      ∧ r.2.mem ((c.tc : Thread Cert.Kernel32Ideal.nD Cert.Kernel32Ideal.τ).loc Cert.Kernel32Ideal.main_arg6) = m ((c.tc : Thread Cert.Kernel32Ideal.nD Cert.Kernel32Ideal.τ).loc Cert.Kernel32Ideal.main_arg6))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3)
      ∧ r.2.mem ((c.tc : Thread Cert.Reference32Ideal.nD Cert.Reference32Ideal.τ).loc Cert.Reference32Ideal.main_arg4) = m ((c.tc : Thread Cert.Reference32Ideal.nD Cert.Reference32Ideal.τ).loc Cert.Reference32Ideal.main_arg4)
      ∧ r.2.mem ((c.tc : Thread Cert.Reference32Ideal.nD Cert.Reference32Ideal.τ).loc Cert.Reference32Ideal.main_arg5) = m ((c.tc : Thread Cert.Reference32Ideal.nD Cert.Reference32Ideal.τ).loc Cert.Reference32Ideal.main_arg5)
      ∧ r.2.mem ((c.tc : Thread Cert.Reference32Ideal.nD Cert.Reference32Ideal.τ).loc Cert.Reference32Ideal.main_arg6) = m ((c.tc : Thread Cert.Reference32Ideal.nD Cert.Reference32Ideal.τ).loc Cert.Reference32Ideal.main_arg6))
      ∧ r.2.sem = fun _ => 0)

def quiescent_Reference32Ideal_pre_finite32 [hReference32Ideal : Cert.Reference32Ideal.Facts] [hPre_finite32 : Cert.Pre_finite32.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal_finite32 m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3)
      ∧ r.2.mem ((c.tc : Thread Cert.Reference32Ideal.nD Cert.Reference32Ideal.τ).loc Cert.Reference32Ideal.main_arg4) = m ((c.tc : Thread Cert.Reference32Ideal.nD Cert.Reference32Ideal.τ).loc Cert.Reference32Ideal.main_arg4)
      ∧ r.2.mem ((c.tc : Thread Cert.Reference32Ideal.nD Cert.Reference32Ideal.τ).loc Cert.Reference32Ideal.main_arg5) = m ((c.tc : Thread Cert.Reference32Ideal.nD Cert.Reference32Ideal.τ).loc Cert.Reference32Ideal.main_arg5)
      ∧ r.2.mem ((c.tc : Thread Cert.Reference32Ideal.nD Cert.Reference32Ideal.τ).loc Cert.Reference32Ideal.main_arg6) = m ((c.tc : Thread Cert.Reference32Ideal.nD Cert.Reference32Ideal.τ).loc Cert.Reference32Ideal.main_arg6))
      ∧ r.2.sem = fun _ => 0)

def preserves_Kernel_KernelIdeal : Prop :=
  IdealRules.named_const.Statement Cert.KernelIdeal.κ "masked" .f32 0xF149F2CA#32 ⊥
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v60)) (v1 : (c : Dev Cert.KernelIdeal.nD) → Buf (Elt Ideal) ((c.tc : Thread Cert.KernelIdeal.nD Cert.KernelIdeal.τ).loc Cert.KernelIdeal.main_v53_1)) (v2 : (c : Dev Cert.KernelIdeal.nD) → Buf (Elt Ideal) ((c.tc : Thread Cert.KernelIdeal.nD Cert.KernelIdeal.τ).loc Cert.KernelIdeal.main_v61)) (v3 : (c : Dev Cert.KernelIdeal.nD) → Buf (Elt Ideal) ((c.tc : Thread Cert.KernelIdeal.nD Cert.KernelIdeal.τ).loc Cert.KernelIdeal.main_v53_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_v53_1) = v1 c
          ∧ r.2.mem ((c.tc : Thread Cert.KernelIdeal.nD Cert.KernelIdeal.τ).loc Cert.KernelIdeal.main_v61) = v2 c
          ∧ r.2.mem ((c.tc : Thread Cert.KernelIdeal.nD Cert.KernelIdeal.τ).loc Cert.KernelIdeal.main_v53_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_v89) = v2 c
          ∧ r.2.mem ((c.tc : Thread Cert.ReferenceIdeal.nD Cert.ReferenceIdeal.τ).loc Cert.ReferenceIdeal.main_v88) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v16) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v5) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v5) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v6) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v6) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)
      ∧ m' ((c.tc : Thread Cert.Reference24Ideal.nD Cert.Reference24Ideal.τ).loc Cert.Reference24Ideal.main_arg5) = m ((c.tc : Thread Cert.Kernel24Ideal.nD Cert.Kernel24Ideal.τ).loc Cert.Kernel24Ideal.main_arg5)
      ∧ m' ((c.tc : Thread Cert.Reference24Ideal.nD Cert.Reference24Ideal.τ).loc Cert.Reference24Ideal.main_arg6) = m ((c.tc : Thread Cert.Kernel24Ideal.nD Cert.Kernel24Ideal.τ).loc Cert.Kernel24Ideal.main_arg6)
      ∧ m' ((c.tc : Thread Cert.Reference24Ideal.nD Cert.Reference24Ideal.τ).loc Cert.Reference24Ideal.main_arg7) = m ((c.tc : Thread Cert.Kernel24Ideal.nD Cert.Kernel24Ideal.τ).loc Cert.Kernel24Ideal.main_arg7)
      ∧ m' ((c.tc : Thread Cert.Reference24Ideal.nD Cert.Reference24Ideal.τ).loc Cert.Reference24Ideal.main_arg8) = m ((c.tc : Thread Cert.Kernel24Ideal.nD Cert.Kernel24Ideal.τ).loc Cert.Kernel24Ideal.main_arg8)
      ∧ m' ((c.tc : Thread Cert.Reference24Ideal.nD Cert.Reference24Ideal.τ).loc Cert.Reference24Ideal.main_arg9) = m ((c.tc : Thread Cert.Kernel24Ideal.nD Cert.Kernel24Ideal.τ).loc Cert.Kernel24Ideal.main_arg9)
      ∧ m' ((c.tc : Thread Cert.Reference24Ideal.nD Cert.Reference24Ideal.τ).loc Cert.Reference24Ideal.main_arg10) = m ((c.tc : Thread Cert.Kernel24Ideal.nD Cert.Kernel24Ideal.τ).loc Cert.Kernel24Ideal.main_arg10)
      ∧ m' ((c.tc : Thread Cert.Reference24Ideal.nD Cert.Reference24Ideal.τ).loc Cert.Reference24Ideal.main_arg11) = m ((c.tc : Thread Cert.Kernel24Ideal.nD Cert.Kernel24Ideal.τ).loc Cert.Kernel24Ideal.main_arg11)
      ∧ m' ((c.tc : Thread Cert.Reference24Ideal.nD Cert.Reference24Ideal.τ).loc Cert.Reference24Ideal.main_arg12) = m ((c.tc : Thread Cert.Kernel24Ideal.nD Cert.Kernel24Ideal.τ).loc Cert.Kernel24Ideal.main_arg12)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
          ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
          ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6)
          ∧ r.2.mem ((c.tc : Thread Cert.Kernel24Ideal.nD Cert.Kernel24Ideal.τ).loc Cert.Kernel24Ideal.main_arg7) = m ((c.tc : Thread Cert.Kernel24Ideal.nD Cert.Kernel24Ideal.τ).loc Cert.Kernel24Ideal.main_arg7)
          ∧ r.2.mem ((c.tc : Thread Cert.Kernel24Ideal.nD Cert.Kernel24Ideal.τ).loc Cert.Kernel24Ideal.main_arg8) = m ((c.tc : Thread Cert.Kernel24Ideal.nD Cert.Kernel24Ideal.τ).loc Cert.Kernel24Ideal.main_arg8)
          ∧ r.2.mem ((c.tc : Thread Cert.Kernel24Ideal.nD Cert.Kernel24Ideal.τ).loc Cert.Kernel24Ideal.main_arg9) = m ((c.tc : Thread Cert.Kernel24Ideal.nD Cert.Kernel24Ideal.τ).loc Cert.Kernel24Ideal.main_arg9)
          ∧ r.2.mem ((c.tc : Thread Cert.Kernel24Ideal.nD Cert.Kernel24Ideal.τ).loc Cert.Kernel24Ideal.main_arg10) = m ((c.tc : Thread Cert.Kernel24Ideal.nD Cert.Kernel24Ideal.τ).loc Cert.Kernel24Ideal.main_arg10)
          ∧ r.2.mem ((c.tc : Thread Cert.Kernel24Ideal.nD Cert.Kernel24Ideal.τ).loc Cert.Kernel24Ideal.main_arg11) = m ((c.tc : Thread Cert.Kernel24Ideal.nD Cert.Kernel24Ideal.τ).loc Cert.Kernel24Ideal.main_arg11)
          ∧ r.2.mem ((c.tc : Thread Cert.Kernel24Ideal.nD Cert.Kernel24Ideal.τ).loc Cert.Kernel24Ideal.main_arg12) = m ((c.tc : Thread Cert.Kernel24Ideal.nD Cert.Kernel24Ideal.τ).loc Cert.Kernel24Ideal.main_arg12))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v36) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4)
          ∧ r.2.mem ((c.tc : Thread Cert.Reference24Ideal.nD Cert.Reference24Ideal.τ).loc Cert.Reference24Ideal.main_arg5) = m' ((c.tc : Thread Cert.Reference24Ideal.nD Cert.Reference24Ideal.τ).loc Cert.Reference24Ideal.main_arg5)
          ∧ r.2.mem ((c.tc : Thread Cert.Reference24Ideal.nD Cert.Reference24Ideal.τ).loc Cert.Reference24Ideal.main_arg6) = m' ((c.tc : Thread Cert.Reference24Ideal.nD Cert.Reference24Ideal.τ).loc Cert.Reference24Ideal.main_arg6)
          ∧ r.2.mem ((c.tc : Thread Cert.Reference24Ideal.nD Cert.Reference24Ideal.τ).loc Cert.Reference24Ideal.main_arg7) = m' ((c.tc : Thread Cert.Reference24Ideal.nD Cert.Reference24Ideal.τ).loc Cert.Reference24Ideal.main_arg7)
          ∧ r.2.mem ((c.tc : Thread Cert.Reference24Ideal.nD Cert.Reference24Ideal.τ).loc Cert.Reference24Ideal.main_arg8) = m' ((c.tc : Thread Cert.Reference24Ideal.nD Cert.Reference24Ideal.τ).loc Cert.Reference24Ideal.main_arg8)
          ∧ r.2.mem ((c.tc : Thread Cert.Reference24Ideal.nD Cert.Reference24Ideal.τ).loc Cert.Reference24Ideal.main_arg9) = m' ((c.tc : Thread Cert.Reference24Ideal.nD Cert.Reference24Ideal.τ).loc Cert.Reference24Ideal.main_arg9)
          ∧ r.2.mem ((c.tc : Thread Cert.Reference24Ideal.nD Cert.Reference24Ideal.τ).loc Cert.Reference24Ideal.main_arg10) = m' ((c.tc : Thread Cert.Reference24Ideal.nD Cert.Reference24Ideal.τ).loc Cert.Reference24Ideal.main_arg10)
          ∧ r.2.mem ((c.tc : Thread Cert.Reference24Ideal.nD Cert.Reference24Ideal.τ).loc Cert.Reference24Ideal.main_arg11) = m' ((c.tc : Thread Cert.Reference24Ideal.nD Cert.Reference24Ideal.τ).loc Cert.Reference24Ideal.main_arg11)
          ∧ r.2.mem ((c.tc : Thread Cert.Reference24Ideal.nD Cert.Reference24Ideal.τ).loc Cert.Reference24Ideal.main_arg12) = m' ((c.tc : Thread Cert.Reference24Ideal.nD Cert.Reference24Ideal.τ).loc Cert.Reference24Ideal.main_arg12))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)) →
    ∃ (v0 : (c : Dev Cert.Kernel25Ideal.nD) → Buf (Elt Ideal) ((c.tc : Thread Cert.Kernel25Ideal.nD Cert.Kernel25Ideal.τ).loc Cert.Kernel25Ideal.main_v3_0)) (v1 : (c : Dev Cert.Kernel25Ideal.nD) → Buf (Elt Ideal) ((c.tc : Thread Cert.Kernel25Ideal.nD Cert.Kernel25Ideal.τ).loc Cert.Kernel25Ideal.main_v3_1)) (v2 : (c : Dev Cert.Kernel25Ideal.nD) → Buf (Elt Ideal) ((c.tc : Thread Cert.Kernel25Ideal.nD Cert.Kernel25Ideal.τ).loc Cert.Kernel25Ideal.main_v3_2)) (v3 : (c : Dev Cert.Kernel25Ideal.nD) → Buf (Elt Ideal) ((c.tc : Thread Cert.Kernel25Ideal.nD Cert.Kernel25Ideal.τ).loc Cert.Kernel25Ideal.main_v3_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v3_0) = v0 c
          ∧ r.2.mem ((c.tc : Thread Cert.Kernel25Ideal.nD Cert.Kernel25Ideal.τ).loc Cert.Kernel25Ideal.main_v3_1) = v1 c
          ∧ r.2.mem ((c.tc : Thread Cert.Kernel25Ideal.nD Cert.Kernel25Ideal.τ).loc Cert.Kernel25Ideal.main_v3_2) = v2 c
          ∧ r.2.mem ((c.tc : Thread Cert.Kernel25Ideal.nD Cert.Kernel25Ideal.τ).loc Cert.Kernel25Ideal.main_v3_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v29) = v0 c
          ∧ r.2.mem ((c.tc : Thread Cert.Reference25Ideal.nD Cert.Reference25Ideal.τ).loc Cert.Reference25Ideal.main_v30) = v1 c
          ∧ r.2.mem ((c.tc : Thread Cert.Reference25Ideal.nD Cert.Reference25Ideal.τ).loc Cert.Reference25Ideal.main_v31) = v2 c
          ∧ r.2.mem ((c.tc : Thread Cert.Reference25Ideal.nD Cert.Reference25Ideal.τ).loc Cert.Reference25Ideal.main_v32) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v41) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v52) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal_pre_finite28 [hKernel28Ideal : Cert.Kernel28Ideal.Facts] [hReference28Ideal : Cert.Reference28Ideal.Facts] [hPre_finite28 : Cert.Pre_finite28.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal_finite28 m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v4_0)) (v1 : (c : Dev Cert.Kernel28Ideal.nD) → Buf (Elt Ideal) ((c.tc : Thread Cert.Kernel28Ideal.nD Cert.Kernel28Ideal.τ).loc Cert.Kernel28Ideal.main_v4_1)) (v2 : (c : Dev Cert.Kernel28Ideal.nD) → Buf (Elt Ideal) ((c.tc : Thread Cert.Kernel28Ideal.nD Cert.Kernel28Ideal.τ).loc Cert.Kernel28Ideal.main_v4_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v4_0) = v0 c
          ∧ r.2.mem ((c.tc : Thread Cert.Kernel28Ideal.nD Cert.Kernel28Ideal.τ).loc Cert.Kernel28Ideal.main_v4_1) = v1 c
          ∧ r.2.mem ((c.tc : Thread Cert.Kernel28Ideal.nD Cert.Kernel28Ideal.τ).loc Cert.Kernel28Ideal.main_v4_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v47) = v0 c
          ∧ r.2.mem ((c.tc : Thread Cert.Reference28Ideal.nD Cert.Reference28Ideal.τ).loc Cert.Reference28Ideal.main_v48) = v1 c
          ∧ r.2.mem ((c.tc : Thread Cert.Reference28Ideal.nD Cert.Reference28Ideal.τ).loc Cert.Reference28Ideal.main_v49) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)) →
    ∃ (v0 : (c : Dev Cert.Kernel29Ideal.nD) → Buf (Elt Ideal) ((c.tc : Thread Cert.Kernel29Ideal.nD Cert.Kernel29Ideal.τ).loc Cert.Kernel29Ideal.main_v3_0)) (v1 : (c : Dev Cert.Kernel29Ideal.nD) → Buf (Elt Ideal) ((c.tc : Thread Cert.Kernel29Ideal.nD Cert.Kernel29Ideal.τ).loc Cert.Kernel29Ideal.main_v3_1)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v3_0) = v0 c
          ∧ r.2.mem ((c.tc : Thread Cert.Kernel29Ideal.nD Cert.Kernel29Ideal.τ).loc Cert.Kernel29Ideal.main_v3_1) = v1 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v37) = v0 c
          ∧ r.2.mem ((c.tc : Thread Cert.Reference29Ideal.nD Cert.Reference29Ideal.τ).loc Cert.Reference29Ideal.main_v38) = v1 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)) →
    ∃ (v0 : (c : Dev Cert.Kernel30Ideal.nD) → Buf (Elt Ideal) ((c.tc : Thread Cert.Kernel30Ideal.nD Cert.Kernel30Ideal.τ).loc Cert.Kernel30Ideal.main_v4_0)) (v1 : (c : Dev Cert.Kernel30Ideal.nD) → Buf (Elt Ideal) ((c.tc : Thread Cert.Kernel30Ideal.nD Cert.Kernel30Ideal.τ).loc Cert.Kernel30Ideal.main_v4_1)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v4_0) = v0 c
          ∧ r.2.mem ((c.tc : Thread Cert.Kernel30Ideal.nD Cert.Kernel30Ideal.τ).loc Cert.Kernel30Ideal.main_v4_1) = v1 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v37) = v0 c
          ∧ r.2.mem ((c.tc : Thread Cert.Reference30Ideal.nD Cert.Reference30Ideal.τ).loc Cert.Reference30Ideal.main_v38) = v1 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2))

def preserves_Kernel31_Kernel31Ideal : Prop :=
  True

def algebraic_Kernel31Ideal_Reference31Ideal_pre_finite31 [hKernel31Ideal : Cert.Kernel31Ideal.Facts] [hReference31Ideal : Cert.Reference31Ideal.Facts] [hPre_finite31 : Cert.Pre_finite31.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal_finite31 m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)) →
    ∃ (v0 : (c : Dev Cert.Kernel31Ideal.nD) → Buf (Elt Ideal) ((c.tc : Thread Cert.Kernel31Ideal.nD Cert.Kernel31Ideal.τ).loc Cert.Kernel31Ideal.main_v1_0)) (v1 : (c : Dev Cert.Kernel31Ideal.nD) → Buf (Elt Ideal) ((c.tc : Thread Cert.Kernel31Ideal.nD Cert.Kernel31Ideal.τ).loc Cert.Kernel31Ideal.main_v1_1)) (v2 : (c : Dev Cert.Kernel31Ideal.nD) → Buf (Elt Ideal) ((c.tc : Thread Cert.Kernel31Ideal.nD Cert.Kernel31Ideal.τ).loc Cert.Kernel31Ideal.main_v1_2)) (v3 : (c : Dev Cert.Kernel31Ideal.nD) → Buf (Elt Ideal) ((c.tc : Thread Cert.Kernel31Ideal.nD Cert.Kernel31Ideal.τ).loc Cert.Kernel31Ideal.main_v1_3)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v1_0) = v0 c
          ∧ r.2.mem ((c.tc : Thread Cert.Kernel31Ideal.nD Cert.Kernel31Ideal.τ).loc Cert.Kernel31Ideal.main_v1_1) = v1 c
          ∧ r.2.mem ((c.tc : Thread Cert.Kernel31Ideal.nD Cert.Kernel31Ideal.τ).loc Cert.Kernel31Ideal.main_v1_2) = v2 c
          ∧ r.2.mem ((c.tc : Thread Cert.Kernel31Ideal.nD Cert.Kernel31Ideal.τ).loc Cert.Kernel31Ideal.main_v1_3) = v3 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v68) = v0 c
          ∧ r.2.mem ((c.tc : Thread Cert.Reference31Ideal.nD Cert.Reference31Ideal.τ).loc Cert.Reference31Ideal.main_v69) = v1 c
          ∧ r.2.mem ((c.tc : Thread Cert.Reference31Ideal.nD Cert.Reference31Ideal.τ).loc Cert.Reference31Ideal.main_v70) = v2 c
          ∧ r.2.mem ((c.tc : Thread Cert.Reference31Ideal.nD Cert.Reference31Ideal.τ).loc Cert.Reference31Ideal.main_v71) = v3 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2))

def preserves_Kernel32_Kernel32Ideal : Prop :=
  True

def algebraic_Kernel32Ideal_Reference32Ideal_pre_finite32 [hKernel32Ideal : Cert.Kernel32Ideal.Facts] [hReference32Ideal : Cert.Reference32Ideal.Facts] [hPre_finite32 : Cert.Pre_finite32.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal_finite32 m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)
      ∧ m' ((c.tc : Thread Cert.Reference32Ideal.nD Cert.Reference32Ideal.τ).loc Cert.Reference32Ideal.main_arg4) = m ((c.tc : Thread Cert.Kernel32Ideal.nD Cert.Kernel32Ideal.τ).loc Cert.Kernel32Ideal.main_arg4)
      ∧ m' ((c.tc : Thread Cert.Reference32Ideal.nD Cert.Reference32Ideal.τ).loc Cert.Reference32Ideal.main_arg5) = m ((c.tc : Thread Cert.Kernel32Ideal.nD Cert.Kernel32Ideal.τ).loc Cert.Kernel32Ideal.main_arg5)
      ∧ m' ((c.tc : Thread Cert.Reference32Ideal.nD Cert.Reference32Ideal.τ).loc Cert.Reference32Ideal.main_arg6) = m ((c.tc : Thread Cert.Kernel32Ideal.nD Cert.Kernel32Ideal.τ).loc Cert.Kernel32Ideal.main_arg6)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)) (v3 : (c : Dev Cert.Kernel32Ideal.nD) → Buf (Elt Ideal) ((c.tc : Thread Cert.Kernel32Ideal.nD Cert.Kernel32Ideal.τ).loc Cert.Kernel32Ideal.main_v0_3)) (v4 : (c : Dev Cert.Kernel32Ideal.nD) → Buf (Elt Ideal) ((c.tc : Thread Cert.Kernel32Ideal.nD Cert.Kernel32Ideal.τ).loc Cert.Kernel32Ideal.main_v0_4)) (v5 : (c : Dev Cert.Kernel32Ideal.nD) → Buf (Elt Ideal) ((c.tc : Thread Cert.Kernel32Ideal.nD Cert.Kernel32Ideal.τ).loc Cert.Kernel32Ideal.main_v0_5)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_v0_3) = v3 c
          ∧ r.2.mem ((c.tc : Thread Cert.Kernel32Ideal.nD Cert.Kernel32Ideal.τ).loc Cert.Kernel32Ideal.main_v0_4) = v4 c
          ∧ r.2.mem ((c.tc : Thread Cert.Kernel32Ideal.nD Cert.Kernel32Ideal.τ).loc Cert.Kernel32Ideal.main_v0_5) = v5 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
          ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4)
          ∧ r.2.mem ((c.tc : Thread Cert.Kernel32Ideal.nD Cert.Kernel32Ideal.τ).loc Cert.Kernel32Ideal.main_arg5) = m ((c.tc : Thread Cert.Kernel32Ideal.nD Cert.Kernel32Ideal.τ).loc Cert.Kernel32Ideal.main_arg5)
          ∧ r.2.mem ((c.tc : Thread Cert.Kernel32Ideal.nD Cert.Kernel32Ideal.τ).loc Cert.Kernel32Ideal.main_arg6) = m ((c.tc : Thread Cert.Kernel32Ideal.nD Cert.Kernel32Ideal.τ).loc Cert.Kernel32Ideal.main_arg6))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v56) = v0 c
          ∧ r.2.mem ((c.tc : Thread Cert.Reference32Ideal.nD Cert.Reference32Ideal.τ).loc Cert.Reference32Ideal.main_v54) = v1 c
          ∧ r.2.mem ((c.tc : Thread Cert.Reference32Ideal.nD Cert.Reference32Ideal.τ).loc Cert.Reference32Ideal.main_v100) = v2 c
          ∧ r.2.mem ((c.tc : Thread Cert.Reference32Ideal.nD Cert.Reference32Ideal.τ).loc Cert.Reference32Ideal.main_v78) = v3 c
          ∧ r.2.mem ((c.tc : Thread Cert.Reference32Ideal.nD Cert.Reference32Ideal.τ).loc Cert.Reference32Ideal.main_v80) = v4 c
          ∧ r.2.mem ((c.tc : Thread Cert.Reference32Ideal.nD Cert.Reference32Ideal.τ).loc Cert.Reference32Ideal.main_v58) = v5 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3)
          ∧ r.2.mem ((c.tc : Thread Cert.Reference32Ideal.nD Cert.Reference32Ideal.τ).loc Cert.Reference32Ideal.main_arg4) = m' ((c.tc : Thread Cert.Reference32Ideal.nD Cert.Reference32Ideal.τ).loc Cert.Reference32Ideal.main_arg4)
          ∧ r.2.mem ((c.tc : Thread Cert.Reference32Ideal.nD Cert.Reference32Ideal.τ).loc Cert.Reference32Ideal.main_arg5) = m' ((c.tc : Thread Cert.Reference32Ideal.nD Cert.Reference32Ideal.τ).loc Cert.Reference32Ideal.main_arg5)
          ∧ r.2.mem ((c.tc : Thread Cert.Reference32Ideal.nD Cert.Reference32Ideal.τ).loc Cert.Reference32Ideal.main_arg6) = m' ((c.tc : Thread Cert.Reference32Ideal.nD Cert.Reference32Ideal.τ).loc Cert.Reference32Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hPre_finite : Cert.Pre_finite.Facts) (hPre_finite28 : Cert.Pre_finite28.Facts) (hPre_finite31 : Cert.Pre_finite31.Facts) (hPre_finite32 : Cert.Pre_finite32.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Kernel28Ideal_pre_finite28 (hKernel28Ideal := hKernel28Ideal) (hPre_finite28 := hPre_finite28)
    ∧ quiescent_Reference28Ideal (hReference28Ideal := hReference28Ideal)
    ∧ quiescent_Reference28Ideal_pre_finite28 (hReference28Ideal := hReference28Ideal) (hPre_finite28 := hPre_finite28)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Kernel31Ideal_pre_finite31 (hKernel31Ideal := hKernel31Ideal) (hPre_finite31 := hPre_finite31)
    ∧ quiescent_Reference31Ideal (hReference31Ideal := hReference31Ideal)
    ∧ quiescent_Reference31Ideal_pre_finite31 (hReference31Ideal := hReference31Ideal) (hPre_finite31 := hPre_finite31)
    ∧ quiescent_Kernel32 (hKernel32 := hKernel32)
    ∧ quiescent_Kernel32Ideal (hKernel32Ideal := hKernel32Ideal)
    ∧ quiescent_Kernel32Ideal_pre_finite32 (hKernel32Ideal := hKernel32Ideal) (hPre_finite32 := hPre_finite32)
    ∧ quiescent_Reference32Ideal (hReference32Ideal := hReference32Ideal)
    ∧ quiescent_Reference32Ideal_pre_finite32 (hReference32Ideal := hReference32Ideal) (hPre_finite32 := hPre_finite32)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal_pre_finite28 (hKernel28Ideal := hKernel28Ideal) (hReference28Ideal := hReference28Ideal) (hPre_finite28 := hPre_finite28)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal_pre_finite31 (hKernel31Ideal := hKernel31Ideal) (hReference31Ideal := hReference31Ideal) (hPre_finite31 := hPre_finite31)
    ∧ preserves_Kernel32_Kernel32Ideal
    ∧ algebraic_Kernel32Ideal_Reference32Ideal_pre_finite32 (hKernel32Ideal := hKernel32Ideal) (hReference32Ideal := hReference32Ideal) (hPre_finite32 := hPre_finite32)
-- ==== Pre_finite.lean ====
abbrev S8320x8x192 : Shape := ⟨3, ![8320, 8, 192]⟩
abbrev S8320x2048 : Shape := ⟨2, ![8320, 2048]⟩
abbrev S8320x64 : Shape := ⟨2, ![8320, 64]⟩
abbrev S8320x1024 : Shape := ⟨2, ![8320, 1024]⟩
abbrev S_ : Shape := ⟨0, ![]⟩

class Facts : Prop where
  bitsLt_bf16_f32 : FTy.bits .bf16 < FTy.bits .f32
  bcast_S_S8320x8x192 : S_.BroadcastsInDim S8320x8x192 (![] : Fin 0 → Fin S8320x8x192.rank)
  bcast_S_S8320x2048 : S_.BroadcastsInDim S8320x2048 (![] : Fin 0 → Fin S8320x2048.rank)
  bcast_S_S8320x64 : S_.BroadcastsInDim S8320x64 (![] : Fin 0 → Fin S8320x64.rank)
  bcast_S_S8320x1024 : S_.BroadcastsInDim S8320x1024 (![] : Fin 0 → Fin S8320x1024.rank)

variable [Facts]

def fn {F : FTy → Type} [FloatOps F] (main_arg0 : FVec F S8320x8x192 .bf16) (main_arg1 : FVec F S8320x2048 .bf16) (main_arg2 : FVec F S8320x64 .bf16) (main_arg3 : FVec F S8320x1024 .bf16) : IVec S8320x8x192 1 × IVec S8320x2048 1 × IVec S8320x64 1 × IVec S8320x1024 1 :=
  let main_v0 : FVec F S8320x8x192 .f32 := (extf .f32 · bitsLt_bf16_f32) main_arg0
  let main_v1 : FVec F S8320x8x192 .f32 := Host.absf main_v0
  let main_cst : FVec F S_ .f32 := constant S_ .f32 0x7F800000#32
  let main_v2 : FVec F S8320x8x192 .f32 := broadcastInDim S8320x8x192 ![] bcast_S_S8320x8x192 main_cst
  let main_v3 : IVec S8320x8x192 1 := cmpf .olt main_v1 main_v2
  let main_v4 : FVec F S8320x2048 .f32 := (extf .f32 · bitsLt_bf16_f32) main_arg1
  let main_v5 : FVec F S8320x2048 .f32 := Host.absf main_v4
  let main_cst_0 : FVec F S_ .f32 := constant S_ .f32 0x7F800000#32
  let main_v6 : FVec F S8320x2048 .f32 := broadcastInDim S8320x2048 ![] bcast_S_S8320x2048 main_cst_0
  let main_v7 : IVec S8320x2048 1 := cmpf .olt main_v5 main_v6
  let main_v8 : FVec F S8320x64 .f32 := (extf .f32 · bitsLt_bf16_f32) main_arg2
  let main_v9 : FVec F S8320x64 .f32 := Host.absf main_v8
  let main_cst_1 : FVec F S_ .f32 := constant S_ .f32 0x7F800000#32
  let main_v10 : FVec F S8320x64 .f32 := broadcastInDim S8320x64 ![] bcast_S_S8320x64 main_cst_1
  let main_v11 : IVec S8320x64 1 := cmpf .olt main_v9 main_v10
  let main_v12 : FVec F S8320x1024 .f32 := (extf .f32 · bitsLt_bf16_f32) main_arg3
  let main_v13 : FVec F S8320x1024 .f32 := Host.absf main_v12
  let main_cst_2 : FVec F S_ .f32 := constant S_ .f32 0x7F800000#32
  let main_v14 : FVec F S8320x1024 .f32 := broadcastInDim S8320x1024 ![] bcast_S_S8320x1024 main_cst_2
  let main_v15 : IVec S8320x1024 1 := cmpf .olt main_v13 main_v14
  (main_v3, main_v7, main_v11, main_v15)
-- ==== Pre_finite28.lean ====
abbrev S8320x2048 : Shape := ⟨2, ![8320, 2048]⟩
abbrev S2048 : Shape := ⟨1, ![2048]⟩
abbrev S_ : Shape := ⟨0, ![]⟩

class Facts : Prop where
  bitsLt_bf16_f32 : FTy.bits .bf16 < FTy.bits .f32
  bcast_S_S8320x2048 : S_.BroadcastsInDim S8320x2048 (![] : Fin 0 → Fin S8320x2048.rank)
  bcast_S_S2048 : S_.BroadcastsInDim S2048 (![] : Fin 0 → Fin S2048.rank)

variable [Facts]

def fn {F : FTy → Type} [FloatOps F] (main_arg0 : FVec F S8320x2048 .bf16) (main_arg1 : FVec F S8320x2048 .f32) (main_arg2 : FVec F S8320x2048 .f32) (main_arg3 : FVec F S2048 .f32) : IVec S8320x2048 1 × IVec S8320x2048 1 × IVec S8320x2048 1 × IVec S2048 1 :=
  let main_v0 : FVec F S8320x2048 .f32 := (extf .f32 · bitsLt_bf16_f32) main_arg0
  let main_v1 : FVec F S8320x2048 .f32 := Host.absf main_v0
  let main_cst : FVec F S_ .f32 := constant S_ .f32 0x7F800000#32
  let main_v2 : FVec F S8320x2048 .f32 := broadcastInDim S8320x2048 ![] bcast_S_S8320x2048 main_cst
  let main_v3 : IVec S8320x2048 1 := cmpf .olt main_v1 main_v2
  let main_v4 : FVec F S8320x2048 .f32 := Host.absf main_arg1
  let main_cst_0 : FVec F S_ .f32 := constant S_ .f32 0x7F800000#32
  let main_v5 : FVec F S8320x2048 .f32 := broadcastInDim S8320x2048 ![] bcast_S_S8320x2048 main_cst_0
  let main_v6 : IVec S8320x2048 1 := cmpf .olt main_v4 main_v5
  let main_v7 : FVec F S8320x2048 .f32 := Host.absf main_arg2
  let main_cst_1 : FVec F S_ .f32 := constant S_ .f32 0x7F800000#32
  let main_v8 : FVec F S8320x2048 .f32 := broadcastInDim S8320x2048 ![] bcast_S_S8320x2048 main_cst_1
  let main_v9 : IVec S8320x2048 1 := cmpf .olt main_v7 main_v8
  let main_v10 : FVec F S2048 .f32 := Host.absf main_arg3
  let main_cst_2 : FVec F S_ .f32 := constant S_ .f32 0x7F800000#32
  let main_v11 : FVec F S2048 .f32 := broadcastInDim S2048 ![] bcast_S_S2048 main_cst_2
  let main_v12 : IVec S2048 1 := cmpf .olt main_v10 main_v11
  (main_v3, main_v6, main_v9, main_v12)
-- ==== Pre_finite31.lean ====
abbrev S8320x1024 : Shape := ⟨2, ![8320, 1024]⟩
abbrev S1024 : Shape := ⟨1, ![1024]⟩
abbrev S_ : Shape := ⟨0, ![]⟩

class Facts : Prop where
  bcast_S_S8320x1024 : S_.BroadcastsInDim S8320x1024 (![] : Fin 0 → Fin S8320x1024.rank)
  bcast_S_S1024 : S_.BroadcastsInDim S1024 (![] : Fin 0 → Fin S1024.rank)

variable [Facts]

def fn {F : FTy → Type} [FloatOps F] (main_arg0 : FVec F S8320x1024 .f32) (main_arg1 : FVec F S8320x1024 .f32) (main_arg2 : FVec F S1024 .f32) : IVec S8320x1024 1 × IVec S8320x1024 1 × IVec S1024 1 :=
  let main_v0 : FVec F S8320x1024 .f32 := Host.absf main_arg0
  let main_cst : FVec F S_ .f32 := constant S_ .f32 0x7F800000#32
  let main_v1 : FVec F S8320x1024 .f32 := broadcastInDim S8320x1024 ![] bcast_S_S8320x1024 main_cst
  let main_v2 : IVec S8320x1024 1 := cmpf .olt main_v0 main_v1
  let main_v3 : FVec F S8320x1024 .f32 := Host.absf main_arg1
  let main_cst_0 : FVec F S_ .f32 := constant S_ .f32 0x7F800000#32
  let main_v4 : FVec F S8320x1024 .f32 := broadcastInDim S8320x1024 ![] bcast_S_S8320x1024 main_cst_0
  let main_v5 : IVec S8320x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  (main_v2, main_v5, main_v8)
-- ==== Pre_finite32.lean ====
abbrev S8320x2816 : Shape := ⟨2, ![8320, 2816]⟩
abbrev S3x2816 : Shape := ⟨2, ![3, 2816]⟩
abbrev S1x2816 : Shape := ⟨2, ![1, 2816]⟩
abbrev S_ : Shape := ⟨0, ![]⟩

class Facts : Prop where
  bcast_S_S8320x2816 : S_.BroadcastsInDim S8320x2816 (![] : Fin 0 → Fin S8320x2816.rank)
  bcast_S_S3x2816 : S_.BroadcastsInDim S3x2816 (![] : Fin 0 → Fin S3x2816.rank)
  bcast_S_S1x2816 : S_.BroadcastsInDim S1x2816 (![] : Fin 0 → Fin S1x2816.rank)

variable [Facts]

def fn_part1 {F : FTy → Type} [FloatOps F] (main_arg6 : FVec F S1x2816 .f32) (main_v2 : IVec S8320x2816 1) (main_v5 : IVec S8320x2816 1) (main_v8 : IVec S8320x2816 1) (main_v11 : IVec S3x2816 1) (main_v14 : IVec S3x2816 1) (main_v17 : IVec S1x2816 1) : IVec S8320x2816 1 × IVec S8320x2816 1 × IVec S8320x2816 1 × IVec S3x2816 1 × IVec S3x2816 1 × IVec S1x2816 1 × IVec S1x2816 1 :=
  let main_v18 : FVec F S1x2816 .f32 := Host.absf main_arg6
  let main_cst_5 : FVec F S_ .f32 := constant S_ .f32 0x7F800000#32
  let main_v19 : FVec F S1x2816 .f32 := broadcastInDim S1x2816 ![] bcast_S_S1x2816 main_cst_5
  let main_v20 : IVec S1x2816 1 := cmpf .olt main_v18 main_v19
  (main_v2, main_v5, main_v8, main_v11, main_v14, main_v17, main_v20)

def fn {F : FTy → Type} [FloatOps F] (main_arg0 : FVec F S8320x2816 .f32) (main_arg1 : FVec F S8320x2816 .f32) (main_arg2 : FVec F S8320x2816 .f32) (main_arg3 : FVec F S3x2816 .f32) (main_arg4 : FVec F S3x2816 .f32) (main_arg5 : FVec F S1x2816 .f32) (main_arg6 : FVec F S1x2816 .f32) : IVec S8320x2816 1 × IVec S8320x2816 1 × IVec S8320x2816 1 × IVec S3x2816 1 × IVec S3x2816 1 × IVec S1x2816 1 × IVec S1x2816 1 :=
  let main_v0 : FVec F S8320x2816 .f32 := Host.absf main_arg0
  let main_cst : FVec F S_ .f32 := constant S_ .f32 0x7F800000#32
  let main_v1 : FVec F S8320x2816 .f32 := broadcastInDim S8320x2816 ![] bcast_S_S8320x2816 main_cst
  let main_v2 : IVec S8320x2816 1 := cmpf .olt main_v0 main_v1
  let main_v3 : FVec F S8320x2816 .f32 := Host.absf main_arg1
  let main_cst_0 : FVec F S_ .f32 := constant S_ .f32 0x7F800000#32
  let main_v4 : FVec F S8320x2816 .f32 := broadcastInDim S8320x2816 ![] bcast_S_S8320x2816 main_cst_0
  let main_v5 : IVec S8320x2816 1 := cmpf .olt main_v3 main_v4
  let main_v6 : FVec F S8320x2816 .f32 := Host.absf main_arg2
  let main_cst_1 : FVec F S_ .f32 := constant S_ .f32 0x7F800000#32
  let main_v7 : FVec F S8320x2816 .f32 := broadcastInDim S8320x2816 ![] bcast_S_S8320x2816 main_cst_1
  let main_v8 : IVec S8320x2816 1 := cmpf .olt main_v6 main_v7
  let main_v9 : FVec F S3x2816 .f32 := Host.absf main_arg3
  let main_cst_2 : FVec F S_ .f32 := constant S_ .f32 0x7F800000#32
  let main_v10 : FVec F S3x2816 .f32 := broadcastInDim S3x2816 ![] bcast_S_S3x2816 main_cst_2
  let main_v11 : IVec S3x2816 1 := cmpf .olt main_v9 main_v10
  let main_v12 : FVec F S3x2816 .f32 := Host.absf main_arg4
  let main_cst_3 : FVec F S_ .f32 := constant S_ .f32 0x7F800000#32
  let main_v13 : FVec F S3x2816 .f32 := broadcastInDim S3x2816 ![] bcast_S_S3x2816 main_cst_3
  let main_v14 : IVec S3x2816 1 := cmpf .olt main_v12 main_v13
  let main_v15 : FVec F S1x2816 .f32 := Host.absf main_arg5
  let main_cst_4 : FVec F S_ .f32 := constant S_ .f32 0x7F800000#32
  let main_v16 : FVec F S1x2816 .f32 := broadcastInDim S1x2816 ![] bcast_S_S1x2816 main_cst_4
  let main_v17 : IVec S1x2816 1 := cmpf .olt main_v15 main_v16
  fn_part1 (F := F) main_arg6 main_v2 main_v5 main_v8 main_v11 main_v14 main_v17
-- ==== Kernel.lean ====
abbrev S8320x8x192 : Shape := ⟨3, ![8320, 8, 192]⟩
abbrev S8320x2048 : Shape := ⟨2, ![8320, 2048]⟩
abbrev S8320x64 : Shape := ⟨2, ![8320, 64]⟩
abbrev S8320x1024 : Shape := ⟨2, ![8320, 1024]⟩
abbrev S_ : Shape := ⟨0, ![]⟩
abbrev S8320x8x128 : Shape := ⟨3, ![8320, 8, 128]⟩
abbrev S8x8320x8320 : Shape := ⟨3, ![8, 8320, 8320]⟩
abbrev S8320x8x64 : Shape := ⟨3, ![8320, 8, 64]⟩
abbrev S8320x8320x8 : Shape := ⟨3, ![8320, 8320, 8]⟩
abbrev S8320 : Shape := ⟨1, ![8320]⟩
abbrev S1x8320 : Shape := ⟨2, ![1, 8320]⟩
abbrev S8320x1 : Shape := ⟨2, ![8320, 1]⟩
abbrev S8320x8320 : Shape := ⟨2, ![8320, 8320]⟩
abbrev S8x8320 : Shape := ⟨2, ![8, 8320]⟩
abbrev S8x8320x1 : Shape := ⟨3, ![8, 8320, 1]⟩
abbrev S8x128x8320 : Shape := ⟨3, ![8, 128, 8320]⟩
abbrev S8320x8 : Shape := ⟨2, ![8320, 8]⟩
abbrev S8320x8x256 : Shape := ⟨3, ![8320, 8, 256]⟩
abbrev S8320x128 : Shape := ⟨2, ![8320, 128]⟩
abbrev S8x13x640 : Shape := ⟨3, ![8, 13, 640]⟩
abbrev S8x8320x128 : Shape := ⟨3, ![8, 8320, 128]⟩
abbrev S8320x256 : Shape := ⟨2, ![8320, 256]⟩
abbrev S1x13x640 : Shape := ⟨3, ![1, 13, 640]⟩
abbrev S640x128 : Shape := ⟨2, ![640, 128]⟩
abbrev S1x640x128 : Shape := ⟨3, ![1, 640, 128]⟩
abbrev S640x256 : Shape := ⟨2, ![640, 256]⟩
abbrev S640x640 : Shape := ⟨2, ![640, 640]⟩
abbrev S1x1x640 : Shape := ⟨3, ![1, 1, 640]⟩
abbrev S1x640 : Shape := ⟨2, ![1, 640]⟩

abbrev nBuf : Space → Nat
  | .hbm => 85
  | .vmem => 22
  | .smem => 0
  | _ => 0

abbrev bufTy : (tb : Table) → Fin (tcTables nBuf tb) → BufTy
  | .hbm, ⟨0, _⟩ => ⟨S8320x8x192, .bf16⟩
  | .hbm, ⟨1, _⟩ => ⟨S8320x2048, .bf16⟩
  | .hbm, ⟨2, _⟩ => ⟨S8320x64, .bf16⟩
  | .hbm, ⟨3, _⟩ => ⟨S8320x1024, .bf16⟩
  | .hbm, ⟨4, _⟩ => ⟨S_, .f32⟩
  | .hbm, ⟨5, _⟩ => ⟨S_, .f32⟩
  | .hbm, ⟨6, _⟩ => ⟨S8320x8x192, .f32⟩
  | .hbm, ⟨7, _⟩ => ⟨S8320x64, .f32⟩
  | .hbm, ⟨8, _⟩ => ⟨S8320x1024, .bf16⟩
  | .hbm, ⟨9, _⟩ => ⟨S8320x1024, .f32⟩
  | .hbm, ⟨10, _⟩ => ⟨S8320x8x128, .f32⟩
  | .hbm, ⟨11, _⟩ => ⟨S8320x1024, .bf16⟩
  | .hbm, ⟨12, _⟩ => ⟨S8320x1024, .f32⟩
  | .hbm, ⟨13, _⟩ => ⟨S8320x8x128, .f32⟩
  | .hbm, ⟨14, _⟩ => ⟨S8320x1024, .f32⟩
  | .hbm, ⟨15, _⟩ => ⟨S8320x8x128, .f32⟩
  | .hbm, ⟨16, _⟩ => ⟨S8320x8x128, .f32⟩
  | .hbm, ⟨17, _⟩ => ⟨S8x8320x8320, .f32⟩
  | .hbm, ⟨18, _⟩ => ⟨S8320x8x64, .f32⟩
  | .hbm, ⟨19, _⟩ => ⟨S8320x8320x8, .f32⟩
  | .hbm, ⟨20, _⟩ => ⟨S8x8320x8320, .f32⟩
  | .hbm, ⟨21, _⟩ => ⟨S8x8320x8320, .f32⟩
  | .hbm, ⟨22, _⟩ => ⟨S8320, .i32⟩
  | .hbm, ⟨23, _⟩ => ⟨S1x8320, .i32⟩
  | .hbm, ⟨24, _⟩ => ⟨S8320x1, .i32⟩
  | .hbm, ⟨25, _⟩ => ⟨S8320x8320, .i32⟩
  | .hbm, ⟨26, _⟩ => ⟨S8320x8320, .i32⟩
  | .hbm, ⟨27, _⟩ => ⟨S8320x8320, .i1⟩
  | .hbm, ⟨28, _⟩ => ⟨S_, .f32⟩
  | .hbm, ⟨29, _⟩ => ⟨S8x8320x8320, .f32⟩
  | .hbm, ⟨30, _⟩ => ⟨S8x8320x8320, .f32⟩
  | .hbm, ⟨31, _⟩ => ⟨S_, .f32⟩
  | .hbm, ⟨32, _⟩ => ⟨S_, .f32⟩
  | .hbm, ⟨33, _⟩ => ⟨S8x8320x8320, .i1⟩
  | .hbm, ⟨34, _⟩ => ⟨S8x8320x8320, .f32⟩
  | .hbm, ⟨35, _⟩ => ⟨S8x8320x8320, .f32⟩
  | .hbm, ⟨36, _⟩ => ⟨S_, .f32⟩
  | .hbm, ⟨37, _⟩ => ⟨S8x8320, .f32⟩
  | .hbm, ⟨38, _⟩ => ⟨S8x8320x1, .f32⟩
  | .hbm, ⟨39, _⟩ => ⟨S8x8320x8320, .f32⟩
  | .hbm, ⟨40, _⟩ => ⟨S8x8320x8320, .f32⟩
  | .hbm, ⟨41, _⟩ => ⟨S8x8320x8320, .f32⟩
  | .hbm, ⟨42, _⟩ => ⟨S_, .f32⟩
  | .hbm, ⟨43, _⟩ => ⟨S8x8320, .f32⟩
  | .hbm, ⟨44, _⟩ => ⟨S8x8320, .f32⟩
  | .hbm, ⟨45, _⟩ => ⟨S8x8320, .f32⟩
  | .hbm, ⟨46, _⟩ => ⟨S8x8320, .f32⟩
  | .hbm, ⟨47, _⟩ => ⟨S8x8320, .f32⟩
  | .hbm, ⟨48, _⟩ => ⟨S8x8320x1, .f32⟩
  | .hbm, ⟨49, _⟩ => ⟨S8x8320x8320, .f32⟩
  | .hbm, ⟨50, _⟩ => ⟨S8x8320x8320, .f32⟩
  | .hbm, ⟨51, _⟩ => ⟨S8x128x8320, .f32⟩
  | .hbm, ⟨52, _⟩ => ⟨S8320x8x128, .f32⟩
  | .hbm, ⟨53, _⟩ => ⟨S8320x8x128, .f32⟩
  | .hbm, ⟨54, _⟩ => ⟨S_, .f32⟩
  | .hbm, ⟨55, _⟩ => ⟨S8320x8, .f32⟩
  | .hbm, ⟨56, _⟩ => ⟨S8x8320, .f32⟩
  | .hbm, ⟨57, _⟩ => ⟨S_, .f32⟩
  | .hbm, ⟨58, _⟩ => ⟨S_, .f32⟩
  | .hbm, ⟨59, _⟩ => ⟨S8320x8x192, .f32⟩
  | .hbm, ⟨60, _⟩ => ⟨S8320x8x192, .f32⟩
  | .hbm, ⟨61, _⟩ => ⟨S_, .i32⟩
  | .hbm, ⟨62, _⟩ => ⟨S_, .f32⟩
  | .hbm, ⟨63, _⟩ => ⟨S8320x8x256, .f32⟩
  | .hbm, ⟨64, _⟩ => ⟨S8320x2048, .f32⟩
  | .hbm, ⟨65, _⟩ => ⟨S8320x2048, .bf16⟩
  | .hbm, ⟨66, _⟩ => ⟨S_, .i32⟩
  | .hbm, ⟨67, _⟩ => ⟨S_, .bf16⟩
  | .hbm, ⟨68, _⟩ => ⟨S8320x128, .bf16⟩
  | .hbm, ⟨69, _⟩ => ⟨S8x13x640, .f32⟩
  | .hbm, ⟨70, _⟩ => ⟨S8x13x640, .f32⟩
  | .hbm, ⟨71, _⟩ => ⟨S8320x2048, .f32⟩
  | .hbm, ⟨72, _⟩ => ⟨S8320x1024, .bf16⟩
  | .hbm, ⟨73, _⟩ => ⟨S8x8320x128, .f32⟩
  | .hbm, ⟨74, _⟩ => ⟨S8320x1024, .bf16⟩
  | .hbm, ⟨75, _⟩ => ⟨S8320x8x256, .f32⟩
  | .hbm, ⟨76, _⟩ => ⟨S8320x8x192, .f32⟩
  | .hbm, ⟨77, _⟩ => ⟨S_, .f32⟩
  | .hbm, ⟨78, _⟩ => ⟨S8320x8x192, .f32⟩
  | .hbm, ⟨79, _⟩ => ⟨S8320x8x192, .f32⟩
  | .hbm, ⟨80, _⟩ => ⟨S_, .f32⟩
  | .hbm, ⟨81, _⟩ => ⟨S8320x128, .f32⟩
  | .hbm, ⟨82, _⟩ => ⟨S8320x64, .f32⟩
  | .hbm, ⟨83, _⟩ => ⟨S8320x8x192, .bf16⟩
  | .hbm, ⟨84, _⟩ => ⟨S8320x64, .bf16⟩
  | .local _ .vmem, ⟨0, _⟩ => ⟨S8320x256, .bf16⟩
  | .local _ .vmem, ⟨1, _⟩ => ⟨S8320x256, .bf16⟩
  | .local _ .vmem, ⟨2, _⟩ => ⟨S8320x128, .bf16⟩
  | .local _ .vmem, ⟨3, _⟩ => ⟨S8320x128, .bf16⟩
  | .local _ .vmem, ⟨4, _⟩ => ⟨S1x13x640, .f32⟩
  | .local _ .vmem, ⟨5, _⟩ => ⟨S1x13x640, .f32⟩
  | .local _ .vmem, ⟨6, _⟩ => ⟨S1x13x640, .f32⟩
  | .local _ .vmem, ⟨7, _⟩ => ⟨S1x13x640, .f32⟩
  | .local _ .vmem, ⟨8, _⟩ => ⟨S640x128, .bf16⟩
  | .local _ .vmem, ⟨9, _⟩ => ⟨S640x128, .bf16⟩
  | .local _ .vmem, ⟨10, _⟩ => ⟨S640x128, .bf16⟩
  | .local _ .vmem, ⟨11, _⟩ => ⟨S640x128, .bf16⟩
  | .local _ .vmem, ⟨12, _⟩ => ⟨S640x128, .bf16⟩
  | .local _ .vmem, ⟨13, _⟩ => ⟨S640x128, .bf16⟩
  | .local _ .vmem, ⟨14, _⟩ => ⟨S8320x256, .f32⟩
  | .local _ .vmem, ⟨15, _⟩ => ⟨S8320x256, .f32⟩
  | .local _ .vmem, ⟨16, _⟩ => ⟨S640x128, .bf16⟩
  | .local _ .vmem, ⟨17, _⟩ => ⟨S640x128, .bf16⟩
  | .local _ .vmem, ⟨18, _⟩ => ⟨S1x640x128, .f32⟩
  | .local _ .vmem, ⟨19, _⟩ => ⟨S1x640x128, .f32⟩
  | .local _ .vmem, ⟨20, _⟩ => ⟨S640x128, .bf16⟩
  | .local _ .vmem, ⟨21, _⟩ => ⟨S640x128, .bf16⟩
  | _, _ => ⟨S8320x8x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_v23 : Ref sig .tc := ⟨.hbm, 29, rfl⟩
abbrev main_v24 : Ref sig .tc := ⟨.hbm, 30, rfl⟩
abbrev main_cst_1 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_4 : Ref sig .tc := ⟨.hbm, 54, rfl⟩
abbrev main_v42 : Ref sig .tc := ⟨.hbm, 55, rfl⟩
abbrev main_v43 : Ref sig .tc := ⟨.hbm, 56, rfl⟩
abbrev main_cst_5 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c : Ref sig .tc := ⟨.hbm, 61, rfl⟩
abbrev main_call1_v0 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_c_6 : Ref sig .tc := ⟨.hbm, 66, rfl⟩
abbrev main_call2_v0 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53_0 : Ref sig .tc := ⟨.hbm, 71, rfl⟩
abbrev main_v53_1 : Ref sig .tc := ⟨.hbm, 72, rfl⟩
abbrev main_v53_2 : Ref sig .tc := ⟨.hbm, 73, rfl⟩
abbrev main_v53_3 : Ref sig .tc := ⟨.hbm, 74, rfl⟩
abbrev main_v54 : Ref sig .tc := ⟨.hbm, 75, rfl⟩
abbrev main_v55 : Ref sig .tc := ⟨.hbm, 76, rfl⟩
abbrev main_cst_7 : Ref sig .tc := ⟨.hbm, 77, rfl⟩
abbrev main_v56 : Ref sig .tc := ⟨.hbm, 78, rfl⟩
abbrev main_v57 : Ref sig .tc := ⟨.hbm, 79, rfl⟩
abbrev main_cst_8 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 13], ![false, false]⟩

def k0_mult1 (i : grid0.Coords) : BitVec 32 :=
  let arg1 : BitVec 32 := BitVec.ofNat 32 (i 1).val
  let c640_i32 : BitVec 32 := 640#32
  let v10 : BitVec 32 := Scalar.muli arg1 c640_i32
  v10
def k0_off1 (i : grid0.Coords) : Fin 2 → Nat :=
  let arg1 : BitVec 32 := BitVec.ofNat 32 (i 1).val
  let c640_i32 : BitVec 32 := 640#32
  let v10 : BitVec 32 := Scalar.muli arg1 c640_i32
  let v11 : BitVec 32 := v10
  let v12 : Index := Scalar.indexCast v11
  let c0_7 : Index := 0#32
  ![v12.toNat, 0]
def k0_off2 (i : grid0.Coords) : Fin 2 → Nat :=
  let arg1 : BitVec 32 := BitVec.ofNat 32 (i 1).val
  let c640_i32 : BitVec 32 := 640#32
  let v10 : BitVec 32 := Scalar.muli arg1 c640_i32
  let v11 : BitVec 32 := v10
  let v15 : Index := Scalar.indexCast v11
  let c0_8 : Index := 0#32
  ![v15.toNat, 0]
def k0_off3 (i : grid0.Coords) : Fin 3 → Nat :=
  let c0_11 : Index := 0#32
  let arg1 : BitVec 32 := BitVec.ofNat 32 (i 1).val
  let v23 : Index := Scalar.indexCast arg1
  let c0_12 : Index := 0#32
  ![0, v23.toNat, 0]
@[reducible] def k0_t1_loop (i : grid0.Coords) : Scf.Loop 32 :=
  let arg1 : BitVec 32 := BitVec.ofNat 32 (i 1).val
  let c1_i32 : BitVec 32 := 1#32
  let v49 : BitVec 32 := Scalar.addi arg1 c1_i32
  let c13_i32 : BitVec 32 := 13#32
  let v50 : BitVec 32 := Scalar.subi c13_i32 v49
  let c1_i32_21 : BitVec 32 := 1#32
  let v52 : BitVec 32 := Scalar.divsi v50 c1_i32_21
  let v53 : BitVec 32 := Scalar.muli v52 c1_i32_21
  let v54 : BitVec 32 := Scalar.addi v49 v53
  let c1_i32_22 : BitVec 32 := 1#32
  ⟨v49, v54, c1_i32_22⟩
def k0_mult2 (i : grid0.Coords) (k0_t1 : Fin (k0_t1_loop i).trips) : BitVec 32 :=
  let arg1 : BitVec 32 := BitVec.ofNat 32 (i 1).val
  let c1_i32 : BitVec 32 := 1#32
  let v49 : BitVec 32 := Scalar.addi arg1 c1_i32
  let c1_i32_22 : BitVec 32 := 1#32
  let arg13 : BitVec 32 := Scf.iv v49 c1_i32_22 k0_t1
  let c640_i32_33 : BitVec 32 := 640#32
  let v70 : BitVec 32 := Scalar.muli arg13 c640_i32_33
  v70
def k0_off4 (i : grid0.Coords) (k0_t1 : Fin (k0_t1_loop i).trips) : Fin 2 → Nat :=
  let arg1 : BitVec 32 := BitVec.ofNat 32 (i 1).val
  let c1_i32 : BitVec 32 := 1#32
  let v49 : BitVec 32 := Scalar.addi arg1 c1_i32
  let c1_i32_22 : BitVec 32 := 1#32
  let arg13 : BitVec 32 := Scf.iv v49 c1_i32_22 k0_t1
  let c640_i32_33 : BitVec 32 := 640#32
  let v70 : BitVec 32 := Scalar.muli arg13 c640_i32_33
  let v71 : BitVec 32 := v70
  let v72 : Index := Scalar.indexCast v71
  let c0_34 : Index := 0#32
  ![v72.toNat, 0]
def k0_off5 (i : grid0.Coords) (k0_t1 : Fin (k0_t1_loop i).trips) : Fin 2 → Nat :=
  let arg1 : BitVec 32 := BitVec.ofNat 32 (i 1).val
  let c1_i32 : BitVec 32 := 1#32
  let v49 : BitVec 32 := Scalar.addi arg1 c1_i32
  let c1_i32_22 : BitVec 32 := 1#32
  let arg13 : BitVec 32 := Scf.iv v49 c1_i32_22 k0_t1
  let c640_i32_33 : BitVec 32 := 640#32
  let v70 : BitVec 32 := Scalar.muli arg13 c640_i32_33
  let v71 : BitVec 32 := v70
  let v75 : Index := Scalar.indexCast v71
  let c0_35 : Index := 0#32
  ![v75.toNat, 0]
def k0_off6 (i : grid0.Coords) (k0_t1 : Fin (k0_t1_loop i).trips) : Fin 3 → Nat :=
  let c0_37 : Index := 0#32
  let arg1 : BitVec 32 := BitVec.ofNat 32 (i 1).val
  let c1_i32 : BitVec 32 := 1#32
  let v49 : BitVec 32 := Scalar.addi arg1 c1_i32
  let c1_i32_22 : BitVec 32 := 1#32
  let arg13 : BitVec 32 := Scf.iv v49 c1_i32_22 k0_t1
  let v78 : Index := Scalar.indexCast arg13
  let c0_38 : Index := 0#32
  ![0, v78.toNat, 0]
@[reducible] def k0_t2_loop (i : grid0.Coords) : Scf.Loop 32 :=
  let arg1 : BitVec 32 := BitVec.ofNat 32 (i 1).val
  let c1_i32 : BitVec 32 := 1#32
  let v49 : BitVec 32 := Scalar.addi arg1 c1_i32
  let c13_i32 : BitVec 32 := 13#32
  let v50 : BitVec 32 := Scalar.subi c13_i32 v49
  let c1_i32_21 : BitVec 32 := 1#32
  let v52 : BitVec 32 := Scalar.divsi v50 c1_i32_21
  let v53 : BitVec 32 := Scalar.muli v52 c1_i32_21
  let v54 : BitVec 32 := Scalar.addi v49 v53
  let v51 : BitVec 32 := Scalar.addi v49 v50
  let c1_i32_23 : BitVec 32 := 1#32
  ⟨v54, v51, c1_i32_23⟩
def k0_mult3 (i : grid0.Coords) (k0_t2 : Fin (k0_t2_loop i).trips) : BitVec 32 :=
  let arg1 : BitVec 32 := BitVec.ofNat 32 (i 1).val
  let c1_i32 : BitVec 32 := 1#32
  let v49 : BitVec 32 := Scalar.addi arg1 c1_i32
  let c13_i32 : BitVec 32 := 13#32
  let v50 : BitVec 32 := Scalar.subi c13_i32 v49
  let c1_i32_21 : BitVec 32 := 1#32
  let v52 : BitVec 32 := Scalar.divsi v50 c1_i32_21
  let v53 : BitVec 32 := Scalar.muli v52 c1_i32_21
  let v54 : BitVec 32 := Scalar.addi v49 v53
  let c1_i32_23 : BitVec 32 := 1#32
  let arg13 : BitVec 32 := Scf.iv v54 c1_i32_23 k0_t2
  let c640_i32_33 : BitVec 32 := 640#32
  let v70 : BitVec 32 := Scalar.muli arg13 c640_i32_33
  v70
def k0_off7 (i : grid0.Coords) (k0_t2 : Fin (k0_t2_loop i).trips) : Fin 2 → Nat :=
  let arg1 : BitVec 32 := BitVec.ofNat 32 (i 1).val
  let c1_i32 : BitVec 32 := 1#32
  let v49 : BitVec 32 := Scalar.addi arg1 c1_i32
  let c13_i32 : BitVec 32 := 13#32
  let v50 : BitVec 32 := Scalar.subi c13_i32 v49
  let c1_i32_21 : BitVec 32 := 1#32
  let v52 : BitVec 32 := Scalar.divsi v50 c1_i32_21
  let v53 : BitVec 32 := Scalar.muli v52 c1_i32_21
  let v54 : BitVec 32 := Scalar.addi v49 v53
  let c1_i32_23 : BitVec 32 := 1#32
  let arg13 : BitVec 32 := Scf.iv v54 c1_i32_23 k0_t2
  let c640_i32_33 : BitVec 32 := 640#32
  let v70 : BitVec 32 := Scalar.muli arg13 c640_i32_33
  let v71 : BitVec 32 := v70
  let v72 : Index := Scalar.indexCast v71
  let c0_34 : Index := 0#32
  ![v72.toNat, 0]
def k0_off8 (i : grid0.Coords) (k0_t2 : Fin (k0_t2_loop i).trips) : Fin 2 → Nat :=
  let arg1 : BitVec 32 := BitVec.ofNat 32 (i 1).val
  let c1_i32 : BitVec 32 := 1#32
  let v49 : BitVec 32 := Scalar.addi arg1 c1_i32
  let c13_i32 : BitVec 32 := 13#32
  let v50 : BitVec 32 := Scalar.subi c13_i32 v49
  let c1_i32_21 : BitVec 32 := 1#32
  let v52 : BitVec 32 := Scalar.divsi v50 c1_i32_21
  let v53 : BitVec 32 := Scalar.muli v52 c1_i32_21
  let v54 : BitVec 32 := Scalar.addi v49 v53
  let c1_i32_23 : BitVec 32 := 1#32
  let arg13 : BitVec 32 := Scf.iv v54 c1_i32_23 k0_t2
  let c640_i32_33 : BitVec 32 := 640#32
  let v70 : BitVec 32 := Scalar.muli arg13 c640_i32_33
  let v71 : BitVec 32 := v70
  let v75 : Index := Scalar.indexCast v71
  let c0_35 : Index := 0#32
  ![v75.toNat, 0]
def k0_off9 (i : grid0.Coords) (k0_t2 : Fin (k0_t2_loop i).trips) : Fin 3 → Nat :=
  let c0_37 : Index := 0#32
  let arg1 : BitVec 32 := BitVec.ofNat 32 (i 1).val
  let c1_i32 : BitVec 32 := 1#32
  let v49 : BitVec 32 := Scalar.addi arg1 c1_i32
  let c13_i32 : BitVec 32 := 13#32
  let v50 : BitVec 32 := Scalar.subi c13_i32 v49
  let c1_i32_21 : BitVec 32 := 1#32
  let v52 : BitVec 32 := Scalar.divsi v50 c1_i32_21
  let v53 : BitVec 32 := Scalar.muli v52 c1_i32_21
  let v54 : BitVec 32 := Scalar.addi v49 v53
  let c1_i32_23 : BitVec 32 := 1#32
  let arg13 : BitVec 32 := Scf.iv v54 c1_i32_23 k0_t2
  let v78 : Index := Scalar.indexCast arg13
  let c0_38 : Index := 0#32
  ![0, v78.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8320x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8320x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x13x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x13x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S640x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S640x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S640x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S8320x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S640x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x640x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S640x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "ln2" => some ((Real.log 2 : ℝ) : EReal)
  | "masked" => some ⊥
  | _ => none
-- ==== ReferenceIdeal.lean ====
abbrev S8320x8x192 : Shape := ⟨3, ![8320, 8, 192]⟩
abbrev S8320x2048 : Shape := ⟨2, ![8320, 2048]⟩
abbrev S8320x64 : Shape := ⟨2, ![8320, 64]⟩
abbrev S8320x1024 : Shape := ⟨2, ![8320, 1024]⟩
abbrev S8320x8x128 : Shape := ⟨3, ![8320, 8, 128]⟩
abbrev S8320x8x64 : Shape := ⟨3, ![8320, 8, 64]⟩
abbrev S8x8320x8320 : Shape := ⟨3, ![8, 8320, 8320]⟩
abbrev S8320x8320x8 : Shape := ⟨3, ![8320, 8320, 8]⟩
abbrev S8320 : Shape := ⟨1, ![8320]⟩
abbrev S1x8320 : Shape := ⟨2, ![1, 8320]⟩
abbrev S8320x1 : Shape := ⟨2, ![8320, 1]⟩
abbrev S8320x8320 : Shape := ⟨2, ![8320, 8320]⟩
abbrev S_ : Shape := ⟨0, ![]⟩
abbrev S8x8320 : Shape := ⟨2, ![8, 8320]⟩
abbrev S8x8320x1 : Shape := ⟨3, ![8, 8320, 1]⟩
abbrev S8x128x8320 : Shape := ⟨3, ![8, 128, 8320]⟩
abbrev S8x8320x128 : Shape := ⟨3, ![8, 8320, 128]⟩

abbrev nBuf : Space → Nat
  | .hbm => 120
  | .vmem => 0
  | .smem => 0
  | _ => 0

abbrev bufTy : (tb : Table) → Fin (tcTables nBuf tb) → BufTy
  | .hbm, ⟨0, _⟩ => ⟨S8320x8x192, .bf16⟩
  | .hbm, ⟨1, _⟩ => ⟨S8320x2048, .bf16⟩
  | .hbm, ⟨2, _⟩ => ⟨S8320x64, .bf16⟩
  | .hbm, ⟨3, _⟩ => ⟨S8320x1024, .bf16⟩
  | .hbm, ⟨4, _⟩ => ⟨S8320x1024, .bf16⟩
  | .hbm, ⟨5, _⟩ => ⟨S8320x1024, .bf16⟩
  | .hbm, ⟨6, _⟩ => ⟨S8320x8x192, .f32⟩
  | .hbm, ⟨7, _⟩ => ⟨S8320x1024, .f32⟩
  | .hbm, ⟨8, _⟩ => ⟨S8320x64, .f32⟩
  | .hbm, ⟨9, _⟩ => ⟨S8320x1024, .f32⟩
  | .hbm, ⟨10, _⟩ => ⟨S8320x8x128, .f32⟩
  | .hbm, ⟨11, _⟩ => ⟨S8320x8x64, .f32⟩
  | .hbm, ⟨12, _⟩ => ⟨S8320x8x128, .f32⟩
  | .hbm, ⟨13, _⟩ => ⟨S8320x8x128, .f32⟩
  | .hbm, ⟨14, _⟩ => ⟨S8x8320x8320, .f32⟩
  | .hbm, ⟨15, _⟩ => ⟨S8320x8320x8, .f32⟩
  | .hbm, ⟨16, _⟩ => ⟨S8x8320x8320, .f32⟩
  | .hbm, ⟨17, _⟩ => ⟨S8x8320x8320, .f32⟩
  | .hbm, ⟨18, _⟩ => ⟨S8320, .i32⟩
  | .hbm, ⟨19, _⟩ => ⟨S1x8320, .i32⟩
  | .hbm, ⟨20, _⟩ => ⟨S8320, .i32⟩
  | .hbm, ⟨21, _⟩ => ⟨S8320x1, .i32⟩
  | .hbm, ⟨22, _⟩ => ⟨S8320x8320, .i32⟩
  | .hbm, ⟨23, _⟩ => ⟨S8320x8320, .i32⟩
  | .hbm, ⟨24, _⟩ => ⟨S8320x8320, .i1⟩
  | .hbm, ⟨25, _⟩ => ⟨S_, .f32⟩
  | .hbm, ⟨26, _⟩ => ⟨S8x8320x8320, .f32⟩
  | .hbm, ⟨27, _⟩ => ⟨S8x8320x8320, .f32⟩
  | .hbm, ⟨28, _⟩ => ⟨S_, .f32⟩
  | .hbm, ⟨29, _⟩ => ⟨S_, .f32⟩
  | .hbm, ⟨30, _⟩ => ⟨S8x8320x8320, .i1⟩
  | .hbm, ⟨31, _⟩ => ⟨S8x8320x8320, .f32⟩
  | .hbm, ⟨32, _⟩ => ⟨S8x8320x8320, .f32⟩
  | .hbm, ⟨33, _⟩ => ⟨S_, .f32⟩
  | .hbm, ⟨34, _⟩ => ⟨S8x8320x8320, .f32⟩
  | .hbm, ⟨35, _⟩ => ⟨S_, .f32⟩
  | .hbm, ⟨36, _⟩ => ⟨S8x8320, .f32⟩
  | .hbm, ⟨37, _⟩ => ⟨S8x8320x1, .f32⟩
  | .hbm, ⟨38, _⟩ => ⟨S8x8320x8320, .f32⟩
  | .hbm, ⟨39, _⟩ => ⟨S8x8320x8320, .i1⟩
  | .hbm, ⟨40, _⟩ => ⟨S8x8320x8320, .f32⟩
  | .hbm, ⟨41, _⟩ => ⟨S_, .f32⟩
  | .hbm, ⟨42, _⟩ => ⟨S8x8320, .f32⟩
  | .hbm, ⟨43, _⟩ => ⟨S_, .f32⟩
  | .hbm, ⟨44, _⟩ => ⟨S8x8320, .f32⟩
  | .hbm, ⟨45, _⟩ => ⟨S8x8320, .f32⟩
  | .hbm, ⟨46, _⟩ => ⟨S_, .f32⟩
  | .hbm, ⟨47, _⟩ => ⟨S8x8320, .f32⟩
  | .hbm, ⟨48, _⟩ => ⟨S8x8320, .i1⟩
  | .hbm, ⟨49, _⟩ => ⟨S_, .f32⟩
  | .hbm, ⟨50, _⟩ => ⟨S8x8320, .f32⟩
  | .hbm, ⟨51, _⟩ => ⟨S8x8320, .i1⟩
  | .hbm, ⟨52, _⟩ => ⟨S_, .f32⟩
  | .hbm, ⟨53, _⟩ => ⟨S8x8320, .f32⟩
  | .hbm, ⟨54, _⟩ => ⟨S_, .f32⟩
  | .hbm, ⟨55, _⟩ => ⟨S8x8320, .f32⟩
  | .hbm, ⟨56, _⟩ => ⟨S_, .f32⟩
  | .hbm, ⟨57, _⟩ => ⟨S8x8320, .f32⟩
  | .hbm, ⟨58, _⟩ => ⟨S8x8320, .f32⟩
  | .hbm, ⟨59, _⟩ => ⟨S8x8320, .f32⟩
  | .hbm, ⟨60, _⟩ => ⟨S8x8320x1, .f32⟩
  | .hbm, ⟨61, _⟩ => ⟨S8x8320x8320, .f32⟩
  | .hbm, ⟨62, _⟩ => ⟨S8x8320x8320, .f32⟩
  | .hbm, ⟨63, _⟩ => ⟨S8x8320x8320, .f32⟩
  | .hbm, ⟨64, _⟩ => ⟨S_, .f32⟩
  | .hbm, ⟨65, _⟩ => ⟨S8x8320, .f32⟩
  | .hbm, ⟨66, _⟩ => ⟨S8x8320x1, .f32⟩
  | .hbm, ⟨67, _⟩ => ⟨S8x8320x8320, .f32⟩
  | .hbm, ⟨68, _⟩ => ⟨S8x8320x8320, .f32⟩
  | .hbm, ⟨69, _⟩ => ⟨S8x8320x1, .f32⟩
  | .hbm, ⟨70, _⟩ => ⟨S_, .f32⟩
  | .hbm, ⟨71, _⟩ => ⟨S8x8320x1, .f32⟩
  | .hbm, ⟨72, _⟩ => ⟨S8x8320x1, .f32⟩
  | .hbm, ⟨73, _⟩ => ⟨S8x128x8320, .f32⟩
  | .hbm, ⟨74, _⟩ => ⟨S8320x8x128, .f32⟩
  | .hbm, ⟨75, _⟩ => ⟨S8320x1024, .f32⟩
  | .hbm, ⟨76, _⟩ => ⟨S8320x1024, .f32⟩
  | .hbm, ⟨77, _⟩ => ⟨S8320x8x128, .f32⟩
  | .hbm, ⟨78, _⟩ => ⟨S8x128x8320, .f32⟩
  | .hbm, ⟨79, _⟩ => ⟨S8x8320x8320, .f32⟩
  | .hbm, ⟨80, _⟩ => ⟨S8x128x8320, .f32⟩
  | .hbm, ⟨81, _⟩ => ⟨S8320x8x128, .f32⟩
  | .hbm, ⟨82, _⟩ => ⟨S8x8320x8320, .f32⟩
  | .hbm, ⟨83, _⟩ => ⟨S8x8320x8320, .f32⟩
  | .hbm, ⟨84, _⟩ => ⟨S8x8320x8320, .f32⟩
  | .hbm, ⟨85, _⟩ => ⟨S_, .f32⟩
  | .hbm, ⟨86, _⟩ => ⟨S8x8320, .f32⟩
  | .hbm, ⟨87, _⟩ => ⟨S8x8320x1, .f32⟩
  | .hbm, ⟨88, _⟩ => ⟨S8x8320x1, .f32⟩
  | .hbm, ⟨89, _⟩ => ⟨S8x8320x8320, .f32⟩
  | .hbm, ⟨90, _⟩ => ⟨S8x8320x8320, .f32⟩
  | .hbm, ⟨91, _⟩ => ⟨S_, .f32⟩
  | .hbm, ⟨92, _⟩ => ⟨S8x8320, .f32⟩
  | .hbm, ⟨93, _⟩ => ⟨S8x8320x8320, .f32⟩
  | .hbm, ⟨94, _⟩ => ⟨S8x8320x8320, .f32⟩
  | .hbm, ⟨95, _⟩ => ⟨S8x8320x8320, .f32⟩
  | .hbm, ⟨96, _⟩ => ⟨S_, .f32⟩
  | .hbm, ⟨97, _⟩ => ⟨S8x8320x8320, .f32⟩
  | .hbm, ⟨98, _⟩ => ⟨S8x8320x8320, .f32⟩
  | .hbm, ⟨99, _⟩ => ⟨S_, .f32⟩
  | .hbm, ⟨100, _⟩ => ⟨S8x8320x8320, .f32⟩
  | .hbm, ⟨101, _⟩ => ⟨S8x8320x8320, .f32⟩
  | .hbm, ⟨102, _⟩ => ⟨S8320x8320x8, .f32⟩
  | .hbm, ⟨103, _⟩ => ⟨S8320x8x64, .f32⟩
  | .hbm, ⟨104, _⟩ => ⟨S8320x64, .f32⟩
  | .hbm, ⟨105, _⟩ => ⟨S8x8320x128, .f32⟩
  | .hbm, ⟨106, _⟩ => ⟨S8320x8x128, .f32⟩
  | .hbm, ⟨107, _⟩ => ⟨S8x8320x128, .f32⟩
  | .hbm, ⟨108, _⟩ => ⟨S8320x8x128, .f32⟩
  | .hbm, ⟨109, _⟩ => ⟨S8320x1024, .f32⟩
  | .hbm, ⟨110, _⟩ => ⟨S8320x1024, .f32⟩
  | .hbm, ⟨111, _⟩ => ⟨S_, .f32⟩
  | .hbm, ⟨112, _⟩ => ⟨S8320x8x192, .f32⟩
  | .hbm, ⟨113, _⟩ => ⟨S_, .f32⟩
  | .hbm, ⟨114, _⟩ => ⟨S8320x8x192, .f32⟩
  | .hbm, ⟨115, _⟩ => ⟨S8320x8x192, .f32⟩
  | .hbm, ⟨116, _⟩ => ⟨S8320x1024, .bf16⟩
  | .hbm, ⟨117, _⟩ => ⟨S8320x64, .bf16⟩
  | .hbm, ⟨118, _⟩ => ⟨S8320x1024, .bf16⟩
  | .hbm, ⟨119, _⟩ => ⟨S8320x8x192, .bf16⟩
  | _, _ => ⟨S8320x8x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_call0_v0 : Ref sig .tc := ⟨.hbm, 29, rfl⟩
abbrev main_v23_1 : Ref sig .tc := ⟨.hbm, 30, rfl⟩
abbrev main_call0_v2 : Ref sig .tc := ⟨.hbm, 31, rfl⟩
abbrev main_v23_0 : Ref sig .tc := ⟨.hbm, 32, rfl⟩
abbrev main_call0_cst : Ref sig .tc := ⟨.hbm, 33, rfl⟩
abbrev main_v23_2 : Ref sig .tc := ⟨.hbm, 34, rfl⟩
abbrev main_cst_1 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_11 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_12 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_call1_cst : Ref sig .tc := ⟨.hbm, 96, rfl⟩
abbrev main_call1_v0 : Ref sig .tc := ⟨.hbm, 97, rfl⟩
abbrev main_v73 : Ref sig .tc := ⟨.hbm, 98, rfl⟩
abbrev main_cst_13 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_14 : Ref sig .tc := ⟨.hbm, 111, rfl⟩
abbrev main_v85 : Ref sig .tc := ⟨.hbm, 112, rfl⟩
abbrev main_cst_15 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩

abbrev nD : Nat := 1
abbrev τ : Topo := Topo.v7x

variable {F : FTy → Type} [FloatOps F]
-- ==== Kernel2.lean ====
abbrev S8320x2816 : Shape := ⟨2, ![8320, 2816]⟩
abbrev S8320x1024 : Shape := ⟨2, ![8320, 1024]⟩
abbrev S2816x1024 : Shape := ⟨2, ![2816, 1024]⟩
abbrev S640x1408 : Shape := ⟨2, ![640, 1408]⟩
abbrev S640x1024 : Shape := ⟨2, ![640, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x2816, .bf16⟩
  | .hbm, ⟨1, _⟩ => ⟨S8320x1024, .bf16⟩
  | .hbm, ⟨2, _⟩ => ⟨S2816x1024, .f32⟩
  | .local _ .vmem, ⟨0, _⟩ => ⟨S640x1408, .bf16⟩
  | .local _ .vmem, ⟨1, _⟩ => ⟨S640x1408, .bf16⟩
  | .local _ .vmem, ⟨2, _⟩ => ⟨S640x1024, .bf16⟩
  | .local _ .vmem, ⟨3, _⟩ => ⟨S640x1024, .bf16⟩
  | .local _ .vmem, ⟨4, _⟩ => ⟨S1408x1024, .f32⟩
  | .local _ .vmem, ⟨5, _⟩ => ⟨S1408x1024, .f32⟩
  | _, _ => ⟨S8320x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 13], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8320x2816 : Shape := ⟨2, ![8320, 2816]⟩
abbrev S8320x1024 : Shape := ⟨2, ![8320, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8320x2816, .bf16⟩
  | .hbm, ⟨1, _⟩ => ⟨S8320x1024, .bf16⟩
  | .hbm, ⟨2, _⟩ => ⟨S_, .f32⟩
  | .hbm, ⟨3, _⟩ => ⟨S2816x1024, .f32⟩
  | .hbm, ⟨4, _⟩ => ⟨S8320x2816, .f32⟩
  | .hbm, ⟨5, _⟩ => ⟨S8320x1024, .f32⟩
  | .hbm, ⟨6, _⟩ => ⟨S8320x1024, .f32⟩
  | .hbm, ⟨7, _⟩ => ⟨S1024x2816, .f32⟩
  | .hbm, ⟨8, _⟩ => ⟨S2816x1024, .f32⟩
  | _, _ => ⟨S8320x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S8320x2048 : Shape := ⟨2, ![8320, 2048]⟩
abbrev S8320x1024 : Shape := ⟨2, ![8320, 1024]⟩
abbrev S2048x1024 : Shape := ⟨2, ![2048, 1024]⟩
abbrev S640x1024 : Shape := ⟨2, ![640, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x2048, .bf16⟩
  | .hbm, ⟨1, _⟩ => ⟨S8320x1024, .bf16⟩
  | .hbm, ⟨2, _⟩ => ⟨S2048x1024, .f32⟩
  | .local _ .vmem, ⟨0, _⟩ => ⟨S640x1024, .bf16⟩
  | .local _ .vmem, ⟨1, _⟩ => ⟨S640x1024, .bf16⟩
  | .local _ .vmem, ⟨2, _⟩ => ⟨S640x1024, .bf16⟩
  | .local _ .vmem, ⟨3, _⟩ => ⟨S640x1024, .bf16⟩
  | .local _ .vmem, ⟨4, _⟩ => ⟨S1024x1024, .f32⟩
  | .local _ .vmem, ⟨5, _⟩ => ⟨S1024x1024, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 13], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8320x2048 : Shape := ⟨2, ![8320, 2048]⟩
abbrev S8320x1024 : Shape := ⟨2, ![8320, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S8320x1024, .bf16⟩
  | .hbm, ⟨2, _⟩ => ⟨S_, .f32⟩
  | .hbm, ⟨3, _⟩ => ⟨S2048x1024, .f32⟩
  | .hbm, ⟨4, _⟩ => ⟨S8320x2048, .f32⟩
  | .hbm, ⟨5, _⟩ => ⟨S8320x1024, .f32⟩
  | .hbm, ⟨6, _⟩ => ⟨S8320x1024, .f32⟩
  | .hbm, ⟨7, _⟩ => ⟨S1024x2048, .f32⟩
  | .hbm, ⟨8, _⟩ => ⟨S2048x1024, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S8320x1024 : Shape := ⟨2, ![8320, 1024]⟩
abbrev S1024x1024 : Shape := ⟨2, ![1024, 1024]⟩
abbrev S640x1024 : Shape := ⟨2, ![640, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .bf16⟩
  | .hbm, ⟨2, _⟩ => ⟨S1024x1024, .f32⟩
  | .local _ .vmem, ⟨0, _⟩ => ⟨S640x1024, .bf16⟩
  | .local _ .vmem, ⟨1, _⟩ => ⟨S640x1024, .bf16⟩
  | .local _ .vmem, ⟨2, _⟩ => ⟨S640x1024, .bf16⟩
  | .local _ .vmem, ⟨3, _⟩ => ⟨S640x1024, .bf16⟩
  | .local _ .vmem, ⟨4, _⟩ => ⟨S1024x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 13], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference4Ideal.lean ====
abbrev S8320x1024 : Shape := ⟨2, ![8320, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .bf16⟩
  | .hbm, ⟨2, _⟩ => ⟨S_, .f32⟩
  | .hbm, ⟨3, _⟩ => ⟨S1024x1024, .f32⟩
  | .hbm, ⟨4, _⟩ => ⟨S8320x1024, .f32⟩
  | .hbm, ⟨5, _⟩ => ⟨S8320x1024, .f32⟩
  | .hbm, ⟨6, _⟩ => ⟨S8320x1024, .f32⟩
  | .hbm, ⟨7, _⟩ => ⟨S1024x1024, .f32⟩
  | .hbm, ⟨8, _⟩ => ⟨S1024x1024, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8320x3072 : Shape := ⟨2, ![8320, 3072]⟩
abbrev S8320x1024 : Shape := ⟨2, ![8320, 1024]⟩
abbrev S3072x1024 : Shape := ⟨2, ![3072, 1024]⟩
abbrev S640x1024 : Shape := ⟨2, ![640, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x3072, .bf16⟩
  | .hbm, ⟨1, _⟩ => ⟨S8320x1024, .bf16⟩
  | .hbm, ⟨2, _⟩ => ⟨S3072x1024, .f32⟩
  | .local _ .vmem, ⟨0, _⟩ => ⟨S640x1024, .bf16⟩
  | .local _ .vmem, ⟨1, _⟩ => ⟨S640x1024, .bf16⟩
  | .local _ .vmem, ⟨2, _⟩ => ⟨S640x1024, .bf16⟩
  | .local _ .vmem, ⟨3, _⟩ => ⟨S640x1024, .bf16⟩
  | .local _ .vmem, ⟨4, _⟩ => ⟨S1024x1024, .f32⟩
  | .local _ .vmem, ⟨5, _⟩ => ⟨S1024x1024, .f32⟩
  | _, _ => ⟨S8320x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 13], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8320x3072 : Shape := ⟨2, ![8320, 3072]⟩
abbrev S8320x1024 : Shape := ⟨2, ![8320, 1024]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8320x3072, .bf16⟩
  | .hbm, ⟨1, _⟩ => ⟨S8320x1024, .bf16⟩
  | .hbm, ⟨2, _⟩ => ⟨S_, .f32⟩
  | .hbm, ⟨3, _⟩ => ⟨S1024x3072, .f32⟩
  | .hbm, ⟨4, _⟩ => ⟨S8320x1024, .f32⟩
  | .hbm, ⟨5, _⟩ => ⟨S8320x3072, .f32⟩
  | .hbm, ⟨6, _⟩ => ⟨S8320x3072, .f32⟩
  | .hbm, ⟨7, _⟩ => ⟨S3072x1024, .f32⟩
  | .hbm, ⟨8, _⟩ => ⟨S1024x3072, .f32⟩
  | .hbm, ⟨9, _⟩ => ⟨S3072x1024, .f32⟩
  | _, _ => ⟨S8320x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S8320x2816 : Shape := ⟨2, ![8320, 2816]⟩
abbrev S1024x2816 : Shape := ⟨2, ![1024, 2816]⟩
abbrev S8320x1024 : Shape := ⟨2, ![8320, 1024]⟩
abbrev S1664x1408 : Shape := ⟨2, ![1664, 1408]⟩
abbrev S512x1408 : Shape := ⟨2, ![512, 1408]⟩
abbrev S1664x512 : Shape := ⟨2, ![1664, 512]⟩

abbrev nBuf : Space → Nat
  | .hbm => 4
  | .vmem => 9
  | .smem => 0
  | _ => 0

abbrev bufTy : (tb : Table) → Fin (tcTables nBuf tb) → BufTy
  | .hbm, ⟨0, _⟩ => ⟨S8320x2816, .bf16⟩
  | .hbm, ⟨1, _⟩ => ⟨S1024x2816, .bf16⟩
  | .hbm, ⟨2, _⟩ => ⟨S8320x1024, .f32⟩
  | .hbm, ⟨3, _⟩ => ⟨S8320x1024, .f32⟩
  | .local _ .vmem, ⟨0, _⟩ => ⟨S1664x1408, .bf16⟩
  | .local _ .vmem, ⟨1, _⟩ => ⟨S1664x1408, .bf16⟩
  | .local _ .vmem, ⟨2, _⟩ => ⟨S512x1408, .bf16⟩
  | .local _ .vmem, ⟨3, _⟩ => ⟨S512x1408, .bf16⟩
  | .local _ .vmem, ⟨4, _⟩ => ⟨S1664x512, .f32⟩
  | .local _ .vmem, ⟨5, _⟩ => ⟨S1664x512, .f32⟩
  | .local _ .vmem, ⟨6, _⟩ => ⟨S1664x512, .f32⟩
  | .local _ .vmem, ⟨7, _⟩ => ⟨S1664x512, .f32⟩
  | .local _ .vmem, ⟨8, _⟩ => ⟨S1664x512, .f32⟩
  | _, _ => ⟨S8320x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![5, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1664x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S8320x2816 : Shape := ⟨2, ![8320, 2816]⟩
abbrev S1024x2816 : Shape := ⟨2, ![1024, 2816]⟩
abbrev S8320x1024 : Shape := ⟨2, ![8320, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8320x2816, .bf16⟩
  | .hbm, ⟨1, _⟩ => ⟨S1024x2816, .bf16⟩
  | .hbm, ⟨2, _⟩ => ⟨S8320x1024, .f32⟩
  | .hbm, ⟨3, _⟩ => ⟨S_, .f32⟩
  | .hbm, ⟨4, _⟩ => ⟨S8320x1024, .f32⟩
  | .hbm, ⟨5, _⟩ => ⟨S1024x2816, .f32⟩
  | .hbm, ⟨6, _⟩ => ⟨S8320x2816, .f32⟩
  | .hbm, ⟨7, _⟩ => ⟨S_, .f32⟩
  | .hbm, ⟨8, _⟩ => ⟨S8320x1024, .f32⟩
  | .hbm, ⟨9, _⟩ => ⟨S8320x1024, .f32⟩
  | .hbm, ⟨10, _⟩ => ⟨S8320x2816, .f32⟩
  | .hbm, ⟨11, _⟩ => ⟨S_, .f32⟩
  | .hbm, ⟨12, _⟩ => ⟨S8320x1024, .f32⟩
  | .hbm, ⟨13, _⟩ => ⟨S8320x1024, .f32⟩
  | .hbm, ⟨14, _⟩ => ⟨S8320x1024, .f32⟩
  | .hbm, ⟨15, _⟩ => ⟨S8320x1024, .f32⟩
  | _, _ => ⟨S8320x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel7.lean ====
abbrev S8320x2816 : Shape := ⟨2, ![8320, 2816]⟩
abbrev S1024x2816 : Shape := ⟨2, ![1024, 2816]⟩
abbrev S8320x1024 : Shape := ⟨2, ![8320, 1024]⟩
abbrev S1664x1408 : Shape := ⟨2, ![1664, 1408]⟩
abbrev S512x1408 : Shape := ⟨2, ![512, 1408]⟩
abbrev S1664x512 : Shape := ⟨2, ![1664, 512]⟩

abbrev nBuf : Space → Nat
  | .hbm => 4
  | .vmem => 9
  | .smem => 0
  | _ => 0

abbrev bufTy : (tb : Table) → Fin (tcTables nBuf tb) → BufTy
  | .hbm, ⟨0, _⟩ => ⟨S8320x2816, .bf16⟩
  | .hbm, ⟨1, _⟩ => ⟨S1024x2816, .bf16⟩
  | .hbm, ⟨2, _⟩ => ⟨S8320x1024, .f32⟩
  | .hbm, ⟨3, _⟩ => ⟨S8320x1024, .f32⟩
  | .local _ .vmem, ⟨0, _⟩ => ⟨S1664x1408, .bf16⟩
  | .local _ .vmem, ⟨1, _⟩ => ⟨S1664x1408, .bf16⟩
  | .local _ .vmem, ⟨2, _⟩ => ⟨S512x1408, .bf16⟩
  | .local _ .vmem, ⟨3, _⟩ => ⟨S512x1408, .bf16⟩
  | .local _ .vmem, ⟨4, _⟩ => ⟨S1664x512, .f32⟩
  | .local _ .vmem, ⟨5, _⟩ => ⟨S1664x512, .f32⟩
  | .local _ .vmem, ⟨6, _⟩ => ⟨S1664x512, .f32⟩
  | .local _ .vmem, ⟨7, _⟩ => ⟨S1664x512, .f32⟩
  | .local _ .vmem, ⟨8, _⟩ => ⟨S1664x512, .f32⟩
  | _, _ => ⟨S8320x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![5, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1664x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S8320x2816 : Shape := ⟨2, ![8320, 2816]⟩
abbrev S1024x2816 : Shape := ⟨2, ![1024, 2816]⟩
abbrev S8320x1024 : Shape := ⟨2, ![8320, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8320x2816, .bf16⟩
  | .hbm, ⟨1, _⟩ => ⟨S1024x2816, .bf16⟩
  | .hbm, ⟨2, _⟩ => ⟨S8320x1024, .f32⟩
  | .hbm, ⟨3, _⟩ => ⟨S_, .f32⟩
  | .hbm, ⟨4, _⟩ => ⟨S8320x1024, .f32⟩
  | .hbm, ⟨5, _⟩ => ⟨S1024x2816, .f32⟩
  | .hbm, ⟨6, _⟩ => ⟨S8320x2816, .f32⟩
  | .hbm, ⟨7, _⟩ => ⟨S8320x2816, .f32⟩
  | .hbm, ⟨8, _⟩ => ⟨S8320x1024, .f32⟩
  | .hbm, ⟨9, _⟩ => ⟨S8320x1024, .f32⟩
  | _, _ => ⟨S8320x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel8.lean ====
abbrev S8320x1024 : Shape := ⟨2, ![8320, 1024]⟩
abbrev S2816x1024 : Shape := ⟨2, ![2816, 1024]⟩
abbrev S8320x2816 : Shape := ⟨2, ![8320, 2816]⟩
abbrev S1664x1024 : Shape := ⟨2, ![1664, 1024]⟩
abbrev S1408x1024 : Shape := ⟨2, ![1408, 1024]⟩
abbrev S1664x1408 : Shape := ⟨2, ![1664, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S2816x1024, .bf16⟩
  | .hbm, ⟨2, _⟩ => ⟨S8320x2816, .f32⟩
  | .local _ .vmem, ⟨0, _⟩ => ⟨S1664x1024, .bf16⟩
  | .local _ .vmem, ⟨1, _⟩ => ⟨S1664x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1664x1408, .f32⟩
  | .local _ .vmem, ⟨5, _⟩ => ⟨S1664x1408, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8320x1024 : Shape := ⟨2, ![8320, 1024]⟩
abbrev S2816x1024 : Shape := ⟨2, ![2816, 1024]⟩
abbrev S_ : Shape := ⟨0, ![]⟩
abbrev S8320x2816 : Shape := ⟨2, ![8320, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S2816x1024, .bf16⟩
  | .hbm, ⟨2, _⟩ => ⟨S_, .f32⟩
  | .hbm, ⟨3, _⟩ => ⟨S8320x2816, .f32⟩
  | .hbm, ⟨4, _⟩ => ⟨S2816x1024, .f32⟩
  | .hbm, ⟨5, _⟩ => ⟨S8320x1024, .f32⟩
  | .hbm, ⟨6, _⟩ => ⟨S8320x1024, .f32⟩
  | .hbm, ⟨7, _⟩ => ⟨S8320x2816, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S8320x2048 : Shape := ⟨2, ![8320, 2048]⟩
abbrev S8320x3072 : Shape := ⟨2, ![8320, 3072]⟩
abbrev S2048x1024 : Shape := ⟨2, ![2048, 1024]⟩
abbrev S3072x1024 : Shape := ⟨2, ![3072, 1024]⟩
abbrev S8320x1024 : Shape := ⟨2, ![8320, 1024]⟩
abbrev S640x2048 : Shape := ⟨2, ![640, 2048]⟩
abbrev S640x3072 : Shape := ⟨2, ![640, 3072]⟩
abbrev S640x1024 : Shape := ⟨2, ![640, 1024]⟩

abbrev nBuf : Space → Nat
  | .hbm => 6
  | .vmem => 10
  | .smem => 0
  | _ => 0

abbrev bufTy : (tb : Table) → Fin (tcTables nBuf tb) → BufTy
  | .hbm, ⟨0, _⟩ => ⟨S8320x2048, .bf16⟩
  | .hbm, ⟨1, _⟩ => ⟨S8320x3072, .bf16⟩
  | .hbm, ⟨2, _⟩ => ⟨S2048x1024, .bf16⟩
  | .hbm, ⟨3, _⟩ => ⟨S3072x1024, .bf16⟩
  | .hbm, ⟨4, _⟩ => ⟨S8320x1024, .f32⟩
  | .hbm, ⟨5, _⟩ => ⟨S8320x1024, .f32⟩
  | .local _ .vmem, ⟨0, _⟩ => ⟨S640x2048, .bf16⟩
  | .local _ .vmem, ⟨1, _⟩ => ⟨S640x2048, .bf16⟩
  | .local _ .vmem, ⟨2, _⟩ => ⟨S640x3072, .bf16⟩
  | .local _ .vmem, ⟨3, _⟩ => ⟨S640x3072, .bf16⟩
  | .local _ .vmem, ⟨4, _⟩ => ⟨S2048x1024, .bf16⟩
  | .local _ .vmem, ⟨5, _⟩ => ⟨S3072x1024, .bf16⟩
  | .local _ .vmem, ⟨6, _⟩ => ⟨S640x1024, .f32⟩
  | .local _ .vmem, ⟨7, _⟩ => ⟨S640x1024, .f32⟩
  | .local _ .vmem, ⟨8, _⟩ => ⟨S640x1024, .f32⟩
  | .local _ .vmem, ⟨9, _⟩ => ⟨S640x1024, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3072x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S640x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference9Ideal.lean ====
abbrev S8320x2048 : Shape := ⟨2, ![8320, 2048]⟩
abbrev S8320x3072 : Shape := ⟨2, ![8320, 3072]⟩
abbrev S2048x1024 : Shape := ⟨2, ![2048, 1024]⟩
abbrev S3072x1024 : Shape := ⟨2, ![3072, 1024]⟩
abbrev S8320x1024 : Shape := ⟨2, ![8320, 1024]⟩
abbrev S_ : Shape := ⟨0, ![]⟩
abbrev S1024x2048 : Shape := ⟨2, ![1024, 2048]⟩
abbrev S1024x3072 : Shape := ⟨2, ![1024, 3072]⟩

abbrev nBuf : Space → Nat
  | .hbm => 25
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S8320x3072, .bf16⟩
  | .hbm, ⟨2, _⟩ => ⟨S2048x1024, .bf16⟩
  | .hbm, ⟨3, _⟩ => ⟨S3072x1024, .bf16⟩
  | .hbm, ⟨4, _⟩ => ⟨S8320x1024, .f32⟩
  | .hbm, ⟨5, _⟩ => ⟨S_, .f32⟩
  | .hbm, ⟨6, _⟩ => ⟨S8320x1024, .f32⟩
  | .hbm, ⟨7, _⟩ => ⟨S1024x2048, .bf16⟩
  | .hbm, ⟨8, _⟩ => ⟨S1024x2048, .f32⟩
  | .hbm, ⟨9, _⟩ => ⟨S8320x2048, .f32⟩
  | .hbm, ⟨10, _⟩ => ⟨S1024x3072, .bf16⟩
  | .hbm, ⟨11, _⟩ => ⟨S1024x3072, .f32⟩
  | .hbm, ⟨12, _⟩ => ⟨S8320x3072, .f32⟩
  | .hbm, ⟨13, _⟩ => ⟨S_, .f32⟩
  | .hbm, ⟨14, _⟩ => ⟨S8320x1024, .f32⟩
  | .hbm, ⟨15, _⟩ => ⟨S8320x1024, .f32⟩
  | .hbm, ⟨16, _⟩ => ⟨S8320x2048, .f32⟩
  | .hbm, ⟨17, _⟩ => ⟨S8320x3072, .f32⟩
  | .hbm, ⟨18, _⟩ => ⟨S_, .f32⟩
  | .hbm, ⟨19, _⟩ => ⟨S8320x1024, .f32⟩
  | .hbm, ⟨20, _⟩ => ⟨S8320x1024, .f32⟩
  | .hbm, ⟨21, _⟩ => ⟨S8320x1024, .f32⟩
  | .hbm, ⟨22, _⟩ => ⟨S8320x1024, .f32⟩
  | .hbm, ⟨23, _⟩ => ⟨S8320x1024, .f32⟩
  | .hbm, ⟨24, _⟩ => ⟨S8320x1024, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Kernel10.lean ====
abbrev S8320x1024 : Shape := ⟨2, ![8320, 1024]⟩
abbrev S1024x1024 : Shape := ⟨2, ![1024, 1024]⟩
abbrev S1664x1024 : Shape := ⟨2, ![1664, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S8320x1024, .f32⟩
  | .local _ .vmem, ⟨0, _⟩ => ⟨S1664x1024, .bf16⟩
  | .local _ .vmem, ⟨1, _⟩ => ⟨S1664x1024, .bf16⟩
  | .local _ .vmem, ⟨2, _⟩ => ⟨S1024x1024, .bf16⟩
  | .local _ .vmem, ⟨3, _⟩ => ⟨S1664x1024, .f32⟩
  | .local _ .vmem, ⟨4, _⟩ => ⟨S1664x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![5, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1664x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8320x1024 : Shape := ⟨2, ![8320, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S_, .f32⟩
  | .hbm, ⟨3, _⟩ => ⟨S8320x1024, .f32⟩
  | .hbm, ⟨4, _⟩ => ⟨S1024x1024, .f32⟩
  | .hbm, ⟨5, _⟩ => ⟨S8320x1024, .f32⟩
  | .hbm, ⟨6, _⟩ => ⟨S8320x1024, .f32⟩
  | .hbm, ⟨7, _⟩ => ⟨S8320x1024, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S8320x1024 : Shape := ⟨2, ![8320, 1024]⟩
abbrev S1024x1024 : Shape := ⟨2, ![1024, 1024]⟩
abbrev S1664x1024 : Shape := ⟨2, ![1664, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S8320x1024, .bf16⟩
  | .local _ .vmem, ⟨0, _⟩ => ⟨S1664x1024, .bf16⟩
  | .local _ .vmem, ⟨1, _⟩ => ⟨S1664x1024, .bf16⟩
  | .local _ .vmem, ⟨2, _⟩ => ⟨S1024x1024, .bf16⟩
  | .local _ .vmem, ⟨3, _⟩ => ⟨S1664x1024, .bf16⟩
  | .local _ .vmem, ⟨4, _⟩ => ⟨S1664x1024, .bf16⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![5, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1664x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8320x1024 : Shape := ⟨2, ![8320, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S_, .bf16⟩
  | .hbm, ⟨3, _⟩ => ⟨S8320x1024, .bf16⟩
  | .hbm, ⟨4, _⟩ => ⟨S8320x1024, .f32⟩
  | .hbm, ⟨5, _⟩ => ⟨S1024x1024, .f32⟩
  | .hbm, ⟨6, _⟩ => ⟨S8320x1024, .f32⟩
  | .hbm, ⟨7, _⟩ => ⟨S8320x1024, .f32⟩
  | .hbm, ⟨8, _⟩ => ⟨S8320x1024, .f32⟩
  | .hbm, ⟨9, _⟩ => ⟨S8320x1024, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S8320x1024 : Shape := ⟨2, ![8320, 1024]⟩
abbrev S2048x1024 : Shape := ⟨2, ![2048, 1024]⟩
abbrev S8320x2048 : Shape := ⟨2, ![8320, 2048]⟩
abbrev S1664x1024 : Shape := ⟨2, ![1664, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S2048x1024, .bf16⟩
  | .hbm, ⟨2, _⟩ => ⟨S8320x2048, .bf16⟩
  | .local _ .vmem, ⟨0, _⟩ => ⟨S1664x1024, .bf16⟩
  | .local _ .vmem, ⟨1, _⟩ => ⟨S1664x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1664x1024, .bf16⟩
  | .local _ .vmem, ⟨5, _⟩ => ⟨S1664x1024, .bf16⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8320x1024 : Shape := ⟨2, ![8320, 1024]⟩
abbrev S2048x1024 : Shape := ⟨2, ![2048, 1024]⟩
abbrev S_ : Shape := ⟨0, ![]⟩
abbrev S8320x2048 : Shape := ⟨2, ![8320, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S2048x1024, .bf16⟩
  | .hbm, ⟨2, _⟩ => ⟨S_, .bf16⟩
  | .hbm, ⟨3, _⟩ => ⟨S8320x2048, .bf16⟩
  | .hbm, ⟨4, _⟩ => ⟨S8320x2048, .f32⟩
  | .hbm, ⟨5, _⟩ => ⟨S2048x1024, .f32⟩
  | .hbm, ⟨6, _⟩ => ⟨S8320x1024, .f32⟩
  | .hbm, ⟨7, _⟩ => ⟨S8320x1024, .f32⟩
  | .hbm, ⟨8, _⟩ => ⟨S8320x2048, .f32⟩
  | .hbm, ⟨9, _⟩ => ⟨S8320x2048, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S8320x1024 : Shape := ⟨2, ![8320, 1024]⟩
abbrev S1024x2816 : Shape := ⟨2, ![1024, 2816]⟩
abbrev S8320x2816 : Shape := ⟨2, ![8320, 2816]⟩
abbrev S1664x1024 : Shape := ⟨2, ![1664, 1024]⟩
abbrev S1024x1408 : Shape := ⟨2, ![1024, 1408]⟩
abbrev S1664x1408 : Shape := ⟨2, ![1664, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S1024x2816, .bf16⟩
  | .hbm, ⟨2, _⟩ => ⟨S8320x2816, .f32⟩
  | .local _ .vmem, ⟨0, _⟩ => ⟨S1664x1024, .bf16⟩
  | .local _ .vmem, ⟨1, _⟩ => ⟨S1664x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1664x1408, .f32⟩
  | .local _ .vmem, ⟨5, _⟩ => ⟨S1664x1408, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8320x1024 : Shape := ⟨2, ![8320, 1024]⟩
abbrev S1024x2816 : Shape := ⟨2, ![1024, 2816]⟩
abbrev S8320x2816 : Shape := ⟨2, ![8320, 2816]⟩

abbrev nBuf : Space → Nat
  | .hbm => 5
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x2816, .bf16⟩
  | .hbm, ⟨2, _⟩ => ⟨S8320x1024, .f32⟩
  | .hbm, ⟨3, _⟩ => ⟨S1024x2816, .f32⟩
  | .hbm, ⟨4, _⟩ => ⟨S8320x2816, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel14.lean ====
abbrev S8320x2816 : Shape := ⟨2, ![8320, 2816]⟩
abbrev S2816x1024 : Shape := ⟨2, ![2816, 1024]⟩
abbrev S8320x1024 : Shape := ⟨2, ![8320, 1024]⟩
abbrev S1664x1408 : Shape := ⟨2, ![1664, 1408]⟩
abbrev S1408x512 : Shape := ⟨2, ![1408, 512]⟩
abbrev S1664x512 : Shape := ⟨2, ![1664, 512]⟩

abbrev nBuf : Space → Nat
  | .hbm => 3
  | .vmem => 7
  | .smem => 0
  | _ => 0

abbrev bufTy : (tb : Table) → Fin (tcTables nBuf tb) → BufTy
  | .hbm, ⟨0, _⟩ => ⟨S8320x2816, .bf16⟩
  | .hbm, ⟨1, _⟩ => ⟨S2816x1024, .bf16⟩
  | .hbm, ⟨2, _⟩ => ⟨S8320x1024, .f32⟩
  | .local _ .vmem, ⟨0, _⟩ => ⟨S1664x1408, .bf16⟩
  | .local _ .vmem, ⟨1, _⟩ => ⟨S1664x1408, .bf16⟩
  | .local _ .vmem, ⟨2, _⟩ => ⟨S1408x512, .bf16⟩
  | .local _ .vmem, ⟨3, _⟩ => ⟨S1408x512, .bf16⟩
  | .local _ .vmem, ⟨4, _⟩ => ⟨S1664x512, .f32⟩
  | .local _ .vmem, ⟨5, _⟩ => ⟨S1664x512, .f32⟩
  | .local _ .vmem, ⟨6, _⟩ => ⟨S1664x512, .f32⟩
  | _, _ => ⟨S8320x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8320x2816 : Shape := ⟨2, ![8320, 2816]⟩
abbrev S2816x1024 : Shape := ⟨2, ![2816, 1024]⟩
abbrev S8320x1024 : Shape := ⟨2, ![8320, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8320x2816, .bf16⟩
  | .hbm, ⟨1, _⟩ => ⟨S2816x1024, .bf16⟩
  | .hbm, ⟨2, _⟩ => ⟨S8320x2816, .f32⟩
  | .hbm, ⟨3, _⟩ => ⟨S2816x1024, .f32⟩
  | .hbm, ⟨4, _⟩ => ⟨S8320x1024, .f32⟩
  | _, _ => ⟨S8320x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S8320x2048 : Shape := ⟨2, ![8320, 2048]⟩
abbrev S2048x1024 : Shape := ⟨2, ![2048, 1024]⟩
abbrev S8320x1024 : Shape := ⟨2, ![8320, 1024]⟩
abbrev S1664x1024 : Shape := ⟨2, ![1664, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S2048x1024, .bf16⟩
  | .hbm, ⟨2, _⟩ => ⟨S8320x1024, .f32⟩
  | .local _ .vmem, ⟨0, _⟩ => ⟨S1664x1024, .bf16⟩
  | .local _ .vmem, ⟨1, _⟩ => ⟨S1664x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1664x1024, .f32⟩
  | .local _ .vmem, ⟨5, _⟩ => ⟨S1664x1024, .f32⟩
  | .local _ .vmem, ⟨6, _⟩ => ⟨S1664x1024, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8320x2048 : Shape := ⟨2, ![8320, 2048]⟩
abbrev S2048x1024 : Shape := ⟨2, ![2048, 1024]⟩
abbrev S8320x1024 : Shape := ⟨2, ![8320, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x1024, .bf16⟩
  | .hbm, ⟨2, _⟩ => ⟨S8320x2048, .f32⟩
  | .hbm, ⟨3, _⟩ => ⟨S2048x1024, .f32⟩
  | .hbm, ⟨4, _⟩ => ⟨S8320x1024, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel16.lean ====
abbrev S8320x1024 : Shape := ⟨2, ![8320, 1024]⟩
abbrev S1024x1024 : Shape := ⟨2, ![1024, 1024]⟩
abbrev S1664x1024 : Shape := ⟨2, ![1664, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S8320x1024, .f32⟩
  | .local _ .vmem, ⟨0, _⟩ => ⟨S1664x1024, .bf16⟩
  | .local _ .vmem, ⟨1, _⟩ => ⟨S1664x1024, .bf16⟩
  | .local _ .vmem, ⟨2, _⟩ => ⟨S1024x1024, .bf16⟩
  | .local _ .vmem, ⟨3, _⟩ => ⟨S1664x1024, .f32⟩
  | .local _ .vmem, ⟨4, _⟩ => ⟨S1664x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![5, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1664x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8320x1024 : Shape := ⟨2, ![8320, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S8320x1024, .f32⟩
  | .hbm, ⟨3, _⟩ => ⟨S1024x1024, .f32⟩
  | .hbm, ⟨4, _⟩ => ⟨S8320x1024, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel17.lean ====
abbrev S8320x1024 : Shape := ⟨2, ![8320, 1024]⟩
abbrev S8448x1024 : Shape := ⟨2, ![8448, 1024]⟩
abbrev S8320x8448 : Shape := ⟨2, ![8320, 8448]⟩
abbrev S1664x1024 : Shape := ⟨2, ![1664, 1024]⟩
abbrev S768x1024 : Shape := ⟨2, ![768, 1024]⟩
abbrev S1664x768 : Shape := ⟨2, ![1664, 768]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S8448x1024, .bf16⟩
  | .hbm, ⟨2, _⟩ => ⟨S8320x8448, .f32⟩
  | .local _ .vmem, ⟨0, _⟩ => ⟨S1664x1024, .bf16⟩
  | .local _ .vmem, ⟨1, _⟩ => ⟨S1664x1024, .bf16⟩
  | .local _ .vmem, ⟨2, _⟩ => ⟨S768x1024, .bf16⟩
  | .local _ .vmem, ⟨3, _⟩ => ⟨S768x1024, .bf16⟩
  | .local _ .vmem, ⟨4, _⟩ => ⟨S1664x768, .f32⟩
  | .local _ .vmem, ⟨5, _⟩ => ⟨S1664x768, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8320x1024 : Shape := ⟨2, ![8320, 1024]⟩
abbrev S8448x1024 : Shape := ⟨2, ![8448, 1024]⟩
abbrev S1024x8448 : Shape := ⟨2, ![1024, 8448]⟩
abbrev S8320x8448 : Shape := ⟨2, ![8320, 8448]⟩

abbrev nBuf : Space → Nat
  | .hbm => 6
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8448x1024, .bf16⟩
  | .hbm, ⟨2, _⟩ => ⟨S1024x8448, .bf16⟩
  | .hbm, ⟨3, _⟩ => ⟨S8320x1024, .f32⟩
  | .hbm, ⟨4, _⟩ => ⟨S1024x8448, .f32⟩
  | .hbm, ⟨5, _⟩ => ⟨S8320x8448, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel18.lean ====
abbrev S8320x768 : Shape := ⟨2, ![8320, 768]⟩
abbrev S768x2048 : Shape := ⟨2, ![768, 2048]⟩
abbrev S8320x2048 : Shape := ⟨2, ![8320, 2048]⟩
abbrev S1664x768 : Shape := ⟨2, ![1664, 768]⟩
abbrev S768x1024 : Shape := ⟨2, ![768, 1024]⟩
abbrev S1664x1024 : Shape := ⟨2, ![1664, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x768, .bf16⟩
  | .hbm, ⟨1, _⟩ => ⟨S768x2048, .bf16⟩
  | .hbm, ⟨2, _⟩ => ⟨S8320x2048, .f32⟩
  | .local _ .vmem, ⟨0, _⟩ => ⟨S1664x768, .bf16⟩
  | .local _ .vmem, ⟨1, _⟩ => ⟨S1664x768, .bf16⟩
  | .local _ .vmem, ⟨2, _⟩ => ⟨S768x1024, .bf16⟩
  | .local _ .vmem, ⟨3, _⟩ => ⟨S768x1024, .bf16⟩
  | .local _ .vmem, ⟨4, _⟩ => ⟨S1664x1024, .f32⟩
  | .local _ .vmem, ⟨5, _⟩ => ⟨S1664x1024, .f32⟩
  | _, _ => ⟨S8320x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8320x768 : Shape := ⟨2, ![8320, 768]⟩
abbrev S768x2048 : Shape := ⟨2, ![768, 2048]⟩
abbrev S8320x2048 : Shape := ⟨2, ![8320, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8320x768, .bf16⟩
  | .hbm, ⟨1, _⟩ => ⟨S768x2048, .bf16⟩
  | .hbm, ⟨2, _⟩ => ⟨S8320x768, .f32⟩
  | .hbm, ⟨3, _⟩ => ⟨S768x2048, .f32⟩
  | .hbm, ⟨4, _⟩ => ⟨S8320x2048, .f32⟩
  | _, _ => ⟨S8320x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel19.lean ====
abbrev S8320x256 : Shape := ⟨2, ![8320, 256]⟩
abbrev S256x2048 : Shape := ⟨2, ![256, 2048]⟩
abbrev S8320x2048 : Shape := ⟨2, ![8320, 2048]⟩
abbrev S1664x256 : Shape := ⟨2, ![1664, 256]⟩
abbrev S256x1024 : Shape := ⟨2, ![256, 1024]⟩
abbrev S1664x1024 : Shape := ⟨2, ![1664, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x256, .bf16⟩
  | .hbm, ⟨1, _⟩ => ⟨S256x2048, .bf16⟩
  | .hbm, ⟨2, _⟩ => ⟨S8320x2048, .bf16⟩
  | .local _ .vmem, ⟨0, _⟩ => ⟨S1664x256, .bf16⟩
  | .local _ .vmem, ⟨1, _⟩ => ⟨S1664x256, .bf16⟩
  | .local _ .vmem, ⟨2, _⟩ => ⟨S256x1024, .bf16⟩
  | .local _ .vmem, ⟨3, _⟩ => ⟨S256x1024, .bf16⟩
  | .local _ .vmem, ⟨4, _⟩ => ⟨S1664x1024, .bf16⟩
  | .local _ .vmem, ⟨5, _⟩ => ⟨S1664x1024, .bf16⟩
  | _, _ => ⟨S8320x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S8320x256 : Shape := ⟨2, ![8320, 256]⟩
abbrev S256x2048 : Shape := ⟨2, ![256, 2048]⟩
abbrev S8320x2048 : Shape := ⟨2, ![8320, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8320x256, .bf16⟩
  | .hbm, ⟨1, _⟩ => ⟨S256x2048, .bf16⟩
  | .hbm, ⟨2, _⟩ => ⟨S8320x256, .f32⟩
  | .hbm, ⟨3, _⟩ => ⟨S256x2048, .f32⟩
  | .hbm, ⟨4, _⟩ => ⟨S8320x2048, .f32⟩
  | .hbm, ⟨5, _⟩ => ⟨S8320x2048, .bf16⟩
  | _, _ => ⟨S8320x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel20.lean ====
abbrev S8320x768 : Shape := ⟨2, ![8320, 768]⟩
abbrev S8320x2048 : Shape := ⟨2, ![8320, 2048]⟩
abbrev S768x2048 : Shape := ⟨2, ![768, 2048]⟩
abbrev S640x768 : Shape := ⟨2, ![640, 768]⟩
abbrev S640x1024 : Shape := ⟨2, ![640, 1024]⟩
abbrev S768x1024 : Shape := ⟨2, ![768, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x768, .bf16⟩
  | .hbm, ⟨1, _⟩ => ⟨S8320x2048, .bf16⟩
  | .hbm, ⟨2, _⟩ => ⟨S768x2048, .f32⟩
  | .local _ .vmem, ⟨0, _⟩ => ⟨S640x768, .bf16⟩
  | .local _ .vmem, ⟨1, _⟩ => ⟨S640x768, .bf16⟩
  | .local _ .vmem, ⟨2, _⟩ => ⟨S640x1024, .bf16⟩
  | .local _ .vmem, ⟨3, _⟩ => ⟨S640x1024, .bf16⟩
  | .local _ .vmem, ⟨4, _⟩ => ⟨S768x1024, .f32⟩
  | .local _ .vmem, ⟨5, _⟩ => ⟨S768x1024, .f32⟩
  | _, _ => ⟨S8320x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 13], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S8320x768 : Shape := ⟨2, ![8320, 768]⟩
abbrev S8320x2048 : Shape := ⟨2, ![8320, 2048]⟩
abbrev S_ : Shape := ⟨0, ![]⟩
abbrev S768x2048 : Shape := ⟨2, ![768, 2048]⟩
abbrev S2048x768 : Shape := ⟨2, ![2048, 768]⟩

abbrev nBuf : Space → Nat
  | .hbm => 9
  | .vmem => 0
  | .smem => 0
  | _ => 0

abbrev bufTy : (tb : Table) → Fin (tcTables nBuf tb) → BufTy
  | .hbm, ⟨0, _⟩ => ⟨S8320x768, .bf16⟩
  | .hbm, ⟨1, _⟩ => ⟨S8320x2048, .bf16⟩
  | .hbm, ⟨2, _⟩ => ⟨S_, .f32⟩
  | .hbm, ⟨3, _⟩ => ⟨S768x2048, .f32⟩
  | .hbm, ⟨4, _⟩ => ⟨S8320x768, .f32⟩
  | .hbm, ⟨5, _⟩ => ⟨S8320x2048, .f32⟩
  | .hbm, ⟨6, _⟩ => ⟨S8320x2048, .f32⟩
  | .hbm, ⟨7, _⟩ => ⟨S2048x768, .f32⟩
  | .hbm, ⟨8, _⟩ => ⟨S768x2048, .f32⟩
  | _, _ => ⟨S8320x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel21.lean ====
abbrev S8320x256 : Shape := ⟨2, ![8320, 256]⟩
abbrev S8320x2048 : Shape := ⟨2, ![8320, 2048]⟩
abbrev S256x2048 : Shape := ⟨2, ![256, 2048]⟩
abbrev S640x256 : Shape := ⟨2, ![640, 256]⟩
abbrev S640x1024 : Shape := ⟨2, ![640, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x256, .bf16⟩
  | .hbm, ⟨1, _⟩ => ⟨S8320x2048, .bf16⟩
  | .hbm, ⟨2, _⟩ => ⟨S256x2048, .f32⟩
  | .local _ .vmem, ⟨0, _⟩ => ⟨S640x256, .bf16⟩
  | .local _ .vmem, ⟨1, _⟩ => ⟨S640x256, .bf16⟩
  | .local _ .vmem, ⟨2, _⟩ => ⟨S640x1024, .bf16⟩
  | .local _ .vmem, ⟨3, _⟩ => ⟨S640x1024, .bf16⟩
  | .local _ .vmem, ⟨4, _⟩ => ⟨S256x1024, .f32⟩
  | .local _ .vmem, ⟨5, _⟩ => ⟨S256x1024, .f32⟩
  | _, _ => ⟨S8320x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 13], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S8320x256 : Shape := ⟨2, ![8320, 256]⟩
abbrev S8320x2048 : Shape := ⟨2, ![8320, 2048]⟩
abbrev S_ : Shape := ⟨0, ![]⟩
abbrev S256x2048 : Shape := ⟨2, ![256, 2048]⟩
abbrev S2048x256 : Shape := ⟨2, ![2048, 256]⟩

abbrev nBuf : Space → Nat
  | .hbm => 9
  | .vmem => 0
  | .smem => 0
  | _ => 0

abbrev bufTy : (tb : Table) → Fin (tcTables nBuf tb) → BufTy
  | .hbm, ⟨0, _⟩ => ⟨S8320x256, .bf16⟩
  | .hbm, ⟨1, _⟩ => ⟨S8320x2048, .bf16⟩
  | .hbm, ⟨2, _⟩ => ⟨S_, .f32⟩
  | .hbm, ⟨3, _⟩ => ⟨S256x2048, .f32⟩
  | .hbm, ⟨4, _⟩ => ⟨S8320x256, .f32⟩
  | .hbm, ⟨5, _⟩ => ⟨S8320x2048, .f32⟩
  | .hbm, ⟨6, _⟩ => ⟨S8320x2048, .f32⟩
  | .hbm, ⟨7, _⟩ => ⟨S2048x256, .f32⟩
  | .hbm, ⟨8, _⟩ => ⟨S256x2048, .f32⟩
  | _, _ => ⟨S8320x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel22.lean ====
abbrev S8320x2048 : Shape := ⟨2, ![8320, 2048]⟩
abbrev S768x2048 : Shape := ⟨2, ![768, 2048]⟩
abbrev S8320x768 : Shape := ⟨2, ![8320, 768]⟩
abbrev S1664x1024 : Shape := ⟨2, ![1664, 1024]⟩
abbrev S768x1024 : Shape := ⟨2, ![768, 1024]⟩
abbrev S1664x768 : Shape := ⟨2, ![1664, 768]⟩

abbrev nBuf : Space → Nat
  | .hbm => 3
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S768x2048, .bf16⟩
  | .hbm, ⟨2, _⟩ => ⟨S8320x768, .bf16⟩
  | .local _ .vmem, ⟨0, _⟩ => ⟨S1664x1024, .bf16⟩
  | .local _ .vmem, ⟨1, _⟩ => ⟨S1664x1024, .bf16⟩
  | .local _ .vmem, ⟨2, _⟩ => ⟨S768x1024, .bf16⟩
  | .local _ .vmem, ⟨3, _⟩ => ⟨S768x1024, .bf16⟩
  | .local _ .vmem, ⟨4, _⟩ => ⟨S1664x768, .bf16⟩
  | .local _ .vmem, ⟨5, _⟩ => ⟨S1664x768, .bf16⟩
  | .local _ .vmem, ⟨6, _⟩ => ⟨S1664x768, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S8320x2048 : Shape := ⟨2, ![8320, 2048]⟩
abbrev S768x2048 : Shape := ⟨2, ![768, 2048]⟩
abbrev S_ : Shape := ⟨0, ![]⟩
abbrev S8320x768 : Shape := ⟨2, ![8320, 768]⟩

abbrev nBuf : Space → Nat
  | .hbm => 10
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S768x2048, .bf16⟩
  | .hbm, ⟨2, _⟩ => ⟨S_, .bf16⟩
  | .hbm, ⟨3, _⟩ => ⟨S8320x768, .bf16⟩
  | .hbm, ⟨4, _⟩ => ⟨S8320x768, .f32⟩
  | .hbm, ⟨5, _⟩ => ⟨S768x2048, .f32⟩
  | .hbm, ⟨6, _⟩ => ⟨S8320x2048, .f32⟩
  | .hbm, ⟨7, _⟩ => ⟨S8320x2048, .f32⟩
  | .hbm, ⟨8, _⟩ => ⟨S8320x768, .f32⟩
  | .hbm, ⟨9, _⟩ => ⟨S8320x768, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel23.lean ====
abbrev S8320x2048 : Shape := ⟨2, ![8320, 2048]⟩
abbrev S256x2048 : Shape := ⟨2, ![256, 2048]⟩
abbrev S8320x256 : Shape := ⟨2, ![8320, 256]⟩
abbrev S1664x1024 : Shape := ⟨2, ![1664, 1024]⟩
abbrev S256x1024 : Shape := ⟨2, ![256, 1024]⟩
abbrev S1664x256 : Shape := ⟨2, ![1664, 256]⟩

abbrev nBuf : Space → Nat
  | .hbm => 3
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S256x2048, .bf16⟩
  | .hbm, ⟨2, _⟩ => ⟨S8320x256, .bf16⟩
  | .local _ .vmem, ⟨0, _⟩ => ⟨S1664x1024, .bf16⟩
  | .local _ .vmem, ⟨1, _⟩ => ⟨S1664x1024, .bf16⟩
  | .local _ .vmem, ⟨2, _⟩ => ⟨S256x1024, .bf16⟩
  | .local _ .vmem, ⟨3, _⟩ => ⟨S256x1024, .bf16⟩
  | .local _ .vmem, ⟨4, _⟩ => ⟨S1664x256, .bf16⟩
  | .local _ .vmem, ⟨5, _⟩ => ⟨S1664x256, .bf16⟩
  | .local _ .vmem, ⟨6, _⟩ => ⟨S1664x256, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S8320x2048 : Shape := ⟨2, ![8320, 2048]⟩
abbrev S256x2048 : Shape := ⟨2, ![256, 2048]⟩
abbrev S_ : Shape := ⟨0, ![]⟩
abbrev S8320x256 : Shape := ⟨2, ![8320, 256]⟩

abbrev nBuf : Space → Nat
  | .hbm => 10
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S256x2048, .bf16⟩
  | .hbm, ⟨2, _⟩ => ⟨S_, .bf16⟩
  | .hbm, ⟨3, _⟩ => ⟨S8320x256, .bf16⟩
  | .hbm, ⟨4, _⟩ => ⟨S8320x256, .f32⟩
  | .hbm, ⟨5, _⟩ => ⟨S256x2048, .f32⟩
  | .hbm, ⟨6, _⟩ => ⟨S8320x2048, .f32⟩
  | .hbm, ⟨7, _⟩ => ⟨S8320x2048, .f32⟩
  | .hbm, ⟨8, _⟩ => ⟨S8320x256, .f32⟩
  | .hbm, ⟨9, _⟩ => ⟨S8320x256, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel24.lean ====
abbrev S8320x768 : Shape := ⟨2, ![8320, 768]⟩
abbrev S8320x256 : Shape := ⟨2, ![8320, 256]⟩
abbrev S8320x1024 : Shape := ⟨2, ![8320, 1024]⟩
abbrev S8320x128 : Shape := ⟨2, ![8320, 128]⟩
abbrev S768x1024 : Shape := ⟨2, ![768, 1024]⟩
abbrev S256x1024 : Shape := ⟨2, ![256, 1024]⟩
abbrev S1024x1024 : Shape := ⟨2, ![1024, 1024]⟩
abbrev S128x1024 : Shape := ⟨2, ![128, 1024]⟩
abbrev S640x768 : Shape := ⟨2, ![640, 768]⟩
abbrev S640x256 : Shape := ⟨2, ![640, 256]⟩
abbrev S640x1024 : Shape := ⟨2, ![640, 1024]⟩
abbrev S640x128 : Shape := ⟨2, ![640, 128]⟩

abbrev nBuf : Space → Nat
  | .hbm => 14
  | .vmem => 22
  | .smem => 0
  | _ => 0

abbrev bufTy : (tb : Table) → Fin (tcTables nBuf tb) → BufTy
  | .hbm, ⟨0, _⟩ => ⟨S8320x768, .bf16⟩
  | .hbm, ⟨1, _⟩ => ⟨S8320x256, .bf16⟩
  | .hbm, ⟨2, _⟩ => ⟨S8320x1024, .bf16⟩
  | .hbm, ⟨3, _⟩ => ⟨S8320x1024, .bf16⟩
  | .hbm, ⟨4, _⟩ => ⟨S8320x128, .bf16⟩
  | .hbm, ⟨5, _⟩ => ⟨S8320x128, .bf16⟩
  | .hbm, ⟨6, _⟩ => ⟨S768x1024, .bf16⟩
  | .hbm, ⟨7, _⟩ => ⟨S256x1024, .bf16⟩
  | .hbm, ⟨8, _⟩ => ⟨S1024x1024, .bf16⟩
  | .hbm, ⟨9, _⟩ => ⟨S1024x1024, .bf16⟩
  | .hbm, ⟨10, _⟩ => ⟨S128x1024, .bf16⟩
  | .hbm, ⟨11, _⟩ => ⟨S128x1024, .bf16⟩
  | .hbm, ⟨12, _⟩ => ⟨S8320x1024, .f32⟩
  | .hbm, ⟨13, _⟩ => ⟨S8320x1024, .f32⟩
  | .local _ .vmem, ⟨0, _⟩ => ⟨S640x768, .bf16⟩
  | .local _ .vmem, ⟨1, _⟩ => ⟨S640x768, .bf16⟩
  | .local _ .vmem, ⟨2, _⟩ => ⟨S640x256, .bf16⟩
  | .local _ .vmem, ⟨3, _⟩ => ⟨S640x256, .bf16⟩
  | .local _ .vmem, ⟨4, _⟩ => ⟨S640x1024, .bf16⟩
  | .local _ .vmem, ⟨5, _⟩ => ⟨S640x1024, .bf16⟩
  | .local _ .vmem, ⟨6, _⟩ => ⟨S640x1024, .bf16⟩
  | .local _ .vmem, ⟨7, _⟩ => ⟨S640x1024, .bf16⟩
  | .local _ .vmem, ⟨8, _⟩ => ⟨S640x128, .bf16⟩
  | .local _ .vmem, ⟨9, _⟩ => ⟨S640x128, .bf16⟩
  | .local _ .vmem, ⟨10, _⟩ => ⟨S640x128, .bf16⟩
  | .local _ .vmem, ⟨11, _⟩ => ⟨S640x128, .bf16⟩
  | .local _ .vmem, ⟨12, _⟩ => ⟨S768x1024, .bf16⟩
  | .local _ .vmem, ⟨13, _⟩ => ⟨S256x1024, .bf16⟩
  | .local _ .vmem, ⟨14, _⟩ => ⟨S1024x1024, .bf16⟩
  | .local _ .vmem, ⟨15, _⟩ => ⟨S1024x1024, .bf16⟩
  | .local _ .vmem, ⟨16, _⟩ => ⟨S128x1024, .bf16⟩
  | .local _ .vmem, ⟨17, _⟩ => ⟨S128x1024, .bf16⟩
  | .local _ .vmem, ⟨18, _⟩ => ⟨S640x1024, .f32⟩
  | .local _ .vmem, ⟨19, _⟩ => ⟨S640x1024, .f32⟩
  | .local _ .vmem, ⟨20, _⟩ => ⟨S640x1024, .f32⟩
  | .local _ .vmem, ⟨21, _⟩ => ⟨S640x1024, .f32⟩
  | _, _ => ⟨S8320x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S768x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S640x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S640x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference24Ideal.lean ====
abbrev S8320x768 : Shape := ⟨2, ![8320, 768]⟩
abbrev S8320x256 : Shape := ⟨2, ![8320, 256]⟩
abbrev S8320x1024 : Shape := ⟨2, ![8320, 1024]⟩
abbrev S8320x128 : Shape := ⟨2, ![8320, 128]⟩
abbrev S768x1024 : Shape := ⟨2, ![768, 1024]⟩
abbrev S256x1024 : Shape := ⟨2, ![256, 1024]⟩
abbrev S1024x1024 : Shape := ⟨2, ![1024, 1024]⟩
abbrev S128x1024 : Shape := ⟨2, ![128, 1024]⟩
abbrev S_ : Shape := ⟨0, ![]⟩
abbrev S1024x768 : Shape := ⟨2, ![1024, 768]⟩
abbrev S1024x256 : Shape := ⟨2, ![1024, 256]⟩
abbrev S1024x128 : Shape := ⟨2, ![1024, 128]⟩

abbrev nBuf : Space → Nat
  | .hbm => 51
  | .vmem => 0
  | .smem => 0
  | _ => 0

abbrev bufTy : (tb : Table) → Fin (tcTables nBuf tb) → BufTy
  | .hbm, ⟨0, _⟩ => ⟨S8320x768, .bf16⟩
  | .hbm, ⟨1, _⟩ => ⟨S8320x256, .bf16⟩
  | .hbm, ⟨2, _⟩ => ⟨S8320x1024, .bf16⟩
  | .hbm, ⟨3, _⟩ => ⟨S8320x1024, .bf16⟩
  | .hbm, ⟨4, _⟩ => ⟨S8320x128, .bf16⟩
  | .hbm, ⟨5, _⟩ => ⟨S8320x128, .bf16⟩
  | .hbm, ⟨6, _⟩ => ⟨S768x1024, .bf16⟩
  | .hbm, ⟨7, _⟩ => ⟨S256x1024, .bf16⟩
  | .hbm, ⟨8, _⟩ => ⟨S1024x1024, .bf16⟩
  | .hbm, ⟨9, _⟩ => ⟨S1024x1024, .bf16⟩
  | .hbm, ⟨10, _⟩ => ⟨S128x1024, .bf16⟩
  | .hbm, ⟨11, _⟩ => ⟨S128x1024, .bf16⟩
  | .hbm, ⟨12, _⟩ => ⟨S8320x1024, .f32⟩
  | .hbm, ⟨13, _⟩ => ⟨S_, .f32⟩
  | .hbm, ⟨14, _⟩ => ⟨S8320x1024, .f32⟩
  | .hbm, ⟨15, _⟩ => ⟨S1024x768, .bf16⟩
  | .hbm, ⟨16, _⟩ => ⟨S1024x768, .f32⟩
  | .hbm, ⟨17, _⟩ => ⟨S8320x768, .f32⟩
  | .hbm, ⟨18, _⟩ => ⟨S1024x256, .bf16⟩
  | .hbm, ⟨19, _⟩ => ⟨S1024x256, .f32⟩
  | .hbm, ⟨20, _⟩ => ⟨S8320x256, .f32⟩
  | .hbm, ⟨21, _⟩ => ⟨S1024x1024, .bf16⟩
  | .hbm, ⟨22, _⟩ => ⟨S1024x1024, .f32⟩
  | .hbm, ⟨23, _⟩ => ⟨S8320x1024, .f32⟩
  | .hbm, ⟨24, _⟩ => ⟨S1024x1024, .bf16⟩
  | .hbm, ⟨25, _⟩ => ⟨S1024x1024, .f32⟩
  | .hbm, ⟨26, _⟩ => ⟨S8320x1024, .f32⟩
  | .hbm, ⟨27, _⟩ => ⟨S1024x128, .bf16⟩
  | .hbm, ⟨28, _⟩ => ⟨S1024x128, .f32⟩
  | .hbm, ⟨29, _⟩ => ⟨S8320x128, .f32⟩
  | .hbm, ⟨30, _⟩ => ⟨S1024x128, .bf16⟩
  | .hbm, ⟨31, _⟩ => ⟨S1024x128, .f32⟩
  | .hbm, ⟨32, _⟩ => ⟨S8320x128, .f32⟩
  | .hbm, ⟨33, _⟩ => ⟨S8320x768, .f32⟩
  | .hbm, ⟨34, _⟩ => ⟨S8320x256, .f32⟩
  | .hbm, ⟨35, _⟩ => ⟨S8320x1024, .f32⟩
  | .hbm, ⟨36, _⟩ => ⟨S8320x1024, .f32⟩
  | .hbm, ⟨37, _⟩ => ⟨S8320x128, .f32⟩
  | .hbm, ⟨38, _⟩ => ⟨S8320x128, .f32⟩
  | .hbm, ⟨39, _⟩ => ⟨S8320x1024, .f32⟩
  | .hbm, ⟨40, _⟩ => ⟨S8320x1024, .f32⟩
  | .hbm, ⟨41, _⟩ => ⟨S8320x1024, .f32⟩
  | .hbm, ⟨42, _⟩ => ⟨S8320x1024, .f32⟩
  | .hbm, ⟨43, _⟩ => ⟨S8320x1024, .f32⟩
  | .hbm, ⟨44, _⟩ => ⟨S8320x1024, .f32⟩
  | .hbm, ⟨45, _⟩ => ⟨S8320x1024, .f32⟩
  | .hbm, ⟨46, _⟩ => ⟨S8320x1024, .f32⟩
  | .hbm, ⟨47, _⟩ => ⟨S8320x1024, .f32⟩
  | .hbm, ⟨48, _⟩ => ⟨S8320x1024, .f32⟩
  | .hbm, ⟨49, _⟩ => ⟨S8320x1024, .f32⟩
  | .hbm, ⟨50, _⟩ => ⟨S8320x1024, .f32⟩
  | _, _ => ⟨S8320x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== Kernel25.lean ====
abbrev S8320x1024 : Shape := ⟨2, ![8320, 1024]⟩
abbrev S_ : Shape := ⟨0, ![]⟩
abbrev S8320x6144 : Shape := ⟨2, ![8320, 6144]⟩
abbrev S8320x256 : Shape := ⟨2, ![8320, 256]⟩
abbrev S8320x8448 : Shape := ⟨2, ![8320, 8448]⟩
abbrev S640x1024 : Shape := ⟨2, ![640, 1024]⟩

abbrev nBuf : Space → Nat
  | .hbm => 14
  | .vmem => 18
  | .smem => 0
  | _ => 0

abbrev bufTy : (tb : Table) → Fin (tcTables nBuf tb) → BufTy
  | .hbm, ⟨0, _⟩ => ⟨S8320x1024, .f32⟩
  | .hbm, ⟨1, _⟩ => ⟨S8320x1024, .f32⟩
  | .hbm, ⟨2, _⟩ => ⟨S8320x1024, .f32⟩
  | .hbm, ⟨3, _⟩ => ⟨S8320x1024, .f32⟩
  | .hbm, ⟨4, _⟩ => ⟨S8320x1024, .f32⟩
  | .hbm, ⟨5, _⟩ => ⟨S_, .f32⟩
  | .hbm, ⟨6, _⟩ => ⟨S8320x6144, .f32⟩
  | .hbm, ⟨7, _⟩ => ⟨S_, .f32⟩
  | .hbm, ⟨8, _⟩ => ⟨S8320x256, .f32⟩
  | .hbm, ⟨9, _⟩ => ⟨S8320x8448, .f32⟩
  | .hbm, ⟨10, _⟩ => ⟨S8320x1024, .bf16⟩
  | .hbm, ⟨11, _⟩ => ⟨S8320x1024, .bf16⟩
  | .hbm, ⟨12, _⟩ => ⟨S8320x1024, .bf16⟩
  | .hbm, ⟨13, _⟩ => ⟨S8320x1024, .bf16⟩
  | .local _ .vmem, ⟨0, _⟩ => ⟨S640x1024, .f32⟩
  | .local _ .vmem, ⟨1, _⟩ => ⟨S640x1024, .f32⟩
  | .local _ .vmem, ⟨2, _⟩ => ⟨S640x1024, .f32⟩
  | .local _ .vmem, ⟨3, _⟩ => ⟨S640x1024, .f32⟩
  | .local _ .vmem, ⟨4, _⟩ => ⟨S640x1024, .f32⟩
  | .local _ .vmem, ⟨5, _⟩ => ⟨S640x1024, .f32⟩
  | .local _ .vmem, ⟨6, _⟩ => ⟨S640x1024, .f32⟩
  | .local _ .vmem, ⟨7, _⟩ => ⟨S640x1024, .f32⟩
  | .local _ .vmem, ⟨8, _⟩ => ⟨S640x1024, .f32⟩
  | .local _ .vmem, ⟨9, _⟩ => ⟨S640x1024, .f32⟩
  | .local _ .vmem, ⟨10, _⟩ => ⟨S640x1024, .bf16⟩
  | .local _ .vmem, ⟨11, _⟩ => ⟨S640x1024, .bf16⟩
  | .local _ .vmem, ⟨12, _⟩ => ⟨S640x1024, .bf16⟩
  | .local _ .vmem, ⟨13, _⟩ => ⟨S640x1024, .bf16⟩
  | .local _ .vmem, ⟨14, _⟩ => ⟨S640x1024, .bf16⟩
  | .local _ .vmem, ⟨15, _⟩ => ⟨S640x1024, .bf16⟩
  | .local _ .vmem, ⟨16, _⟩ => ⟨S640x1024, .bf16⟩
  | .local _ .vmem, ⟨17, _⟩ => ⟨S640x1024, .bf16⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S640x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S640x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S640x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference25Ideal.lean ====
abbrev S8320x1024 : Shape := ⟨2, ![8320, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8320x1024, .f32⟩
  | .hbm, ⟨2, _⟩ => ⟨S8320x1024, .f32⟩
  | .hbm, ⟨3, _⟩ => ⟨S8320x1024, .f32⟩
  | .hbm, ⟨4, _⟩ => ⟨S8320x1024, .f32⟩
  | .hbm, ⟨5, _⟩ => ⟨S8320x1024, .f32⟩
  | .hbm, ⟨6, _⟩ => ⟨S8320x1024, .f32⟩
  | .hbm, ⟨7, _⟩ => ⟨S_, .f32⟩
  | .hbm, ⟨8, _⟩ => ⟨S8320x1024, .f32⟩
  | .hbm, ⟨9, _⟩ => ⟨S8320x1024, .f32⟩
  | .hbm, ⟨10, _⟩ => ⟨S_, .f32⟩
  | .hbm, ⟨11, _⟩ => ⟨S8320x1024, .f32⟩
  | .hbm, ⟨12, _⟩ => ⟨S8320x1024, .f32⟩
  | .hbm, ⟨13, _⟩ => ⟨S_, .f32⟩
  | .hbm, ⟨14, _⟩ => ⟨S8320x1024, .f32⟩
  | .hbm, ⟨15, _⟩ => ⟨S8320x1024, .f32⟩
  | .hbm, ⟨16, _⟩ => ⟨S8320x1024, .f32⟩
  | .hbm, ⟨17, _⟩ => ⟨S8320x1024, .f32⟩
  | .hbm, ⟨18, _⟩ => ⟨S8320x1024, .f32⟩
  | .hbm, ⟨19, _⟩ => ⟨S8320x1024, .f32⟩
  | .hbm, ⟨20, _⟩ => ⟨S_, .f32⟩
  | .hbm, ⟨21, _⟩ => ⟨S8320x1024, .f32⟩
  | .hbm, ⟨22, _⟩ => ⟨S8320x1024, .f32⟩
  | .hbm, ⟨23, _⟩ => ⟨S_, .f32⟩
  | .hbm, ⟨24, _⟩ => ⟨S8320x1024, .f32⟩
  | .hbm, ⟨25, _⟩ => ⟨S8320x1024, .f32⟩
  | .hbm, ⟨26, _⟩ => ⟨S_, .f32⟩
  | .hbm, ⟨27, _⟩ => ⟨S8320x1024, .f32⟩
  | .hbm, ⟨28, _⟩ => ⟨S8320x1024, .f32⟩
  | .hbm, ⟨29, _⟩ => ⟨S8320x1024, .f32⟩
  | .hbm, ⟨30, _⟩ => ⟨S8320x1024, .f32⟩
  | .hbm, ⟨31, _⟩ => ⟨S8320x1024, .f32⟩
  | .hbm, ⟨32, _⟩ => ⟨S8320x1024, .f32⟩
  | .hbm, ⟨33, _⟩ => ⟨S8320x1024, .f32⟩
  | .hbm, ⟨34, _⟩ => ⟨S8320x1024, .f32⟩
  | .hbm, ⟨35, _⟩ => ⟨S8320x1024, .f32⟩
  | .hbm, ⟨36, _⟩ => ⟨S8320x1024, .f32⟩
  | .hbm, ⟨37, _⟩ => ⟨S8320x1024, .f32⟩
  | .hbm, ⟨38, _⟩ => ⟨S8320x1024, .f32⟩
  | .hbm, ⟨39, _⟩ => ⟨S8320x1024, .f32⟩
  | .hbm, ⟨40, _⟩ => ⟨S8320x1024, .bf16⟩
  | .hbm, ⟨41, _⟩ => ⟨S8320x1024, .bf16⟩
  | .hbm, ⟨42, _⟩ => ⟨S8320x1024, .bf16⟩
  | .hbm, ⟨43, _⟩ => ⟨S8320x1024, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Kernel26.lean ====
abbrev S8320x2816 : Shape := ⟨2, ![8320, 2816]⟩
abbrev S3x2816 : Shape := ⟨2, ![3, 2816]⟩
abbrev S640x1408 : Shape := ⟨2, ![640, 1408]⟩
abbrev S8x1408 : Shape := ⟨2, ![8, 1408]⟩
abbrev S3x1408 : Shape := ⟨2, ![3, 1408]⟩
abbrev S648x1408 : Shape := ⟨2, ![648, 1408]⟩
abbrev S1x1408 : Shape := ⟨2, ![1, 1408]⟩

abbrev nBuf : Space → Nat
  | .hbm => 3
  | .vmem => 9
  | .smem => 0
  | _ => 0

abbrev bufTy : (tb : Table) → Fin (tcTables nBuf tb) → BufTy
  | .hbm, ⟨0, _⟩ => ⟨S8320x2816, .f32⟩
  | .hbm, ⟨1, _⟩ => ⟨S3x2816, .f32⟩
  | .hbm, ⟨2, _⟩ => ⟨S8320x2816, .bf16⟩
  | .local _ .vmem, ⟨0, _⟩ => ⟨S640x1408, .f32⟩
  | .local _ .vmem, ⟨1, _⟩ => ⟨S640x1408, .f32⟩
  | .local _ .vmem, ⟨2, _⟩ => ⟨S8x1408, .f32⟩
  | .local _ .vmem, ⟨3, _⟩ => ⟨S8x1408, .f32⟩
  | .local _ .vmem, ⟨4, _⟩ => ⟨S3x1408, .f32⟩
  | .local _ .vmem, ⟨5, _⟩ => ⟨S3x1408, .f32⟩
  | .local _ .vmem, ⟨6, _⟩ => ⟨S640x1408, .bf16⟩
  | .local _ .vmem, ⟨7, _⟩ => ⟨S640x1408, .bf16⟩
  | .local _ .vmem, ⟨8, _⟩ => ⟨S648x1408, .f32⟩
  | _, _ => ⟨S8320x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![13, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c80_i32 : BitVec 32 := 80#32
  let v1 : BitVec 32 := Scalar.muli v0 c80_i32
  let c1039_i32 : BitVec 32 := 1039#32
  let v2 : BitVec 32 := Scalar.minsi v1 c1039_i32
  let c0_i32 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S640x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference26Ideal.lean ====
abbrev S8320x2816 : Shape := ⟨2, ![8320, 2816]⟩
abbrev S3x2816 : Shape := ⟨2, ![3, 2816]⟩
abbrev S_ : Shape := ⟨0, ![]⟩
abbrev S2x2816 : Shape := ⟨2, ![2, 2816]⟩
abbrev S8322x2816 : Shape := ⟨2, ![8322, 2816]⟩
abbrev S1x2816 : Shape := ⟨2, ![1, 2816]⟩
abbrev S2816 : Shape := ⟨1, ![2816]⟩

abbrev nBuf : Space → Nat
  | .hbm => 51
  | .vmem => 0
  | .smem => 0
  | _ => 0

abbrev bufTy : (tb : Table) → Fin (tcTables nBuf tb) → BufTy
  | .hbm, ⟨0, _⟩ => ⟨S8320x2816, .f32⟩
  | .hbm, ⟨1, _⟩ => ⟨S3x2816, .f32⟩
  | .hbm, ⟨2, _⟩ => ⟨S_, .f32⟩
  | .hbm, ⟨3, _⟩ => ⟨S8320x2816, .f32⟩
  | .hbm, ⟨4, _⟩ => ⟨S_, .f32⟩
  | .hbm, ⟨5, _⟩ => ⟨S2x2816, .f32⟩
  | .hbm, ⟨6, _⟩ => ⟨S8322x2816, .f32⟩
  | .hbm, ⟨7, _⟩ => ⟨S_, .f32⟩
  | .hbm, ⟨8, _⟩ => ⟨S2x2816, .f32⟩
  | .hbm, ⟨9, _⟩ => ⟨S1x2816, .f32⟩
  | .hbm, ⟨10, _⟩ => ⟨S2816, .f32⟩
  | .hbm, ⟨11, _⟩ => ⟨S8320x2816, .f32⟩
  | .hbm, ⟨12, _⟩ => ⟨S1x2816, .f32⟩
  | .hbm, ⟨13, _⟩ => ⟨S8320x2816, .f32⟩
  | .hbm, ⟨14, _⟩ => ⟨S8320x2816, .f32⟩
  | .hbm, ⟨15, _⟩ => ⟨S_, .f32⟩
  | .hbm, ⟨16, _⟩ => ⟨S8320x2816, .f32⟩
  | .hbm, ⟨17, _⟩ => ⟨S8320x2816, .f32⟩
  | .hbm, ⟨18, _⟩ => ⟨S1x2816, .f32⟩
  | .hbm, ⟨19, _⟩ => ⟨S2816, .f32⟩
  | .hbm, ⟨20, _⟩ => ⟨S8320x2816, .f32⟩
  | .hbm, ⟨21, _⟩ => ⟨S1x2816, .f32⟩
  | .hbm, ⟨22, _⟩ => ⟨S8320x2816, .f32⟩
  | .hbm, ⟨23, _⟩ => ⟨S8320x2816, .f32⟩
  | .hbm, ⟨24, _⟩ => ⟨S8320x2816, .f32⟩
  | .hbm, ⟨25, _⟩ => ⟨S1x2816, .f32⟩
  | .hbm, ⟨26, _⟩ => ⟨S2816, .f32⟩
  | .hbm, ⟨27, _⟩ => ⟨S8320x2816, .f32⟩
  | .hbm, ⟨28, _⟩ => ⟨S1x2816, .f32⟩
  | .hbm, ⟨29, _⟩ => ⟨S8320x2816, .f32⟩
  | .hbm, ⟨30, _⟩ => ⟨S8320x2816, .f32⟩
  | .hbm, ⟨31, _⟩ => ⟨S8320x2816, .f32⟩
  | .hbm, ⟨32, _⟩ => ⟨S8320x2816, .f32⟩
  | .hbm, ⟨33, _⟩ => ⟨S8320x2816, .f32⟩
  | .hbm, ⟨34, _⟩ => ⟨S8320x2816, .f32⟩
  | .hbm, ⟨35, _⟩ => ⟨S8320x2816, .f32⟩
  | .hbm, ⟨36, _⟩ => ⟨S_, .f32⟩
  | .hbm, ⟨37, _⟩ => ⟨S8322x2816, .f32⟩
  | .hbm, ⟨38, _⟩ => ⟨S8320x2816, .f32⟩
  | .hbm, ⟨39, _⟩ => ⟨S8320x2816, .f32⟩
  | .hbm, ⟨40, _⟩ => ⟨S_, .f32⟩
  | .hbm, ⟨41, _⟩ => ⟨S8322x2816, .f32⟩
  | .hbm, ⟨42, _⟩ => ⟨S8322x2816, .f32⟩
  | .hbm, ⟨43, _⟩ => ⟨S8320x2816, .f32⟩
  | .hbm, ⟨44, _⟩ => ⟨S8320x2816, .f32⟩
  | .hbm, ⟨45, _⟩ => ⟨S_, .f32⟩
  | .hbm, ⟨46, _⟩ => ⟨S8322x2816, .f32⟩
  | .hbm, ⟨47, _⟩ => ⟨S8322x2816, .f32⟩
  | .hbm, ⟨48, _⟩ => ⟨S2x2816, .f32⟩
  | .hbm, ⟨49, _⟩ => ⟨S8320x2816, .f32⟩
  | .hbm, ⟨50, _⟩ => ⟨S8320x2816, .bf16⟩
  | _, _ => ⟨S8320x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_3 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_4 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_5 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩

abbrev nD : Nat := 1
abbrev τ : Topo := Topo.v7x

variable {F : FTy → Type} [FloatOps F]
-- ==== Kernel27.lean ====
abbrev S8320x3072 : Shape := ⟨2, ![8320, 3072]⟩
abbrev S4x3072 : Shape := ⟨2, ![4, 3072]⟩
abbrev S640x1024 : Shape := ⟨2, ![640, 1024]⟩
abbrev S8x1024 : Shape := ⟨2, ![8, 1024]⟩
abbrev S4x1024 : Shape := ⟨2, ![4, 1024]⟩
abbrev S648x1024 : Shape := ⟨2, ![648, 1024]⟩
abbrev S1x1024 : Shape := ⟨2, ![1, 1024]⟩

abbrev nBuf : Space → Nat
  | .hbm => 3
  | .vmem => 9
  | .smem => 0
  | _ => 0

abbrev bufTy : (tb : Table) → Fin (tcTables nBuf tb) → BufTy
  | .hbm, ⟨0, _⟩ => ⟨S8320x3072, .f32⟩
  | .hbm, ⟨1, _⟩ => ⟨S4x3072, .f32⟩
  | .hbm, ⟨2, _⟩ => ⟨S8320x3072, .bf16⟩
  | .local _ .vmem, ⟨0, _⟩ => ⟨S640x1024, .f32⟩
  | .local _ .vmem, ⟨1, _⟩ => ⟨S640x1024, .f32⟩
  | .local _ .vmem, ⟨2, _⟩ => ⟨S8x1024, .f32⟩
  | .local _ .vmem, ⟨3, _⟩ => ⟨S8x1024, .f32⟩
  | .local _ .vmem, ⟨4, _⟩ => ⟨S4x1024, .f32⟩
  | .local _ .vmem, ⟨5, _⟩ => ⟨S4x1024, .f32⟩
  | .local _ .vmem, ⟨6, _⟩ => ⟨S640x1024, .bf16⟩
  | .local _ .vmem, ⟨7, _⟩ => ⟨S640x1024, .bf16⟩
  | .local _ .vmem, ⟨8, _⟩ => ⟨S648x1024, .f32⟩
  | _, _ => ⟨S8320x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![13, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c80_i32 : BitVec 32 := 80#32
  let v1 : BitVec 32 := Scalar.muli v0 c80_i32
  let c1039_i32 : BitVec 32 := 1039#32
  let v2 : BitVec 32 := Scalar.minsi v1 c1039_i32
  let c0_i32 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S640x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference27Ideal.lean ====
abbrev S8320x3072 : Shape := ⟨2, ![8320, 3072]⟩
abbrev S4x3072 : Shape := ⟨2, ![4, 3072]⟩
abbrev S_ : Shape := ⟨0, ![]⟩
abbrev S3x3072 : Shape := ⟨2, ![3, 3072]⟩
abbrev S8323x3072 : Shape := ⟨2, ![8323, 3072]⟩
abbrev S1x3072 : Shape := ⟨2, ![1, 3072]⟩
abbrev S3072 : Shape := ⟨1, ![3072]⟩

abbrev nBuf : Space → Nat
  | .hbm => 63
  | .vmem => 0
  | .smem => 0
  | _ => 0

abbrev bufTy : (tb : Table) → Fin (tcTables nBuf tb) → BufTy
  | .hbm, ⟨0, _⟩ => ⟨S8320x3072, .f32⟩
  | .hbm, ⟨1, _⟩ => ⟨S4x3072, .f32⟩
  | .hbm, ⟨2, _⟩ => ⟨S_, .f32⟩
  | .hbm, ⟨3, _⟩ => ⟨S8320x3072, .f32⟩
  | .hbm, ⟨4, _⟩ => ⟨S_, .f32⟩
  | .hbm, ⟨5, _⟩ => ⟨S3x3072, .f32⟩
  | .hbm, ⟨6, _⟩ => ⟨S8323x3072, .f32⟩
  | .hbm, ⟨7, _⟩ => ⟨S_, .f32⟩
  | .hbm, ⟨8, _⟩ => ⟨S3x3072, .f32⟩
  | .hbm, ⟨9, _⟩ => ⟨S1x3072, .f32⟩
  | .hbm, ⟨10, _⟩ => ⟨S3072, .f32⟩
  | .hbm, ⟨11, _⟩ => ⟨S8320x3072, .f32⟩
  | .hbm, ⟨12, _⟩ => ⟨S1x3072, .f32⟩
  | .hbm, ⟨13, _⟩ => ⟨S8320x3072, .f32⟩
  | .hbm, ⟨14, _⟩ => ⟨S8320x3072, .f32⟩
  | .hbm, ⟨15, _⟩ => ⟨S_, .f32⟩
  | .hbm, ⟨16, _⟩ => ⟨S8320x3072, .f32⟩
  | .hbm, ⟨17, _⟩ => ⟨S8320x3072, .f32⟩
  | .hbm, ⟨18, _⟩ => ⟨S1x3072, .f32⟩
  | .hbm, ⟨19, _⟩ => ⟨S3072, .f32⟩
  | .hbm, ⟨20, _⟩ => ⟨S8320x3072, .f32⟩
  | .hbm, ⟨21, _⟩ => ⟨S1x3072, .f32⟩
  | .hbm, ⟨22, _⟩ => ⟨S8320x3072, .f32⟩
  | .hbm, ⟨23, _⟩ => ⟨S8320x3072, .f32⟩
  | .hbm, ⟨24, _⟩ => ⟨S8320x3072, .f32⟩
  | .hbm, ⟨25, _⟩ => ⟨S1x3072, .f32⟩
  | .hbm, ⟨26, _⟩ => ⟨S3072, .f32⟩
  | .hbm, ⟨27, _⟩ => ⟨S8320x3072, .f32⟩
  | .hbm, ⟨28, _⟩ => ⟨S1x3072, .f32⟩
  | .hbm, ⟨29, _⟩ => ⟨S8320x3072, .f32⟩
  | .hbm, ⟨30, _⟩ => ⟨S8320x3072, .f32⟩
  | .hbm, ⟨31, _⟩ => ⟨S8320x3072, .f32⟩
  | .hbm, ⟨32, _⟩ => ⟨S1x3072, .f32⟩
  | .hbm, ⟨33, _⟩ => ⟨S3072, .f32⟩
  | .hbm, ⟨34, _⟩ => ⟨S8320x3072, .f32⟩
  | .hbm, ⟨35, _⟩ => ⟨S1x3072, .f32⟩
  | .hbm, ⟨36, _⟩ => ⟨S8320x3072, .f32⟩
  | .hbm, ⟨37, _⟩ => ⟨S8320x3072, .f32⟩
  | .hbm, ⟨38, _⟩ => ⟨S8320x3072, .f32⟩
  | .hbm, ⟨39, _⟩ => ⟨S8320x3072, .f32⟩
  | .hbm, ⟨40, _⟩ => ⟨S8320x3072, .f32⟩
  | .hbm, ⟨41, _⟩ => ⟨S8320x3072, .f32⟩
  | .hbm, ⟨42, _⟩ => ⟨S8320x3072, .f32⟩
  | .hbm, ⟨43, _⟩ => ⟨S_, .f32⟩
  | .hbm, ⟨44, _⟩ => ⟨S8323x3072, .f32⟩
  | .hbm, ⟨45, _⟩ => ⟨S8320x3072, .f32⟩
  | .hbm, ⟨46, _⟩ => ⟨S8320x3072, .f32⟩
  | .hbm, ⟨47, _⟩ => ⟨S_, .f32⟩
  | .hbm, ⟨48, _⟩ => ⟨S8323x3072, .f32⟩
  | .hbm, ⟨49, _⟩ => ⟨S8323x3072, .f32⟩
  | .hbm, ⟨50, _⟩ => ⟨S8320x3072, .f32⟩
  | .hbm, ⟨51, _⟩ => ⟨S8320x3072, .f32⟩
  | .hbm, ⟨52, _⟩ => ⟨S_, .f32⟩
  | .hbm, ⟨53, _⟩ => ⟨S8323x3072, .f32⟩
  | .hbm, ⟨54, _⟩ => ⟨S8323x3072, .f32⟩
  | .hbm, ⟨55, _⟩ => ⟨S8320x3072, .f32⟩
  | .hbm, ⟨56, _⟩ => ⟨S8320x3072, .f32⟩
  | .hbm, ⟨57, _⟩ => ⟨S_, .f32⟩
  | .hbm, ⟨58, _⟩ => ⟨S8323x3072, .f32⟩
  | .hbm, ⟨59, _⟩ => ⟨S8323x3072, .f32⟩
  | .hbm, ⟨60, _⟩ => ⟨S3x3072, .f32⟩
  | .hbm, ⟨61, _⟩ => ⟨S8320x3072, .f32⟩
  | .hbm, ⟨62, _⟩ => ⟨S8320x3072, .bf16⟩
  | _, _ => ⟨S8320x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_3 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_4 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_5 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_6 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩

abbrev nD : Nat := 1
abbrev τ : Topo := Topo.v7x

variable {F : FTy → Type} [FloatOps F]
-- ==== Kernel28.lean ====
abbrev S8320x2048 : Shape := ⟨2, ![8320, 2048]⟩
abbrev S2048 : Shape := ⟨1, ![2048]⟩
abbrev S_ : Shape := ⟨0, ![]⟩
abbrev S8320x1024 : Shape := ⟨2, ![8320, 1024]⟩
abbrev S8320x5376 : Shape := ⟨2, ![8320, 5376]⟩
abbrev S8320x8448 : Shape := ⟨2, ![8320, 8448]⟩
abbrev S1x2048 : Shape := ⟨2, ![1, 2048]⟩
abbrev S640x512 : Shape := ⟨2, ![640, 512]⟩
abbrev S1x512 : Shape := ⟨2, ![1, 512]⟩
abbrev S640 : Shape := ⟨1, ![640]⟩
abbrev S640x1 : Shape := ⟨2, ![640, 1]⟩
abbrev S512 : Shape := ⟨1, ![512]⟩

abbrev nBuf : Space → Nat
  | .hbm => 13
  | .vmem => 14
  | .smem => 0
  | _ => 0

abbrev bufTy : (tb : Table) → Fin (tcTables nBuf tb) → BufTy
  | .hbm, ⟨0, _⟩ => ⟨S8320x2048, .bf16⟩
  | .hbm, ⟨1, _⟩ => ⟨S8320x2048, .f32⟩
  | .hbm, ⟨2, _⟩ => ⟨S8320x2048, .f32⟩
  | .hbm, ⟨3, _⟩ => ⟨S2048, .f32⟩
  | .hbm, ⟨4, _⟩ => ⟨S_, .f32⟩
  | .hbm, ⟨5, _⟩ => ⟨S8320x1024, .f32⟩
  | .hbm, ⟨6, _⟩ => ⟨S_, .f32⟩
  | .hbm, ⟨7, _⟩ => ⟨S8320x5376, .f32⟩
  | .hbm, ⟨8, _⟩ => ⟨S8320x8448, .f32⟩
  | .hbm, ⟨9, _⟩ => ⟨S1x2048, .f32⟩
  | .hbm, ⟨10, _⟩ => ⟨S8320x2048, .f32⟩
  | .hbm, ⟨11, _⟩ => ⟨S8320x2048, .bf16⟩
  | .hbm, ⟨12, _⟩ => ⟨S1x2048, .f32⟩
  | .local _ .vmem, ⟨0, _⟩ => ⟨S640x512, .bf16⟩
  | .local _ .vmem, ⟨1, _⟩ => ⟨S640x512, .bf16⟩
  | .local _ .vmem, ⟨2, _⟩ => ⟨S640x512, .f32⟩
  | .local _ .vmem, ⟨3, _⟩ => ⟨S640x512, .f32⟩
  | .local _ .vmem, ⟨4, _⟩ => ⟨S640x512, .f32⟩
  | .local _ .vmem, ⟨5, _⟩ => ⟨S640x512, .f32⟩
  | .local _ .vmem, ⟨6, _⟩ => ⟨S1x512, .f32⟩
  | .local _ .vmem, ⟨7, _⟩ => ⟨S1x512, .f32⟩
  | .local _ .vmem, ⟨8, _⟩ => ⟨S640x512, .f32⟩
  | .local _ .vmem, ⟨9, _⟩ => ⟨S640x512, .f32⟩
  | .local _ .vmem, ⟨10, _⟩ => ⟨S640x512, .bf16⟩
  | .local _ .vmem, ⟨11, _⟩ => ⟨S640x512, .bf16⟩
  | .local _ .vmem, ⟨12, _⟩ => ⟨S1x512, .f32⟩
  | .local _ .vmem, ⟨13, _⟩ => ⟨S1x512, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 13], ![false, false]⟩

def k0_cond1 (i : grid0.Coords) : BitVec 1 :=
  let arg1 : BitVec 32 := BitVec.ofNat 32 (i 1).val
  let c0_i32 : BitVec 32 := 0#32
  let v57 : BitVec 1 := Scalar.cmpi .eq arg1 c0_i32
  let v58 : BitVec 32 := Scalar.extui v57
  let c0_i32_21 : BitVec 32 := 0#32
  let v59 : BitVec 1 := Scalar.cmpi .ne v58 c0_i32_21
  v59

def k0_cond2 (i : grid0.Coords) : BitVec 1 :=
  let arg1 : BitVec 32 := BitVec.ofNat 32 (i 1).val
  let c0_i32_22 : BitVec 32 := 0#32
  let v60 : BitVec 1 := Scalar.cmpi .sgt arg1 c0_i32_22
  let v61 : BitVec 32 := Scalar.extui v60
  let c0_i32_23 : BitVec 32 := 0#32
  let v62 : BitVec 1 := Scalar.cmpi .ne v61 c0_i32_23
  v62

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S640x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S640x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S640x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S640x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S640x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference28Ideal.lean ====
abbrev S8320x2048 : Shape := ⟨2, ![8320, 2048]⟩
abbrev S2048 : Shape := ⟨1, ![2048]⟩
abbrev S8320x4x512 : Shape := ⟨3, ![8320, 4, 512]⟩
abbrev S_ : Shape := ⟨0, ![]⟩
abbrev S8320x4 : Shape := ⟨2, ![8320, 4]⟩
abbrev S8320x4x1 : Shape := ⟨3, ![8320, 4, 1]⟩
abbrev S1x2048 : Shape := ⟨2, ![1, 2048]⟩

abbrev nBuf : Space → Nat
  | .hbm => 78
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S8320x2048, .f32⟩
  | .hbm, ⟨2, _⟩ => ⟨S8320x2048, .f32⟩
  | .hbm, ⟨3, _⟩ => ⟨S2048, .f32⟩
  | .hbm, ⟨4, _⟩ => ⟨S8320x4x512, .f32⟩
  | .hbm, ⟨5, _⟩ => ⟨S8320x2048, .f32⟩
  | .hbm, ⟨6, _⟩ => ⟨S8320x2048, .f32⟩
  | .hbm, ⟨7, _⟩ => ⟨S_, .f32⟩
  | .hbm, ⟨8, _⟩ => ⟨S8320x2048, .f32⟩
  | .hbm, ⟨9, _⟩ => ⟨S8320x2048, .f32⟩
  | .hbm, ⟨10, _⟩ => ⟨S_, .f32⟩
  | .hbm, ⟨11, _⟩ => ⟨S8320x2048, .f32⟩
  | .hbm, ⟨12, _⟩ => ⟨S8320x2048, .f32⟩
  | .hbm, ⟨13, _⟩ => ⟨S_, .f32⟩
  | .hbm, ⟨14, _⟩ => ⟨S8320x2048, .f32⟩
  | .hbm, ⟨15, _⟩ => ⟨S8320x2048, .f32⟩
  | .hbm, ⟨16, _⟩ => ⟨S8320x2048, .f32⟩
  | .hbm, ⟨17, _⟩ => ⟨S8320x2048, .f32⟩
  | .hbm, ⟨18, _⟩ => ⟨S8320x4x512, .f32⟩
  | .hbm, ⟨19, _⟩ => ⟨S8320x4x512, .f32⟩
  | .hbm, ⟨20, _⟩ => ⟨S8320x4x512, .f32⟩
  | .hbm, ⟨21, _⟩ => ⟨S_, .f32⟩
  | .hbm, ⟨22, _⟩ => ⟨S8320x4, .f32⟩
  | .hbm, ⟨23, _⟩ => ⟨S8320x4x1, .f32⟩
  | .hbm, ⟨24, _⟩ => ⟨S_, .f32⟩
  | .hbm, ⟨25, _⟩ => ⟨S8320x4x1, .f32⟩
  | .hbm, ⟨26, _⟩ => ⟨S8320x4x1, .f32⟩
  | .hbm, ⟨27, _⟩ => ⟨S_, .f32⟩
  | .hbm, ⟨28, _⟩ => ⟨S8320x4x1, .f32⟩
  | .hbm, ⟨29, _⟩ => ⟨S8320x4x1, .f32⟩
  | .hbm, ⟨30, _⟩ => ⟨S8320x4x1, .f32⟩
  | .hbm, ⟨31, _⟩ => ⟨S8320x4x1, .f32⟩
  | .hbm, ⟨32, _⟩ => ⟨S_, .f32⟩
  | .hbm, ⟨33, _⟩ => ⟨S8320x4x1, .f32⟩
  | .hbm, ⟨34, _⟩ => ⟨S8320x4x1, .f32⟩
  | .hbm, ⟨35, _⟩ => ⟨S8320x4x512, .f32⟩
  | .hbm, ⟨36, _⟩ => ⟨S8320x4x512, .f32⟩
  | .hbm, ⟨37, _⟩ => ⟨S8320x2048, .f32⟩
  | .hbm, ⟨38, _⟩ => ⟨S1x2048, .f32⟩
  | .hbm, ⟨39, _⟩ => ⟨S8320x2048, .f32⟩
  | .hbm, ⟨40, _⟩ => ⟨S8320x2048, .f32⟩
  | .hbm, ⟨41, _⟩ => ⟨S8320x2048, .f32⟩
  | .hbm, ⟨42, _⟩ => ⟨S8320x2048, .f32⟩
  | .hbm, ⟨43, _⟩ => ⟨S_, .f32⟩
  | .hbm, ⟨44, _⟩ => ⟨S2048, .f32⟩
  | .hbm, ⟨45, _⟩ => ⟨S1x2048, .f32⟩
  | .hbm, ⟨46, _⟩ => ⟨S8320x2048, .f32⟩
  | .hbm, ⟨47, _⟩ => ⟨S8320x2048, .f32⟩
  | .hbm, ⟨48, _⟩ => ⟨S_, .f32⟩
  | .hbm, ⟨49, _⟩ => ⟨S2048, .f32⟩
  | .hbm, ⟨50, _⟩ => ⟨S8320x4x512, .f32⟩
  | .hbm, ⟨51, _⟩ => ⟨S8320x4x512, .f32⟩
  | .hbm, ⟨52, _⟩ => ⟨S_, .f32⟩
  | .hbm, ⟨53, _⟩ => ⟨S8320x4, .f32⟩
  | .hbm, ⟨54, _⟩ => ⟨S8320x4x1, .f32⟩
  | .hbm, ⟨55, _⟩ => ⟨S8320x4x512, .f32⟩
  | .hbm, ⟨56, _⟩ => ⟨S8320x4x512, .f32⟩
  | .hbm, ⟨57, _⟩ => ⟨S8320x4x1, .f32⟩
  | .hbm, ⟨58, _⟩ => ⟨S_, .f32⟩
  | .hbm, ⟨59, _⟩ => ⟨S8320x4x1, .f32⟩
  | .hbm, ⟨60, _⟩ => ⟨S8320x4x1, .f32⟩
  | .hbm, ⟨61, _⟩ => ⟨S_, .f32⟩
  | .hbm, ⟨62, _⟩ => ⟨S8320x4, .f32⟩
  | .hbm, ⟨63, _⟩ => ⟨S8320x4x512, .f32⟩
  | .hbm, ⟨64, _⟩ => ⟨S8320x4x512, .f32⟩
  | .hbm, ⟨65, _⟩ => ⟨S8320x4x512, .f32⟩
  | .hbm, ⟨66, _⟩ => ⟨S8320x4x512, .f32⟩
  | .hbm, ⟨67, _⟩ => ⟨S8320x4x512, .f32⟩
  | .hbm, ⟨68, _⟩ => ⟨S8320x4x512, .f32⟩
  | .hbm, ⟨69, _⟩ => ⟨S8320x4x512, .f32⟩
  | .hbm, ⟨70, _⟩ => ⟨S8320x2048, .f32⟩
  | .hbm, ⟨71, _⟩ => ⟨S8320x2048, .f32⟩
  | .hbm, ⟨72, _⟩ => ⟨S8320x2048, .f32⟩
  | .hbm, ⟨73, _⟩ => ⟨S8320x2048, .f32⟩
  | .hbm, ⟨74, _⟩ => ⟨S8320x2048, .f32⟩
  | .hbm, ⟨75, _⟩ => ⟨S8320x2048, .f32⟩
  | .hbm, ⟨76, _⟩ => ⟨S8320x2048, .bf16⟩
  | .hbm, ⟨77, _⟩ => ⟨S1x2048, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_4 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_6 : Ref sig .tc := ⟨.hbm, 58, rfl⟩
abbrev main_v35 : Ref sig .tc := ⟨.hbm, 59, rfl⟩
abbrev main_v36 : Ref sig .tc := ⟨.hbm, 60, rfl⟩
abbrev main_cst_7 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩

abbrev nD : Nat := 1
abbrev τ : Topo := Topo.v7x

variable {F : FTy → Type} [FloatOps F]
-- ==== Kernel29.lean ====
abbrev S8320x768 : Shape := ⟨2, ![8320, 768]⟩
abbrev S768 : Shape := ⟨1, ![768]⟩
abbrev S_ : Shape := ⟨0, ![]⟩
abbrev S8320x7680 : Shape := ⟨2, ![8320, 7680]⟩
abbrev S8320x8448 : Shape := ⟨2, ![8320, 8448]⟩
abbrev S1x768 : Shape := ⟨2, ![1, 768]⟩
abbrev S640x768 : Shape := ⟨2, ![640, 768]⟩
abbrev S640 : Shape := ⟨1, ![640]⟩
abbrev S640x1 : Shape := ⟨2, ![640, 1]⟩

abbrev nBuf : Space → Nat
  | .hbm => 9
  | .vmem => 8
  | .smem => 0
  | _ => 0

abbrev bufTy : (tb : Table) → Fin (tcTables nBuf tb) → BufTy
  | .hbm, ⟨0, _⟩ => ⟨S8320x768, .bf16⟩
  | .hbm, ⟨1, _⟩ => ⟨S8320x768, .f32⟩
  | .hbm, ⟨2, _⟩ => ⟨S768, .f32⟩
  | .hbm, ⟨3, _⟩ => ⟨S_, .f32⟩
  | .hbm, ⟨4, _⟩ => ⟨S8320x7680, .f32⟩
  | .hbm, ⟨5, _⟩ => ⟨S8320x8448, .f32⟩
  | .hbm, ⟨6, _⟩ => ⟨S1x768, .f32⟩
  | .hbm, ⟨7, _⟩ => ⟨S8320x768, .bf16⟩
  | .hbm, ⟨8, _⟩ => ⟨S1x768, .f32⟩
  | .local _ .vmem, ⟨0, _⟩ => ⟨S640x768, .bf16⟩
  | .local _ .vmem, ⟨1, _⟩ => ⟨S640x768, .bf16⟩
  | .local _ .vmem, ⟨2, _⟩ => ⟨S640x768, .f32⟩
  | .local _ .vmem, ⟨3, _⟩ => ⟨S640x768, .f32⟩
  | .local _ .vmem, ⟨4, _⟩ => ⟨S1x768, .f32⟩
  | .local _ .vmem, ⟨5, _⟩ => ⟨S640x768, .bf16⟩
  | .local _ .vmem, ⟨6, _⟩ => ⟨S640x768, .bf16⟩
  | .local _ .vmem, ⟨7, _⟩ => ⟨S1x768, .f32⟩
  | _, _ => ⟨S8320x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![13], ![false]⟩

def k0_cond1 (i : grid0.Coords) : BitVec 1 :=
  let arg0 : BitVec 32 := BitVec.ofNat 32 (i 0).val
  let c0_i32 : BitVec 32 := 0#32
  let v37 : BitVec 1 := Scalar.cmpi .eq arg0 c0_i32
  let v38 : BitVec 32 := Scalar.extui v37
  let c0_i32_12 : BitVec 32 := 0#32
  let v39 : BitVec 1 := Scalar.cmpi .ne v38 c0_i32_12
  v39

def k0_cond2 (i : grid0.Coords) : BitVec 1 :=
  let arg0 : BitVec 32 := BitVec.ofNat 32 (i 0).val
  let c0_i32_13 : BitVec 32 := 0#32
  let v40 : BitVec 1 := Scalar.cmpi .sgt arg0 c0_i32_13
  let v41 : BitVec 32 := Scalar.extui v40
  let c0_i32_14 : BitVec 32 := 0#32
  let v42 : BitVec 1 := Scalar.cmpi .ne v41 c0_i32_14
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S640x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference29Ideal.lean ====
abbrev S8320x768 : Shape := ⟨2, ![8320, 768]⟩
abbrev S768 : Shape := ⟨1, ![768]⟩
abbrev S_ : Shape := ⟨0, ![]⟩
abbrev S8320 : Shape := ⟨1, ![8320]⟩
abbrev S8320x1 : Shape := ⟨2, ![8320, 1]⟩
abbrev S1x768 : Shape := ⟨2, ![1, 768]⟩

abbrev nBuf : Space → Nat
  | .hbm => 51
  | .vmem => 0
  | .smem => 0
  | _ => 0

abbrev bufTy : (tb : Table) → Fin (tcTables nBuf tb) → BufTy
  | .hbm, ⟨0, _⟩ => ⟨S8320x768, .bf16⟩
  | .hbm, ⟨1, _⟩ => ⟨S8320x768, .f32⟩
  | .hbm, ⟨2, _⟩ => ⟨S768, .f32⟩
  | .hbm, ⟨3, _⟩ => ⟨S8320x768, .f32⟩
  | .hbm, ⟨4, _⟩ => ⟨S_, .f32⟩
  | .hbm, ⟨5, _⟩ => ⟨S8320, .f32⟩
  | .hbm, ⟨6, _⟩ => ⟨S8320x1, .f32⟩
  | .hbm, ⟨7, _⟩ => ⟨S_, .f32⟩
  | .hbm, ⟨8, _⟩ => ⟨S8320x1, .f32⟩
  | .hbm, ⟨9, _⟩ => ⟨S8320x1, .f32⟩
  | .hbm, ⟨10, _⟩ => ⟨S_, .f32⟩
  | .hbm, ⟨11, _⟩ => ⟨S8320x1, .f32⟩
  | .hbm, ⟨12, _⟩ => ⟨S8320x1, .f32⟩
  | .hbm, ⟨13, _⟩ => ⟨S8320x1, .f32⟩
  | .hbm, ⟨14, _⟩ => ⟨S8320x1, .f32⟩
  | .hbm, ⟨15, _⟩ => ⟨S_, .f32⟩
  | .hbm, ⟨16, _⟩ => ⟨S8320x1, .f32⟩
  | .hbm, ⟨17, _⟩ => ⟨S8320x1, .f32⟩
  | .hbm, ⟨18, _⟩ => ⟨S8320x768, .f32⟩
  | .hbm, ⟨19, _⟩ => ⟨S8320x768, .f32⟩
  | .hbm, ⟨20, _⟩ => ⟨S1x768, .f32⟩
  | .hbm, ⟨21, _⟩ => ⟨S8320x768, .f32⟩
  | .hbm, ⟨22, _⟩ => ⟨S8320x768, .f32⟩
  | .hbm, ⟨23, _⟩ => ⟨S8320x768, .f32⟩
  | .hbm, ⟨24, _⟩ => ⟨S8320x768, .f32⟩
  | .hbm, ⟨25, _⟩ => ⟨S_, .f32⟩
  | .hbm, ⟨26, _⟩ => ⟨S768, .f32⟩
  | .hbm, ⟨27, _⟩ => ⟨S1x768, .f32⟩
  | .hbm, ⟨28, _⟩ => ⟨S8320x768, .f32⟩
  | .hbm, ⟨29, _⟩ => ⟨S8320x768, .f32⟩
  | .hbm, ⟨30, _⟩ => ⟨S_, .f32⟩
  | .hbm, ⟨31, _⟩ => ⟨S768, .f32⟩
  | .hbm, ⟨32, _⟩ => ⟨S8320x768, .f32⟩
  | .hbm, ⟨33, _⟩ => ⟨S_, .f32⟩
  | .hbm, ⟨34, _⟩ => ⟨S8320, .f32⟩
  | .hbm, ⟨35, _⟩ => ⟨S8320x1, .f32⟩
  | .hbm, ⟨36, _⟩ => ⟨S8320x768, .f32⟩
  | .hbm, ⟨37, _⟩ => ⟨S8320x768, .f32⟩
  | .hbm, ⟨38, _⟩ => ⟨S8320x1, .f32⟩
  | .hbm, ⟨39, _⟩ => ⟨S_, .f32⟩
  | .hbm, ⟨40, _⟩ => ⟨S8320x1, .f32⟩
  | .hbm, ⟨41, _⟩ => ⟨S8320x1, .f32⟩
  | .hbm, ⟨42, _⟩ => ⟨S_, .f32⟩
  | .hbm, ⟨43, _⟩ => ⟨S8320, .f32⟩
  | .hbm, ⟨44, _⟩ => ⟨S8320x768, .f32⟩
  | .hbm, ⟨45, _⟩ => ⟨S8320x768, .f32⟩
  | .hbm, ⟨46, _⟩ => ⟨S8320x768, .f32⟩
  | .hbm, ⟨47, _⟩ => ⟨S8320x768, .f32⟩
  | .hbm, ⟨48, _⟩ => ⟨S8320x768, .f32⟩
  | .hbm, ⟨49, _⟩ => ⟨S8320x768, .bf16⟩
  | .hbm, ⟨50, _⟩ => ⟨S1x768, .f32⟩
  | _, _ => ⟨S8320x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Kernel30.lean ====
abbrev S8320x256 : Shape := ⟨2, ![8320, 256]⟩
abbrev S256 : Shape := ⟨1, ![256]⟩
abbrev S_ : Shape := ⟨0, ![]⟩
abbrev S8320x768 : Shape := ⟨2, ![8320, 768]⟩
abbrev S8320x7424 : Shape := ⟨2, ![8320, 7424]⟩
abbrev S8320x8448 : Shape := ⟨2, ![8320, 8448]⟩
abbrev S1x256 : Shape := ⟨2, ![1, 256]⟩
abbrev S640x256 : Shape := ⟨2, ![640, 256]⟩
abbrev S640 : Shape := ⟨1, ![640]⟩
abbrev S640x1 : Shape := ⟨2, ![640, 1]⟩

abbrev nBuf : Space → Nat
  | .hbm => 11
  | .vmem => 8
  | .smem => 0
  | _ => 0

abbrev bufTy : (tb : Table) → Fin (tcTables nBuf tb) → BufTy
  | .hbm, ⟨0, _⟩ => ⟨S8320x256, .bf16⟩
  | .hbm, ⟨1, _⟩ => ⟨S8320x256, .f32⟩
  | .hbm, ⟨2, _⟩ => ⟨S256, .f32⟩
  | .hbm, ⟨3, _⟩ => ⟨S_, .f32⟩
  | .hbm, ⟨4, _⟩ => ⟨S8320x768, .f32⟩
  | .hbm, ⟨5, _⟩ => ⟨S_, .f32⟩
  | .hbm, ⟨6, _⟩ => ⟨S8320x7424, .f32⟩
  | .hbm, ⟨7, _⟩ => ⟨S8320x8448, .f32⟩
  | .hbm, ⟨8, _⟩ => ⟨S1x256, .f32⟩
  | .hbm, ⟨9, _⟩ => ⟨S8320x256, .bf16⟩
  | .hbm, ⟨10, _⟩ => ⟨S1x256, .f32⟩
  | .local _ .vmem, ⟨0, _⟩ => ⟨S640x256, .bf16⟩
  | .local _ .vmem, ⟨1, _⟩ => ⟨S640x256, .bf16⟩
  | .local _ .vmem, ⟨2, _⟩ => ⟨S640x256, .f32⟩
  | .local _ .vmem, ⟨3, _⟩ => ⟨S640x256, .f32⟩
  | .local _ .vmem, ⟨4, _⟩ => ⟨S1x256, .f32⟩
  | .local _ .vmem, ⟨5, _⟩ => ⟨S640x256, .bf16⟩
  | .local _ .vmem, ⟨6, _⟩ => ⟨S640x256, .bf16⟩
  | .local _ .vmem, ⟨7, _⟩ => ⟨S1x256, .f32⟩
  | _, _ => ⟨S8320x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![13], ![false]⟩

def k0_cond1 (i : grid0.Coords) : BitVec 1 :=
  let arg0 : BitVec 32 := BitVec.ofNat 32 (i 0).val
  let c0_i32 : BitVec 32 := 0#32
  let v37 : BitVec 1 := Scalar.cmpi .eq arg0 c0_i32
  let v38 : BitVec 32 := Scalar.extui v37
  let c0_i32_12 : BitVec 32 := 0#32
  let v39 : BitVec 1 := Scalar.cmpi .ne v38 c0_i32_12
  v39

def k0_cond2 (i : grid0.Coords) : BitVec 1 :=
  let arg0 : BitVec 32 := BitVec.ofNat 32 (i 0).val
  let c0_i32_13 : BitVec 32 := 0#32
  let v40 : BitVec 1 := Scalar.cmpi .sgt arg0 c0_i32_13
  let v41 : BitVec 32 := Scalar.extui v40
  let c0_i32_14 : BitVec 32 := 0#32
  let v42 : BitVec 1 := Scalar.cmpi .ne v41 c0_i32_14
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S640x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference30Ideal.lean ====
abbrev S8320x256 : Shape := ⟨2, ![8320, 256]⟩
abbrev S256 : Shape := ⟨1, ![256]⟩
abbrev S_ : Shape := ⟨0, ![]⟩
abbrev S8320 : Shape := ⟨1, ![8320]⟩
abbrev S8320x1 : Shape := ⟨2, ![8320, 1]⟩
abbrev S1x256 : Shape := ⟨2, ![1, 256]⟩

abbrev nBuf : Space → Nat
  | .hbm => 51
  | .vmem => 0
  | .smem => 0
  | _ => 0

abbrev bufTy : (tb : Table) → Fin (tcTables nBuf tb) → BufTy
  | .hbm, ⟨0, _⟩ => ⟨S8320x256, .bf16⟩
  | .hbm, ⟨1, _⟩ => ⟨S8320x256, .f32⟩
  | .hbm, ⟨2, _⟩ => ⟨S256, .f32⟩
  | .hbm, ⟨3, _⟩ => ⟨S8320x256, .f32⟩
  | .hbm, ⟨4, _⟩ => ⟨S_, .f32⟩
  | .hbm, ⟨5, _⟩ => ⟨S8320, .f32⟩
  | .hbm, ⟨6, _⟩ => ⟨S8320x1, .f32⟩
  | .hbm, ⟨7, _⟩ => ⟨S_, .f32⟩
  | .hbm, ⟨8, _⟩ => ⟨S8320x1, .f32⟩
  | .hbm, ⟨9, _⟩ => ⟨S8320x1, .f32⟩
  | .hbm, ⟨10, _⟩ => ⟨S_, .f32⟩
  | .hbm, ⟨11, _⟩ => ⟨S8320x1, .f32⟩
  | .hbm, ⟨12, _⟩ => ⟨S8320x1, .f32⟩
  | .hbm, ⟨13, _⟩ => ⟨S8320x1, .f32⟩
  | .hbm, ⟨14, _⟩ => ⟨S8320x1, .f32⟩
  | .hbm, ⟨15, _⟩ => ⟨S_, .f32⟩
  | .hbm, ⟨16, _⟩ => ⟨S8320x1, .f32⟩
  | .hbm, ⟨17, _⟩ => ⟨S8320x1, .f32⟩
  | .hbm, ⟨18, _⟩ => ⟨S8320x256, .f32⟩
  | .hbm, ⟨19, _⟩ => ⟨S8320x256, .f32⟩
  | .hbm, ⟨20, _⟩ => ⟨S1x256, .f32⟩
  | .hbm, ⟨21, _⟩ => ⟨S8320x256, .f32⟩
  | .hbm, ⟨22, _⟩ => ⟨S8320x256, .f32⟩
  | .hbm, ⟨23, _⟩ => ⟨S8320x256, .f32⟩
  | .hbm, ⟨24, _⟩ => ⟨S8320x256, .f32⟩
  | .hbm, ⟨25, _⟩ => ⟨S_, .f32⟩
  | .hbm, ⟨26, _⟩ => ⟨S256, .f32⟩
  | .hbm, ⟨27, _⟩ => ⟨S1x256, .f32⟩
  | .hbm, ⟨28, _⟩ => ⟨S8320x256, .f32⟩
  | .hbm, ⟨29, _⟩ => ⟨S8320x256, .f32⟩
  | .hbm, ⟨30, _⟩ => ⟨S_, .f32⟩
  | .hbm, ⟨31, _⟩ => ⟨S256, .f32⟩
  | .hbm, ⟨32, _⟩ => ⟨S8320x256, .f32⟩
  | .hbm, ⟨33, _⟩ => ⟨S_, .f32⟩
  | .hbm, ⟨34, _⟩ => ⟨S8320, .f32⟩
  | .hbm, ⟨35, _⟩ => ⟨S8320x1, .f32⟩
  | .hbm, ⟨36, _⟩ => ⟨S8320x256, .f32⟩
  | .hbm, ⟨37, _⟩ => ⟨S8320x256, .f32⟩
  | .hbm, ⟨38, _⟩ => ⟨S8320x1, .f32⟩
  | .hbm, ⟨39, _⟩ => ⟨S_, .f32⟩
  | .hbm, ⟨40, _⟩ => ⟨S8320x1, .f32⟩
  | .hbm, ⟨41, _⟩ => ⟨S8320x1, .f32⟩
  | .hbm, ⟨42, _⟩ => ⟨S_, .f32⟩
  | .hbm, ⟨43, _⟩ => ⟨S8320, .f32⟩
  | .hbm, ⟨44, _⟩ => ⟨S8320x256, .f32⟩
  | .hbm, ⟨45, _⟩ => ⟨S8320x256, .f32⟩
  | .hbm, ⟨46, _⟩ => ⟨S8320x256, .f32⟩
  | .hbm, ⟨47, _⟩ => ⟨S8320x256, .f32⟩
  | .hbm, ⟨48, _⟩ => ⟨S8320x256, .f32⟩
  | .hbm, ⟨49, _⟩ => ⟨S8320x256, .bf16⟩
  | .hbm, ⟨50, _⟩ => ⟨S1x256, .f32⟩
  | _, _ => ⟨S8320x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Kernel31.lean ====
abbrev S8320x1024 : Shape := ⟨2, ![8320, 1024]⟩
abbrev S1024 : Shape := ⟨1, ![1024]⟩
abbrev S1x1024 : Shape := ⟨2, ![1, 1024]⟩
abbrev S640x1024 : Shape := ⟨2, ![640, 1024]⟩
abbrev S640 : Shape := ⟨1, ![640]⟩
abbrev S640x1 : Shape := ⟨2, ![640, 1]⟩

abbrev nBuf : Space → Nat
  | .hbm => 8
  | .vmem => 11
  | .smem => 0
  | _ => 0

abbrev bufTy : (tb : Table) → Fin (tcTables nBuf tb) → BufTy
  | .hbm, ⟨0, _⟩ => ⟨S8320x1024, .f32⟩
  | .hbm, ⟨1, _⟩ => ⟨S8320x1024, .f32⟩
  | .hbm, ⟨2, _⟩ => ⟨S1024, .f32⟩
  | .hbm, ⟨3, _⟩ => ⟨S1x1024, .f32⟩
  | .hbm, ⟨4, _⟩ => ⟨S8320x1024, .f32⟩
  | .hbm, ⟨5, _⟩ => ⟨S8320x1024, .bf16⟩
  | .hbm, ⟨6, _⟩ => ⟨S1x1024, .f32⟩
  | .hbm, ⟨7, _⟩ => ⟨S1x1024, .f32⟩
  | .local _ .vmem, ⟨0, _⟩ => ⟨S640x1024, .f32⟩
  | .local _ .vmem, ⟨1, _⟩ => ⟨S640x1024, .f32⟩
  | .local _ .vmem, ⟨2, _⟩ => ⟨S640x1024, .f32⟩
  | .local _ .vmem, ⟨3, _⟩ => ⟨S640x1024, .f32⟩
  | .local _ .vmem, ⟨4, _⟩ => ⟨S1x1024, .f32⟩
  | .local _ .vmem, ⟨5, _⟩ => ⟨S640x1024, .f32⟩
  | .local _ .vmem, ⟨6, _⟩ => ⟨S640x1024, .f32⟩
  | .local _ .vmem, ⟨7, _⟩ => ⟨S640x1024, .bf16⟩
  | .local _ .vmem, ⟨8, _⟩ => ⟨S640x1024, .bf16⟩
  | .local _ .vmem, ⟨9, _⟩ => ⟨S1x1024, .f32⟩
  | .local _ .vmem, ⟨10, _⟩ => ⟨S1x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![13], ![false]⟩

def k0_cond1 (i : grid0.Coords) : BitVec 1 :=
  let arg0 : BitVec 32 := BitVec.ofNat 32 (i 0).val
  let c0_i32 : BitVec 32 := 0#32
  let v56 : BitVec 1 := Scalar.cmpi .eq arg0 c0_i32
  let v57 : BitVec 32 := Scalar.extui v56
  let c0_i32_20 : BitVec 32 := 0#32
  let v58 : BitVec 1 := Scalar.cmpi .ne v57 c0_i32_20
  v58

def k0_cond2 (i : grid0.Coords) : BitVec 1 :=
  let arg0 : BitVec 32 := BitVec.ofNat 32 (i 0).val
  let c0_i32_21 : BitVec 32 := 0#32
  let v59 : BitVec 1 := Scalar.cmpi .sgt arg0 c0_i32_21
  let v60 : BitVec 32 := Scalar.extui v59
  let c0_i32_22 : BitVec 32 := 0#32
  let v61 : BitVec 1 := Scalar.cmpi .ne v60 c0_i32_22
  v61

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference31Ideal.lean ====
abbrev S8320x1024 : Shape := ⟨2, ![8320, 1024]⟩
abbrev S1024 : Shape := ⟨1, ![1024]⟩
abbrev S_ : Shape := ⟨0, ![]⟩
abbrev S8320 : Shape := ⟨1, ![8320]⟩
abbrev S8320x1 : Shape := ⟨2, ![8320, 1]⟩
abbrev S1x1024 : Shape := ⟨2, ![1, 1024]⟩

abbrev nBuf : Space → Nat
  | .hbm => 103
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8320x1024, .f32⟩
  | .hbm, ⟨2, _⟩ => ⟨S1024, .f32⟩
  | .hbm, ⟨3, _⟩ => ⟨S_, .f32⟩
  | .hbm, ⟨4, _⟩ => ⟨S1024, .f32⟩
  | .hbm, ⟨5, _⟩ => ⟨S_, .f32⟩
  | .hbm, ⟨6, _⟩ => ⟨S8320, .f32⟩
  | .hbm, ⟨7, _⟩ => ⟨S8320x1, .f32⟩
  | .hbm, ⟨8, _⟩ => ⟨S_, .f32⟩
  | .hbm, ⟨9, _⟩ => ⟨S8320x1, .f32⟩
  | .hbm, ⟨10, _⟩ => ⟨S8320x1, .f32⟩
  | .hbm, ⟨11, _⟩ => ⟨S8320x1024, .f32⟩
  | .hbm, ⟨12, _⟩ => ⟨S8320x1024, .f32⟩
  | .hbm, ⟨13, _⟩ => ⟨S8320x1024, .f32⟩
  | .hbm, ⟨14, _⟩ => ⟨S_, .f32⟩
  | .hbm, ⟨15, _⟩ => ⟨S8320x1024, .f32⟩
  | .hbm, ⟨16, _⟩ => ⟨S8320x1024, .f32⟩
  | .hbm, ⟨17, _⟩ => ⟨S_, .f32⟩
  | .hbm, ⟨18, _⟩ => ⟨S8320, .f32⟩
  | .hbm, ⟨19, _⟩ => ⟨S8320x1, .f32⟩
  | .hbm, ⟨20, _⟩ => ⟨S_, .f32⟩
  | .hbm, ⟨21, _⟩ => ⟨S8320x1, .f32⟩
  | .hbm, ⟨22, _⟩ => ⟨S8320x1, .f32⟩
  | .hbm, ⟨23, _⟩ => ⟨S8320x1024, .f32⟩
  | .hbm, ⟨24, _⟩ => ⟨S8320x1024, .f32⟩
  | .hbm, ⟨25, _⟩ => ⟨S_, .f32⟩
  | .hbm, ⟨26, _⟩ => ⟨S8320x1, .f32⟩
  | .hbm, ⟨27, _⟩ => ⟨S8320x1, .f32⟩
  | .hbm, ⟨28, _⟩ => ⟨S8320x1, .f32⟩
  | .hbm, ⟨29, _⟩ => ⟨S8320x1, .f32⟩
  | .hbm, ⟨30, _⟩ => ⟨S_, .f32⟩
  | .hbm, ⟨31, _⟩ => ⟨S8320x1, .f32⟩
  | .hbm, ⟨32, _⟩ => ⟨S8320x1, .f32⟩
  | .hbm, ⟨33, _⟩ => ⟨S8320x1024, .f32⟩
  | .hbm, ⟨34, _⟩ => ⟨S8320x1024, .f32⟩
  | .hbm, ⟨35, _⟩ => ⟨S1x1024, .f32⟩
  | .hbm, ⟨36, _⟩ => ⟨S8320x1024, .f32⟩
  | .hbm, ⟨37, _⟩ => ⟨S8320x1024, .f32⟩
  | .hbm, ⟨38, _⟩ => ⟨S1x1024, .f32⟩
  | .hbm, ⟨39, _⟩ => ⟨S8320x1024, .f32⟩
  | .hbm, ⟨40, _⟩ => ⟨S8320x1024, .f32⟩
  | .hbm, ⟨41, _⟩ => ⟨S8320, .i32⟩
  | .hbm, ⟨42, _⟩ => ⟨S8320x1, .i32⟩
  | .hbm, ⟨43, _⟩ => ⟨S_, .i32⟩
  | .hbm, ⟨44, _⟩ => ⟨S8320x1, .i32⟩
  | .hbm, ⟨45, _⟩ => ⟨S8320x1, .i1⟩
  | .hbm, ⟨46, _⟩ => ⟨S_, .f32⟩
  | .hbm, ⟨47, _⟩ => ⟨S_, .f32⟩
  | .hbm, ⟨48, _⟩ => ⟨S8320x1024, .i1⟩
  | .hbm, ⟨49, _⟩ => ⟨S8320x1024, .f32⟩
  | .hbm, ⟨50, _⟩ => ⟨S8320x1024, .f32⟩
  | .hbm, ⟨51, _⟩ => ⟨S_, .f32⟩
  | .hbm, ⟨52, _⟩ => ⟨S8320x1024, .f32⟩
  | .hbm, ⟨53, _⟩ => ⟨S_, .f32⟩
  | .hbm, ⟨54, _⟩ => ⟨S8320x1024, .f32⟩
  | .hbm, ⟨55, _⟩ => ⟨S8320x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S_, .f32⟩
  | .hbm, ⟨60, _⟩ => ⟨S1024, .f32⟩
  | .hbm, ⟨61, _⟩ => ⟨S8320x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S8320x1024, .f32⟩
  | .hbm, ⟨66, _⟩ => ⟨S8320x1024, .f32⟩
  | .hbm, ⟨67, _⟩ => ⟨S_, .f32⟩
  | .hbm, ⟨68, _⟩ => ⟨S1024, .f32⟩
  | .hbm, ⟨69, _⟩ => ⟨S8320x1024, .f32⟩
  | .hbm, ⟨70, _⟩ => ⟨S_, .f32⟩
  | .hbm, ⟨71, _⟩ => ⟨S8320, .f32⟩
  | .hbm, ⟨72, _⟩ => ⟨S8320x1, .f32⟩
  | .hbm, ⟨73, _⟩ => ⟨S8320x1024, .f32⟩
  | .hbm, ⟨74, _⟩ => ⟨S8320x1024, .f32⟩
  | .hbm, ⟨75, _⟩ => ⟨S8320x1, .f32⟩
  | .hbm, ⟨76, _⟩ => ⟨S8320x1024, .f32⟩
  | .hbm, ⟨77, _⟩ => ⟨S_, .f32⟩
  | .hbm, ⟨78, _⟩ => ⟨S8320, .f32⟩
  | .hbm, ⟨79, _⟩ => ⟨S8320x1, .f32⟩
  | .hbm, ⟨80, _⟩ => ⟨S_, .f32⟩
  | .hbm, ⟨81, _⟩ => ⟨S8320x1, .f32⟩
  | .hbm, ⟨82, _⟩ => ⟨S8320x1, .f32⟩
  | .hbm, ⟨83, _⟩ => ⟨S_, .f32⟩
  | .hbm, ⟨84, _⟩ => ⟨S8320, .f32⟩
  | .hbm, ⟨85, _⟩ => ⟨S8320x1024, .f32⟩
  | .hbm, ⟨86, _⟩ => ⟨S8320x1024, .f32⟩
  | .hbm, ⟨87, _⟩ => ⟨S8320x1024, .f32⟩
  | .hbm, ⟨88, _⟩ => ⟨S_, .f32⟩
  | .hbm, ⟨89, _⟩ => ⟨S8320, .f32⟩
  | .hbm, ⟨90, _⟩ => ⟨S8320x1, .f32⟩
  | .hbm, ⟨91, _⟩ => ⟨S8320x1024, .f32⟩
  | .hbm, ⟨92, _⟩ => ⟨S8320x1, .f32⟩
  | .hbm, ⟨93, _⟩ => ⟨S_, .f32⟩
  | .hbm, ⟨94, _⟩ => ⟨S8320x1, .f32⟩
  | .hbm, ⟨95, _⟩ => ⟨S8320x1, .f32⟩
  | .hbm, ⟨96, _⟩ => ⟨S_, .f32⟩
  | .hbm, ⟨97, _⟩ => ⟨S8320, .f32⟩
  | .hbm, ⟨98, _⟩ => ⟨S8320x1024, .f32⟩
  | .hbm, ⟨99, _⟩ => ⟨S8320x1024, .f32⟩
  | .hbm, ⟨100, _⟩ => ⟨S8320x1024, .bf16⟩
  | .hbm, ⟨101, _⟩ => ⟨S1x1024, .f32⟩
  | .hbm, ⟨102, _⟩ => ⟨S1x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_call0_v0 : Ref sig .tc := ⟨.hbm, 47, rfl⟩
abbrev main_v34_1 : Ref sig .tc := ⟨.hbm, 48, rfl⟩
abbrev main_call0_v2 : Ref sig .tc := ⟨.hbm, 49, rfl⟩
abbrev main_v34_0 : Ref sig .tc := ⟨.hbm, 50, rfl⟩
abbrev main_call0_cst : Ref sig .tc := ⟨.hbm, 51, rfl⟩
abbrev main_v34_2 : Ref sig .tc := ⟨.hbm, 52, rfl⟩
abbrev main_call1_cst : Ref sig .tc := ⟨.hbm, 53, rfl⟩
abbrev main_call1_v0 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_cst_9 : Ref sig .tc := ⟨.hbm, 59, rfl⟩
abbrev main_v38 : Ref sig .tc := ⟨.hbm, 60, rfl⟩
abbrev main_v39 : Ref sig .tc := ⟨.hbm, 61, rfl⟩
abbrev main_cst_10 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_11 : Ref sig .tc := ⟨.hbm, 67, rfl⟩
abbrev main_v44 : Ref sig .tc := ⟨.hbm, 68, rfl⟩
abbrev main_v45 : Ref sig .tc := ⟨.hbm, 69, rfl⟩
abbrev main_cst_12 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_13 : Ref sig .tc := ⟨.hbm, 77, rfl⟩
abbrev main_v52 : Ref sig .tc := ⟨.hbm, 78, rfl⟩
abbrev main_v53 : Ref sig .tc := ⟨.hbm, 79, rfl⟩
abbrev main_cst_14 : Ref sig .tc := ⟨.hbm, 80, rfl⟩
abbrev main_v54 : Ref sig .tc := ⟨.hbm, 81, rfl⟩
abbrev main_v55 : Ref sig .tc := ⟨.hbm, 82, rfl⟩
abbrev main_cst_15 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_16 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_17 : Ref sig .tc := ⟨.hbm, 93, rfl⟩
abbrev main_v64 : Ref sig .tc := ⟨.hbm, 94, rfl⟩
abbrev main_v65 : Ref sig .tc := ⟨.hbm, 95, rfl⟩
abbrev main_cst_18 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩

abbrev nD : Nat := 1
abbrev τ : Topo := Topo.v7x

variable {F : FTy → Type} [FloatOps F]
-- ==== Kernel32.lean ====
abbrev S8320x2816 : Shape := ⟨2, ![8320, 2816]⟩
abbrev S3x2816 : Shape := ⟨2, ![3, 2816]⟩
abbrev S1x2816 : Shape := ⟨2, ![1, 2816]⟩
abbrev S128x1408 : Shape := ⟨2, ![128, 1408]⟩
abbrev S8x1408 : Shape := ⟨2, ![8, 1408]⟩
abbrev S3x1408 : Shape := ⟨2, ![3, 1408]⟩
abbrev S1x1408 : Shape := ⟨2, ![1, 1408]⟩
abbrev S136x1408 : Shape := ⟨2, ![136, 1408]⟩
abbrev S1408 : Shape := ⟨1, ![1408]⟩

abbrev nBuf : Space → Nat
  | .hbm => 13
  | .vmem => 32
  | .smem => 0
  | _ => 0

abbrev bufTy : (tb : Table) → Fin (tcTables nBuf tb) → BufTy
  | .hbm, ⟨0, _⟩ => ⟨S8320x2816, .f32⟩
  | .hbm, ⟨1, _⟩ => ⟨S8320x2816, .f32⟩
  | .hbm, ⟨2, _⟩ => ⟨S8320x2816, .f32⟩
  | .hbm, ⟨3, _⟩ => ⟨S3x2816, .f32⟩
  | .hbm, ⟨4, _⟩ => ⟨S3x2816, .f32⟩
  | .hbm, ⟨5, _⟩ => ⟨S1x2816, .f32⟩
  | .hbm, ⟨6, _⟩ => ⟨S1x2816, .f32⟩
  | .hbm, ⟨7, _⟩ => ⟨S8320x2816, .f32⟩
  | .hbm, ⟨8, _⟩ => ⟨S8320x2816, .f32⟩
  | .hbm, ⟨9, _⟩ => ⟨S3x2816, .f32⟩
  | .hbm, ⟨10, _⟩ => ⟨S3x2816, .f32⟩
  | .hbm, ⟨11, _⟩ => ⟨S1x2816, .f32⟩
  | .hbm, ⟨12, _⟩ => ⟨S1x2816, .f32⟩
  | .local _ .vmem, ⟨0, _⟩ => ⟨S128x1408, .f32⟩
  | .local _ .vmem, ⟨1, _⟩ => ⟨S128x1408, .f32⟩
  | .local _ .vmem, ⟨2, _⟩ => ⟨S8x1408, .f32⟩
  | .local _ .vmem, ⟨3, _⟩ => ⟨S8x1408, .f32⟩
  | .local _ .vmem, ⟨4, _⟩ => ⟨S128x1408, .f32⟩
  | .local _ .vmem, ⟨5, _⟩ => ⟨S128x1408, .f32⟩
  | .local _ .vmem, ⟨6, _⟩ => ⟨S8x1408, .f32⟩
  | .local _ .vmem, ⟨7, _⟩ => ⟨S8x1408, .f32⟩
  | .local _ .vmem, ⟨8, _⟩ => ⟨S128x1408, .f32⟩
  | .local _ .vmem, ⟨9, _⟩ => ⟨S128x1408, .f32⟩
  | .local _ .vmem, ⟨10, _⟩ => ⟨S3x1408, .f32⟩
  | .local _ .vmem, ⟨11, _⟩ => ⟨S3x1408, .f32⟩
  | .local _ .vmem, ⟨12, _⟩ => ⟨S3x1408, .f32⟩
  | .local _ .vmem, ⟨13, _⟩ => ⟨S3x1408, .f32⟩
  | .local _ .vmem, ⟨14, _⟩ => ⟨S1x1408, .f32⟩
  | .local _ .vmem, ⟨15, _⟩ => ⟨S1x1408, .f32⟩
  | .local _ .vmem, ⟨16, _⟩ => ⟨S1x1408, .f32⟩
  | .local _ .vmem, ⟨17, _⟩ => ⟨S1x1408, .f32⟩
  | .local _ .vmem, ⟨18, _⟩ => ⟨S128x1408, .f32⟩
  | .local _ .vmem, ⟨19, _⟩ => ⟨S128x1408, .f32⟩
  | .local _ .vmem, ⟨20, _⟩ => ⟨S128x1408, .f32⟩
  | .local _ .vmem, ⟨21, _⟩ => ⟨S128x1408, .f32⟩
  | .local _ .vmem, ⟨22, _⟩ => ⟨S3x1408, .f32⟩
  | .local _ .vmem, ⟨23, _⟩ => ⟨S3x1408, .f32⟩
  | .local _ .vmem, ⟨24, _⟩ => ⟨S3x1408, .f32⟩
  | .local _ .vmem, ⟨25, _⟩ => ⟨S3x1408, .f32⟩
  | .local _ .vmem, ⟨26, _⟩ => ⟨S1x1408, .f32⟩
  | .local _ .vmem, ⟨27, _⟩ => ⟨S1x1408, .f32⟩
  | .local _ .vmem, ⟨28, _⟩ => ⟨S1x1408, .f32⟩
  | .local _ .vmem, ⟨29, _⟩ => ⟨S1x1408, .f32⟩
  | .local _ .vmem, ⟨30, _⟩ => ⟨S136x1408, .f32⟩
  | .local _ .vmem, ⟨31, _⟩ => ⟨S136x1408, .f32⟩
  | _, _ => ⟨S8320x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![2, 65], ![false, false]⟩

def k0_cond1 (i : grid0.Coords) : BitVec 1 :=
  let arg1 : BitVec 32 := BitVec.ofNat 32 (i 1).val
  let c0_i32_71 : BitVec 32 := 0#32
  let v106 : BitVec 1 := Scalar.cmpi .eq arg1 c0_i32_71
  let v107 : BitVec 32 := Scalar.extui v106
  let c0_i32_72 : BitVec 32 := 0#32
  let v108 : BitVec 1 := Scalar.cmpi .ne v107 c0_i32_72
  v108

def k0_cond2 (i : grid0.Coords) : BitVec 1 :=
  let arg1 : BitVec 32 := BitVec.ofNat 32 (i 1).val
  let c0_i32_73 : BitVec 32 := 0#32
  let v109 : BitVec 1 := Scalar.cmpi .sgt arg1 c0_i32_73
  let v110 : BitVec 32 := Scalar.extui v109
  let c0_i32_74 : BitVec 32 := 0#32
  let v111 : BitVec 1 := Scalar.cmpi .ne v110 c0_i32_74
  v111

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S3x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S128x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S3x1408 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S3x1408 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1408 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x1408 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== Reference32Ideal.lean ====
abbrev S8320x2816 : Shape := ⟨2, ![8320, 2816]⟩
abbrev S3x2816 : Shape := ⟨2, ![3, 2816]⟩
abbrev S1x2816 : Shape := ⟨2, ![1, 2816]⟩
abbrev S_ : Shape := ⟨0, ![]⟩
abbrev S2x2816 : Shape := ⟨2, ![2, 2816]⟩
abbrev S8322x2816 : Shape := ⟨2, ![8322, 2816]⟩
abbrev S2816 : Shape := ⟨1, ![2816]⟩

abbrev nBuf : Space → Nat
  | .hbm => 147
  | .vmem => 0
  | .smem => 0
  | _ => 0

abbrev hbmTy0_0 (i : Nat) : BufTy := match i % 128 with
  | 0 => ⟨S8320x2816, .f32⟩
  | 1 => ⟨S8320x2816, .f32⟩
  | 2 => ⟨S8320x2816, .f32⟩
  | 3 => ⟨S3x2816, .f32⟩
  | 4 => ⟨S3x2816, .f32⟩
  | 5 => ⟨S1x2816, .f32⟩
  | 6 => ⟨S1x2816, .f32⟩
  | 7 => ⟨S_, .f32⟩
  | 8 => ⟨S2x2816, .f32⟩
  | 9 => ⟨S8322x2816, .f32⟩
  | 10 => ⟨S1x2816, .f32⟩
  | 11 => ⟨S2816, .f32⟩
  | 12 => ⟨S8320x2816, .f32⟩
  | 13 => ⟨S1x2816, .f32⟩
  | 14 => ⟨S8320x2816, .f32⟩
  | 15 => ⟨S8320x2816, .f32⟩
  | 16 => ⟨S_, .f32⟩
  | 17 => ⟨S8320x2816, .f32⟩
  | 18 => ⟨S8320x2816, .f32⟩
  | 19 => ⟨S1x2816, .f32⟩
  | 20 => ⟨S2816, .f32⟩
  | 21 => ⟨S8320x2816, .f32⟩
  | 22 => ⟨S1x2816, .f32⟩
  | 23 => ⟨S8320x2816, .f32⟩
  | 24 => ⟨S8320x2816, .f32⟩
  | 25 => ⟨S8320x2816, .f32⟩
  | 26 => ⟨S1x2816, .f32⟩
  | 27 => ⟨S2816, .f32⟩
  | 28 => ⟨S8320x2816, .f32⟩
  | 29 => ⟨S1x2816, .f32⟩
  | 30 => ⟨S8320x2816, .f32⟩
  | 31 => ⟨S8320x2816, .f32⟩
  | 32 => ⟨S8320x2816, .f32⟩
  | 33 => ⟨S8320x2816, .f32⟩
  | 34 => ⟨S8320x2816, .f32⟩
  | 35 => ⟨S_, .f32⟩
  | 36 => ⟨S2x2816, .f32⟩
  | 37 => ⟨S8322x2816, .f32⟩
  | 38 => ⟨S1x2816, .f32⟩
  | 39 => ⟨S2816, .f32⟩
  | 40 => ⟨S8320x2816, .f32⟩
  | 41 => ⟨S1x2816, .f32⟩
  | 42 => ⟨S8320x2816, .f32⟩
  | 43 => ⟨S8320x2816, .f32⟩
  | 44 => ⟨S_, .f32⟩
  | 45 => ⟨S8320x2816, .f32⟩
  | 46 => ⟨S8320x2816, .f32⟩
  | 47 => ⟨S1x2816, .f32⟩
  | 48 => ⟨S2816, .f32⟩
  | 49 => ⟨S8320x2816, .f32⟩
  | 50 => ⟨S1x2816, .f32⟩
  | 51 => ⟨S8320x2816, .f32⟩
  | 52 => ⟨S8320x2816, .f32⟩
  | 53 => ⟨S8320x2816, .f32⟩
  | 54 => ⟨S1x2816, .f32⟩
  | 55 => ⟨S2816, .f32⟩
  | 56 => ⟨S8320x2816, .f32⟩
  | 57 => ⟨S1x2816, .f32⟩
  | 58 => ⟨S8320x2816, .f32⟩
  | 59 => ⟨S8320x2816, .f32⟩
  | 60 => ⟨S8320x2816, .f32⟩
  | 61 => ⟨S8320x2816, .f32⟩
  | 62 => ⟨S8320x2816, .f32⟩
  | 63 => ⟨S8320x2816, .f32⟩
  | 64 => ⟨S8320x2816, .f32⟩
  | 65 => ⟨S_, .f32⟩
  | 66 => ⟨S8320x2816, .f32⟩
  | 67 => ⟨S8320x2816, .f32⟩
  | 68 => ⟨S_, .f32⟩
  | 69 => ⟨S8320x2816, .f32⟩
  | 70 => ⟨S8320x2816, .f32⟩
  | 71 => ⟨S_, .f32⟩
  | 72 => ⟨S8320x2816, .f32⟩
  | 73 => ⟨S8320x2816, .f32⟩
  | 74 => ⟨S8320x2816, .f32⟩
  | 75 => ⟨S8320x2816, .f32⟩
  | 76 => ⟨S8320x2816, .f32⟩
  | 77 => ⟨S8320x2816, .f32⟩
  | 78 => ⟨S8320x2816, .f32⟩
  | 79 => ⟨S8320x2816, .f32⟩
  | 80 => ⟨S8320x2816, .f32⟩
  | 81 => ⟨S8320x2816, .f32⟩
  | 82 => ⟨S8320x2816, .f32⟩
  | 83 => ⟨S_, .f32⟩
  | 84 => ⟨S2816, .f32⟩
  | 85 => ⟨S1x2816, .f32⟩
  | 86 => ⟨S8320x2816, .f32⟩
  | 87 => ⟨S_, .f32⟩
  | 88 => ⟨S2816, .f32⟩
  | 89 => ⟨S1x2816, .f32⟩
  | 90 => ⟨S_, .f32⟩
  | 91 => ⟨S2816, .f32⟩
  | 92 => ⟨S1x2816, .f32⟩
  | 93 => ⟨S_, .f32⟩
  | 94 => ⟨S3x2816, .f32⟩
  | 95 => ⟨S8320x2816, .f32⟩
  | 96 => ⟨S_, .f32⟩
  | 97 => ⟨S2816, .f32⟩
  | 98 => ⟨S1x2816, .f32⟩
  | 99 => ⟨S_, .f32⟩
  | 100 => ⟨S2816, .f32⟩
  | 101 => ⟨S1x2816, .f32⟩
  | 102 => ⟨S_, .f32⟩
  | 103 => ⟨S3x2816, .f32⟩
  | 104 => ⟨S3x2816, .f32⟩
  | 105 => ⟨S8320x2816, .f32⟩
  | 106 => ⟨S_, .f32⟩
  | 107 => ⟨S2816, .f32⟩
  | 108 => ⟨S1x2816, .f32⟩
  | 109 => ⟨S_, .f32⟩
  | 110 => ⟨S2816, .f32⟩
  | 111 => ⟨S1x2816, .f32⟩
  | 112 => ⟨S_, .f32⟩
  | 113 => ⟨S3x2816, .f32⟩
  | 114 => ⟨S3x2816, .f32⟩
  | 115 => ⟨S_, .f32⟩
  | 116 => ⟨S2816, .f32⟩
  | 117 => ⟨S1x2816, .f32⟩
  | 118 => ⟨S8320x2816, .f32⟩
  | 119 => ⟨S_, .f32⟩
  | 120 => ⟨S2816, .f32⟩
  | 121 => ⟨S1x2816, .f32⟩
  | 122 => ⟨S_, .f32⟩
  | 123 => ⟨S2816, .f32⟩
  | 124 => ⟨S1x2816, .f32⟩
  | 125 => ⟨S_, .f32⟩
  | 126 => ⟨S3x2816, .f32⟩
  | 127 => ⟨S8320x2816, .f32⟩
  | _ => ⟨S8320x2816, .f32⟩

abbrev hbmTy0_1 (i : Nat) : BufTy := match i % 128 with
  | 0 => ⟨S_, .f32⟩
  | 1 => ⟨S2816, .f32⟩
  | 2 => ⟨S1x2816, .f32⟩
  | 3 => ⟨S_, .f32⟩
  | 4 => ⟨S2816, .f32⟩
  | 5 => ⟨S1x2816, .f32⟩
  | 6 => ⟨S_, .f32⟩
  | 7 => ⟨S3x2816, .f32⟩
  | 8 => ⟨S3x2816, .f32⟩
  | 9 => ⟨S8320x2816, .f32⟩
  | 10 => ⟨S_, .f32⟩
  | 11 => ⟨S2816, .f32⟩
  | 12 => ⟨S1x2816, .f32⟩
  | 13 => ⟨S_, .f32⟩
  | 14 => ⟨S2816, .f32⟩
  | 15 => ⟨S1x2816, .f32⟩
  | 16 => ⟨S_, .f32⟩
  | 17 => ⟨S3x2816, .f32⟩
  | 18 => ⟨S3x2816, .f32⟩
  | _ => ⟨S8320x2816, .f32⟩

abbrev hbmTy (i : Nat) : BufTy := match i / 128 with
  | 0 => hbmTy0_0 i
  | 1 => hbmTy0_1 i
  | _ => ⟨S8320x2816, .f32⟩

abbrev bufTy : (tb : Table) → Fin (tcTables nBuf tb) → BufTy
  | .hbm, ⟨i, _⟩ => hbmTy i
  | _, _ => ⟨S8320x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_2 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_call0_v0 : Ref sig .tc := ⟨.hbm, 63, rfl⟩
abbrev main_call0_v1 : Ref sig .tc := ⟨.hbm, 64, rfl⟩
abbrev main_call0_cst : Ref sig .tc := ⟨.hbm, 65, rfl⟩
abbrev main_call0_v2 : Ref sig .tc := ⟨.hbm, 66, rfl⟩
abbrev main_call0_v3 : Ref sig .tc := ⟨.hbm, 67, rfl⟩
abbrev main_call0_cst_0 : Ref sig .tc := ⟨.hbm, 68, rfl⟩
abbrev main_call0_v4 : Ref sig .tc := ⟨.hbm, 69, rfl⟩
abbrev main_v52_2 : Ref sig .tc := ⟨.hbm, 70, rfl⟩
abbrev main_call0_cst_1 : Ref sig .tc := ⟨.hbm, 71, rfl⟩
abbrev main_call0_v6 : Ref sig .tc := ⟨.hbm, 72, rfl⟩
abbrev main_call0_v7 : Ref sig .tc := ⟨.hbm, 73, rfl⟩
abbrev main_v52_1 : Ref sig .tc := ⟨.hbm, 74, rfl⟩
abbrev main_v52_0 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_v56 : Ref sig .tc := ⟨.hbm, 82, rfl⟩
abbrev main_cst_3 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_4 : Ref sig .tc := ⟨.hbm, 87, rfl⟩
abbrev main_v60 : Ref sig .tc := ⟨.hbm, 88, rfl⟩
abbrev main_v61 : Ref sig .tc := ⟨.hbm, 89, rfl⟩
abbrev main_cst_5 : Ref sig .tc := ⟨.hbm, 90, rfl⟩
abbrev main_v62 : Ref sig .tc := ⟨.hbm, 91, rfl⟩
abbrev main_v63 : Ref sig .tc := ⟨.hbm, 92, rfl⟩
abbrev main_cst_6 : Ref sig .tc := ⟨.hbm, 93, rfl⟩
abbrev main_v64 : Ref sig .tc := ⟨.hbm, 94, rfl⟩
abbrev main_v65 : Ref sig .tc := ⟨.hbm, 95, rfl⟩
abbrev main_cst_7 : Ref sig .tc := ⟨.hbm, 96, rfl⟩
abbrev main_v66 : Ref sig .tc := ⟨.hbm, 97, rfl⟩
abbrev main_v67 : Ref sig .tc := ⟨.hbm, 98, rfl⟩
abbrev main_cst_8 : Ref sig .tc := ⟨.hbm, 99, rfl⟩
abbrev main_v68 : Ref sig .tc := ⟨.hbm, 100, rfl⟩
abbrev main_v69 : Ref sig .tc := ⟨.hbm, 101, rfl⟩
abbrev main_cst_9 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_10 : Ref sig .tc := ⟨.hbm, 106, rfl⟩
abbrev main_v73 : Ref sig .tc := ⟨.hbm, 107, rfl⟩
abbrev main_v74 : Ref sig .tc := ⟨.hbm, 108, rfl⟩
abbrev main_cst_11 : Ref sig .tc := ⟨.hbm, 109, rfl⟩
abbrev main_v75 : Ref sig .tc := ⟨.hbm, 110, rfl⟩
abbrev main_v76 : Ref sig .tc := ⟨.hbm, 111, rfl⟩
abbrev main_cst_12 : Ref sig .tc := ⟨.hbm, 112, rfl⟩
abbrev main_v77 : Ref sig .tc := ⟨.hbm, 113, rfl⟩
abbrev main_v78 : Ref sig .tc := ⟨.hbm, 114, rfl⟩
abbrev main_cst_13 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_14 : Ref sig .tc := ⟨.hbm, 119, rfl⟩
abbrev main_v82 : Ref sig .tc := ⟨.hbm, 120, rfl⟩
abbrev main_v83 : Ref sig .tc := ⟨.hbm, 121, rfl⟩
abbrev main_cst_15 : Ref sig .tc := ⟨.hbm, 122, rfl⟩
abbrev main_v84 : Ref sig .tc := ⟨.hbm, 123, rfl⟩
abbrev main_v85 : Ref sig .tc := ⟨.hbm, 124, rfl⟩
abbrev main_cst_16 : Ref sig .tc := ⟨.hbm, 125, rfl⟩
abbrev main_v86 : Ref sig .tc := ⟨.hbm, 126, rfl⟩
abbrev main_v87 : Ref sig .tc := ⟨.hbm, 127, rfl⟩
abbrev main_cst_17 : Ref sig .tc := ⟨.hbm, 128, rfl⟩
abbrev main_v88 : Ref sig .tc := ⟨.hbm, 129, rfl⟩
abbrev main_v89 : Ref sig .tc := ⟨.hbm, 130, rfl⟩
abbrev main_cst_18 : Ref sig .tc := ⟨.hbm, 131, rfl⟩
abbrev main_v90 : Ref sig .tc := ⟨.hbm, 132, rfl⟩
abbrev main_v91 : Ref sig .tc := ⟨.hbm, 133, rfl⟩
abbrev main_cst_19 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_cst_20 : Ref sig .tc := ⟨.hbm, 138, rfl⟩
abbrev main_v95 : Ref sig .tc := ⟨.hbm, 139, rfl⟩
abbrev main_v96 : Ref sig .tc := ⟨.hbm, 140, rfl⟩
abbrev main_cst_21 : Ref sig .tc := ⟨.hbm, 141, rfl⟩
abbrev main_v97 : Ref sig .tc := ⟨.hbm, 142, rfl⟩
abbrev main_v98 : Ref sig .tc := ⟨.hbm, 143, rfl⟩
abbrev main_cst_22 : Ref sig .tc := ⟨.hbm, 144, rfl⟩
abbrev main_v99 : Ref sig .tc := ⟨.hbm, 145, rfl⟩
abbrev main_v100 : Ref sig .tc := ⟨.hbm, 146, rfl⟩

abbrev nD : Nat := 1
abbrev τ : Topo := Topo.v7x

variable {F : FTy → Type} [FloatOps F]
-- ==== Proof.Attn.Spec.lean ====
/-
One grid point of the flash-attention backward, as pure functions of the blocks it reads: the
row tile `n` of the query, cotangent, statistics and query-gradient blocks, what one row tile does
to the three accumulators, and the walk over the row tiles `j, j+1, …, 12` of key tile `j`.
-/
module

public import proofs.«01_k».proof.Proof.Gen.KernelIdeal.Loops
public import Idealize.ShloMosaic.Lib.VecWindow

@[expose] public section
set_option maxRecDepth 16384
noncomputable section
namespace Cert.KernelIdeal.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen
variable {F : FTy → Type} [FloatOps F] [Named F]

theorem tile_inb {n : ℕ} (hn : n < 13) (w : ℕ) : ∀ a : Fin 2, (![640 * n, 0] : Fin 2 → ℕ) a + (![640, w] : Fin 2 → ℕ) a ≤ (![8320, w] : Fin 2 → ℕ) a := by
  intro a
  fin_cases a
  · show 640 * n + 640 ≤ 8320; omega
  · show 0 + w ≤ w; omega

theorem row_inb {n : ℕ} (hn : n < 13) : ∀ a : Fin 3, (![0, n, 0] : Fin 3 → ℕ) a + (![1, 1, 640] : Fin 3 → ℕ) a ≤ (![1, 13, 640] : Fin 3 → ℕ) a := by
  intro a
  fin_cases a
  · show 0 + 1 ≤ 1; omega
  · show n + 1 ≤ 13; omega
  · show 0 + 640 ≤ 640; omega

/-- Row tile `n` of a block of 8320 rows and 256 lanes. -/
def tile256 {e : EltTy} (X : Vec F S8320x256 e) (n : ℕ) (hn : n < 13) : Vec F S640x256 e :=
  VecWindow.window (s := S8320x256) X ![640 * n, 0] ![640, 256] (tile_inb hn 256)
/-- Row tile `n` of a block of 8320 rows and 128 lanes. -/
def tile128 {e : EltTy} (X : Vec F S8320x128 e) (n : ℕ) (hn : n < 13) : Vec F S640x128 e :=
  VecWindow.window (s := S8320x128) X ![640 * n, 0] ![640, 128] (tile_inb hn 128)
/-- Row `n` of a block of 13 rows of statistics. -/
def stat (X : Vec F S1x13x640 .f32) (n : ℕ) (hn : n < 13) : Vec F S1x1x640 .f32 :=
  VecWindow.window (s := S1x13x640) X ![0, n, 0] ![1, 1, 640] (row_inb hn)
/-- The query-gradient block with its row tile `n` replaced. -/
def putTile (X : Vec F S8320x256 .f32) (n : ℕ) (w : Vec F S640x256 .f32) : Vec F S8320x256 .f32 :=
  VecWindow.put (s := S8320x256) X ![640 * n, 0] ![640, 256] w

/-- What is carried over the row tiles: the key and value accumulators and the query-gradient block. -/
abbrev Acc (F : FTy → Type) [FloatOps F] : Type := (FVec F S640x256 .f32 × FVec F S640x128 .f32) × Vec F S8320x256 .f32

/-- One row tile below the diagonal. -/
def tileStep (x0 : Vec F S8320x256 .bf16) (x1 : Vec F S8320x128 .bf16) (x2 x3 : Vec F S1x13x640 .f32) (v6 : FVec F S640x256 .bf16) (v7 : Vec F S640x128 .bf16)
    (n : ℕ) (hn : n < 13) (s : Acc F) : Acc F :=
  ((k0_pay8 v6 v7 s.1.1 (tile256 x0 n hn) (tile128 x1 n hn) (stat x2 n hn) (stat x3 n hn),
    k0_pay7 v6 s.1.2 (tile256 x0 n hn) (tile128 x1 n hn) (stat x2 n hn)),
   putTile s.2 n (k0_pay9 v6 v7 (tile256 x0 n hn) (tile128 x1 n hn) (stat x2 n hn) (stat x3 n hn) (tile256 s.2 n hn)))

/-- The row tiles `j + 1, …, j + k` one after the other. -/
def walk (x0 : Vec F S8320x256 .bf16) (x1 : Vec F S8320x128 .bf16) (x2 x3 : Vec F S1x13x640 .f32) (v6 : FVec F S640x256 .bf16) (v7 : Vec F S640x128 .bf16)
    (j : ℕ) (s : Acc F) : ℕ → Acc F
  | 0 => s
  | k + 1 => if h : j + 1 + k < 13 then tileStep x0 x1 x2 x3 v6 v7 (j + 1 + k) h (walk x0 x1 x2 x3 v6 v7 j s k) else walk x0 x1 x2 x3 v6 v7 j s k

/-- The masked tile on the diagonal, from accumulators of zeros. -/
def diagStep (x0 : Vec F S8320x256 .bf16) (x1 : Vec F S8320x128 .bf16) (x2 x3 : Vec F S1x13x640 .f32) (x4 x5 x6 : Vec F S640x128 .bf16)
    (j : ℕ) (hj : j < 13) (D : Vec F S8320x256 .f32) : Acc F :=
  ((k0_pay2 k0_pay21 (k0_pay23 (tile256 x0 j hj)) (k0_pay25 x4 x6 x5 (tile256 x0 j hj) (tile128 x1 j hj) (stat x2 j hj) (stat x3 j hj)),
    k0_pay1 k0_pay22 (tile128 x1 j hj) (k0_pay24 x4 x6 (tile256 x0 j hj) (stat x2 j hj))),
   putTile D j (k0_pay3 (k0_pay20 x4 x6) (k0_pay25 x4 x6 x5 (tile256 x0 j hj) (tile128 x1 j hj) (stat x2 j hj) (stat x3 j hj)) (tile256 D j hj)))

/-- The query-gradient block a key tile starts from: zeros at the first of a head. -/
def base (j : ℕ) (D : Vec F S8320x256 .f32) : Vec F S8320x256 .f32 := if j = 0 then k0_pay19 else D

/-- What key tile `j` leaves: the two accumulators and the query-gradient block. -/
def point (x0 : Vec F S8320x256 .bf16) (x1 : Vec F S8320x128 .bf16) (x2 x3 : Vec F S1x13x640 .f32) (x4 x5 x6 : Vec F S640x128 .bf16)
    (j : ℕ) (hj : j < 13) (D : Vec F S8320x256 .f32) : Acc F :=
  walk x0 x1 x2 x3 (k0_pay20 x4 x6) x5 j (diagStep x0 x1 x2 x3 x4 x5 x6 j hj (base j D)) (12 - j)

end Cert.KernelIdeal.Attn
-- ==== Proof.Attn.Loops.lean ====
/-
The two counted loops of the kernel body: the state of the first is followed trip by trip and is the
walk of `Spec`; the second has no trips.
-/
module

public import proofs.«01_k».proof.Proof.Attn.Spec
public import proofs.«01_k».proof.Proof.Gen.KernelIdeal.Frame

@[expose] public section
set_option maxRecDepth 16384
noncomputable section
namespace Cert.KernelIdeal.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen
variable {F : FTy → Type} [FloatOps F] [Named F]
local notation "𝕄" => MT nD τ sig Unit (Elt F) ℕ (UR sig nD τ) ℕ

theorem coord1_lt (i : grid0.Coords) : (i 1).val < 13 := (i 1).isLt

/-! ### The word arithmetic of the loops -/

theorem trips1 (i : grid0.Coords) : (k0_t1_loop i).trips = 12 - (i 1).val := by
  have key : ∀ n : Fin 13, Scf.trips (Scalar.addi (BitVec.ofNat 32 n.val) 1#32)
      (Scalar.addi (Scalar.addi (BitVec.ofNat 32 n.val) 1#32) (Scalar.muli (Scalar.divsi (Scalar.subi 13#32 (Scalar.addi (BitVec.ofNat 32 n.val) 1#32)) 1#32) 1#32)) 1#32 = 12 - n.val := by
    decide +kernel
  exact key ⟨_, coord1_lt i⟩

theorem trips2 (i : grid0.Coords) : (k0_t2_loop i).trips = 0 := by
  have key : ∀ n : Fin 13, Scf.trips
      (Scalar.addi (Scalar.addi (BitVec.ofNat 32 n.val) 1#32) (Scalar.muli (Scalar.divsi (Scalar.subi 13#32 (Scalar.addi (BitVec.ofNat 32 n.val) 1#32)) 1#32) 1#32))
      (Scalar.addi (Scalar.addi (BitVec.ofNat 32 n.val) 1#32) (Scalar.subi 13#32 (Scalar.addi (BitVec.ofNat 32 n.val) 1#32))) 1#32 = 0 := by
    decide +kernel
  exact key ⟨_, coord1_lt i⟩

theorem trips1_scf (i : grid0.Coords) : Scf.trips (Scalar.addi (BitVec.ofNat 32 (i 1).val) 1#32)
      (Scalar.addi (Scalar.addi (BitVec.ofNat 32 (i 1).val) 1#32) (Scalar.muli (Scalar.divsi (Scalar.subi 13#32 (Scalar.addi (BitVec.ofNat 32 (i 1).val) 1#32)) 1#32) 1#32)) 1#32 = 12 - (i 1).val :=
  trips1 i

theorem trips2_scf (i : grid0.Coords) : Scf.trips
      (Scalar.addi (Scalar.addi (BitVec.ofNat 32 (i 1).val) 1#32) (Scalar.muli (Scalar.divsi (Scalar.subi 13#32 (Scalar.addi (BitVec.ofNat 32 (i 1).val) 1#32)) 1#32) 1#32))
      (Scalar.addi (Scalar.addi (BitVec.ofNat 32 (i 1).val) 1#32) (Scalar.subi 13#32 (Scalar.addi (BitVec.ofNat 32 (i 1).val) 1#32))) 1#32 = 0 :=
  trips2 i

theorem iv_tile (n k : ℕ) (h : n + 1 + k < 13) : (Scf.iv (Scalar.addi (BitVec.ofNat 32 n) 1#32) 1#32 k).toNat = n + 1 + k
    ∧ (Scalar.muli (Scf.iv (Scalar.addi (BitVec.ofNat 32 n) 1#32) 1#32 k) 640#32).toNat = 640 * (n + 1 + k) := by
  have key : ∀ n k : Fin 13, n.val + 1 + k.val < 13 → (Scf.iv (Scalar.addi (BitVec.ofNat 32 n.val) 1#32) 1#32 k.val).toNat = n.val + 1 + k.val
    ∧ (Scalar.muli (Scf.iv (Scalar.addi (BitVec.ofNat 32 n.val) 1#32) 1#32 k.val) 640#32).toNat = 640 * (n.val + 1 + k.val) := by
    decide +kernel
  exact key ⟨n, by omega⟩ ⟨k, by omega⟩ h

theorem trip_lt {i : grid0.Coords} (k : Fin (k0_t1_loop i).trips) : (i 1).val + 1 + k.val < 13 := by
  have := k.isLt
  have h := trips1 i
  have := coord1_lt i
  omega

theorem off4_eq (i : grid0.Coords) (k : Fin (k0_t1_loop i).trips) : k0_off4 i k = ![640 * ((i 1).val + 1 + k.val), 0] := by
  have h := (iv_tile (i 1).val k.val (trip_lt k)).2
  funext a; fin_cases a
  · exact h
  · rfl
theorem off5_eq (i : grid0.Coords) (k : Fin (k0_t1_loop i).trips) : k0_off5 i k = ![640 * ((i 1).val + 1 + k.val), 0] := by
  have h := (iv_tile (i 1).val k.val (trip_lt k)).2
  funext a; fin_cases a
  · exact h
  · rfl
theorem off6_eq (i : grid0.Coords) (k : Fin (k0_t1_loop i).trips) : k0_off6 i k = ![0, (i 1).val + 1 + k.val, 0] := by
  have h := (iv_tile (i 1).val k.val (trip_lt k)).1
  funext a; fin_cases a
  · rfl
  · exact h
  · rfl
theorem mul_tile (n : ℕ) (h : n < 13) : (Scalar.muli (BitVec.ofNat 32 n) 640#32).toNat = 640 * n ∧ (BitVec.ofNat 32 n).toNat = n := by
  have key : ∀ n : Fin 13, (Scalar.muli (BitVec.ofNat 32 n.val) 640#32).toNat = 640 * n.val ∧ (BitVec.ofNat 32 n.val).toNat = n.val := by
    decide +kernel
  exact key ⟨n, h⟩
theorem off1_eq (i : grid0.Coords) : k0_off1 i = ![640 * (i 1).val, 0] := by
  have h := (mul_tile (i 1).val (coord1_lt i)).1
  funext a; fin_cases a
  · exact h
  · rfl
theorem off2_eq (i : grid0.Coords) : k0_off2 i = ![640 * (i 1).val, 0] := by
  have h := (mul_tile (i 1).val (coord1_lt i)).1
  funext a; fin_cases a
  · exact h
  · rfl
theorem off3_eq (i : grid0.Coords) : k0_off3 i = ![0, (i 1).val, 0] := by
  have h := (mul_tile (i 1).val (coord1_lt i)).2
  funext a; fin_cases a
  · rfl
  · exact h
  · rfl

/-! ### The loads, as tiles of the blocks -/

theorem load256 {e : EltTy} (M : Memref sig .tc .vmem S8320x256 e) (f : BufTy.Contents (Elt F) M.view.ty) {off : Fin 2 → ℕ} (n : ℕ) (hn : n < 13) (ho : off = ![640 * n, 0]) (inb) :
    M.view.readAt (Elt F) (Rect.unit (s := S8320x256) off ![640, 256] inb).toLoadRect f = tile256 (M.view.read (Elt F) f) n hn :=
  View.readAt_unit M.view f (size := ![640, 256]) inb ho _
theorem load128 {e : EltTy} (M : Memref sig .tc .vmem S8320x128 e) (f : BufTy.Contents (Elt F) M.view.ty) {off : Fin 2 → ℕ} (n : ℕ) (hn : n < 13) (ho : off = ![640 * n, 0]) (inb) :
    M.view.readAt (Elt F) (Rect.unit (s := S8320x128) off ![640, 128] inb).toLoadRect f = tile128 (M.view.read (Elt F) f) n hn :=
  View.readAt_unit M.view f (size := ![640, 128]) inb ho _
theorem loadStat (M : Memref sig .tc .vmem S1x13x640 .f32) (f : BufTy.Contents (Elt F) M.view.ty) {off : Fin 3 → ℕ} (n : ℕ) (hn : n < 13) (ho : off = ![0, n, 0]) (inb) :
    M.view.readAt (Elt F) (Rect.unit (s := S1x13x640) off ![1, 1, 640] inb).toLoadRect f = stat (M.view.read (Elt F) f) n hn :=
  View.readAt_unit M.view f (size := ![1, 1, 640]) inb ho _
theorem loadFull (M : Memref sig .tc .vmem S640x128 .bf16) (f : BufTy.Contents (Elt F) M.view.ty) (inb) :
    M.view.readAt (Elt F) (Rect.unit (s := S640x128) ![0, 0] S640x128.size inb).toLoadRect f = M.view.read (Elt F) f :=
  View.readAt_full M.view f inb
theorem storeTile (M : Memref sig .tc .vmem S8320x256 .f32) (f : BufTy.Contents (Elt F) M.view.ty) {off : Fin 2 → ℕ} (n : ℕ) (ho : off = ![640 * n, 0]) (inb) (w : Vec F S640x256 .f32)
    (L : List (View.Piece (Elt F) S8320x256 .f32)) :
    M.view.read (Elt F) (M.view.writes (Elt F) f (⟨Rect.unit (s := S8320x256) off ![640, 256] inb, w⟩ :: L)) = putTile (M.view.read (Elt F) (M.view.writes (Elt F) f L)) n w :=
  View.read_writes_cons_put M.view f (size := ![640, 256]) inb w L ho

/-! ### The counted loop's state -/

section Loop
variable (c : Dev nD) (i : grid0.Coords) (arg2 : Memref sig .tc .vmem S8320x256 .bf16) (harg2 : arg2.IsWhole) (arg3 : Memref sig .tc .vmem S8320x128 .bf16) (harg3 : arg3.IsWhole) (arg4 : Memref sig .tc .vmem S1x13x640 .f32) (harg4 : arg4.IsWhole) (arg5 : Memref sig .tc .vmem S1x13x640 .f32) (harg5 : arg5.IsWhole) (arg6 : Memref sig .tc .vmem S640x128 .bf16) (harg6 : arg6.IsWhole) (arg7 : Memref sig .tc .vmem S640x128 .bf16) (harg7 : arg7.IsWhole) (arg8 : Memref sig .tc .vmem S640x128 .bf16) (harg8 : arg8.IsWhole) (arg9 : Memref sig .tc .vmem S8320x256 .f32) (harg9 : arg9.IsWhole) (arg10 : Memref sig .tc .vmem S640x128 .bf16) (harg10 : arg10.IsWhole) (arg11 : Memref sig .tc .vmem S1x640x128 .f32) (harg11 : arg11.IsWhole) (arg12 : Memref sig .tc .vmem S640x128 .bf16) (harg12 : arg12.IsWhole)
  (v6 : FVec F S640x256 .bf16) (v7 : Vec F S640x128 .bf16) (x0 : Vec F S8320x256 .bf16) (x1 : Vec F S8320x128 .bf16) (x2 x3 : Vec F S1x13x640 .f32)
  (G : BufTy.Contents (Elt F) arg9.view.ty) (init : FVec F S640x256 .f32 × FVec F S640x128 .f32)

/-- The counted loop's state before trip `k` is the walk over the first `k` row tiles. -/
theorem loop1_eq (k : ℕ) (hk : k ≤ (k0_t1_loop i).trips) :
    (st_k0_t1 Variants.none c none i arg2 harg2 arg3 harg3 arg4 harg4 arg5 harg5 arg6 harg6 arg7 harg7 arg8 harg8 arg9 harg9 arg10 harg10 arg11 harg11 arg12 harg12 v6 v7 (harg2.unread x0) (harg3.unread x1) (harg4.unread x2) (harg5.unread x3) G init k).1
        = (walk x0 x1 x2 x3 v6 v7 (i 1).val (init, arg9.view.read (Elt F) G) k).1
      ∧ arg9.view.read (Elt F) (arg9.view.writes (Elt F) G (st_k0_t1 Variants.none c none i arg2 harg2 arg3 harg3 arg4 harg4 arg5 harg5 arg6 harg6 arg7 harg7 arg8 harg8 arg9 harg9 arg10 harg10 arg11 harg11 arg12 harg12 v6 v7 (harg2.unread x0) (harg3.unread x1) (harg4.unread x2) (harg5.unread x3) G init k).2)
        = (walk x0 x1 x2 x3 v6 v7 (i 1).val (init, arg9.view.read (Elt F) G) k).2 := by
  induction k with
  | zero => exact ⟨rfl, rfl⟩
  | succ k ih =>
    obtain ⟨ih1, ih2⟩ := ih (by omega)
    have hlt : (i 1).val + 1 + k < 13 := trip_lt (i := i) ⟨k, hk⟩
    have hs := st_k0_t1_succ (F := F) Variants.none c none i arg2 harg2 arg3 harg3 arg4 harg4 arg5 harg5 arg6 harg6 arg7 harg7 arg8 harg8 arg9 harg9 arg10 harg10 arg11 harg11 arg12 harg12 v6 v7 (harg2.unread x0) (harg3.unread x1) (harg4.unread x2) (harg5.unread x3) G init ⟨k, hk⟩
    simp only at hs
    rw [hs]
    unfold tripR_k0_t1 tripL_k0_t1 trip_k0_t1
    dsimp only
    rw [walk, dif_pos hlt]
    have o4 := off4_eq i ⟨k, hk⟩
    have o5 := off5_eq i ⟨k, hk⟩
    have o6 := off6_eq i ⟨k, hk⟩
    simp only at o4 o5 o6
    have r2 := load256 arg2 (harg2.unread x0) ((i 1).val + 1 + k) hlt o4 (k0_off4_inb i ⟨k, hk⟩)
    have r3 := load128 arg3 (harg3.unread x1) ((i 1).val + 1 + k) hlt o5 (k0_off5_inb i ⟨k, hk⟩)
    have r4 := loadStat arg4 (harg4.unread x2) ((i 1).val + 1 + k) hlt o6 (k0_off6_inb i ⟨k, hk⟩)
    have r5 := loadStat arg5 (harg5.unread x3) ((i 1).val + 1 + k) hlt o6 (k0_off6_inb i ⟨k, hk⟩)
    rw [harg2.read_unread] at r2
    rw [harg3.read_unread] at r3
    rw [harg4.read_unread] at r4
    rw [harg5.read_unread] at r5
    have r9 := fun f : BufTy.Contents (Elt F) arg9.view.ty => load256 arg9 f ((i 1).val + 1 + k) hlt o4 (k0_off4_inb i ⟨k, hk⟩)
    constructor
    · rw [r2, r3, r4, r5, ih1]; rfl
    · refine (storeTile arg9 G _ o4 _ _ _).trans ?_
      rw [r2, r3, r4, r5, r9, ih2]
      simp only [List.append_eq, List.nil_append]
      rw [ih2]; rfl

/-- The second counted loop has no trips: its state at the end is the state it starts from. -/
theorem loop2_eq (X2 X3 X4 X5) :
    st_k0_t2 Variants.none c none i arg2 harg2 arg3 harg3 arg4 harg4 arg5 harg5 arg6 harg6 arg7 harg7 arg8 harg8 arg9 harg9 arg10 harg10 arg11 harg11 arg12 harg12 v6 v7 X2 X3 X4 X5 G init 0 = (init, []) := rfl

/-- Both loops after the diagonal tile leave what `point` says. -/
theorem loops_eq (x4 x5 x6 : Vec F S640x128 .bf16) (d : Vec F S8320x256 .f32) (hj : (i 1).val < 13) (G0 : BufTy.Contents (Elt F) arg9.view.ty)
    (hG0 : arg9.view.read (Elt F) G0 = base (i 1).val d) (v43 : Vec F S640x256 .f32) (hv : v43 = tile256 (arg9.view.read (Elt F) G0) (i 1).val hj)
    (dsv : FVec F S640x640 .bf16) (hds : dsv = k0_pay25 x4 x6 x5 (tile256 x0 (i 1).val hj) (tile128 x1 (i 1).val hj) (stat x2 (i 1).val hj) (stat x3 (i 1).val hj))
    (inb : ∀ a, k0_off1 i a + (![640, 256] : Fin 2 → ℕ) a ≤ S8320x256.size a)
    (S1 : (FVec F S640x256 .f32 × FVec F S640x128 .f32) × List (View.Piece (Elt F) S8320x256 .f32))
    (hS1 : S1 = st_k0_t1 Variants.none c none i arg2 harg2 arg3 harg3 arg4 harg4 arg5 harg5 arg6 harg6 arg7 harg7 arg8 harg8 arg9 harg9 arg10 harg10 arg11 harg11 arg12 harg12 (k0_pay20 x4 x6) x5 (harg2.unread x0) (harg3.unread x1) (harg4.unread x2) (harg5.unread x3)
      (arg9.view.writes (Elt F) G0 [⟨Rect.unit (s := S8320x256) (k0_off1 i) ![640, 256] inb, k0_pay3 (k0_pay20 x4 x6) dsv v43⟩])
      (k0_pay2 k0_pay21 (k0_pay23 (tile256 x0 (i 1).val hj)) dsv, k0_pay1 k0_pay22 (tile128 x1 (i 1).val hj) (k0_pay24 x4 x6 (tile256 x0 (i 1).val hj) (stat x2 (i 1).val hj)))
      (12 - (i 1).val)) :
    S1.1 = (point x0 x1 x2 x3 x4 x5 x6 (i 1).val hj d).1
      ∧ arg9.view.read (Elt F) (arg9.view.writes (Elt F) G0 (S1.2 ++ [⟨Rect.unit (s := S8320x256) (k0_off1 i) ![640, 256] inb, k0_pay3 (k0_pay20 x4 x6) dsv v43⟩]))
        = (point x0 x1 x2 x3 x4 x5 x6 (i 1).val hj d).2 := by
  have h := loop1_eq c i arg2 harg2 arg3 harg3 arg4 harg4 arg5 harg5 arg6 harg6 arg7 harg7 arg8 harg8 arg9 harg9 arg10 harg10 arg11 harg11 arg12 harg12 (k0_pay20 x4 x6) x5 x0 x1 x2 x3
    (arg9.view.writes (Elt F) G0 [⟨Rect.unit (s := S8320x256) (k0_off1 i) ![640, 256] inb, k0_pay3 (k0_pay20 x4 x6) dsv v43⟩])
    (k0_pay2 k0_pay21 (k0_pay23 (tile256 x0 (i 1).val hj)) dsv, k0_pay1 k0_pay22 (tile128 x1 (i 1).val hj) (k0_pay24 x4 x6 (tile256 x0 (i 1).val hj) (stat x2 (i 1).val hj)))
    (k0_t1_loop i).trips le_rfl
  rw [storeTile arg9 G0 (i 1).val (off1_eq i) inb _ [], show arg9.view.writes (Elt F) G0 [] = G0 from rfl, hG0] at h
  rw [hG0] at hv
  rw [show (k0_t1_loop i).trips = 12 - (i 1).val from trips1 i] at h
  rw [← hS1] at h
  rw [View.writes_append]
  have hd : diagStep x0 x1 x2 x3 x4 x5 x6 (i 1).val hj (base (i 1).val d)
      = ((k0_pay2 k0_pay21 (k0_pay23 (tile256 x0 (i 1).val hj)) dsv, k0_pay1 k0_pay22 (tile128 x1 (i 1).val hj) (k0_pay24 x4 x6 (tile256 x0 (i 1).val hj) (stat x2 (i 1).val hj))),
        putTile (base (i 1).val d) (i 1).val (k0_pay3 (k0_pay20 x4 x6) dsv v43)) := by
    unfold diagStep
    rw [hv, hds]
  unfold point
  rw [hd]
  exact h

end Loop
end Cert.KernelIdeal.Attn
-- ==== Proof.Attn.Run.lean ====
/-
The kernel body at one grid point, run on whole staging buffers: it leaves what `point` says (`Spec`).
-/
module

public import proofs.«01_k».proof.Proof.Attn.Loops

@[expose] public section
set_option maxRecDepth 16384
noncomputable section
namespace Cert.KernelIdeal.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen
variable {F : FTy → Type} [FloatOps F] [Named F]
local notation "𝕄" => MT nD τ sig Unit (Elt F) ℕ (UR sig nD τ) ℕ

set_option maxHeartbeats 2000000 in
/-- The body's triple: the inputs' buffers come back as they were, the four results' hold what `point` says. -/
theorem body_run (c : Dev nD) (i : grid0.Coords) (arg2 : Memref sig .tc .vmem S8320x256 .bf16) (harg2 : arg2.IsWhole) (arg3 : Memref sig .tc .vmem S8320x128 .bf16) (harg3 : arg3.IsWhole) (arg4 : Memref sig .tc .vmem S1x13x640 .f32) (harg4 : arg4.IsWhole) (arg5 : Memref sig .tc .vmem S1x13x640 .f32) (harg5 : arg5.IsWhole) (arg6 : Memref sig .tc .vmem S640x128 .bf16) (harg6 : arg6.IsWhole) (arg7 : Memref sig .tc .vmem S640x128 .bf16) (harg7 : arg7.IsWhole) (arg8 : Memref sig .tc .vmem S640x128 .bf16) (harg8 : arg8.IsWhole) (arg9 : Memref sig .tc .vmem S8320x256 .f32) (harg9 : arg9.IsWhole) (arg10 : Memref sig .tc .vmem S640x128 .bf16) (harg10 : arg10.IsWhole) (arg11 : Memref sig .tc .vmem S1x640x128 .f32) (harg11 : arg11.IsWhole) (arg12 : Memref sig .tc .vmem S640x128 .bf16) (harg12 : arg12.IsWhole)
    (x0 : Vec F S8320x256 .bf16) (x1 : Vec F S8320x128 .bf16) (x2 : Vec F S1x13x640 .f32) (x3 : Vec F S1x13x640 .f32) (x4 : Vec F S640x128 .bf16) (x5 : Vec F S640x128 .bf16) (x6 : Vec F S640x128 .bf16)
    (d : Vec F S8320x256 .f32) (j : ℕ) (hj : j < 13) (hij : (i 1).val = j) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare d ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
              ∗ owns (c : Thread nD τ) arg9 fullShare (point x0 x1 x2 x3 x4 x5 x6 j hj d).2 ∗ owns (c : Thread nD τ) arg10 fullShare (k0_pay16 (point x0 x1 x2 x3 x4 x5 x6 j hj d).1.1)
              ∗ owns (c : Thread nD τ) arg11 fullShare (k0_pay17 (point x0 x1 x2 x3 x4 x5 x6 j hj d).1.1) ∗ owns (c : Thread nD τ) arg12 fullShare (k0_pay18 (point x0 x1 x2 x3 x4 x5 x6 j hj d).1.2)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12) K := by
    intro E K
    subst hij
    simp only [cc0_attn_bwd_eq_skeleton]; unfold cc0_attn_bwd_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec
    sl_step
    have l2 : View.readAt (Elt F) arg2.view (Rect.unit (s := S8320x256) (k0_off1 i) S640x256.size (k0_off1_inb i)).toLoadRect (harg2.unread x0) = tile256 x0 (i 1).val hj :=
      (load256 arg2 (harg2.unread x0) (i 1).val hj (off1_eq i) _).trans (by rw [harg2.read_unread])
    have l3 : View.readAt (Elt F) arg3.view (Rect.unit (s := S8320x128) (k0_off2 i) S640x128.size (k0_off2_inb i)).toLoadRect (harg3.unread x1) = tile128 x1 (i 1).val hj :=
      (load128 arg3 (harg3.unread x1) (i 1).val hj (off2_eq i) _).trans (by rw [harg3.read_unread])
    have l4 : View.readAt (Elt F) arg4.view (Rect.unit (s := S1x13x640) (k0_off3 i) S1x1x640.size (k0_off3_inb i)).toLoadRect (harg4.unread x2) = stat x2 (i 1).val hj :=
      (loadStat arg4 (harg4.unread x2) (i 1).val hj (off3_eq i) _).trans (by rw [harg4.read_unread])
    have l5 : View.readAt (Elt F) arg5.view (Rect.unit (s := S1x13x640) (k0_off3 i) S1x1x640.size (k0_off3_inb i)).toLoadRect (harg5.unread x3) = stat x3 (i 1).val hj :=
      (loadStat arg5 (harg5.unread x3) (i 1).val hj (off3_eq i) _).trans (by rw [harg5.read_unread])
    have l6 := (loadFull arg6 (harg6.unread x4) inb_S640x128_S640x128_0_0).trans (harg6.read_unread x4)
    have l7 := (loadFull arg7 (harg7.unread x5) inb_S640x128_S640x128_0_0).trans (harg7.read_unread x5)
    have l8 := (loadFull arg8 (harg8.unread x6) inb_S640x128_S640x128_0_0).trans (harg8.read_unread x6)
    have hcond : (Scalar.cmpi .ne (Scalar.extui (Scalar.cmpi .eq (BitVec.ofNat 32 (i 1).val) 0#32) : BitVec 32) 0#32 = 1#1) ↔ (i 1).val = 0 := by
      have key : ∀ n : Fin 13, (Scalar.cmpi .ne (Scalar.extui (Scalar.cmpi .eq (BitVec.ofNat 32 n.val) 0#32) : BitVec 32) 0#32 = 1#1) ↔ n.val = 0 := by
        decide +kernel
      exact key ⟨_, hj⟩
    have hG0 : arg9.view.read (Elt F) (if hc : body_run.sl.v2 i = 1#1 then
          arg9.view.writes (Elt F) f7 [⟨Rect.unit (s := S8320x256) ![0, 0] S8320x256.size inb_S8320x256_S8320x256_0_0, k0_pay19⟩] else f7) = base (i 1).val d := by
      unfold base
      delta body_run.sl.v2 body_run.sl.v1 body_run.sl.v0
      by_cases h0 : (i 1).val = 0
      · rw [if_pos h0, dif_pos (hcond.2 h0)]
        exact View.read_writes_full arg9.view f7 _ _ []
      · rw [if_neg h0, dif_neg (fun h => h0 (hcond.1 h))]
        exact hf7
    delta body_run.sl.r body_run.sl.r_1 body_run.sl.r_2 body_run.sl.r_3 body_run.sl.r_4 body_run.sl.r_5 body_run.sl.v43
    generalize (if hc : body_run.sl.v2 i = 1#1 then
          arg9.view.writes (Elt F) f7 [⟨Rect.unit (s := S8320x256) ![0, 0] S8320x256.size inb_S8320x256_S8320x256_0_0, k0_pay19⟩] else f7) = G0 at hG0 ⊢
    simp only [l2, l3, l4, l5, l6, l7, l8, trips1_scf, trips2_scf, loop2_eq, List.nil_append]
    have hL := loops_eq c i arg2 harg2 arg3 harg3 arg4 harg4 arg5 harg5 arg6 harg6 arg7 harg7 arg8 harg8 arg9 harg9 arg10 harg10 arg11 harg11 arg12 harg12 x0 x1 x2 x3 x4 x5 x6 d hj G0 hG0 _ (load256 arg9 G0 (i 1).val hj (off1_eq i) (k0_off1_inb i)) _ rfl (k0_off1_inb i) _ rfl
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap; · iexact H7
      ipureintro
      exact hL.2
    isplitl [H8]
    · iexists _; isplitr; swap; · iexact H8
      ipureintro
      refine (View.read_writes_full arg10.view f8 _ _ []).trans ?_
      rw [hL.1]; rfl
    isplitl [H9]
    · iexists _; isplitr; swap; · iexact H9
      ipureintro
      refine (View.read_writes_full arg11.view f9 _ _ []).trans ?_
      rw [hL.1]; rfl
    iexists _; isplitr; swap; · iexact H10
    ipureintro
    refine (View.read_writes_full arg12.view f10 _ _ []).trans ?_
    rw [hL.1]; rfl

end Cert.KernelIdeal.Attn
-- ==== Proof.Attn.Launch.lean ====
/-
The whole program's run: what every grid point leaves in the result windows, the launch around the host
lines before and after the region, and the frame.
-/
module

public import proofs.«01_k».proof.Proof.Attn.Run
public import Idealize.ShloMosaic.Lib.Claim

@[expose] public section
set_option maxRecDepth 16384
noncomputable section
namespace Cert.KernelIdeal.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
variable {F : FTy → Type} [FloatOps F] [Named F]
local notation "𝕄" => MT nD τ sig Unit (Elt F) ℕ (UR sig nD τ) ℕ

variable (m : (ℓ : Loc nD τ sig) → Buf (Elt F) ℓ) (ρ : Dev nD → PrngReg)

theorem mod13 (n : ℕ) : n % 13 < 13 := Nat.mod_lt _ (by decide)

/-- What point `n` leaves in the accumulators and in the query-gradient block, which it carries on from the point before. -/
def accAt (c : Dev nD) : ∀ n : ℕ, n < cfg0.N → Acc F
  | 0, h => point (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩)
      (0 % 13) (mod13 0) k0_pay19
  | n + 1, h => point (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩)
      ((n + 1) % 13) (mod13 (n + 1)) (accAt c n (Nat.lt_of_succ_lt h)).2

/-- The proof data: the arrays as the region finds them; after a point the inputs' blocks in place and the results' as `accAt` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (accAt m c t.val t.isLt).2
    | ⟨8, _⟩ => k0_pay16 (accAt m c t.val t.isLt).1.1
    | ⟨9, _⟩ => k0_pay17 (accAt m c t.val t.isLt).1.1
    | ⟨10, _⟩ => k0_pay18 (accAt m c t.val t.isLt).1.2
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (accAt m c t.val t.isLt).2 := by dsimp only [dats]
theorem after0_8 (c : Dev nD) (t : Fin cfg0.N) : (dats m 0 c).after 8 t = k0_pay16 (accAt m c t.val t.isLt).1.1 := by dsimp only [dats]
theorem after0_9 (c : Dev nD) (t : Fin cfg0.N) : (dats m 0 c).after 9 t = k0_pay17 (accAt m c t.val t.isLt).1.1 := by dsimp only [dats]
theorem after0_10 (c : Dev nD) (t : Fin cfg0.N) : (dats m 0 c).after 10 t = k0_pay18 (accAt m c t.val t.isLt).1.2 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

theorem coord1 (t : Fin cfg0.N) : (grid0.coords t 1).val = t.val % 13 := by
  have e : (grid0.coords t 1).val = t.val / 1 % 13 := Pipeline.Grid.coords_val t 1 (by decide) rfl
  rw [e, Nat.div_one]

/-- What point `t` makes of the query-gradient block it finds: at a head's first point the block is overwritten, at
    any other it is what the point before left. -/
theorem point_before (c : Dev nD) (t : Fin cfg0.N) (d) :
    point (iblk m c 0 t) (iblk m c 1 t) (iblk m c 2 t) (iblk m c 3 t) (iblk m c 4 t) (iblk m c 5 t) (iblk m c 6 t) (t.val % 13) (mod13 t.val) ((dats m 0 c).before 7 t d)
      = accAt m c t.val t.isLt := by
  obtain ⟨n, hn⟩ := t
  by_cases h0 : n % 13 = 0
  · have hb : ∀ D D' : Vec F S8320x256 .f32, base (n % 13) D = base (n % 13) D' := fun D D' => by
      unfold base; rw [if_pos h0, if_pos h0]
    cases n with
    | zero => unfold accAt point; rw [hb]
    | succ n => unfold accAt point; rw [hb]
  · cases n with
    | zero => exact absurd rfl h0
    | succ n =>
      have hk := (dats m 0 c).before_out_kept 7 rfl ⟨n + 1, hn⟩ (Nat.succ_ne_zero n)
        (by
          rw [Bool.eq_false_iff]
          intro hf
          have := (flush0_7 _).mp hf
          simp only [Nat.add_sub_cancel] at this
          omega) (fun _ => rfl) (fun _ _ => rfl) d
      rw [hk, after0_7]
      simp only [Nat.add_sub_cancel]
      rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((body_run c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t)
    ((dats m 0 c).before 7 t d7) (t.val % 13) (mod13 t.val) (coord1 t)) Set.univ _)
  rw [point_before]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every weakly fair execution terminates; the region's arrays hold what the write-backs leave, every other
    buffer what the host lines after the region leave; the semaphore counters are zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl) (howed := fun _ _ => rfl)
    (V₀ := V0 m) (opss := [hostOps1]) (hsub := sfx_sub) (hfresh := sfx_fresh) (hkeep := sfx_keeps)
    (hmain := hmain m Variants.none) (hA := A_eq m) (hΦ := fun _ _ => rfl) (hQ' := fun _ h => h)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: the run terminates, the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Attn
-- ==== Proof.Attn.Host.lean ====
/-
The host lines before the region: the operands as named functions of the four arguments.
-/
module

public import proofs.«01_k».proof.Proof.Attn.Launch

@[expose] public section
set_option maxRecDepth 16384
noncomputable section
namespace Cert.KernelIdeal.Attn
open Idealize.ShloMosaic Idealize.ShloMosaic.TcCoe Idealize.ShloMosaic.Tactic
open Idealize.SL Idealize.SL.RA Idealize.SL.BI
open Cert.KernelIdeal.Gen

section Terms
variable (x0 : Vec Ideal S8320x8x192 .bf16) (x1 : Vec Ideal S8320x2048 .bf16) (x2 : Vec Ideal S8320x64 .bf16) (x3 : Vec Ideal S8320x1024 .bf16)

/-- The logits before the mask. -/
def hRaw : FVec Ideal S8x8320x8320 .f32 :=
  addf (Host.dotGeneral dot_S8320x8x128_S8320x8x128_S8x8320x8320_2_2_0_0_1_1 none
      (extractStridedSlice S8320x8x128 ![0, 0, 0] (extf .f32 x0 bitsLt_bf16_f32) slices_S8320x8x192_S8320x8x128_0_0_0)
      (shapeCast S8320x8x128 (extf .f32 (extractStridedSlice S8320x1024 ![0, 0] x1 slices_S8320x2048_S8320x1024_0_0) bitsLt_bf16_f32) shapeCasts_S8320x1024_S8320x8x128))
    (transpose S8x8320x8320 [2, 1, 0] (Host.dotGeneral dot_S8320x64_S8320x8x64_S8320x8320x8_1_2_0_01_n_n none (extf .f32 x2 bitsLt_bf16_f32)
      (extractStridedSlice S8320x8x64 ![0, 0, 128] (extf .f32 x0 bitsLt_bf16_f32) slices_S8320x8x192_S8320x8x64_0_0_128)) transposes_S8320x8320x8_S8x8320x8320_2_1_0)

/-- Which keys a row sees. -/
def hMask : IVec S8x8320x8320 1 :=
  broadcastInDim S8x8320x8320 ![1, 2] bcast_S8320x8320_S8x8320x8320_1_2
    (cmpi .sle (broadcastInDim S8320x8320 ![0, 1] bcast_S1x8320_S8320x8320_0_1 (broadcastInDim S1x8320 ![1] bcast_S8320_S1x8320_1 (iotaInDim S8320 32 0)))
      (broadcastInDim S8320x8320 ![0, 1] bcast_S8320x1_S8320x8320_0_1 (broadcastInDim S8320x1 ![0] bcast_S8320_S8320x1_0 (iotaInDim S8320 32 0))))

/-- The masked logits. -/
def hScore : FVec Ideal S8x8320x8320 .f32 :=
  select hMask (mulf (hRaw x0 x1 x2) (broadcastInDim S8x8320x8320 ![] bcast_S_S8x8320x8320 (constant S_ .f32 0x3D93CD3A#32)))
    (broadcastInDim S8x8320x8320 ![] bcast_S_S8x8320x8320 (constant S_ .f32 0xFF800000#32))

/-- Each row's largest logit. -/
def hMax (z : FVec Ideal S8x8320x8320 .f32) : FVec Ideal S8x8320 .f32 :=
  Host.reduce FloatOps.maximumf z (constant S_ .f32 0xFF800000#32) reducesTo_S8x8320x8320_S8x8320_d2 h_S_

/-- The exponentials. -/
def hExp (z : FVec Ideal S8x8320x8320 .f32) : FVec Ideal S8x8320x8320 .f32 :=
  Host.exp (subf z (broadcastInDim S8x8320x8320 ![0, 1, 2] bcast_S8x8320x1_S8x8320x8320_0_1_2 (broadcastInDim S8x8320x1 ![0, 1] bcast_S8x8320_S8x8320x1_0_1 (hMax z))))

/-- Each row's sum of exponentials. -/
def hSum (z : FVec Ideal S8x8320x8320 .f32) : FVec Ideal S8x8320 .f32 :=
  Host.reduceAdd (hExp z) (constant S_ .f32 0x00000000#32) reducesTo_S8x8320x8320_S8x8320_d2 h_S_

/-- The base-2 row statistic. -/
def hLse (z : FVec Ideal S8x8320x8320 .f32) : FVec Ideal S8x8320 .f32 :=
  Host.divf (addf (hMax z) (Host.log (hSum z))) (broadcastInDim S8x8320 ![] bcast_S_S8x8320 (Host.log (constant S_ .f32 0x40000000#32)))

/-- The forward pass's output. -/
def hOut (z : FVec Ideal S8x8320x8320 .f32) : FVec Ideal S8320x8x128 .f32 :=
  transpose S8320x8x128 [2, 0, 1] (Host.dotGeneral dot_S8320x8x128_S8x8320x8320_S8x128x8320_0_2_2_1_1_0 none
    (shapeCast S8320x8x128 (extf .f32 (extractStridedSlice S8320x1024 ![0, 1024] x1 slices_S8320x2048_S8320x1024_0_1024) bitsLt_bf16_f32) shapeCasts_S8320x1024_S8320x8x128)
    (Host.divf (hExp z) (broadcastInDim S8x8320x8320 ![0, 1, 2] bcast_S8x8320x1_S8x8320x8320_0_1_2 (broadcastInDim S8x8320x1 ![0, 1] bcast_S8x8320_S8x8320x1_0_1 (hSum z)))))
    transposes_S8x128x8320_S8320x8x128_2_0_1

/-- The product of the output with its cotangent. -/
def hDelta (z : FVec Ideal S8x8320x8320 .f32) : FVec Ideal S8x8320 .f32 :=
  transpose S8x8320 [1, 0] (Host.reduceAdd (mulf (shapeCast S8320x8x128 (extf .f32 x3 bitsLt_bf16_f32) shapeCasts_S8320x1024_S8320x8x128) (hOut x1 z))
    (constant S_ .f32 0x00000000#32) reducesTo_S8320x8x128_S8320x8_d2 h_S_) transposes_S8320x8_S8x8320_1_0

/-- The packed queries, scaled to base 2. -/
def hQ : FVec Ideal S8320x2048 .bf16 :=
  truncf .bf16 (shapeCast S8320x2048 (pad S8320x8x256 ![0, 0, 0] ![0, 0, 64] ![0, 0, 0]
    (mulf (extf .f32 x0 bitsLt_bf16_f32) (broadcastInDim S8320x8x192 ![] bcast_S_S8320x8x192
      (Host.divf (constant S_ .f32 0x3D93CD3A#32) (Host.log (constant S_ .f32 0x40000000#32)))))
    (sitofp .f32 (constantI S_ 32 0#32)) pads_S8320x8x192_S8320x8x256_000_000_0640 h_S_) shapeCasts_S8320x8x256_S8320x2048) bitsLt_bf16_f32

/-- The packed shared key part. -/
def hKp : FVec Ideal S8320x128 .bf16 :=
  pad S8320x128 ![0, 0] ![0, 64] ![0, 0] x2 (sitofp .bf16 (constantI S_ 32 0#32)) pads_S8320x64_S8320x128_000_0640 h_S_

end Terms

variable (m : (ℓ : Loc nD τ sig) → Buf (Elt Ideal) ℓ) (c : Dev nD)

theorem V_q : (V m c main_v49 : Vec Ideal S8320x2048 .bf16) = hQ (m (c.tc.loc main_arg0)) := by
  unfold V V0
  simp only [hostOps0, hostOps0_1, hostOps0_2, hostOps0_3, hostOps0_4, hostOps0_5, hostOps0_6, List.flatten_cons, List.flatten_nil, List.append_nil, List.cons_append, List.nil_append]
  after_results
  rfl

theorem V_kp : (V m c main_v50 : Vec Ideal S8320x128 .bf16) = hKp (m (c.tc.loc main_arg2)) := by
  unfold V V0
  simp only [hostOps0, hostOps0_1, hostOps0_2, hostOps0_3, hostOps0_4, hostOps0_5, hostOps0_6, List.flatten_cons, List.flatten_nil, List.append_nil, List.cons_append, List.nil_append]
  after_results
  rfl

theorem V_lse : (V m c main_v51 : Vec Ideal S8x13x640 .f32)
    = shapeCast S8x13x640 (hLse (hScore (m (c.tc.loc main_arg0)) (m (c.tc.loc main_arg1)) (m (c.tc.loc main_arg2)))) shapeCasts_S8x8320_S8x13x640 := by
  unfold V V0
  simp only [hostOps0, hostOps0_1, hostOps0_2, hostOps0_3, hostOps0_4, hostOps0_5, hostOps0_6, List.flatten_cons, List.flatten_nil, List.append_nil, List.cons_append, List.nil_append]
  after_results
  rfl

theorem V_delta : (V m c main_v52 : Vec Ideal S8x13x640 .f32)
    = shapeCast S8x13x640 (hDelta (m (c.tc.loc main_arg1)) (m (c.tc.loc main_arg3)) (hScore (m (c.tc.loc main_arg0)) (m (c.tc.loc main_arg1)) (m (c.tc.loc main_arg2)))) shapeCasts_S8x8320_S8x13x640 := by
  unfold V V0
  simp only [hostOps0, hostOps0_1, hostOps0_2, hostOps0_3, hostOps0_4, hostOps0_5, hostOps0_6, List.flatten_cons, List.flatten_nil, List.append_nil, List.cons_append, List.nil_append]
  after_results
  rfl
end Cert.KernelIdeal.Attn
-- ==== Proof.Attn.Coe.lean ====
/-
Arrays of real numbers as arrays of extended reals, indexed by natural numbers, and the laws by which
sums, products and powers of such entries stay real.
-/
module

public import Idealize.ShloMosaic.Lib.Pointwise

@[expose] public section
noncomputable section
namespace Cert.Attn
open Idealize.ShloMosaic

/-- The matrix with real entry `f i j` at row `i`, column `j`. -/
def R2 {a b : ℕ} (f : ℕ → ℕ → ℝ) : (⟨2, ![a, b]⟩ : Shape).Idx → EReal := fun i => ((f (i 0).val (i 1).val : ℝ) : EReal)
/-- The same of rank three. -/
def R3 {a b c : ℕ} (f : ℕ → ℕ → ℕ → ℝ) : (⟨3, ![a, b, c]⟩ : Shape).Idx → EReal := fun i => ((f (i 0).val (i 1).val (i 2).val : ℝ) : EReal)

theorem R2_ix2 {a b : ℕ} (f : ℕ → ℕ → ℝ) (i : Fin a) (j : Fin b) : R2 (a := a) (b := b) f (ix2 i j) = ((f i.val j.val : ℝ) : EReal) := rfl
theorem R3_ix3 {a b c : ℕ} (f : ℕ → ℕ → ℕ → ℝ) (i : Fin a) (j : Fin b) (k : Fin c) : R3 (a := a) (b := b) (c := c) f (ix3 i j k) = ((f i.val j.val k.val : ℝ) : EReal) := rfl

theorem R2_congr {a b : ℕ} {f g : ℕ → ℕ → ℝ} (h : ∀ i < a, ∀ j < b, f i j = g i j) : R2 (a := a) (b := b) f = R2 g := by
  funext i
  unfold R2
  rw [h _ (i 0).isLt _ (i 1).isLt]

theorem R3_congr {a b c : ℕ} {f g : ℕ → ℕ → ℕ → ℝ} (h : ∀ i < a, ∀ j < b, ∀ k < c, f i j k = g i j k) : R3 (a := a) (b := b) (c := c) f = R3 g := by
  funext i
  unfold R3
  rw [h _ (i 0).isLt _ (i 1).isLt _ (i 2).isLt]

/-- A finite sum of reals, as extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

/-- A sum over the first `n` indices of entries that are real. -/
theorem coe_sum_fin (n : ℕ) (f : ℕ → ℝ) : ∑ i : Fin n, ((f i.val : ℝ) : EReal) = ((∑ i ∈ Finset.range n, f i : ℝ) : EReal) := by
  rw [coe_sum, Finset.sum_range]

end Cert.Attn
-- ==== Proof.Attn.Real.lean ====
/-
The mathematics in real numbers: the logits, the causal softmax and its gradient.
-/
module

public import proofs.«01_k».proof.Proof.Attn.Coe
public import Idealize.ShloMosaic.Lib.IdealHost

@[expose] public section
noncomputable section
namespace Cert.Attn
open Idealize.ShloMosaic

/-- The logits' scale: the value of the float literal for 1/√192. -/
def cS : ℝ := (Ideal.ofBits .f32 0x3D93CD3A#32).toReal

theorem cS_eq : Ideal.ofBits .f32 0x3D93CD3A#32 = ((cS : ℝ) : EReal) := by
  have h : ∃ r : ℝ, Ideal.ofBits .f32 0x3D93CD3A#32 = (r : EReal) := by
    simp [Ideal.ofBits, Ideal.ieee]
    exact ⟨_, (EReal.coe_mul _ _).symm⟩
  obtain ⟨r, hr⟩ := h
  unfold cS
  rw [hr, EReal.toReal_coe]

theorem two_eq : Ideal.ofBits .f32 0x40000000#32 = ((2 : ℝ) : EReal) := by
  simp [Ideal.ofBits, Ideal.ieee, -EReal.coe_mul]; norm_num
theorem ninf_eq : Ideal.ofBits .f32 0xFF800000#32 = (⊥ : EReal) := by
  simp [Ideal.ofBits, Ideal.ieee]

variable (Q : ℕ → ℕ → ℕ → ℝ) (KV KP O : ℕ → ℕ → ℝ)

/-- The product of row `i`'s query and key `k` in head `h`. -/
def sc (h i k : ℕ) : ℝ := ∑ d ∈ Finset.range 128, Q i h d * KV k (128 * h + d) + ∑ r ∈ Finset.range 64, KP k r * Q i h (128 + r)
/-- The logit. -/
def zz (h i k : ℕ) : ℝ := sc Q KV KP h i k * cS
/-- The row's largest logit. -/
def mx (h i : ℕ) : ℝ := (Finset.fold max (⊥ : EReal) (fun k : Fin 8320 => if k.val ≤ i then ((zz Q KV KP h i k.val : ℝ) : EReal) else ⊥) Finset.univ).toReal

/-- The exponential that is not normalised, shifted by `M`. -/
def ee (M : ℝ) (h i k : ℕ) : ℝ := if k ≤ i then Real.exp (zz Q KV KP h i k - M) else 0
/-- Its sum over the keys. -/
def ll (M : ℝ) (h i : ℕ) : ℝ := ∑ k ∈ Finset.range 8320, ee Q KV KP M h i k
/-- The attention probability of key `k` at row `i`. -/
def pp (h i k : ℕ) : ℝ := ee Q KV KP 0 h i k / ll Q KV KP 0 h i
/-- The attention's output. -/
def oo (h i e : ℕ) : ℝ := ∑ k ∈ Finset.range 8320, KV k (1024 + 128 * h + e) * pp Q KV KP h i k
/-- The product of the output with its cotangent. -/
def dd (h i : ℕ) : ℝ := ∑ e ∈ Finset.range 128, O i (128 * h + e) * oo Q KV KP h i e
/-- The gradient of the probability. -/
def dp (h i k : ℕ) : ℝ := ∑ e ∈ Finset.range 128, KV k (1024 + 128 * h + e) * O i (128 * h + e)
/-- The gradient of the logit. -/
def ds (h i k : ℕ) : ℝ := pp Q KV KP h i k * (dp KV O h i k - dd Q KV KP O h i)

/-- The query gradient at row `i`, head `h`, lane `d`. -/
def gQ (i h d : ℕ) : ℝ := (∑ k ∈ Finset.range 8320, ds Q KV KP O h i k * (if d < 128 then KV k (128 * h + d) else KP k (d - 128))) * cS
/-- The gradient of the keys' own part. -/
def gK (k d : ℕ) : ℝ := (∑ i ∈ Finset.range 8320, ds Q KV KP O (d / 128) i k * Q i (d / 128) (d % 128)) * cS
/-- The gradient of the keys' shared part, summed over the heads. -/
def gP (k r : ℕ) : ℝ := (∑ h ∈ Finset.range 8, ∑ i ∈ Finset.range 8320, ds Q KV KP O h i k * Q i h (128 + r)) * cS
/-- The value gradient. -/
def gV (k d : ℕ) : ℝ := ∑ i ∈ Finset.range 8320, pp Q KV KP (d / 128) i k * O i (128 * (d / 128) + d % 128)

theorem ee_shift (M : ℝ) (h i k : ℕ) : ee Q KV KP M h i k = ee Q KV KP 0 h i k * Real.exp (-M) := by
  unfold ee
  split
  · rw [← Real.exp_add]; congr 1; ring
  · rw [zero_mul]

theorem ll_shift (M : ℝ) (h i : ℕ) : ll Q KV KP M h i = ll Q KV KP 0 h i * Real.exp (-M) := by
  unfold ll
  rw [Finset.sum_mul]
  exact Finset.sum_congr rfl fun k _ => ee_shift Q KV KP M h i k

theorem ee_nonneg (M : ℝ) (h i k : ℕ) : 0 ≤ ee Q KV KP M h i k := by
  unfold ee
  split
  · exact (Real.exp_pos _).le
  · exact le_refl _

theorem ll_pos (M : ℝ) (h i : ℕ) (hi : i < 8320) : 0 < ll Q KV KP M h i := by
  refine Finset.sum_pos' (fun k _ => ee_nonneg Q KV KP M h i k) ⟨i, Finset.mem_range.mpr hi, ?_⟩
  unfold ee
  rw [if_pos (le_refl i)]
  exact Real.exp_pos _

/-- The softmax does not depend on the shift. -/
theorem ee_div (M : ℝ) (h i k : ℕ) : ee Q KV KP M h i k / ll Q KV KP M h i = pp Q KV KP h i k := by
  rw [ee_shift, ll_shift, pp, mul_div_mul_right _ _ (Real.exp_pos _).ne']

theorem pp_zero (h i k : ℕ) (hk : i < k) : pp Q KV KP h i k = 0 := by
  unfold pp ee
  rw [if_neg (by omega), zero_div]

/-- A row's product of output and cotangent is also the mean of the gradient of its probabilities. -/
theorem dd_eq (h i : ℕ) : dd Q KV KP O h i = ∑ k ∈ Finset.range 8320, dp KV O h i k * pp Q KV KP h i k := by
  unfold dd oo dp
  simp only [Finset.mul_sum, Finset.sum_mul]
  rw [Finset.sum_comm]
  exact Finset.sum_congr rfl fun k _ => Finset.sum_congr rfl fun e _ => by ring

/-- The quotient of two reals, the divisor not zero. -/
theorem div_real (x y : ℝ) (hy : y ≠ 0) : Ideal.div ((x : ℝ) : EReal) ((y : ℝ) : EReal) = ((x / y : ℝ) : EReal) := by
  rw [Ideal.div_coe hy, ← EReal.coe_mul, mul_one_div]

theorem log_real (x : ℝ) (hx : 0 < x) : Ideal.log ((x : ℝ) : EReal) = ((Real.log x : ℝ) : EReal) := by
  rw [Ideal.log_coe, if_neg (not_le.mpr hx)]

/-- The largest of finitely many entries, none `⊤` and one real, is real. -/
theorem fold_max_real {n : ℕ} (f : Fin n → EReal) (ht : ∀ k, f k ≠ ⊤) (k₀ : Fin n) (hb : f k₀ ≠ ⊥) :
    Finset.fold max (⊥ : EReal) f Finset.univ = (((Finset.fold max (⊥ : EReal) f Finset.univ).toReal : ℝ) : EReal) := by
  refine (EReal.coe_toReal ?_ ?_).symm
  · exact ((Finset.fold_max_lt ⊤).mpr ⟨bot_lt_top, fun k _ => lt_top_iff_ne_top.mpr (ht k)⟩).ne
  · have h : f k₀ ≤ Finset.fold max (⊥ : EReal) f Finset.univ := (Finset.le_fold_max _).mpr (Or.inr ⟨k₀, Finset.mem_univ _, le_refl _⟩)
    exact fun e => hb (le_bot_iff.mp (e ▸ h))

end Cert.Attn
-- ==== Proof.Attn.HostReal.lean ====
/-
The region's operands, where the arguments hold real numbers: the packed queries, the padded shared keys and the two
statistics of a row as real formulas.
-/
module

public import proofs.«01_k».proof.Proof.Attn.Host
public import proofs.«01_k».proof.Proof.Attn.Real
public import Idealize.ShloMosaic.Lib.WordCmp

@[expose] public section
set_option maxRecDepth 16384
noncomputable section
namespace Cert.KernelIdeal.Attn
open Idealize.ShloMosaic Cert.KernelIdeal.Gen Cert.Attn

variable (Q : ℕ → ℕ → ℕ → ℝ) (KV KP O : ℕ → ℕ → ℝ)

theorem hRaw_real (h : Fin 8) (i k : Fin 8320) : hRaw (R3 Q) (R2 KV) (R2 KP) (ix3 h i k) = ((sc Q KV KP h.val i.val k.val : ℝ) : EReal) := by
  pointwise [hRaw]
  simp only [R3_ix3, R2_ix2, ← EReal.coe_mul, coe_sum, ← EReal.coe_add, sc, Finset.sum_range, Nat.mul_comm]

theorem hMask_apply (h : Fin 8) (i k : Fin 8320) : (hMask (ix3 h i k) = 1) ↔ k.val ≤ i.val := by
  pointwise [hMask]
  exact WordCmp.cmpi_sle_ofNat_eq_one_iff (w := 32) (show k.val < 2 ^ (32 - 1) by have := k.isLt; omega) (show i.val < 2 ^ (32 - 1) by have := i.isLt; omega)

theorem hScore_real (h : Fin 8) (i k : Fin 8320) :
    hScore (R3 Q) (R2 KV) (R2 KP) (ix3 h i k) = if k.val ≤ i.val then ((zz Q KV KP h.val i.val k.val : ℝ) : EReal) else ⊥ := by
  pointwise [hScore]
  unfold Scalar.select
  simp only [hMask_apply]
  rw [hRaw_real, cS_eq, ninf_eq, ← EReal.coe_mul]
  rfl

theorem hMax_real (h : Fin 8) (i : Fin 8320) : hMax (hScore (R3 Q) (R2 KV) (R2 KP)) (ix2 h i) = ((mx Q KV KP h.val i.val : ℝ) : EReal) := by
  pointwise [hMax]
  simp only [hScore_real, ninf_eq]
  refine fold_max_real _ (fun k => ?_) i ?_
  · split
    · exact EReal.coe_ne_top _
    · exact bot_ne_top
  · rw [if_pos (le_refl _)]
    exact EReal.coe_ne_bot _

theorem hExp_real (h : Fin 8) (i k : Fin 8320) :
    hExp (hScore (R3 Q) (R2 KV) (R2 KP)) (ix3 h i k) = ((ee Q KV KP (mx Q KV KP h.val i.val) h.val i.val k.val : ℝ) : EReal) := by
  pointwise [hExp]
  rw [hMax_real, hScore_real]
  unfold ee
  split
  · rw [← EReal.coe_sub, Ideal.exp_coe]
  · rw [EReal.bot_sub, Ideal.exp_bot, EReal.coe_zero]

theorem hSum_real (h : Fin 8) (i : Fin 8320) :
    hSum (hScore (R3 Q) (R2 KV) (R2 KP)) (ix2 h i) = ((ll Q KV KP (mx Q KV KP h.val i.val) h.val i.val : ℝ) : EReal) := by
  pointwise [hSum]
  simp only [hExp_real, coe_sum, ll, Finset.sum_range]

/-- The base-2 row statistic, in reals. -/
def lse (h i : ℕ) : ℝ := (mx Q KV KP h i + Real.log (ll Q KV KP (mx Q KV KP h i) h i)) / Real.log 2

theorem log2_ne : Real.log 2 ≠ 0 := (Real.log_pos (by norm_num)).ne'

theorem hLse_apply (z : FVec Ideal S8x8320x8320 .f32) (h : Fin 8) (i : Fin 8320) :
    hLse z (ix2 h i) = Ideal.div (hMax z (ix2 h i) + Ideal.log (hSum z (ix2 h i))) (Ideal.log (Ideal.ofBits .f32 0x40000000#32)) := by
  unfold hLse
  generalize hMax z = a
  generalize hSum z = b
  have hd : ∀ x y : FVec Ideal S8x8320 .f32, Host.divf x y (ix2 h i) = Ideal.div (x (ix2 h i)) (y (ix2 h i)) := fun _ _ => rfl
  have hl : ∀ x : FVec Ideal S8x8320 .f32, Host.log x (ix2 h i) = Ideal.log (x (ix2 h i)) := fun _ => rfl
  have ha : ∀ x y : FVec Ideal S8x8320 .f32, addf x y (ix2 h i) = x (ix2 h i) + y (ix2 h i) := fun _ _ => rfl
  have hb : broadcastInDim S8x8320 ![] bcast_S_S8x8320 (Host.log (constant (F := Ideal) S_ .f32 0x40000000#32)) (ix2 h i) = Ideal.log (Ideal.ofBits .f32 0x40000000#32) := rfl
  rw [hd, ha, hl, hb]

theorem hLse_real (h : Fin 8) (i : Fin 8320) : hLse (hScore (R3 Q) (R2 KV) (R2 KP)) (ix2 h i) = ((lse Q KV KP h.val i.val : ℝ) : EReal) := by
  rw [hLse_apply, hMax_real, hSum_real, two_eq, log_real _ (ll_pos Q KV KP _ _ _ i.isLt), log_real 2 (by norm_num), ← EReal.coe_add, div_real _ _ log2_ne]
  rfl

theorem hOut_real (h : Fin 8) (i : Fin 8320) (e : Fin 128) :
    hOut (R2 KV) (hScore (R3 Q) (R2 KV) (R2 KP)) (ix3 i h e) = ((oo Q KV KP h.val i.val e.val : ℝ) : EReal) := by
  pointwise [hOut]
  simp only [hExp_real, hSum_real, div_real _ _ (ll_pos Q KV KP _ _ _ i.isLt).ne', ee_div, R2_ix2, ← EReal.coe_mul, coe_sum, oo, Finset.sum_range, Nat.mul_comm, Nat.add_assoc]

theorem hDelta_real (h : Fin 8) (i : Fin 8320) :
    hDelta (R2 KV) (R2 O) (hScore (R3 Q) (R2 KV) (R2 KP)) (ix2 h i) = ((dd Q KV KP O h.val i.val : ℝ) : EReal) := by
  pointwise [hDelta]
  simp only [hOut_real, R2_ix2, ← EReal.coe_mul, coe_sum, dd, Finset.sum_range, Nat.mul_comm]

/-- The packed queries' entries. -/
def qp (i d : ℕ) : ℝ := if d % 256 < 192 then Q i (d / 256) (d % 256) * (cS / Real.log 2) else 0
/-- The padded shared keys' entries. -/
def kpp (k d : ℕ) : ℝ := if d < 64 then KP k d else 0

theorem zero_int (φ : FTy) : FloatOps.sitofp (F := Ideal) φ 0#32 = ((0 : ℝ) : EReal) := by
  show (((0#32).toInt : ℝ) : EReal) = _
  norm_num

theorem hQ_real : hQ (R3 Q) = R2 (qp Q) := by
  funext j
  idx_vars j
  pointwise [hQ]
  rw [cS_eq, two_eq, log_real _ (by norm_num), div_real _ _ log2_ne]
  simp only [R3_ix3, R2_ix2, qp, ← EReal.coe_mul]
  have h8 : j1.val / 256 < 8 := by have := j1.isLt; omega
  by_cases h : j1.val % 256 < 192
  · rw [dif_pos ⟨h8, h⟩, if_pos h]
  · rw [dif_neg (fun hh => h hh.2), if_neg h]
    exact zero_int _

theorem hKp_real : hKp (R2 KP) = R2 (kpp KP) := by
  funext j
  idx_vars j
  pointwise [hKp]
  simp only [R2_ix2, kpp]
  by_cases h : j1.val < 64
  · rw [dif_pos h, if_pos h]
  · rw [dif_neg h, if_neg h]
    exact zero_int _

theorem lse_tiles : shapeCast S8x13x640 (hLse (hScore (R3 Q) (R2 KV) (R2 KP))) shapeCasts_S8x8320_S8x13x640 = R3 fun h a r => lse Q KV KP h (640 * a + r) := by
  funext j
  idx_vars j
  pointwise []
  rw [hLse_real]
  rw [R3_ix3, Nat.mul_comm 640]

theorem delta_tiles : shapeCast S8x13x640 (hDelta (R2 KV) (R2 O) (hScore (R3 Q) (R2 KV) (R2 KP))) shapeCasts_S8x8320_S8x13x640
    = R3 fun h a r => dd Q KV KP O h (640 * a + r) := by
  funext j
  idx_vars j
  pointwise []
  rw [hDelta_real]
  rw [R3_ix3, Nat.mul_comm 640]

end Cert.KernelIdeal.Attn
-- ==== Proof.Attn.Pay.lean ====
/-
The arithmetic of one grid point on real blocks: each product, exponential and difference of the body
as a real formula.
-/
module

public import proofs.«01_k».proof.Proof.Attn.Spec
public import proofs.«01_k».proof.Proof.Attn.Coe

@[expose] public section
set_option maxRecDepth 16384
noncomputable section
namespace Cert.KernelIdeal.Attn
open Idealize.ShloMosaic Cert.KernelIdeal.Gen Cert.Attn

/-- The logits and the exponential of one tile. -/
def tp (k q : ℕ → ℕ → ℝ) (l : ℕ → ℝ) (x y : ℕ) : ℝ := Real.rpow 2 (∑ d ∈ Finset.range 256, k x d * q y d - l y)
/-- The gradient of a tile's logits. -/
def tds (p : ℕ → ℕ → ℝ) (v o : ℕ → ℕ → ℝ) (dl : ℕ → ℝ) (x y : ℕ) : ℝ := p x y * (∑ e ∈ Finset.range 128, v x e * o y e - dl y)

theorem exp2_real (r : ℝ) : FloatOps.exp2 (F := Ideal) (φ := .f32) (r : EReal) = ((Real.rpow 2 r : ℝ) : EReal) := rfl
theorem exp2_bot' : FloatOps.exp2 (F := Ideal) (φ := .f32) (⊥ : EReal) = ((0 : ℝ) : EReal) := rfl
theorem val0 : (0 : Fin 1).val = 0 := rfl

theorem pay5_real (k q : ℕ → ℕ → ℝ) (l : ℕ → ℕ → ℕ → ℝ) :
    k0_pay5 (F := Ideal) (R2 k) (R2 q) (R3 l) = R2 (tp k q (l 0 0)) := by
  funext j
  idx_vars j
  pointwise [k0_pay5, k0_pay4]
  simp only [R2_ix2, R3_ix3, ← EReal.coe_mul, coe_sum, ← EReal.coe_sub, tp, Finset.sum_range, val0]
  exact exp2_real _

theorem pay6_real (k : ℕ → ℕ → ℝ) (v q o : ℕ → ℕ → ℝ) (l dl : ℕ → ℕ → ℕ → ℝ) :
    k0_pay6 (F := Ideal) (R2 k) (R2 v) (R2 q) (R2 o) (R3 l) (R3 dl) = R2 (tds (tp k q (l 0 0)) v o (dl 0 0)) := by
  funext j
  idx_vars j
  pointwise [k0_pay6]
  rw [pay5_real]
  simp only [R2_ix2, R3_ix3, ← EReal.coe_mul, coe_sum, ← EReal.coe_sub, tds, Finset.sum_range, val0]

theorem pay7_real (k : ℕ → ℕ → ℝ) (a : ℕ → ℕ → ℝ) (q o : ℕ → ℕ → ℝ) (l : ℕ → ℕ → ℕ → ℝ) :
    k0_pay7 (F := Ideal) (R2 k) (R2 a) (R2 q) (R2 o) (R3 l) = R2 fun x e => a x e + ∑ y ∈ Finset.range 640, tp k q (l 0 0) x y * o y e := by
  unfold k0_pay7
  rw [pay5_real]
  generalize tp k q (l 0 0) = p
  funext j
  idx_vars j
  pointwise []
  simp only [R2_ix2, ← EReal.coe_mul, coe_sum, ← EReal.coe_add, Finset.sum_range]

theorem pay8_real (k v a : ℕ → ℕ → ℝ) (q o : ℕ → ℕ → ℝ) (l dl : ℕ → ℕ → ℕ → ℝ) :
    k0_pay8 (F := Ideal) (R2 k) (R2 v) (R2 a) (R2 q) (R2 o) (R3 l) (R3 dl)
      = R2 fun x d => a x d + ∑ y ∈ Finset.range 640, tds (tp k q (l 0 0)) v o (dl 0 0) x y * q y d := by
  unfold k0_pay8
  rw [pay6_real]
  generalize tds (tp k q (l 0 0)) v o (dl 0 0) = p
  funext j
  idx_vars j
  pointwise [k0_pay4]
  simp only [R2_ix2, ← EReal.coe_mul, coe_sum, ← EReal.coe_add, Finset.sum_range]

theorem pay9_real (k v : ℕ → ℕ → ℝ) (q o : ℕ → ℕ → ℝ) (l dl : ℕ → ℕ → ℕ → ℝ) (a : ℕ → ℕ → ℝ) :
    k0_pay9 (F := Ideal) (R2 k) (R2 v) (R2 q) (R2 o) (R3 l) (R3 dl) (R2 a)
      = R2 fun y d => a y d + ∑ x ∈ Finset.range 640, tds (tp k q (l 0 0)) v o (dl 0 0) x y * k x d := by
  unfold k0_pay9
  rw [pay6_real]
  generalize tds (tp k q (l 0 0)) v o (dl 0 0) = p
  funext j
  idx_vars j
  pointwise []
  simp only [R2_ix2, ← EReal.coe_mul, coe_sum, ← EReal.coe_add, Finset.sum_range]

theorem pay1_real (a o p : ℕ → ℕ → ℝ) :
    k0_pay1 (F := Ideal) (R2 a) (R2 o) (R2 p) = R2 fun x e => a x e + ∑ y ∈ Finset.range 640, p x y * o y e := by
  funext j
  idx_vars j
  pointwise [k0_pay1]
  simp only [R2_ix2, ← EReal.coe_mul, coe_sum, ← EReal.coe_add, Finset.sum_range]

theorem pay2_real (a q s : ℕ → ℕ → ℝ) :
    k0_pay2 (F := Ideal) (R2 a) (R2 q) (R2 s) = R2 fun x d => a x d + ∑ y ∈ Finset.range 640, s x y * q y d := by
  funext j
  idx_vars j
  pointwise [k0_pay2]
  simp only [R2_ix2, ← EReal.coe_mul, coe_sum, ← EReal.coe_add, Finset.sum_range]

theorem pay3_real (k s a : ℕ → ℕ → ℝ) :
    k0_pay3 (F := Ideal) (R2 k) (R2 s) (R2 a) = R2 fun y d => a y d + ∑ x ∈ Finset.range 640, s x y * k x d := by
  funext j
  idx_vars j
  pointwise [k0_pay3]
  simp only [R2_ix2, ← EReal.coe_mul, coe_sum, ← EReal.coe_add, Finset.sum_range]

theorem pay16_real (a : ℕ → ℕ → ℝ) : k0_pay16 (F := Ideal) (R2 a) = R2 fun x d => a x d * Real.log 2 := by
  funext j
  idx_vars j
  pointwise [k0_pay16]
  simp only [R2_ix2]
  rw [IdealRules.named_const.ideal_named_scalar _ _ _ ((Real.log 2 : ℝ) : EReal) rfl]
  rw [← EReal.coe_mul]

theorem pay17_real (a : ℕ → ℕ → ℝ) : k0_pay17 (F := Ideal) (R2 a) = R3 fun _ x d => a x (128 + d) * Real.log 2 := by
  funext j
  idx_vars j
  pointwise [k0_pay17]
  simp only [R2_ix2, R3_ix3]
  rw [IdealRules.named_const.ideal_named_scalar _ _ _ ((Real.log 2 : ℝ) : EReal) rfl]
  rw [← EReal.coe_mul]

theorem pay18_real (a : ℕ → ℕ → ℝ) : k0_pay18 (F := Ideal) (R2 a) = R2 a := by
  funext j
  idx_vars j
  pointwise [k0_pay18]

theorem pay19_real : k0_pay19 (F := Ideal) = R2 fun _ _ => 0 := by
  funext j
  idx_vars j
  pointwise [k0_pay19]
  simp only [R2_ix2, EReal.coe_zero]
theorem pay21_real : k0_pay21 (F := Ideal) = R2 fun _ _ => 0 := by
  funext j
  idx_vars j
  pointwise [k0_pay21]
  simp only [R2_ix2, EReal.coe_zero]
theorem pay22_real : k0_pay22 (F := Ideal) = R2 fun _ _ => 0 := by
  funext j
  idx_vars j
  pointwise [k0_pay22]
  simp only [R2_ix2, EReal.coe_zero]
theorem pay23_real (q : ℕ → ℕ → ℝ) : k0_pay23 (F := Ideal) (R2 q) = R2 q := by
  funext j
  idx_vars j
  pointwise [k0_pay23]

/-- The keys' two halves side by side. -/
def cat (f g : ℕ → ℕ → ℝ) (r d : ℕ) : ℝ := if d < 128 then f r d else g r (d - 128)

theorem pay20_real (f g : ℕ → ℕ → ℝ) : k0_pay20 (F := Ideal) (R2 f) (R2 g) = R2 (cat f g) := by
  funext j
  idx_vars j
  pointwise [k0_pay20]
  simp only [R2_ix2, cat]
  split
  · rfl
  · rfl

/-- The masked tile: row `y` sees key `x` where `x ≤ y`. -/
def tpm (k q : ℕ → ℕ → ℝ) (l : ℕ → ℝ) (x y : ℕ) : ℝ := if x ≤ y then tp k q l x y else 0

end Cert.KernelIdeal.Attn
-- ==== Proof.Attn.Pay2.lean ====
/-
The arithmetic of one grid point on real blocks: each product, exponential and difference of the body
as a real formula.
-/
module

public import proofs.«01_k».proof.Proof.Attn.Pay
public import proofs.«01_k».proof.Proof.Attn.Coe
public import Idealize.ShloMosaic.Lib.WordCmp

@[expose] public section
set_option maxRecDepth 16384
noncomputable section
namespace Cert.KernelIdeal.Attn
open Idealize.ShloMosaic Cert.KernelIdeal.Gen Cert.Attn

theorem pay24_real (f g q : ℕ → ℕ → ℝ) (l : ℕ → ℕ → ℕ → ℝ) :
    k0_pay24 (F := Ideal) (R2 f) (R2 g) (R2 q) (R3 l) = R2 (tpm (cat f g) q (l 0 0)) := by
  unfold k0_pay24
  rw [pay20_real, pay23_real]
  generalize cat f g = k
  funext j
  idx_vars j
  pointwise []
  rw [IdealRules.named_const.ideal_named_scalar _ _ _ (⊥ : EReal) rfl]
  simp only [R2_ix2, R3_ix3, ← EReal.coe_mul, coe_sum, tpm, val0]
  unfold Scalar.select
  have e : (IntOp.cmpi .sle (BitVec.ofNat 32 j0.val) (BitVec.ofNat 32 j1.val) = 1) ↔ j0.val ≤ j1.val :=
    WordCmp.cmpi_sle_ofNat_eq_one_iff (w := 32) (show j0.val < 2 ^ (32 - 1) by have := j0.isLt; omega) (show j1.val < 2 ^ (32 - 1) by have := j1.isLt; omega)
  simp only [e]
  split
  · rw [← EReal.coe_sub]
    unfold tp
    rw [Finset.sum_range]
    exact exp2_real _
  · rw [EReal.bot_sub]
    exact exp2_bot'

theorem pay25_real (f g v q o : ℕ → ℕ → ℝ) (l dl : ℕ → ℕ → ℕ → ℝ) :
    k0_pay25 (F := Ideal) (R2 f) (R2 g) (R2 v) (R2 q) (R2 o) (R3 l) (R3 dl) = R2 (tds (tpm (cat f g) q (l 0 0)) v o (dl 0 0)) := by
  unfold k0_pay25
  rw [pay24_real]
  generalize tpm (cat f g) q (l 0 0) = p
  funext j
  idx_vars j
  pointwise []
  simp only [R2_ix2, R3_ix3, ← EReal.coe_mul, coe_sum, ← EReal.coe_sub, tds, Finset.sum_range, val0]

theorem window2_real {a b a' b' : ℕ} (f : ℕ → ℕ → ℝ) (o : ℕ) (inb) :
    VecWindow.window (s := ⟨2, ![a, b]⟩) (R2 f) ![o, 0] ![a', b'] inb = R2 (a := a') (b := b') fun r d => f (o + r) d := by
  funext j
  show (((f (o + 1 * (j 0).val) (0 + 1 * (j 1).val) : ℝ)) : EReal) = ((f (o + (j 0).val) (j 1).val : ℝ) : EReal)
  rw [Nat.one_mul, Nat.one_mul, Nat.zero_add]

theorem tile256_real (f : ℕ → ℕ → ℝ) (n : ℕ) (hn : n < 13) :
    tile256 (F := Ideal) (e := .bf16) (R2 f) n hn = R2 fun r d => f (640 * n + r) d :=
  window2_real f _ _

theorem tile256_real' (f : ℕ → ℕ → ℝ) (n : ℕ) (hn : n < 13) :
    tile256 (F := Ideal) (e := .f32) (R2 f) n hn = R2 fun r d => f (640 * n + r) d :=
  window2_real f _ _

theorem tile128_real (f : ℕ → ℕ → ℝ) (n : ℕ) (hn : n < 13) :
    tile128 (F := Ideal) (e := .bf16) (R2 f) n hn = R2 fun r d => f (640 * n + r) d :=
  window2_real f _ _

theorem window3_real {a b c a' b' c' : ℕ} (f : ℕ → ℕ → ℕ → ℝ) (o : ℕ) (inb) :
    VecWindow.window (s := ⟨3, ![a, b, c]⟩) (R3 f) ![0, o, 0] ![a', b', c'] inb = R3 (a := a') (b := b') (c := c') fun i r d => f i (o + r) d := by
  funext j
  show (((f (0 + 1 * (j 0).val) (o + 1 * (j 1).val) (0 + 1 * (j 2).val) : ℝ)) : EReal) = ((f (j 0).val (o + (j 1).val) (j 2).val : ℝ) : EReal)
  rw [Nat.one_mul, Nat.one_mul, Nat.one_mul, Nat.zero_add, Nat.zero_add]

theorem stat_real (f : ℕ → ℕ → ℕ → ℝ) (n : ℕ) (hn : n < 13) :
    stat (F := Ideal) (R3 f) n hn = R3 fun i r d => f i (n + r) d :=
  window3_real f _ _

theorem putTile_real (f g : ℕ → ℕ → ℝ) (n : ℕ) :
    putTile (F := Ideal) (R2 f) n (R2 g) = R2 fun i d => if 640 * n ≤ i ∧ i < 640 * n + 640 then g (i - 640 * n) d else f i d := by
  funext j
  unfold putTile VecWindow.put R2
  dsimp only
  by_cases h : 640 * n ≤ (j 0).val ∧ (j 0).val < 640 * n + 640
  · rw [if_pos h, dif_pos (by
      intro a
      fin_cases a
      · exact h
      · exact ⟨Nat.zero_le _, by have : (j 1).val < 256 := (j 1).isLt; show (j 1).val < 0 + 256; omega⟩)]
    rfl
  · rw [if_neg h, dif_neg (fun hh => h (hh 0))]

end Cert.KernelIdeal.Attn
-- ==== Proof.Attn.Walk.lean ====
/-
One grid point on real blocks: after the diagonal tile and the walk over the tiles below it, the key and
value accumulators are sums over all the rows so far, and the query-gradient block is a sum over the keys
so far.
-/
module

public import proofs.«01_k».proof.Proof.Attn.Pay2

@[expose] public section
set_option maxRecDepth 16384
noncomputable section
namespace Cert.KernelIdeal.Attn
open Idealize.ShloMosaic Cert.KernelIdeal.Gen Cert.Attn

/-- Entry of the accumulated key gradient at key `x`, lane `d`, over the first `N` rows. -/
def dkf (S : ℕ → ℕ → ℝ) (q : ℕ → ℕ → ℝ) (N x d : ℕ) : ℝ := ∑ i ∈ Finset.range N, S x i * q i d
/-- Entry of the accumulated query gradient at row `i`, lane `d`, over the first `N` keys. -/
def dqf (S : ℕ → ℕ → ℝ) (k : ℕ → ℕ → ℝ) (N i d : ℕ) : ℝ := ∑ t ∈ Finset.range N, S t i * k t d

/-- A sum over rows that a key does not see adds nothing. -/
theorem dkf_zero (S q : ℕ → ℕ → ℝ) (hS : ∀ t i, i < t → S t i = 0) (N x d : ℕ) (h : N ≤ x) : dkf S q N x d = 0 :=
  Finset.sum_eq_zero fun i hi => by rw [hS _ _ (lt_of_lt_of_le (Finset.mem_range.mp hi) h), zero_mul]

theorem dkf_add (S q : ℕ → ℕ → ℝ) (N M x d : ℕ) :
    dkf S q (N + M) x d = dkf S q N x d + ∑ y ∈ Finset.range M, S x (N + y) * q (N + y) d := by
  unfold dkf; rw [Finset.sum_range_add]

theorem dqf_add (S k : ℕ → ℕ → ℝ) (N M i d : ℕ) :
    dqf S k (N + M) i d = dqf S k N i d + ∑ x ∈ Finset.range M, S (N + x) i * k (N + x) d := by
  unfold dqf; rw [Finset.sum_range_add]

/-- Keys that a row does not see add nothing to it. -/
theorem dqf_beyond (S k : ℕ → ℕ → ℝ) (hS : ∀ t i, i < t → S t i = 0) (N M i d : ℕ) (h : i < N) : dqf S k (N + M) i d = dqf S k N i d := by
  rw [dqf_add, Finset.sum_eq_zero fun x _ => by rw [hS _ _ (by omega), zero_mul], add_zero]

section Point
variable (q o kn kp v : ℕ → ℕ → ℝ) (l dl : ℕ → ℝ) (j : ℕ)

/-- The probability of key `t` at row `i` (zero where the key lies above the row). -/
def pr (t i : ℕ) : ℝ := tpm (cat kn kp) q l t i
/-- The gradient of the logit of key `t` at row `i`. -/
def dsr (t i : ℕ) : ℝ := tds (pr q kn kp l) v o dl t i

theorem pr_zero (t i : ℕ) (h : i < t) : pr q kn kp l t i = 0 := if_neg (by omega)
theorem dsr_zero (t i : ℕ) (h : i < t) : dsr q o kn kp v l dl t i = 0 := by
  unfold dsr tds; rw [pr_zero q kn kp l t i h, zero_mul]

/-- What the walk has accumulated once the rows below `640 * n` are done. -/
def accR (n : ℕ) : Acc Ideal :=
  ((R2 fun x d => dkf (dsr q o kn kp v l dl) q (640 * n) (640 * j + x) d, R2 fun x e => dkf (pr q kn kp l) o (640 * n) (640 * j + x) e),
    R2 fun i d => dqf (dsr q o kn kp v l dl) (cat kn kp) (if i < 640 * n then 640 * j + 640 else 640 * j) i d)

theorem tileStep_real (n : ℕ) (hn : n < 13) (hj : j < n) :
    tileStep (F := Ideal) (R2 q) (R2 o) (R3 fun _ a r => l (640 * a + r)) (R3 fun _ a r => dl (640 * a + r))
      (R2 fun x d => cat kn kp (640 * j + x) d) (R2 fun x e => v (640 * j + x) e) n hn (accR q o kn kp v l dl j n) = accR q o kn kp v l dl j (n + 1) := by
  unfold tileStep accR
  simp only [tile256_real, tile256_real', tile128_real, stat_real, pay7_real, pay8_real, pay9_real, putTile_real]
  have hp : ∀ x < 640, ∀ y, tp (fun x d => cat kn kp (640 * j + x) d) (fun r d => q (640 * n + r) d) (fun d => l (640 * (n + 0) + d)) x y = pr q kn kp l (640 * j + x) (640 * n + y) := fun x hx y =>
    (if_pos (show 640 * j + x ≤ 640 * n + y by omega)).symm
  have hs : ∀ x < 640, ∀ y, tds (tp (fun x d => cat kn kp (640 * j + x) d) (fun r d => q (640 * n + r) d) (fun d => l (640 * (n + 0) + d))) (fun x e => v (640 * j + x) e)
      (fun r d => o (640 * n + r) d) (fun d => dl (640 * (n + 0) + d)) x y = dsr q o kn kp v l dl (640 * j + x) (640 * n + y) := fun x hx y => by
    unfold dsr tds; rw [hp x hx y]; rfl
  refine congrArg₂ Prod.mk (congrArg₂ Prod.mk (R2_congr fun x hx d _ => ?_) (R2_congr fun x hx e _ => ?_)) (R2_congr fun i hi d _ => ?_)
  · rw [Nat.mul_succ, dkf_add]
    exact congrArg _ (Finset.sum_congr rfl fun y _ => by rw [hs x hx y])
  · rw [Nat.mul_succ, dkf_add]
    exact congrArg _ (Finset.sum_congr rfl fun y _ => by rw [hp x hx y])
  · by_cases h1 : i < 640 * n
    · rw [if_neg (by omega), if_pos h1, if_pos (by omega)]
    · by_cases h2 : i < 640 * n + 640
      · rw [if_pos ⟨by omega, h2⟩, if_pos (show i < 640 * (n + 1) by omega), if_neg (by omega), dqf_add]
        have e : 640 * n + (i - 640 * n) = i := by omega
        rw [e]
        exact congrArg _ (Finset.sum_congr rfl fun x hx => by rw [hs x (Finset.mem_range.mp hx), e])
      · rw [if_neg (by omega), if_neg h1, if_neg (by omega)]

theorem walk_real (k : ℕ) (hk : j + 1 + k ≤ 13) :
    walk (F := Ideal) (R2 q) (R2 o) (R3 fun _ a r => l (640 * a + r)) (R3 fun _ a r => dl (640 * a + r))
      (R2 fun x d => cat kn kp (640 * j + x) d) (R2 fun x e => v (640 * j + x) e) j (accR q o kn kp v l dl j (j + 1)) k = accR q o kn kp v l dl j (j + 1 + k) := by
  induction k with
  | zero => rfl
  | succ k ih =>
    unfold walk
    rw [dif_pos (by omega), ih (by omega), tileStep_real q o kn kp v l dl j (j + 1 + k) (by omega) (by omega)]
    rfl

theorem diag_real (hj : j < 13) :
    diagStep (F := Ideal) (R2 q) (R2 o) (R3 fun _ a r => l (640 * a + r)) (R3 fun _ a r => dl (640 * a + r))
      (R2 fun x d => kn (640 * j + x) d) (R2 fun x e => v (640 * j + x) e) (R2 fun x d => kp (640 * j + x) d) j hj
      (R2 fun i d => dqf (dsr q o kn kp v l dl) (cat kn kp) (640 * j) i d) = accR q o kn kp v l dl j (j + 1) := by
  unfold diagStep accR
  simp only [tile256_real, tile256_real', tile128_real, stat_real, pay25_real, pay24_real, pay23_real, pay21_real, pay22_real, pay20_real, pay1_real, pay2_real, pay3_real, putTile_real]
  have hp : ∀ x y, tpm (cat (fun x d => kn (640 * j + x) d) fun x d => kp (640 * j + x) d) (fun r d => q (640 * j + r) d) (fun d => l (640 * (j + 0) + d)) x y = pr q kn kp l (640 * j + x) (640 * j + y) := fun x y => by
    unfold pr tpm
    by_cases h : x ≤ y
    · rw [if_pos h, if_pos (by omega)]; rfl
    · rw [if_neg h, if_neg (by omega)]
  have hs : ∀ x y, tds (tpm (cat (fun x d => kn (640 * j + x) d) fun x d => kp (640 * j + x) d) (fun r d => q (640 * j + r) d) (fun d => l (640 * (j + 0) + d))) (fun x e => v (640 * j + x) e)
      (fun r d => o (640 * j + r) d) (fun d => dl (640 * (j + 0) + d)) x y = dsr q o kn kp v l dl (640 * j + x) (640 * j + y) := fun x y => by
    unfold dsr tds; rw [hp x y]; rfl
  refine congrArg₂ Prod.mk (congrArg₂ Prod.mk (R2_congr fun x hx d _ => ?_) (R2_congr fun x hx e _ => ?_)) (R2_congr fun i hi d _ => ?_)
  · rw [Nat.mul_succ, dkf_add, dkf_zero _ _ (dsr_zero q o kn kp v l dl) _ _ _ (by omega)]
    exact congrArg _ (Finset.sum_congr rfl fun y _ => by rw [hs x y])
  · rw [Nat.mul_succ, dkf_add, dkf_zero _ _ (pr_zero q kn kp l) _ _ _ (by omega)]
    exact congrArg _ (Finset.sum_congr rfl fun y _ => by rw [hp x y])
  · by_cases h1 : i < 640 * j
    · rw [if_neg (by omega), if_pos (by omega), dqf_beyond _ _ (dsr_zero q o kn kp v l dl) _ _ _ _ h1]
    · by_cases h2 : i < 640 * j + 640
      · rw [if_pos ⟨by omega, h2⟩, if_pos (by omega), dqf_add]
        have e : 640 * j + (i - 640 * j) = i := by omega
        rw [e]
        exact congrArg _ (Finset.sum_congr rfl fun x hx => by rw [hs x, e]; rfl)
      · rw [if_neg (by omega), if_neg (by omega)]

/-- A whole grid point. -/
theorem point_real (hj : j < 13) (D : Vec Ideal S8320x256 .f32)
    (hD : 0 < j → D = R2 fun i d => dqf (dsr q o kn kp v l dl) (cat kn kp) (640 * j) i d) :
    point (F := Ideal) (R2 q) (R2 o) (R3 fun _ a r => l (640 * a + r)) (R3 fun _ a r => dl (640 * a + r))
      (R2 fun x d => kn (640 * j + x) d) (R2 fun x e => v (640 * j + x) e) (R2 fun x d => kp (640 * j + x) d) j hj D
      = ((R2 fun x d => dkf (dsr q o kn kp v l dl) q 8320 (640 * j + x) d, R2 fun x e => dkf (pr q kn kp l) o 8320 (640 * j + x) e),
          R2 fun i d => dqf (dsr q o kn kp v l dl) (cat kn kp) (640 * (j + 1)) i d) := by
  have hb : base j D = (R2 fun i d => dqf (dsr q o kn kp v l dl) (cat kn kp) (640 * j) i d : Vec Ideal S8320x256 .f32) := by
    unfold base
    by_cases h : j = 0
    · subst h
      rw [if_pos rfl, pay19_real]
      rfl
    · rw [if_neg h, hD (by omega)]
  unfold point
  rw [hb, diag_real, pay20_real]
  have hc : (R2 (cat (fun x d => kn (640 * j + x) d) fun x d => kp (640 * j + x) d) : Vec Ideal S640x256 .bf16) = R2 fun x d => cat kn kp (640 * j + x) d := rfl
  rw [hc, walk_real q o kn kp v l dl j (12 - j) (by omega)]
  have e : j + 1 + (12 - j) = 13 := by omega
  rw [e]
  unfold accR
  refine congrArg₂ Prod.mk rfl (R2_congr fun i hi d _ => ?_)
  rw [if_pos (by omega)]
  rfl

end Point
end Cert.KernelIdeal.Attn
-- ==== Proof.Attn.Blocks.lean ====
/-
The blocks that a grid point reads, where the region's operands hold real numbers: point `13 h + j` of the
grid reads head `h`'s columns and key tile `j`'s rows.
-/
module

public import proofs.«01_k».proof.Proof.Attn.Launch
public import proofs.«01_k».proof.Proof.Attn.Walk

@[expose] public section
set_option maxRecDepth 16384
noncomputable section
namespace Cert.KernelIdeal.Attn
open Idealize.ShloMosaic Idealize.ShloMosaic.TcCoe Idealize.ShloMosaic.Tactic
open Idealize.SL Idealize.SL.RA Idealize.SL.BI
open Idealize.ShloMosaic.Pipeline (Dat Cfg Window BodyObligation cellOf)
open Cert.KernelIdeal.Gen Cert.Attn

variable (m : (ℓ : Loc nD τ sig) → Buf (Elt Ideal) ℓ) (c : Dev nD)

theorem idx0 : ∀ t : Fin cfg0.N, win0_0.index t 0 = 0 ∧ win0_0.index t 1 = t.val / 13 := by decide +kernel
theorem idx1 : ∀ t : Fin cfg0.N, win0_1.index t 0 = 0 ∧ win0_1.index t 1 = t.val / 13 := by decide +kernel
theorem idx2 : ∀ t : Fin cfg0.N, win0_2.index t 0 = t.val / 13 ∧ win0_2.index t 1 = 0 ∧ win0_2.index t 2 = 0 := by decide +kernel
theorem idx3 : ∀ t : Fin cfg0.N, win0_3.index t 0 = t.val / 13 ∧ win0_3.index t 1 = 0 ∧ win0_3.index t 2 = 0 := by decide +kernel
theorem idx4 : ∀ t : Fin cfg0.N, win0_4.index t 0 = t.val % 13 ∧ win0_4.index t 1 = t.val / 13 := by decide +kernel
theorem idx5 : ∀ t : Fin cfg0.N, win0_5.index t 0 = t.val % 13 ∧ win0_5.index t 1 = 8 + t.val / 13 := by decide +kernel
theorem idx6 : ∀ t : Fin cfg0.N, win0_6.index t 0 = t.val % 13 ∧ win0_6.index t 1 = 0 := by decide +kernel
theorem idx7 : ∀ t : Fin cfg0.N, win0_7.index t 0 = 0 ∧ win0_7.index t 1 = t.val / 13 := by decide +kernel
theorem idx8 : ∀ t : Fin cfg0.N, win0_8.index t 0 = t.val % 13 ∧ win0_8.index t 1 = t.val / 13 := by decide +kernel
theorem idx9 : ∀ t : Fin cfg0.N, win0_9.index t 0 = t.val / 13 ∧ win0_9.index t 1 = t.val % 13 ∧ win0_9.index t 2 = 0 := by decide +kernel
theorem idx10 : ∀ t : Fin cfg0.N, win0_10.index t 0 = t.val % 13 ∧ win0_10.index t 1 = t.val / 13 := by decide +kernel

variable (qA oA kvA kpA : ℕ → ℕ → ℝ) (L D : ℕ → ℕ → ℝ)

/-- What the region finds in its operands. -/
structure Operands : Prop where
  q : (V m c main_v49 : Vec Ideal S8320x2048 .bf16) = R2 qA
  o : (V m c main_arg3 : Vec Ideal S8320x1024 .bf16) = R2 oA
  l : (V m c main_v51 : Vec Ideal S8x13x640 .f32) = R3 fun h a r => L h (640 * a + r)
  d : (V m c main_v52 : Vec Ideal S8x13x640 .f32) = R3 fun h a r => D h (640 * a + r)
  kv : (V m c main_arg1 : Vec Ideal S8320x2048 .bf16) = R2 kvA
  kp : (V m c main_v50 : Vec Ideal S8320x128 .bf16) = R2 kpA

variable {m c qA oA kvA kpA L D} (H : Operands m c qA oA kvA kpA L D) (t : Fin cfg0.N)
include H

theorem iblk0 : (iblk m c 0 t : Vec Ideal S8320x256 .bf16) = R2 fun i d => qA i (256 * (t.val / 13) + d) := by
  funext j
  unfold iblk
  rw [View.read_apply]
  show (V m c main_v49 : Vec Ideal S8320x2048 .bf16) _ = _
  rw [H.q]
  have e := idx0 t
  show ((qA (win0_0.index t 0 * 8320 + 1 * (j 0).val) (win0_0.index t 1 * 256 + 1 * (j 1).val) : ℝ) : EReal) = (((fun i d => qA i (256 * (t.val / 13) + d)) (j 0).val (j 1).val : ℝ) : EReal)
  have e0 : win0_0.index t 0 * 8320 + 1 * (j 0).val = 0 + (j 0).val := by rw [e.1]; omega
  have e1 : win0_0.index t 1 * 256 + 1 * (j 1).val = 256 * (t.val / 13) + (j 1).val := by rw [e.2]; omega
  rw [e0, e1, Nat.zero_add]

theorem iblk1 : (iblk m c 1 t : Vec Ideal S8320x128 .bf16) = R2 fun i d => oA i (128 * (t.val / 13) + d) := by
  funext j
  unfold iblk
  rw [View.read_apply]
  show (V m c main_arg3 : Vec Ideal S8320x1024 .bf16) _ = _
  rw [H.o]
  have e := idx1 t
  show ((oA (win0_1.index t 0 * 8320 + 1 * (j 0).val) (win0_1.index t 1 * 128 + 1 * (j 1).val) : ℝ) : EReal) = (((fun i d => oA i (128 * (t.val / 13) + d)) (j 0).val (j 1).val : ℝ) : EReal)
  have e0 : win0_1.index t 0 * 8320 + 1 * (j 0).val = 0 + (j 0).val := by rw [e.1]; omega
  have e1 : win0_1.index t 1 * 128 + 1 * (j 1).val = 128 * (t.val / 13) + (j 1).val := by rw [e.2]; omega
  rw [e0, e1, Nat.zero_add]

theorem iblk4 : (iblk m c 4 t : Vec Ideal S640x128 .bf16) = R2 fun i d => kvA (640 * (t.val % 13) + i) (128 * (t.val / 13) + d) := by
  funext j
  unfold iblk
  rw [View.read_apply]
  show (V m c main_arg1 : Vec Ideal S8320x2048 .bf16) _ = _
  rw [H.kv]
  have e := idx4 t
  show ((kvA (win0_4.index t 0 * 640 + 1 * (j 0).val) (win0_4.index t 1 * 128 + 1 * (j 1).val) : ℝ) : EReal) = (((fun i d => kvA (640 * (t.val % 13) + i) (128 * (t.val / 13) + d)) (j 0).val (j 1).val : ℝ) : EReal)
  have e0 : win0_4.index t 0 * 640 + 1 * (j 0).val = 640 * (t.val % 13) + (j 0).val := by rw [e.1]; omega
  have e1 : win0_4.index t 1 * 128 + 1 * (j 1).val = 128 * (t.val / 13) + (j 1).val := by rw [e.2]; omega
  rw [e0, e1]

theorem iblk5 : (iblk m c 5 t : Vec Ideal S640x128 .bf16) = R2 fun i d => kvA (640 * (t.val % 13) + i) (1024 + 128 * (t.val / 13) + d) := by
  funext j
  unfold iblk
  rw [View.read_apply]
  show (V m c main_arg1 : Vec Ideal S8320x2048 .bf16) _ = _
  rw [H.kv]
  have e := idx5 t
  show ((kvA (win0_5.index t 0 * 640 + 1 * (j 0).val) (win0_5.index t 1 * 128 + 1 * (j 1).val) : ℝ) : EReal) = (((fun i d => kvA (640 * (t.val % 13) + i) (1024 + 128 * (t.val / 13) + d)) (j 0).val (j 1).val : ℝ) : EReal)
  have e0 : win0_5.index t 0 * 640 + 1 * (j 0).val = 640 * (t.val % 13) + (j 0).val := by rw [e.1]; omega
  have e1 : win0_5.index t 1 * 128 + 1 * (j 1).val = (1024 + 128 * (t.val / 13)) + (j 1).val := by rw [e.2]; omega
  rw [e0, e1]

theorem iblk6 : (iblk m c 6 t : Vec Ideal S640x128 .bf16) = R2 fun i d => kpA (640 * (t.val % 13) + i) d := by
  funext j
  unfold iblk
  rw [View.read_apply]
  show (V m c main_v50 : Vec Ideal S8320x128 .bf16) _ = _
  rw [H.kp]
  have e := idx6 t
  show ((kpA (win0_6.index t 0 * 640 + 1 * (j 0).val) (win0_6.index t 1 * 128 + 1 * (j 1).val) : ℝ) : EReal) = (((fun i d => kpA (640 * (t.val % 13) + i) d) (j 0).val (j 1).val : ℝ) : EReal)
  have e0 : win0_6.index t 0 * 640 + 1 * (j 0).val = 640 * (t.val % 13) + (j 0).val := by rw [e.1]; omega
  have e1 : win0_6.index t 1 * 128 + 1 * (j 1).val = 0 + (j 1).val := by rw [e.2]; omega
  rw [e0, e1, Nat.zero_add]

theorem iblk2 : (iblk m c 2 t : Vec Ideal S1x13x640 .f32) = R3 fun _ a r => L (t.val / 13) (640 * a + r) := by
  funext j
  unfold iblk
  rw [View.read_apply]
  show (V m c main_v51 : Vec Ideal S8x13x640 .f32) _ = _
  rw [H.l]
  have e := idx2 t
  show ((L (win0_2.index t 0 * 1 + 1 * (j 0).val) (640 * (win0_2.index t 1 * 13 + 1 * (j 1).val) + (win0_2.index t 2 * 640 + 1 * (j 2).val)) : ℝ) : EReal)
    = ((L (t.val / 13) (640 * (j 1).val + (j 2).val) : ℝ) : EReal)
  have h0 : (j 0).val < 1 := (j 0).isLt
  have e0 : win0_2.index t 0 * 1 + 1 * (j 0).val = (t.val / 13) := by rw [e.1]; omega
  have e1 : win0_2.index t 1 * 13 + 1 * (j 1).val = (j 1).val := by rw [e.2.1]; omega
  have e2 : win0_2.index t 2 * 640 + 1 * (j 2).val = (j 2).val := by rw [e.2.2]; omega
  rw [e0, e1, e2]

theorem iblk3 : (iblk m c 3 t : Vec Ideal S1x13x640 .f32) = R3 fun _ a r => D (t.val / 13) (640 * a + r) := by
  funext j
  unfold iblk
  rw [View.read_apply]
  show (V m c main_v52 : Vec Ideal S8x13x640 .f32) _ = _
  rw [H.d]
  have e := idx3 t
  show ((D (win0_3.index t 0 * 1 + 1 * (j 0).val) (640 * (win0_3.index t 1 * 13 + 1 * (j 1).val) + (win0_3.index t 2 * 640 + 1 * (j 2).val)) : ℝ) : EReal)
    = ((D (t.val / 13) (640 * (j 1).val + (j 2).val) : ℝ) : EReal)
  have h0 : (j 0).val < 1 := (j 0).isLt
  have e0 : win0_3.index t 0 * 1 + 1 * (j 0).val = (t.val / 13) := by rw [e.1]; omega
  have e1 : win0_3.index t 1 * 13 + 1 * (j 1).val = (j 1).val := by rw [e.2.1]; omega
  have e2 : win0_3.index t 2 * 640 + 1 * (j 2).val = (j 2).val := by rw [e.2.2]; omega
  rw [e0, e1, e2]

omit H
variable (qA oA kvA kpA L D)

/-- Head `h`'s probabilities, key first. -/
def prH (h : ℕ) : ℕ → ℕ → ℝ := pr (fun i d => qA i (256 * h + d)) (fun t d => kvA t (128 * h + d)) kpA (L h)
/-- Head `h`'s gradient of the logits, key first. -/
def dsH (h : ℕ) : ℕ → ℕ → ℝ := dsr (fun i d => qA i (256 * h + d)) (fun i e => oA i (128 * h + e)) (fun t d => kvA t (128 * h + d)) kpA (fun t e => kvA t (1024 + 128 * h + e)) (L h) (D h)

/-- What point `13 h + j` leaves. -/
def leftAt (h j : ℕ) : Acc Ideal :=
  ((R2 fun x d => dkf (dsH qA oA kvA kpA L D h) (fun i d => qA i (256 * h + d)) 8320 (640 * j + x) d,
    R2 fun x e => dkf (prH qA kvA kpA L h) (fun i e => oA i (128 * h + e)) 8320 (640 * j + x) e),
   R2 fun i d => dqf (dsH qA oA kvA kpA L D h) (cat (fun t d => kvA t (128 * h + d)) kpA) (640 * (j + 1)) i d)

variable {qA oA kvA kpA L D}
include H

theorem point_leaves (t : Fin cfg0.N) (X : Vec Ideal S8320x256 .f32)
    (hX : 0 < t.val % 13 → X = R2 fun i d => dqf (dsH qA oA kvA kpA L D (t.val / 13)) (cat (fun s d => kvA s (128 * (t.val / 13) + d)) kpA) (640 * (t.val % 13)) i d) :
    point (iblk m c 0 t) (iblk m c 1 t) (iblk m c 2 t) (iblk m c 3 t) (iblk m c 4 t) (iblk m c 5 t) (iblk m c 6 t) (t.val % 13) (mod13 t.val) X
      = leftAt qA oA kvA kpA L D (t.val / 13) (t.val % 13) := by
  rw [iblk0 H, iblk1 H, iblk2 H, iblk3 H, iblk4 H, iblk5 H, iblk6 H]
  exact point_real (fun i d => qA i (256 * (t.val / 13) + d)) (fun i e => oA i (128 * (t.val / 13) + e)) (fun s d => kvA s (128 * (t.val / 13) + d)) kpA
    (fun s e => kvA s (1024 + 128 * (t.val / 13) + e)) (L (t.val / 13)) (D (t.val / 13)) (t.val % 13) (mod13 t.val) X hX

theorem accAt_real (n : ℕ) (hn : n < cfg0.N) : accAt m c n hn = leftAt qA oA kvA kpA L D (n / 13) (n % 13) := by
  induction n with
  | zero => exact point_leaves H ⟨0, hn⟩ _ (fun h => absurd h (lt_irrefl 0))
  | succ n ih =>
    refine point_leaves H ⟨n + 1, hn⟩ _ (fun h => ?_)
    have h' : 0 < (n + 1) % 13 := h
    rw [ih (Nat.lt_of_succ_lt hn)]
    have e1 : (n + 1) / 13 = n / 13 := by omega
    have e2 : (n + 1) % 13 = n % 13 + 1 := by omega
    show (leftAt qA oA kvA kpA L D (n / 13) (n % 13)).2 = (R2 fun i d => dqf (dsH qA oA kvA kpA L D ((n + 1) / 13)) (cat (fun s d => kvA s (128 * ((n + 1) / 13) + d)) kpA) (640 * ((n + 1) % 13)) i d)
    rw [e1, e2]
    rfl

end Cert.KernelIdeal.Attn
-- ==== Proof.Attn.Arrays.lean ====
/-
The four arrays that the call returns, where the region's operands hold real numbers: each entry is a sum over
all the rows, or over all the keys.
-/
module

public import proofs.«01_k».proof.Proof.Attn.Blocks
public import Idealize.ShloMosaic.Lib.Pipeline.ValueKit

@[expose] public section
set_option maxRecDepth 16384
noncomputable section
namespace Cert.KernelIdeal.Attn
open Idealize.ShloMosaic Idealize.ShloMosaic.TcCoe Idealize.ShloMosaic.Tactic
open Idealize.SL Idealize.SL.RA Idealize.SL.BI
open Idealize.ShloMosaic.Pipeline (Dat Cfg Window BodyObligation cellOf)
open Cert.KernelIdeal.Gen Cert.Attn

variable {m : (ℓ : Loc nD τ sig) → Buf (Elt Ideal) ℓ} {c : Dev nD}
variable (qA oA kvA kpA : ℕ → ℕ → ℝ) (L D : ℕ → ℕ → ℝ)

/-- The query gradient, in base-2 units. -/
def dqA (i d : ℕ) : ℝ := dqf (dsH qA oA kvA kpA L D (d / 256)) (cat (fun t e => kvA t (128 * (d / 256) + e)) kpA) 8320 i (d % 256)
/-- Head `h`'s key gradient, in base-2 units. -/
def dkA (h x d : ℕ) : ℝ := dkf (dsH qA oA kvA kpA L D h) (fun i e => qA i (256 * h + e)) 8320 x d * Real.log 2
/-- The value gradient. -/
def dvA (x d : ℕ) : ℝ := dkf (prH qA kvA kpA L (d / 128)) (fun i e => oA i (128 * (d / 128) + e)) 8320 x (d % 128)

variable {qA oA kvA kpA L D} (H : Operands m c qA oA kvA kpA L D)
include H

theorem arr7 : ((dats m 0 c).arrAt 7 cfg0.N : Vec Ideal S8320x2048 .f32) = R2 (dqA qA oA kvA kpA L D) := by
  refine (dats m 0 c).arrAt_eq_of_covers 7 _ (by decide +kernel) fun t hf y => ?_
  rw [after0_7, accAt_real H]
  have hf' := (flush0_7 t).mp hf
  have e := idx7 t
  show ((dqf (dsH qA oA kvA kpA L D (t.val / 13)) (cat (fun s d => kvA s (128 * (t.val / 13) + d)) kpA) (640 * (t.val % 13 + 1)) (y 0).val (y 1).val : ℝ) : EReal)
    = ((dqA qA oA kvA kpA L D (win0_7.index t 0 * 8320 + 1 * (y 0).val) (win0_7.index t 1 * 256 + 1 * (y 1).val) : ℝ) : EReal)
  have h1 : (y 1).val < 256 := (y 1).isLt
  have e0 : win0_7.index t 0 * 8320 + 1 * (y 0).val = (y 0).val := by rw [e.1]; omega
  have e1 : win0_7.index t 1 * 256 + 1 * (y 1).val = 256 * (t.val / 13) + (y 1).val := by rw [e.2]; omega
  rw [e0, e1]
  unfold dqA
  have e2 : (256 * (t.val / 13) + (y 1).val) / 256 = t.val / 13 := by omega
  have e3 : (256 * (t.val / 13) + (y 1).val) % 256 = (y 1).val := by omega
  rw [e2, e3, hf']

theorem arr8 : ((dats m 0 c).arrAt 8 cfg0.N : Vec Ideal S8320x1024 .bf16) = R2 fun x d => dkA qA oA kvA kpA L D (d / 128) x (d % 128) := by
  refine (dats m 0 c).arrAt_eq_of_covers 8 _ (by decide +kernel) fun t hf y => ?_
  rw [after0_8, accAt_real H]
  unfold leftAt
  rw [pay16_real]
  have e := idx8 t
  show ((dkf (dsH qA oA kvA kpA L D (t.val / 13)) (fun i d => qA i (256 * (t.val / 13) + d)) 8320 (640 * (t.val % 13) + (y 0).val) (y 1).val * Real.log 2 : ℝ) : EReal)
    = (((fun x d => dkA qA oA kvA kpA L D (d / 128) x (d % 128)) (win0_8.index t 0 * 640 + 1 * (y 0).val) (win0_8.index t 1 * 128 + 1 * (y 1).val) : ℝ) : EReal)
  have h1 : (y 1).val < 128 := (y 1).isLt
  have e0 : win0_8.index t 0 * 640 + 1 * (y 0).val = 640 * (t.val % 13) + (y 0).val := by rw [e.1]; omega
  have e1 : win0_8.index t 1 * 128 + 1 * (y 1).val = 128 * (t.val / 13) + (y 1).val := by rw [e.2]; omega
  rw [e0, e1]
  dsimp only
  have e2 : (128 * (t.val / 13) + (y 1).val) / 128 = t.val / 13 := by omega
  have e3 : (128 * (t.val / 13) + (y 1).val) % 128 = (y 1).val := by omega
  rw [e2, e3]
  rfl

theorem arr9 : ((dats m 0 c).arrAt 9 cfg0.N : Vec Ideal S8x8320x128 .f32) = R3 fun h x d => dkA qA oA kvA kpA L D h x (128 + d) := by
  refine (dats m 0 c).arrAt_eq_of_covers 9 _ (by decide +kernel) fun t hf y => ?_
  rw [after0_9, accAt_real H]
  unfold leftAt
  rw [pay17_real]
  have e := idx9 t
  show ((dkf (dsH qA oA kvA kpA L D (t.val / 13)) (fun i d => qA i (256 * (t.val / 13) + d)) 8320 (640 * (t.val % 13) + (y 1).val) (128 + (y 2).val) * Real.log 2 : ℝ) : EReal)
    = ((dkA qA oA kvA kpA L D (win0_9.index t 0 * 1 + 1 * (y 0).val) (win0_9.index t 1 * 640 + 1 * (y 1).val) (128 + (win0_9.index t 2 * 128 + 1 * (y 2).val)) : ℝ) : EReal)
  have h0 : (y 0).val < 1 := (y 0).isLt
  have e0 : win0_9.index t 0 * 1 + 1 * (y 0).val = t.val / 13 := by rw [e.1]; omega
  have e1 : win0_9.index t 1 * 640 + 1 * (y 1).val = 640 * (t.val % 13) + (y 1).val := by rw [e.2.1]; omega
  have e2 : win0_9.index t 2 * 128 + 1 * (y 2).val = (y 2).val := by rw [e.2.2]; omega
  rw [e0, e1, e2]
  rfl

theorem arr10 : ((dats m 0 c).arrAt 10 cfg0.N : Vec Ideal S8320x1024 .bf16) = R2 (dvA qA oA kvA kpA L) := by
  refine (dats m 0 c).arrAt_eq_of_covers 10 _ (by decide +kernel) fun t hf y => ?_
  rw [after0_10, accAt_real H]
  unfold leftAt
  rw [pay18_real]
  have e := idx10 t
  show ((dkf (prH qA kvA kpA L (t.val / 13)) (fun i d => oA i (128 * (t.val / 13) + d)) 8320 (640 * (t.val % 13) + (y 0).val) (y 1).val : ℝ) : EReal)
    = ((dvA qA oA kvA kpA L (win0_10.index t 0 * 640 + 1 * (y 0).val) (win0_10.index t 1 * 128 + 1 * (y 1).val) : ℝ) : EReal)
  have h1 : (y 1).val < 128 := (y 1).isLt
  have e0 : win0_10.index t 0 * 640 + 1 * (y 0).val = 640 * (t.val % 13) + (y 0).val := by rw [e.1]; omega
  have e1 : win0_10.index t 1 * 128 + 1 * (y 1).val = 128 * (t.val / 13) + (y 1).val := by rw [e.2]; omega
  rw [e0, e1]
  unfold dvA
  have e2 : (128 * (t.val / 13) + (y 1).val) / 128 = t.val / 13 := by omega
  have e3 : (128 * (t.val / 13) + (y 1).val) % 128 = (y 1).val := by omega
  rw [e2, e3]

end Cert.KernelIdeal.Attn
-- ==== Proof.Attn.KerReal.lean ====
/-
The kernel's four arrays in the terms of the problem: base-2 logits against a base-2 row statistic give the causal
softmax, and the sums over tiles give the gradients.
-/
module

public import proofs.«01_k».proof.Proof.Attn.HostReal
public import proofs.«01_k».proof.Proof.Attn.Arrays

@[expose] public section
set_option maxRecDepth 16384
noncomputable section
namespace Cert.KernelIdeal.Attn
open Idealize.ShloMosaic Cert.KernelIdeal.Gen Cert.Attn

variable (Q : ℕ → ℕ → ℕ → ℝ) (KV KP O : ℕ → ℕ → ℝ)

theorem qp_at (i h d : ℕ) (hd : d < 256) : qp Q i (256 * h + d) = if d < 192 then Q i h d * (cS / Real.log 2) else 0 := by
  unfold qp
  have e1 : (256 * h + d) % 256 = d := by omega
  have e2 : (256 * h + d) / 256 = h := by omega
  rw [e1, e2]

/-- The base-2 logit. -/
theorem logit2 (h i t : ℕ) :
    ∑ d ∈ Finset.range 256, cat (fun t d => KV t (128 * h + d)) (kpp KP) t d * qp Q i (256 * h + d) = zz Q KV KP h i t / Real.log 2 := by
  have h1 : ∑ d ∈ Finset.range 128, cat (fun t d => KV t (128 * h + d)) (kpp KP) t d * qp Q i (256 * h + d)
      = (∑ d ∈ Finset.range 128, Q i h d * KV t (128 * h + d)) * (cS / Real.log 2) := by
    rw [Finset.sum_mul]
    refine Finset.sum_congr rfl fun d hd => ?_
    have hd' := Finset.mem_range.mp hd
    rw [qp_at Q i h d (by omega), if_pos (by omega), cat, if_pos hd']
    ring
  have h2 : ∑ d ∈ Finset.range 64, cat (fun t d => KV t (128 * h + d)) (kpp KP) t (128 + d) * qp Q i (256 * h + (128 + d))
      = (∑ d ∈ Finset.range 64, KP t d * Q i h (128 + d)) * (cS / Real.log 2) := by
    rw [Finset.sum_mul]
    refine Finset.sum_congr rfl fun d hd => ?_
    have hd' := Finset.mem_range.mp hd
    rw [qp_at Q i h (128 + d) (by omega), if_pos (by omega), cat, if_neg (by omega), Nat.add_sub_cancel_left, kpp, if_pos hd']
    ring
  have h3 : ∑ d ∈ Finset.range 64, cat (fun t d => KV t (128 * h + d)) (kpp KP) t (128 + (64 + d)) * qp Q i (256 * h + (128 + (64 + d))) = 0 := by
    refine Finset.sum_eq_zero fun d hd => ?_
    have hd' := Finset.mem_range.mp hd
    rw [qp_at Q i h (128 + (64 + d)) (by omega), if_neg (by omega), mul_zero]
  rw [show (256 : ℕ) = 128 + (64 + 64) from rfl, Finset.sum_range_add _ 128, Finset.sum_range_add _ 64]
  rw [show (128 + (64 + 64) : ℕ) = 256 from rfl, h1, h2, h3]
  unfold zz sc
  ring

/-- Two to the base-2 logit less the base-2 row statistic is the softmax. -/
theorem prH_eq (h t i : ℕ) (hi : i < 8320) : prH (qp Q) KV (kpp KP) (lse Q KV KP) h t i = pp Q KV KP h i t := by
  unfold prH pr tpm
  by_cases ht : t ≤ i
  · rw [if_pos ht]
    unfold tp
    rw [logit2 Q KV KP h i t]
    have hl := ll_pos Q KV KP (mx Q KV KP h i) h i hi
    have e : zz Q KV KP h i t / Real.log 2 - lse Q KV KP h i = (zz Q KV KP h i t - mx Q KV KP h i - Real.log (ll Q KV KP (mx Q KV KP h i) h i)) / Real.log 2 := by
      unfold lse; ring
    rw [e, show ∀ x y : ℝ, Real.rpow x y = x ^ y from fun _ _ => rfl, Real.rpow_def_of_pos (by norm_num), mul_div_cancel₀ _ log2_ne, Real.exp_sub, Real.exp_log hl,
      ← ee_div Q KV KP (mx Q KV KP h i) h i t]
    congr 1
    unfold ee
    rw [if_pos ht]
  · rw [if_neg ht, pp_zero _ _ _ _ _ _ (by omega)]

theorem dsH_eq (h t i : ℕ) (hi : i < 8320) : dsH (qp Q) O KV (kpp KP) (lse Q KV KP) (dd Q KV KP O) h t i = ds Q KV KP O h i t := by
  have e := prH_eq Q KV KP h t i hi
  unfold prH at e
  unfold dsH dsr tds
  rw [e]
  rfl

theorem dqA_eq (i h d : ℕ) (hi : i < 8320) (hd : d < 192) :
    dqA (qp Q) O KV (kpp KP) (lse Q KV KP) (dd Q KV KP O) i (256 * h + d) * cS = gQ Q KV KP O i h d := by
  unfold dqA dqf gQ
  have e1 : (256 * h + d) / 256 = h := by omega
  have e2 : (256 * h + d) % 256 = d := by omega
  rw [e1, e2]
  congr 1
  refine Finset.sum_congr rfl fun t _ => ?_
  rw [dsH_eq Q KV KP O h t i hi]
  unfold cat kpp
  split
  · rfl
  · rw [if_pos (by omega)]

theorem dkA_eq (h k d : ℕ) (hd : d < 192) :
    dkA (qp Q) O KV (kpp KP) (lse Q KV KP) (dd Q KV KP O) h k d = (∑ i ∈ Finset.range 8320, ds Q KV KP O h i k * Q i h d) * cS := by
  unfold dkA dkf
  rw [Finset.sum_mul, Finset.sum_mul]
  refine Finset.sum_congr rfl fun i hi => ?_
  rw [dsH_eq Q KV KP O h k i (Finset.mem_range.mp hi)]
  show ds Q KV KP O h i k * qp Q i (256 * h + d) * Real.log 2 = _
  rw [qp_at Q i h d (by omega), if_pos hd]
  rw [← mul_assoc, mul_assoc _ _ (Real.log 2), div_mul_cancel₀ _ log2_ne]

theorem dvA_eq (k d : ℕ) : dvA (qp Q) O KV (kpp KP) (lse Q KV KP) k d = gV Q KV KP O k d := by
  unfold dvA dkf gV
  refine Finset.sum_congr rfl fun i hi => ?_
  rw [prH_eq Q KV KP _ k i (Finset.mem_range.mp hi)]

end Cert.KernelIdeal.Attn
-- ==== Proof.Attn.KerOut.lean ====
/-
The kernel's run at real arguments: the gradients of the queries, of the keys' two parts and of the values.
-/
module

public import proofs.«01_k».proof.Proof.Attn.KerReal

@[expose] public section
set_option maxRecDepth 16384
noncomputable section
namespace Cert.KernelIdeal.Attn
open Idealize.ShloMosaic Idealize.ShloMosaic.TcCoe Idealize.ShloMosaic.Tactic
open Idealize.SL Idealize.SL.RA Idealize.SL.BI
open Idealize.ShloMosaic.Pipeline (Dat Cfg Window BodyObligation cellOf)
open Cert.KernelIdeal.Gen Cert.Attn

/-- The host's last lines on the query gradient. -/
def tQ (x : FVec Ideal S8320x2048 .f32) : FVec Ideal S8320x8x192 .bf16 :=
  truncf .bf16 (mulf (extractStridedSlice S8320x8x192 ![0, 0, 0] (shapeCast S8320x8x256 x shapeCasts_S8320x2048_S8320x8x256) slices_S8320x8x256_S8320x8x192_0_0_0)
    (broadcastInDim S8320x8x192 ![] bcast_S_S8320x8x192 (constant S_ .f32 0x3D93CD3A#32))) bitsLt_bf16_f32

/-- The host's last lines on the gradient of the shared key part. -/
def tP (x : FVec Ideal S8x8320x128 .f32) : FVec Ideal S8320x64 .bf16 :=
  truncf .bf16 (extractStridedSlice S8320x64 ![0, 0] (Host.reduceAdd (F := Ideal) (φ := .f32) x (constant S_ .f32 0x00000000#32) reducesTo_S8x8320x128_S8320x128_d0 h_S_) slices_S8320x128_S8320x64_0_0) bitsLt_bf16_f32

theorem tQ_real (f : ℕ → ℕ → ℝ) : tQ (R2 f) = R3 fun i h d => f i (256 * h + d) * cS := by
  funext j
  idx_vars j
  pointwise [tQ]
  rw [cS_eq, R3_ix3, R2_ix2, ← EReal.coe_mul, Nat.mul_comm 256]

theorem tP_real (f : ℕ → ℕ → ℕ → ℝ) : tP (R3 f) = R2 fun k r => ∑ h ∈ Finset.range 8, f h k r := by
  funext j
  idx_vars j
  pointwise [tP]
  simp only [R3_ix3, R2_ix2, coe_sum, Finset.sum_range]

variable (m : (ℓ : Loc nD τ sig) → Buf (Elt Ideal) ℓ) (ρ : Dev nD → PrngReg)

/-- Arrays that two windows share are inputs. -/
theorem shared_in (c : Dev nD) (w w' : Fin 11) (hne : w ≠ w') (e : Pipeline.arrRef spec0 w = Pipeline.arrRef spec0 w') :
    (dats m 0 c).arrAt w cfg0.N = V0 m c (Proc.devRef .tc (Pipeline.arrRef spec0 w)) := by
  have h : w = 4 ∨ w = 5 := by
    revert hne e; revert w w'; decide +kernel
  rcases h with rfl | rfl
  · exact ((dats m 0 c).arrAt_in 4 rfl _).trans (A_eq m c 4)
  · exact ((dats m 0 c).arrAt_in 5 rfl _).trans (A_eq m c 5)

theorem tail_q (c : Dev nD) : (Pipeline.afterTail₀ cfgs (dats m) 0 (V0 m) [hostOps1] c main_v60 : Vec Ideal S8320x8x192 .bf16) = tQ ((dats m 0 c).arrAt 7 cfg0.N) := by
  unfold Pipeline.afterTail₀
  simp only [hostOps1, List.flatten_cons, List.flatten_nil, List.append_nil, List.cons_append, List.nil_append]
  after_results
  rw [Pipeline.withArrays_arr_shared spec0 c (V0 m c) _ (shared_in m c) 7]
  rfl

theorem tail_p (c : Dev nD) : (Pipeline.afterTail₀ cfgs (dats m) 0 (V0 m) [hostOps1] c main_v61 : Vec Ideal S8320x64 .bf16) = tP ((dats m 0 c).arrAt 9 cfg0.N) := by
  unfold Pipeline.afterTail₀
  simp only [hostOps1, List.flatten_cons, List.flatten_nil, List.append_nil, List.cons_append, List.nil_append]
  after_results
  rw [Pipeline.withArrays_arr_shared spec0 c (V0 m c) _ (shared_in m c) 9]
  rfl

variable (Q : ℕ → ℕ → ℕ → ℝ) (KV KP O : ℕ → ℕ → ℝ)

/-- The four arguments are these real arrays on device `c`. -/
structure RealArgs (c : Dev nD) : Prop where
  q : (m (c.tc.loc main_arg0) : Vec Ideal S8320x8x192 .bf16) = R3 Q
  kv : (m (c.tc.loc main_arg1) : Vec Ideal S8320x2048 .bf16) = R2 KV
  kp : (m (c.tc.loc main_arg2) : Vec Ideal S8320x64 .bf16) = R2 KP
  o : (m (c.tc.loc main_arg3) : Vec Ideal S8320x1024 .bf16) = R2 O

variable {m Q KV KP O}

theorem operands {c : Dev nD} (H : RealArgs m Q KV KP O c) :
    Operands m c (qp Q) O KV (kpp KP) (lse Q KV KP) (dd Q KV KP O) where
  q := by rw [V_q, H.q, hQ_real]
  o := (V_main_arg3 m c).trans H.o
  l := by rw [V_lse, H.q, H.kv, H.kp, lse_tiles]
  d := by rw [V_delta, H.q, H.kv, H.kp, H.o, delta_tiles]
  kv := (V_main_arg1 m c).trans H.kv
  kp := by rw [V_kp, H.kp, hKp_real]

theorem out_q {c : Dev nD} (H : RealArgs m Q KV KP O c) :
    (Pipeline.afterTail₀ cfgs (dats m) 0 (V0 m) [hostOps1] c main_v60 : Vec Ideal S8320x8x192 .bf16) = R3 (gQ Q KV KP O) := by
  rw [tail_q, arr7 (operands H), tQ_real]
  exact R3_congr fun i hi h _ d hd => dqA_eq Q KV KP O i h d hi hd

theorem out_p {c : Dev nD} (H : RealArgs m Q KV KP O c) :
    (Pipeline.afterTail₀ cfgs (dats m) 0 (V0 m) [hostOps1] c main_v61 : Vec Ideal S8320x64 .bf16) = R2 (gP Q KV KP O) := by
  rw [tail_p, arr9 (operands H), tP_real]
  refine R2_congr fun k _ r hr => ?_
  unfold gP
  rw [Finset.sum_mul]
  exact Finset.sum_congr rfl fun h _ => dkA_eq Q KV KP O h k (128 + r) (by omega)

theorem out_k {c : Dev nD} (H : RealArgs m Q KV KP O c) : ((dats m 0 c).arrAt 8 cfg0.N : Vec Ideal S8320x1024 .bf16) = R2 (gK Q KV KP O) := by
  rw [arr8 (operands H)]
  exact R2_congr fun k _ d _ => dkA_eq Q KV KP O (d / 128) k (d % 128) (by omega)

theorem out_v {c : Dev nD} (H : RealArgs m Q KV KP O c) : ((dats m 0 c).arrAt 10 cfg0.N : Vec Ideal S8320x1024 .bf16) = R2 (gV Q KV KP O) := by
  rw [arr10 (operands H)]
  exact R2_congr fun k _ d _ => dvA_eq Q KV KP O k d

/-- The kernel's run: from real arguments it ends with the four gradients, its arguments unchanged. -/
theorem run_value (H : ∀ c, RealArgs m Q KV KP O c) :
    θ_run defs (onTc (τ := τ) (main (F := Ideal))) ⟨m, fun _ => 0, ρ⟩ (fun r => ∀ c : Dev nD,
      (r.2.mem ((c.tc : Thread nD τ).loc main_v60) : Vec Ideal S8320x8x192 .bf16) = R3 (gQ Q KV KP O)
      ∧ (r.2.mem ((c.tc : Thread nD τ).loc main_v53_1) : Vec Ideal S8320x1024 .bf16) = R2 (gK Q KV KP O)
      ∧ (r.2.mem ((c.tc : Thread nD τ).loc main_v61) : Vec Ideal S8320x64 .bf16) = R2 (gP Q KV KP O)
      ∧ (r.2.mem ((c.tc : Thread nD τ).loc main_v53_3) : Vec Ideal S8320x1024 .bf16) = R2 (gV Q KV KP O)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).2 main_v60 (Pipeline.mem_restRefs_of main_v60 (by decide) (by decide))).trans (out_q (H c)),
    ((h.1 c).1 8).trans (out_k (H c)),
    ((h.1 c).2 main_v61 (Pipeline.mem_restRefs_of main_v61 (by decide) (by decide))).trans (out_p (H c)),
    ((h.1 c).1 10).trans (out_v (H c)),
    h.2 c⟩)
    (θ_run_and (run_main m ρ) (frame_of m ρ (dats m) (A_eq m) (run_main m ρ)))

end Cert.KernelIdeal.Attn
-- ==== Proof.Attn.RefReal.lean ====
/-
The reference at real arguments: its derivative of the causal softmax attention, stage by stage, as real formulas.
-/
module

public import proofs.«01_k».proof.Proof.Gen.ReferenceIdeal.Read
public import proofs.«01_k».proof.Proof.Attn.Real
public import Idealize.ShloMosaic.Lib.WordCmp

@[expose] public section
set_option maxRecDepth 16384
noncomputable section
namespace Cert.ReferenceIdeal.Attn
open Idealize.ShloMosaic Cert.ReferenceIdeal.Gen Cert.ReferenceIdeal.Read Cert.Attn

variable (Q : ℕ → ℕ → ℕ → ℝ) (KV KP O : ℕ → ℕ → ℝ)

theorem v13_real (h : Fin 8) (i k : Fin 8320) : val_main_v13 (F := Ideal) (R3 Q) (R2 KV) (R2 KP) (ix3 h i k) = ((sc Q KV KP h.val i.val k.val : ℝ) : EReal) := by
  pointwise [val_main_v13, val_main_v12, val_main_v11, val_main_v10, val_main_v8, val_main_v7, val_main_v6, val_main_v4, val_main_v3, val_main_v2, val_main_v0]
  simp only [R3_ix3, R2_ix2, ← EReal.coe_mul, coe_sum, ← EReal.coe_add, sc, Finset.sum_range, Nat.mul_comm]

theorem mask_apply (h : Fin 8) (i k : Fin 8320) : ((val_main_v23_1 (F := Ideal) (ix3 h i k) : BitVec 1) = 1) ↔ k.val ≤ i.val := by
  pointwise [val_main_v23_1, val_main_v20, val_main_v19, val_main_v18, val_main_v17, val_main_v16, val_main_v15, val_main_v14]
  exact WordCmp.cmpi_sle_ofNat_eq_one_iff (w := 32) (show k.val < 2 ^ (32 - 1) by have := k.isLt; omega) (show i.val < 2 ^ (32 - 1) by have := i.isLt; omega)

theorem v23_real (h : Fin 8) (i k : Fin 8320) :
    val_main_v23_0 (F := Ideal) (R3 Q) (R2 KV) (R2 KP) (ix3 h i k) = if k.val ≤ i.val then ((zz Q KV KP h.val i.val k.val : ℝ) : EReal) else ⊥ := by
  pointwise [val_main_v23_0, val_main_v22, val_main_v21, val_main_cst, val_main_call0_v2, val_main_call0_v0, val_main_cst_0]
  unfold Scalar.select
  by_cases hk : k.val ≤ i.val
  · refine (if_pos ((mask_apply h i k).mpr hk)).trans ?_
    rw [if_pos hk, v13_real, cS_eq, ← EReal.coe_mul]
    rfl
  · refine (if_neg (fun e => hk ((mask_apply h i k).mp e))).trans ?_
    rw [if_neg hk]
    exact ninf_eq

theorem v24_real (h : Fin 8) (i : Fin 8320) : val_main_v24 (F := Ideal) (R3 Q) (R2 KV) (R2 KP) (ix2 h i) = ((mx Q KV KP h.val i.val : ℝ) : EReal) := by
  pointwise [val_main_v24, val_main_cst_1]
  simp only [v23_real, ninf_eq]
  refine fold_max_real _ (fun k => ?_) i ?_
  · split
    · exact EReal.coe_ne_top _
    · exact bot_ne_top
  · rw [if_pos (le_refl _)]
    exact EReal.coe_ne_bot _

theorem maxf_apply {S : Shape} (b a : FVec Ideal S .f32) (j : S.Idx) : maximumf b a j = max (b j) (a j) := rfl

theorem v31_real (h : Fin 8) (i : Fin 8320) : val_main_v31 (F := Ideal) (R3 Q) (R2 KV) (R2 KP) (ix2 h i) = ((mx Q KV KP h.val i.val : ℝ) : EReal) := by
  have e' : val_main_v30 (F := Ideal) (ix2 h i) = (⊥ : EReal) := by
    pointwise [val_main_v30, val_main_cst_3]
    exact ninf_eq
  unfold val_main_v31
  rw [maxf_apply, v24_real, e']
  exact max_bot_left _

theorem v44_real (h : Fin 8) (i k : Fin 8320) :
    val_main_v44 (F := Ideal) (R3 Q) (R2 KV) (R2 KP) (ix3 h i k) = ((ee Q KV KP (mx Q KV KP h.val i.val) h.val i.val k.val : ℝ) : EReal) := by
  pointwise [val_main_v44, val_main_v43, val_main_v42, val_main_v41]
  rw [v31_real, v23_real]
  unfold ee
  split
  · rw [← EReal.coe_sub, Ideal.exp_coe]
  · rw [EReal.bot_sub, Ideal.exp_bot, EReal.coe_zero]

theorem v45_real (h : Fin 8) (i : Fin 8320) :
    val_main_v45 (F := Ideal) (R3 Q) (R2 KV) (R2 KP) (ix2 h i) = ((ll Q KV KP (mx Q KV KP h.val i.val) h.val i.val : ℝ) : EReal) := by
  pointwise [val_main_v45, val_main_cst_9]
  simp only [v44_real, coe_sum, ll, Finset.sum_range]

theorem v48_real (h : Fin 8) (i k : Fin 8320) : val_main_v48 (F := Ideal) (R3 Q) (R2 KV) (R2 KP) (ix3 h i k) = ((pp Q KV KP h.val i.val k.val : ℝ) : EReal) := by
  pointwise [val_main_v48, val_main_v47, val_main_v46]
  rw [v44_real, v45_real, div_real _ _ (ll_pos Q KV KP _ _ _ i.isLt).ne', ee_div]

theorem zero_eq : Ideal.ofBits .f32 0x00000000#32 = ((0 : ℝ) : EReal) := by
  simp [Ideal.ofBits, Ideal.ieee]

theorem v51_real (h : Fin 8) (i : Fin 8320) : val_main_v51 (F := Ideal) (R3 Q) (R2 KV) (R2 KP) (ix3 h i 0)
    = ((1 / (ll Q KV KP (mx Q KV KP h.val i.val) h.val i.val * ll Q KV KP (mx Q KV KP h.val i.val) h.val i.val) : ℝ) : EReal) := by
  have hl := (ll_pos Q KV KP (mx Q KV KP h.val i.val) h.val i.val i.isLt).ne'
  pointwise [val_main_v51, val_main_v50, val_main_v49, val_main_v46, val_main_cst_10]
  rw [v45_real, ← EReal.coe_one, ← EReal.coe_mul, div_real _ _ (mul_ne_zero hl hl)]

theorem v58_real (h : Fin 8) (i k : Fin 8320) : val_main_v58 (F := Ideal) (R2 KV) (R2 O) (ix3 h i k) = ((dp KV O h.val i.val k.val : ℝ) : EReal) := by
  pointwise [val_main_v58, val_main_v57, val_main_v56, val_main_v55, val_main_v9, val_main_v5, val_main_v1]
  simp only [R2_ix2, ← EReal.coe_mul, coe_sum, dp, Finset.sum_range, Nat.mul_comm, Nat.add_assoc, mul_comm]

theorem v63_real (h : Fin 8) (i k : Fin 8320) : val_main_v63 (F := Ideal) (R3 Q) (R2 KV) (R2 KP) (R2 O) (ix3 h i k)
    = ((dp KV O h.val i.val k.val * pp Q KV KP h.val i.val k.val / ll Q KV KP (mx Q KV KP h.val i.val) h.val i.val : ℝ) : EReal) := by
  have hl := (ll_pos Q KV KP (mx Q KV KP h.val i.val) h.val i.val i.isLt).ne'
  pointwise [val_main_v63, val_main_v62, val_main_v61]
  rw [v58_real, v44_real, v51_real, ← EReal.coe_mul, ← EReal.coe_mul, ← ee_div Q KV KP (mx Q KV KP h.val i.val)]
  congr 1
  field_simp

theorem v64_real (h : Fin 8) (i : Fin 8320) : val_main_v64 (F := Ideal) (R3 Q) (R2 KV) (R2 KP) (R2 O) (ix2 h i)
    = ((dd Q KV KP O h.val i.val / ll Q KV KP (mx Q KV KP h.val i.val) h.val i.val : ℝ) : EReal) := by
  pointwise [val_main_v64, val_main_cst_11]
  simp only [v63_real, coe_sum]
  rw [dd_eq, Finset.sum_div, Finset.sum_range]

theorem v69_real (h : Fin 8) (i : Fin 8320) : val_main_v69 (F := Ideal) (R3 Q) (R2 KV) (R2 KP) (R2 O) (ix2 h i)
    = ((-(dd Q KV KP O h.val i.val / ll Q KV KP (mx Q KV KP h.val i.val) h.val i.val) : ℝ) : EReal) := by
  pointwise [val_main_v69, val_main_v66, val_main_v65, val_main_cst_12]
  simp only [v64_real, EReal.coe_neg, Finset.univ_unique, Finset.sum_singleton]

theorem v75_real (h : Fin 8) (i k : Fin 8320) : val_main_v75 (F := Ideal) (R3 Q) (R2 KV) (R2 KP) (R2 O) (ix3 h i k)
    = ((ds Q KV KP O h.val i.val k.val * cS : ℝ) : EReal) := by
  have hl := (ll_pos Q KV KP (mx Q KV KP h.val i.val) h.val i.val i.isLt).ne'
  pointwise [val_main_v75, val_main_v74, val_main_v73, val_main_v72, val_main_v71, val_main_v70, val_main_v68, val_main_v67, val_main_v46, val_main_call1_v0, val_main_call1_cst, val_main_cst_13]
  unfold Scalar.select ds
  by_cases hk : k.val ≤ i.val
  · refine (if_pos ((mask_apply h i k).mpr hk)).trans ?_
    rw [v58_real, v44_real, v45_real, v69_real, cS_eq, div_real _ _ hl, ← EReal.coe_add, ← EReal.coe_mul, ← EReal.coe_mul, ← ee_div Q KV KP (mx Q KV KP h.val i.val)]
    congr 1
    field_simp
    ring
  · refine (if_neg (fun e => hk ((mask_apply h i k).mp e))).trans ?_
    rw [pp_zero _ _ _ _ _ _ (by omega), zero_mul, zero_mul, EReal.coe_zero]

/-! ## The four gradients -/

theorem v77_real (i : Fin 8320) (h : Fin 8) (r : Fin 64) : val_main_v77 (F := Ideal) (R3 Q) (R2 KV) (R2 KP) (R2 O) (ix3 i h r)
    = ((∑ k ∈ Finset.range 8320, ds Q KV KP O h.val i.val k * cS * KP k r.val : ℝ) : EReal) := by
  pointwise [val_main_v77, val_main_v76, val_main_v4]
  simp only [v75_real, R2_ix2, ← EReal.coe_mul, coe_sum, Finset.sum_range]

theorem v82_real (i : Fin 8320) (h : Fin 8) (d : Fin 128) : val_main_v82 (F := Ideal) (R3 Q) (R2 KV) (R2 KP) (R2 O) (ix3 i h d)
    = ((∑ k ∈ Finset.range 8320, ds Q KV KP O h.val i.val k * cS * KV k (128 * h.val + d.val) : ℝ) : EReal) := by
  pointwise [val_main_v82, val_main_v81, val_main_v8, val_main_v3, val_main_v0]
  simp only [v75_real, R2_ix2, ← EReal.coe_mul, coe_sum, Finset.sum_range, Nat.mul_comm]

theorem v80_real (k : Fin 8320) (h : Fin 8) (d : Fin 128) : val_main_v80 (F := Ideal) (R3 Q) (R2 KV) (R2 KP) (R2 O) (ix3 k h d)
    = ((∑ i ∈ Finset.range 8320, ds Q KV KP O h.val i k.val * cS * Q i h.val d.val : ℝ) : EReal) := by
  pointwise [val_main_v80, val_main_v79, val_main_v6, val_main_v2]
  simp only [v75_real, R3_ix3, ← EReal.coe_mul, coe_sum, Finset.sum_range]

theorem v60_real (k : Fin 8320) (h : Fin 8) (e : Fin 128) : val_main_v60 (F := Ideal) (R3 Q) (R2 KV) (R2 KP) (R2 O) (ix3 k h e)
    = ((∑ i ∈ Finset.range 8320, pp Q KV KP h.val i k.val * O i (128 * h.val + e.val) : ℝ) : EReal) := by
  pointwise [val_main_v60, val_main_v59, val_main_v57, val_main_v56, val_main_v55]
  simp only [v48_real, R2_ix2, ← EReal.coe_mul, coe_sum, Finset.sum_range, Nat.mul_comm, mul_comm]

theorem v78_real (k : Fin 8320) (r : Fin 64) : val_main_v78 (F := Ideal) (R3 Q) (R2 KV) (R2 KP) (R2 O) (ix2 k r)
    = ((∑ h ∈ Finset.range 8, ∑ i ∈ Finset.range 8320, ds Q KV KP O h i k.val * cS * Q i h (128 + r.val) : ℝ) : EReal) := by
  pointwise [val_main_v78, val_main_v76, val_main_v7, val_main_v2]
  rw [Finset.sum_comm]
  simp only [v75_real, R3_ix3, ← EReal.coe_mul, coe_sum, Finset.sum_range]

theorem v88_real : val_main_v88 (F := Ideal) (R3 Q) (R2 KV) (R2 KP) (R2 O) = R2 (gV Q KV KP O) := by
  funext j
  idx_vars j
  pointwise [val_main_v88, val_main_v83]
  rw [v60_real, R2_ix2]
  rfl

theorem v90_real : val_main_v90 (F := Ideal) (R3 Q) (R2 KV) (R2 KP) (R2 O) = R2 (gK Q KV KP O) := by
  funext j
  idx_vars j
  pointwise [val_main_v90, val_main_v84]
  rw [v80_real, R2_ix2]
  congr 1
  unfold gK
  rw [Finset.sum_mul]
  exact Finset.sum_congr rfl fun i _ => mul_right_comm _ _ _

theorem v89_real : val_main_v89 (F := Ideal) (R3 Q) (R2 KV) (R2 KP) (R2 O) = R2 (gP Q KV KP O) := by
  funext j
  idx_vars j
  pointwise [val_main_v89]
  rw [v78_real, R2_ix2]
  congr 1
  unfold gP
  rw [Finset.sum_mul]
  refine Finset.sum_congr rfl fun h _ => ?_
  rw [Finset.sum_mul]
  exact Finset.sum_congr rfl fun i _ => mul_right_comm _ _ _

theorem v91_real : val_main_v91 (F := Ideal) (R3 Q) (R2 KV) (R2 KP) (R2 O) = R3 (gQ Q KV KP O) := by
  funext j
  idx_vars j
  pointwise [val_main_v91, val_main_v87, val_main_v86, val_main_v85, val_main_cst_14, val_main_cst_15]
  rw [R3_ix3]
  unfold gQ
  have h2 := j2.isLt
  by_cases hd : j2.val < 128
  · rw [dif_neg (by omega), dif_pos hd, zero_add, v82_real]
    congr 1
    rw [Finset.sum_mul]
    exact Finset.sum_congr rfl fun k _ => by rw [if_pos hd, mul_right_comm]
  · rw [dif_pos (by omega), dif_neg hd, add_zero, v77_real]
    congr 1
    rw [Finset.sum_mul]
    exact Finset.sum_congr rfl fun k _ => by rw [if_neg hd, mul_right_comm]

end Cert.ReferenceIdeal.Attn
-- ==== Proof.Attn.Finite.lean ====
/-
The precondition: an array of finite entries is an array of real numbers.
-/
module

public import proofs.«01_k».proof.Pre_finite
public import proofs.«01_k».proof.Proof.Attn.Coe

@[expose] public section
noncomputable section
namespace Cert.Attn
open Idealize.ShloMosaic

theorem inf_eq : Ideal.ofBits .f32 0x7F800000#32 = (⊤ : EReal) := by
  simp [Ideal.ofBits, Ideal.ieee]

/-- An absolute value below infinity is that of a real. -/
theorem real_of_abs_lt (x : EReal) (h : (BitVec.ofBool (decide (max x (-x) < (⊤ : EReal))) : BitVec 1) = 1#1) : ((x.toReal : ℝ) : EReal) = x := by
  have h' : max x (-x) < (⊤ : EReal) := by
    by_contra hn
    rw [decide_eq_false hn] at h
    exact absurd h (by decide)
  refine EReal.coe_toReal ?_ ?_
  · rintro rfl; simp at h'
  · rintro rfl; simp at h'

/-- The real entries of a matrix, zero outside it. -/
def real2 {a b : ℕ} (x : (⟨2, ![a, b]⟩ : Shape).Idx → EReal) (i j : ℕ) : ℝ :=
  if h : i < a ∧ j < b then (x (ix2 ⟨i, h.1⟩ ⟨j, h.2⟩)).toReal else 0
/-- The same of rank three. -/
def real3 {a b c : ℕ} (x : (⟨3, ![a, b, c]⟩ : Shape).Idx → EReal) (i j k : ℕ) : ℝ :=
  if h : i < a ∧ j < b ∧ k < c then (x (ix3 ⟨i, h.1⟩ ⟨j, h.2.1⟩ ⟨k, h.2.2⟩)).toReal else 0

theorem R2_real2 {a b : ℕ} (x : (⟨2, ![a, b]⟩ : Shape).Idx → EReal) (h : ∀ i, ((x i).toReal : EReal) = x i) : x = R2 (real2 x) := by
  funext i
  have e : ix2 (i 0) (i 1) = i := by funext a; match a with | ⟨0, _⟩ => rfl | ⟨1, _⟩ => rfl
  have e' : real2 x (i 0).val (i 1).val = (x i).toReal := by
    unfold real2
    rw [dif_pos ⟨(i 0).isLt, (i 1).isLt⟩]
    exact congrArg (fun j => (x j).toReal) e
  show x i = ((real2 x (i 0).val (i 1).val : ℝ) : EReal)
  rw [e', h]

theorem R3_real3 {a b c : ℕ} (x : (⟨3, ![a, b, c]⟩ : Shape).Idx → EReal) (h : ∀ i, ((x i).toReal : EReal) = x i) : x = R3 (real3 x) := by
  funext i
  have e : ix3 (i 0) (i 1) (i 2) = i := by funext a; match a with | ⟨0, _⟩ => rfl | ⟨1, _⟩ => rfl | ⟨2, _⟩ => rfl
  have e' : real3 x (i 0).val (i 1).val (i 2).val = (x i).toReal := by
    unfold real3
    rw [dif_pos ⟨(i 0).isLt, (i 1).isLt, (i 2).isLt⟩]
    exact congrArg (fun j => (x j).toReal) e
  show x i = ((real3 x (i 0).val (i 1).val (i 2).val : ℝ) : EReal)
  rw [e', h]

/-- The printed test of finiteness, at one entry. -/
theorem entry_real {S : Shape} (φ : FTy) (hφ : FTy.bits φ < FTy.bits .f32) (hb : (⟨0, ![]⟩ : Shape).BroadcastsInDim S (![] : Fin 0 → Fin S.rank)) (x : FVec Ideal S φ)
    (h : cmpf .olt (Host.absf (extf .f32 x hφ)) (broadcastInDim S ![] hb (constant ⟨0, ![]⟩ .f32 0x7F800000#32)) = fun _ => 1#1) (i : S.Idx) :
    (((x i : EReal).toReal : ℝ) : EReal) = x i := by
  refine real_of_abs_lt _ ?_
  have e := congrFun h i
  rw [← inf_eq]
  exact e

end Cert.Attn
-- ==== Proof.Grad.K2.lean ====
/-
  The gradient of a weight, `xᵀ · ct` over all 8320 tokens, at the widths 2816 and 1024: the kernel adds the
  products of 13 blocks of 640 tokens into a block of 1408 rows, and what it leaves is the reference's one product.
-/
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit
public import Idealize.ShloMosaic.Lib.Pointwise

@[expose] public section

set_option maxRecDepth 16384

noncomputable section

namespace Cert.Kernel2Ideal.Grad

open Cert.Kernel2Ideal Cert.Kernel2Ideal.Gen Idealize.ShloMosaic Idealize.ShloMosaic.TcCoe Idealize.SL.Sem

/-- One block's product at an entry: the sum over the block's 640 tokens. -/
theorem part (x : Vec Ideal S640x1408 .bf16) (y : Vec Ideal S640x1024 .bf16) (j : S1408x1024.Idx) :
    k0_pay1 x y j = ∑ k : Fin 640, x (ix2 k (j 0)) * y (ix2 k (j 1)) := by
  idx_vars j
  pointwise [k0_pay1]

/-- The accumulating store at an entry: what was there, plus the block's product. -/
theorem step (x : Vec Ideal S640x1408 .bf16) (y : Vec Ideal S640x1024 .bf16) (z : Vec Ideal S1408x1024 .f32) (j : S1408x1024.Idx) :
    k0_pay2 x y z j = z j + ∑ k : Fin 640, x (ix2 k (j 0)) * y (ix2 k (j 1)) := by
  rw [← part]
  unfold k0_pay2
  rw [shapeCast_self]
  rfl

/-- The first operand's block: of tokens, the point's place in its run; of columns, the run. -/
theorem index_0 : ∀ t : Fin grid0.N, win0_0.index t = ![t.val % 13, t.val / 13] := by decide +kernel

/-- The second operand's block: of tokens, the point's place in its run. -/
theorem index_1 : ∀ t : Fin grid0.N, win0_1.index t = ![t.val % 13, 0] := by decide +kernel

/-- The result's block: of rows, the run. -/
theorem index_2 : ∀ t : Fin grid0.N, win0_2.index t = ![t.val / 13, 0] := by decide +kernel

/-- The whole product, entry by entry. -/
def whole (x : Vec Ideal S8320x2816 .bf16) (y : Vec Ideal S8320x1024 .bf16) : Vec Ideal S2816x1024 .f32 := fun i =>
  ∑ k : Fin 8320, x (ix2 k (i 0)) * y (ix2 k (i 1))

variable (m : (ℓ : Loc nD τ sig) → Buf (Elt Ideal) ℓ)

/-- What the result holds when the grid is done: the whole product. -/
theorem array (c : Dev nD) : (dats m 0 c).arrAt 2 cfg0.N =
    whole (m ((c.tc : Thread nD τ).loc main_arg0)) (m ((c.tc : Thread nD τ).loc main_arg1)) := by
  refine (dats m 0 c).arrAt_eq_of_covers 2 _ (by decide +kernel) fun t hf y => ?_
  have hm := (flush0_2 t).mp hf
  blk_simp
  rw [after0_2, Pipeline.eq_sum_fin_of_reset_step_apply_of_flush (fun n h => outsAt0 m c n h) 13 (fun _ => (0 : EReal)) _
    (fun t h j => by rw [outsAt0_A m c t h (by have hN : t.val < 26 := t.isLt; omega)]; frame_out; rw [part, zero_add])
    (fun t h j => by rw [outsAt0_B m c t h (by omega)]; frame_out; rw [step]) t hm _, zero_add]
  unfold whole
  refine Fin.sum_mul_add_congr fun s k hl => ?_
  congr 1 <;> blk_ext [iblk, V, index_0, index_1, index_2]

end Cert.Kernel2Ideal.Grad

namespace Cert.Reference2Ideal.Grad

open Cert.Reference2Ideal Cert.Reference2Ideal.Read Idealize.ShloMosaic Idealize.SL.Sem

/-- What the reference returns: the whole product. -/
theorem value (x : Vec Ideal S8320x2816 .bf16) (y : Vec Ideal S8320x1024 .bf16) :
    val_main_v5 (F := Ideal) x y = Cert.Kernel2Ideal.Grad.whole x y := by
  funext i
  idx_vars i
  pointwise [val_main_v5, val_main_v4, val_main_v3, val_main_v1, Cert.Kernel2Ideal.Grad.whole]
  exact Finset.sum_congr rfl fun _ _ => mul_comm _ _

end Cert.Reference2Ideal.Grad

namespace Cert.Proof

open Idealize.ShloMosaic Idealize.SL.Sem

/-- The kernel's product is the reference's. -/
theorem algebraic2 : algebraic_Kernel2Ideal_Reference2Ideal (hKernel2Ideal := Cert.Kernel2Ideal.Gen.facts) (hReference2Ideal := Cert.Reference2Ideal.Gen.facts) := by
  intro m g m' g' _ hag
  refine ⟨fun c => Cert.Kernel2Ideal.Grad.whole (m (c.tc.loc Cert.Kernel2Ideal.main_arg0)) (m (c.tc.loc Cert.Kernel2Ideal.main_arg1)),
    (θ_run _ _ _).mono (fun r h c => ?_) (Cert.Kernel2Ideal.Value.run_blocks m g),
    (θ_run _ _ _).mono (fun r h c => ?_) (Cert.Reference2Ideal.Value.run m' g')⟩
  · exact ⟨(h c).1.trans (Cert.Kernel2Ideal.Grad.array m c), (h c).2⟩
  · refine ⟨(h c).1.trans ?_, (h c).2⟩
    rw [Cert.Reference2Ideal.Read.val_main_v5_eq, Cert.Reference2Ideal.Grad.value, (hag c).1, (hag c).2]

end Cert.Proof
end
-- ==== Proof.Grad.K3.lean ====
/-
  The gradient of a weight, `xᵀ · ct` over all 8320 tokens, at the widths 2048 and 1024: the kernel adds the
  products of 13 blocks of 640 tokens into a block of 1024 rows, and what it leaves is the reference's one product.
-/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit
public import Idealize.ShloMosaic.Lib.Pointwise

@[expose] public section

set_option maxRecDepth 16384

noncomputable section

namespace Cert.Kernel3Ideal.Grad

open Cert.Kernel3Ideal Cert.Kernel3Ideal.Gen Idealize.ShloMosaic Idealize.ShloMosaic.TcCoe Idealize.SL.Sem

/-- One block's product at an entry: the sum over the block's 640 tokens. -/
theorem part (x : Vec Ideal S640x1024 .bf16) (y : Vec Ideal S640x1024 .bf16) (j : S1024x1024.Idx) :
    k0_pay1 x y j = ∑ k : Fin 640, x (ix2 k (j 0)) * y (ix2 k (j 1)) := by
  idx_vars j
  pointwise [k0_pay1]

/-- The accumulating store at an entry: what was there, plus the block's product. -/
theorem step (x : Vec Ideal S640x1024 .bf16) (y : Vec Ideal S640x1024 .bf16) (z : Vec Ideal S1024x1024 .f32) (j : S1024x1024.Idx) :
    k0_pay2 x y z j = z j + ∑ k : Fin 640, x (ix2 k (j 0)) * y (ix2 k (j 1)) := by
  rw [← part]
  unfold k0_pay2
  rw [shapeCast_self]
  rfl

/-- The first operand's block: of tokens, the point's place in its run; of columns, the run. -/
theorem index_0 : ∀ t : Fin grid0.N, win0_0.index t = ![t.val % 13, t.val / 13] := by decide +kernel

/-- The second operand's block: of tokens, the point's place in its run. -/
theorem index_1 : ∀ t : Fin grid0.N, win0_1.index t = ![t.val % 13, 0] := by decide +kernel

/-- The result's block: of rows, the run. -/
theorem index_2 : ∀ t : Fin grid0.N, win0_2.index t = ![t.val / 13, 0] := by decide +kernel

/-- The whole product, entry by entry. -/
def whole (x : Vec Ideal S8320x2048 .bf16) (y : Vec Ideal S8320x1024 .bf16) : Vec Ideal S2048x1024 .f32 := fun i =>
  ∑ k : Fin 8320, x (ix2 k (i 0)) * y (ix2 k (i 1))

variable (m : (ℓ : Loc nD τ sig) → Buf (Elt Ideal) ℓ)

/-- What the result holds when the grid is done: the whole product. -/
theorem array (c : Dev nD) : (dats m 0 c).arrAt 2 cfg0.N =
    whole (m ((c.tc : Thread nD τ).loc main_arg0)) (m ((c.tc : Thread nD τ).loc main_arg1)) := by
  refine (dats m 0 c).arrAt_eq_of_covers 2 _ (by decide +kernel) fun t hf y => ?_
  have hm := (flush0_2 t).mp hf
  blk_simp
  rw [after0_2, Pipeline.eq_sum_fin_of_reset_step_apply_of_flush (fun n h => outsAt0 m c n h) 13 (fun _ => (0 : EReal)) _
    (fun t h j => by rw [outsAt0_A m c t h (by have hN : t.val < 26 := t.isLt; omega)]; frame_out; rw [part, zero_add])
    (fun t h j => by rw [outsAt0_B m c t h (by omega)]; frame_out; rw [step]) t hm _, zero_add]
  unfold whole
  refine Fin.sum_mul_add_congr fun s k hl => ?_
  congr 1 <;> blk_ext [iblk, V, index_0, index_1, index_2]

end Cert.Kernel3Ideal.Grad

namespace Cert.Reference3Ideal.Grad

open Cert.Reference3Ideal Cert.Reference3Ideal.Read Idealize.ShloMosaic Idealize.SL.Sem

/-- What the reference returns: the whole product. -/
theorem value (x : Vec Ideal S8320x2048 .bf16) (y : Vec Ideal S8320x1024 .bf16) :
    val_main_v5 (F := Ideal) x y = Cert.Kernel3Ideal.Grad.whole x y := by
  funext i
  idx_vars i
  pointwise [val_main_v5, val_main_v4, val_main_v3, val_main_v1, Cert.Kernel3Ideal.Grad.whole]
  exact Finset.sum_congr rfl fun _ _ => mul_comm _ _

end Cert.Reference3Ideal.Grad

namespace Cert.Proof

open Idealize.ShloMosaic Idealize.SL.Sem

/-- The kernel's product is the reference's. -/
theorem algebraic3 : algebraic_Kernel3Ideal_Reference3Ideal (hKernel3Ideal := Cert.Kernel3Ideal.Gen.facts) (hReference3Ideal := Cert.Reference3Ideal.Gen.facts) := by
  intro m g m' g' _ hag
  refine ⟨fun c => Cert.Kernel3Ideal.Grad.whole (m (c.tc.loc Cert.Kernel3Ideal.main_arg0)) (m (c.tc.loc Cert.Kernel3Ideal.main_arg1)),
    (θ_run _ _ _).mono (fun r h c => ?_) (Cert.Kernel3Ideal.Value.run_blocks m g),
    (θ_run _ _ _).mono (fun r h c => ?_) (Cert.Reference3Ideal.Value.run m' g')⟩
  · exact ⟨(h c).1.trans (Cert.Kernel3Ideal.Grad.array m c), (h c).2⟩
  · refine ⟨(h c).1.trans ?_, (h c).2⟩
    rw [Cert.Reference3Ideal.Read.val_main_v5_eq, Cert.Reference3Ideal.Grad.value, (hag c).1, (hag c).2]

end Cert.Proof
end
-- ==== Proof.Grad.K4.lean ====
/-
  The gradient of a weight, `xᵀ · ct` over all 8320 tokens, at the widths 1024 and 1024: the kernel adds the
  products of 13 blocks of 640 tokens into a block of 1024 rows, and what it leaves is the reference's one product.
-/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.Pointwise

@[expose] public section

set_option maxRecDepth 16384

noncomputable section

namespace Cert.Kernel4Ideal.Grad

open Cert.Kernel4Ideal Cert.Kernel4Ideal.Gen Idealize.ShloMosaic Idealize.ShloMosaic.TcCoe Idealize.SL.Sem

/-- One block's product at an entry: the sum over the block's 640 tokens. -/
theorem part (x : Vec Ideal S640x1024 .bf16) (y : Vec Ideal S640x1024 .bf16) (j : S1024x1024.Idx) :
    k0_pay1 x y j = ∑ k : Fin 640, x (ix2 k (j 0)) * y (ix2 k (j 1)) := by
  idx_vars j
  pointwise [k0_pay1]

/-- The accumulating store at an entry: what was there, plus the block's product. -/
theorem step (x : Vec Ideal S640x1024 .bf16) (y : Vec Ideal S640x1024 .bf16) (z : Vec Ideal S1024x1024 .f32) (j : S1024x1024.Idx) :
    k0_pay2 x y z j = z j + ∑ k : Fin 640, x (ix2 k (j 0)) * y (ix2 k (j 1)) := by
  rw [← part]
  unfold k0_pay2
  rw [shapeCast_self]
  rfl

/-- The first operand's block: of tokens, the point's place in its run; of columns, the run. -/
theorem index_0 : ∀ t : Fin grid0.N, win0_0.index t = ![t.val % 13, t.val / 13] := by decide +kernel

/-- The second operand's block: of tokens, the point's place in its run. -/
theorem index_1 : ∀ t : Fin grid0.N, win0_1.index t = ![t.val % 13, 0] := by decide +kernel

/-- The result's block: of rows, the run. -/
theorem index_2 : ∀ t : Fin grid0.N, win0_2.index t = ![t.val / 13, 0] := by decide +kernel

/-- The whole product, entry by entry. -/
def whole (x : Vec Ideal S8320x1024 .bf16) (y : Vec Ideal S8320x1024 .bf16) : Vec Ideal S1024x1024 .f32 := fun i =>
  ∑ k : Fin 8320, x (ix2 k (i 0)) * y (ix2 k (i 1))

variable (m : (ℓ : Loc nD τ sig) → Buf (Elt Ideal) ℓ)

/-- What the result holds when the grid is done: the whole product. -/
theorem array (c : Dev nD) : (dats m 0 c).arrAt 2 cfg0.N =
    whole (m ((c.tc : Thread nD τ).loc main_arg0)) (m ((c.tc : Thread nD τ).loc main_arg1)) := by
  refine (dats m 0 c).arrAt_eq_of_covers 2 _ (by decide +kernel) fun t hf y => ?_
  have hm := (flush0_2 t).mp hf
  blk_simp
  rw [after0_2, Pipeline.eq_sum_fin_of_reset_step_apply_of_flush (fun n h => outsAt0 m c n h) 13 (fun _ => (0 : EReal)) _
    (fun t h j => by rw [outsAt0_A m c t h (by have hN : t.val < 13 := t.isLt; omega)]; frame_out; rw [part, zero_add])
    (fun t h j => by rw [outsAt0_B m c t h (by omega)]; frame_out; rw [step]) t hm _, zero_add]
  unfold whole
  refine Fin.sum_mul_add_congr fun s k hl => ?_
  congr 1 <;> blk_ext [iblk, V, index_0, index_1, index_2]

end Cert.Kernel4Ideal.Grad

namespace Cert.Reference4Ideal.Grad

open Cert.Reference4Ideal Cert.Reference4Ideal.Read Idealize.ShloMosaic Idealize.SL.Sem

/-- What the reference returns: the whole product. -/
theorem value (x : Vec Ideal S8320x1024 .bf16) (y : Vec Ideal S8320x1024 .bf16) :
    val_main_v5 (F := Ideal) x y = Cert.Kernel4Ideal.Grad.whole x y := by
  funext i
  idx_vars i
  pointwise [val_main_v5, val_main_v4, val_main_v3, val_main_v1, Cert.Kernel4Ideal.Grad.whole]
  exact Finset.sum_congr rfl fun _ _ => mul_comm _ _

end Cert.Reference4Ideal.Grad

namespace Cert.Proof

open Idealize.ShloMosaic Idealize.SL.Sem

/-- The kernel's product is the reference's. -/
theorem algebraic4 : algebraic_Kernel4Ideal_Reference4Ideal (hKernel4Ideal := Cert.Kernel4Ideal.Gen.facts) (hReference4Ideal := Cert.Reference4Ideal.Gen.facts) := by
  intro m g m' g' _ hag
  refine ⟨fun c => Cert.Kernel4Ideal.Grad.whole (m (c.tc.loc Cert.Kernel4Ideal.main_arg0)) (m (c.tc.loc Cert.Kernel4Ideal.main_arg1)),
    (θ_run _ _ _).mono (fun r h c => ?_) (Cert.Kernel4Ideal.Value.run_blocks m g),
    (θ_run _ _ _).mono (fun r h c => ?_) (Cert.Reference4Ideal.Value.run m' g')⟩
  · exact ⟨(h c).1.trans (Cert.Kernel4Ideal.Grad.array m c), (h c).2⟩
  · refine ⟨(h c).1.trans ?_, (h c).2⟩
    rw [Cert.Reference4Ideal.Read.val_main_v5_eq, Cert.Reference4Ideal.Grad.value, (hag c).1, (hag c).2]

end Cert.Proof
end
-- ==== Proof.Grad.K5.lean ====
/-
  The gradient of a weight, `xᵀ · ct` over all 8320 tokens, at the widths 3072 and 1024: the kernel adds the
  products of 13 blocks of 640 tokens into a block of 1024 rows, and what it leaves is the reference's one product.
-/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit
public import Idealize.ShloMosaic.Lib.Pointwise

@[expose] public section

set_option maxRecDepth 16384

noncomputable section

namespace Cert.Kernel5Ideal.Grad

open Cert.Kernel5Ideal Cert.Kernel5Ideal.Gen Idealize.ShloMosaic Idealize.ShloMosaic.TcCoe Idealize.SL.Sem

/-- One block's product at an entry: the sum over the block's 640 tokens. -/
theorem part (x : Vec Ideal S640x1024 .bf16) (y : Vec Ideal S640x1024 .bf16) (j : S1024x1024.Idx) :
    k0_pay1 x y j = ∑ k : Fin 640, x (ix2 k (j 0)) * y (ix2 k (j 1)) := by
  idx_vars j
  pointwise [k0_pay1]

/-- The accumulating store at an entry: what was there, plus the block's product. -/
theorem step (x : Vec Ideal S640x1024 .bf16) (y : Vec Ideal S640x1024 .bf16) (z : Vec Ideal S1024x1024 .f32) (j : S1024x1024.Idx) :
    k0_pay2 x y z j = z j + ∑ k : Fin 640, x (ix2 k (j 0)) * y (ix2 k (j 1)) := by
  rw [← part]
  unfold k0_pay2
  rw [shapeCast_self]
  rfl

/-- The first operand's block: of tokens, the point's place in its run; of columns, the run. -/
theorem index_0 : ∀ t : Fin grid0.N, win0_0.index t = ![t.val % 13, t.val / 13] := by decide +kernel

/-- The second operand's block: of tokens, the point's place in its run. -/
theorem index_1 : ∀ t : Fin grid0.N, win0_1.index t = ![t.val % 13, 0] := by decide +kernel

/-- The result's block: of rows, the run. -/
theorem index_2 : ∀ t : Fin grid0.N, win0_2.index t = ![t.val / 13, 0] := by decide +kernel

/-- The whole product, entry by entry. -/
def whole (x : Vec Ideal S8320x3072 .bf16) (y : Vec Ideal S8320x1024 .bf16) : Vec Ideal S3072x1024 .f32 := fun i =>
  ∑ k : Fin 8320, x (ix2 k (i 0)) * y (ix2 k (i 1))

variable (m : (ℓ : Loc nD τ sig) → Buf (Elt Ideal) ℓ)

/-- What the result holds when the grid is done: the whole product. -/
theorem array (c : Dev nD) : (dats m 0 c).arrAt 2 cfg0.N =
    whole (m ((c.tc : Thread nD τ).loc main_arg0)) (m ((c.tc : Thread nD τ).loc main_arg1)) := by
  refine (dats m 0 c).arrAt_eq_of_covers 2 _ (by decide +kernel) fun t hf y => ?_
  have hm := (flush0_2 t).mp hf
  blk_simp
  rw [after0_2, Pipeline.eq_sum_fin_of_reset_step_apply_of_flush (fun n h => outsAt0 m c n h) 13 (fun _ => (0 : EReal)) _
    (fun t h j => by rw [outsAt0_A m c t h (by have hN : t.val < 39 := t.isLt; omega)]; frame_out; rw [part, zero_add])
    (fun t h j => by rw [outsAt0_B m c t h (by omega)]; frame_out; rw [step]) t hm _, zero_add]
  unfold whole
  refine Fin.sum_mul_add_congr fun s k hl => ?_
  congr 1 <;> blk_ext [iblk, V, index_0, index_1, index_2]

end Cert.Kernel5Ideal.Grad

namespace Cert.Reference5Ideal.Grad

open Cert.Reference5Ideal Cert.Reference5Ideal.Read Idealize.ShloMosaic Idealize.SL.Sem

/-- What the reference returns: the whole product. -/
theorem value (x : Vec Ideal S8320x3072 .bf16) (y : Vec Ideal S8320x1024 .bf16) :
    val_main_v6 (F := Ideal) x y = Cert.Kernel5Ideal.Grad.whole x y := by
  funext i
  idx_vars i
  pointwise [val_main_v6, val_main_v5, val_main_v4, val_main_v3, val_main_v1, Cert.Kernel5Ideal.Grad.whole]

end Cert.Reference5Ideal.Grad

namespace Cert.Proof

open Idealize.ShloMosaic Idealize.SL.Sem

/-- The kernel's product is the reference's. -/
theorem algebraic5 : algebraic_Kernel5Ideal_Reference5Ideal (hKernel5Ideal := Cert.Kernel5Ideal.Gen.facts) (hReference5Ideal := Cert.Reference5Ideal.Gen.facts) := by
  intro m g m' g' _ hag
  refine ⟨fun c => Cert.Kernel5Ideal.Grad.whole (m (c.tc.loc Cert.Kernel5Ideal.main_arg0)) (m (c.tc.loc Cert.Kernel5Ideal.main_arg1)),
    (θ_run _ _ _).mono (fun r h c => ?_) (Cert.Kernel5Ideal.Value.run_blocks m g),
    (θ_run _ _ _).mono (fun r h c => ?_) (Cert.Reference5Ideal.Value.run m' g')⟩
  · exact ⟨(h c).1.trans (Cert.Kernel5Ideal.Grad.array m c), (h c).2⟩
  · refine ⟨(h c).1.trans ?_, (h c).2⟩
    rw [Cert.Reference5Ideal.Read.val_main_v6_eq, Cert.Reference5Ideal.Grad.value, (hag c).1, (hag c).2]

end Cert.Proof
end
-- ==== Proof.Grad.K6.lean ====
/-
  The gradient of the gated product's input through its gate half: `dug · w_up_gᵀ`, over two halves of the 2816 columns,
  and the gradient that came down the residual stream, scaled.
-/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel6Ideal.Grad

open Cert.Kernel6Ideal Cert.Kernel6Ideal.Gen Idealize.ShloMosaic Idealize.ShloMosaic.TcCoe Idealize.SL.Sem

/-- The scale of what is added. -/
def scale : EReal := Scalar.ofBits (F := Ideal) .f32 0x3FB504F3#32

/-- One half's product at an entry. -/
def half (x : Vec Ideal S1664x1408 .bf16) (y : Vec Ideal S512x1408 .bf16) (j : S1664x512.Idx) : EReal :=
  ∑ k : Fin 1408, x (ix2 (j 0) k) * y (ix2 (j 1) k)

/-- The body's product is that. -/
theorem part (x : Vec Ideal S1664x1408 .bf16) (y : Vec Ideal S512x1408 .bf16) (j : S1664x512.Idx) : k0_pay1 x y j = half x y j := by
  idx_vars j
  pointwise [k0_pay1, half]

/-- The first store into the accumulator, at an entry. -/
theorem first (x : Vec Ideal S1664x1408 .bf16) (y : Vec Ideal S512x1408 .bf16) (j : S1664x512.Idx) :
    k0_pay2 x y j = half x y j := by
  rw [← part]
  unfold k0_pay2
  rw [shapeCast_self]

/-- The second store into the accumulator, at an entry. -/
theorem second (x : Vec Ideal S1664x1408 .bf16) (y : Vec Ideal S512x1408 .bf16) (z : Vec Ideal S1664x512 .f32) (j : S1664x512.Idx) :
    k0_pay3 x y z j = z j + half x y j := by
  rw [← part]
  unfold k0_pay3
  rw [shapeCast_self]
  rfl

/-- The result's store, at an entry. -/
theorem last (a z : Vec Ideal S1664x512 .f32) (j : S1664x512.Idx) : k0_pay4 a z j = a j + scale * z j := rfl

/-- The blocks at a point. -/
theorem index_0 : ∀ t : Fin grid0.N, win0_0.index t = ![t.val / 4, t.val % 2] := by decide +kernel
theorem index_1 : ∀ t : Fin grid0.N, win0_1.index t = ![t.val / 2 % 2, t.val % 2] := by decide +kernel
theorem index_2 : ∀ t : Fin grid0.N, win0_2.index t = ![t.val / 4, t.val / 2 % 2] := by decide +kernel
theorem index_3 : ∀ t : Fin grid0.N, win0_3.index t = ![t.val / 4, t.val / 2 % 2] := by decide +kernel

/-- A sum over 2816 columns as the sum of its halves. -/
theorem halves (f : Fin 2816 → EReal) :
    (∑ k : Fin 1408, f ⟨k.val, by omega⟩) + ∑ k : Fin 1408, f ⟨1408 + k.val, by omega⟩ = ∑ k : Fin 2816, f k :=
  (Fin.sum_univ_add (a := 1408) (b := 1408) f).symm

/-- The whole, entry by entry. -/
def whole (x : Vec Ideal S8320x2816 .bf16) (y : Vec Ideal S1024x2816 .bf16) (z : Vec Ideal S8320x1024 .f32) :
    Vec Ideal S8320x1024 .f32 := fun i =>
  (∑ k : Fin 2816, x (ix2 (i 0) k) * y (ix2 (i 1) k)) + scale * z i

variable (m : (ℓ : Loc nD τ sig) → Buf (Elt Ideal) ℓ)

/-- What an even point leaves in the accumulator: the first half's product. -/
theorem even (c : Dev nD) (t : Fin cfg0.N) (h : t.val % 2 = 0) (j : S1664x512.Idx) :
    (outsAt0 m c t.val t.isLt).2 j = half (iblk m c 0 t) (iblk m c 1 t) j := by
  rw [outsAt0_A m c t h (by omega) (by omega)]
  frame_out
  rw [first]

/-- What an odd point leaves in the result's block. -/
theorem odd (c : Dev nD) (t : Fin cfg0.N) (h : t.val % 2 = 1) (j : S1664x512.Idx) :
    (outsAt0 m c t.val t.isLt).1 j = (outsAt0 m c (t.val - 1) (Nat.lt_of_le_of_lt (Nat.sub_le _ _) t.isLt)).2 j
      + half (iblk m c 0 t) (iblk m c 1 t) j + scale * iblk m c 2 t j := by
  rw [outsAt0_B m c t (by omega) h h]
  frame_out
  simp only [read_unread_whole]
  rw [last, second]

/-- What the result holds when the grid is done. -/
theorem array (c : Dev nD) : (dats m 0 c).arrAt 3 cfg0.N =
    whole (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  have hm := (flush0_3 t).mp hf
  have hN : t.val < 20 := t.isLt
  have he := even m c ⟨t.val - 1, by omega⟩ (by show (t.val - 1) % 2 = 0; omega)
  blk_simp
  rw [after0_3, odd m c t hm, he]
  unfold whole half
  rw [← halves]
  refine congrArg₂ (· + ·) (congrArg₂ (· + ·) (Fin.sum_fin_congr fun k => congrArg₂ (· * ·) ?_ ?_)
    (Fin.sum_fin_congr fun k => congrArg₂ (· * ·) ?_ ?_)) (congrArg (scale * ·) ?_)
  all_goals blk_ext [iblk, V, index_0, index_1, index_2, index_3]

end Cert.Kernel6Ideal.Grad

namespace Cert.Reference6Ideal.Grad

open Cert.Reference6Ideal Cert.Reference6Ideal.Read Idealize.ShloMosaic Idealize.SL.Sem

/-- What the reference returns: the same, entry by entry. -/
theorem value (x : Vec Ideal S8320x2816 .bf16) (y : Vec Ideal S1024x2816 .bf16) (z : Vec Ideal S8320x1024 .f32) :
    val_main_v9 (F := Ideal) x y z = Cert.Kernel6Ideal.Grad.whole x y z := by
  funext i
  idx_vars i
  pointwise [val_main_v9, val_main_v8, val_main_v7, val_main_v6, val_main_cst_1, val_main_v5, val_main_v1, Cert.Kernel6Ideal.Grad.whole,
    Cert.Kernel6Ideal.Grad.scale]
  exact add_comm _ _

end Cert.Reference6Ideal.Grad

namespace Cert.Proof

open Idealize.ShloMosaic Idealize.SL.Sem

/-- The kernel's result is the reference's. -/
theorem algebraic6 : algebraic_Kernel6Ideal_Reference6Ideal (hKernel6Ideal := Cert.Kernel6Ideal.Gen.facts) (hReference6Ideal := Cert.Reference6Ideal.Gen.facts) := by
  intro m g m' g' _ hag
  refine ⟨fun c => Cert.Kernel6Ideal.Grad.whole (m (c.tc.loc Cert.Kernel6Ideal.main_arg0)) (m (c.tc.loc Cert.Kernel6Ideal.main_arg1)) (m (c.tc.loc Cert.Kernel6Ideal.main_arg2)),
    (θ_run _ _ _).mono (fun r h c => ?_) (Cert.Kernel6Ideal.Value.run_blocks m g),
    (θ_run _ _ _).mono (fun r h c => ?_) (Cert.Reference6Ideal.Value.run m' g')⟩
  · exact ⟨(h c).1.trans (Cert.Kernel6Ideal.Grad.array m c), (h c).2⟩
  · refine ⟨(h c).1.trans ?_, (h c).2⟩
    rw [Cert.Reference6Ideal.Read.val_main_v9_eq, (hag c).1, (hag c).2.1, (hag c).2.2]
    exact Cert.Reference6Ideal.Grad.value _ _ _

end Cert.Proof
end
-- ==== Proof.Grad.K7.lean ====
/-
  The gradient of the gated product's input through its value half: `duv · w_up_vᵀ`, over two halves of the 2816 columns,
  and the gradient through the gate half (`K6`).
-/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel7Ideal.Grad

open Cert.Kernel7Ideal Cert.Kernel7Ideal.Gen Idealize.ShloMosaic Idealize.ShloMosaic.TcCoe Idealize.SL.Sem

/-- The scale of what is added. -/
def scale : EReal := Scalar.ofBits (F := Ideal) .f32 0x3F800000#32

/-- One half's product at an entry. -/
def half (x : Vec Ideal S1664x1408 .bf16) (y : Vec Ideal S512x1408 .bf16) (j : S1664x512.Idx) : EReal :=
  ∑ k : Fin 1408, x (ix2 (j 0) k) * y (ix2 (j 1) k)

/-- The body's product is that. -/
theorem part (x : Vec Ideal S1664x1408 .bf16) (y : Vec Ideal S512x1408 .bf16) (j : S1664x512.Idx) : k0_pay1 x y j = half x y j := by
  idx_vars j
  pointwise [k0_pay1, half]

/-- The first store into the accumulator, at an entry. -/
theorem first (x : Vec Ideal S1664x1408 .bf16) (y : Vec Ideal S512x1408 .bf16) (j : S1664x512.Idx) :
    k0_pay2 x y j = half x y j := by
  rw [← part]
  unfold k0_pay2
  rw [shapeCast_self]

/-- The second store into the accumulator, at an entry. -/
theorem second (x : Vec Ideal S1664x1408 .bf16) (y : Vec Ideal S512x1408 .bf16) (z : Vec Ideal S1664x512 .f32) (j : S1664x512.Idx) :
    k0_pay3 x y z j = z j + half x y j := by
  rw [← part]
  unfold k0_pay3
  rw [shapeCast_self]
  rfl

/-- The result's store, at an entry. -/
theorem last (a z : Vec Ideal S1664x512 .f32) (j : S1664x512.Idx) : k0_pay4 a z j = a j + scale * z j := rfl

/-- The blocks at a point. -/
theorem index_0 : ∀ t : Fin grid0.N, win0_0.index t = ![t.val / 4, t.val % 2] := by decide +kernel
theorem index_1 : ∀ t : Fin grid0.N, win0_1.index t = ![t.val / 2 % 2, t.val % 2] := by decide +kernel
theorem index_2 : ∀ t : Fin grid0.N, win0_2.index t = ![t.val / 4, t.val / 2 % 2] := by decide +kernel
theorem index_3 : ∀ t : Fin grid0.N, win0_3.index t = ![t.val / 4, t.val / 2 % 2] := by decide +kernel

/-- A sum over 2816 columns as the sum of its halves. -/
theorem halves (f : Fin 2816 → EReal) :
    (∑ k : Fin 1408, f ⟨k.val, by omega⟩) + ∑ k : Fin 1408, f ⟨1408 + k.val, by omega⟩ = ∑ k : Fin 2816, f k :=
  (Fin.sum_univ_add (a := 1408) (b := 1408) f).symm

/-- The whole, entry by entry. -/
def whole (x : Vec Ideal S8320x2816 .bf16) (y : Vec Ideal S1024x2816 .bf16) (z : Vec Ideal S8320x1024 .f32) :
    Vec Ideal S8320x1024 .f32 := fun i =>
  (∑ k : Fin 2816, x (ix2 (i 0) k) * y (ix2 (i 1) k)) + scale * z i

variable (m : (ℓ : Loc nD τ sig) → Buf (Elt Ideal) ℓ)

/-- What an even point leaves in the accumulator: the first half's product. -/
theorem even (c : Dev nD) (t : Fin cfg0.N) (h : t.val % 2 = 0) (j : S1664x512.Idx) :
    (outsAt0 m c t.val t.isLt).2 j = half (iblk m c 0 t) (iblk m c 1 t) j := by
  rw [outsAt0_A m c t h (by omega) (by omega)]
  frame_out
  rw [first]

/-- What an odd point leaves in the result's block. -/
theorem odd (c : Dev nD) (t : Fin cfg0.N) (h : t.val % 2 = 1) (j : S1664x512.Idx) :
    (outsAt0 m c t.val t.isLt).1 j = (outsAt0 m c (t.val - 1) (Nat.lt_of_le_of_lt (Nat.sub_le _ _) t.isLt)).2 j
      + half (iblk m c 0 t) (iblk m c 1 t) j + scale * iblk m c 2 t j := by
  rw [outsAt0_B m c t (by omega) h h]
  frame_out
  simp only [read_unread_whole]
  rw [last, second]

/-- What the result holds when the grid is done. -/
theorem array (c : Dev nD) : (dats m 0 c).arrAt 3 cfg0.N =
    whole (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  have hm := (flush0_3 t).mp hf
  have hN : t.val < 20 := t.isLt
  have he := even m c ⟨t.val - 1, by omega⟩ (by show (t.val - 1) % 2 = 0; omega)
  blk_simp
  rw [after0_3, odd m c t hm, he]
  unfold whole half
  rw [← halves]
  refine congrArg₂ (· + ·) (congrArg₂ (· + ·) (Fin.sum_fin_congr fun k => congrArg₂ (· * ·) ?_ ?_)
    (Fin.sum_fin_congr fun k => congrArg₂ (· * ·) ?_ ?_)) (congrArg (scale * ·) ?_)
  all_goals blk_ext [iblk, V, index_0, index_1, index_2, index_3]

end Cert.Kernel7Ideal.Grad

namespace Cert.Reference7Ideal.Grad

open Cert.Reference7Ideal Cert.Reference7Ideal.Read Idealize.ShloMosaic Idealize.SL.Sem

/-- What the reference returns: the same, entry by entry. -/
theorem value (x : Vec Ideal S8320x2816 .bf16) (y : Vec Ideal S1024x2816 .bf16) (z : Vec Ideal S8320x1024 .f32) :
    val_main_v5 (F := Ideal) x y z = Cert.Kernel7Ideal.Grad.whole x y z := by
  funext i
  idx_vars i
  pointwise [val_main_v5, val_main_v4, val_main_v3, val_main_v1, Cert.Kernel7Ideal.Grad.whole, Cert.Kernel7Ideal.Grad.scale]
  exact add_comm _ _

end Cert.Reference7Ideal.Grad

namespace Cert.Proof

open Idealize.ShloMosaic Idealize.SL.Sem

/-- The kernel's result is the reference's. -/
theorem algebraic7 : algebraic_Kernel7Ideal_Reference7Ideal (hKernel7Ideal := Cert.Kernel7Ideal.Gen.facts) (hReference7Ideal := Cert.Reference7Ideal.Gen.facts) := by
  intro m g m' g' _ hag
  refine ⟨fun c => Cert.Kernel7Ideal.Grad.whole (m (c.tc.loc Cert.Kernel7Ideal.main_arg0)) (m (c.tc.loc Cert.Kernel7Ideal.main_arg1)) (m (c.tc.loc Cert.Kernel7Ideal.main_arg2)),
    (θ_run _ _ _).mono (fun r h c => ?_) (Cert.Kernel7Ideal.Value.run_blocks m g),
    (θ_run _ _ _).mono (fun r h c => ?_) (Cert.Reference7Ideal.Value.run m' g')⟩
  · exact ⟨(h c).1.trans (Cert.Kernel7Ideal.Grad.array m c), (h c).2⟩
  · refine ⟨(h c).1.trans ?_, (h c).2⟩
    rw [Cert.Reference7Ideal.Read.val_main_v5_eq, (hag c).1, (hag c).2.1, (hag c).2.2]
    exact Cert.Reference7Ideal.Grad.value _ _ _

end Cert.Proof
end
-- ==== Proof.Grad.K8.lean ====
/-
  The gradient of the narrow product's input, `ct · w_downᵀ`: every grid point leaves one whole block of the product.
-/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit
public import Idealize.ShloMosaic.Lib.Pointwise

@[expose] public section

set_option maxRecDepth 16384

noncomputable section

namespace Cert.Kernel8Ideal.Grad

open Cert.Kernel8Ideal Cert.Kernel8Ideal.Gen Idealize.ShloMosaic Idealize.ShloMosaic.TcCoe Idealize.SL.Sem

/-- One block at an entry: the sum over the 1024 columns. -/
theorem part (x : Vec Ideal S1664x1024 .bf16) (y : Vec Ideal S1408x1024 .bf16) (j : S1664x1408.Idx) :
    k0_pay1 x y j = ∑ k : Fin 1024, x (ix2 (j 0) k) * y (ix2 (j 1) k) := by
  idx_vars j
  pointwise [k0_pay1]

/-- The blocks at a point: of rows, the half point; of columns, its parity. -/
theorem index_0 : ∀ t : Fin grid0.N, win0_0.index t = ![t.val / 2, 0] := by decide +kernel
theorem index_1 : ∀ t : Fin grid0.N, win0_1.index t = ![t.val % 2, 0] := by decide +kernel
theorem index_2 : ∀ t : Fin grid0.N, win0_2.index t = ![t.val / 2, t.val % 2] := by decide +kernel

/-- The whole product, entry by entry. -/
def whole (x : Vec Ideal S8320x1024 .bf16) (y : Vec Ideal S2816x1024 .bf16) : Vec Ideal S8320x2816 .f32 := fun i =>
  ∑ k : Fin 1024, x (ix2 (i 0) k) * y (ix2 (i 1) k)

variable (m : (ℓ : Loc nD τ sig) → Buf (Elt Ideal) ℓ)

/-- What the result holds when the grid is done: the whole product. -/
theorem array (c : Dev nD) : (dats m 0 c).arrAt 2 cfg0.N =
    whole (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  rw [part]
  unfold whole
  refine Fin.sum_fin_congr fun k => ?_
  congr 1 <;> blk_ext [iblk, V, index_0, index_1, index_2]

end Cert.Kernel8Ideal.Grad

namespace Cert.Reference8Ideal.Grad

open Cert.Reference8Ideal Cert.Reference8Ideal.Read Idealize.ShloMosaic Idealize.SL.Sem

/-- What the reference returns: the same, entry by entry. -/
theorem value (x : Vec Ideal S8320x1024 .bf16) (y : Vec Ideal S2816x1024 .bf16) :
    val_main_v4 (F := Ideal) x y = Cert.Kernel8Ideal.Grad.whole x y := by
  funext i
  idx_vars i
  pointwise [val_main_v4, val_main_v3, val_main_v1, Cert.Kernel8Ideal.Grad.whole]

end Cert.Reference8Ideal.Grad

namespace Cert.Proof

open Idealize.ShloMosaic Idealize.SL.Sem

/-- The kernel's result is the reference's. -/
theorem algebraic8 : algebraic_Kernel8Ideal_Reference8Ideal (hKernel8Ideal := Cert.Kernel8Ideal.Gen.facts) (hReference8Ideal := Cert.Reference8Ideal.Gen.facts) := by
  intro m g m' g' _ hag
  refine ⟨fun c => Cert.Kernel8Ideal.Grad.whole (m (c.tc.loc Cert.Kernel8Ideal.main_arg0)) (m (c.tc.loc Cert.Kernel8Ideal.main_arg1)),
    (θ_run _ _ _).mono (fun r h c => ?_) (Cert.Kernel8Ideal.Value.run_blocks m g),
    (θ_run _ _ _).mono (fun r h c => ?_) (Cert.Reference8Ideal.Value.run m' g')⟩
  · exact ⟨(h c).1.trans (Cert.Kernel8Ideal.Grad.array m c), (h c).2⟩
  · refine ⟨(h c).1.trans ?_, (h c).2⟩
    rw [Cert.Reference8Ideal.Read.val_main_v4_eq, (hag c).1, (hag c).2]
    exact Cert.Reference8Ideal.Grad.value _ _

end Cert.Proof
end
-- ==== Proof.Grad.K9.lean ====
/-
  The gradient of a layer's input through the wide columns of its first product: two products and the gradient that
  came down the residual stream, scaled. Every grid point leaves one whole block of 640 tokens.
-/
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit
public import Idealize.ShloMosaic.Lib.Pointwise

@[expose] public section

set_option maxRecDepth 16384

noncomputable section

namespace Cert.Kernel9Ideal.Grad

open Cert.Kernel9Ideal Cert.Kernel9Ideal.Gen Idealize.ShloMosaic Idealize.ShloMosaic.TcCoe Idealize.SL.Sem

/-- The scale of the residual stream. -/
def scale : EReal := Scalar.ofBits (F := Ideal) .f32 0x3FB504F3#32

/-- One block at an entry. -/
theorem part (z : Vec Ideal S640x1024 .f32) (x : Vec Ideal S640x2048 .bf16) (w : Vec Ideal S2048x1024 .bf16)
    (y : Vec Ideal S640x3072 .bf16) (u : Vec Ideal S3072x1024 .bf16) (j : S640x1024.Idx) :
    k0_pay1 z x w y u j = scale * z j + ∑ k : Fin 2048, x (ix2 (j 0) k) * w (ix2 k (j 1))
      + ∑ k : Fin 3072, y (ix2 (j 0) k) * u (ix2 k (j 1)) := by
  idx_vars j
  pointwise [k0_pay1, scale]

theorem index_0 : ∀ t : Fin grid0.N, win0_0.index t = ![t.val, 0] := by decide +kernel
theorem index_1 : ∀ t : Fin grid0.N, win0_1.index t = ![t.val, 0] := by decide +kernel
theorem index_2 : ∀ t : Fin grid0.N, win0_2.index t = ![0, 0] := by decide +kernel
theorem index_3 : ∀ t : Fin grid0.N, win0_3.index t = ![0, 0] := by decide +kernel
theorem index_4 : ∀ t : Fin grid0.N, win0_4.index t = ![t.val, 0] := by decide +kernel
theorem index_5 : ∀ t : Fin grid0.N, win0_5.index t = ![t.val, 0] := by decide +kernel

/-- The whole sum, entry by entry. -/
def whole (x : Vec Ideal S8320x2048 .bf16) (y : Vec Ideal S8320x3072 .bf16) (z : Vec Ideal S2048x1024 .bf16)
    (w : Vec Ideal S3072x1024 .bf16) (u : Vec Ideal S8320x1024 .f32) : Vec Ideal S8320x1024 .f32 := fun i =>
  scale * u i + ∑ k : Fin 2048, x (ix2 (i 0) k) * z (ix2 k (i 1)) + ∑ k : Fin 3072, y (ix2 (i 0) k) * w (ix2 k (i 1))

variable (m : (ℓ : Loc nD τ sig) → Buf (Elt Ideal) ℓ)

/-- What the result holds when the grid is done. -/
theorem array (c : Dev nD) : (dats m 0 c).arrAt 5 cfg0.N =
    whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  refine (dats m 0 c).arrAt_eq_of_covers 5 _ (by decide +kernel) fun t hf y => ?_
  blk_simp
  rw [after0_5]
  frame_out
  rw [part]
  unfold whole
  refine congrArg₂ (· + ·) (congrArg₂ (· + ·) (congrArg (scale * ·) ?_) (Finset.sum_congr rfl fun k _ => congrArg₂ (· * ·) ?_ ?_))
    (Finset.sum_congr rfl fun k _ => congrArg₂ (· * ·) ?_ ?_)
  all_goals blk_ext [iblk, V, index_0, index_1, index_2, index_3, index_4, index_5]

end Cert.Kernel9Ideal.Grad

namespace Cert.Reference9Ideal.Grad

open Cert.Reference9Ideal Cert.Reference9Ideal.Read Idealize.ShloMosaic Idealize.SL.Sem

/-- What the reference returns: the same, entry by entry. -/
theorem value (x : Vec Ideal S8320x2048 .bf16) (y : Vec Ideal S8320x3072 .bf16) (z : Vec Ideal S2048x1024 .bf16) (w : Vec Ideal S3072x1024 .bf16) (u : Vec Ideal S8320x1024 .f32) :
    val_main_v16 (F := Ideal) x y z w u = Cert.Kernel9Ideal.Grad.whole x y z w u := by
  funext i
  idx_vars i
  pointwise [val_main_v16, val_main_v15, val_main_v14, val_main_v13, val_main_v12, val_main_v11, val_main_cst_1, val_main_v10, val_main_v9,
    val_main_v5, val_main_v4, val_main_v2, val_main_v1, Cert.Kernel9Ideal.Grad.whole, Cert.Kernel9Ideal.Grad.scale]
  exact add_right_comm _ _ _

end Cert.Reference9Ideal.Grad

namespace Cert.Proof

open Idealize.ShloMosaic Idealize.SL.Sem

/-- The kernel's result is the reference's. -/
theorem algebraic9 : algebraic_Kernel9Ideal_Reference9Ideal (hKernel9Ideal := Cert.Kernel9Ideal.Gen.facts) (hReference9Ideal := Cert.Reference9Ideal.Gen.facts) := by
  intro m g m' g' _ hag
  refine ⟨fun c => Cert.Kernel9Ideal.Grad.whole (m (c.tc.loc Cert.Kernel9Ideal.main_arg0)) (m (c.tc.loc Cert.Kernel9Ideal.main_arg1)) (m (c.tc.loc Cert.Kernel9Ideal.main_arg2)) (m (c.tc.loc Cert.Kernel9Ideal.main_arg3)) (m (c.tc.loc Cert.Kernel9Ideal.main_arg4)),
    (θ_run _ _ _).mono (fun r h c => ?_) (Cert.Kernel9Ideal.Value.run_blocks m g),
    (θ_run _ _ _).mono (fun r h c => ?_) (Cert.Reference9Ideal.Value.run m' g')⟩
  · exact ⟨(h c).1.trans (Cert.Kernel9Ideal.Grad.array m c), (h c).2⟩
  · refine ⟨(h c).1.trans ?_, (h c).2⟩
    rw [Cert.Reference9Ideal.Read.val_main_v16_eq, (hag c).1, (hag c).2.1, (hag c).2.2.1, (hag c).2.2.2.1, (hag c).2.2.2.2]
    exact Cert.Reference9Ideal.Grad.value _ _ _ _ _

end Cert.Proof
end
-- ==== Proof.Grad.K10.lean ====
/-
  The gradient of the mixed row, `ct · w_outᵀ`: every grid point leaves one whole block of the product.
-/
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.ValueKit
public import Idealize.ShloMosaic.Lib.Pointwise

@[expose] public section

set_option maxRecDepth 16384

noncomputable section

namespace Cert.Kernel10Ideal.Grad

open Cert.Kernel10Ideal Cert.Kernel10Ideal.Gen Idealize.ShloMosaic Idealize.ShloMosaic.TcCoe Idealize.SL.Sem

/-- One block at an entry. -/
theorem part (x : Vec Ideal S1664x1024 .bf16) (y : Vec Ideal S1024x1024 .bf16) (j : S1664x1024.Idx) :
    k0_pay1 x y j = ∑ k : Fin 1024, x (ix2 (j 0) k) * y (ix2 (j 1) k) := by
  idx_vars j
  pointwise [k0_pay1]

/-- The blocks at a point of the grid. -/
theorem index_0 : ∀ t : Fin grid0.N, win0_0.index t = ![t.val, 0] := by decide +kernel
theorem index_1 : ∀ t : Fin grid0.N, win0_1.index t = ![0, 0] := by decide +kernel
theorem index_2 : ∀ t : Fin grid0.N, win0_2.index t = ![t.val, 0] := by decide +kernel

/-- The whole product, entry by entry. -/
def whole (x : Vec Ideal S8320x1024 .bf16) (y : Vec Ideal S1024x1024 .bf16) : Vec Ideal S8320x1024 .f32 := fun i =>
  ∑ k : Fin 1024, x (ix2 (i 0) k) * y (ix2 (i 1) k)

variable (m : (ℓ : Loc nD τ sig) → Buf (Elt Ideal) ℓ)

/-- What the result holds when the grid is done: the whole product. -/
theorem array (c : Dev nD) : (dats m 0 c).arrAt 2 cfg0.N =
    whole (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  rw [part]
  unfold whole
  refine Fin.sum_fin_congr fun k => ?_
  congr 1 <;> blk_ext [iblk, V, index_0, index_1, index_2]

end Cert.Kernel10Ideal.Grad

namespace Cert.Reference10Ideal.Grad

open Cert.Reference10Ideal Cert.Reference10Ideal.Read Idealize.ShloMosaic Idealize.SL.Sem

/-- What the reference returns: the same, entry by entry. -/
theorem value (x : Vec Ideal S8320x1024 .bf16) (y : Vec Ideal S1024x1024 .bf16) :
    val_main_v4 (F := Ideal) x y = Cert.Kernel10Ideal.Grad.whole x y := by
  funext i
  idx_vars i
  pointwise [val_main_v4, val_main_v3, val_main_v1, Cert.Kernel10Ideal.Grad.whole]

end Cert.Reference10Ideal.Grad

namespace Cert.Proof

open Idealize.ShloMosaic Idealize.SL.Sem

/-- The kernel's result is the reference's. -/
theorem algebraic10 : algebraic_Kernel10Ideal_Reference10Ideal (hKernel10Ideal := Cert.Kernel10Ideal.Gen.facts) (hReference10Ideal := Cert.Reference10Ideal.Gen.facts) := by
  intro m g m' g' _ hag
  refine ⟨fun c => Cert.Kernel10Ideal.Grad.whole (m (c.tc.loc Cert.Kernel10Ideal.main_arg0)) (m (c.tc.loc Cert.Kernel10Ideal.main_arg1)),
    (θ_run _ _ _).mono (fun r h c => ?_) (Cert.Kernel10Ideal.Value.run_blocks m g),
    (θ_run _ _ _).mono (fun r h c => ?_) (Cert.Reference10Ideal.Value.run m' g')⟩
  · exact ⟨(h c).1.trans (Cert.Kernel10Ideal.Grad.array m c), (h c).2⟩
  · refine ⟨(h c).1.trans ?_, (h c).2⟩
    rw [Cert.Reference10Ideal.Read.val_main_v4_eq, (hag c).1, (hag c).2]
    exact Cert.Reference10Ideal.Grad.value _ _

end Cert.Proof
end
-- ==== Proof.Grad.K11.lean ====
/-
  The gradient of the attention's output, `ct · w_o_attnᵀ`: every grid point leaves one whole block of the product.
-/
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.ValueKit
public import Idealize.ShloMosaic.Lib.Pointwise

@[expose] public section

set_option maxRecDepth 16384

noncomputable section

namespace Cert.Kernel11Ideal.Grad

open Cert.Kernel11Ideal Cert.Kernel11Ideal.Gen Idealize.ShloMosaic Idealize.ShloMosaic.TcCoe Idealize.SL.Sem

/-- One block at an entry. -/
theorem part (x : Vec Ideal S1664x1024 .bf16) (y : Vec Ideal S1024x1024 .bf16) (j : S1664x1024.Idx) :
    k0_pay1 x y j = ∑ k : Fin 1024, x (ix2 (j 0) k) * y (ix2 (j 1) k) := by
  idx_vars j
  pointwise [k0_pay1]

/-- The blocks at a point of the grid. -/
theorem index_0 : ∀ t : Fin grid0.N, win0_0.index t = ![t.val, 0] := by decide +kernel
theorem index_1 : ∀ t : Fin grid0.N, win0_1.index t = ![0, 0] := by decide +kernel
theorem index_2 : ∀ t : Fin grid0.N, win0_2.index t = ![t.val, 0] := by decide +kernel

/-- The whole product, entry by entry. -/
def whole (x : Vec Ideal S8320x1024 .bf16) (y : Vec Ideal S1024x1024 .bf16) : Vec Ideal S8320x1024 .bf16 := fun i =>
  ∑ k : Fin 1024, x (ix2 (i 0) k) * y (ix2 (i 1) k)

variable (m : (ℓ : Loc nD τ sig) → Buf (Elt Ideal) ℓ)

/-- What the result holds when the grid is done: the whole product. -/
theorem array (c : Dev nD) : (dats m 0 c).arrAt 2 cfg0.N =
    whole (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  rw [part]
  unfold whole
  refine Fin.sum_fin_congr fun k => ?_
  congr 1 <;> blk_ext [iblk, V, index_0, index_1, index_2]

end Cert.Kernel11Ideal.Grad

namespace Cert.Reference11Ideal.Grad

open Cert.Reference11Ideal Cert.Reference11Ideal.Read Idealize.ShloMosaic Idealize.SL.Sem

/-- What the reference returns: the same, entry by entry. -/
theorem value (x : Vec Ideal S8320x1024 .bf16) (y : Vec Ideal S1024x1024 .bf16) :
    val_main_v6 (F := Ideal) x y = Cert.Kernel11Ideal.Grad.whole x y := by
  funext i
  idx_vars i
  pointwise [val_main_v6, val_main_v5, val_main_v4, val_main_v2, Cert.Kernel11Ideal.Grad.whole]

end Cert.Reference11Ideal.Grad

namespace Cert.Proof

open Idealize.ShloMosaic Idealize.SL.Sem

/-- The kernel's result is the reference's. -/
theorem algebraic11 : algebraic_Kernel11Ideal_Reference11Ideal (hKernel11Ideal := Cert.Kernel11Ideal.Gen.facts) (hReference11Ideal := Cert.Reference11Ideal.Gen.facts) := by
  intro m g m' g' _ hag
  refine ⟨fun c => Cert.Kernel11Ideal.Grad.whole (m (c.tc.loc Cert.Kernel11Ideal.main_arg0)) (m (c.tc.loc Cert.Kernel11Ideal.main_arg1)),
    (θ_run _ _ _).mono (fun r h c => ?_) (Cert.Kernel11Ideal.Value.run_blocks m g),
    (θ_run _ _ _).mono (fun r h c => ?_) (Cert.Reference11Ideal.Value.run m' g')⟩
  · exact ⟨(h c).1.trans (Cert.Kernel11Ideal.Grad.array m c), (h c).2⟩
  · refine ⟨(h c).1.trans ?_, (h c).2⟩
    rw [Cert.Reference11Ideal.Read.val_main_v6_eq, (hag c).1, (hag c).2]
    exact Cert.Reference11Ideal.Grad.value _ _

end Cert.Proof
end
-- ==== Proof.Grad.K12.lean ====
/-
  The gradient of the normed scan's output, `ct · w_o_ssdᵀ`: every grid point leaves one whole block of the product.
-/
module

public import proofs.«01_k».proof.Defs
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit
public import Idealize.ShloMosaic.Lib.Pointwise

@[expose] public section

set_option maxRecDepth 16384

noncomputable section

namespace Cert.Kernel12Ideal.Grad

open Cert.Kernel12Ideal Cert.Kernel12Ideal.Gen Idealize.ShloMosaic Idealize.ShloMosaic.TcCoe Idealize.SL.Sem

/-- One block at an entry. -/
theorem part (x : Vec Ideal S1664x1024 .bf16) (y : Vec Ideal S1024x1024 .bf16) (j : S1664x1024.Idx) :
    k0_pay1 x y j = ∑ k : Fin 1024, x (ix2 (j 0) k) * y (ix2 (j 1) k) := by
  idx_vars j
  pointwise [k0_pay1]

/-- The blocks at a point of the grid. -/
theorem index_0 : ∀ t : Fin grid0.N, win0_0.index t = ![t.val / 2, 0] := by decide +kernel
theorem index_1 : ∀ t : Fin grid0.N, win0_1.index t = ![t.val % 2, 0] := by decide +kernel
theorem index_2 : ∀ t : Fin grid0.N, win0_2.index t = ![t.val / 2, t.val % 2] := by decide +kernel

/-- The whole product, entry by entry. -/
def whole (x : Vec Ideal S8320x1024 .bf16) (y : Vec Ideal S2048x1024 .bf16) : Vec Ideal S8320x2048 .bf16 := fun i =>
  ∑ k : Fin 1024, x (ix2 (i 0) k) * y (ix2 (i 1) k)

variable (m : (ℓ : Loc nD τ sig) → Buf (Elt Ideal) ℓ)

/-- What the result holds when the grid is done: the whole product. -/
theorem array (c : Dev nD) : (dats m 0 c).arrAt 2 cfg0.N =
    whole (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  rw [part]
  unfold whole
  refine Fin.sum_fin_congr fun k => ?_
  congr 1 <;> blk_ext [iblk, V, index_0, index_1, index_2]

end Cert.Kernel12Ideal.Grad

namespace Cert.Reference12Ideal.Grad

open Cert.Reference12Ideal Cert.Reference12Ideal.Read Idealize.ShloMosaic Idealize.SL.Sem

/-- What the reference returns: the same, entry by entry. -/
theorem value (x : Vec Ideal S8320x1024 .bf16) (y : Vec Ideal S2048x1024 .bf16) :
    val_main_v6 (F := Ideal) x y = Cert.Kernel12Ideal.Grad.whole x y := by
  funext i
  idx_vars i
  pointwise [val_main_v6, val_main_v5, val_main_v4, val_main_v2, Cert.Kernel12Ideal.Grad.whole]

end Cert.Reference12Ideal.Grad

namespace Cert.Proof

open Idealize.ShloMosaic Idealize.SL.Sem

/-- The kernel's result is the reference's. -/
theorem algebraic12 : algebraic_Kernel12Ideal_Reference12Ideal (hKernel12Ideal := Cert.Kernel12Ideal.Gen.facts) (hReference12Ideal := Cert.Reference12Ideal.Gen.facts) := by
  intro m g m' g' _ hag
  refine ⟨fun c => Cert.Kernel12Ideal.Grad.whole (m (c.tc.loc Cert.Kernel12Ideal.main_arg0)) (m (c.tc.loc Cert.Kernel12Ideal.main_arg1)),
    (θ_run _ _ _).mono (fun r h c => ?_) (Cert.Kernel12Ideal.Value.run_blocks m g),
    (θ_run _ _ _).mono (fun r h c => ?_) (Cert.Reference12Ideal.Value.run m' g')⟩
  · exact ⟨(h c).1.trans (Cert.Kernel12Ideal.Grad.array m c), (h c).2⟩
  · refine ⟨(h c).1.trans ?_, (h c).2⟩
    rw [Cert.Reference12Ideal.Read.val_main_v6_eq, (hag c).1, (hag c).2]
    exact Cert.Reference12Ideal.Grad.value _ _

end Cert.Proof
end
-- ==== Proof.Grad.K13.lean ====
/-
  One half of the up projection: every grid point leaves one whole block of the product.
-/
module

public import proofs.«01_k».proof.Defs
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pipeline.ValueKit
public import Idealize.ShloMosaic.Lib.Pointwise

@[expose] public section

set_option maxRecDepth 16384

noncomputable section

namespace Cert.Kernel13Ideal.Grad

open Cert.Kernel13Ideal Cert.Kernel13Ideal.Gen Idealize.ShloMosaic Idealize.ShloMosaic.TcCoe Idealize.SL.Sem

/-- One block at an entry. -/
theorem part (x : Vec Ideal S1664x1024 .bf16) (y : Vec Ideal S1024x1408 .bf16) (j : S1664x1408.Idx) :
    k0_pay1 x y j = ∑ k : Fin 1024, x (ix2 (j 0) k) * y (ix2 k (j 1)) := by
  idx_vars j
  pointwise [k0_pay1]

/-- The blocks at a point of the grid. -/
theorem index_0 : ∀ t : Fin grid0.N, win0_0.index t = ![t.val / 2, 0] := by decide +kernel
theorem index_1 : ∀ t : Fin grid0.N, win0_1.index t = ![0, t.val % 2] := by decide +kernel
theorem index_2 : ∀ t : Fin grid0.N, win0_2.index t = ![t.val / 2, t.val % 2] := by decide +kernel

/-- The whole product, entry by entry. -/
def whole (x : Vec Ideal S8320x1024 .bf16) (y : Vec Ideal S1024x2816 .bf16) : Vec Ideal S8320x2816 .f32 := fun i =>
  ∑ k : Fin 1024, x (ix2 (i 0) k) * y (ix2 k (i 1))

variable (m : (ℓ : Loc nD τ sig) → Buf (Elt Ideal) ℓ)

/-- What the result holds when the grid is done: the whole product. -/
theorem array (c : Dev nD) : (dats m 0 c).arrAt 2 cfg0.N =
    whole (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  rw [part]
  unfold whole
  refine Fin.sum_fin_congr fun k => ?_
  congr 1 <;> blk_ext [iblk, V, index_0, index_1, index_2]

end Cert.Kernel13Ideal.Grad

namespace Cert.Reference13Ideal.Grad

open Cert.Reference13Ideal Cert.Reference13Ideal.Read Idealize.ShloMosaic Idealize.SL.Sem

/-- What the reference returns: the same, entry by entry. -/
theorem value (x : Vec Ideal S8320x1024 .bf16) (y : Vec Ideal S1024x2816 .bf16) :
    val_main_v2 (F := Ideal) x y = Cert.Kernel13Ideal.Grad.whole x y := by
  funext i
  idx_vars i
  pointwise [val_main_v2, val_main_v1, val_main_v0, Cert.Kernel13Ideal.Grad.whole]

end Cert.Reference13Ideal.Grad

namespace Cert.Proof

open Idealize.ShloMosaic Idealize.SL.Sem

/-- The kernel's result is the reference's. -/
theorem algebraic13 : algebraic_Kernel13Ideal_Reference13Ideal (hKernel13Ideal := Cert.Kernel13Ideal.Gen.facts) (hReference13Ideal := Cert.Reference13Ideal.Gen.facts) := by
  intro m g m' g' _ hag
  refine ⟨fun c => Cert.Kernel13Ideal.Grad.whole (m (c.tc.loc Cert.Kernel13Ideal.main_arg0)) (m (c.tc.loc Cert.Kernel13Ideal.main_arg1)),
    (θ_run _ _ _).mono (fun r h c => ?_) (Cert.Kernel13Ideal.Value.run_blocks m g),
    (θ_run _ _ _).mono (fun r h c => ?_) (Cert.Reference13Ideal.Value.run m' g')⟩
  · exact ⟨(h c).1.trans (Cert.Kernel13Ideal.Grad.array m c), (h c).2⟩
  · refine ⟨(h c).1.trans ?_, (h c).2⟩
    rw [Cert.Reference13Ideal.Read.val_main_v2_eq, (hag c).1, (hag c).2]
    exact Cert.Reference13Ideal.Grad.value _ _

end Cert.Proof
end
-- ==== Proof.Grad.K14.lean ====
/-
  The down projection, over two halves of the 2816 columns.
-/
module

public import proofs.«01_k».proof.Defs
public import proofs.«01_k».proof.Proof.Gen.Kernel14Ideal.Value
public import proofs.«01_k».proof.Proof.Gen.Reference14Ideal.Run
public import proofs.«01_k».proof.Proof.Gen.Reference14Ideal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel14Ideal.Grad

open Cert.Kernel14Ideal Cert.Kernel14Ideal.Gen Idealize.ShloMosaic Idealize.ShloMosaic.TcCoe Idealize.SL.Sem

/-- One half's product at an entry. -/
def half (x : Vec Ideal S1664x1408 .bf16) (y : Vec Ideal S1408x512 .bf16) (j : S1664x512.Idx) : EReal :=
  ∑ k : Fin 1408, x (ix2 (j 0) k) * y (ix2 k (j 1))

/-- The body's product is that. -/
theorem part (x : Vec Ideal S1664x1408 .bf16) (y : Vec Ideal S1408x512 .bf16) (j : S1664x512.Idx) : k0_pay1 x y j = half x y j := by
  idx_vars j
  pointwise [k0_pay1, half]

/-- The first store into the accumulator, at an entry. -/
theorem first (x : Vec Ideal S1664x1408 .bf16) (y : Vec Ideal S1408x512 .bf16) (j : S1664x512.Idx) : k0_pay2 x y j = half x y j := by
  rw [← part]
  unfold k0_pay2
  rw [shapeCast_self]

/-- The second store into the accumulator, at an entry. -/
theorem second (x : Vec Ideal S1664x1408 .bf16) (y : Vec Ideal S1408x512 .bf16) (z : Vec Ideal S1664x512 .f32) (j : S1664x512.Idx) :
    k0_pay3 x y z j = z j + half x y j := by
  rw [← part]
  unfold k0_pay3
  rw [shapeCast_self]
  rfl

/-- A sum over 2816 columns as the sum of its halves. -/
theorem halves (f : Fin 2816 → EReal) :
    (∑ k : Fin 1408, f ⟨k.val, by omega⟩) + ∑ k : Fin 1408, f ⟨1408 + k.val, by omega⟩ = ∑ k : Fin 2816, f k :=
  (Fin.sum_univ_add (a := 1408) (b := 1408) f).symm

/-- The blocks at a point of the grid. -/
theorem index_0 : ∀ t : Fin grid0.N, win0_0.index t = ![t.val / 4, t.val % 2] := by decide +kernel
theorem index_1 : ∀ t : Fin grid0.N, win0_1.index t = ![t.val % 2, t.val / 2 % 2] := by decide +kernel
theorem index_2 : ∀ t : Fin grid0.N, win0_2.index t = ![t.val / 4, t.val / 2 % 2] := by decide +kernel

/-- The whole product, entry by entry. -/
def whole (x : Vec Ideal S8320x2816 .bf16) (y : Vec Ideal S2816x1024 .bf16) : Vec Ideal S8320x1024 .f32 := fun i =>
  ∑ k : Fin 2816, x (ix2 (i 0) k) * y (ix2 k (i 1))

variable (m : (ℓ : Loc nD τ sig) → Buf (Elt Ideal) ℓ)

/-- What an even point leaves in the accumulator: the first half's product. -/
theorem even (c : Dev nD) (t : Fin cfg0.N) (h : t.val % 2 = 0) (j : S1664x512.Idx) :
    (outsAt0 m c t.val t.isLt).2 j = half (iblk m c 0 t) (iblk m c 1 t) j := by
  rw [outsAt0_A m c t h (by omega) (by omega)]
  frame_out
  rw [first]

/-- What an odd point leaves in the result's block. -/
theorem odd (c : Dev nD) (t : Fin cfg0.N) (h : t.val % 2 = 1) (j : S1664x512.Idx) :
    (outsAt0 m c t.val t.isLt).1 j = (outsAt0 m c (t.val - 1) (Nat.lt_of_le_of_lt (Nat.sub_le _ _) t.isLt)).2 j
      + half (iblk m c 0 t) (iblk m c 1 t) j := by
  rw [outsAt0_B m c t (by omega) h h]
  frame_out
  simp only [read_unread_whole]
  rw [second]

/-- What the result holds when the grid is done: the whole product. -/
theorem array (c : Dev nD) : (dats m 0 c).arrAt 2 cfg0.N =
    whole (m ((c.tc : Thread nD τ).loc main_arg0)) (m ((c.tc : Thread nD τ).loc main_arg1)) := by
  refine (dats m 0 c).arrAt_eq_of_covers 2 _ (by decide +kernel) fun t hf y => ?_
  have hm := (flush0_2 t).mp hf
  have hN : t.val < 20 := t.isLt
  have he := even m c ⟨t.val - 1, by omega⟩ (by show (t.val - 1) % 2 = 0; omega)
  blk_simp
  rw [after0_2, odd m c t hm, he]
  unfold whole half
  rw [← halves]
  refine congrArg₂ (· + ·) (Fin.sum_fin_congr fun k => congrArg₂ (· * ·) ?_ ?_) (Fin.sum_fin_congr fun k => congrArg₂ (· * ·) ?_ ?_)
  all_goals blk_ext [iblk, V, index_0, index_1, index_2]

end Cert.Kernel14Ideal.Grad

namespace Cert.Reference14Ideal.Grad

open Cert.Reference14Ideal Cert.Reference14Ideal.Read Idealize.ShloMosaic Idealize.SL.Sem

/-- What the reference returns: the same, entry by entry. -/
theorem value (x : Vec Ideal S8320x2816 .bf16) (y : Vec Ideal S2816x1024 .bf16) :
    val_main_v2 (F := Ideal) x y = Cert.Kernel14Ideal.Grad.whole x y := by
  funext i
  idx_vars i
  pointwise [val_main_v2, val_main_v1, val_main_v0, Cert.Kernel14Ideal.Grad.whole]

end Cert.Reference14Ideal.Grad

namespace Cert.Proof

open Idealize.ShloMosaic Idealize.SL.Sem

/-- The kernel's result is the reference's. -/
theorem algebraic14 : algebraic_Kernel14Ideal_Reference14Ideal (hKernel14Ideal := Cert.Kernel14Ideal.Gen.facts) (hReference14Ideal := Cert.Reference14Ideal.Gen.facts) := by
  intro m g m' g' _ hag
  refine ⟨fun c => Cert.Kernel14Ideal.Grad.whole (m (c.tc.loc Cert.Kernel14Ideal.main_arg0)) (m (c.tc.loc Cert.Kernel14Ideal.main_arg1)),
    (θ_run _ _ _).mono (fun r h c => ?_) (Cert.Kernel14Ideal.Value.run_blocks m g),
    (θ_run _ _ _).mono (fun r h c => ?_) (Cert.Reference14Ideal.Value.run m' g')⟩
  · exact ⟨(h c).1.trans (Cert.Kernel14Ideal.Grad.array m c), (h c).2⟩
  · refine ⟨(h c).1.trans ?_, (h c).2⟩
    rw [Cert.Reference14Ideal.Read.val_main_v2_eq, (hag c).1, (hag c).2]
    exact Cert.Reference14Ideal.Grad.value _ _

end Cert.Proof
end
-- ==== Proof.Grad.K15.lean ====
/-
  The scan's output projection, over two halves of the 2048 columns.
-/
module

public import proofs.«01_k».proof.Defs
public import proofs.«01_k».proof.Proof.Gen.Kernel15Ideal.Value
public import proofs.«01_k».proof.Proof.Gen.Reference15Ideal.Run
public import proofs.«01_k».proof.Proof.Gen.Reference15Ideal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel15Ideal.Grad

open Cert.Kernel15Ideal Cert.Kernel15Ideal.Gen Idealize.ShloMosaic Idealize.ShloMosaic.TcCoe Idealize.SL.Sem

/-- One half's product at an entry. -/
def half (x : Vec Ideal S1664x1024 .bf16) (y : Vec Ideal S1024x1024 .bf16) (j : S1664x1024.Idx) : EReal :=
  ∑ k : Fin 1024, x (ix2 (j 0) k) * y (ix2 k (j 1))

/-- The body's product is that. -/
theorem part (x : Vec Ideal S1664x1024 .bf16) (y : Vec Ideal S1024x1024 .bf16) (j : S1664x1024.Idx) : k0_pay1 x y j = half x y j := by
  idx_vars j
  pointwise [k0_pay1, half]

/-- The first store into the accumulator, at an entry. -/
theorem first (x : Vec Ideal S1664x1024 .bf16) (y : Vec Ideal S1024x1024 .bf16) (j : S1664x1024.Idx) : k0_pay2 x y j = half x y j := by
  rw [← part]
  unfold k0_pay2
  rw [shapeCast_self]

/-- The second store into the accumulator, at an entry. -/
theorem second (x : Vec Ideal S1664x1024 .bf16) (y : Vec Ideal S1024x1024 .bf16) (z : Vec Ideal S1664x1024 .f32) (j : S1664x1024.Idx) :
    k0_pay3 x y z j = z j + half x y j := by
  rw [← part]
  unfold k0_pay3
  rw [shapeCast_self]
  rfl

/-- A sum over 2048 columns as the sum of its halves. -/
theorem halves (f : Fin 2048 → EReal) :
    (∑ k : Fin 1024, f ⟨k.val, by omega⟩) + ∑ k : Fin 1024, f ⟨1024 + k.val, by omega⟩ = ∑ k : Fin 2048, f k :=
  (Fin.sum_univ_add (a := 1024) (b := 1024) f).symm

/-- The blocks at a point of the grid. -/
theorem index_0 : ∀ t : Fin grid0.N, win0_0.index t = ![t.val / 2, t.val % 2] := by decide +kernel
theorem index_1 : ∀ t : Fin grid0.N, win0_1.index t = ![t.val % 2, 0] := by decide +kernel
theorem index_2 : ∀ t : Fin grid0.N, win0_2.index t = ![t.val / 2, 0] := by decide +kernel

/-- The whole product, entry by entry. -/
def whole (x : Vec Ideal S8320x2048 .bf16) (y : Vec Ideal S2048x1024 .bf16) : Vec Ideal S8320x1024 .f32 := fun i =>
  ∑ k : Fin 2048, x (ix2 (i 0) k) * y (ix2 k (i 1))

variable (m : (ℓ : Loc nD τ sig) → Buf (Elt Ideal) ℓ)

/-- What an even point leaves in the accumulator: the first half's product. -/
theorem even (c : Dev nD) (t : Fin cfg0.N) (h : t.val % 2 = 0) (j : S1664x1024.Idx) :
    (outsAt0 m c t.val t.isLt).2 j = half (iblk m c 0 t) (iblk m c 1 t) j := by
  rw [outsAt0_A m c t h (by omega) (by omega)]
  frame_out
  rw [first]

/-- What an odd point leaves in the result's block. -/
theorem odd (c : Dev nD) (t : Fin cfg0.N) (h : t.val % 2 = 1) (j : S1664x1024.Idx) :
    (outsAt0 m c t.val t.isLt).1 j = (outsAt0 m c (t.val - 1) (Nat.lt_of_le_of_lt (Nat.sub_le _ _) t.isLt)).2 j
      + half (iblk m c 0 t) (iblk m c 1 t) j := by
  rw [outsAt0_B m c t (by omega) h h]
  frame_out
  simp only [read_unread_whole]
  rw [second]

/-- What the result holds when the grid is done: the whole product. -/
theorem array (c : Dev nD) : (dats m 0 c).arrAt 2 cfg0.N =
    whole (m ((c.tc : Thread nD τ).loc main_arg0)) (m ((c.tc : Thread nD τ).loc main_arg1)) := by
  refine (dats m 0 c).arrAt_eq_of_covers 2 _ (by decide +kernel) fun t hf y => ?_
  have hm := (flush0_2 t).mp hf
  have hN : t.val < 10 := t.isLt
  have he := even m c ⟨t.val - 1, by omega⟩ (by show (t.val - 1) % 2 = 0; omega)
  blk_simp
  rw [after0_2, odd m c t hm, he]
  unfold whole half
  rw [← halves]
  refine congrArg₂ (· + ·) (Fin.sum_fin_congr fun k => congrArg₂ (· * ·) ?_ ?_) (Fin.sum_fin_congr fun k => congrArg₂ (· * ·) ?_ ?_)
  all_goals blk_ext [iblk, V, index_0, index_1, index_2]

end Cert.Kernel15Ideal.Grad

namespace Cert.Reference15Ideal.Grad

open Cert.Reference15Ideal Cert.Reference15Ideal.Read Idealize.ShloMosaic Idealize.SL.Sem

/-- What the reference returns: the same, entry by entry. -/
theorem value (x : Vec Ideal S8320x2048 .bf16) (y : Vec Ideal S2048x1024 .bf16) :
    val_main_v2 (F := Ideal) x y = Cert.Kernel15Ideal.Grad.whole x y := by
  funext i
  idx_vars i
  pointwise [val_main_v2, val_main_v1, val_main_v0, Cert.Kernel15Ideal.Grad.whole]

end Cert.Reference15Ideal.Grad

namespace Cert.Proof

open Idealize.ShloMosaic Idealize.SL.Sem

/-- The kernel's result is the reference's. -/
theorem algebraic15 : algebraic_Kernel15Ideal_Reference15Ideal (hKernel15Ideal := Cert.Kernel15Ideal.Gen.facts) (hReference15Ideal := Cert.Reference15Ideal.Gen.facts) := by
  intro m g m' g' _ hag
  refine ⟨fun c => Cert.Kernel15Ideal.Grad.whole (m (c.tc.loc Cert.Kernel15Ideal.main_arg0)) (m (c.tc.loc Cert.Kernel15Ideal.main_arg1)),
    (θ_run _ _ _).mono (fun r h c => ?_) (Cert.Kernel15Ideal.Value.run_blocks m g),
    (θ_run _ _ _).mono (fun r h c => ?_) (Cert.Reference15Ideal.Value.run m' g')⟩
  · exact ⟨(h c).1.trans (Cert.Kernel15Ideal.Grad.array m c), (h c).2⟩
  · refine ⟨(h c).1.trans ?_, (h c).2⟩
    rw [Cert.Reference15Ideal.Read.val_main_v2_eq, (hag c).1, (hag c).2]
    exact Cert.Reference15Ideal.Grad.value _ _

end Cert.Proof
end
-- ==== Proof.Grad.K16.lean ====
/-
  The attention's output projection and the mixed row's: every grid point leaves one whole block of the product.
-/
module

public import proofs.«01_k».proof.Defs
public import proofs.«01_k».proof.Proof.Gen.Kernel16Ideal.Value
public import proofs.«01_k».proof.Proof.Gen.Reference16Ideal.Run
public import proofs.«01_k».proof.Proof.Gen.Reference16Ideal.Read
public import Idealize.ShloMosaic.Lib.Pipeline.ValueKit
public import Idealize.ShloMosaic.Lib.Pointwise

@[expose] public section

set_option maxRecDepth 16384

noncomputable section

namespace Cert.Kernel16Ideal.Grad

open Cert.Kernel16Ideal Cert.Kernel16Ideal.Gen Idealize.ShloMosaic Idealize.ShloMosaic.TcCoe Idealize.SL.Sem

/-- One block at an entry. -/
theorem part (x : Vec Ideal S1664x1024 .bf16) (y : Vec Ideal S1024x1024 .bf16) (j : S1664x1024.Idx) :
    k0_pay1 x y j = ∑ k : Fin 1024, x (ix2 (j 0) k) * y (ix2 k (j 1)) := by
  idx_vars j
  pointwise [k0_pay1]

/-- The blocks at a point of the grid. -/
theorem index_0 : ∀ t : Fin grid0.N, win0_0.index t = ![t.val, 0] := by decide +kernel
theorem index_1 : ∀ t : Fin grid0.N, win0_1.index t = ![0, 0] := by decide +kernel
theorem index_2 : ∀ t : Fin grid0.N, win0_2.index t = ![t.val, 0] := by decide +kernel

/-- The whole product, entry by entry. -/
def whole (x : Vec Ideal S8320x1024 .bf16) (y : Vec Ideal S1024x1024 .bf16) : Vec Ideal S8320x1024 .f32 := fun i =>
  ∑ k : Fin 1024, x (ix2 (i 0) k) * y (ix2 k (i 1))

variable (m : (ℓ : Loc nD τ sig) → Buf (Elt Ideal) ℓ)

/-- What the result holds when the grid is done: the whole product. -/
theorem array (c : Dev nD) : (dats m 0 c).arrAt 2 cfg0.N =
    whole (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  rw [part]
  unfold whole
  refine Fin.sum_fin_congr fun k => ?_
  congr 1 <;> blk_ext [iblk, V, index_0, index_1, index_2]

end Cert.Kernel16Ideal.Grad

namespace Cert.Reference16Ideal.Grad

open Cert.Reference16Ideal Cert.Reference16Ideal.Read Idealize.ShloMosaic Idealize.SL.Sem

/-- What the reference returns: the same, entry by entry. -/
theorem value (x : Vec Ideal S8320x1024 .bf16) (y : Vec Ideal S1024x1024 .bf16) :
    val_main_v2 (F := Ideal) x y = Cert.Kernel16Ideal.Grad.whole x y := by
  funext i
  idx_vars i
  pointwise [val_main_v2, val_main_v1, val_main_v0, Cert.Kernel16Ideal.Grad.whole]

end Cert.Reference16Ideal.Grad

namespace Cert.Proof

open Idealize.ShloMosaic Idealize.SL.Sem

/-- The kernel's result is the reference's. -/
theorem algebraic16 : algebraic_Kernel16Ideal_Reference16Ideal (hKernel16Ideal := Cert.Kernel16Ideal.Gen.facts) (hReference16Ideal := Cert.Reference16Ideal.Gen.facts) := by
  intro m g m' g' _ hag
  refine ⟨fun c => Cert.Kernel16Ideal.Grad.whole (m (c.tc.loc Cert.Kernel16Ideal.main_arg0)) (m (c.tc.loc Cert.Kernel16Ideal.main_arg1)),
    (θ_run _ _ _).mono (fun r h c => ?_) (Cert.Kernel16Ideal.Value.run_blocks m g),
    (θ_run _ _ _).mono (fun r h c => ?_) (Cert.Reference16Ideal.Value.run m' g')⟩
  · exact ⟨(h c).1.trans (Cert.Kernel16Ideal.Grad.array m c), (h c).2⟩
  · refine ⟨(h c).1.trans ?_, (h c).2⟩
    rw [Cert.Reference16Ideal.Read.val_main_v2_eq, (hag c).1, (hag c).2]
    exact Cert.Reference16Ideal.Grad.value _ _

end Cert.Proof
end
-- ==== Proof.Grad.K17.lean ====
/-
  The input projection: every grid point leaves one whole block of the product.
-/
module

public import proofs.«01_k».proof.Defs
public import proofs.«01_k».proof.Proof.Gen.Kernel17Ideal.Value
public import proofs.«01_k».proof.Proof.Gen.Reference17Ideal.Run
public import proofs.«01_k».proof.Proof.Gen.Reference17Ideal.Read
public import Idealize.ShloMosaic.Lib.Pipeline.ValueKit
public import Idealize.ShloMosaic.Lib.Pointwise

@[expose] public section

set_option maxRecDepth 16384

noncomputable section

namespace Cert.Kernel17Ideal.Grad

open Cert.Kernel17Ideal Cert.Kernel17Ideal.Gen Idealize.ShloMosaic Idealize.ShloMosaic.TcCoe Idealize.SL.Sem

/-- One block at an entry. -/
theorem part (x : Vec Ideal S1664x1024 .bf16) (y : Vec Ideal S768x1024 .bf16) (j : S1664x768.Idx) :
    k0_pay1 x y j = ∑ k : Fin 1024, x (ix2 (j 0) k) * y (ix2 (j 1) k) := by
  idx_vars j
  pointwise [k0_pay1]

/-- The blocks at a point of the grid. -/
theorem index_0 : ∀ t : Fin grid0.N, win0_0.index t = ![t.val / 11, 0] := by decide +kernel
theorem index_1 : ∀ t : Fin grid0.N, win0_1.index t = ![t.val % 11, 0] := by decide +kernel
theorem index_2 : ∀ t : Fin grid0.N, win0_2.index t = ![t.val / 11, t.val % 11] := by decide +kernel

/-- The whole product, entry by entry. -/
def whole (x : Vec Ideal S8320x1024 .bf16) (y : Vec Ideal S8448x1024 .bf16) : Vec Ideal S8320x8448 .f32 := fun i =>
  ∑ k : Fin 1024, x (ix2 (i 0) k) * y (ix2 (i 1) k)

variable (m : (ℓ : Loc nD τ sig) → Buf (Elt Ideal) ℓ)

/-- What the result holds when the grid is done: the whole product. -/
theorem array (c : Dev nD) : (dats m 0 c).arrAt 2 cfg0.N =
    whole (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  rw [part]
  unfold whole
  refine Fin.sum_fin_congr fun k => ?_
  congr 1 <;> blk_ext [iblk, V, index_0, index_1, index_2]

end Cert.Kernel17Ideal.Grad

namespace Cert.Reference17Ideal.Grad

open Cert.Reference17Ideal Cert.Reference17Ideal.Read Idealize.ShloMosaic Idealize.SL.Sem

/-- What the reference returns: the same, entry by entry. -/
theorem value (x : Vec Ideal S8320x1024 .bf16) (y : Vec Ideal S8448x1024 .bf16) :
    val_main_v3 (F := Ideal) x y = Cert.Kernel17Ideal.Grad.whole x y := by
  funext i
  idx_vars i
  pointwise [val_main_v3, val_main_v2, val_main_v1, val_main_v0, Cert.Kernel17Ideal.Grad.whole]

end Cert.Reference17Ideal.Grad

namespace Cert.Proof

open Idealize.ShloMosaic Idealize.SL.Sem

/-- The kernel's result is the reference's. -/
theorem algebraic17 : algebraic_Kernel17Ideal_Reference17Ideal (hKernel17Ideal := Cert.Kernel17Ideal.Gen.facts) (hReference17Ideal := Cert.Reference17Ideal.Gen.facts) := by
  intro m g m' g' _ hag
  refine ⟨fun c => Cert.Kernel17Ideal.Grad.whole (m (c.tc.loc Cert.Kernel17Ideal.main_arg0)) (m (c.tc.loc Cert.Kernel17Ideal.main_arg1)),
    (θ_run _ _ _).mono (fun r h c => ?_) (Cert.Kernel17Ideal.Value.run_blocks m g),
    (θ_run _ _ _).mono (fun r h c => ?_) (Cert.Reference17Ideal.Value.run m' g')⟩
  · exact ⟨(h c).1.trans (Cert.Kernel17Ideal.Grad.array m c), (h c).2⟩
  · refine ⟨(h c).1.trans ?_, (h c).2⟩
    rw [Cert.Reference17Ideal.Read.val_main_v3_eq, (hag c).1, (hag c).2]
    exact Cert.Reference17Ideal.Grad.value _ _

end Cert.Proof
end
-- ==== Proof.Grad.K18.lean ====
/-
  The queries' second projection: every grid point leaves one whole block of the product.
-/
module

public import proofs.«01_k».proof.Defs
public import proofs.«01_k».proof.Proof.Gen.Kernel18Ideal.Value
public import proofs.«01_k».proof.Proof.Gen.Reference18Ideal.Run
public import proofs.«01_k».proof.Proof.Gen.Reference18Ideal.Read
public import Idealize.ShloMosaic.Lib.Pipeline.ValueKit
public import Idealize.ShloMosaic.Lib.Pointwise

@[expose] public section

set_option maxRecDepth 16384

noncomputable section

namespace Cert.Kernel18Ideal.Grad

open Cert.Kernel18Ideal Cert.Kernel18Ideal.Gen Idealize.ShloMosaic Idealize.ShloMosaic.TcCoe Idealize.SL.Sem

/-- One block at an entry. -/
theorem part (x : Vec Ideal S1664x768 .bf16) (y : Vec Ideal S768x1024 .bf16) (j : S1664x1024.Idx) :
    k0_pay1 x y j = ∑ k : Fin 768, x (ix2 (j 0) k) * y (ix2 k (j 1)) := by
  idx_vars j
  pointwise [k0_pay1]

/-- The blocks at a point of the grid. -/
theorem index_0 : ∀ t : Fin grid0.N, win0_0.index t = ![t.val / 2, 0] := by decide +kernel
theorem index_1 : ∀ t : Fin grid0.N, win0_1.index t = ![0, t.val % 2] := by decide +kernel
theorem index_2 : ∀ t : Fin grid0.N, win0_2.index t = ![t.val / 2, t.val % 2] := by decide +kernel

/-- The whole product, entry by entry. -/
def whole (x : Vec Ideal S8320x768 .bf16) (y : Vec Ideal S768x2048 .bf16) : Vec Ideal S8320x2048 .f32 := fun i =>
  ∑ k : Fin 768, x (ix2 (i 0) k) * y (ix2 k (i 1))

variable (m : (ℓ : Loc nD τ sig) → Buf (Elt Ideal) ℓ)

/-- What the result holds when the grid is done: the whole product. -/
theorem array (c : Dev nD) : (dats m 0 c).arrAt 2 cfg0.N =
    whole (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  rw [part]
  unfold whole
  refine Fin.sum_fin_congr fun k => ?_
  congr 1 <;> blk_ext [iblk, V, index_0, index_1, index_2]

end Cert.Kernel18Ideal.Grad

namespace Cert.Reference18Ideal.Grad

open Cert.Reference18Ideal Cert.Reference18Ideal.Read Idealize.ShloMosaic Idealize.SL.Sem

/-- What the reference returns: the same, entry by entry. -/
theorem value (x : Vec Ideal S8320x768 .bf16) (y : Vec Ideal S768x2048 .bf16) :
    val_main_v2 (F := Ideal) x y = Cert.Kernel18Ideal.Grad.whole x y := by
  funext i
  idx_vars i
  pointwise [val_main_v2, val_main_v1, val_main_v0, Cert.Kernel18Ideal.Grad.whole]

end Cert.Reference18Ideal.Grad

namespace Cert.Proof

open Idealize.ShloMosaic Idealize.SL.Sem

/-- The kernel's result is the reference's. -/
theorem algebraic18 : algebraic_Kernel18Ideal_Reference18Ideal (hKernel18Ideal := Cert.Kernel18Ideal.Gen.facts) (hReference18Ideal := Cert.Reference18Ideal.Gen.facts) := by
  intro m g m' g' _ hag
  refine ⟨fun c => Cert.Kernel18Ideal.Grad.whole (m (c.tc.loc Cert.Kernel18Ideal.main_arg0)) (m (c.tc.loc Cert.Kernel18Ideal.main_arg1)),
    (θ_run _ _ _).mono (fun r h c => ?_) (Cert.Kernel18Ideal.Value.run_blocks m g),
    (θ_run _ _ _).mono (fun r h c => ?_) (Cert.Reference18Ideal.Value.run m' g')⟩
  · exact ⟨(h c).1.trans (Cert.Kernel18Ideal.Grad.array m c), (h c).2⟩
  · refine ⟨(h c).1.trans ?_, (h c).2⟩
    rw [Cert.Reference18Ideal.Read.val_main_v2_eq, (hag c).1, (hag c).2]
    exact Cert.Reference18Ideal.Grad.value _ _

end Cert.Proof
end
-- ==== Proof.Grad.K19.lean ====
/-
  The keys' and values' second projection: every grid point leaves one whole block of the product.
-/
module

public import proofs.«01_k».proof.Defs
public import proofs.«01_k».proof.Proof.Gen.Kernel19Ideal.Value
public import proofs.«01_k».proof.Proof.Gen.Reference19Ideal.Run
public import proofs.«01_k».proof.Proof.Gen.Reference19Ideal.Read
public import Idealize.ShloMosaic.Lib.Pipeline.ValueKit
public import Idealize.ShloMosaic.Lib.Pointwise

@[expose] public section

set_option maxRecDepth 16384

noncomputable section

namespace Cert.Kernel19Ideal.Grad

open Cert.Kernel19Ideal Cert.Kernel19Ideal.Gen Idealize.ShloMosaic Idealize.ShloMosaic.TcCoe Idealize.SL.Sem

/-- One block at an entry. -/
theorem part (x : Vec Ideal S1664x256 .bf16) (y : Vec Ideal S256x1024 .bf16) (j : S1664x1024.Idx) :
    k0_pay1 x y j = ∑ k : Fin 256, x (ix2 (j 0) k) * y (ix2 k (j 1)) := by
  idx_vars j
  pointwise [k0_pay1]

/-- The blocks at a point of the grid. -/
theorem index_0 : ∀ t : Fin grid0.N, win0_0.index t = ![t.val / 2, 0] := by decide +kernel
theorem index_1 : ∀ t : Fin grid0.N, win0_1.index t = ![0, t.val % 2] := by decide +kernel
theorem index_2 : ∀ t : Fin grid0.N, win0_2.index t = ![t.val / 2, t.val % 2] := by decide +kernel

/-- The whole product, entry by entry. -/
def whole (x : Vec Ideal S8320x256 .bf16) (y : Vec Ideal S256x2048 .bf16) : Vec Ideal S8320x2048 .bf16 := fun i =>
  ∑ k : Fin 256, x (ix2 (i 0) k) * y (ix2 k (i 1))

variable (m : (ℓ : Loc nD τ sig) → Buf (Elt Ideal) ℓ)

/-- What the result holds when the grid is done: the whole product. -/
theorem array (c : Dev nD) : (dats m 0 c).arrAt 2 cfg0.N =
    whole (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  rw [part]
  unfold whole
  refine Fin.sum_fin_congr fun k => ?_
  congr 1 <;> blk_ext [iblk, V, index_0, index_1, index_2]

end Cert.Kernel19Ideal.Grad

namespace Cert.Reference19Ideal.Grad

open Cert.Reference19Ideal Cert.Reference19Ideal.Read Idealize.ShloMosaic Idealize.SL.Sem

/-- What the reference returns: the same, entry by entry. -/
theorem value (x : Vec Ideal S8320x256 .bf16) (y : Vec Ideal S256x2048 .bf16) :
    val_main_v3 (F := Ideal) x y = Cert.Kernel19Ideal.Grad.whole x y := by
  funext i
  idx_vars i
  pointwise [val_main_v3, val_main_v2, val_main_v1, val_main_v0, Cert.Kernel19Ideal.Grad.whole]

end Cert.Reference19Ideal.Grad

namespace Cert.Proof

open Idealize.ShloMosaic Idealize.SL.Sem

/-- The kernel's result is the reference's. -/
theorem algebraic19 : algebraic_Kernel19Ideal_Reference19Ideal (hKernel19Ideal := Cert.Kernel19Ideal.Gen.facts) (hReference19Ideal := Cert.Reference19Ideal.Gen.facts) := by
  intro m g m' g' _ hag
  refine ⟨fun c => Cert.Kernel19Ideal.Grad.whole (m (c.tc.loc Cert.Kernel19Ideal.main_arg0)) (m (c.tc.loc Cert.Kernel19Ideal.main_arg1)),
    (θ_run _ _ _).mono (fun r h c => ?_) (Cert.Kernel19Ideal.Value.run_blocks m g),
    (θ_run _ _ _).mono (fun r h c => ?_) (Cert.Reference19Ideal.Value.run m' g')⟩
  · exact ⟨(h c).1.trans (Cert.Kernel19Ideal.Grad.array m c), (h c).2⟩
  · refine ⟨(h c).1.trans ?_, (h c).2⟩
    rw [Cert.Reference19Ideal.Read.val_main_v3_eq, (hag c).1, (hag c).2]
    exact Cert.Reference19Ideal.Grad.value _ _

end Cert.Proof
end
-- ==== Proof.Grad.K20.lean ====
/-
  The gradient of the queries' second projection, `qnᵀ · ct` over all 8320 tokens: the kernel adds the products of 13 blocks
  of 640 tokens into a block of 1024 columns.
-/
module

public import proofs.«01_k».proof.Defs
public import proofs.«01_k».proof.Proof.Gen.Kernel20Ideal.Value
public import proofs.«01_k».proof.Proof.Gen.Reference20Ideal.Run
public import proofs.«01_k».proof.Proof.Gen.Reference20Ideal.Read
public import Idealize.ShloMosaic.Lib.Pipeline.ValueKit
public import Idealize.ShloMosaic.Lib.Pointwise

@[expose] public section

set_option maxRecDepth 16384

noncomputable section

namespace Cert.Kernel20Ideal.Grad

open Cert.Kernel20Ideal Cert.Kernel20Ideal.Gen Idealize.ShloMosaic Idealize.ShloMosaic.TcCoe Idealize.SL.Sem

/-- One block's product at an entry: the sum over the block's 640 tokens. -/
theorem part (x : Vec Ideal S640x768 .bf16) (y : Vec Ideal S640x1024 .bf16) (j : S768x1024.Idx) :
    k0_pay1 x y j = ∑ k : Fin 640, x (ix2 k (j 0)) * y (ix2 k (j 1)) := by
  idx_vars j
  pointwise [k0_pay1]

/-- The accumulating store at an entry: what was there, plus the block's product. -/
theorem step (x : Vec Ideal S640x768 .bf16) (y : Vec Ideal S640x1024 .bf16) (z : Vec Ideal S768x1024 .f32) (j : S768x1024.Idx) :
    k0_pay2 x y z j = z j + ∑ k : Fin 640, x (ix2 k (j 0)) * y (ix2 k (j 1)) := by
  rw [← part]
  unfold k0_pay2
  rw [shapeCast_self]
  rfl

/-- The first operand's block: of tokens, the point's place in its run. -/
theorem index_0 : ∀ t : Fin grid0.N, win0_0.index t = ![t.val % 13, 0] := by decide +kernel

/-- The second operand's block: of tokens, the point's place in its run; of columns, the run. -/
theorem index_1 : ∀ t : Fin grid0.N, win0_1.index t = ![t.val % 13, t.val / 13] := by decide +kernel

/-- The result's block: of columns, the run. -/
theorem index_2 : ∀ t : Fin grid0.N, win0_2.index t = ![0, t.val / 13] := by decide +kernel

/-- The whole product, entry by entry. -/
def whole (x : Vec Ideal S8320x768 .bf16) (y : Vec Ideal S8320x2048 .bf16) : Vec Ideal S768x2048 .f32 := fun i =>
  ∑ k : Fin 8320, x (ix2 k (i 0)) * y (ix2 k (i 1))

variable (m : (ℓ : Loc nD τ sig) → Buf (Elt Ideal) ℓ)

/-- What the result holds when the grid is done: the whole product. -/
theorem array (c : Dev nD) : (dats m 0 c).arrAt 2 cfg0.N =
    whole (m ((c.tc : Thread nD τ).loc main_arg0)) (m ((c.tc : Thread nD τ).loc main_arg1)) := by
  refine (dats m 0 c).arrAt_eq_of_covers 2 _ (by decide +kernel) fun t hf y => ?_
  have hm := (flush0_2 t).mp hf
  blk_simp
  rw [after0_2, Pipeline.eq_sum_fin_of_reset_step_apply_of_flush (fun n h => outsAt0 m c n h) 13 (fun _ => (0 : EReal)) _
    (fun t h j => by rw [outsAt0_A m c t h (by have hN : t.val < 26 := t.isLt; omega)]; frame_out; rw [part, zero_add])
    (fun t h j => by rw [outsAt0_B m c t h (by omega)]; frame_out; rw [step]) t hm _, zero_add]
  unfold whole
  refine Fin.sum_mul_add_congr fun s k hl => ?_
  congr 1 <;> blk_ext [iblk, V, index_0, index_1, index_2]

end Cert.Kernel20Ideal.Grad

namespace Cert.Reference20Ideal.Grad

open Cert.Reference20Ideal Cert.Reference20Ideal.Read Idealize.ShloMosaic Idealize.SL.Sem

/-- What the reference returns: the whole product. -/
theorem value (x : Vec Ideal S8320x768 .bf16) (y : Vec Ideal S8320x2048 .bf16) :
    val_main_v5 (F := Ideal) x y = Cert.Kernel20Ideal.Grad.whole x y := by
  funext i
  idx_vars i
  pointwise [val_main_v5, val_main_v4, val_main_v3, val_main_v1, Cert.Kernel20Ideal.Grad.whole]
  exact Finset.sum_congr rfl fun _ _ => mul_comm _ _

end Cert.Reference20Ideal.Grad

namespace Cert.Proof

open Idealize.ShloMosaic Idealize.SL.Sem

/-- The kernel's product is the reference's. -/
theorem algebraic20 : algebraic_Kernel20Ideal_Reference20Ideal (hKernel20Ideal := Cert.Kernel20Ideal.Gen.facts) (hReference20Ideal := Cert.Reference20Ideal.Gen.facts) := by
  intro m g m' g' _ hag
  refine ⟨fun c => Cert.Kernel20Ideal.Grad.whole (m (c.tc.loc Cert.Kernel20Ideal.main_arg0)) (m (c.tc.loc Cert.Kernel20Ideal.main_arg1)),
    (θ_run _ _ _).mono (fun r h c => ?_) (Cert.Kernel20Ideal.Value.run_blocks m g),
    (θ_run _ _ _).mono (fun r h c => ?_) (Cert.Reference20Ideal.Value.run m' g')⟩
  · exact ⟨(h c).1.trans (Cert.Kernel20Ideal.Grad.array m c), (h c).2⟩
  · refine ⟨(h c).1.trans ?_, (h c).2⟩
    rw [Cert.Reference20Ideal.Read.val_main_v5_eq, Cert.Reference20Ideal.Grad.value, (hag c).1, (hag c).2]

end Cert.Proof
end
-- ==== Proof.Grad.K21.lean ====
/-
  The gradient of the keys' and values' second projection, `kvnᵀ · ct` over all 8320 tokens: the kernel adds the products of
  13 blocks of 640 tokens into a block of 1024 columns.
-/
module

public import proofs.«01_k».proof.Defs
public import proofs.«01_k».proof.Proof.Gen.Kernel21Ideal.Value
public import proofs.«01_k».proof.Proof.Gen.Reference21Ideal.Run
public import proofs.«01_k».proof.Proof.Gen.Reference21Ideal.Read
public import Idealize.ShloMosaic.Lib.Pipeline.ValueKit
public import Idealize.ShloMosaic.Lib.Pointwise

@[expose] public section

set_option maxRecDepth 16384

noncomputable section

namespace Cert.Kernel21Ideal.Grad

open Cert.Kernel21Ideal Cert.Kernel21Ideal.Gen Idealize.ShloMosaic Idealize.ShloMosaic.TcCoe Idealize.SL.Sem

/-- One block's product at an entry: the sum over the block's 640 tokens. -/
theorem part (x : Vec Ideal S640x256 .bf16) (y : Vec Ideal S640x1024 .bf16) (j : S256x1024.Idx) :
    k0_pay1 x y j = ∑ k : Fin 640, x (ix2 k (j 0)) * y (ix2 k (j 1)) := by
  idx_vars j
  pointwise [k0_pay1]

/-- The accumulating store at an entry: what was there, plus the block's product. -/
theorem step (x : Vec Ideal S640x256 .bf16) (y : Vec Ideal S640x1024 .bf16) (z : Vec Ideal S256x1024 .f32) (j : S256x1024.Idx) :
    k0_pay2 x y z j = z j + ∑ k : Fin 640, x (ix2 k (j 0)) * y (ix2 k (j 1)) := by
  rw [← part]
  unfold k0_pay2
  rw [shapeCast_self]
  rfl

/-- The first operand's block: of tokens, the point's place in its run. -/
theorem index_0 : ∀ t : Fin grid0.N, win0_0.index t = ![t.val % 13, 0] := by decide +kernel

/-- The second operand's block: of tokens, the point's place in its run; of columns, the run. -/
theorem index_1 : ∀ t : Fin grid0.N, win0_1.index t = ![t.val % 13, t.val / 13] := by decide +kernel

/-- The result's block: of columns, the run. -/
theorem index_2 : ∀ t : Fin grid0.N, win0_2.index t = ![0, t.val / 13] := by decide +kernel

/-- The whole product, entry by entry. -/
def whole (x : Vec Ideal S8320x256 .bf16) (y : Vec Ideal S8320x2048 .bf16) : Vec Ideal S256x2048 .f32 := fun i =>
  ∑ k : Fin 8320, x (ix2 k (i 0)) * y (ix2 k (i 1))

variable (m : (ℓ : Loc nD τ sig) → Buf (Elt Ideal) ℓ)

/-- What the result holds when the grid is done: the whole product. -/
theorem array (c : Dev nD) : (dats m 0 c).arrAt 2 cfg0.N =
    whole (m ((c.tc : Thread nD τ).loc main_arg0)) (m ((c.tc : Thread nD τ).loc main_arg1)) := by
  refine (dats m 0 c).arrAt_eq_of_covers 2 _ (by decide +kernel) fun t hf y => ?_
  have hm := (flush0_2 t).mp hf
  blk_simp
  rw [after0_2, Pipeline.eq_sum_fin_of_reset_step_apply_of_flush (fun n h => outsAt0 m c n h) 13 (fun _ => (0 : EReal)) _
    (fun t h j => by rw [outsAt0_A m c t h (by have hN : t.val < 26 := t.isLt; omega)]; frame_out; rw [part, zero_add])
    (fun t h j => by rw [outsAt0_B m c t h (by omega)]; frame_out; rw [step]) t hm _, zero_add]
  unfold whole
  refine Fin.sum_mul_add_congr fun s k hl => ?_
  congr 1 <;> blk_ext [iblk, V, index_0, index_1, index_2]

end Cert.Kernel21Ideal.Grad

namespace Cert.Reference21Ideal.Grad

open Cert.Reference21Ideal Cert.Reference21Ideal.Read Idealize.ShloMosaic Idealize.SL.Sem

/-- What the reference returns: the whole product. -/
theorem value (x : Vec Ideal S8320x256 .bf16) (y : Vec Ideal S8320x2048 .bf16) :
    val_main_v5 (F := Ideal) x y = Cert.Kernel21Ideal.Grad.whole x y := by
  funext i
  idx_vars i
  pointwise [val_main_v5, val_main_v4, val_main_v3, val_main_v1, Cert.Kernel21Ideal.Grad.whole]
  exact Finset.sum_congr rfl fun _ _ => mul_comm _ _

end Cert.Reference21Ideal.Grad

namespace Cert.Proof

open Idealize.ShloMosaic Idealize.SL.Sem

/-- The kernel's product is the reference's. -/
theorem algebraic21 : algebraic_Kernel21Ideal_Reference21Ideal (hKernel21Ideal := Cert.Kernel21Ideal.Gen.facts) (hReference21Ideal := Cert.Reference21Ideal.Gen.facts) := by
  intro m g m' g' _ hag
  refine ⟨fun c => Cert.Kernel21Ideal.Grad.whole (m (c.tc.loc Cert.Kernel21Ideal.main_arg0)) (m (c.tc.loc Cert.Kernel21Ideal.main_arg1)),
    (θ_run _ _ _).mono (fun r h c => ?_) (Cert.Kernel21Ideal.Value.run_blocks m g),
    (θ_run _ _ _).mono (fun r h c => ?_) (Cert.Reference21Ideal.Value.run m' g')⟩
  · exact ⟨(h c).1.trans (Cert.Kernel21Ideal.Grad.array m c), (h c).2⟩
  · refine ⟨(h c).1.trans ?_, (h c).2⟩
    rw [Cert.Reference21Ideal.Read.val_main_v5_eq, Cert.Reference21Ideal.Grad.value, (hag c).1, (hag c).2]

end Cert.Proof
end
-- ==== Proof.Grad.K22.lean ====
/-
  The gradient of the queries' latent, `ct · w_q_bᵀ`, over two halves of the 2048 columns.
-/
module

public import proofs.«01_k».proof.Defs
public import proofs.«01_k».proof.Proof.Gen.Kernel22Ideal.Value
public import proofs.«01_k».proof.Proof.Gen.Reference22Ideal.Run
public import proofs.«01_k».proof.Proof.Gen.Reference22Ideal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel22Ideal.Grad

open Cert.Kernel22Ideal Cert.Kernel22Ideal.Gen Idealize.ShloMosaic Idealize.ShloMosaic.TcCoe Idealize.SL.Sem

/-- One half's product at an entry. -/
def half (x : Vec Ideal S1664x1024 .bf16) (y : Vec Ideal S768x1024 .bf16) (j : S1664x768.Idx) : EReal :=
  ∑ k : Fin 1024, x (ix2 (j 0) k) * y (ix2 (j 1) k)

/-- The body's product is that. -/
theorem part (x : Vec Ideal S1664x1024 .bf16) (y : Vec Ideal S768x1024 .bf16) (j : S1664x768.Idx) : k0_pay1 x y j = half x y j := by
  idx_vars j
  pointwise [k0_pay1, half]

/-- The first store into the accumulator, at an entry. -/
theorem first (x : Vec Ideal S1664x1024 .bf16) (y : Vec Ideal S768x1024 .bf16) (j : S1664x768.Idx) : k0_pay2 x y j = half x y j := by
  rw [← part]
  unfold k0_pay2
  rw [shapeCast_self]

/-- The second store into the accumulator, at an entry. -/
theorem second (x : Vec Ideal S1664x1024 .bf16) (y : Vec Ideal S768x1024 .bf16) (z : Vec Ideal S1664x768 .f32) (j : S1664x768.Idx) :
    k0_pay3 x y z j = z j + half x y j := by
  rw [← part]
  unfold k0_pay3
  rw [shapeCast_self]
  rfl

/-- The result's store rounds, which over the reals is nothing. -/
theorem last (z : Vec Ideal S1664x768 .f32) (j : S1664x768.Idx) : k0_pay4 z j = z j := rfl

/-- A sum over 2048 columns as the sum of its halves. -/
theorem halves (f : Fin 2048 → EReal) :
    (∑ k : Fin 1024, f ⟨k.val, by omega⟩) + ∑ k : Fin 1024, f ⟨1024 + k.val, by omega⟩ = ∑ k : Fin 2048, f k :=
  (Fin.sum_univ_add (a := 1024) (b := 1024) f).symm

/-- The blocks at a point of the grid. -/
theorem index_0 : ∀ t : Fin grid0.N, win0_0.index t = ![t.val / 2, t.val % 2] := by decide +kernel
theorem index_1 : ∀ t : Fin grid0.N, win0_1.index t = ![0, t.val % 2] := by decide +kernel
theorem index_2 : ∀ t : Fin grid0.N, win0_2.index t = ![t.val / 2, 0] := by decide +kernel

/-- The whole product, entry by entry. -/
def whole (x : Vec Ideal S8320x2048 .bf16) (y : Vec Ideal S768x2048 .bf16) : Vec Ideal S8320x768 .bf16 := fun i =>
  ∑ k : Fin 2048, x (ix2 (i 0) k) * y (ix2 (i 1) k)

variable (m : (ℓ : Loc nD τ sig) → Buf (Elt Ideal) ℓ)

/-- What an even point leaves in the accumulator: the first half's product. -/
theorem even (c : Dev nD) (t : Fin cfg0.N) (h : t.val % 2 = 0) (j : S1664x768.Idx) :
    (outsAt0 m c t.val t.isLt).2 j = half (iblk m c 0 t) (iblk m c 1 t) j := by
  rw [outsAt0_A m c t h (by omega) (by omega)]
  frame_out
  rw [first]

/-- What an odd point leaves in the result's block. -/
theorem odd (c : Dev nD) (t : Fin cfg0.N) (h : t.val % 2 = 1) (j : S1664x768.Idx) :
    (outsAt0 m c t.val t.isLt).1 j = (outsAt0 m c (t.val - 1) (Nat.lt_of_le_of_lt (Nat.sub_le _ _) t.isLt)).2 j
      + half (iblk m c 0 t) (iblk m c 1 t) j := by
  rw [outsAt0_B m c t (by omega) h h]
  frame_out
  simp only [read_unread_whole]
  rw [last, second]

/-- What the result holds when the grid is done: the whole product. -/
theorem array (c : Dev nD) : (dats m 0 c).arrAt 2 cfg0.N =
    whole (m ((c.tc : Thread nD τ).loc main_arg0)) (m ((c.tc : Thread nD τ).loc main_arg1)) := by
  refine (dats m 0 c).arrAt_eq_of_covers 2 _ (by decide +kernel) fun t hf y => ?_
  have hm := (flush0_2 t).mp hf
  have hN : t.val < 10 := t.isLt
  have he := even m c ⟨t.val - 1, by omega⟩ (by show (t.val - 1) % 2 = 0; omega)
  blk_simp
  rw [after0_2, odd m c t hm, he]
  unfold whole half
  rw [← halves]
  refine congrArg₂ (· + ·) (Fin.sum_fin_congr fun k => congrArg₂ (· * ·) ?_ ?_) (Fin.sum_fin_congr fun k => congrArg₂ (· * ·) ?_ ?_)
  all_goals blk_ext [iblk, V, index_0, index_1, index_2]

end Cert.Kernel22Ideal.Grad

namespace Cert.Reference22Ideal.Grad

open Cert.Reference22Ideal Cert.Reference22Ideal.Read Idealize.ShloMosaic Idealize.SL.Sem

/-- What the reference returns: the same, entry by entry. -/
theorem value (x : Vec Ideal S8320x2048 .bf16) (y : Vec Ideal S768x2048 .bf16) :
    val_main_v6 (F := Ideal) x y = Cert.Kernel22Ideal.Grad.whole x y := by
  funext i
  idx_vars i
  pointwise [val_main_v6, val_main_v5, val_main_v4, val_main_v2, Cert.Kernel22Ideal.Grad.whole]

end Cert.Reference22Ideal.Grad

namespace Cert.Proof

open Idealize.ShloMosaic Idealize.SL.Sem

/-- The kernel's result is the reference's. -/
theorem algebraic22 : algebraic_Kernel22Ideal_Reference22Ideal (hKernel22Ideal := Cert.Kernel22Ideal.Gen.facts) (hReference22Ideal := Cert.Reference22Ideal.Gen.facts) := by
  intro m g m' g' _ hag
  refine ⟨fun c => Cert.Kernel22Ideal.Grad.whole (m (c.tc.loc Cert.Kernel22Ideal.main_arg0)) (m (c.tc.loc Cert.Kernel22Ideal.main_arg1)),
    (θ_run _ _ _).mono (fun r h c => ?_) (Cert.Kernel22Ideal.Value.run_blocks m g),
    (θ_run _ _ _).mono (fun r h c => ?_) (Cert.Reference22Ideal.Value.run m' g')⟩
  · exact ⟨(h c).1.trans (Cert.Kernel22Ideal.Grad.array m c), (h c).2⟩
  · refine ⟨(h c).1.trans ?_, (h c).2⟩
    rw [Cert.Reference22Ideal.Read.val_main_v6_eq, (hag c).1, (hag c).2]
    exact Cert.Reference22Ideal.Grad.value _ _

end Cert.Proof
end
-- ==== Proof.Grad.K23.lean ====
/-
  The gradient of the keys' and values' latent, `ct · w_kv_bᵀ`, over two halves of the 2048 columns.
-/
module

public import proofs.«01_k».proof.Defs
public import proofs.«01_k».proof.Proof.Gen.Kernel23Ideal.Value
public import proofs.«01_k».proof.Proof.Gen.Reference23Ideal.Run
public import proofs.«01_k».proof.Proof.Gen.Reference23Ideal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel23Ideal.Grad

open Cert.Kernel23Ideal Cert.Kernel23Ideal.Gen Idealize.ShloMosaic Idealize.ShloMosaic.TcCoe Idealize.SL.Sem

/-- One half's product at an entry. -/
def half (x : Vec Ideal S1664x1024 .bf16) (y : Vec Ideal S256x1024 .bf16) (j : S1664x256.Idx) : EReal :=
  ∑ k : Fin 1024, x (ix2 (j 0) k) * y (ix2 (j 1) k)

/-- The body's product is that. -/
theorem part (x : Vec Ideal S1664x1024 .bf16) (y : Vec Ideal S256x1024 .bf16) (j : S1664x256.Idx) : k0_pay1 x y j = half x y j := by
  idx_vars j
  pointwise [k0_pay1, half]

/-- The first store into the accumulator, at an entry. -/
theorem first (x : Vec Ideal S1664x1024 .bf16) (y : Vec Ideal S256x1024 .bf16) (j : S1664x256.Idx) : k0_pay2 x y j = half x y j := by
  rw [← part]
  unfold k0_pay2
  rw [shapeCast_self]

/-- The second store into the accumulator, at an entry. -/
theorem second (x : Vec Ideal S1664x1024 .bf16) (y : Vec Ideal S256x1024 .bf16) (z : Vec Ideal S1664x256 .f32) (j : S1664x256.Idx) :
    k0_pay3 x y z j = z j + half x y j := by
  rw [← part]
  unfold k0_pay3
  rw [shapeCast_self]
  rfl

/-- The result's store rounds, which over the reals is nothing. -/
theorem last (z : Vec Ideal S1664x256 .f32) (j : S1664x256.Idx) : k0_pay4 z j = z j := rfl

/-- A sum over 2048 columns as the sum of its halves. -/
theorem halves (f : Fin 2048 → EReal) :
    (∑ k : Fin 1024, f ⟨k.val, by omega⟩) + ∑ k : Fin 1024, f ⟨1024 + k.val, by omega⟩ = ∑ k : Fin 2048, f k :=
  (Fin.sum_univ_add (a := 1024) (b := 1024) f).symm

/-- The blocks at a point of the grid. -/
theorem index_0 : ∀ t : Fin grid0.N, win0_0.index t = ![t.val / 2, t.val % 2] := by decide +kernel
theorem index_1 : ∀ t : Fin grid0.N, win0_1.index t = ![0, t.val % 2] := by decide +kernel
theorem index_2 : ∀ t : Fin grid0.N, win0_2.index t = ![t.val / 2, 0] := by decide +kernel

/-- The whole product, entry by entry. -/
def whole (x : Vec Ideal S8320x2048 .bf16) (y : Vec Ideal S256x2048 .bf16) : Vec Ideal S8320x256 .bf16 := fun i =>
  ∑ k : Fin 2048, x (ix2 (i 0) k) * y (ix2 (i 1) k)

variable (m : (ℓ : Loc nD τ sig) → Buf (Elt Ideal) ℓ)

/-- What an even point leaves in the accumulator: the first half's product. -/
theorem even (c : Dev nD) (t : Fin cfg0.N) (h : t.val % 2 = 0) (j : S1664x256.Idx) :
    (outsAt0 m c t.val t.isLt).2 j = half (iblk m c 0 t) (iblk m c 1 t) j := by
  rw [outsAt0_A m c t h (by omega) (by omega)]
  frame_out
  rw [first]

/-- What an odd point leaves in the result's block. -/
theorem odd (c : Dev nD) (t : Fin cfg0.N) (h : t.val % 2 = 1) (j : S1664x256.Idx) :
    (outsAt0 m c t.val t.isLt).1 j = (outsAt0 m c (t.val - 1) (Nat.lt_of_le_of_lt (Nat.sub_le _ _) t.isLt)).2 j
      + half (iblk m c 0 t) (iblk m c 1 t) j := by
  rw [outsAt0_B m c t (by omega) h h]
  frame_out
  simp only [read_unread_whole]
  rw [last, second]

/-- What the result holds when the grid is done: the whole product. -/
theorem array (c : Dev nD) : (dats m 0 c).arrAt 2 cfg0.N =
    whole (m ((c.tc : Thread nD τ).loc main_arg0)) (m ((c.tc : Thread nD τ).loc main_arg1)) := by
  refine (dats m 0 c).arrAt_eq_of_covers 2 _ (by decide +kernel) fun t hf y => ?_
  have hm := (flush0_2 t).mp hf
  have hN : t.val < 10 := t.isLt
  have he := even m c ⟨t.val - 1, by omega⟩ (by show (t.val - 1) % 2 = 0; omega)
  blk_simp
  rw [after0_2, odd m c t hm, he]
  unfold whole half
  rw [← halves]
  refine congrArg₂ (· + ·) (Fin.sum_fin_congr fun k => congrArg₂ (· * ·) ?_ ?_) (Fin.sum_fin_congr fun k => congrArg₂ (· * ·) ?_ ?_)
  all_goals blk_ext [iblk, V, index_0, index_1, index_2]

end Cert.Kernel23Ideal.Grad

namespace Cert.Reference23Ideal.Grad

open Cert.Reference23Ideal Cert.Reference23Ideal.Read Idealize.ShloMosaic Idealize.SL.Sem

/-- What the reference returns: the same, entry by entry. -/
theorem value (x : Vec Ideal S8320x2048 .bf16) (y : Vec Ideal S256x2048 .bf16) :
    val_main_v6 (F := Ideal) x y = Cert.Kernel23Ideal.Grad.whole x y := by
  funext i
  idx_vars i
  pointwise [val_main_v6, val_main_v5, val_main_v4, val_main_v2, Cert.Kernel23Ideal.Grad.whole]

end Cert.Reference23Ideal.Grad

namespace Cert.Proof

open Idealize.ShloMosaic Idealize.SL.Sem

/-- The kernel's result is the reference's. -/
theorem algebraic23 : algebraic_Kernel23Ideal_Reference23Ideal (hKernel23Ideal := Cert.Kernel23Ideal.Gen.facts) (hReference23Ideal := Cert.Reference23Ideal.Gen.facts) := by
  intro m g m' g' _ hag
  refine ⟨fun c => Cert.Kernel23Ideal.Grad.whole (m (c.tc.loc Cert.Kernel23Ideal.main_arg0)) (m (c.tc.loc Cert.Kernel23Ideal.main_arg1)),
    (θ_run _ _ _).mono (fun r h c => ?_) (Cert.Kernel23Ideal.Value.run_blocks m g),
    (θ_run _ _ _).mono (fun r h c => ?_) (Cert.Reference23Ideal.Value.run m' g')⟩
  · exact ⟨(h c).1.trans (Cert.Kernel23Ideal.Grad.array m c), (h c).2⟩
  · refine ⟨(h c).1.trans ?_, (h c).2⟩
    rw [Cert.Reference23Ideal.Read.val_main_v6_eq, (hag c).1, (hag c).2]
    exact Cert.Reference23Ideal.Grad.value _ _

end Cert.Proof
end
-- ==== Proof.Grad.K24.lean ====
/-
  The gradient of a layer's input through the narrow columns of its first product: six products (the queries' latent, the
  keys' and values' latent, the two gates, the shared rotary key, the step sizes) and the gradient that the wide columns
  left. Every grid point leaves one whole block of 640 tokens.
-/
module

public import proofs.«01_k».proof.Defs
public import proofs.«01_k».proof.Proof.Gen.Kernel24Ideal.Value
public import proofs.«01_k».proof.Proof.Gen.Reference24Ideal.Run
public import proofs.«01_k».proof.Proof.Gen.Reference24Ideal.Read
public import Idealize.ShloMosaic.Lib.Pipeline.ValueKit
public import Idealize.ShloMosaic.Lib.Pointwise

@[expose] public section

set_option maxRecDepth 16384

noncomputable section

namespace Cert.Kernel24Ideal.Grad

open Cert.Kernel24Ideal Cert.Kernel24Ideal.Gen Idealize.ShloMosaic Idealize.ShloMosaic.TcCoe Idealize.SL.Sem

/-- One block at an entry. -/
theorem part (x0 : Vec Ideal S640x768 .bf16) (x1 : Vec Ideal S640x256 .bf16) (x2 : Vec Ideal S640x1024 .bf16) (x3 : Vec Ideal S640x1024 .bf16) (x4 : Vec Ideal S640x128 .bf16) (x5 : Vec Ideal S640x128 .bf16) (w0 : Vec Ideal S768x1024 .bf16) (w1 : Vec Ideal S256x1024 .bf16) (w2 : Vec Ideal S1024x1024 .bf16) (w3 : Vec Ideal S1024x1024 .bf16) (w4 : Vec Ideal S128x1024 .bf16) (w5 : Vec Ideal S128x1024 .bf16) (z : Vec Ideal S640x1024 .f32) (j : S640x1024.Idx) :
    k0_pay1 (k0_pay2 z x0 w0 x1 w1 x2 w2 x3 w3 x4 w4) (k0_pay3 x5 w5) j = z j
    + ∑ k : Fin 768, x0 (ix2 (j 0) k) * w0 (ix2 k (j 1))
    + ∑ k : Fin 256, x1 (ix2 (j 0) k) * w1 (ix2 k (j 1))
    + ∑ k : Fin 1024, x2 (ix2 (j 0) k) * w2 (ix2 k (j 1))
    + ∑ k : Fin 1024, x3 (ix2 (j 0) k) * w3 (ix2 k (j 1))
    + ∑ k : Fin 128, x4 (ix2 (j 0) k) * w4 (ix2 k (j 1))
    + ∑ k : Fin 128, x5 (ix2 (j 0) k) * w5 (ix2 k (j 1)) := by
  idx_vars j
  pointwise [k0_pay1, k0_pay2, k0_pay3]

theorem index_0 : ∀ t : Fin grid0.N, win0_0.index t = ![t.val, 0] := by decide +kernel
theorem index_1 : ∀ t : Fin grid0.N, win0_1.index t = ![t.val, 0] := by decide +kernel
theorem index_2 : ∀ t : Fin grid0.N, win0_2.index t = ![t.val, 0] := by decide +kernel
theorem index_3 : ∀ t : Fin grid0.N, win0_3.index t = ![t.val, 0] := by decide +kernel
theorem index_4 : ∀ t : Fin grid0.N, win0_4.index t = ![t.val, 0] := by decide +kernel
theorem index_5 : ∀ t : Fin grid0.N, win0_5.index t = ![t.val, 0] := by decide +kernel
theorem index_6 : ∀ t : Fin grid0.N, win0_6.index t = ![0, 0] := by decide +kernel
theorem index_7 : ∀ t : Fin grid0.N, win0_7.index t = ![0, 0] := by decide +kernel
theorem index_8 : ∀ t : Fin grid0.N, win0_8.index t = ![0, 0] := by decide +kernel
theorem index_9 : ∀ t : Fin grid0.N, win0_9.index t = ![0, 0] := by decide +kernel
theorem index_10 : ∀ t : Fin grid0.N, win0_10.index t = ![0, 0] := by decide +kernel
theorem index_11 : ∀ t : Fin grid0.N, win0_11.index t = ![0, 0] := by decide +kernel
theorem index_12 : ∀ t : Fin grid0.N, win0_12.index t = ![t.val, 0] := by decide +kernel
theorem index_13 : ∀ t : Fin grid0.N, win0_13.index t = ![t.val, 0] := by decide +kernel

/-- The whole sum, entry by entry. -/
def whole (x0 : Vec Ideal S8320x768 .bf16) (x1 : Vec Ideal S8320x256 .bf16) (x2 : Vec Ideal S8320x1024 .bf16) (x3 : Vec Ideal S8320x1024 .bf16) (x4 : Vec Ideal S8320x128 .bf16) (x5 : Vec Ideal S8320x128 .bf16) (w0 : Vec Ideal S768x1024 .bf16) (w1 : Vec Ideal S256x1024 .bf16) (w2 : Vec Ideal S1024x1024 .bf16) (w3 : Vec Ideal S1024x1024 .bf16) (w4 : Vec Ideal S128x1024 .bf16) (w5 : Vec Ideal S128x1024 .bf16) (z : Vec Ideal S8320x1024 .f32) : Vec Ideal S8320x1024 .f32 := fun i =>
  z i
    + ∑ k : Fin 768, x0 (ix2 (i 0) k) * w0 (ix2 k (i 1))
    + ∑ k : Fin 256, x1 (ix2 (i 0) k) * w1 (ix2 k (i 1))
    + ∑ k : Fin 1024, x2 (ix2 (i 0) k) * w2 (ix2 k (i 1))
    + ∑ k : Fin 1024, x3 (ix2 (i 0) k) * w3 (ix2 k (i 1))
    + ∑ k : Fin 128, x4 (ix2 (i 0) k) * w4 (ix2 k (i 1))
    + ∑ k : Fin 128, x5 (ix2 (i 0) k) * w5 (ix2 k (i 1))

variable (m : (ℓ : Loc nD τ sig) → Buf (Elt Ideal) ℓ)

set_option maxHeartbeats 2000000 in
/-- What the result holds when the grid is done. -/
theorem array (c : Dev nD) : (dats m 0 c).arrAt 13 cfg0.N =
    whole (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  refine (dats m 0 c).arrAt_eq_of_covers 13 _ (by decide +kernel) fun t hf y => ?_
  blk_simp
  rw [after0_13]
  frame_out
  rw [part]
  unfold whole
  iterate 6 refine congrArg₂ (· + ·) ?_ (Finset.sum_congr rfl fun k _ => congrArg₂ (· * ·) ?_ ?_)
  all_goals blk_ext [iblk, V, index_0, index_1, index_2, index_3, index_4, index_5, index_6, index_7, index_8, index_9, index_10, index_11, index_12, index_13]

end Cert.Kernel24Ideal.Grad

namespace Cert.Reference24Ideal.Grad

open Cert.Reference24Ideal Cert.Reference24Ideal.Read Idealize.ShloMosaic Idealize.SL.Sem

/-- What the reference returns: the same, entry by entry. -/
theorem value (x0 : Vec Ideal S8320x768 .bf16) (x1 : Vec Ideal S8320x256 .bf16) (x2 : Vec Ideal S8320x1024 .bf16) (x3 : Vec Ideal S8320x1024 .bf16) (x4 : Vec Ideal S8320x128 .bf16) (x5 : Vec Ideal S8320x128 .bf16) (w0 : Vec Ideal S768x1024 .bf16) (w1 : Vec Ideal S256x1024 .bf16) (w2 : Vec Ideal S1024x1024 .bf16) (w3 : Vec Ideal S1024x1024 .bf16) (w4 : Vec Ideal S128x1024 .bf16) (w5 : Vec Ideal S128x1024 .bf16) (z : Vec Ideal S8320x1024 .f32) :
    val_main_v36 (F := Ideal) x0 x1 x2 x3 x4 x5 w0 w1 w2 w3 w4 w5 z = Cert.Kernel24Ideal.Grad.whole x0 x1 x2 x3 x4 x5 w0 w1 w2 w3 w4 w5 z := by
  funext i
  idx_vars i
  pointwise [val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v17, val_main_v16, val_main_v14, val_main_v13, val_main_v11, val_main_v10, val_main_v8, val_main_v7, val_main_v5, val_main_v4, val_main_v2, val_main_v1, Cert.Kernel24Ideal.Grad.whole]
  ac_rfl

end Cert.Reference24Ideal.Grad

namespace Cert.Proof

open Idealize.ShloMosaic Idealize.SL.Sem

/-- The kernel's result is the reference's. -/
theorem algebraic24 : algebraic_Kernel24Ideal_Reference24Ideal (hKernel24Ideal := Cert.Kernel24Ideal.Gen.facts) (hReference24Ideal := Cert.Reference24Ideal.Gen.facts) := by
  intro m g m' g' _ hag
  refine ⟨fun c => Cert.Kernel24Ideal.Grad.whole (m (c.tc.loc Cert.Kernel24Ideal.main_arg0)) (m (c.tc.loc Cert.Kernel24Ideal.main_arg1)) (m (c.tc.loc Cert.Kernel24Ideal.main_arg2)) (m (c.tc.loc Cert.Kernel24Ideal.main_arg3))
      (m (c.tc.loc Cert.Kernel24Ideal.main_arg4)) (m (c.tc.loc Cert.Kernel24Ideal.main_arg5)) (m (c.tc.loc Cert.Kernel24Ideal.main_arg6)) (m (c.tc.loc Cert.Kernel24Ideal.main_arg7))
      (m (c.tc.loc Cert.Kernel24Ideal.main_arg8)) (m (c.tc.loc Cert.Kernel24Ideal.main_arg9)) (m (c.tc.loc Cert.Kernel24Ideal.main_arg10)) (m (c.tc.loc Cert.Kernel24Ideal.main_arg11)) (m (c.tc.loc Cert.Kernel24Ideal.main_arg12)),
    (θ_run _ _ _).mono (fun r h c => ?_) (Cert.Kernel24Ideal.Value.run_blocks m g),
    (θ_run _ _ _).mono (fun r h c => ?_) (Cert.Reference24Ideal.Value.run m' g')⟩
  · exact ⟨(h c).1.trans (Cert.Kernel24Ideal.Grad.array m c), (h c).2⟩
  · refine ⟨(h c).1.trans ?_, (h c).2⟩
    rw [Cert.Reference24Ideal.Read.val_main_v36_eq, (hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2.1, (hag c).2.2.2.2.2.2.2.2.2.2.1, (hag c).2.2.2.2.2.2.2.2.2.2.2.1, (hag c).2.2.2.2.2.2.2.2.2.2.2.2]
    exact Cert.Reference24Ideal.Grad.value _ _ _ _ _ _ _ _ _ _ _ _ _

end Cert.Proof
end
-- ==== Proof.Grad.K25.lean ====
/-
  The gradient of the two gates. The mixed output is `σ(ga) · ya + σ(gs) · ys`; of its cotangent `d` the branches get `σ(g) · d`
  and the gates `d · y · σ(g) (1 − σ(g))`.
-/
module

public import proofs.«01_k».proof.Defs
public import proofs.«01_k».proof.Proof.Gen.Kernel25Ideal.Value
public import proofs.«01_k».proof.Proof.Gen.Reference25Ideal.Run
public import proofs.«01_k».proof.Proof.Gen.Reference25Ideal.Read
public import Idealize.ShloMosaic.Lib.StableHlo.ReadAt
public import Idealize.ShloMosaic.Lib.Pipeline.ValueKit
public import Idealize.ShloMosaic.Lib.Pointwise

@[expose] public section

set_option maxRecDepth 16384

noncomputable section

namespace Cert.Kernel25Ideal.Grad

open Cert.Kernel25Ideal Cert.Kernel25Ideal.Gen Idealize.ShloMosaic Idealize.ShloMosaic.TcCoe Idealize.SL.Sem

/-- The sigmoid. -/
def sigmoid (x : EReal) : EReal := Ideal.div 1 (1 + Ideal.exp (-x))

/-- A branch's cotangent. -/
def branch (d g : Vec Ideal S8320x1024 .f32) : Vec Ideal S8320x1024 .bf16 := fun i => sigmoid (g i) * d i

/-- A gate's cotangent. -/
def gate (d g y : Vec Ideal S8320x1024 .f32) : Vec Ideal S8320x1024 .bf16 := fun i => d i * y i * sigmoid (g i) * (1 - sigmoid (g i))

variable (m : (ℓ : Loc nD τ sig) → Buf (Elt Ideal) ℓ)

/-- The gates' sigmoids in a block. -/
theorem sig2 (x : Vec Ideal S640x1024 .f32) (j : S640x1024.Idx) : k0_pay2 x j = sigmoid (x j) := by
  idx_vars j
  pointwise [k0_pay2, sigmoid]
  rw [zero_sub]
theorem sig3 (x : Vec Ideal S640x1024 .f32) (j : S640x1024.Idx) : k0_pay3 x j = sigmoid (x j) := by
  idx_vars j
  pointwise [k0_pay3, sigmoid]
  rw [zero_sub]
/-- The four results' payloads. -/
theorem p4 (d g : Vec Ideal S640x1024 .f32) (j : S640x1024.Idx) : k0_pay4 d g j = sigmoid (g j) * d j := by
  idx_vars j
  pointwise [k0_pay4]
  rw [sig2]
theorem p5 (d g : Vec Ideal S640x1024 .f32) (j : S640x1024.Idx) : k0_pay5 d g j = sigmoid (g j) * d j := by
  idx_vars j
  pointwise [k0_pay5]
  rw [sig3]
theorem p6 (d g y : Vec Ideal S640x1024 .f32) (j : S640x1024.Idx) : k0_pay6 d g y j = d j * y j * sigmoid (g j) * (1 - sigmoid (g j)) := by
  idx_vars j
  pointwise [k0_pay6]
  rw [sig2]
theorem p1 (d g y : Vec Ideal S640x1024 .f32) (j : S640x1024.Idx) : k0_pay1 d (k0_pay3 g) y j = d j * y j * sigmoid (g j) * (1 - sigmoid (g j)) := by
  idx_vars j
  pointwise [k0_pay1]
  rw [sig3]

/-- The projection's columns that hold the gates. -/
theorem proj_a (c : Dev nD) (i : Fin 8320) (k : Fin 1024) :
    V m c main_v2 (ix2 i ⟨6144 + k.val, by omega⟩) = m ((c.tc : Thread nD τ).loc main_arg1) (ix2 i k) := by
  unfold V
  simp only [hostOps0, List.flatten_cons, List.flatten_nil, List.append_nil, List.cons_append, List.nil_append]
  after_reads_at
theorem proj_s (c : Dev nD) (i : Fin 8320) (k : Fin 1024) :
    V m c main_v2 (ix2 i ⟨7168 + k.val, by omega⟩) = m ((c.tc : Thread nD τ).loc main_arg2) (ix2 i k) := by
  unfold V
  simp only [hostOps0, List.flatten_cons, List.flatten_nil, List.append_nil, List.cons_append, List.nil_append]
  after_reads_at
  rw [dif_neg (by omega), dif_neg (by omega), dif_pos (by omega)]
  exact congrArg (fun q => m (c, Proc.tc.devRef main_arg2) (ix2 i q)) (Fin.ext (by show 7168 + k.val - 6144 - 1024 = k.val; omega))

/-- The blocks at a point. -/
theorem index_0 : ∀ t : Fin grid0.N, win0_0.index t = ![t.val, 0] := by decide +kernel
theorem index_1 : ∀ t : Fin grid0.N, win0_1.index t = ![t.val, 6] := by decide +kernel
theorem index_2 : ∀ t : Fin grid0.N, win0_2.index t = ![t.val, 7] := by decide +kernel
theorem index_3 : ∀ t : Fin grid0.N, win0_3.index t = ![t.val, 0] := by decide +kernel
theorem index_4 : ∀ t : Fin grid0.N, win0_4.index t = ![t.val, 0] := by decide +kernel
theorem index_5 : ∀ t : Fin grid0.N, win0_5.index t = ![t.val, 0] := by decide +kernel
theorem index_6 : ∀ t : Fin grid0.N, win0_6.index t = ![t.val, 0] := by decide +kernel
theorem index_7 : ∀ t : Fin grid0.N, win0_7.index t = ![t.val, 0] := by decide +kernel
theorem index_8 : ∀ t : Fin grid0.N, win0_8.index t = ![t.val, 0] := by decide +kernel

/-- The gates' blocks. -/
theorem block_a (c : Dev nD) (t : Fin cfg0.N) (y : S640x1024.Idx) :
    X0_1 m c t y = m ((c.tc : Thread nD τ).loc main_arg1) (ix2 ⟨640 * t.val + (y 0).val, by have h : t.val < 13 := t.isLt; have : (y 0).val < 640 := (y 0).isLt; omega⟩ (y 1)) := by
  unfold X0_1 Pipeline.Window.fill
  rw [dif_pos (moved0_1 t y)]
  refine Eq.trans ?_ (proj_a m c _ _)
  refine congrArg (V m c main_v2) (funext fun a => Fin.ext ?_)
  fin_cases a
  · show win0_1.index t 0 * 640 + 1 * (y 0).val = 640 * t.val + (y 0).val
    rw [index_1]
    show t.val * 640 + 1 * (y 0).val = _
    omega
  · show win0_1.index t 1 * 1024 + 1 * (y 1).val = 6144 + (y 1).val
    rw [index_1]
    show 6 * 1024 + 1 * (y 1).val = _
    omega
theorem block_s (c : Dev nD) (t : Fin cfg0.N) (y : S640x1024.Idx) :
    X0_2 m c t y = m ((c.tc : Thread nD τ).loc main_arg2) (ix2 ⟨640 * t.val + (y 0).val, by have h : t.val < 13 := t.isLt; have : (y 0).val < 640 := (y 0).isLt; omega⟩ (y 1)) := by
  unfold X0_2 Pipeline.Window.fill
  rw [dif_pos (moved0_2 t y)]
  refine Eq.trans ?_ (proj_s m c _ _)
  refine congrArg (V m c main_v2) (funext fun a => Fin.ext ?_)
  fin_cases a
  · show win0_2.index t 0 * 640 + 1 * (y 0).val = 640 * t.val + (y 0).val
    rw [index_2]
    show t.val * 640 + 1 * (y 0).val = _
    omega
  · show win0_2.index t 1 * 1024 + 1 * (y 1).val = 7168 + (y 1).val
    rw [index_2]
    show 7 * 1024 + 1 * (y 1).val = _
    omega

/-- Where a block's entries lie in the results. -/
theorem place_5 (t : Fin cfg0.N) (y : S640x1024.Idx) :
    (ix2 ⟨640 * t.val + (y 0).val, by have h : t.val < 13 := t.isLt; have : (y 0).val < 640 := (y 0).isLt; omega⟩ (y 1) : S8320x1024.Idx) = ((View.whole main_v3_0).slice (win0_5.rect t)).emb y := by
  refine funext fun a => Fin.ext ?_
  fin_cases a
  · show 640 * t.val + (y 0).val = win0_5.index t 0 * 640 + 1 * (y 0).val
    rw [index_5]
    show _ = t.val * 640 + 1 * (y 0).val
    omega
  · show (y 1).val = win0_5.index t 1 * 1024 + 1 * (y 1).val
    rw [index_5]
    show _ = 0 * 1024 + 1 * (y 1).val
    omega
theorem place_6 (t : Fin cfg0.N) (y : S640x1024.Idx) :
    (ix2 ⟨640 * t.val + (y 0).val, by have h : t.val < 13 := t.isLt; have : (y 0).val < 640 := (y 0).isLt; omega⟩ (y 1) : S8320x1024.Idx) = ((View.whole main_v3_1).slice (win0_6.rect t)).emb y := by
  refine funext fun a => Fin.ext ?_
  fin_cases a
  · show 640 * t.val + (y 0).val = win0_6.index t 0 * 640 + 1 * (y 0).val
    rw [index_6]
    show _ = t.val * 640 + 1 * (y 0).val
    omega
  · show (y 1).val = win0_6.index t 1 * 1024 + 1 * (y 1).val
    rw [index_6]
    show _ = 0 * 1024 + 1 * (y 1).val
    omega
theorem place_7 (t : Fin cfg0.N) (y : S640x1024.Idx) :
    (ix2 ⟨640 * t.val + (y 0).val, by have h : t.val < 13 := t.isLt; have : (y 0).val < 640 := (y 0).isLt; omega⟩ (y 1) : S8320x1024.Idx) = ((View.whole main_v3_2).slice (win0_7.rect t)).emb y := by
  refine funext fun a => Fin.ext ?_
  fin_cases a
  · show 640 * t.val + (y 0).val = win0_7.index t 0 * 640 + 1 * (y 0).val
    rw [index_7]
    show _ = t.val * 640 + 1 * (y 0).val
    omega
  · show (y 1).val = win0_7.index t 1 * 1024 + 1 * (y 1).val
    rw [index_7]
    show _ = 0 * 1024 + 1 * (y 1).val
    omega
theorem place_8 (t : Fin cfg0.N) (y : S640x1024.Idx) :
    (ix2 ⟨640 * t.val + (y 0).val, by have h : t.val < 13 := t.isLt; have : (y 0).val < 640 := (y 0).isLt; omega⟩ (y 1) : S8320x1024.Idx) = ((View.whole main_v3_3).slice (win0_8.rect t)).emb y := by
  refine funext fun a => Fin.ext ?_
  fin_cases a
  · show 640 * t.val + (y 0).val = win0_8.index t 0 * 640 + 1 * (y 0).val
    rw [index_8]
    show _ = t.val * 640 + 1 * (y 0).val
    omega
  · show (y 1).val = win0_8.index t 1 * 1024 + 1 * (y 1).val
    rw [index_8]
    show _ = 0 * 1024 + 1 * (y 1).val
    omega

/-- Result 1. -/
theorem array5 (c : Dev nD) : (dats m 0 c).arrAt 5 cfg0.N =
    branch (m ((c.tc : Thread nD τ).loc main_arg0)) (m ((c.tc : Thread nD τ).loc main_arg1)) := by
  refine (dats m 0 c).arrAt_eq_of_covers 5 _ (by decide +kernel) fun t hf y => ?_
  blk_simp
  rw [after0_5]
  simp only [outsAt0]
  frame_out
  rw [p4, block_a]
  unfold branch
  refine congrArg₂ (fun p q => sigmoid p * q) (congrArg _ (place_5 t y)) ?_
  blk_ext [iblk, V_main_arg0, index_0, index_5]

/-- Result 2. -/
theorem array6 (c : Dev nD) : (dats m 0 c).arrAt 6 cfg0.N =
    branch (m ((c.tc : Thread nD τ).loc main_arg0)) (m ((c.tc : Thread nD τ).loc main_arg2)) := by
  refine (dats m 0 c).arrAt_eq_of_covers 6 _ (by decide +kernel) fun t hf y => ?_
  blk_simp
  rw [after0_6]
  simp only [outsAt0]
  frame_out
  rw [p5, block_s]
  unfold branch
  refine congrArg₂ (fun p q => sigmoid p * q) (congrArg _ (place_6 t y)) ?_
  blk_ext [iblk, V_main_arg0, index_0, index_6]

/-- Result 3. -/
theorem array7 (c : Dev nD) : (dats m 0 c).arrAt 7 cfg0.N =
    gate (m ((c.tc : Thread nD τ).loc main_arg0)) (m ((c.tc : Thread nD τ).loc main_arg1)) (m ((c.tc : Thread nD τ).loc main_arg3)) := by
  refine (dats m 0 c).arrAt_eq_of_covers 7 _ (by decide +kernel) fun t hf y => ?_
  blk_simp
  rw [after0_7]
  simp only [outsAt0]
  frame_out
  rw [p6, block_a]
  unfold gate
  rw [place_7 t y]
  refine congrArg₂ (fun p q => p * q * _ * _) ?_ ?_
  · rw [← place_7 t y]
    blk_ext [iblk, V_main_arg0, index_0, index_7]
  · rw [← place_7 t y]
    blk_ext [iblk, V_main_arg3, index_3, index_7]

/-- Result 4. -/
theorem array8 (c : Dev nD) : (dats m 0 c).arrAt 8 cfg0.N =
    gate (m ((c.tc : Thread nD τ).loc main_arg0)) (m ((c.tc : Thread nD τ).loc main_arg2)) (m ((c.tc : Thread nD τ).loc main_arg4)) := by
  refine (dats m 0 c).arrAt_eq_of_covers 8 _ (by decide +kernel) fun t hf y => ?_
  blk_simp
  rw [after0_8]
  simp only [outsAt0]
  frame_out
  rw [p1, block_s]
  unfold gate
  rw [place_8 t y]
  refine congrArg₂ (fun p q => p * q * _ * _) ?_ ?_
  · rw [← place_8 t y]
    blk_ext [iblk, V_main_arg0, index_0, index_8]
  · rw [← place_8 t y]
    blk_ext [iblk, V_main_arg4, index_4, index_8]

end Cert.Kernel25Ideal.Grad

namespace Cert.Reference25Ideal.Grad

open Cert.Reference25Ideal Cert.Reference25Ideal.Read Idealize.ShloMosaic Idealize.SL.Sem
open Cert.Kernel25Ideal.Grad (branch gate sigmoid)
/-- The attention branch's cotangent. -/
theorem value29 (d a : Vec Ideal S8320x1024 .f32) : val_main_v29 (F := Ideal) d a = branch d a := by
  funext i
  idx_vars i
  pointwise [val_main_v32, val_main_v31, val_main_v30, val_main_v29, val_main_v28, val_main_v27, val_main_v26, val_main_v25, val_main_v24,
    val_main_v23, val_main_v22, val_main_v21, val_main_v20, val_main_v19, val_main_v18, val_main_v17, val_main_v16, val_main_cst_4,
    val_main_v15, val_main_v14, val_main_cst_3, val_main_v13, val_main_v12, val_main_cst_2, val_main_v11, val_main_v10, val_main_v9,
    val_main_v8, val_main_v7, val_main_v6, val_main_cst_1, val_main_v5, val_main_v4, val_main_cst_0, val_main_v3, val_main_v2, val_main_cst,
    val_main_v1, val_main_v0, branch, sigmoid]

/-- The state-space branch's. -/
theorem value30 (d b : Vec Ideal S8320x1024 .f32) : val_main_v30 (F := Ideal) d b = branch d b := by
  funext i
  idx_vars i
  pointwise [val_main_v32, val_main_v31, val_main_v30, val_main_v29, val_main_v28, val_main_v27, val_main_v26, val_main_v25, val_main_v24,
    val_main_v23, val_main_v22, val_main_v21, val_main_v20, val_main_v19, val_main_v18, val_main_v17, val_main_v16, val_main_cst_4,
    val_main_v15, val_main_v14, val_main_cst_3, val_main_v13, val_main_v12, val_main_cst_2, val_main_v11, val_main_v10, val_main_v9,
    val_main_v8, val_main_v7, val_main_v6, val_main_cst_1, val_main_v5, val_main_v4, val_main_cst_0, val_main_v3, val_main_v2, val_main_cst,
    val_main_v1, val_main_v0, branch, sigmoid]

/-- The attention gate's cotangent. -/
theorem value31 (d a y : Vec Ideal S8320x1024 .f32) : val_main_v31 (F := Ideal) d a y = gate d a y := by
  funext i
  idx_vars i
  pointwise [val_main_v32, val_main_v31, val_main_v30, val_main_v29, val_main_v28, val_main_v27, val_main_v26, val_main_v25, val_main_v24,
    val_main_v23, val_main_v22, val_main_v21, val_main_v20, val_main_v19, val_main_v18, val_main_v17, val_main_v16, val_main_cst_4,
    val_main_v15, val_main_v14, val_main_cst_3, val_main_v13, val_main_v12, val_main_cst_2, val_main_v11, val_main_v10, val_main_v9,
    val_main_v8, val_main_v7, val_main_v6, val_main_cst_1, val_main_v5, val_main_v4, val_main_cst_0, val_main_v3, val_main_v2, val_main_cst,
    val_main_v1, val_main_v0, gate, sigmoid]
  rw [← mul_assoc]

/-- The state-space gate's. -/
theorem value32 (d b z : Vec Ideal S8320x1024 .f32) : val_main_v32 (F := Ideal) d b z = gate d b z := by
  funext i
  idx_vars i
  pointwise [val_main_v32, val_main_v31, val_main_v30, val_main_v29, val_main_v28, val_main_v27, val_main_v26, val_main_v25, val_main_v24,
    val_main_v23, val_main_v22, val_main_v21, val_main_v20, val_main_v19, val_main_v18, val_main_v17, val_main_v16, val_main_cst_4,
    val_main_v15, val_main_v14, val_main_cst_3, val_main_v13, val_main_v12, val_main_cst_2, val_main_v11, val_main_v10, val_main_v9,
    val_main_v8, val_main_v7, val_main_v6, val_main_cst_1, val_main_v5, val_main_v4, val_main_cst_0, val_main_v3, val_main_v2, val_main_cst,
    val_main_v1, val_main_v0, gate, sigmoid]
  rw [← mul_assoc]

end Cert.Reference25Ideal.Grad

namespace Cert.Proof

open Idealize.ShloMosaic Idealize.SL.Sem

/-- The kernel's four results are the reference's. -/
theorem algebraic25 : algebraic_Kernel25Ideal_Reference25Ideal (hKernel25Ideal := Cert.Kernel25Ideal.Gen.facts) (hReference25Ideal := Cert.Reference25Ideal.Gen.facts) := by
  intro m g m' g' _ hag
  refine ⟨fun c => Cert.Kernel25Ideal.Grad.branch (m (c.tc.loc Cert.Kernel25Ideal.main_arg0)) (m (c.tc.loc Cert.Kernel25Ideal.main_arg1)),
    fun c => Cert.Kernel25Ideal.Grad.branch (m (c.tc.loc Cert.Kernel25Ideal.main_arg0)) (m (c.tc.loc Cert.Kernel25Ideal.main_arg2)),
    fun c => Cert.Kernel25Ideal.Grad.gate (m (c.tc.loc Cert.Kernel25Ideal.main_arg0)) (m (c.tc.loc Cert.Kernel25Ideal.main_arg1)) (m (c.tc.loc Cert.Kernel25Ideal.main_arg3)),
    fun c => Cert.Kernel25Ideal.Grad.gate (m (c.tc.loc Cert.Kernel25Ideal.main_arg0)) (m (c.tc.loc Cert.Kernel25Ideal.main_arg2)) (m (c.tc.loc Cert.Kernel25Ideal.main_arg4)),
    (θ_run _ _ _).mono (fun r h c => ?_) (Cert.Kernel25Ideal.Value.run_blocks m g),
    (θ_run _ _ _).mono (fun r h c => ?_) (Cert.Reference25Ideal.Value.run m' g')⟩
  · exact ⟨(h c).1.trans (Cert.Kernel25Ideal.Grad.array5 m c), (h c).2.1.trans (Cert.Kernel25Ideal.Grad.array6 m c),
      (h c).2.2.1.trans (Cert.Kernel25Ideal.Grad.array7 m c), (h c).2.2.2.1.trans (Cert.Kernel25Ideal.Grad.array8 m c), (h c).2.2.2.2⟩
  · refine ⟨(h c).1.trans ?_, (h c).2.1.trans ?_, (h c).2.2.1.trans ?_, (h c).2.2.2.1.trans ?_, (h c).2.2.2.2⟩
    · rw [Cert.Reference25Ideal.Read.val_main_v29_eq, (hag c).1, (hag c).2.1]
      exact Cert.Reference25Ideal.Grad.value29 _ _
    · rw [Cert.Reference25Ideal.Read.val_main_v30_eq, (hag c).1, (hag c).2.2.1]
      exact Cert.Reference25Ideal.Grad.value30 _ _
    · rw [Cert.Reference25Ideal.Read.val_main_v31_eq, (hag c).1, (hag c).2.1, (hag c).2.2.2.1]
      exact Cert.Reference25Ideal.Grad.value31 _ _ _
    · rw [Cert.Reference25Ideal.Read.val_main_v32_eq, (hag c).1, (hag c).2.2.1, (hag c).2.2.2.2]
      exact Cert.Reference25Ideal.Grad.value32 _ _ _

end Cert.Proof
end
-- ==== Proof.Grad.Stack.lean ====
module

public import Idealize.ShloMosaic.Lib.Pipeline.ValueKit
public import Idealize.ShloMosaic.Lib.Pipeline.ReadBack
public import Idealize.ShloMosaic.Lib.Pointwise

/-! # Rows of a buffer that two stores fill one below the other -/

@[expose] public section
noncomputable section
namespace Cert.Grad.Stack

open Idealize.ShloMosaic

variable {Val : EltTy → Type} [∀ e, Nonempty (Val e)] {sig : RefSig} {κ : Kind} {sp : Space} {e : EltTy}

/-- A buffer of `b + k` rows holds `X` in its first `b` rows and `H` in the `k` rows below. The `r` rows from row `o` on read
    `X` where they lie among the first `b`, and `H` below. -/
theorem read_stacked {b k n o r s : ℕ} (hs : s = b + k) (v : View sig κ sp ⟨2, ![s, n]⟩ e)
    (inbH : ∀ a, (![b, 0] : Fin 2 → ℕ) a + (![k, n] : Fin 2 → ℕ) a ≤ (⟨2, ![s, n]⟩ : Shape).size a)
    (inbX : ∀ a, (![0, 0] : Fin 2 → ℕ) a + (![b, n] : Fin 2 → ℕ) a ≤ (⟨2, ![s, n]⟩ : Shape).size a)
    (inbL : ∀ a, (![o, 0] : Fin 2 → ℕ) a + (![r, n] : Fin 2 → ℕ) a ≤ (⟨2, ![s, n]⟩ : Shape).size a)
    (H : (⟨2, ![k, n]⟩ : Shape).Idx → Val e) (X : (⟨2, ![b, n]⟩ : Shape).Idx → Val e) (i : Fin r) (c : Fin n) :
    v.readCov [(⟨Rect.unit (s := ⟨2, ![s, n]⟩) ![b, 0] ![k, n] inbH, H⟩ : View.Piece Val ⟨2, ![s, n]⟩ e),
        ⟨Rect.unit (s := ⟨2, ![s, n]⟩) ![0, 0] ![b, n] inbX, X⟩]
        (Rect.unit (s := ⟨2, ![s, n]⟩) ![o, 0] ![r, n] inbL).toLoadRect (ix2 i c) =
      if h : o + i.val < b then X (ix2 ⟨o + i.val, h⟩ c)
      else H (ix2 ⟨o + i.val - b, by have := inbL 0; simp at this; omega⟩ c) := by
  have hL : o + r ≤ s := by simpa using inbL 0
  rw [View.readCov_eq_canon']
  split
  · rename_i h
    refine (View.canon_cons_of_not_mem _ _ ?_).trans ?_
    · intro hmem
      obtain ⟨x, hx⟩ := (Rect.unit (s := ⟨2, ![s, n]⟩) ![b, 0] ![k, n] inbH).exists_idx_of_mem hmem
      have h0 := congrArg (fun y => (y 0).val) hx
      have h1 : b + 1 * (x 0).val = o + 1 * i.val := h0
      omega
    · refine Eq.trans ?_ (View.canon_cons_emb (Rect.unit (s := ⟨2, ![s, n]⟩) ![0, 0] ![b, n] inbX) X [] (ix2 ⟨o + i.val, h⟩ c))
      refine congrArg _ (funext fun a => Fin.ext ?_)
      fin_cases a
      · show o + 1 * i.val = 0 + 1 * (o + i.val); omega
      · show 0 + 1 * c.val = 0 + 1 * c.val; rfl
  · rename_i h
    refine Eq.trans ?_ (View.canon_cons_emb (Rect.unit (s := ⟨2, ![s, n]⟩) ![b, 0] ![k, n] inbH) H [⟨Rect.unit (s := ⟨2, ![s, n]⟩) ![0, 0] ![b, n] inbX, X⟩] (ix2 ⟨o + i.val - b, by omega⟩ c))
    refine congrArg _ (funext fun a => Fin.ext ?_)
    fin_cases a
    · show o + 1 * i.val = b + 1 * (o + i.val - b); omega
    · show 0 + 1 * c.val = 0 + 1 * c.val; rfl

end Cert.Grad.Stack
-- ==== Proof.Grad.K26.lean ====
/-
  The gradient of the gated MLP's convolution's input. The convolution is causal, 3 taps down the rows: row `t` of the gradient is
  the sum of row `t`, row `t + 1`, row `t + 2` of the cotangent, each times its tap. Every grid point copies its block of 640 rows into a buffer, and below
  it the eight rows that follow, or zeros below the last block; it reads the buffer at every shift.
-/
module

public import proofs.«01_k».proof.Defs
public import proofs.«01_k».proof.Proof.Gen.Kernel26Ideal.Value
public import proofs.«01_k».proof.Proof.Gen.Reference26Ideal.Run
public import proofs.«01_k».proof.Proof.Gen.Reference26Ideal.Read
public import proofs.«01_k».proof.Proof.Grad.Stack
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel26Ideal.Grad

open Cert.Kernel26Ideal Cert.Kernel26Ideal.Gen Idealize.ShloMosaic Idealize.ShloMosaic.TcCoe Idealize.SL.Sem

/-- A row of the cotangent, and zero below its last. -/
def row (d : Vec Ideal S8320x2816 .f32) (t : ℕ) (c : Fin 2816) : EReal := if h : t < 8320 then d (ix2 ⟨t, h⟩ c) else 0

/-- The gradient, entry by entry. -/
def whole (d : Vec Ideal S8320x2816 .f32) (w : Vec Ideal S3x2816 .f32) : Vec Ideal S8320x2816 .bf16 := fun i =>
  w (ix2 2 (i 1)) * row d (i 0).val (i 1) + w (ix2 0 (i 1)) * row d ((i 0).val + 2) (i 1) + w (ix2 1 (i 1)) * row d ((i 0).val + 1) (i 1)

/-- What a grid point leaves: the shifted blocks, each times its tap. -/
theorem part (a b c : Vec Ideal S1x1408 .f32) (x y z : Vec Ideal S640x1408 .f32) (j : S640x1408.Idx) :
    k0_pay3 a x b y c z j = a (ix2 0 (j 1)) * x j + b (ix2 0 (j 1)) * y j + c (ix2 0 (j 1)) * z j := by
  idx_vars j
  pointwise [k0_pay3]

/-- The blocks at a point, and the eight rows below it, of which the last block has none of its own. -/
theorem index_0 : ∀ t : Fin grid0.N, win0_0.index t = ![t.val / 2, t.val % 2] := by decide +kernel
theorem index_1 : ∀ t : Fin grid0.N, win0_1.index t = ![min ((t.val / 2 + 1) * 80) 1039, t.val % 2] := by decide +kernel
theorem index_2 : ∀ t : Fin grid0.N, win0_2.index t = ![0, t.val % 2] := by decide +kernel
theorem index_3 : ∀ t : Fin grid0.N, win0_3.index t = ![t.val / 2, t.val % 2] := by decide +kernel

/-- The test of the body: is there a block below? -/
theorem below : ∀ t : Fin grid0.N, Scalar.cmpi .slt (BitVec.ofNat 32 (grid0.coords t 0).val) 12#32 = if t.val < 24 then 1#1 else 0#1 := by
  decide +kernel

/-- The first store copies the block. -/
theorem copy (x : Vec Ideal S640x1408 .f32) : k0_pay1 x = x := by
  funext j
  idx_vars j
  pointwise [k0_pay1]

/-- The second store copies the eight rows below, or zeros. -/
theorem halo (t : Fin grid0.N) (x : Vec Ideal S8x1408 .f32) (j : S8x1408.Idx) :
    k0_pay2 (grid0.coords t) x j = if t.val < 24 then x j else 0 := by
  idx_vars j
  have h := below t
  unfold k0_pay2
  rw [h]
  split <;> pointwise []

variable (m : (ℓ : Loc nD τ sig) → Buf (Elt Ideal) ℓ)

/-- The buffer read `o` rows down holds the cotangent's rows `o` further down. -/
theorem shifted (c : Dev nD) (t : Fin cfg0.N) (o : ℕ) (ho : o ≤ 2)
    (inbL : ∀ a, (![o, 0] : Fin 2 → ℕ) a + S640x1408.size a ≤ S648x1408.size a) (y : S640x1408.Idx) :
    (View.whole cc0_scratch0).readCov
      [(⟨Rect.unit (s := S648x1408) ![640, 0] S8x1408.size inb_S648x1408_S8x1408_640_0, k0_pay2 (grid0.coords t) (iblk m c 1 t)⟩ : View.Piece (Elt Ideal) S648x1408 .f32),
        ⟨Rect.unit (s := S648x1408) ![0, 0] S640x1408.size inb_S648x1408_S640x1408_0_0, k0_pay1 (iblk m c 0 t)⟩]
      (Rect.unit (s := S648x1408) ![o, 0] S640x1408.size inbL).toLoadRect y =
    row (m ((c.tc : Thread nD τ).loc main_arg0)) (640 * (t.val / 2) + (y 0).val + o)
      ⟨1408 * (t.val % 2) + (y 1).val, by have : (y 1).val < 1408 := (y 1).isLt; omega⟩ := by
  have hN : t.val < 26 := t.isLt
  have h0 : (y 0).val < 640 := (y 0).isLt
  idx_vars y
  refine (Cert.Grad.Stack.read_stacked (b := 640) (k := 8) rfl (View.whole cc0_scratch0) _ _ _ _ _ y0 y1).trans ?_
  rw [copy]
  unfold row
  split
  · rw [dif_pos (by omega)]
    blk_ext [iblk, V, index_0]
    all_goals omega
  · rw [halo]
    split
    · rw [dif_pos (by omega)]
      blk_ext [iblk, V, index_1]
      all_goals omega
    · rw [dif_neg (by omega)]

/-- A tap's row of the weights' block. -/
theorem weight (c : Dev nD) (t : Fin cfg0.N) (k : Fin 3) (inbL : ∀ a, (![k.val, 0] : Fin 2 → ℕ) a + S1x1408.size a ≤ S3x1408.size a) (z : Fin 1408) :
    View.ld (iblk m c 2 t : Vec Ideal S3x1408 .f32) (Rect.unit (s := S3x1408) ![k.val, 0] S1x1408.size inbL) (ix2 0 z) =
      m ((c.tc : Thread nD τ).loc main_arg1) (ix2 k ⟨1408 * (t.val % 2) + z.val, by have := z.isLt; omega⟩) := by
  have h : (Rect.unit (s := S3x1408) ![k.val, 0] S1x1408.size inbL).idx (ix2 0 z) = ix2 k z := by
    funext a
    fin_cases a
    · exact Fin.ext (show k.val + 1 * 0 = k.val by omega)
    · exact Fin.ext (show 0 + 1 * z.val = z.val by omega)
  show iblk m c 2 t ((Rect.unit (s := S3x1408) ![k.val, 0] S1x1408.size inbL).idx (ix2 0 z)) = _
  rw [h]
  blk_ext [iblk, V, index_2]

/-- What the result holds when the grid is done: the whole gradient. -/
theorem array (c : Dev nD) : (dats m 0 c).arrAt 3 cfg0.N =
    whole (m ((c.tc : Thread nD τ).loc main_arg0)) (m ((c.tc : Thread nD τ).loc main_arg1)) := by
  refine (dats m 0 c).arrAt_eq_of_covers 3 _ (by decide +kernel) fun t hf y => ?_
  blk_simp
  rw [after0_3]
  unfold outsAt0
  frame_out
  rw [part, shifted m c t 0 (by omega), shifted m c t 2 (by omega), shifted m c t 1 (by omega)]
  have h1 : (y 1).val < 1408 := (y 1).isLt
  have e0 : (((View.whole main_v0).slice (win0_3.rect t)).emb y 0).val = 640 * (t.val / 2) + (y 0).val := by
    show win0_3.index t 0 * 640 + 1 * (y 0).val = _
    rw [index_3]
    show t.val / 2 * 640 + 1 * (y 0).val = _
    omega
  have e1 : ((View.whole main_v0).slice (win0_3.rect t)).emb y 1 = (⟨1408 * (t.val % 2) + (y 1).val, by omega⟩ : Fin 2816) := by
    refine Fin.ext ?_
    show win0_3.index t 1 * 1408 + 1 * (y 1).val = 1408 * (t.val % 2) + (y 1).val
    rw [index_3]
    show t.val % 2 * 1408 + 1 * (y 1).val = _
    omega
  unfold whole
  rw [e0, e1]
  refine congrArg₂ (· + ·) (congrArg₂ (· + ·) (congrArg₂ (· * ·) ?_ rfl) (congrArg₂ (· * ·) ?_ rfl)) (congrArg₂ (· * ·) ?_ rfl)
  · exact weight m c t 2 _ _
  · exact weight m c t 0 _ _
  · exact weight m c t 1 _ _

end Cert.Kernel26Ideal.Grad

namespace Cert.Reference26Ideal.Grad

open Cert.Reference26Ideal Cert.Reference26Ideal.Read Idealize.ShloMosaic Idealize.SL.Sem

/-- What the reference returns: the same, entry by entry. -/
theorem value (x : Vec Ideal S8320x2816 .f32) (y : Vec Ideal S3x2816 .f32) :
    val_main_v41 (F := Ideal) x y = Cert.Kernel26Ideal.Grad.whole x y := by
  funext i
  idx_vars i
  pointwise [val_main_v41, val_main_v40, val_main_v38,
    val_main_v37, val_main_cst_5, val_main_v36, val_main_v35, val_main_v34, val_main_v33, val_main_cst_4, val_main_v32, val_main_v31, val_main_v30,
    val_main_cst_3, val_main_v29, val_main_v28, val_main_v27, val_main_v26, val_main_v22,val_main_v20,val_main_v19,val_main_v15, val_main_v13,val_main_v12,val_main_v7,val_main_v5,val_main_v4, Cert.Kernel26Ideal.Grad.whole, Cert.Kernel26Ideal.Grad.row]
  rw [add_right_comm]
  have e2 : 2 + i0.val = i0.val + 2 := by omega
  have e1 : i0.val + 2 - 1 = i0.val + 1 := by omega
  simp only [e2, e1]
  refine congrArg₂ (· + ·) (congrArg₂ (· + ·) rfl ?_) ?_
  · split
    · rfl
    · rw [mul_zero]
  · by_cases h : i0.val + 1 < 8320
    · rw [dif_pos ⟨by omega, h⟩, dif_pos h]
    · rw [dif_neg (fun q => h q.2), dif_neg h, mul_zero]

end Cert.Reference26Ideal.Grad

namespace Cert.Proof

open Idealize.ShloMosaic Idealize.SL.Sem

/-- The kernel's result is the reference's. -/
theorem algebraic26 : algebraic_Kernel26Ideal_Reference26Ideal (hKernel26Ideal := Cert.Kernel26Ideal.Gen.facts) (hReference26Ideal := Cert.Reference26Ideal.Gen.facts) := by
  intro m g m' g' _ hag
  refine ⟨fun c => Cert.Kernel26Ideal.Grad.whole (m (c.tc.loc Cert.Kernel26Ideal.main_arg0)) (m (c.tc.loc Cert.Kernel26Ideal.main_arg1)),
    (θ_run _ _ _).mono (fun r h c => ?_) (Cert.Kernel26Ideal.Value.run_blocks m g),
    (θ_run _ _ _).mono (fun r h c => ?_) (Cert.Reference26Ideal.Value.run m' g')⟩
  · exact ⟨(h c).1.trans (Cert.Kernel26Ideal.Grad.array m c), (h c).2⟩
  · refine ⟨(h c).1.trans ?_, (h c).2⟩
    rw [Cert.Reference26Ideal.Read.val_main_v41_eq, (hag c).1, (hag c).2]
    exact Cert.Reference26Ideal.Grad.value _ _

end Cert.Proof
end
-- ==== Proof.Grad.K27.lean ====
/-
  The gradient of the state-space block's convolution's input. The convolution is causal, 4 taps down the rows: row `t` of the gradient is
  the sum of row `t`, row `t + 1`, row `t + 2`, row `t + 3` of the cotangent, each times its tap. Every grid point copies its block of 640 rows into a buffer, and below
  it the eight rows that follow, or zeros below the last block; it reads the buffer at every shift.
-/
module

public import proofs.«01_k».proof.Defs
public import proofs.«01_k».proof.Proof.Gen.Kernel27Ideal.Value
public import proofs.«01_k».proof.Proof.Gen.Reference27Ideal.Run
public import proofs.«01_k».proof.Proof.Gen.Reference27Ideal.Read
public import proofs.«01_k».proof.Proof.Grad.Stack
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel27Ideal.Grad

open Cert.Kernel27Ideal Cert.Kernel27Ideal.Gen Idealize.ShloMosaic Idealize.ShloMosaic.TcCoe Idealize.SL.Sem

/-- A row of the cotangent, and zero below its last. -/
def row (d : Vec Ideal S8320x3072 .f32) (t : ℕ) (c : Fin 3072) : EReal := if h : t < 8320 then d (ix2 ⟨t, h⟩ c) else 0

/-- The gradient, entry by entry. -/
def whole (d : Vec Ideal S8320x3072 .f32) (w : Vec Ideal S4x3072 .f32) : Vec Ideal S8320x3072 .bf16 := fun i =>
  w (ix2 3 (i 1)) * row d (i 0).val (i 1) + w (ix2 0 (i 1)) * row d ((i 0).val + 3) (i 1) + w (ix2 1 (i 1)) * row d ((i 0).val + 2) (i 1) + w (ix2 2 (i 1)) * row d ((i 0).val + 1) (i 1)

/-- What a grid point leaves: the shifted blocks, each times its tap. -/
theorem part (a b c d : Vec Ideal S1x1024 .f32) (x y z u : Vec Ideal S640x1024 .f32) (j : S640x1024.Idx) :
    k0_pay1 (k0_pay4 a x b y c z d u) j = a (ix2 0 (j 1)) * x j + b (ix2 0 (j 1)) * y j + c (ix2 0 (j 1)) * z j + d (ix2 0 (j 1)) * u j := by
  idx_vars j
  pointwise [k0_pay1, k0_pay4]

/-- The blocks at a point, and the eight rows below it, of which the last block has none of its own. -/
theorem index_0 : ∀ t : Fin grid0.N, win0_0.index t = ![t.val / 3, t.val % 3] := by decide +kernel
theorem index_1 : ∀ t : Fin grid0.N, win0_1.index t = ![min ((t.val / 3 + 1) * 80) 1039, t.val % 3] := by decide +kernel
theorem index_2 : ∀ t : Fin grid0.N, win0_2.index t = ![0, t.val % 3] := by decide +kernel
theorem index_3 : ∀ t : Fin grid0.N, win0_3.index t = ![t.val / 3, t.val % 3] := by decide +kernel

/-- The test of the body: is there a block below? -/
theorem below : ∀ t : Fin grid0.N, Scalar.cmpi .slt (BitVec.ofNat 32 (grid0.coords t 0).val) 12#32 = if t.val < 36 then 1#1 else 0#1 := by
  decide +kernel

/-- The first store copies the block. -/
theorem copy (x : Vec Ideal S640x1024 .f32) : k0_pay2 x = x := by
  funext j
  idx_vars j
  pointwise [k0_pay2]

/-- The second store copies the eight rows below, or zeros. -/
theorem halo (t : Fin grid0.N) (x : Vec Ideal S8x1024 .f32) (j : S8x1024.Idx) :
    k0_pay3 (grid0.coords t) x j = if t.val < 36 then x j else 0 := by
  idx_vars j
  have h := below t
  unfold k0_pay3
  rw [h]
  split <;> pointwise []

variable (m : (ℓ : Loc nD τ sig) → Buf (Elt Ideal) ℓ)

/-- The buffer read `o` rows down holds the cotangent's rows `o` further down. -/
theorem shifted (c : Dev nD) (t : Fin cfg0.N) (o : ℕ) (ho : o ≤ 3)
    (inbL : ∀ a, (![o, 0] : Fin 2 → ℕ) a + S640x1024.size a ≤ S648x1024.size a) (y : S640x1024.Idx) :
    (View.whole cc0_scratch0).readCov
      [(⟨Rect.unit (s := S648x1024) ![640, 0] S8x1024.size inb_S648x1024_S8x1024_640_0, k0_pay3 (grid0.coords t) (iblk m c 1 t)⟩ : View.Piece (Elt Ideal) S648x1024 .f32),
        ⟨Rect.unit (s := S648x1024) ![0, 0] S640x1024.size inb_S648x1024_S640x1024_0_0, k0_pay2 (iblk m c 0 t)⟩]
      (Rect.unit (s := S648x1024) ![o, 0] S640x1024.size inbL).toLoadRect y =
    row (m ((c.tc : Thread nD τ).loc main_arg0)) (640 * (t.val / 3) + (y 0).val + o)
      ⟨1024 * (t.val % 3) + (y 1).val, by have : (y 1).val < 1024 := (y 1).isLt; omega⟩ := by
  have hN : t.val < 39 := t.isLt
  have h0 : (y 0).val < 640 := (y 0).isLt
  idx_vars y
  refine (Cert.Grad.Stack.read_stacked (b := 640) (k := 8) rfl (View.whole cc0_scratch0) _ _ _ _ _ y0 y1).trans ?_
  rw [copy]
  unfold row
  split
  · rw [dif_pos (by omega)]
    blk_ext [iblk, V, index_0]
    all_goals omega
  · rw [halo]
    split
    · rw [dif_pos (by omega)]
      blk_ext [iblk, V, index_1]
      all_goals omega
    · rw [dif_neg (by omega)]

/-- A tap's row of the weights' block. -/
theorem weight (c : Dev nD) (t : Fin cfg0.N) (k : Fin 4) (inbL : ∀ a, (![k.val, 0] : Fin 2 → ℕ) a + S1x1024.size a ≤ S4x1024.size a) (z : Fin 1024) :
    View.ld (iblk m c 2 t : Vec Ideal S4x1024 .f32) (Rect.unit (s := S4x1024) ![k.val, 0] S1x1024.size inbL) (ix2 0 z) =
      m ((c.tc : Thread nD τ).loc main_arg1) (ix2 k ⟨1024 * (t.val % 3) + z.val, by have := z.isLt; omega⟩) := by
  have h : (Rect.unit (s := S4x1024) ![k.val, 0] S1x1024.size inbL).idx (ix2 0 z) = ix2 k z := by
    funext a
    fin_cases a
    · exact Fin.ext (show k.val + 1 * 0 = k.val by omega)
    · exact Fin.ext (show 0 + 1 * z.val = z.val by omega)
  show iblk m c 2 t ((Rect.unit (s := S4x1024) ![k.val, 0] S1x1024.size inbL).idx (ix2 0 z)) = _
  rw [h]
  blk_ext [iblk, V, index_2]

/-- What the result holds when the grid is done: the whole gradient. -/
theorem array (c : Dev nD) : (dats m 0 c).arrAt 3 cfg0.N =
    whole (m ((c.tc : Thread nD τ).loc main_arg0)) (m ((c.tc : Thread nD τ).loc main_arg1)) := by
  refine (dats m 0 c).arrAt_eq_of_covers 3 _ (by decide +kernel) fun t hf y => ?_
  blk_simp
  rw [after0_3]
  unfold outsAt0
  frame_out
  rw [part, shifted m c t 0 (by omega), shifted m c t 3 (by omega), shifted m c t 2 (by omega), shifted m c t 1 (by omega)]
  have h1 : (y 1).val < 1024 := (y 1).isLt
  have e0 : (((View.whole main_v0).slice (win0_3.rect t)).emb y 0).val = 640 * (t.val / 3) + (y 0).val := by
    show win0_3.index t 0 * 640 + 1 * (y 0).val = _
    rw [index_3]
    show t.val / 3 * 640 + 1 * (y 0).val = _
    omega
  have e1 : ((View.whole main_v0).slice (win0_3.rect t)).emb y 1 = (⟨1024 * (t.val % 3) + (y 1).val, by omega⟩ : Fin 3072) := by
    refine Fin.ext ?_
    show win0_3.index t 1 * 1024 + 1 * (y 1).val = 1024 * (t.val % 3) + (y 1).val
    rw [index_3]
    show t.val % 3 * 1024 + 1 * (y 1).val = _
    omega
  unfold whole
  rw [e0, e1]
  refine congrArg₂ (· + ·) (congrArg₂ (· + ·) (congrArg₂ (· + ·) (congrArg₂ (· * ·) ?_ rfl) (congrArg₂ (· * ·) ?_ rfl)) (congrArg₂ (· * ·) ?_ rfl)) (congrArg₂ (· * ·) ?_ rfl)
  · exact weight m c t 3 _ _
  · exact weight m c t 0 _ _
  · exact weight m c t 1 _ _
  · exact weight m c t 2 _ _

end Cert.Kernel27Ideal.Grad

namespace Cert.Reference27Ideal.Grad

open Cert.Reference27Ideal Cert.Reference27Ideal.Read Idealize.ShloMosaic Idealize.SL.Sem

/-- Four terms, the last three in either order. -/
theorem reverse {a p q r p' q' r' : EReal} (hp : p = p') (hq : q = q') (hr : r = r') : a + p + q + r = a + r' + q' + p' := by
  subst hp hq hr
  ac_rfl

/-- What the reference returns: the same, entry by entry. -/
theorem value (x : Vec Ideal S8320x3072 .f32) (y : Vec Ideal S4x3072 .f32) :
    val_main_v52 (F := Ideal) x y = Cert.Kernel27Ideal.Grad.whole x y := by
  funext i
  idx_vars i
  pointwise [val_main_v52, val_main_v51, val_main_v50, val_main_v49, val_main_v48, val_main_cst_6, val_main_v47, val_main_v46, val_main_v45,
    val_main_v44, val_main_cst_5, val_main_v43, val_main_v42, val_main_v41, val_main_v40, val_main_cst_4, val_main_v39, val_main_v38,
    val_main_v37, val_main_cst_3, val_main_v36, val_main_v35, val_main_v34, val_main_v33, val_main_v32, val_main_v31, val_main_v30,
    val_main_v29, val_main_v28, val_main_v27, val_main_v26, val_main_v25, val_main_v24, val_main_v23, val_main_v22, val_main_v21,
    val_main_v20, val_main_v19, val_main_v18, val_main_v17, val_main_v16, val_main_v15, val_main_v14, val_main_v13, val_main_v12,
    val_main_v11, val_main_v10, val_main_cst_2, val_main_v9, val_main_v8, val_main_v7, val_main_v6, val_main_v5, val_main_v4, val_main_v3,
    val_main_cst_1, val_main_v2, val_main_v1, val_main_cst_0, val_main_v0, val_main_cst, Cert.Kernel27Ideal.Grad.whole, Cert.Kernel27Ideal.Grad.row]
  refine reverse ?_ ?_ ?_
  · by_cases h : i0.val + 1 < 8320
    · rw [dif_pos ⟨by omega, by omega⟩, dif_pos h]
      exact congrArg (fun r => y (ix2 2 i1) * x (ix2 r i1)) (Fin.ext (by show 3 + i0.val - 2 = i0.val + 1; omega))
    · rw [dif_neg (fun q => h (by omega)), dif_neg h, mul_zero]
  · by_cases h : i0.val + 2 < 8320
    · rw [dif_pos ⟨by omega, by omega⟩, dif_pos h]
      exact congrArg (fun r => y (ix2 1 i1) * x (ix2 r i1)) (Fin.ext (by show 3 + i0.val - 1 = i0.val + 2; omega))
    · rw [dif_neg (fun q => h (by omega)), dif_neg h, mul_zero]
  · by_cases h : i0.val + 3 < 8320
    · rw [dif_pos (by omega), dif_pos h]
      exact congrArg (fun r => y (ix2 0 i1) * x (ix2 r i1)) (Fin.ext (by show 3 + i0.val = i0.val + 3; omega))
    · rw [dif_neg (fun q => h (by omega)), dif_neg h, mul_zero]

end Cert.Reference27Ideal.Grad

namespace Cert.Proof

open Idealize.ShloMosaic Idealize.SL.Sem

/-- The kernel's result is the reference's. -/
theorem algebraic27 : algebraic_Kernel27Ideal_Reference27Ideal (hKernel27Ideal := Cert.Kernel27Ideal.Gen.facts) (hReference27Ideal := Cert.Reference27Ideal.Gen.facts) := by
  intro m g m' g' _ hag
  refine ⟨fun c => Cert.Kernel27Ideal.Grad.whole (m (c.tc.loc Cert.Kernel27Ideal.main_arg0)) (m (c.tc.loc Cert.Kernel27Ideal.main_arg1)),
    (θ_run _ _ _).mono (fun r h c => ?_) (Cert.Kernel27Ideal.Value.run_blocks m g),
    (θ_run _ _ _).mono (fun r h c => ?_) (Cert.Reference27Ideal.Value.run m' g')⟩
  · exact ⟨(h c).1.trans (Cert.Kernel27Ideal.Grad.array m c), (h c).2⟩
  · refine ⟨(h c).1.trans ?_, (h c).2⟩
    rw [Cert.Reference27Ideal.Read.val_main_v52_eq, (hag c).1, (hag c).2]
    exact Cert.Reference27Ideal.Grad.value _ _

end Cert.Proof
end
-- ==== Proof.Grad.Norm.lean ====
/-
  The gradient of the gated grouped norm in real numbers: one group of one row. The row is `y · z σ(z)`, divided by the root of
  its mean square (and a small constant) and scaled by `g`; `d` is the cotangent.
-/
module

public import proofs.«01_k».proof.Proof.Attn.Finite
public import proofs.«01_k».proof.Proof.Attn.Real
public import Idealize.ShloMosaic.Lib.IdealHost

@[expose] public section
noncomputable section
namespace Cert.Norm
open Idealize.ShloMosaic Cert.Attn

/-- The sigmoid. -/
def sg (x : ℝ) : ℝ := 1 / (1 + Real.exp (-x))

theorem sg_den (x : ℝ) : 1 + Real.exp (-x) ≠ 0 := (add_pos one_pos (Real.exp_pos _)).ne'

/-- The sigmoid as the programs compute it. -/
theorem sg_real (x : ℝ) : Ideal.div 1 (1 + Ideal.exp (-((x : ℝ) : EReal))) = ((sg x : ℝ) : EReal) := by
  rw [← EReal.coe_neg, Ideal.exp_coe, ← EReal.coe_one, ← EReal.coe_add, div_real _ _ (sg_den x)]
  rfl

/-- The small constant: the value of the literal 1e-6. -/
def eps : ℝ := (Ideal.ofBits .f32 0x358637BD#32).toReal

theorem eps_val : ∃ r : ℝ, 0 < r ∧ Ideal.ofBits .f32 0x358637BD#32 = (r : EReal) := by
  refine ⟨8796093 * (2 : ℝ) ^ (-43 : ℤ), by positivity, ?_⟩
  simp [Ideal.ofBits, Ideal.ieee, -EReal.coe_mul]

theorem eps_eq : Ideal.ofBits .f32 0x358637BD#32 = ((eps : ℝ) : EReal) := by
  obtain ⟨r, -, hr⟩ := eps_val
  unfold eps
  rw [hr, EReal.toReal_coe]

theorem eps_pos : 0 < eps := by
  obtain ⟨r, h, hr⟩ := eps_val
  unfold eps
  rw [hr, EReal.toReal_coe]
  exact h

theorem c512_eq : Ideal.ofBits .f32 0x44000000#32 = ((512 : ℝ) : EReal) := by
  simp [Ideal.ofBits, Ideal.ieee, -EReal.coe_mul]; norm_num

theorem half_eq : Ideal.ofBits .f32 0xBF000000#32 = ((-(1 / 2) : ℝ) : EReal) := by
  simp [Ideal.ofBits, Ideal.ieee, -EReal.coe_mul]; norm_num

/-- The array of rank one with real entries. -/
def R1 {a : ℕ} (f : ℕ → ℝ) : (⟨1, ![a]⟩ : Shape).Idx → EReal := fun i => ((f (i 0).val : ℝ) : EReal)

theorem R1_ix1 {a : ℕ} (f : ℕ → ℝ) (i : Fin a) : R1 (a := a) f (ix1 i) = ((f i.val : ℝ) : EReal) := rfl

/-- The real entries of a vector, zero outside it. -/
def real1 {a : ℕ} (x : (⟨1, ![a]⟩ : Shape).Idx → EReal) (i : ℕ) : ℝ :=
  if h : i < a then (x (ix1 ⟨i, h⟩)).toReal else 0

theorem R1_real1 {a : ℕ} (x : (⟨1, ![a]⟩ : Shape).Idx → EReal) (h : ∀ i, ((x i).toReal : EReal) = x i) : x = R1 (real1 x) := by
  funext i
  have e : ix1 (i 0) = i := by funext a; match a with | ⟨0, _⟩ => rfl
  have e' : real1 x (i 0).val = (x i).toReal := by
    unfold real1
    rw [dif_pos (show (i 0).val < a from (i 0).isLt)]
    exact congrArg (fun j => (x j).toReal) e
  show x i = ((real1 x (i 0).val : ℝ) : EReal)
  rw [e', h]

/-- The printed test of finiteness of a float32 array, at one entry. -/
theorem entry_real32 {S : Shape} (hb : (⟨0, ![]⟩ : Shape).BroadcastsInDim S (![] : Fin 0 → Fin S.rank)) (x : FVec Ideal S .f32)
    (h : cmpf .olt (Host.absf x) (broadcastInDim S ![] hb (constant ⟨0, ![]⟩ .f32 0x7F800000#32)) = fun _ => 1#1) (i : S.Idx) :
    (((x i : EReal).toReal : ℝ) : EReal) = x i := by
  refine real_of_abs_lt _ ?_
  have e := congrFun h i
  rw [← inf_eq]
  exact e

variable (y z d g : ℕ → ℝ)

/-- The gated row. -/
def vf (k : ℕ) : ℝ := y k * (z k * sg (z k))
/-- Its mean square and the small constant. -/
def xf : ℝ := (∑ k ∈ Finset.range 512, vf y z k * vf y z k) / 512 + eps
/-- The factor of the norm. -/
def rf : ℝ := (Real.sqrt (xf y z))⁻¹
/-- The sum of the row against its scaled cotangent. -/
def tf : ℝ := ∑ k ∈ Finset.range 512, vf y z k * (d k * g k)
/-- The gradient of the gated row. -/
def dvf (k : ℕ) : ℝ := rf y z * (d k * g k) - vf y z k * (rf y z * rf y z * rf y z) * (tf y z d g / 512)
/-- The gradient of `y`. -/
def dyf (k : ℕ) : ℝ := dvf y z d g k * (z k * sg (z k))
/-- The gradient of `z`. -/
def dzf (k : ℕ) : ℝ := dvf y z d g k * y k * (sg (z k) * (1 + z k * (1 - sg (z k))))
/-- The row's part of the gradient of the scale. -/
def dgf (k : ℕ) : ℝ := d k * vf y z k * rf y z

theorem xf_pos : 0 < xf y z :=
  add_pos_of_nonneg_of_pos (div_nonneg (Finset.sum_nonneg fun _ _ => mul_self_nonneg _) (by norm_num)) eps_pos

theorem rsqrt_xf : Ideal.rsqrt ((xf y z : ℝ) : EReal) = ((rf y z : ℝ) : EReal) := by
  rw [Ideal.rsqrt_coe, if_neg (not_lt.mpr (xf_pos y z).le), if_neg (xf_pos y z).ne']
  rfl

theorem rf_div : rf y z / xf y z = rf y z * rf y z * rf y z := by
  have h := xf_pos y z
  have h2 : Real.sqrt (xf y z) * Real.sqrt (xf y z) = xf y z := Real.mul_self_sqrt h.le
  have h3 : Real.sqrt (xf y z) ≠ 0 := (Real.sqrt_pos.mpr h).ne'
  have : rf y z * rf y z = (xf y z)⁻¹ := by unfold rf; rw [← mul_inv, h2]
  rw [this, div_eq_mul_inv, mul_comm]

/-- The quotient rule's form of the gated row's gradient. -/
theorem dvf_eq (k : ℕ) : d k * g k * rf y z + vf y z k * (tf y z d g * (-(1 / 2) * (rf y z / xf y z)) / 512)
    + tf y z d g * (-(1 / 2) * (rf y z / xf y z)) / 512 * vf y z k = dvf y z d g k := by
  rw [rf_div]
  unfold dvf
  ring

/-- The product rule's form of the gate's gradient. -/
theorem dzf_eq (k : ℕ) : y k * dvf y z d g k * sg (z k) + z k * (y k * dvf y z d g k) * (sg (z k) * (1 - sg (z k))) = dzf y z d g k := by
  unfold dzf
  ring

end Cert.Norm
-- ==== Proof.Grad.K28.lean ====
/-
  The gradient of the gated grouped norm of the state-space branch, over real arguments.
-/
module

public import proofs.«01_k».proof.Defs
public import proofs.«01_k».proof.Proof.Gen.Kernel28Ideal.Value
public import proofs.«01_k».proof.Proof.Gen.Reference28Ideal.Run
public import proofs.«01_k».proof.Proof.Gen.Reference28Ideal.Read
public import proofs.«01_k».proof.Proof.Grad.Norm
public import Idealize.ShloMosaic.Lib.StableHlo.ReadAt
public import Idealize.ShloMosaic.Lib.Pipeline.ValueKit
public import Idealize.ShloMosaic.Lib.Pointwise

@[expose] public section

set_option maxRecDepth 16384

noncomputable section

namespace Cert.Norm
open Idealize.ShloMosaic

/-- The `j`-th group of 512 columns of a row. -/
def row (f : ℕ → ℕ → ℝ) (i j : ℕ) (k : ℕ) : ℝ := f i (j * 512 + k)

variable (Y Z D : ℕ → ℕ → ℝ) (G : ℕ → ℝ)
/-- The gradient of `y`, of `z`, and of the scale. -/
def gy (i c : ℕ) : ℝ := dyf (row Y i (c / 512)) (row Z i (c / 512)) (row D i (c / 512)) (row (fun _ => G) 0 (c / 512)) (c % 512)
def gz (i c : ℕ) : ℝ := dzf (row Y i (c / 512)) (row Z i (c / 512)) (row D i (c / 512)) (row (fun _ => G) 0 (c / 512)) (c % 512)
def gg : (⟨2, ![1, 2048]⟩ : Shape).Idx → EReal := fun c =>
  ∑ i : Fin 8320, ((dgf (row Y i.val ((c 1).val / 512)) (row Z i.val ((c 1).val / 512)) (row D i.val ((c 1).val / 512)) ((c 1).val % 512) : ℝ) : EReal)

theorem gy_at (i j k : ℕ) (h : k < 512) : gy Y Z D G i (j * 512 + k) = dyf (row Y i j) (row Z i j) (row D i j) (row (fun _ => G) 0 j) k := by
  unfold gy
  rw [show (j * 512 + k) / 512 = j by omega, show (j * 512 + k) % 512 = k by omega]
theorem gz_at (i j k : ℕ) (h : k < 512) : gz Y Z D G i (j * 512 + k) = dzf (row Y i j) (row Z i j) (row D i j) (row (fun _ => G) 0 j) k := by
  unfold gz
  rw [show (j * 512 + k) / 512 = j by omega, show (j * 512 + k) % 512 = k by omega]

/-- A column is its group and its place in it. -/
theorem row_div (f : ℕ → ℕ → ℝ) (i c : ℕ) : row f i (c / 512) (c % 512) = f i c := by
  unfold row
  rw [Nat.div_add_mod' c 512]

end Cert.Norm

namespace Cert.Kernel28Ideal.Grad

open Cert.Kernel28Ideal Cert.Kernel28Ideal.Gen Idealize.ShloMosaic Idealize.ShloMosaic.TcCoe Idealize.SL.Sem Cert.Attn Cert.Norm

section Payloads
variable (y z d : ℕ → ℕ → ℝ) (g : ℕ → ℝ)

theorem p5 (p : Fin 640) (q : Fin 512) : k0_pay5 (F := Ideal) (R2 z) (ix2 p q) = ((sg (z p.val q.val) : ℝ) : EReal) := by
  pointwise [k0_pay5, k0_pay4]
  rw [zero_sub, R2_ix2, sg_real]
theorem p6 (p : Fin 640) (q : Fin 512) : k0_pay6 (F := Ideal) (R2 z) (ix2 p q) = ((z p.val q.val * sg (z p.val q.val) : ℝ) : EReal) := by
  pointwise [k0_pay6, k0_pay4]
  rw [p5, R2_ix2, ← EReal.coe_mul]
theorem p7 (p : Fin 640) (q : Fin 512) : k0_pay7 (F := Ideal) (R2 z) (R2 y) (ix2 p q) = ((vf (y p.val) (z p.val) q.val : ℝ) : EReal) := by
  pointwise [k0_pay7]
  rw [p6, R2_ix2, ← EReal.coe_mul]
  rfl
theorem p8 (p : Fin 640) (q : Fin 1) : k0_pay8 (F := Ideal) (R2 z) (R2 y) (ix2 p q) = ((rf (y p.val) (z p.val) : ℝ) : EReal) := by
  pointwise [k0_pay8]
  simp only [p7, ← EReal.coe_mul]
  rw [coe_sum_fin 512 (fun k => vf (y p.val) (z p.val) k * vf (y p.val) (z p.val) k), c512_eq, eps_eq, div_real _ _ (by norm_num), ← EReal.coe_add]
  exact rsqrt_xf _ _
theorem p10 (p : Fin 640) (q : Fin 512) : k0_pay10 (F := Ideal) (R2 z) (R2 y) (R2 d) (R2 fun _ => g) (ix2 p q) = ((dvf (y p.val) (z p.val) (d p.val) g q.val : ℝ) : EReal) := by
  pointwise [k0_pay10, k0_pay9]
  simp only [p7, p8, R2_ix2, ← EReal.coe_mul]
  rw [coe_sum_fin 512 (fun k => vf (y p.val) (z p.val) k * (d p.val k * g k)), c512_eq, div_real _ _ (by norm_num), ← EReal.coe_mul, ← EReal.coe_sub]
  rfl
theorem p11 (p : Fin 640) (q : Fin 512) : k0_pay11 (F := Ideal) (R2 z) (R2 y) (R2 d) (R2 fun _ => g) (ix2 p q) = ((dyf (y p.val) (z p.val) (d p.val) g q.val : ℝ) : EReal) := by
  pointwise [k0_pay11]
  rw [p10, p6, ← EReal.coe_mul]
  rfl
theorem p1 (p : Fin 640) (q : Fin 512) : k0_pay1 (F := Ideal) (k0_pay4 (R2 z)) (R2 y) (k0_pay5 (R2 z)) (k0_pay10 (R2 z) (R2 y) (R2 d) (R2 fun _ => g)) (ix2 p q)
    = ((dzf (y p.val) (z p.val) (d p.val) g q.val : ℝ) : EReal) := by
  pointwise [k0_pay1, k0_pay4]
  simp only [p10, p5, R2_ix2, ← EReal.coe_mul, ← EReal.coe_one, ← EReal.coe_sub, ← EReal.coe_add]
  rfl
theorem p2 (p : Fin 1) (q : Fin 512) : k0_pay2 (F := Ideal) (k0_pay7 (R2 z) (R2 y)) (k0_pay8 (R2 z) (R2 y)) (k0_pay9 (R2 d)) (ix2 p q)
    = ∑ k : Fin 640, ((dgf (y k.val) (z k.val) (d k.val) q.val : ℝ) : EReal) := by
  pointwise [k0_pay2, k0_pay9]
  simp only [p7, p8, R2_ix2, ← EReal.coe_mul]
  rfl
end Payloads

variable (m : (ℓ : Loc nD τ sig) → Buf (Elt Ideal) ℓ) (Y Z D : ℕ → ℕ → ℝ) (G : ℕ → ℝ)

/-- The arguments are these real arrays. -/
structure RealArgs (c : Dev nD) : Prop where
  d : m ((c.tc : Thread nD τ).loc main_arg0) = R2 D
  y : m ((c.tc : Thread nD τ).loc main_arg1) = R2 Y
  z : m ((c.tc : Thread nD τ).loc main_arg2) = R2 Z
  g : m ((c.tc : Thread nD τ).loc main_arg3) = R1 G

theorem index_0 : ∀ t : Fin grid0.N, win0_0.index t = ![t.val % 13, t.val / 13] := by decide +kernel
theorem index_1 : ∀ t : Fin grid0.N, win0_1.index t = ![t.val % 13, t.val / 13] := by decide +kernel
theorem index_2 : ∀ t : Fin grid0.N, win0_2.index t = ![t.val % 13, 2 + t.val / 13] := by decide +kernel
theorem index_3 : ∀ t : Fin grid0.N, win0_3.index t = ![0, t.val / 13] := by decide +kernel
theorem index_4 : ∀ t : Fin grid0.N, win0_4.index t = ![t.val % 13, t.val / 13] := by decide +kernel
theorem index_5 : ∀ t : Fin grid0.N, win0_5.index t = ![t.val % 13, t.val / 13] := by decide +kernel
theorem index_6 : ∀ t : Fin grid0.N, win0_6.index t = ![0, t.val / 13] := by decide +kernel

/-- A block of a real array. -/
def blk (f : ℕ → ℕ → ℝ) (t p q : ℕ) : ℝ := f (640 * (t % 13) + p) (t / 13 * 512 + q)

variable {Y Z D G} {m} {c : Dev nD} (H : RealArgs m Y Z D G c)
include H

/-- The projection's columns that hold `z`. -/
theorem proj_z (i : Fin 8320) (k : Fin 2048) :
    V m c main_v2 (ix2 i ⟨1024 + k.val, by omega⟩) = ((Z i.val k.val : ℝ) : EReal) := by
  have e : V m c main_v2 (ix2 i ⟨1024 + k.val, by omega⟩) = m ((c.tc : Thread nD τ).loc main_arg2) (ix2 i k) := by
    unfold V
    simp only [hostOps0, List.flatten_cons, List.flatten_nil, List.append_nil, List.cons_append, List.nil_append]
    after_reads_at
  rw [e, H.z]
  rfl

/-- The row of scales. -/
theorem scale (k : Fin 2048) : V m c main_v3 (ix2 0 k) = ((G k.val : ℝ) : EReal) := by
  have e : V m c main_v3 (ix2 0 k) = m ((c.tc : Thread nD τ).loc main_arg3) (ix1 k) := by
    unfold V
    simp only [hostOps0, List.flatten_cons, List.flatten_nil, List.append_nil, List.cons_append, List.nil_append]
    after_reads_at
  rw [e, H.g]
  rfl

/-- The blocks at a point. -/
theorem block_0 (t : Fin cfg0.N) : iblk m c 0 t = R2 (blk D t.val) := by
  funext y
  show V m c main_arg0 (((View.whole main_arg0).slice (win0_0.rect t)).emb y) = _
  rw [V_main_arg0, H.d]
  refine congrArg Real.toEReal (congrArg₂ D ?_ ?_)
  · show win0_0.index t 0 * 640 + 1 * (y 0).val = _
    rw [index_0]; show t.val % 13 * 640 + 1 * (y 0).val = 640 * (t.val % 13) + (y 0).val; omega
  · show win0_0.index t 1 * 512 + 1 * (y 1).val = _
    rw [index_0]; show t.val / 13 * 512 + 1 * (y 1).val = t.val / 13 * 512 + (y 1).val; omega
theorem block_1 (t : Fin cfg0.N) : iblk m c 1 t = R2 (blk Y t.val) := by
  funext y
  show V m c main_arg1 (((View.whole main_arg1).slice (win0_1.rect t)).emb y) = _
  rw [V_main_arg1, H.y]
  refine congrArg Real.toEReal (congrArg₂ Y ?_ ?_)
  · show win0_1.index t 0 * 640 + 1 * (y 0).val = _
    rw [index_1]; show t.val % 13 * 640 + 1 * (y 0).val = 640 * (t.val % 13) + (y 0).val; omega
  · show win0_1.index t 1 * 512 + 1 * (y 1).val = _
    rw [index_1]; show t.val / 13 * 512 + 1 * (y 1).val = t.val / 13 * 512 + (y 1).val; omega
theorem block_2 (t : Fin cfg0.N) : X0_2 m c t = R2 (blk Z t.val) := by
  funext y
  have hy0 : (y 0).val < 640 := (y 0).isLt
  have hy1 : (y 1).val < 512 := (y 1).isLt
  have ht : t.val < 52 := t.isLt
  unfold X0_2 Pipeline.Window.fill
  rw [dif_pos (moved0_2 t y)]
  refine Eq.trans ?_ (proj_z H ⟨640 * (t.val % 13) + (y 0).val, by omega⟩ ⟨t.val / 13 * 512 + (y 1).val, by omega⟩)
  refine congrArg (V m c main_v2) (funext fun a => Fin.ext ?_)
  fin_cases a
  · show win0_2.index t 0 * 640 + 1 * (y 0).val = 640 * (t.val % 13) + (y 0).val
    rw [index_2]; show t.val % 13 * 640 + 1 * (y 0).val = 640 * (t.val % 13) + (y 0).val; omega
  · show win0_2.index t 1 * 512 + 1 * (y 1).val = 1024 + (t.val / 13 * 512 + (y 1).val)
    rw [index_2]; show (2 + t.val / 13) * 512 + 1 * (y 1).val = 1024 + (t.val / 13 * 512 + (y 1).val); omega
theorem block_3 (t : Fin cfg0.N) : iblk m c 3 t = R2 (fun _ => row (fun _ => G) 0 (t.val / 13)) := by
  funext y
  have hy0 : (y 0).val < 1 := (y 0).isLt
  have hy1 : (y 1).val < 512 := (y 1).isLt
  have ht : t.val < 52 := t.isLt
  show V m c main_v3 (((View.whole main_v3).slice (win0_3.rect t)).emb y) = _
  refine Eq.trans ?_ (scale H ⟨t.val / 13 * 512 + (y 1).val, by omega⟩)
  refine congrArg (V m c main_v3) (funext fun a => Fin.ext ?_)
  fin_cases a
  · show win0_3.index t 0 * 1 + 1 * (y 0).val = 0
    rw [index_3]; show 0 * 1 + 1 * (y 0).val = 0; omega
  · show win0_3.index t 1 * 512 + 1 * (y 1).val = t.val / 13 * 512 + (y 1).val
    rw [index_3]; show t.val / 13 * 512 + 1 * (y 1).val = t.val / 13 * 512 + (y 1).val; omega

omit H in
/-- Where a block's entries lie in the results. -/
theorem place_4 (f : ℕ → ℕ → ℝ) (t : Fin cfg0.N) (p : Fin 640) (q : Fin 512) :
    R2 f (((View.whole main_v4_0).slice (win0_4.rect t)).emb (ix2 p q)) = ((f (640 * (t.val % 13) + p.val) (t.val / 13 * 512 + q.val) : ℝ) : EReal) := by
  refine congrArg Real.toEReal (congrArg₂ f ?_ ?_)
  · show win0_4.index t 0 * 640 + 1 * p.val = _
    rw [index_4]; show t.val % 13 * 640 + 1 * p.val = _; omega
  · show win0_4.index t 1 * 512 + 1 * q.val = _
    rw [index_4]; show t.val / 13 * 512 + 1 * q.val = _; omega
omit H in
theorem place_5 (f : ℕ → ℕ → ℝ) (t : Fin cfg0.N) (p : Fin 640) (q : Fin 512) :
    R2 f (((View.whole main_v4_1).slice (win0_5.rect t)).emb (ix2 p q)) = ((f (640 * (t.val % 13) + p.val) (t.val / 13 * 512 + q.val) : ℝ) : EReal) := by
  refine congrArg Real.toEReal (congrArg₂ f ?_ ?_)
  · show win0_5.index t 0 * 640 + 1 * p.val = _
    rw [index_5]; show t.val % 13 * 640 + 1 * p.val = _; omega
  · show win0_5.index t 1 * 512 + 1 * q.val = _
    rw [index_5]; show t.val / 13 * 512 + 1 * q.val = _; omega

/-- The gradient of `y`. -/
theorem array4 : (dats m 0 c).arrAt 4 cfg0.N = R2 (gy Y Z D G) := by
  refine (dats m 0 c).arrAt_eq_of_covers 4 _ (by decide +kernel) fun t hf y => ?_
  blk_simp
  rw [after0_4]
  by_cases h : t.val % 13 = 0
  · rw [outsAt0_A m c t h (by omega)]
    frame_out
    rw [block_0 H, block_1 H, block_2 H, block_3 H]
    idx_vars y
    rw [p11, place_4, gy_at _ _ _ _ _ _ _ y1.isLt]
    rfl
  · rw [outsAt0_B m c t h (by omega)]
    frame_out
    rw [block_0 H, block_1 H, block_2 H, block_3 H]
    idx_vars y
    rw [p11, place_4, gy_at _ _ _ _ _ _ _ y1.isLt]
    rfl

/-- The gradient of `z`. -/
theorem array5 : (dats m 0 c).arrAt 5 cfg0.N = R2 (gz Y Z D G) := by
  refine (dats m 0 c).arrAt_eq_of_covers 5 _ (by decide +kernel) fun t hf y => ?_
  blk_simp
  rw [after0_5]
  by_cases h : t.val % 13 = 0
  · rw [outsAt0_A m c t h (by omega)]
    frame_out
    rw [block_0 H, block_1 H, block_2 H, block_3 H]
    idx_vars y
    rw [p1, place_5, gz_at _ _ _ _ _ _ _ y1.isLt]
    rfl
  · rw [outsAt0_B m c t h (by omega)]
    frame_out
    rw [block_0 H, block_1 H, block_2 H, block_3 H]
    idx_vars y
    rw [p1, place_5, gz_at _ _ _ _ _ _ _ y1.isLt]
    rfl

omit H in
/-- The accumulating store at an entry: what was there, plus the block's sum. -/
theorem step (y z d : ℕ → ℕ → ℝ) (a : Vec Ideal S1x512 .f32) (j : S1x512.Idx) :
    k0_pay3 (F := Ideal) (k0_pay7 (R2 z) (R2 y)) (k0_pay8 (R2 z) (R2 y)) (k0_pay9 (R2 d)) a j
    = a j + ∑ k : Fin 640, ((dgf (y k.val) (z k.val) (d k.val) (j 1).val : ℝ) : EReal) := by
  idx_vars j
  rw [← p2 y z d j0 j1]
  unfold k0_pay3
  rw [shapeCast_self]
  rfl

/-- The gradient of the scale. -/
theorem array6 : (dats m 0 c).arrAt 6 cfg0.N = gg Y Z D := by
  refine (dats m 0 c).arrAt_eq_of_covers 6 _ (by decide +kernel) fun t hf y => ?_
  have hm := (flush0_6 t).mp hf
  blk_simp
  rw [after0_6, Pipeline.eq_sum_fin_of_reset_step_apply_of_flush (fun n h => (outsAt0 m c n h).2.2) 13 (fun _ => (0 : EReal))
    (fun t j => ∑ k : Fin 640, ((dgf (blk Y t.val k.val) (blk Z t.val k.val) (blk D t.val k.val) (j 1).val : ℝ) : EReal))
    (fun t h j => by
      rw [outsAt0_A m c t h (by omega)]; frame_out
      rw [block_0 H, block_1 H, block_2 H]
      idx_vars j
      rw [p2, zero_add])
    (fun t h j => by
      rw [outsAt0_B m c t h (by omega)]; frame_out
      rw [block_0 H, block_1 H, block_2 H, step]) t hm _, zero_add]
  unfold gg
  refine Fin.sum_mul_add_congr fun s k hl => ?_
  have hy : (y 1).val < 512 := (y 1).isLt
  have hs : s.val < 13 := s.isLt
  have e : ((win0_6.blk t).view.emb y 1).val = t.val / 13 * 512 + (y 1).val := by
    show win0_6.index t 1 * 512 + 1 * (y 1).val = _
    rw [index_6]; show t.val / 13 * 512 + 1 * (y 1).val = _; omega
  have b : ∀ f : ℕ → ℕ → ℝ, blk f (13 * (t.val / 13) + s.val) k.val = row f (s.val * 640 + k.val) (t.val / 13) := fun f => by
    funext q
    unfold blk row
    rw [show (13 * (t.val / 13) + s.val) % 13 = s.val by omega, show (13 * (t.val / 13) + s.val) / 13 = t.val / 13 by omega, mul_comm 640]
  rw [e, b, b, b, show (t.val / 13 * 512 + (y 1).val) / 512 = t.val / 13 by omega, show (t.val / 13 * 512 + (y 1).val) % 512 = (y 1).val by omega]

end Cert.Kernel28Ideal.Grad

namespace Cert.Reference28Ideal.Grad

open Cert.Reference28Ideal Cert.Reference28Ideal.Read Idealize.ShloMosaic Idealize.SL.Sem Cert.Attn Cert.Norm

variable (Y Z D : ℕ → ℕ → ℝ) (G : ℕ → ℝ)

theorem s1 (i : Fin 8320) (c : Fin 2048) : val_main_v1_2 (F := Ideal) (R2 Z) (ix2 i c) = ((sg (Z i.val c.val) : ℝ) : EReal) := by
  pointwise [val_main_v1_2, val_main_call0_v4, val_main_call0_cst_0, val_main_call0_v3, val_main_call0_v2, val_main_call0_cst, val_main_call0_v1, val_main_call0_v0]
  rw [R2_ix2, sg_real]

/-- A group of a row. -/
theorem s3 (i : Fin 8320) (j : Fin 4) (k : Fin 512) : val_main_v3 (F := Ideal) (R2 Y) (R2 Z) (ix3 i j k) = ((vf (row Y i.val j.val) (row Z i.val j.val) k.val : ℝ) : EReal) := by
  pointwise [val_main_v3, val_main_v0, val_main_v2, val_main_v1_0]
  rw [s1, R2_ix2, R2_ix2, ← EReal.coe_mul, ← EReal.coe_mul]
  rfl
theorem s10 (i : Fin 8320) (j : Fin 4) (k : Fin 1) : val_main_v10 (F := Ideal) (R2 Y) (R2 Z) (ix3 i j k) = ((xf (row Y i.val j.val) (row Z i.val j.val) : ℝ) : EReal) := by
  pointwise [val_main_v10, val_main_v9, val_main_cst_1, val_main_v8, val_main_v7, val_main_cst_0, val_main_v6, val_main_v5, val_main_cst, val_main_v4]
  simp only [s3, ← EReal.coe_mul]
  rw [coe_sum_fin 512 (fun k => vf (row Y i.val j.val) (row Z i.val j.val) k * vf (row Y i.val j.val) (row Z i.val j.val) k), c512_eq, eps_eq, div_real _ _ (by norm_num), ← EReal.coe_add]
  rfl
theorem s11 (i : Fin 8320) (j : Fin 4) (k : Fin 1) : val_main_v11 (F := Ideal) (R2 Y) (R2 Z) (ix3 i j k) = ((rf (row Y i.val j.val) (row Z i.val j.val) : ℝ) : EReal) := by
  pointwise [val_main_v11]
  rw [s10, rsqrt_xf]
theorem s14 (i : Fin 8320) (j : Fin 4) (k : Fin 1) : val_main_v14 (F := Ideal) (R2 Y) (R2 Z) (ix3 i j k)
    = ((-(1 / 2) * (rf (row Y i.val j.val) (row Z i.val j.val) / xf (row Y i.val j.val) (row Z i.val j.val)) : ℝ) : EReal) := by
  pointwise [val_main_v14, val_main_v13, val_main_cst_2, val_main_v12]
  rw [s10, s11, half_eq, div_real _ _ (xf_pos _ _).ne', ← EReal.coe_mul]
theorem s28 (i : Fin 8320) (j : Fin 4) (k : Fin 512) : val_main_v28 (F := Ideal) (R2 D) (R1 G) (ix3 i j k) = ((row D i.val j.val k.val * row (fun _ => G) 0 j.val k.val : ℝ) : EReal) := by
  pointwise [val_main_v28, val_main_v26, val_main_v21, val_main_v25, val_main_v18]
  rw [R2_ix2, R1_ix1, ← EReal.coe_mul]
  rfl
theorem s36 (i : Fin 8320) (j : Fin 4) (k : Fin 1) : val_main_v36 (F := Ideal) (R2 D) (R2 Y) (R2 Z) (R1 G) (ix3 i j k)
    = ((tf (row Y i.val j.val) (row Z i.val j.val) (row D i.val j.val) (row (fun _ => G) 0 j.val)
      * (-(1 / 2) * (rf (row Y i.val j.val) (row Z i.val j.val) / xf (row Y i.val j.val) (row Z i.val j.val))) / 512 : ℝ) : EReal) := by
  pointwise [val_main_v36, val_main_v35, val_main_cst_6, val_main_v34, val_main_v31, val_main_v30, val_main_cst_5, val_main_v29]
  simp only [s3, s28, s14, ← EReal.coe_mul]
  rw [coe_sum_fin 512 (fun k => vf (row Y i.val j.val) (row Z i.val j.val) k * (row D i.val j.val k * row (fun _ => G) 0 j.val k)), c512_eq, ← EReal.coe_mul, div_real _ _ (by norm_num)]
  rfl
theorem s42 (i : Fin 8320) (j : Fin 4) (k : Fin 512) : val_main_v42 (F := Ideal) (R2 D) (R2 Y) (R2 Z) (R1 G) (ix3 i j k)
    = ((dvf (row Y i.val j.val) (row Z i.val j.val) (row D i.val j.val) (row (fun _ => G) 0 j.val) k.val : ℝ) : EReal) := by
  pointwise [val_main_v42, val_main_v41, val_main_v40, val_main_v39, val_main_v38, val_main_v37, val_main_cst_7, val_main_v33, val_main_v32]
  simp only [s3, s28, s11, s36, Finset.univ_unique, Finset.sum_singleton, ← EReal.coe_mul, ← EReal.coe_add]
  rw [dvf_eq]

/-- The gradient of `y`. -/
theorem value47 : val_main_v47 (F := Ideal) (R2 D) (R2 Y) (R2 Z) (R1 G) = R2 (gy Y Z D G) := by
  funext i
  idx_vars i
  pointwise [val_main_v47, val_main_v44, val_main_v2, val_main_v1_0]
  rw [s42, s1, R2_ix2, R2_ix2, ← EReal.coe_mul, ← EReal.coe_mul]
  refine congrArg _ ?_
  unfold gy dyf
  simp only [row_div]

/-- The gradient of `z`. -/
theorem value48 : val_main_v48 (F := Ideal) (R2 D) (R2 Y) (R2 Z) (R1 G) = R2 (gz Y Z D G) := by
  funext i
  idx_vars i
  pointwise [val_main_v48, val_main_v46, val_main_call1_v1, val_main_call1_v2, val_main_call1_v0, val_main_v45, val_main_v43, val_main_v0, val_main_v1_1, val_main_call0_v7, val_main_call0_v6, val_main_call0_cst_1]
  rw [s42, s1, R2_ix2, R2_ix2, R2_ix2]
  simp only [← EReal.coe_one, ← EReal.coe_sub, ← EReal.coe_mul, ← EReal.coe_add]
  refine congrArg _ ?_
  unfold gz
  rw [← dzf_eq]
  simp only [row_div]

/-- The gradient of the scale. -/
theorem value49 : val_main_v49 (F := Ideal) (R2 D) (R2 Y) (R2 Z) = gg Y Z D := by
  funext i
  idx_vars i
  pointwise [val_main_v49, val_main_v27, val_main_cst_4, val_main_v24, val_main_v23, val_main_cst_3, val_main_v22, val_main_v21, val_main_v17, val_main_v16, val_main_v15, gg]
  simp only [s3, s11, R2_ix2, Finset.univ_unique, Finset.sum_singleton, ← EReal.coe_mul]
  refine Finset.sum_congr rfl fun x _ => congrArg _ ?_
  unfold dgf
  rw [row_div]
  ring

end Cert.Reference28Ideal.Grad
namespace Cert.Proof

open Idealize.ShloMosaic Idealize.SL.Sem Cert.Attn Cert.Norm

theorem preFacts28 : Cert.Pre_finite28.Facts where
  bitsLt_bf16_f32 := by decide
  bcast_S_S8320x2048 := by decide
  bcast_S_S2048 := by decide

local instance : Cert.Pre_finite28.Facts := preFacts28

/-- Under the precondition the four arguments are real arrays. -/
theorem realArgs28 (m : (ℓ : Loc Cert.Kernel28Ideal.nD Cert.Kernel28Ideal.τ Cert.Kernel28Ideal.sig) → Buf (Elt Ideal) ℓ) (h : Pre_Kernel28Ideal_finite28 m) (c : Dev Cert.Kernel28Ideal.nD) :
    Cert.Kernel28Ideal.Grad.RealArgs m (real2 (m (c.tc.loc Cert.Kernel28Ideal.main_arg1))) (real2 (m (c.tc.loc Cert.Kernel28Ideal.main_arg2)))
      (real2 (m (c.tc.loc Cert.Kernel28Ideal.main_arg0))) (real1 (m (c.tc.loc Cert.Kernel28Ideal.main_arg3))) c := by
  obtain ⟨h0, h1, h2, h3⟩ := h c
  exact ⟨R2_real2 _ (entry_real .bf16 (by decide) (by decide) _ h0), R2_real2 _ (entry_real32 (by decide) _ h1),
    R2_real2 _ (entry_real32 (by decide) _ h2), R1_real1 _ (entry_real32 (by decide) _ h3)⟩

/-- The kernel's three gradients are the reference's. -/
theorem algebraic28 : algebraic_Kernel28Ideal_Reference28Ideal_pre_finite28 (hKernel28Ideal := Cert.Kernel28Ideal.Gen.facts) (hReference28Ideal := Cert.Reference28Ideal.Gen.facts) := by
  intro m ρ m' ρ' hpre hag
  have H := realArgs28 m hpre
  refine ⟨fun c => R2 (gy (real2 (m (c.tc.loc Cert.Kernel28Ideal.main_arg1))) (real2 (m (c.tc.loc Cert.Kernel28Ideal.main_arg2))) (real2 (m (c.tc.loc Cert.Kernel28Ideal.main_arg0))) (real1 (m (c.tc.loc Cert.Kernel28Ideal.main_arg3)))),
    fun c => R2 (gz (real2 (m (c.tc.loc Cert.Kernel28Ideal.main_arg1))) (real2 (m (c.tc.loc Cert.Kernel28Ideal.main_arg2))) (real2 (m (c.tc.loc Cert.Kernel28Ideal.main_arg0))) (real1 (m (c.tc.loc Cert.Kernel28Ideal.main_arg3)))),
    fun c => gg (real2 (m (c.tc.loc Cert.Kernel28Ideal.main_arg1))) (real2 (m (c.tc.loc Cert.Kernel28Ideal.main_arg2))) (real2 (m (c.tc.loc Cert.Kernel28Ideal.main_arg0))),
    (θ_run _ _ _).mono (fun r h c => ?_) (Cert.Kernel28Ideal.Value.run_blocks m ρ),
    (θ_run _ _ _).mono (fun r h c => ?_) (Cert.Reference28Ideal.Value.run m' ρ')⟩
  · exact ⟨(h c).1.trans (Cert.Kernel28Ideal.Grad.array4 (H c)), (h c).2.1.trans (Cert.Kernel28Ideal.Grad.array5 (H c)),
      (h c).2.2.1.trans (Cert.Kernel28Ideal.Grad.array6 (H c)), (h c).2.2.2⟩
  · obtain ⟨hd, hy, hz, hg⟩ := H c
    obtain ⟨e0, e1, e2, e3⟩ := hag c
    refine ⟨(h c).1.trans ?_, (h c).2.1.trans ?_, (h c).2.2.1.trans ?_, (h c).2.2.2⟩
    · rw [Cert.Reference28Ideal.Read.val_main_v47_eq, e0, e1, e2, e3]
      refine Eq.trans ?_ (Cert.Reference28Ideal.Grad.value47 _ _ _ _)
      rw [← hd, ← hy, ← hz, ← hg]
    · rw [Cert.Reference28Ideal.Read.val_main_v48_eq, e0, e1, e2, e3]
      refine Eq.trans ?_ (Cert.Reference28Ideal.Grad.value48 _ _ _ _)
      rw [← hd, ← hy, ← hz, ← hg]
    · rw [Cert.Reference28Ideal.Read.val_main_v49_eq, e0, e1, e2]
      refine Eq.trans ?_ (Cert.Reference28Ideal.Grad.value49 _ _ _)
      rw [← hd, ← hy, ← hz]

end Cert.Proof
end
-- ==== Proof.Grad.Rms.lean ====
/-
  The gradient of the root-mean-square norm over the extended reals: one row `x` of `n` columns is divided by the root of its
  mean square (and a small constant) and scaled by `g`; `d` is the cotangent. No entry has to be finite: a mean square is a
  positive real number or infinite, and where it is infinite the norm's factor is zero.
-/
module

public import proofs.«01_k».proof.Proof.Grad.Norm

@[expose] public section
noncomputable section
namespace Cert.Rms
open Idealize.ShloMosaic Cert.Attn Cert.Norm

theorem c768_eq : Ideal.ofBits .f32 0x44400000#32 = (((768 : ℕ) : ℝ) : EReal) := by
  simp [Ideal.ofBits, Ideal.ieee, -EReal.coe_mul]; norm_num
theorem c256_eq : Ideal.ofBits .f32 0x43800000#32 = (((256 : ℕ) : ℝ) : EReal) := by
  simp [Ideal.ofBits, Ideal.ieee, -EReal.coe_mul]; norm_num

/-- An array of rank two from a function of two numbers, and a vector from a function of one. -/
def E2 {a b : ℕ} (f : ℕ → ℕ → EReal) : (⟨2, ![a, b]⟩ : Shape).Idx → EReal := fun i => f (i 0).val (i 1).val
def E1 {a : ℕ} (f : ℕ → EReal) : (⟨1, ![a]⟩ : Shape).Idx → EReal := fun i => f (i 0).val
/-- The function that an array is. -/
def ext2 {a b : ℕ} (x : (⟨2, ![a, b]⟩ : Shape).Idx → EReal) (i j : ℕ) : EReal := if h : i < a ∧ j < b then x (ix2 ⟨i, h.1⟩ ⟨j, h.2⟩) else 0
def ext1 {a : ℕ} (x : (⟨1, ![a]⟩ : Shape).Idx → EReal) (i : ℕ) : EReal := if h : i < a then x (ix1 ⟨i, h⟩) else 0

theorem E2_ix2 {a b : ℕ} (f : ℕ → ℕ → EReal) (i : Fin a) (j : Fin b) : E2 (a := a) (b := b) f (ix2 i j) = f i.val j.val := rfl
theorem E1_ix1 {a : ℕ} (f : ℕ → EReal) (i : Fin a) : E1 (a := a) f (ix1 i) = f i.val := rfl
theorem E2_ext2 {a b : ℕ} (x : (⟨2, ![a, b]⟩ : Shape).Idx → EReal) : x = E2 (ext2 x) := by
  funext i
  have e : ix2 (i 0) (i 1) = i := by funext a; match a with | ⟨0, _⟩ => rfl | ⟨1, _⟩ => rfl
  show x i = ext2 x (i 0).val (i 1).val
  unfold ext2
  rw [dif_pos ⟨(show (i 0).val < a from (i 0).isLt), (show (i 1).val < b from (i 1).isLt)⟩]
  exact congrArg x e.symm
theorem E1_ext1 {a : ℕ} (x : (⟨1, ![a]⟩ : Shape).Idx → EReal) : x = E1 (ext1 x) := by
  funext i
  have e : ix1 (i 0) = i := by funext a; match a with | ⟨0, _⟩ => rfl
  show x i = ext1 x (i 0).val
  unfold ext1
  rw [dif_pos (show (i 0).val < a from (i 0).isLt)]
  exact congrArg x e.symm

variable (n : ℕ) (x d g : ℕ → EReal)

/-- The mean square and the small constant. -/
def ms : EReal := Ideal.div (∑ k : Fin n, x k.val * x k.val) ((n : ℝ) : EReal) + ((eps : ℝ) : EReal)
/-- The factor of the norm. -/
def rr : EReal := Ideal.rsqrt (ms n x)
/-- The sum of the row against its scaled cotangent. -/
def dot : EReal := ∑ k : Fin n, x k.val * (d k.val * g k.val)
/-- The gradient of the row. -/
def dx (k : ℕ) : EReal := rr n x * (d k * g k) - x k * (rr n x * rr n x * rr n x) * Ideal.div (dot n x d g) ((n : ℝ) : EReal)
/-- The row's part of the gradient of the scale. -/
def dg (k : ℕ) : EReal := d k * x k * rr n x

theorem sq_nonneg' (a : EReal) : 0 ≤ a * a := by
  induction a with
  | bot => simp
  | top => simp
  | coe r => exact_mod_cast mul_self_nonneg r

/-- The mean square is infinite or a positive number. -/
theorem ms_cases (hn : 0 < n) : ms n x = ⊤ ∨ ∃ r : ℝ, 0 < r ∧ ms n x = (r : EReal) := by
  have hn' : (0 : ℝ) < (n : ℝ) := Nat.cast_pos.mpr hn
  have h0 : (0 : EReal) ≤ Ideal.div (∑ k : Fin n, x k.val * x k.val) ((n : ℝ) : EReal) := by
    rw [Ideal.div_coe hn'.ne']
    exact EReal.mul_nonneg (Finset.sum_nonneg fun _ _ => sq_nonneg' _) (by exact_mod_cast (one_div_pos.mpr hn').le)
  unfold ms
  generalize Ideal.div (∑ k : Fin n, x k.val * x k.val) ((n : ℝ) : EReal) = q at h0
  induction q with
  | bot => exact absurd h0 (by simp)
  | top => exact Or.inl (EReal.top_add_coe _)
  | coe q => exact Or.inr ⟨q + eps, add_pos_of_nonneg_of_pos (by exact_mod_cast h0) eps_pos, by norm_cast⟩

/-- Twice a product with a number, one after the other. -/
theorem add_twice (w : EReal) (c : ℝ) : w * (c : EReal) + w * (c : EReal) = w * ((2 * c : ℝ) : EReal) := by
  induction w with
  | coe w => norm_cast; ring
  | top =>
    rcases lt_trichotomy c 0 with h | h | h
    · rw [EReal.top_mul_coe_of_neg h, EReal.top_mul_coe_of_neg (by linarith)]; rfl
    · subst h; simp
    · rw [EReal.top_mul_coe_of_pos h, EReal.top_mul_coe_of_pos (by linarith)]; rfl
  | bot =>
    rcases lt_trichotomy c 0 with h | h | h
    · rw [EReal.bot_mul_coe_of_neg h, EReal.bot_mul_coe_of_neg (by linarith)]; rfl
    · subst h; simp
    · rw [EReal.bot_mul_coe_of_pos h, EReal.bot_mul_coe_of_pos (by linarith)]; rfl

/-- The quotient rule's form of the row's gradient. -/
theorem dx_eq (hn : 0 < n) (k : ℕ) :
    d k * g k * rr n x + x k * Ideal.div (dot n x d g * (((-(1 / 2) : ℝ) : EReal) * Ideal.div (rr n x) (ms n x))) ((n : ℝ) : EReal)
    + Ideal.div (dot n x d g * (((-(1 / 2) : ℝ) : EReal) * Ideal.div (rr n x) (ms n x))) ((n : ℝ) : EReal) * x k = dx n x d g k := by
  have hn' : ((n : ℝ)) ≠ 0 := (Nat.cast_pos.mpr hn).ne'
  unfold dx
  rcases ms_cases n x hn with h | ⟨r, hr, h⟩
  · have e : rr n x = 0 := by unfold rr; rw [h]; rfl
    have e' : Ideal.div 0 (⊤ : EReal) = 0 := by unfold Ideal.div; simp
    rw [e, h, e', Ideal.div_coe hn', Ideal.div_coe hn']
    simp
  · have e : rr n x = (((Real.sqrt r)⁻¹ : ℝ) : EReal) := by
      unfold rr
      rw [h, Ideal.rsqrt_coe, if_neg (not_lt.mpr hr.le), if_neg hr.ne']
    have hs : (Real.sqrt r)⁻¹ * (Real.sqrt r)⁻¹ = 1 / r := by rw [← mul_inv, Real.mul_self_sqrt hr.le, one_div]
    rw [e, h, Ideal.div_coe hr.ne', Ideal.div_coe hn', Ideal.div_coe hn']
    generalize (Real.sqrt r)⁻¹ = s at hs ⊢
    rw [← hs]
    have e1 : dot n x d g * (((-(1 / 2) : ℝ) : EReal) * ((s : ℝ) * ((s * s : ℝ) : EReal))) * ((1 / (n : ℝ) : ℝ) : EReal)
        = dot n x d g * ((-(1 / 2) * (s * (s * s)) * (1 / (n : ℝ)) : ℝ) : EReal) := by
      rw [mul_assoc]; norm_cast
    rw [e1]
    generalize dot n x d g = t
    have e2 : ∀ c : EReal, x k * (t * c) = t * x k * c := fun c => by rw [← mul_assoc, mul_comm (x k)]
    have e3 : x k * ((s : EReal) * (s : EReal) * (s : EReal)) * (t * ((1 / (n : ℝ) : ℝ) : EReal)) = t * x k * ((s * s * s * (1 / (n : ℝ)) : ℝ) : EReal) := by
      rw [mul_mul_mul_comm, mul_comm (x k)]; norm_cast
    rw [e2, mul_right_comm t _ (x k), add_assoc, add_twice, e3, mul_comm (d k * g k), sub_eq_add_neg, ← mul_neg, ← EReal.coe_neg]
    refine congrArg (fun c : ℝ => _ + t * x k * (c : EReal)) ?_
    ring

/-- The gradient of the scale. -/
def gs (X D : ℕ → ℕ → EReal) {w : ℕ} : (⟨2, ![1, w]⟩ : Shape).Idx → EReal := fun c =>
  ∑ i : Fin 8320, dg n (X i.val) (D i.val) (c 1).val

end Cert.Rms
end
-- ==== Proof.Grad.K29.lean ====
/-
  The gradient of the norm of the latents (768 columns).
-/
module

public import proofs.«01_k».proof.Defs
public import proofs.«01_k».proof.Proof.Gen.Kernel29Ideal.Value
public import proofs.«01_k».proof.Proof.Gen.Reference29Ideal.Run
public import proofs.«01_k».proof.Proof.Gen.Reference29Ideal.Read
public import proofs.«01_k».proof.Proof.Grad.Rms
public import Idealize.ShloMosaic.Lib.StableHlo.ReadAt
public import Idealize.ShloMosaic.Lib.Pipeline.ValueKit
public import Idealize.ShloMosaic.Lib.Pointwise

@[expose] public section

set_option maxRecDepth 16384

noncomputable section

namespace Cert.Kernel29Ideal.Grad

open Cert.Kernel29Ideal Cert.Kernel29Ideal.Gen Idealize.ShloMosaic Idealize.ShloMosaic.TcCoe Idealize.SL.Sem Cert.Attn Cert.Norm Cert.Rms

section Payloads
variable (x d : ℕ → ℕ → EReal) (g : ℕ → EReal)

theorem p4 (p : Fin 640) (q : Fin 1) : k0_pay4 (F := Ideal) (E2 x) (ix2 p q) = rr 768 (x p.val) := by
  pointwise [k0_pay4, k0_pay2]
  simp only [E2_ix2]
  rw [c768_eq, eps_eq]
  rfl
theorem p5 (p : Fin 640) (q : Fin 768) : k0_pay5 (F := Ideal) (E2 x) (E2 d) (E2 fun _ => g) (ix2 p q) = (dx 768 (x p.val) (d p.val) g q.val) := by
  pointwise [k0_pay5, k0_pay3, k0_pay2]
  simp only [p4, E2_ix2]
  rw [c768_eq]
  rfl
theorem p6 (p : Fin 1) (q : Fin 768) : k0_pay6 (F := Ideal) (E2 x) (E2 d) (ix2 p q)
    = ∑ k : Fin 640, (dg 768 (x k.val) (d k.val) q.val) := by
  pointwise [k0_pay6, k0_pay3, k0_pay2]
  simp only [p4, E2_ix2]
  rfl
/-- The accumulating store at an entry: what was there, plus the block's sum. -/
theorem step (a : Vec Ideal S1x768 .f32) (j : S1x768.Idx) :
    k0_pay1 (F := Ideal) (k0_pay6 (E2 x) (E2 d)) a j = a j + ∑ k : Fin 640, (dg 768 (x k.val) (d k.val) (j 1).val) := by
  idx_vars j
  rw [← p6 x d j0 j1]
  unfold k0_pay1
  rw [shapeCast_self]
  rfl
end Payloads

variable (m : (ℓ : Loc nD τ sig) → Buf (Elt Ideal) ℓ) (X D : ℕ → ℕ → EReal) (G : ℕ → EReal)

/-- The arguments are these arrays. -/
structure Args (c : Dev nD) : Prop where
  d : m ((c.tc : Thread nD τ).loc main_arg0) = E2 D
  x : m ((c.tc : Thread nD τ).loc main_arg1) = E2 X
  g : m ((c.tc : Thread nD τ).loc main_arg2) = E1 G

theorem index_0 : ∀ t : Fin grid0.N, win0_0.index t = ![t.val, 0] := by decide +kernel
theorem index_1 : ∀ t : Fin grid0.N, win0_1.index t = ![t.val, 0] := by decide +kernel
theorem index_2 : ∀ t : Fin grid0.N, win0_2.index t = ![0, 0] := by decide +kernel
theorem index_3 : ∀ t : Fin grid0.N, win0_3.index t = ![t.val, 0] := by decide +kernel
theorem index_4 : ∀ t : Fin grid0.N, win0_4.index t = ![0, 0] := by decide +kernel

/-- A block of the rows of an array. -/
def blk (f : ℕ → ℕ → EReal) (t p : ℕ) : ℕ → EReal := f (t * 640 + p)

variable {X D G} {m} {c : Dev nD} (H : Args m X D G c)
include H

/-- The projection's columns that hold the latents. -/
theorem proj_x (i : Fin 8320) (k : Fin 768) :
    V m c main_v1 (ix2 i ⟨0 + k.val, by omega⟩) = X i.val k.val := by
  have e : V m c main_v1 (ix2 i ⟨0 + k.val, by omega⟩) = m ((c.tc : Thread nD τ).loc main_arg1) (ix2 i k) := by
    unfold V
    simp only [hostOps0, List.flatten_cons, List.flatten_nil, List.append_nil, List.cons_append, List.nil_append]
    after_reads_at
  rw [e, H.x]
  rfl

/-- The row of scales. -/
theorem scale (k : Fin 768) : V m c main_v2 (ix2 0 k) = G k.val := by
  have e : V m c main_v2 (ix2 0 k) = m ((c.tc : Thread nD τ).loc main_arg2) (ix1 k) := by
    unfold V
    simp only [hostOps0, List.flatten_cons, List.flatten_nil, List.append_nil, List.cons_append, List.nil_append]
    after_reads_at
  rw [e, H.g]
  rfl

/-- The blocks at a point. -/
theorem block_0 (t : Fin cfg0.N) : iblk m c 0 t = E2 (blk D t.val) := by
  funext y
  show V m c main_arg0 (((View.whole main_arg0).slice (win0_0.rect t)).emb y) = _
  rw [V_main_arg0, H.d]
  refine (congrArg₂ D ?_ ?_)
  · show win0_0.index t 0 * 640 + 1 * (y 0).val = _
    rw [index_0]; show t.val * 640 + 1 * (y 0).val = t.val * 640 + (y 0).val; omega
  · show win0_0.index t 1 * 768 + 1 * (y 1).val = _
    rw [index_0]; show 0 * 768 + 1 * (y 1).val = (y 1).val; omega
theorem block_1 (t : Fin cfg0.N) : iblk m c 1 t = E2 (blk X t.val) := by
  funext y
  have hy0 : (y 0).val < 640 := (y 0).isLt
  have hy1 : (y 1).val < 768 := (y 1).isLt
  have ht : t.val < 13 := t.isLt
  show V m c main_v1 (((View.whole main_v1).slice (win0_1.rect t)).emb y) = _
  refine Eq.trans ?_ (proj_x H ⟨t.val * 640 + (y 0).val, by omega⟩ ⟨(y 1).val, by omega⟩)
  refine congrArg (V m c main_v1) (funext fun a => Fin.ext ?_)
  fin_cases a
  · show win0_1.index t 0 * 640 + 1 * (y 0).val = t.val * 640 + (y 0).val
    rw [index_1]; show t.val * 640 + 1 * (y 0).val = t.val * 640 + (y 0).val; omega
  · show win0_1.index t 1 * 768 + 1 * (y 1).val = 0 + (y 1).val
    rw [index_1]; show 0 * 768 + 1 * (y 1).val = 0 + (y 1).val; omega
theorem block_2 (t : Fin cfg0.N) : iblk m c 2 t = E2 (fun _ => G) := by
  funext y
  have hy0 : (y 0).val < 1 := (y 0).isLt
  have hy1 : (y 1).val < 768 := (y 1).isLt
  show V m c main_v2 (((View.whole main_v2).slice (win0_2.rect t)).emb y) = _
  refine Eq.trans ?_ (scale H ⟨(y 1).val, by omega⟩)
  refine congrArg (V m c main_v2) (funext fun a => Fin.ext ?_)
  fin_cases a
  · show win0_2.index t 0 * 1 + 1 * (y 0).val = 0
    rw [index_2]; show 0 * 1 + 1 * (y 0).val = 0; omega
  · show win0_2.index t 1 * 768 + 1 * (y 1).val = (y 1).val
    rw [index_2]; show 0 * 768 + 1 * (y 1).val = (y 1).val; omega

omit H in
/-- Where a block's entries lie in the result. -/
theorem place_3 (f : ℕ → ℕ → EReal) (t : Fin cfg0.N) (p : Fin 640) (q : Fin 768) :
    E2 f (((View.whole main_v3_0).slice (win0_3.rect t)).emb (ix2 p q)) = f (t.val * 640 + p.val) q.val := by
  refine (congrArg₂ f ?_ ?_)
  · show win0_3.index t 0 * 640 + 1 * p.val = _
    rw [index_3]; show t.val * 640 + 1 * p.val = _; omega
  · show win0_3.index t 1 * 768 + 1 * q.val = _
    rw [index_3]; show 0 * 768 + 1 * q.val = _; omega

/-- The gradient of the rows. -/
theorem array3 : (dats m 0 c).arrAt 3 cfg0.N = E2 (fun i => dx 768 (X i) (D i) G) := by
  refine (dats m 0 c).arrAt_eq_of_covers 3 _ (by decide +kernel) fun t hf y => ?_
  have ht : t.val < 13 := t.isLt
  blk_simp
  rw [after0_3]
  by_cases h : t.val % 13 = 0
  · rw [outsAt0_A m c t h (by omega)]
    frame_out
    rw [block_0 H, block_1 H, block_2 H]
    idx_vars y
    rw [p5, place_3]
    rfl
  · rw [outsAt0_B m c t h (by omega)]
    frame_out
    rw [block_0 H, block_1 H, block_2 H]
    idx_vars y
    rw [p5, place_3]
    rfl

/-- The gradient of the scale. -/
theorem array4 : (dats m 0 c).arrAt 4 cfg0.N = gs 768 X D := by
  refine (dats m 0 c).arrAt_eq_of_covers 4 _ (by decide +kernel) fun t hf y => ?_
  have hm := (flush0_4 t).mp hf
  have ht : t.val < 13 := t.isLt
  blk_simp
  rw [after0_4, Pipeline.eq_sum_fin_of_reset_step_apply_of_flush (fun n h => (outsAt0 m c n h).2) 13 (fun _ => (0 : EReal))
    (fun t j => ∑ k : Fin 640, (dg 768 (blk X t.val k.val) (blk D t.val k.val) (j 1).val))
    (fun t h j => by
      have ht : t.val < 13 := t.isLt
      rw [outsAt0_A m c t h (by omega)]; frame_out
      rw [block_0 H, block_1 H]
      idx_vars j
      rw [p6, zero_add])
    (fun t h j => by
      rw [outsAt0_B m c t h (by omega)]; frame_out
      rw [block_0 H, block_1 H, step]) t hm _, zero_add]
  unfold gs
  refine Fin.sum_mul_add_congr fun s k hl => ?_
  have hs : s.val < 13 := s.isLt
  have e : ((win0_4.blk t).view.emb y 1).val = (y 1).val := by
    show win0_4.index t 1 * 768 + 1 * (y 1).val = _
    rw [index_4]; show 0 * 768 + 1 * (y 1).val = _; omega
  rw [e]
  show (dg 768 (X ((13 * (t.val / 13) + s.val) * 640 + k.val)) (D ((13 * (t.val / 13) + s.val) * 640 + k.val)) (y 1).val) = _
  rw [show 13 * (t.val / 13) + s.val = s.val by omega]

end Cert.Kernel29Ideal.Grad

namespace Cert.Reference29Ideal.Grad

open Cert.Reference29Ideal Cert.Reference29Ideal.Read Idealize.ShloMosaic Idealize.SL.Sem Cert.Attn Cert.Norm Cert.Rms

variable (X D : ℕ → ℕ → EReal) (G : ℕ → EReal)

theorem s6 (i : Fin 8320) (k : Fin 1) : val_main_v6 (F := Ideal) (E2 X) (ix2 i k) = ms 768 (X i.val) := by
  pointwise [val_main_v6, val_main_v5, val_main_cst_1, val_main_v4, val_main_v3, val_main_cst_0, val_main_v2, val_main_v1, val_main_cst, val_main_v0]
  simp only [E2_ix2]
  rw [c768_eq, eps_eq]
  rfl
theorem s7 (i : Fin 8320) (k : Fin 1) : val_main_v7 (F := Ideal) (E2 X) (ix2 i k) = rr 768 (X i.val) := by
  pointwise [val_main_v7]
  rw [s6]
  rfl
theorem s10 (i : Fin 8320) (k : Fin 1) : val_main_v10 (F := Ideal) (E2 X) (ix2 i k) = ((-(1 / 2) : ℝ) : EReal) * Ideal.div (rr 768 (X i.val)) (ms 768 (X i.val)) := by
  pointwise [val_main_v10, val_main_v9, val_main_cst_2, val_main_v8]
  rw [s6, s7, half_eq]
theorem s21 (i : Fin 8320) (k : Fin 768) : val_main_v21 (F := Ideal) (E2 D) (E1 G) (ix2 i k) = D i.val k.val * G k.val := by
  pointwise [val_main_v21, val_main_v16, val_main_v20, val_main_v13]
  rw [E2_ix2, E1_ix1]
theorem s30 (i : Fin 8320) (k : Fin 1) : val_main_v30 (F := Ideal) (E2 D) (E2 X) (E1 G) (ix2 i k)
    = Ideal.div (dot 768 (X i.val) (D i.val) G * (((-(1 / 2) : ℝ) : EReal) * Ideal.div (rr 768 (X i.val)) (ms 768 (X i.val)))) (((768 : ℕ) : ℝ) : EReal) := by
  pointwise [val_main_v30, val_main_v29, val_main_cst_6, val_main_v28, val_main_v25, val_main_v24, val_main_cst_5, val_main_v23]
  simp only [s21, s10, E2_ix2]
  rw [c768_eq]
  rfl

/-- The gradient of the rows. -/
theorem value37 : val_main_v37 (F := Ideal) (E2 D) (E2 X) (E1 G) = E2 (fun i => dx 768 (X i) (D i) G) := by
  funext i
  idx_vars i
  pointwise [val_main_v37, val_main_v36, val_main_v35, val_main_v34, val_main_v33, val_main_v32, val_main_v31, val_main_cst_7, val_main_v27, val_main_v26]
  simp only [s21, s7, s30, E2_ix2, Finset.univ_unique, Finset.sum_singleton]
  rw [dx_eq _ _ _ _ (by norm_num)]

/-- The gradient of the scale. -/
theorem value38 : val_main_v38 (F := Ideal) (E2 D) (E2 X) = gs 768 X D := by
  funext i
  idx_vars i
  pointwise [val_main_v38, val_main_v22, val_main_cst_4, val_main_v19, val_main_v18, val_main_cst_3, val_main_v17, val_main_v16, val_main_v12, val_main_v11, gs]
  simp only [s7, E2_ix2, Finset.univ_unique, Finset.sum_singleton]
  refine Finset.sum_congr rfl fun x _ => ?_
  unfold dg
  rw [mul_comm, ← mul_assoc]

end Cert.Reference29Ideal.Grad
namespace Cert.Proof

open Idealize.ShloMosaic Idealize.SL.Sem Cert.Attn Cert.Norm Cert.Rms

/-- The arguments, as functions of the entry's numbers. -/
theorem args29 (m : (ℓ : Loc Cert.Kernel29Ideal.nD Cert.Kernel29Ideal.τ Cert.Kernel29Ideal.sig) → Buf (Elt Ideal) ℓ) (c : Dev Cert.Kernel29Ideal.nD) :
    Cert.Kernel29Ideal.Grad.Args m (ext2 (m (c.tc.loc Cert.Kernel29Ideal.main_arg1))) (ext2 (m (c.tc.loc Cert.Kernel29Ideal.main_arg0)))
      (ext1 (m (c.tc.loc Cert.Kernel29Ideal.main_arg2))) c :=
  ⟨E2_ext2 _, E2_ext2 _, E1_ext1 _⟩

/-- The kernel's two gradients are the reference's. -/
theorem algebraic29 : algebraic_Kernel29Ideal_Reference29Ideal (hKernel29Ideal := Cert.Kernel29Ideal.Gen.facts) (hReference29Ideal := Cert.Reference29Ideal.Gen.facts) := by
  intro m ρ m' ρ' _ hag
  have H := args29 m
  refine ⟨fun c => E2 (fun i => dx 768 (ext2 (m (c.tc.loc Cert.Kernel29Ideal.main_arg1)) i) (ext2 (m (c.tc.loc Cert.Kernel29Ideal.main_arg0)) i) (ext1 (m (c.tc.loc Cert.Kernel29Ideal.main_arg2)))),
    fun c => gs 768 (ext2 (m (c.tc.loc Cert.Kernel29Ideal.main_arg1))) (ext2 (m (c.tc.loc Cert.Kernel29Ideal.main_arg0))),
    (θ_run _ _ _).mono (fun r h c => ?_) (Cert.Kernel29Ideal.Value.run_blocks m ρ),
    (θ_run _ _ _).mono (fun r h c => ?_) (Cert.Reference29Ideal.Value.run m' ρ')⟩
  · exact ⟨(h c).1.trans (Cert.Kernel29Ideal.Grad.array3 (H c)), (h c).2.1.trans (Cert.Kernel29Ideal.Grad.array4 (H c)), (h c).2.2⟩
  · obtain ⟨hd, hx, hg⟩ := H c
    obtain ⟨e0, e1, e2⟩ := hag c
    refine ⟨(h c).1.trans ?_, (h c).2.1.trans ?_, (h c).2.2⟩
    · rw [Cert.Reference29Ideal.Read.val_main_v37_eq, e0, e1, e2]
      refine Eq.trans ?_ (Cert.Reference29Ideal.Grad.value37 _ _ _)
      rw [← hd, ← hx, ← hg]
    · rw [Cert.Reference29Ideal.Read.val_main_v38_eq, e0, e1]
      refine Eq.trans ?_ (Cert.Reference29Ideal.Grad.value38 _ _)
      rw [← hd, ← hx]

end Cert.Proof
end
-- ==== Proof.Grad.K30.lean ====
/-
  The gradient of the norm of the latents (256 columns).
-/
module

public import proofs.«01_k».proof.Defs
public import proofs.«01_k».proof.Proof.Gen.Kernel30Ideal.Value
public import proofs.«01_k».proof.Proof.Gen.Reference30Ideal.Run
public import proofs.«01_k».proof.Proof.Gen.Reference30Ideal.Read
public import proofs.«01_k».proof.Proof.Grad.Rms
public import Idealize.ShloMosaic.Lib.StableHlo.ReadAt
public import Idealize.ShloMosaic.Lib.Pipeline.ValueKit
public import Idealize.ShloMosaic.Lib.Pointwise

@[expose] public section

set_option maxRecDepth 16384

noncomputable section

namespace Cert.Kernel30Ideal.Grad

open Cert.Kernel30Ideal Cert.Kernel30Ideal.Gen Idealize.ShloMosaic Idealize.ShloMosaic.TcCoe Idealize.SL.Sem Cert.Attn Cert.Norm Cert.Rms

section Payloads
variable (x d : ℕ → ℕ → EReal) (g : ℕ → EReal)

theorem p4 (p : Fin 640) (q : Fin 1) : k0_pay4 (F := Ideal) (E2 x) (ix2 p q) = rr 256 (x p.val) := by
  pointwise [k0_pay4, k0_pay2]
  simp only [E2_ix2]
  rw [c256_eq, eps_eq]
  rfl
theorem p5 (p : Fin 640) (q : Fin 256) : k0_pay5 (F := Ideal) (E2 x) (E2 d) (E2 fun _ => g) (ix2 p q) = (dx 256 (x p.val) (d p.val) g q.val) := by
  pointwise [k0_pay5, k0_pay3, k0_pay2]
  simp only [p4, E2_ix2]
  rw [c256_eq]
  rfl
theorem p6 (p : Fin 1) (q : Fin 256) : k0_pay6 (F := Ideal) (E2 x) (E2 d) (ix2 p q)
    = ∑ k : Fin 640, (dg 256 (x k.val) (d k.val) q.val) := by
  pointwise [k0_pay6, k0_pay3, k0_pay2]
  simp only [p4, E2_ix2]
  rfl
/-- The accumulating store at an entry: what was there, plus the block's sum. -/
theorem step (a : Vec Ideal S1x256 .f32) (j : S1x256.Idx) :
    k0_pay1 (F := Ideal) (k0_pay6 (E2 x) (E2 d)) a j = a j + ∑ k : Fin 640, (dg 256 (x k.val) (d k.val) (j 1).val) := by
  idx_vars j
  rw [← p6 x d j0 j1]
  unfold k0_pay1
  rw [shapeCast_self]
  rfl
end Payloads

variable (m : (ℓ : Loc nD τ sig) → Buf (Elt Ideal) ℓ) (X D : ℕ → ℕ → EReal) (G : ℕ → EReal)

/-- The arguments are these arrays. -/
structure Args (c : Dev nD) : Prop where
  d : m ((c.tc : Thread nD τ).loc main_arg0) = E2 D
  x : m ((c.tc : Thread nD τ).loc main_arg1) = E2 X
  g : m ((c.tc : Thread nD τ).loc main_arg2) = E1 G

theorem index_0 : ∀ t : Fin grid0.N, win0_0.index t = ![t.val, 0] := by decide +kernel
theorem index_1 : ∀ t : Fin grid0.N, win0_1.index t = ![t.val, 3] := by decide +kernel
theorem index_2 : ∀ t : Fin grid0.N, win0_2.index t = ![0, 0] := by decide +kernel
theorem index_3 : ∀ t : Fin grid0.N, win0_3.index t = ![t.val, 0] := by decide +kernel
theorem index_4 : ∀ t : Fin grid0.N, win0_4.index t = ![0, 0] := by decide +kernel

/-- A block of the rows of an array. -/
def blk (f : ℕ → ℕ → EReal) (t p : ℕ) : ℕ → EReal := f (t * 640 + p)

variable {X D G} {m} {c : Dev nD} (H : Args m X D G c)
include H

/-- The projection's columns that hold the latents. -/
theorem proj_x (i : Fin 8320) (k : Fin 256) :
    V m c main_v2 (ix2 i ⟨768 + k.val, by omega⟩) = X i.val k.val := by
  have e : V m c main_v2 (ix2 i ⟨768 + k.val, by omega⟩) = m ((c.tc : Thread nD τ).loc main_arg1) (ix2 i k) := by
    unfold V
    simp only [hostOps0, List.flatten_cons, List.flatten_nil, List.append_nil, List.cons_append, List.nil_append]
    after_reads_at
  rw [e, H.x]
  rfl

/-- The row of scales. -/
theorem scale (k : Fin 256) : V m c main_v3 (ix2 0 k) = G k.val := by
  have e : V m c main_v3 (ix2 0 k) = m ((c.tc : Thread nD τ).loc main_arg2) (ix1 k) := by
    unfold V
    simp only [hostOps0, List.flatten_cons, List.flatten_nil, List.append_nil, List.cons_append, List.nil_append]
    after_reads_at
  rw [e, H.g]
  rfl

/-- The blocks at a point. -/
theorem block_0 (t : Fin cfg0.N) : iblk m c 0 t = E2 (blk D t.val) := by
  funext y
  show V m c main_arg0 (((View.whole main_arg0).slice (win0_0.rect t)).emb y) = _
  rw [V_main_arg0, H.d]
  refine (congrArg₂ D ?_ ?_)
  · show win0_0.index t 0 * 640 + 1 * (y 0).val = _
    rw [index_0]; show t.val * 640 + 1 * (y 0).val = t.val * 640 + (y 0).val; omega
  · show win0_0.index t 1 * 256 + 1 * (y 1).val = _
    rw [index_0]; show 0 * 256 + 1 * (y 1).val = (y 1).val; omega
theorem block_1 (t : Fin cfg0.N) : iblk m c 1 t = E2 (blk X t.val) := by
  funext y
  have hy0 : (y 0).val < 640 := (y 0).isLt
  have hy1 : (y 1).val < 256 := (y 1).isLt
  have ht : t.val < 13 := t.isLt
  show V m c main_v2 (((View.whole main_v2).slice (win0_1.rect t)).emb y) = _
  refine Eq.trans ?_ (proj_x H ⟨t.val * 640 + (y 0).val, by omega⟩ ⟨(y 1).val, by omega⟩)
  refine congrArg (V m c main_v2) (funext fun a => Fin.ext ?_)
  fin_cases a
  · show win0_1.index t 0 * 640 + 1 * (y 0).val = t.val * 640 + (y 0).val
    rw [index_1]; show t.val * 640 + 1 * (y 0).val = t.val * 640 + (y 0).val; omega
  · show win0_1.index t 1 * 256 + 1 * (y 1).val = 768 + (y 1).val
    rw [index_1]; show 3 * 256 + 1 * (y 1).val = 768 + (y 1).val; omega
theorem block_2 (t : Fin cfg0.N) : iblk m c 2 t = E2 (fun _ => G) := by
  funext y
  have hy0 : (y 0).val < 1 := (y 0).isLt
  have hy1 : (y 1).val < 256 := (y 1).isLt
  show V m c main_v3 (((View.whole main_v3).slice (win0_2.rect t)).emb y) = _
  refine Eq.trans ?_ (scale H ⟨(y 1).val, by omega⟩)
  refine congrArg (V m c main_v3) (funext fun a => Fin.ext ?_)
  fin_cases a
  · show win0_2.index t 0 * 1 + 1 * (y 0).val = 0
    rw [index_2]; show 0 * 1 + 1 * (y 0).val = 0; omega
  · show win0_2.index t 1 * 256 + 1 * (y 1).val = (y 1).val
    rw [index_2]; show 0 * 256 + 1 * (y 1).val = (y 1).val; omega

omit H in
/-- Where a block's entries lie in the result. -/
theorem place_3 (f : ℕ → ℕ → EReal) (t : Fin cfg0.N) (p : Fin 640) (q : Fin 256) :
    E2 f (((View.whole main_v4_0).slice (win0_3.rect t)).emb (ix2 p q)) = f (t.val * 640 + p.val) q.val := by
  refine (congrArg₂ f ?_ ?_)
  · show win0_3.index t 0 * 640 + 1 * p.val = _
    rw [index_3]; show t.val * 640 + 1 * p.val = _; omega
  · show win0_3.index t 1 * 256 + 1 * q.val = _
    rw [index_3]; show 0 * 256 + 1 * q.val = _; omega

/-- The gradient of the rows. -/
theorem array3 : (dats m 0 c).arrAt 3 cfg0.N = E2 (fun i => dx 256 (X i) (D i) G) := by
  refine (dats m 0 c).arrAt_eq_of_covers 3 _ (by decide +kernel) fun t hf y => ?_
  have ht : t.val < 13 := t.isLt
  blk_simp
  rw [after0_3]
  by_cases h : t.val % 13 = 0
  · rw [outsAt0_A m c t h (by omega)]
    frame_out
    rw [block_0 H, block_1 H, block_2 H]
    idx_vars y
    rw [p5, place_3]
    rfl
  · rw [outsAt0_B m c t h (by omega)]
    frame_out
    rw [block_0 H, block_1 H, block_2 H]
    idx_vars y
    rw [p5, place_3]
    rfl

/-- The gradient of the scale. -/
theorem array4 : (dats m 0 c).arrAt 4 cfg0.N = gs 256 X D := by
  refine (dats m 0 c).arrAt_eq_of_covers 4 _ (by decide +kernel) fun t hf y => ?_
  have hm := (flush0_4 t).mp hf
  have ht : t.val < 13 := t.isLt
  blk_simp
  rw [after0_4, Pipeline.eq_sum_fin_of_reset_step_apply_of_flush (fun n h => (outsAt0 m c n h).2) 13 (fun _ => (0 : EReal))
    (fun t j => ∑ k : Fin 640, (dg 256 (blk X t.val k.val) (blk D t.val k.val) (j 1).val))
    (fun t h j => by
      have ht : t.val < 13 := t.isLt
      rw [outsAt0_A m c t h (by omega)]; frame_out
      rw [block_0 H, block_1 H]
      idx_vars j
      rw [p6, zero_add])
    (fun t h j => by
      rw [outsAt0_B m c t h (by omega)]; frame_out
      rw [block_0 H, block_1 H, step]) t hm _, zero_add]
  unfold gs
  refine Fin.sum_mul_add_congr fun s k hl => ?_
  have hs : s.val < 13 := s.isLt
  have e : ((win0_4.blk t).view.emb y 1).val = (y 1).val := by
    show win0_4.index t 1 * 256 + 1 * (y 1).val = _
    rw [index_4]; show 0 * 256 + 1 * (y 1).val = _; omega
  rw [e]
  show (dg 256 (X ((13 * (t.val / 13) + s.val) * 640 + k.val)) (D ((13 * (t.val / 13) + s.val) * 640 + k.val)) (y 1).val) = _
  rw [show 13 * (t.val / 13) + s.val = s.val by omega]

end Cert.Kernel30Ideal.Grad

namespace Cert.Reference30Ideal.Grad

open Cert.Reference30Ideal Cert.Reference30Ideal.Read Idealize.ShloMosaic Idealize.SL.Sem Cert.Attn Cert.Norm Cert.Rms

variable (X D : ℕ → ℕ → EReal) (G : ℕ → EReal)

theorem s6 (i : Fin 8320) (k : Fin 1) : val_main_v6 (F := Ideal) (E2 X) (ix2 i k) = ms 256 (X i.val) := by
  pointwise [val_main_v6, val_main_v5, val_main_cst_1, val_main_v4, val_main_v3, val_main_cst_0, val_main_v2, val_main_v1, val_main_cst, val_main_v0]
  simp only [E2_ix2]
  rw [c256_eq, eps_eq]
  rfl
theorem s7 (i : Fin 8320) (k : Fin 1) : val_main_v7 (F := Ideal) (E2 X) (ix2 i k) = rr 256 (X i.val) := by
  pointwise [val_main_v7]
  rw [s6]
  rfl
theorem s10 (i : Fin 8320) (k : Fin 1) : val_main_v10 (F := Ideal) (E2 X) (ix2 i k) = ((-(1 / 2) : ℝ) : EReal) * Ideal.div (rr 256 (X i.val)) (ms 256 (X i.val)) := by
  pointwise [val_main_v10, val_main_v9, val_main_cst_2, val_main_v8]
  rw [s6, s7, half_eq]
theorem s21 (i : Fin 8320) (k : Fin 256) : val_main_v21 (F := Ideal) (E2 D) (E1 G) (ix2 i k) = D i.val k.val * G k.val := by
  pointwise [val_main_v21, val_main_v16, val_main_v20, val_main_v13]
  rw [E2_ix2, E1_ix1]
theorem s30 (i : Fin 8320) (k : Fin 1) : val_main_v30 (F := Ideal) (E2 D) (E2 X) (E1 G) (ix2 i k)
    = Ideal.div (dot 256 (X i.val) (D i.val) G * (((-(1 / 2) : ℝ) : EReal) * Ideal.div (rr 256 (X i.val)) (ms 256 (X i.val)))) (((256 : ℕ) : ℝ) : EReal) := by
  pointwise [val_main_v30, val_main_v29, val_main_cst_6, val_main_v28, val_main_v25, val_main_v24, val_main_cst_5, val_main_v23]
  simp only [s21, s10, E2_ix2]
  rw [c256_eq]
  rfl

/-- The gradient of the rows. -/
theorem value37 : val_main_v37 (F := Ideal) (E2 D) (E2 X) (E1 G) = E2 (fun i => dx 256 (X i) (D i) G) := by
  funext i
  idx_vars i
  pointwise [val_main_v37, val_main_v36, val_main_v35, val_main_v34, val_main_v33, val_main_v32, val_main_v31, val_main_cst_7, val_main_v27, val_main_v26]
  simp only [s21, s7, s30, E2_ix2, Finset.univ_unique, Finset.sum_singleton]
  rw [dx_eq _ _ _ _ (by norm_num)]

/-- The gradient of the scale. -/
theorem value38 : val_main_v38 (F := Ideal) (E2 D) (E2 X) = gs 256 X D := by
  funext i
  idx_vars i
  pointwise [val_main_v38, val_main_v22, val_main_cst_4, val_main_v19, val_main_v18, val_main_cst_3, val_main_v17, val_main_v16, val_main_v12, val_main_v11, gs]
  simp only [s7, E2_ix2, Finset.univ_unique, Finset.sum_singleton]
  refine Finset.sum_congr rfl fun x _ => ?_
  unfold dg
  rw [mul_comm, ← mul_assoc]

end Cert.Reference30Ideal.Grad
namespace Cert.Proof

open Idealize.ShloMosaic Idealize.SL.Sem Cert.Attn Cert.Norm Cert.Rms

/-- The arguments, as functions of the entry's numbers. -/
theorem args30 (m : (ℓ : Loc Cert.Kernel30Ideal.nD Cert.Kernel30Ideal.τ Cert.Kernel30Ideal.sig) → Buf (Elt Ideal) ℓ) (c : Dev Cert.Kernel30Ideal.nD) :
    Cert.Kernel30Ideal.Grad.Args m (ext2 (m (c.tc.loc Cert.Kernel30Ideal.main_arg1))) (ext2 (m (c.tc.loc Cert.Kernel30Ideal.main_arg0)))
      (ext1 (m (c.tc.loc Cert.Kernel30Ideal.main_arg2))) c :=
  ⟨E2_ext2 _, E2_ext2 _, E1_ext1 _⟩

/-- The kernel's two gradients are the reference's. -/
theorem algebraic30 : algebraic_Kernel30Ideal_Reference30Ideal (hKernel30Ideal := Cert.Kernel30Ideal.Gen.facts) (hReference30Ideal := Cert.Reference30Ideal.Gen.facts) := by
  intro m ρ m' ρ' _ hag
  have H := args30 m
  refine ⟨fun c => E2 (fun i => dx 256 (ext2 (m (c.tc.loc Cert.Kernel30Ideal.main_arg1)) i) (ext2 (m (c.tc.loc Cert.Kernel30Ideal.main_arg0)) i) (ext1 (m (c.tc.loc Cert.Kernel30Ideal.main_arg2)))),
    fun c => gs 256 (ext2 (m (c.tc.loc Cert.Kernel30Ideal.main_arg1))) (ext2 (m (c.tc.loc Cert.Kernel30Ideal.main_arg0))),
    (θ_run _ _ _).mono (fun r h c => ?_) (Cert.Kernel30Ideal.Value.run_blocks m ρ),
    (θ_run _ _ _).mono (fun r h c => ?_) (Cert.Reference30Ideal.Value.run m' ρ')⟩
  · exact ⟨(h c).1.trans (Cert.Kernel30Ideal.Grad.array3 (H c)), (h c).2.1.trans (Cert.Kernel30Ideal.Grad.array4 (H c)), (h c).2.2⟩
  · obtain ⟨hd, hx, hg⟩ := H c
    obtain ⟨e0, e1, e2⟩ := hag c
    refine ⟨(h c).1.trans ?_, (h c).2.1.trans ?_, (h c).2.2⟩
    · rw [Cert.Reference30Ideal.Read.val_main_v37_eq, e0, e1, e2]
      refine Eq.trans ?_ (Cert.Reference30Ideal.Grad.value37 _ _ _)
      rw [← hd, ← hx, ← hg]
    · rw [Cert.Reference30Ideal.Read.val_main_v38_eq, e0, e1]
      refine Eq.trans ?_ (Cert.Reference30Ideal.Grad.value38 _ _)
      rw [← hd, ← hx]

end Cert.Proof
end
-- ==== Proof.Grad.Ln.lean ====
/-
  The gradient of the layer norm in real numbers: one row `x` of 1024 columns, less its mean, divided by the root of its variance (and
  a small constant) and scaled by `g`; `d` is the cotangent.
-/
module

public import proofs.«01_k».proof.Proof.Grad.Norm

@[expose] public section
noncomputable section
namespace Cert.Ln
open Idealize.ShloMosaic Cert.Attn Cert.Norm

/-- The small constant: the value of the literal 1e-5. -/
def eps : ℝ := (Ideal.ofBits .f32 0x3727C5AC#32).toReal

theorem eps_val : ∃ r : ℝ, 0 < r ∧ Ideal.ofBits .f32 0x3727C5AC#32 = (r : EReal) := by
  refine ⟨10995116 * (2 : ℝ) ^ (-40 : ℤ), by positivity, ?_⟩
  simp [Ideal.ofBits, Ideal.ieee, -EReal.coe_mul]

theorem eps_eq : Ideal.ofBits .f32 0x3727C5AC#32 = ((eps : ℝ) : EReal) := by
  obtain ⟨r, -, hr⟩ := eps_val
  unfold eps
  rw [hr, EReal.toReal_coe]

theorem eps_pos : 0 < eps := by
  obtain ⟨r, h, hr⟩ := eps_val
  unfold eps
  rw [hr, EReal.toReal_coe]
  exact h

theorem c1024_eq : Ideal.ofBits .f32 0x44800000#32 = ((1024 : ℝ) : EReal) := by
  simp [Ideal.ofBits, Ideal.ieee, -EReal.coe_mul]; norm_num

theorem c2_eq : Ideal.ofBits .f32 0x40000000#32 = ((2 : ℝ) : EReal) := by
  simp [Ideal.ofBits, Ideal.ieee, -EReal.coe_mul]; norm_num

variable (x d g : ℕ → ℝ)

/-- The row's mean. -/
def mu : ℝ := (∑ k ∈ Finset.range 1024, x k) / 1024
/-- The row less its mean. -/
def xc (k : ℕ) : ℝ := x k - mu x
/-- The variance and the small constant. -/
def va : ℝ := (∑ k ∈ Finset.range 1024, xc x k * xc x k) / 1024 + eps
/-- The factor of the norm. -/
def rs : ℝ := (Real.sqrt (va x))⁻¹
/-- The normalised row. -/
def xh (k : ℕ) : ℝ := xc x k * rs x
/-- The mean of the scaled cotangent, and its mean against the normalised row. -/
def m1 : ℝ := (∑ k ∈ Finset.range 1024, d k * g k) / 1024
def m2 : ℝ := (∑ k ∈ Finset.range 1024, d k * g k * xh x k) / 1024
/-- The gradient of the row. -/
def dx (k : ℕ) : ℝ := rs x * (d k * g k - m1 d g - xh x k * m2 x d g)

theorem va_pos : 0 < va x :=
  add_pos_of_nonneg_of_pos (div_nonneg (Finset.sum_nonneg fun _ _ => mul_self_nonneg _) (by norm_num)) eps_pos

theorem rsqrt_va : Ideal.rsqrt ((va x : ℝ) : EReal) = ((rs x : ℝ) : EReal) := by
  rw [Ideal.rsqrt_coe, if_neg (not_lt.mpr (va_pos x).le), if_neg (va_pos x).ne']
  rfl

theorem rs_div : rs x / va x = rs x * rs x * rs x := by
  have h2 : Real.sqrt (va x) * Real.sqrt (va x) = va x := Real.mul_self_sqrt (va_pos x).le
  have : rs x * rs x = (va x)⁻¹ := by unfold rs; rw [← mul_inv, h2]
  rw [this, div_eq_mul_inv, mul_comm]

/-- A row less its mean sums to zero. -/
theorem sum_xc : ∑ k ∈ Finset.range 1024, xc x k = 0 := by
  unfold xc
  rw [Finset.sum_sub_distrib, Finset.sum_const, Finset.card_range]
  unfold mu
  rw [nsmul_eq_mul]
  push_cast
  ring

/-- The factor of the quotient rule. -/
def zq : ℝ := (∑ k ∈ Finset.range 1024, xc x k * (d k * g k)) * (-(1 / 2) * (rs x / va x)) / 1024

/-- The quotient rule's form of the row's gradient, with the mean's gradient. -/
theorem dx_eq (k : ℕ) : d k * g k * rs x + zq x d g * (2 * xc x k)
    + ((∑ k ∈ Finset.range 1024, -(d k * g k * rs x)) + (∑ k ∈ Finset.range 1024, -(zq x d g * (2 * xc x k)))) / 1024 = dx x d g k := by
  have e1 : ∑ k ∈ Finset.range 1024, -(zq x d g * (2 * xc x k)) = 0 := by
    rw [show (fun k => -(zq x d g * (2 * xc x k))) = fun k => (-(zq x d g * 2)) * xc x k from funext fun k => by ring, ← Finset.mul_sum, sum_xc, mul_zero]
  have e2 : ∑ k ∈ Finset.range 1024, -(d k * g k * rs x) = -(rs x) * ∑ k ∈ Finset.range 1024, d k * g k := by
    rw [Finset.mul_sum]
    exact Finset.sum_congr rfl fun k _ => by ring
  have e3 : m2 x d g = rs x * (∑ k ∈ Finset.range 1024, xc x k * (d k * g k)) / 1024 := by
    unfold m2 xh
    rw [Finset.mul_sum]
    exact congrArg (· / 1024) (Finset.sum_congr rfl fun k _ => by ring)
  rw [e1, e2]
  unfold dx zq
  rw [e3, rs_div]
  unfold m1 xh
  ring

/-- The padding rows' cotangent counts for nothing. -/
def mask (D : ℕ → ℕ → ℝ) (i k : ℕ) : ℝ := if 112 ≤ i then D i k else 0

/-- The gradients of the scale and of the offset. -/
def gg (X D : ℕ → ℕ → ℝ) : (⟨2, ![1, 1024]⟩ : Shape).Idx → EReal := fun c =>
  ∑ i : Fin 8320, ((mask D i.val (c 1).val * xh (X i.val) (c 1).val : ℝ) : EReal)
def gb (D : ℕ → ℕ → ℝ) : (⟨2, ![1, 1024]⟩ : Shape).Idx → EReal := fun c =>
  ∑ i : Fin 8320, ((mask D i.val (c 1).val : ℝ) : EReal)

end Cert.Ln
end
-- ==== Proof.Grad.K31.lean ====
/-
  The gradient of the layer norm of the residual stream, over real arguments; the rows of the padding count for nothing.
-/
module

public import proofs.«01_k».proof.Defs
public import proofs.«01_k».proof.Proof.Gen.Kernel31Ideal.Value
public import proofs.«01_k».proof.Proof.Gen.Reference31Ideal.Run
public import proofs.«01_k».proof.Proof.Gen.Reference31Ideal.Read
public import proofs.«01_k».proof.Proof.Grad.Ln
public import Idealize.ShloMosaic.Lib.StableHlo.ReadAt
public import Idealize.ShloMosaic.Lib.Pipeline.ValueKit
public import Idealize.ShloMosaic.Lib.Pointwise

@[expose] public section

set_option maxRecDepth 16384

noncomputable section

namespace Cert.Ln
open Idealize.ShloMosaic

/-- The test of a row's number against the padding. -/
theorem select_row (n : ℕ) (h : n < 8320) (a b : EReal) :
    Scalar.select (IntOp.cmpi .sge (BitVec.ofNat 32 n) 112#32) a b = if 112 ≤ n then a else b := by
  have e : (IntOp.cmpi .sge (BitVec.ofNat 32 n) 112#32 = 1) ↔ 112 ≤ n :=
    WordCmp.cmpi_sge_ofNat_eq_one_iff (w := 32) (show n < 2 ^ (32 - 1) by omega) (show 112 < 2 ^ (32 - 1) by norm_num)
  unfold Scalar.select
  by_cases c : 112 ≤ n
  · rw [if_pos c, if_pos (e.mpr c)]
  · rw [if_neg c, if_neg (fun q => c (e.mp q))]

/-- The masked entry. -/
theorem ite_coe (p : Prop) [Decidable p] (a : ℝ) : (if p then ((a : ℝ) : EReal) else (0 : EReal)) = (((if p then a else 0 : ℝ)) : EReal) := by
  split
  · rfl
  · simp

end Cert.Ln

namespace Cert.Kernel31Ideal.Grad

open Cert.Kernel31Ideal Cert.Kernel31Ideal.Gen Idealize.ShloMosaic Idealize.ShloMosaic.TcCoe Idealize.SL.Sem Cert.Attn Cert.Norm Cert.Ln

section Payloads
variable (i : grid0.Coords) (x d : ℕ → ℕ → ℝ) (g : ℕ → ℝ)

/-- The cotangent of a block of rows, the padding masked. -/
def dm (n : ℕ) (p q : ℕ) : ℝ := if 112 ≤ n * 640 + p then d p q else 0

theorem p7 (p : Fin 640) (q : Fin 1024) : k0_pay7 (F := Ideal) (R2 x) (ix2 p q) = ((xc (x p.val) q.val : ℝ) : EReal) := by
  pointwise [k0_pay7]
  simp only [R2_ix2]
  rw [coe_sum_fin 1024 (fun k => x p.val k), c1024_eq, div_real _ _ (by norm_num), ← EReal.coe_sub]
  rfl
theorem p8 (p : Fin 640) (q : Fin 1) : k0_pay8 (F := Ideal) (R2 x) (ix2 p q) = ((rs (x p.val) : ℝ) : EReal) := by
  pointwise [k0_pay8]
  simp only [p7, ← EReal.coe_mul]
  rw [coe_sum_fin 1024 (fun k => xc (x p.val) k * xc (x p.val) k), c1024_eq, Ln.eps_eq, div_real _ _ (by norm_num), ← EReal.coe_add]
  exact rsqrt_va _
theorem p9 (p : Fin 640) (q : Fin 1024) : k0_pay9 (F := Ideal) (R2 x) (ix2 p q) = ((xh (x p.val) q.val : ℝ) : EReal) := by
  pointwise [k0_pay9]
  rw [p7, p8, ← EReal.coe_mul]
  rfl
theorem p10 (p : Fin 640) (q : Fin 1024) : k0_pay10 (F := Ideal) i (R2 d) (ix2 p q) = ((dm d (i 0).val p.val q.val : ℝ) : EReal) := by
  have hi : (i 0).val < 13 := (i 0).isLt
  have hp := p.isLt
  pointwise [k0_pay10]
  rw [R2_ix2]
  have e : IntOp.addi (IntOp.muli (BitVec.ofNat 32 (i 0).val) 640#32) (BitVec.ofNat 32 p.val) = BitVec.ofNat 32 ((i 0).val * 640 + p.val) := by
    rw [BitVec.ofNat_add, BitVec.ofNat_mul]; rfl
  refine (congrArg (fun w => Scalar.select (IntOp.cmpi .sge w 112#32) _ _) e).trans ?_
  rw [select_row _ (by omega), ite_coe]
  rfl
theorem p11 (p : Fin 640) (q : Fin 1024) : k0_pay11 (F := Ideal) i (R2 d) (R2 fun _ => g) (ix2 p q) = ((dm d (i 0).val p.val q.val * g q.val : ℝ) : EReal) := by
  pointwise [k0_pay11]
  rw [p10, R2_ix2, ← EReal.coe_mul]
theorem p12 (p : Fin 640) (q : Fin 1) : k0_pay12 (F := Ideal) i (R2 d) (R2 fun _ => g) (ix2 p q) = ((m1 (dm d (i 0).val p.val) g : ℝ) : EReal) := by
  pointwise [k0_pay12]
  simp only [p11]
  rw [coe_sum_fin 1024 (fun k => dm d (i 0).val p.val k * g k), c1024_eq, div_real _ _ (by norm_num)]
  rfl
theorem p13 (p : Fin 640) (q : Fin 1) : k0_pay13 (F := Ideal) i (R2 x) (R2 d) (R2 fun _ => g) (ix2 p q) = ((m2 (x p.val) (dm d (i 0).val p.val) g : ℝ) : EReal) := by
  pointwise [k0_pay13]
  simp only [p11, p9, ← EReal.coe_mul]
  rw [coe_sum_fin 1024 (fun k => dm d (i 0).val p.val k * g k * xh (x p.val) k), c1024_eq, div_real _ _ (by norm_num)]
  rfl
theorem p1 (p : Fin 640) (q : Fin 1024) : k0_pay1 (F := Ideal) (k0_pay8 (R2 x)) (k0_pay9 (R2 x)) (k0_pay11 i (R2 d) (R2 fun _ => g)) (k0_pay12 i (R2 d) (R2 fun _ => g)) (k0_pay13 i (R2 x) (R2 d) (R2 fun _ => g)) (ix2 p q)
    = ((dx (x p.val) (dm d (i 0).val p.val) g q.val : ℝ) : EReal) := by
  pointwise [k0_pay1]
  rw [p8, p9, p11, p12, p13, ← EReal.coe_sub, ← EReal.coe_mul, ← EReal.coe_sub, ← EReal.coe_mul]
  rfl
theorem p2 (p : Fin 640) (q : Fin 1024) : k0_pay2 (F := Ideal) (k0_pay8 (R2 x)) (k0_pay9 (R2 x)) (k0_pay11 i (R2 d) (R2 fun _ => g)) (k0_pay12 i (R2 d) (R2 fun _ => g)) (k0_pay13 i (R2 x) (R2 d) (R2 fun _ => g)) (ix2 p q)
    = ((dx (x p.val) (dm d (i 0).val p.val) g q.val : ℝ) : EReal) := by
  pointwise [k0_pay2]
  rw [p1]
theorem p3 (p : Fin 1) (q : Fin 1024) : k0_pay3 (F := Ideal) (k0_pay9 (R2 x)) (k0_pay10 i (R2 d)) (ix2 p q)
    = ∑ k : Fin 640, ((dm d (i 0).val k.val q.val * xh (x k.val) q.val : ℝ) : EReal) := by
  pointwise [k0_pay3]
  simp only [p9, p10, ← EReal.coe_mul]
theorem p4 (p : Fin 1) (q : Fin 1024) : k0_pay4 (F := Ideal) (k0_pay10 i (R2 d)) (ix2 p q)
    = ∑ k : Fin 640, ((dm d (i 0).val k.val q.val : ℝ) : EReal) := by
  pointwise [k0_pay4]
  simp only [p10]
/-- The accumulating stores at an entry: what was there, plus the block's sum. -/
theorem step5 (a : Vec Ideal S1x1024 .f32) (j : S1x1024.Idx) : k0_pay5 (F := Ideal) (k0_pay9 (R2 x)) (k0_pay10 i (R2 d)) a j
    = a j + ∑ k : Fin 640, ((dm d (i 0).val k.val (j 1).val * xh (x k.val) (j 1).val : ℝ) : EReal) := by
  idx_vars j
  rw [← p3 i x d j0 j1]
  unfold k0_pay5
  rw [shapeCast_self]
  rfl
theorem step6 (a : Vec Ideal S1x1024 .f32) (j : S1x1024.Idx) : k0_pay6 (F := Ideal) (k0_pay10 i (R2 d)) a j
    = a j + ∑ k : Fin 640, ((dm d (i 0).val k.val (j 1).val : ℝ) : EReal) := by
  idx_vars j
  rw [← p4 i d j0 j1]
  unfold k0_pay6
  rw [shapeCast_self]
  rfl
end Payloads

variable (m : (ℓ : Loc nD τ sig) → Buf (Elt Ideal) ℓ) (X D : ℕ → ℕ → ℝ) (G : ℕ → ℝ)

/-- The arguments are these real arrays. -/
structure RealArgs (c : Dev nD) : Prop where
  d : m ((c.tc : Thread nD τ).loc main_arg0) = R2 D
  x : m ((c.tc : Thread nD τ).loc main_arg1) = R2 X
  g : m ((c.tc : Thread nD τ).loc main_arg2) = R1 G

theorem index_0 : ∀ t : Fin grid0.N, win0_0.index t = ![t.val, 0] := by decide +kernel
theorem index_1 : ∀ t : Fin grid0.N, win0_1.index t = ![t.val, 0] := by decide +kernel
theorem index_2 : ∀ t : Fin grid0.N, win0_2.index t = ![0, 0] := by decide +kernel
theorem index_3 : ∀ t : Fin grid0.N, win0_3.index t = ![t.val, 0] := by decide +kernel
theorem index_4 : ∀ t : Fin grid0.N, win0_4.index t = ![t.val, 0] := by decide +kernel
theorem index_5 : ∀ t : Fin grid0.N, win0_5.index t = ![0, 0] := by decide +kernel
theorem index_6 : ∀ t : Fin grid0.N, win0_6.index t = ![0, 0] := by decide +kernel
theorem coord : ∀ t : Fin grid0.N, (grid0.coords t 0).val = t.val := by decide +kernel

/-- A block of the rows of a real array. -/
def blk (f : ℕ → ℕ → ℝ) (t p : ℕ) : ℕ → ℝ := f (t * 640 + p)

variable {X D G} {m} {c : Dev nD} (H : RealArgs m X D G c)
include H

/-- The row of scales. -/
theorem scale (k : Fin 1024) : V m c main_v0 (ix2 0 k) = ((G k.val : ℝ) : EReal) := by
  have e : V m c main_v0 (ix2 0 k) = m ((c.tc : Thread nD τ).loc main_arg2) (ix1 k) := by
    unfold V
    simp only [hostOps0, List.flatten_cons, List.flatten_nil, List.append_nil, List.cons_append, List.nil_append]
    after_reads_at
  rw [e, H.g]
  rfl

/-- The blocks at a point. -/
theorem block_0 (t : Fin cfg0.N) : iblk m c 0 t = R2 (blk D t.val) := by
  funext y
  show V m c main_arg0 (((View.whole main_arg0).slice (win0_0.rect t)).emb y) = _
  rw [V_main_arg0, H.d]
  refine congrArg Real.toEReal (congrArg₂ D ?_ ?_)
  · show win0_0.index t 0 * 640 + 1 * (y 0).val = _
    rw [index_0]; show t.val * 640 + 1 * (y 0).val = t.val * 640 + (y 0).val; omega
  · show win0_0.index t 1 * 1024 + 1 * (y 1).val = _
    rw [index_0]; show 0 * 1024 + 1 * (y 1).val = (y 1).val; omega
theorem block_1 (t : Fin cfg0.N) : iblk m c 1 t = R2 (blk X t.val) := by
  funext y
  show V m c main_arg1 (((View.whole main_arg1).slice (win0_1.rect t)).emb y) = _
  rw [V_main_arg1, H.x]
  refine congrArg Real.toEReal (congrArg₂ X ?_ ?_)
  · show win0_1.index t 0 * 640 + 1 * (y 0).val = _
    rw [index_1]; show t.val * 640 + 1 * (y 0).val = t.val * 640 + (y 0).val; omega
  · show win0_1.index t 1 * 1024 + 1 * (y 1).val = _
    rw [index_1]; show 0 * 1024 + 1 * (y 1).val = (y 1).val; omega
theorem block_2 (t : Fin cfg0.N) : iblk m c 2 t = R2 (fun _ => G) := by
  funext y
  have hy0 : (y 0).val < 1 := (y 0).isLt
  have hy1 : (y 1).val < 1024 := (y 1).isLt
  show V m c main_v0 (((View.whole main_v0).slice (win0_2.rect t)).emb y) = _
  refine Eq.trans ?_ (scale H ⟨(y 1).val, by omega⟩)
  refine congrArg (V m c main_v0) (funext fun a => Fin.ext ?_)
  fin_cases a
  · show win0_2.index t 0 * 1 + 1 * (y 0).val = 0
    rw [index_2]; show 0 * 1 + 1 * (y 0).val = 0; omega
  · show win0_2.index t 1 * 1024 + 1 * (y 1).val = (y 1).val
    rw [index_2]; show 0 * 1024 + 1 * (y 1).val = (y 1).val; omega

omit H in
/-- Where a block's entries lie in the results. -/
theorem place_3 (f : ℕ → ℕ → ℝ) (t : Fin cfg0.N) (p : Fin 640) (q : Fin 1024) :
    R2 f (((View.whole main_v1_0).slice (win0_3.rect t)).emb (ix2 p q)) = ((f (t.val * 640 + p.val) q.val : ℝ) : EReal) := by
  refine congrArg Real.toEReal (congrArg₂ f ?_ ?_)
  · show win0_3.index t 0 * 640 + 1 * p.val = _
    rw [index_3]; show t.val * 640 + 1 * p.val = _; omega
  · show win0_3.index t 1 * 1024 + 1 * q.val = _
    rw [index_3]; show 0 * 1024 + 1 * q.val = _; omega
omit H in
theorem place_4 (f : ℕ → ℕ → ℝ) (t : Fin cfg0.N) (p : Fin 640) (q : Fin 1024) :
    R2 f (((View.whole main_v1_1).slice (win0_4.rect t)).emb (ix2 p q)) = ((f (t.val * 640 + p.val) q.val : ℝ) : EReal) := by
  refine congrArg Real.toEReal (congrArg₂ f ?_ ?_)
  · show win0_4.index t 0 * 640 + 1 * p.val = _
    rw [index_4]; show t.val * 640 + 1 * p.val = _; omega
  · show win0_4.index t 1 * 1024 + 1 * q.val = _
    rw [index_4]; show 0 * 1024 + 1 * q.val = _; omega

/-- The gradient of the rows. -/
def gx (X D : ℕ → ℕ → ℝ) (G : ℕ → ℝ) (i : ℕ) : ℕ → ℝ := dx (X i) (mask D i) G

omit H in
theorem gx_at (t : Fin cfg0.N) (p q : ℕ) : dx (blk X t.val p) (dm (blk D t.val) (grid0.coords t 0).val p) G q = gx X D G (t.val * 640 + p) q := by
  rw [coord]
  rfl

theorem array3 : (dats m 0 c).arrAt 3 cfg0.N = R2 (gx X D G) := by
  refine (dats m 0 c).arrAt_eq_of_covers 3 _ (by decide +kernel) fun t hf y => ?_
  have ht : t.val < 13 := t.isLt
  blk_simp
  rw [after0_3]
  by_cases h : t.val % 13 = 0
  · rw [outsAt0_A m c t h (by omega)]
    frame_out
    rw [block_0 H, block_1 H, block_2 H]
    idx_vars y
    rw [p1, place_3, gx_at]
  · rw [outsAt0_B m c t h (by omega)]
    frame_out
    rw [block_0 H, block_1 H, block_2 H]
    idx_vars y
    rw [p1, place_3, gx_at]
theorem array4 : (dats m 0 c).arrAt 4 cfg0.N = R2 (gx X D G) := by
  refine (dats m 0 c).arrAt_eq_of_covers 4 _ (by decide +kernel) fun t hf y => ?_
  have ht : t.val < 13 := t.isLt
  blk_simp
  rw [after0_4]
  by_cases h : t.val % 13 = 0
  · rw [outsAt0_A m c t h (by omega)]
    frame_out
    rw [block_0 H, block_1 H, block_2 H]
    idx_vars y
    rw [p2, place_4, gx_at]
  · rw [outsAt0_B m c t h (by omega)]
    frame_out
    rw [block_0 H, block_1 H, block_2 H]
    idx_vars y
    rw [p2, place_4, gx_at]

/-- The gradient of the scale. -/
theorem array5 : (dats m 0 c).arrAt 5 cfg0.N = gg X D := by
  refine (dats m 0 c).arrAt_eq_of_covers 5 _ (by decide +kernel) fun t hf y => ?_
  have hm := (flush0_5 t).mp hf
  have ht : t.val < 13 := t.isLt
  blk_simp
  rw [after0_5, Pipeline.eq_sum_fin_of_reset_step_apply_of_flush (fun n h => (outsAt0 m c n h).2.2.1) 13 (fun _ => (0 : EReal))
    (fun t j => ∑ k : Fin 640, ((mask D (t.val * 640 + k.val) (j 1).val * xh (X (t.val * 640 + k.val)) (j 1).val : ℝ) : EReal))
    (fun t h j => by
      have ht : t.val < 13 := t.isLt
      rw [outsAt0_A m c t h (by omega)]; frame_out
      rw [block_0 H, block_1 H]
      idx_vars j
      rw [p3, coord, zero_add]
      rfl)
    (fun t h j => by
      rw [outsAt0_B m c t h (by omega)]; frame_out
      rw [block_0 H, block_1 H, step5, coord]
      rfl) t hm _, zero_add]
  unfold gg
  refine Fin.sum_mul_add_congr fun s k hl => ?_
  have hs : s.val < 13 := s.isLt
  have e : ((win0_5.blk t).view.emb y 1).val = (y 1).val := by
    show win0_5.index t 1 * 1024 + 1 * (y 1).val = _
    rw [index_5]; show 0 * 1024 + 1 * (y 1).val = _; omega
  rw [e]
  show ((mask D ((13 * (t.val / 13) + s.val) * 640 + k.val) (y 1).val * xh (X ((13 * (t.val / 13) + s.val) * 640 + k.val)) (y 1).val : ℝ) : EReal) = _
  rw [show 13 * (t.val / 13) + s.val = s.val by omega]

/-- The gradient of the offset. -/
theorem array6 : (dats m 0 c).arrAt 6 cfg0.N = gb D := by
  refine (dats m 0 c).arrAt_eq_of_covers 6 _ (by decide +kernel) fun t hf y => ?_
  have hm := (flush0_6 t).mp hf
  have ht : t.val < 13 := t.isLt
  blk_simp
  rw [after0_6, Pipeline.eq_sum_fin_of_reset_step_apply_of_flush (fun n h => (outsAt0 m c n h).2.2.2) 13 (fun _ => (0 : EReal))
    (fun t j => ∑ k : Fin 640, ((mask D (t.val * 640 + k.val) (j 1).val : ℝ) : EReal))
    (fun t h j => by
      have ht : t.val < 13 := t.isLt
      rw [outsAt0_A m c t h (by omega)]; frame_out
      rw [block_0 H]
      idx_vars j
      rw [p4, coord, zero_add]
      rfl)
    (fun t h j => by
      rw [outsAt0_B m c t h (by omega)]; frame_out
      rw [block_0 H, step6, coord]
      rfl) t hm _, zero_add]
  unfold gb
  refine Fin.sum_mul_add_congr fun s k hl => ?_
  have hs : s.val < 13 := s.isLt
  have e : ((win0_6.blk t).view.emb y 1).val = (y 1).val := by
    show win0_6.index t 1 * 1024 + 1 * (y 1).val = _
    rw [index_6]; show 0 * 1024 + 1 * (y 1).val = _; omega
  rw [e]
  show ((mask D ((13 * (t.val / 13) + s.val) * 640 + k.val) (y 1).val : ℝ) : EReal) = _
  rw [show 13 * (t.val / 13) + s.val = s.val by omega]

end Cert.Kernel31Ideal.Grad

namespace Cert.Reference31Ideal.Grad

open Cert.Reference31Ideal Cert.Reference31Ideal.Read Idealize.ShloMosaic Idealize.SL.Sem Cert.Attn Cert.Norm Cert.Ln

variable (X D : ℕ → ℕ → ℝ) (G : ℕ → ℝ)

theorem s6 (i : Fin 8320) (k : Fin 1024) : val_main_v6 (F := Ideal) (R2 X) (ix2 i k) = ((xc (X i.val) k.val : ℝ) : EReal) := by
  pointwise [val_main_v6, val_main_v5, val_main_v4, val_main_v3, val_main_cst_1, val_main_v2, val_main_v1, val_main_cst_0]
  simp only [R2_ix2]
  rw [coe_sum_fin 1024 (fun k => X i.val k), c1024_eq, div_real _ _ (by norm_num), ← EReal.coe_sub]
  rfl
theorem s15 (i : Fin 8320) (k : Fin 1024) : val_main_v15 (F := Ideal) (R2 X) (ix2 i k) = ((xc (X i.val) k.val : ℝ) : EReal) := s6 X i k
theorem s17 (i : Fin 8320) (k : Fin 1) : val_main_v17 (F := Ideal) (R2 X) (ix2 i k) = ((va (X i.val) : ℝ) : EReal) := by
  pointwise [val_main_v17, val_main_v16, val_main_cst_5, val_main_v13, val_main_v12, val_main_cst_4, val_main_v11, val_main_v10, val_main_cst_3, val_main_v7]
  simp only [s6, ← EReal.coe_mul]
  rw [coe_sum_fin 1024 (fun k => xc (X i.val) k * xc (X i.val) k), c1024_eq, Ln.eps_eq, div_real _ _ (by norm_num), ← EReal.coe_add]
  rfl
theorem s18 (i : Fin 8320) (k : Fin 1) : val_main_v18 (F := Ideal) (R2 X) (ix2 i k) = ((rs (X i.val) : ℝ) : EReal) := by
  pointwise [val_main_v18]
  rw [s17, rsqrt_va]
theorem s21 (i : Fin 8320) (k : Fin 1) : val_main_v21 (F := Ideal) (R2 X) (ix2 i k) = ((-(1 / 2) * (rs (X i.val) / va (X i.val)) : ℝ) : EReal) := by
  pointwise [val_main_v21, val_main_v20, val_main_cst_6, val_main_v19]
  rw [s17, s18, half_eq, div_real _ _ (va_pos _).ne', ← EReal.coe_mul]
theorem s23 (i : Fin 8320) (k : Fin 1024) : val_main_v23 (F := Ideal) (R2 X) (ix2 i k) = ((xh (X i.val) k.val : ℝ) : EReal) := by
  pointwise [val_main_v23, val_main_v22]
  rw [s15, s18, ← EReal.coe_mul]
  rfl
theorem s35 (i : Fin 8320) (k : Fin 1024) : val_main_v35 (F := Ideal) (R2 D) (ix2 i k) = ((mask D i.val k.val : ℝ) : EReal) := by
  pointwise [val_main_v35, val_main_v34_1, val_main_v33, val_main_v32, val_main_c, val_main_v31, val_main_v30, val_main_call1_v0, val_main_call1_cst]
  rw [R2_ix2, select_row _ i.isLt, ite_coe]
  rfl
theorem s43 (i : Fin 8320) (k : Fin 1024) : val_main_v43 (F := Ideal) (R2 D) (R1 G) (ix2 i k) = ((mask D i.val k.val * G k.val : ℝ) : EReal) := by
  pointwise [val_main_v43, val_main_v42, val_main_v24]
  rw [s35, R1_ix1, ← EReal.coe_mul]
theorem s49 (i : Fin 8320) (k : Fin 1024) : val_main_v49 (F := Ideal) (R2 D) (R2 X) (R1 G) (ix2 i k) = ((mask D i.val k.val * G k.val * rs (X i.val) : ℝ) : EReal) := by
  pointwise [val_main_v49, val_main_v48]
  rw [s43, s18, ← EReal.coe_mul]
theorem s55 (i : Fin 8320) (k : Fin 1) : val_main_v55 (F := Ideal) (R2 D) (R2 X) (R1 G) (ix2 i k) = ((zq (X i.val) (mask D i.val) G : ℝ) : EReal) := by
  pointwise [val_main_v55, val_main_v54, val_main_cst_14, val_main_v50, val_main_v47, val_main_v46, val_main_cst_12, val_main_v45]
  simp only [s15, s43, s21, ← EReal.coe_mul]
  rw [coe_sum_fin 1024 (fun k => xc (X i.val) k * (mask D i.val k * G k)), c1024_eq, ← EReal.coe_mul, div_real _ _ (by norm_num)]
  rfl
theorem s58 (i : Fin 8320) (k : Fin 1024) : val_main_v58 (F := Ideal) (R2 D) (R2 X) (R1 G) (ix2 i k) = ((zq (X i.val) (mask D i.val) G * (2 * xc (X i.val) k.val) : ℝ) : EReal) := by
  pointwise [val_main_v58, val_main_v57, val_main_v56, val_main_cst_15, val_main_v9, val_main_v8, val_main_cst_2]
  simp only [s6, s55, Finset.univ_unique, Finset.sum_singleton]
  rw [c2_eq, ← EReal.coe_mul, ← EReal.coe_mul]
theorem s65 (i : Fin 8320) (k : Fin 1) : val_main_v65 (F := Ideal) (R2 D) (R2 X) (R1 G) (ix2 i k)
    = ((((∑ k ∈ Finset.range 1024, -(mask D i.val k * G k * rs (X i.val))) + (∑ k ∈ Finset.range 1024, -(zq (X i.val) (mask D i.val) G * (2 * xc (X i.val) k)))) / 1024 : ℝ) : EReal) := by
  pointwise [val_main_v65, val_main_v64, val_main_cst_17, val_main_v63, val_main_v53, val_main_v52, val_main_cst_13, val_main_v51, val_main_v61, val_main_v60, val_main_cst_16, val_main_v59]
  simp only [s49, s58, ← EReal.coe_neg]
  rw [coe_sum_fin 1024 (fun k => -(mask D i.val k * G k * rs (X i.val))), coe_sum_fin 1024 (fun k => -(zq (X i.val) (mask D i.val) G * (2 * xc (X i.val) k))), c1024_eq, ← EReal.coe_add, div_real _ _ (by norm_num)]

/-- The gradient of the rows. -/
theorem value68 : val_main_v68 (F := Ideal) (R2 D) (R2 X) (R1 G) = R2 (Cert.Kernel31Ideal.Grad.gx X D G) := by
  funext i
  idx_vars i
  pointwise [val_main_v68, val_main_v67, val_main_v66, val_main_cst_18, val_main_v62]
  simp only [s49, s58, s65, Finset.univ_unique, Finset.sum_singleton, ← EReal.coe_add]
  rw [dx_eq]
  rfl
theorem value69 : val_main_v69 (F := Ideal) (R2 D) (R2 X) (R1 G) = R2 (Cert.Kernel31Ideal.Grad.gx X D G) := by
  refine Eq.trans ?_ (value68 X D G)
  funext i
  pointwise [val_main_v69]

/-- The gradient of the scale, and of the offset. -/
theorem value70 : val_main_v70 (F := Ideal) (R2 D) (R2 X) = gg X D := by
  funext i
  idx_vars i
  pointwise [val_main_v70, val_main_v44, val_main_cst_11, val_main_v41, val_main_v40, val_main_cst_10, val_main_v39, gg]
  simp only [s23, s35, Finset.univ_unique, Finset.sum_singleton, ← EReal.coe_mul]
  exact Finset.sum_congr rfl fun x _ => congrArg _ (mul_comm _ _)
theorem value71 : val_main_v71 (F := Ideal) (R2 D) = gb D := by
  funext i
  idx_vars i
  pointwise [val_main_v71, val_main_v38, val_main_cst_9, val_main_v37, val_main_v36, val_main_cst_8, gb]
  simp only [s35, Finset.univ_unique, Finset.sum_singleton]

end Cert.Reference31Ideal.Grad
namespace Cert.Proof

open Idealize.ShloMosaic Idealize.SL.Sem Cert.Attn Cert.Norm Cert.Ln

theorem preFacts31 : Cert.Pre_finite31.Facts where
  bcast_S_S8320x1024 := by decide
  bcast_S_S1024 := by decide

local instance facts31 : Cert.Pre_finite31.Facts := preFacts31

/-- Under the precondition the three arguments are real arrays. -/
theorem realArgs31 (m : (ℓ : Loc Cert.Kernel31Ideal.nD Cert.Kernel31Ideal.τ Cert.Kernel31Ideal.sig) → Buf (Elt Ideal) ℓ) (h : Pre_Kernel31Ideal_finite31 m) (c : Dev Cert.Kernel31Ideal.nD) :
    Cert.Kernel31Ideal.Grad.RealArgs m (real2 (m (c.tc.loc Cert.Kernel31Ideal.main_arg1))) (real2 (m (c.tc.loc Cert.Kernel31Ideal.main_arg0)))
      (real1 (m (c.tc.loc Cert.Kernel31Ideal.main_arg2))) c := by
  obtain ⟨h0, h1, h2⟩ := h c
  exact ⟨R2_real2 _ (entry_real32 (by decide) _ h0), R2_real2 _ (entry_real32 (by decide) _ h1),
    R1_real1 _ (entry_real32 (by decide) _ h2)⟩

/-- The kernel's four results are the reference's. -/
theorem algebraic31 : algebraic_Kernel31Ideal_Reference31Ideal_pre_finite31 (hKernel31Ideal := Cert.Kernel31Ideal.Gen.facts) (hReference31Ideal := Cert.Reference31Ideal.Gen.facts) := by
  intro m ρ m' ρ' hpre hag
  have H := realArgs31 m hpre
  refine ⟨fun c => R2 (Cert.Kernel31Ideal.Grad.gx (real2 (m (c.tc.loc Cert.Kernel31Ideal.main_arg1))) (real2 (m (c.tc.loc Cert.Kernel31Ideal.main_arg0))) (real1 (m (c.tc.loc Cert.Kernel31Ideal.main_arg2)))),
    fun c => R2 (Cert.Kernel31Ideal.Grad.gx (real2 (m (c.tc.loc Cert.Kernel31Ideal.main_arg1))) (real2 (m (c.tc.loc Cert.Kernel31Ideal.main_arg0))) (real1 (m (c.tc.loc Cert.Kernel31Ideal.main_arg2)))),
    fun c => gg (real2 (m (c.tc.loc Cert.Kernel31Ideal.main_arg1))) (real2 (m (c.tc.loc Cert.Kernel31Ideal.main_arg0))),
    fun c => gb (real2 (m (c.tc.loc Cert.Kernel31Ideal.main_arg0))),
    (θ_run _ _ _).mono (fun r h c => ?_) (Cert.Kernel31Ideal.Value.run_blocks m ρ),
    (θ_run _ _ _).mono (fun r h c => ?_) (Cert.Reference31Ideal.Value.run m' ρ')⟩
  · exact ⟨(h c).1.trans (Cert.Kernel31Ideal.Grad.array3 (H c)), (h c).2.1.trans (Cert.Kernel31Ideal.Grad.array4 (H c)),
      (h c).2.2.1.trans (Cert.Kernel31Ideal.Grad.array5 (H c)), (h c).2.2.2.1.trans (Cert.Kernel31Ideal.Grad.array6 (H c)), (h c).2.2.2.2⟩
  · obtain ⟨hd, hx, hg⟩ := H c
    obtain ⟨e0, e1, e2⟩ := hag c
    refine ⟨(h c).1.trans ?_, (h c).2.1.trans ?_, (h c).2.2.1.trans ?_, (h c).2.2.2.1.trans ?_, (h c).2.2.2.2⟩
    · rw [Cert.Reference31Ideal.Read.val_main_v68_eq, e0, e1, e2]
      refine Eq.trans ?_ (Cert.Reference31Ideal.Grad.value68 _ _ _)
      rw [← hd, ← hx, ← hg]
    · rw [Cert.Reference31Ideal.Read.val_main_v69_eq, e0, e1, e2]
      refine Eq.trans ?_ (Cert.Reference31Ideal.Grad.value69 _ _ _)
      rw [← hd, ← hx, ← hg]
    · rw [Cert.Reference31Ideal.Read.val_main_v70_eq, e0, e1]
      refine Eq.trans ?_ (Cert.Reference31Ideal.Grad.value70 _ _)
      rw [← hd, ← hx]
    · rw [Cert.Reference31Ideal.Read.val_main_v71_eq, e0]
      refine Eq.trans ?_ (Cert.Reference31Ideal.Grad.value71 _)
      rw [← hd]

end Cert.Proof
end
-- ==== Proof.Grad.K32.lean ====
/-
  The gradient of the convolutional gated MLP's activation, over real arguments: two causal convolutions of 3 taps give the gate and
  the value of each row; the gate passes through the silu. The gradients of the two convolutions' results, of their taps and of their offsets.
-/
module

public import proofs.«01_k».proof.Defs
public import proofs.«01_k».proof.Proof.Gen.Kernel32Ideal.Value
public import proofs.«01_k».proof.Proof.Gen.Reference32Ideal.Run
public import proofs.«01_k».proof.Proof.Gen.Reference32Ideal.Read
public import proofs.«01_k».proof.Proof.Grad.Stack
public import proofs.«01_k».proof.Proof.Grad.Norm
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Ffn
open Idealize.ShloMosaic Cert.Attn Cert.Norm

variable (U V A W X B C : ℕ → ℕ → ℝ)

/-- The row that tap `k` meets at row `i`: the row `2 - k` above, and zero above the first. -/
def sh (k i c : ℕ) : ℝ := if 2 ≤ i + k then U (i + k - 2) c else 0
/-- The convolution with its offset. -/
def cv (i c : ℕ) : ℝ := W 2 c * sh U 2 i c + W 0 c * sh U 0 i c + W 1 c * sh U 1 i c + B 0 c
/-- The gradient of the gate's convolution, and of the value's. -/
def dgate (i c : ℕ) : ℝ := A i c * cv V X C i c * (sg (cv U W B i c) * (1 + cv U W B i c * (1 - sg (cv U W B i c))))
def dval (i c : ℕ) : ℝ := A i c * (cv U W B i c * sg (cv U W B i c))
/-- The gradient of the taps, from the convolution's input and the gradient of its result. -/
def dw : (⟨2, ![3, 2816]⟩ : Shape).Idx → EReal := fun j => ∑ i : Fin 8320, ((A i.val (j 1).val * sh U (j 0).val i.val (j 1).val : ℝ) : EReal)
/-- The gradient of the offset. -/
def db : (⟨2, ![1, 2816]⟩ : Shape).Idx → EReal := fun j => ∑ i : Fin 8320, ((A i.val (j 1).val : ℝ) : EReal)

end Cert.Ffn

namespace Cert.Kernel32Ideal.Grad

open Cert.Kernel32Ideal Cert.Kernel32Ideal.Gen Idealize.ShloMosaic Idealize.ShloMosaic.TcCoe Idealize.SL.Sem Cert.Attn Cert.Norm Cert.Ffn

section Payloads
variable (w u x y z b d g v s : ℕ → ℕ → ℝ)

theorem p12 : k0_pay12 (F := Ideal) (R2 w) (R2 x) = R2 (fun p q => w 0 q * x p q) := by
  funext j
  idx_vars j
  pointwise [k0_pay12]
  rw [R2_ix2, R2_ix2, R2_ix2, ← EReal.coe_mul]
  rfl
theorem p13 : k0_pay13 (F := Ideal) (R2 x) (R2 w) (R2 y) (R2 u) (R2 z) (R2 b) = R2 (fun p q => x p q + w 0 q * y p q + u 0 q * z p q + b 0 q) := by
  funext j
  idx_vars j
  pointwise [k0_pay13]
  simp only [R2_ix2, ← EReal.coe_mul, ← EReal.coe_add]
  rfl
theorem p14 : k0_pay14 (F := Ideal) (R2 g) (R2 x) (R2 w) (R2 y) (R2 u) (R2 z) (R2 b) = R2 (fun p q => g 0 q * x p q + w 0 q * y p q + u 0 q * z p q + b 0 q) := by
  funext j
  idx_vars j
  pointwise [k0_pay14]
  simp only [R2_ix2, ← EReal.coe_mul, ← EReal.coe_add]
  rfl
theorem p15 : k0_pay15 (F := Ideal) (R2 x) (R2 w) (R2 y) (R2 u) (R2 z) (R2 b) = R2 (fun p q => sg (x p q + w 0 q * y p q + u 0 q * z p q + b 0 q)) := by
  funext j
  idx_vars j
  pointwise [k0_pay15]
  rw [p13, R2_ix2, R2_ix2, zero_sub, sg_real]
theorem p16 : k0_pay16 (F := Ideal) (R2 g) (R2 v) (R2 s) (R2 d) = R2 (fun p q => d p q * v p q * (s p q * (1 + g p q * (1 - s p q)))) := by
  funext j
  idx_vars j
  pointwise [k0_pay16]
  simp only [R2_ix2]
  rw [← EReal.coe_one]
  simp only [← EReal.coe_mul, ← EReal.coe_add, ← EReal.coe_sub]
theorem p17 : k0_pay17 (F := Ideal) (R2 g) (R2 s) (R2 d) = R2 (fun p q => d p q * (g p q * s p q)) := by
  funext j
  idx_vars j
  pointwise [k0_pay17]
  simp only [R2_ix2, ← EReal.coe_mul]
theorem p2 (j : S1x1408.Idx) : k0_pay2 (F := Ideal) (R2 d) j = ∑ p : Fin 128, ((d p.val (j 1).val : ℝ) : EReal) := by
  idx_vars j
  pointwise [k0_pay2]
  simp only [R2_ix2]
theorem p3 (j : S1x1408.Idx) : k0_pay3 (F := Ideal) (R2 d) j = ∑ p : Fin 128, ((d p.val (j 1).val : ℝ) : EReal) := p2 d j
theorem p6 (a : Vec Ideal S1x1408 .f32) (j : S1x1408.Idx) : k0_pay6 (F := Ideal) (R2 d) a j = a j + ∑ p : Fin 128, ((d p.val (j 1).val : ℝ) : EReal) := by
  rw [← p2 d j]
  unfold k0_pay6
  rw [shapeCast_self]
  rfl
theorem p7 (a : Vec Ideal S1x1408 .f32) (j : S1x1408.Idx) : k0_pay7 (F := Ideal) (R2 d) a j = a j + ∑ p : Fin 128, ((d p.val (j 1).val : ℝ) : EReal) := p6 d a j
/-- The three rows of the taps' gradient. -/
theorem p18 (f : ℕ → ℕ → ℕ → ℝ) (j : S3x1408.Idx) : k0_pay18 (F := Ideal) (R2 g) (R2 v) (R2 s) (R2 d) (R2 (f 0)) (R2 (f 1)) (R2 (f 2)) j
    = ∑ p : Fin 128, ((d p.val (j 1).val * v p.val (j 1).val * (s p.val (j 1).val * (1 + g p.val (j 1).val * (1 - s p.val (j 1).val))) * f (j 0).val p.val (j 1).val : ℝ) : EReal) := by
  idx_vars j
  pointwise [k0_pay18]
  rw [p16]
  simp only [R2_ix2, ← EReal.coe_mul]
  fin_cases j0 <;> rfl
theorem p1 (f : ℕ → ℕ → ℕ → ℝ) (j : S3x1408.Idx) : k0_pay1 (F := Ideal) (k0_pay17 (R2 g) (R2 s) (R2 d)) (k0_pay19 (R2 g) (R2 s) (R2 d) (R2 (f 0))) (k0_pay20 (R2 g) (R2 s) (R2 d) (R2 (f 1))) (R2 (f 2)) j
    = ∑ p : Fin 128, ((d p.val (j 1).val * (g p.val (j 1).val * s p.val (j 1).val) * f (j 0).val p.val (j 1).val : ℝ) : EReal) := by
  idx_vars j
  pointwise [k0_pay1, k0_pay19, k0_pay20]
  rw [p17]
  simp only [R2_ix2, ← EReal.coe_mul]
  fin_cases j0 <;> rfl
theorem p4 (a r : Vec Ideal S3x1408 .f32) (j : S3x1408.Idx) : k0_pay4 (F := Ideal) r a j = a j + r j := by
  unfold k0_pay4
  rw [shapeCast_self]
  rfl
theorem p5 (q : FVec Ideal S128x1408 .f32) (r l : FVec Ideal S1x1408 .f32) (h : Vec Ideal S128x1408 .f32) (a : Vec Ideal S3x1408 .f32) (j : S3x1408.Idx) :
    k0_pay5 (F := Ideal) q r l h a j = a j + k0_pay1 q r l h j := by
  unfold k0_pay5
  rw [shapeCast_self]
  rfl
/-- The copies. -/
theorem p9 (a : Vec Ideal S128x1408 .f32) : k0_pay9 a = a := by
  unfold k0_pay9
  rw [shapeCast_self]

theorem above : ∀ t : Fin grid0.N, Scalar.cmpi .sgt (BitVec.ofNat 32 (grid0.coords t 1).val) 0#32 = if 1 ≤ t.val % 65 then 1#1 else 0#1 := by
  decide +kernel
theorem p8 (t : Fin grid0.N) (a : Vec Ideal S8x1408 .f32) (j : S8x1408.Idx) : k0_pay8 (grid0.coords t) a j = if 1 ≤ t.val % 65 then a j else 0 := by
  idx_vars j
  have h := above t
  unfold k0_pay8
  rw [h]
  split <;> pointwise []
end Payloads

theorem index_0 : ∀ t : Fin grid0.N, win0_0.index t = ![t.val % 65, t.val / 65] := by decide +kernel
theorem index_1 : ∀ t : Fin grid0.N, win0_1.index t = ![t.val % 65 * 16 - 1, t.val / 65] := by decide +kernel
theorem index_2 : ∀ t : Fin grid0.N, win0_2.index t = ![t.val % 65, t.val / 65] := by decide +kernel
theorem index_3 : ∀ t : Fin grid0.N, win0_3.index t = ![t.val % 65 * 16 - 1, t.val / 65] := by decide +kernel
theorem index_4 : ∀ t : Fin grid0.N, win0_4.index t = ![t.val % 65, t.val / 65] := by decide +kernel
theorem index_5 : ∀ t : Fin grid0.N, win0_5.index t = ![0, t.val / 65] := by decide +kernel
theorem index_6 : ∀ t : Fin grid0.N, win0_6.index t = ![0, t.val / 65] := by decide +kernel
theorem index_7 : ∀ t : Fin grid0.N, win0_7.index t = ![0, t.val / 65] := by decide +kernel
theorem index_8 : ∀ t : Fin grid0.N, win0_8.index t = ![0, t.val / 65] := by decide +kernel
theorem index_9 : ∀ t : Fin grid0.N, win0_9.index t = ![t.val % 65, t.val / 65] := by decide +kernel
theorem index_10 : ∀ t : Fin grid0.N, win0_10.index t = ![t.val % 65, t.val / 65] := by decide +kernel
theorem index_11 : ∀ t : Fin grid0.N, win0_11.index t = ![0, t.val / 65] := by decide +kernel
theorem index_12 : ∀ t : Fin grid0.N, win0_12.index t = ![0, t.val / 65] := by decide +kernel
theorem index_13 : ∀ t : Fin grid0.N, win0_13.index t = ![0, t.val / 65] := by decide +kernel
theorem index_14 : ∀ t : Fin grid0.N, win0_14.index t = ![0, t.val / 65] := by decide +kernel

variable (m : (ℓ : Loc nD τ sig) → Buf (Elt Ideal) ℓ) (U V A W X B C : ℕ → ℕ → ℝ)

/-- The arguments are these real arrays. -/
structure RealArgs (c : Dev nD) : Prop where
  u : m ((c.tc : Thread nD τ).loc main_arg0) = R2 U
  v : m ((c.tc : Thread nD τ).loc main_arg1) = R2 V
  a : m ((c.tc : Thread nD τ).loc main_arg2) = R2 A
  w : m ((c.tc : Thread nD τ).loc main_arg3) = R2 W
  x : m ((c.tc : Thread nD τ).loc main_arg4) = R2 X
  b : m ((c.tc : Thread nD τ).loc main_arg5) = R2 B
  c : m ((c.tc : Thread nD τ).loc main_arg6) = R2 C

variable {U V A W X B C} {m} {c : Dev nD} (H : RealArgs m U V A W X B C c)

/-- The block of rows `a` and columns `b` of a real array, or of its columns alone. -/
def blk (f : ℕ → ℕ → ℝ) (t p q : ℕ) : ℝ := f (t % 65 * 128 + p) (t / 65 * 1408 + q)
def halo (f : ℕ → ℕ → ℝ) (t p q : ℕ) : ℝ := f ((t % 65 * 16 - 1) * 8 + p) (t / 65 * 1408 + q)
def cols (f : ℕ → ℕ → ℝ) (t p q : ℕ) : ℝ := f p (t / 65 * 1408 + q)

include H

/-- The blocks at a point. -/
theorem block_0 (t : Fin cfg0.N) : iblk m c 0 t = R2 (blk U t.val) := by
  funext y
  show Gen.V m c main_arg0 (((View.whole main_arg0).slice (win0_0.rect t)).emb y) = _
  rw [V_main_arg0, H.u]
  refine congrArg Real.toEReal (congrArg₂ U ?_ ?_)
  · show win0_0.index t 0 * 128 + 1 * (y 0).val = _
    rw [index_0]; show t.val % 65 * 128 + 1 * (y 0).val = t.val % 65 * 128 + (y 0).val; omega
  · show win0_0.index t 1 * 1408 + 1 * (y 1).val = _
    rw [index_0]; show t.val / 65 * 1408 + 1 * (y 1).val = t.val / 65 * 1408 + (y 1).val; omega
theorem block_1 (t : Fin cfg0.N) : iblk m c 1 t = R2 (halo U t.val) := by
  funext y
  show Gen.V m c main_arg0 (((View.whole main_arg0).slice (win0_1.rect t)).emb y) = _
  rw [V_main_arg0, H.u]
  refine congrArg Real.toEReal (congrArg₂ U ?_ ?_)
  · show win0_1.index t 0 * 8 + 1 * (y 0).val = _
    rw [index_1]; show (t.val % 65 * 16 - 1) * 8 + 1 * (y 0).val = (t.val % 65 * 16 - 1) * 8 + (y 0).val; omega
  · show win0_1.index t 1 * 1408 + 1 * (y 1).val = _
    rw [index_1]; show t.val / 65 * 1408 + 1 * (y 1).val = t.val / 65 * 1408 + (y 1).val; omega
theorem block_2 (t : Fin cfg0.N) : iblk m c 2 t = R2 (blk V t.val) := by
  funext y
  show Gen.V m c main_arg1 (((View.whole main_arg1).slice (win0_2.rect t)).emb y) = _
  rw [V_main_arg1, H.v]
  refine congrArg Real.toEReal (congrArg₂ V ?_ ?_)
  · show win0_2.index t 0 * 128 + 1 * (y 0).val = _
    rw [index_2]; show t.val % 65 * 128 + 1 * (y 0).val = t.val % 65 * 128 + (y 0).val; omega
  · show win0_2.index t 1 * 1408 + 1 * (y 1).val = _
    rw [index_2]; show t.val / 65 * 1408 + 1 * (y 1).val = t.val / 65 * 1408 + (y 1).val; omega
theorem block_3 (t : Fin cfg0.N) : iblk m c 3 t = R2 (halo V t.val) := by
  funext y
  show Gen.V m c main_arg1 (((View.whole main_arg1).slice (win0_3.rect t)).emb y) = _
  rw [V_main_arg1, H.v]
  refine congrArg Real.toEReal (congrArg₂ V ?_ ?_)
  · show win0_3.index t 0 * 8 + 1 * (y 0).val = _
    rw [index_3]; show (t.val % 65 * 16 - 1) * 8 + 1 * (y 0).val = (t.val % 65 * 16 - 1) * 8 + (y 0).val; omega
  · show win0_3.index t 1 * 1408 + 1 * (y 1).val = _
    rw [index_3]; show t.val / 65 * 1408 + 1 * (y 1).val = t.val / 65 * 1408 + (y 1).val; omega
theorem block_4 (t : Fin cfg0.N) : iblk m c 4 t = R2 (blk A t.val) := by
  funext y
  show Gen.V m c main_arg2 (((View.whole main_arg2).slice (win0_4.rect t)).emb y) = _
  rw [V_main_arg2, H.a]
  refine congrArg Real.toEReal (congrArg₂ A ?_ ?_)
  · show win0_4.index t 0 * 128 + 1 * (y 0).val = _
    rw [index_4]; show t.val % 65 * 128 + 1 * (y 0).val = t.val % 65 * 128 + (y 0).val; omega
  · show win0_4.index t 1 * 1408 + 1 * (y 1).val = _
    rw [index_4]; show t.val / 65 * 1408 + 1 * (y 1).val = t.val / 65 * 1408 + (y 1).val; omega
theorem block_5 (t : Fin cfg0.N) : iblk m c 5 t = R2 (cols W t.val) := by
  funext y
  show Gen.V m c main_arg3 (((View.whole main_arg3).slice (win0_5.rect t)).emb y) = _
  rw [V_main_arg3, H.w]
  refine congrArg Real.toEReal (congrArg₂ W ?_ ?_)
  · show win0_5.index t 0 * 3 + 1 * (y 0).val = _
    rw [index_5]; show 0 * 3 + 1 * (y 0).val = (y 0).val; omega
  · show win0_5.index t 1 * 1408 + 1 * (y 1).val = _
    rw [index_5]; show t.val / 65 * 1408 + 1 * (y 1).val = t.val / 65 * 1408 + (y 1).val; omega
theorem block_6 (t : Fin cfg0.N) : iblk m c 6 t = R2 (cols X t.val) := by
  funext y
  show Gen.V m c main_arg4 (((View.whole main_arg4).slice (win0_6.rect t)).emb y) = _
  rw [V_main_arg4, H.x]
  refine congrArg Real.toEReal (congrArg₂ X ?_ ?_)
  · show win0_6.index t 0 * 3 + 1 * (y 0).val = _
    rw [index_6]; show 0 * 3 + 1 * (y 0).val = (y 0).val; omega
  · show win0_6.index t 1 * 1408 + 1 * (y 1).val = _
    rw [index_6]; show t.val / 65 * 1408 + 1 * (y 1).val = t.val / 65 * 1408 + (y 1).val; omega
theorem block_7 (t : Fin cfg0.N) : iblk m c 7 t = R2 (cols B t.val) := by
  funext y
  show Gen.V m c main_arg5 (((View.whole main_arg5).slice (win0_7.rect t)).emb y) = _
  rw [V_main_arg5, H.b]
  refine congrArg Real.toEReal (congrArg₂ B ?_ ?_)
  · show win0_7.index t 0 * 1 + 1 * (y 0).val = _
    rw [index_7]; show 0 * 1 + 1 * (y 0).val = (y 0).val; omega
  · show win0_7.index t 1 * 1408 + 1 * (y 1).val = _
    rw [index_7]; show t.val / 65 * 1408 + 1 * (y 1).val = t.val / 65 * 1408 + (y 1).val; omega
theorem block_8 (t : Fin cfg0.N) : iblk m c 8 t = R2 (cols C t.val) := by
  funext y
  show Gen.V m c main_arg6 (((View.whole main_arg6).slice (win0_8.rect t)).emb y) = _
  rw [V_main_arg6, H.c]
  refine congrArg Real.toEReal (congrArg₂ C ?_ ?_)
  · show win0_8.index t 0 * 1 + 1 * (y 0).val = _
    rw [index_8]; show 0 * 1 + 1 * (y 0).val = (y 0).val; omega
  · show win0_8.index t 1 * 1408 + 1 * (y 1).val = _
    rw [index_8]; show t.val / 65 * 1408 + 1 * (y 1).val = t.val / 65 * 1408 + (y 1).val; omega

/-- The buffer of the gate read from row `6 + k` on holds what tap `k` meets. -/
theorem shifted_0 (t : Fin cfg0.N) (o k : ℕ) (ho : o = 6 + k) (hk : k ≤ 2)
    (inbL : ∀ a, (![o, 0] : Fin 2 → ℕ) a + S128x1408.size a ≤ S136x1408.size a) :
    (View.whole cc0_scratch0).readCov
      [(⟨Rect.unit (s := S136x1408) ![8, 0] S128x1408.size inb_S136x1408_S128x1408_8_0, k0_pay9 (iblk m c 0 t)⟩ : View.Piece (Elt Ideal) S136x1408 .f32),
        ⟨Rect.unit (s := S136x1408) ![0, 0] S8x1408.size inb_S136x1408_S8x1408_0_0, k0_pay8 (grid0.coords t) (iblk m c 1 t)⟩]
      (Rect.unit (s := S136x1408) ![o, 0] S128x1408.size inbL).toLoadRect = R2 (blk (sh U k) t.val) := by
  funext y
  idx_vars y
  refine (Cert.Grad.Stack.read_stacked (b := 8) (k := 128) rfl (View.whole cc0_scratch0) _ _ _ _ _ y0 y1).trans ?_
  rw [block_0 H, block_1 H, R2_ix2]
  unfold blk sh
  have h0 := y0.isLt
  split
  · refine (p8 t _ _).trans ?_
    rw [R2_ix2]
    unfold halo
    split
    · rw [if_pos (by omega)]
      refine congrArg Real.toEReal (congrArg₂ U ?_ rfl)
      show (t.val % 65 * 16 - 1) * 8 + (o + y0.val) = _
      omega
    · rw [if_neg (by omega)]
      rfl
  · refine (congrFun (p9 _) _).trans ?_
    rw [R2_ix2, if_pos (by omega)]
    refine congrArg Real.toEReal (congrArg₂ U ?_ rfl)
    show t.val % 65 * 128 + (o + y0.val - 8) = _
    omega

/-- The buffer of the value read from row `6 + k` on holds what tap `k` meets. -/
theorem shifted_1 (t : Fin cfg0.N) (o k : ℕ) (ho : o = 6 + k) (hk : k ≤ 2)
    (inbL : ∀ a, (![o, 0] : Fin 2 → ℕ) a + S128x1408.size a ≤ S136x1408.size a) :
    (View.whole cc0_scratch1).readCov
      [(⟨Rect.unit (s := S136x1408) ![8, 0] S128x1408.size inb_S136x1408_S128x1408_8_0, k0_pay11 (iblk m c 2 t)⟩ : View.Piece (Elt Ideal) S136x1408 .f32),
        ⟨Rect.unit (s := S136x1408) ![0, 0] S8x1408.size inb_S136x1408_S8x1408_0_0, k0_pay10 (grid0.coords t) (iblk m c 3 t)⟩]
      (Rect.unit (s := S136x1408) ![o, 0] S128x1408.size inbL).toLoadRect = R2 (blk (sh V k) t.val) := by
  funext y
  idx_vars y
  refine (Cert.Grad.Stack.read_stacked (b := 8) (k := 128) rfl (View.whole cc0_scratch1) _ _ _ _ _ y0 y1).trans ?_
  rw [block_2 H, block_3 H, R2_ix2]
  unfold blk sh
  have h0 := y0.isLt
  split
  · refine (p8 t _ _).trans ?_
    rw [R2_ix2]
    unfold halo
    split
    · rw [if_pos (by omega)]
      refine congrArg Real.toEReal (congrArg₂ V ?_ rfl)
      show (t.val % 65 * 16 - 1) * 8 + (o + y0.val) = _
      omega
    · rw [if_neg (by omega)]
      rfl
  · refine (congrFun (p9 _) _).trans ?_
    rw [R2_ix2, if_pos (by omega)]
    refine congrArg Real.toEReal (congrArg₂ V ?_ rfl)
    show t.val % 65 * 128 + (o + y0.val - 8) = _
    omega

/-- A tap's row of the weights' block. -/
theorem tap_5 (t : Fin cfg0.N) (k : ℕ) (inbL : ∀ a, (![k, 0] : Fin 2 → ℕ) a + S1x1408.size a ≤ S3x1408.size a) :
    View.ld (iblk m c 5 t : Vec Ideal S3x1408 .f32) (Rect.unit (s := S3x1408) ![k, 0] S1x1408.size inbL) = R2 (fun _ => cols W t.val k) := by
  rw [block_5 H]
  funext y
  have h : (y 0).val < 1 := (y 0).isLt
  refine congrArg Real.toEReal (congrArg₂ (cols W t.val) ?_ ?_)
  · show k + 1 * (y 0).val = k; omega
  · show 0 + 1 * (y 1).val = (y 1).val; omega

/-- A tap's row of the weights' block. -/
theorem tap_6 (t : Fin cfg0.N) (k : ℕ) (inbL : ∀ a, (![k, 0] : Fin 2 → ℕ) a + S1x1408.size a ≤ S3x1408.size a) :
    View.ld (iblk m c 6 t : Vec Ideal S3x1408 .f32) (Rect.unit (s := S3x1408) ![k, 0] S1x1408.size inbL) = R2 (fun _ => cols X t.val k) := by
  rw [block_6 H]
  funext y
  have h : (y 0).val < 1 := (y 0).isLt
  refine congrArg Real.toEReal (congrArg₂ (cols X t.val) ?_ ?_)
  · show k + 1 * (y 0).val = k; omega
  · show 0 + 1 * (y 1).val = (y 1).val; omega

/-- The gradient of the gate's convolution. -/
theorem array9 : (dats m 0 c).arrAt 9 cfg0.N = R2 (dgate U V A W X B C) := by
  refine (dats m 0 c).arrAt_eq_of_covers 9 _ (by decide +kernel) fun t hf y => ?_
  have e : R2 (dgate U V A W X B C) (((View.whole main_v0_0).slice (win0_9.rect t)).emb y) = R2 (a := 128) (b := 1408) (blk (dgate U V A W X B C) t.val) y := by
    refine congrArg Real.toEReal (congrArg₂ (dgate U V A W X B C) ?_ ?_)
    · show win0_9.index t 0 * 128 + 1 * (y 0).val = _
      rw [index_9]; show t.val % 65 * 128 + 1 * (y 0).val = t.val % 65 * 128 + (y 0).val; omega
    · show win0_9.index t 1 * 1408 + 1 * (y 1).val = _
      rw [index_9]; show t.val / 65 * 1408 + 1 * (y 1).val = t.val / 65 * 1408 + (y 1).val; omega
  blk_simp
  refine Eq.trans ?_ e.symm
  rw [after0_9]
  by_cases h : t.val % 65 = 0
  · rw [outsAt0_A m c t h (by omega)]
    frame_out
    rw [shifted_0 H t 8 2 rfl (by omega), shifted_0 H t 6 0 rfl (by omega), shifted_0 H t 7 1 rfl (by omega), tap_5 H t 2, tap_5 H t 0, tap_5 H t 1, block_7 H, shifted_1 H t 8 2 rfl (by omega), shifted_1 H t 6 0 rfl (by omega), shifted_1 H t 7 1 rfl (by omega), tap_6 H t 2, tap_6 H t 0, tap_6 H t 1, block_8 H, block_4 H, p12, p13, p14, tap_5 H t 2, tap_5 H t 0, tap_5 H t 1, p12, p15, p16]
    rfl
  · rw [outsAt0_B m c t h (by omega)]
    frame_out
    rw [shifted_0 H t 8 2 rfl (by omega), shifted_0 H t 6 0 rfl (by omega), shifted_0 H t 7 1 rfl (by omega), tap_5 H t 2, tap_5 H t 0, tap_5 H t 1, block_7 H, shifted_1 H t 8 2 rfl (by omega), shifted_1 H t 6 0 rfl (by omega), shifted_1 H t 7 1 rfl (by omega), tap_6 H t 2, tap_6 H t 0, tap_6 H t 1, block_8 H, block_4 H, p12, p13, p14, tap_5 H t 2, tap_5 H t 0, tap_5 H t 1, p12, p15, p16]
    rfl

/-- The gradient of the value's convolution. -/
theorem array10 : (dats m 0 c).arrAt 10 cfg0.N = R2 (dval U A W B) := by
  refine (dats m 0 c).arrAt_eq_of_covers 10 _ (by decide +kernel) fun t hf y => ?_
  have e : R2 (dval U A W B) (((View.whole main_v0_1).slice (win0_10.rect t)).emb y) = R2 (a := 128) (b := 1408) (blk (dval U A W B) t.val) y := by
    refine congrArg Real.toEReal (congrArg₂ (dval U A W B) ?_ ?_)
    · show win0_10.index t 0 * 128 + 1 * (y 0).val = _
      rw [index_10]; show t.val % 65 * 128 + 1 * (y 0).val = t.val % 65 * 128 + (y 0).val; omega
    · show win0_10.index t 1 * 1408 + 1 * (y 1).val = _
      rw [index_10]; show t.val / 65 * 1408 + 1 * (y 1).val = t.val / 65 * 1408 + (y 1).val; omega
  blk_simp
  refine Eq.trans ?_ e.symm
  rw [after0_10]
  by_cases h : t.val % 65 = 0
  · rw [outsAt0_A m c t h (by omega)]
    frame_out
    rw [shifted_0 H t 8 2 rfl (by omega), shifted_0 H t 6 0 rfl (by omega), shifted_0 H t 7 1 rfl (by omega), tap_5 H t 2, tap_5 H t 0, tap_5 H t 1, block_7 H, block_4 H, p12, p13, tap_5 H t 2, tap_5 H t 0, tap_5 H t 1, p12, p15, p17]
    rfl
  · rw [outsAt0_B m c t h (by omega)]
    frame_out
    rw [shifted_0 H t 8 2 rfl (by omega), shifted_0 H t 6 0 rfl (by omega), shifted_0 H t 7 1 rfl (by omega), tap_5 H t 2, tap_5 H t 0, tap_5 H t 1, block_7 H, block_4 H, p12, p13, tap_5 H t 2, tap_5 H t 0, tap_5 H t 1, p12, p15, p17]
    rfl

/-- The gradient of the gate's taps. -/
theorem array11 : (dats m 0 c).arrAt 11 cfg0.N = dw U (dgate U V A W X B C) := by
  refine (dats m 0 c).arrAt_eq_of_covers 11 _ (by decide +kernel) fun t hf y => ?_
  have hm := (flush0_11 t).mp hf
  blk_simp
  rw [after0_11, Pipeline.eq_sum_fin_of_reset_step_apply_of_flush (fun n h => (outsAt0 m c n h).2.2.1) 65 (fun _ => (0 : EReal))
    (fun t j => ∑ p : Fin 128, ((dgate U V A W X B C (t.val % 65 * 128 + p.val) (t.val / 65 * 1408 + (j 1).val) * sh U (j 0).val (t.val % 65 * 128 + p.val) (t.val / 65 * 1408 + (j 1).val) : ℝ) : EReal))
    (fun t h j => by
      rw [outsAt0_A m c t h (by omega)]; frame_out
      rw [shifted_0 H t 8 2 rfl (by omega), shifted_0 H t 6 0 rfl (by omega), shifted_0 H t 7 1 rfl (by omega), tap_5 H t 2, tap_5 H t 0, tap_5 H t 1, block_7 H, shifted_1 H t 8 2 rfl (by omega), shifted_1 H t 6 0 rfl (by omega), shifted_1 H t 7 1 rfl (by omega), tap_6 H t 2, tap_6 H t 0, tap_6 H t 1, block_8 H, block_4 H]
      repeat first | rw [tap_5 H t 2] | rw [tap_5 H t 0] | rw [tap_5 H t 1] | rw [p12] | rw [p13] | rw [p14] | rw [p15]
      rw [p18 _ _ _ _ (fun k => blk (sh U k) t.val), zero_add]
      rfl)
    (fun t h j => by
      rw [outsAt0_B m c t h (by omega)]; frame_out
      rw [shifted_0 H t 8 2 rfl (by omega), shifted_0 H t 6 0 rfl (by omega), shifted_0 H t 7 1 rfl (by omega), tap_5 H t 2, tap_5 H t 0, tap_5 H t 1, block_7 H, shifted_1 H t 8 2 rfl (by omega), shifted_1 H t 6 0 rfl (by omega), shifted_1 H t 7 1 rfl (by omega), tap_6 H t 2, tap_6 H t 0, tap_6 H t 1, block_8 H, block_4 H]
      repeat first | rw [tap_5 H t 2] | rw [tap_5 H t 0] | rw [tap_5 H t 1] | rw [p12] | rw [p13] | rw [p14] | rw [p15]
      rw [p4, p18 _ _ _ _ (fun k => blk (sh U k) t.val)]
      rfl) t hm _, zero_add]
  unfold dw
  refine Fin.sum_mul_add_congr fun s k hl => ?_
  have hs : s.val < 65 := s.isLt
  have e : ((win0_11.blk t).view.emb y 1).val = t.val / 65 * 1408 + (y 1).val := by
    show win0_11.index t 1 * 1408 + 1 * (y 1).val = _
    rw [index_11]; show t.val / 65 * 1408 + 1 * (y 1).val = _; omega
  have e0 : ((win0_11.blk t).view.emb y 0).val = (y 0).val := by
    show win0_11.index t 0 * 3 + 1 * (y 0).val = _
    rw [index_11]; show 0 * 3 + 1 * (y 0).val = _; omega
  rw [e, e0]
  show ((dgate U V A W X B C ((65 * (t.val / 65) + s.val) % 65 * 128 + k.val) ((65 * (t.val / 65) + s.val) / 65 * 1408 + (y 1).val) * sh U (y 0).val ((65 * (t.val / 65) + s.val) % 65 * 128 + k.val) ((65 * (t.val / 65) + s.val) / 65 * 1408 + (y 1).val) : ℝ) : EReal) = _
  rw [show (65 * (t.val / 65) + s.val) % 65 = s.val by omega, show (65 * (t.val / 65) + s.val) / 65 = t.val / 65 by omega]

/-- The gradient of the value's taps. -/
theorem array12 : (dats m 0 c).arrAt 12 cfg0.N = dw V (dval U A W B) := by
  refine (dats m 0 c).arrAt_eq_of_covers 12 _ (by decide +kernel) fun t hf y => ?_
  have hm := (flush0_12 t).mp hf
  blk_simp
  rw [after0_12, Pipeline.eq_sum_fin_of_reset_step_apply_of_flush (fun n h => (outsAt0 m c n h).2.2.2.1) 65 (fun _ => (0 : EReal))
    (fun t j => ∑ p : Fin 128, ((dval U A W B (t.val % 65 * 128 + p.val) (t.val / 65 * 1408 + (j 1).val) * sh V (j 0).val (t.val % 65 * 128 + p.val) (t.val / 65 * 1408 + (j 1).val) : ℝ) : EReal))
    (fun t h j => by
      rw [outsAt0_A m c t h (by omega)]; frame_out
      rw [shifted_0 H t 8 2 rfl (by omega), shifted_0 H t 6 0 rfl (by omega), shifted_0 H t 7 1 rfl (by omega), tap_5 H t 2, tap_5 H t 0, tap_5 H t 1, block_7 H, shifted_1 H t 8 2 rfl (by omega), shifted_1 H t 6 0 rfl (by omega), shifted_1 H t 7 1 rfl (by omega), block_4 H]
      repeat first | rw [tap_5 H t 2] | rw [tap_5 H t 0] | rw [tap_5 H t 1] | rw [p12] | rw [p13] | rw [p14] | rw [p15]
      rw [p1 _ _ _ (fun k => blk (sh V k) t.val), zero_add]
      rfl)
    (fun t h j => by
      rw [outsAt0_B m c t h (by omega)]; frame_out
      rw [shifted_0 H t 8 2 rfl (by omega), shifted_0 H t 6 0 rfl (by omega), shifted_0 H t 7 1 rfl (by omega), tap_5 H t 2, tap_5 H t 0, tap_5 H t 1, block_7 H, shifted_1 H t 8 2 rfl (by omega), shifted_1 H t 6 0 rfl (by omega), shifted_1 H t 7 1 rfl (by omega), block_4 H]
      repeat first | rw [tap_5 H t 2] | rw [tap_5 H t 0] | rw [tap_5 H t 1] | rw [p12] | rw [p13] | rw [p14] | rw [p15]
      rw [p5, p1 _ _ _ (fun k => blk (sh V k) t.val)]
      rfl) t hm _, zero_add]
  unfold dw
  refine Fin.sum_mul_add_congr fun s k hl => ?_
  have hs : s.val < 65 := s.isLt
  have e : ((win0_12.blk t).view.emb y 1).val = t.val / 65 * 1408 + (y 1).val := by
    show win0_12.index t 1 * 1408 + 1 * (y 1).val = _
    rw [index_12]; show t.val / 65 * 1408 + 1 * (y 1).val = _; omega
  have e0 : ((win0_12.blk t).view.emb y 0).val = (y 0).val := by
    show win0_12.index t 0 * 3 + 1 * (y 0).val = _
    rw [index_12]; show 0 * 3 + 1 * (y 0).val = _; omega
  rw [e, e0]
  show ((dval U A W B ((65 * (t.val / 65) + s.val) % 65 * 128 + k.val) ((65 * (t.val / 65) + s.val) / 65 * 1408 + (y 1).val) * sh V (y 0).val ((65 * (t.val / 65) + s.val) % 65 * 128 + k.val) ((65 * (t.val / 65) + s.val) / 65 * 1408 + (y 1).val) : ℝ) : EReal) = _
  rw [show (65 * (t.val / 65) + s.val) % 65 = s.val by omega, show (65 * (t.val / 65) + s.val) / 65 = t.val / 65 by omega]

/-- The gradient of the gate's offset. -/
theorem array13 : (dats m 0 c).arrAt 13 cfg0.N = db (dgate U V A W X B C) := by
  refine (dats m 0 c).arrAt_eq_of_covers 13 _ (by decide +kernel) fun t hf y => ?_
  have hm := (flush0_13 t).mp hf
  blk_simp
  rw [after0_13, Pipeline.eq_sum_fin_of_reset_step_apply_of_flush (fun n h => (outsAt0 m c n h).2.2.2.2.1) 65 (fun _ => (0 : EReal))
    (fun t j => ∑ p : Fin 128, ((dgate U V A W X B C (t.val % 65 * 128 + p.val) (t.val / 65 * 1408 + (j 1).val) : ℝ) : EReal))
    (fun t h j => by
      rw [outsAt0_A m c t h (by omega)]; frame_out
      rw [shifted_0 H t 8 2 rfl (by omega), shifted_0 H t 6 0 rfl (by omega), shifted_0 H t 7 1 rfl (by omega), tap_5 H t 2, tap_5 H t 0, tap_5 H t 1, block_7 H, shifted_1 H t 8 2 rfl (by omega), shifted_1 H t 6 0 rfl (by omega), shifted_1 H t 7 1 rfl (by omega), tap_6 H t 2, tap_6 H t 0, tap_6 H t 1, block_8 H, block_4 H]
      repeat first | rw [tap_5 H t 2] | rw [tap_5 H t 0] | rw [tap_5 H t 1] | rw [p12] | rw [p13] | rw [p14] | rw [p15]
      rw [p16, p2, zero_add]
      rfl)
    (fun t h j => by
      rw [outsAt0_B m c t h (by omega)]; frame_out
      rw [shifted_0 H t 8 2 rfl (by omega), shifted_0 H t 6 0 rfl (by omega), shifted_0 H t 7 1 rfl (by omega), tap_5 H t 2, tap_5 H t 0, tap_5 H t 1, block_7 H, shifted_1 H t 8 2 rfl (by omega), shifted_1 H t 6 0 rfl (by omega), shifted_1 H t 7 1 rfl (by omega), tap_6 H t 2, tap_6 H t 0, tap_6 H t 1, block_8 H, block_4 H]
      repeat first | rw [tap_5 H t 2] | rw [tap_5 H t 0] | rw [tap_5 H t 1] | rw [p12] | rw [p13] | rw [p14] | rw [p15]
      rw [p16, p6]
      rfl) t hm _, zero_add]
  unfold db
  refine Fin.sum_mul_add_congr fun s k hl => ?_
  have hs : s.val < 65 := s.isLt
  have e : ((win0_13.blk t).view.emb y 1).val = t.val / 65 * 1408 + (y 1).val := by
    show win0_13.index t 1 * 1408 + 1 * (y 1).val = _
    rw [index_13]; show t.val / 65 * 1408 + 1 * (y 1).val = _; omega
  rw [e]
  show ((dgate U V A W X B C ((65 * (t.val / 65) + s.val) % 65 * 128 + k.val) ((65 * (t.val / 65) + s.val) / 65 * 1408 + (y 1).val) : ℝ) : EReal) = _
  rw [show (65 * (t.val / 65) + s.val) % 65 = s.val by omega, show (65 * (t.val / 65) + s.val) / 65 = t.val / 65 by omega]

/-- The gradient of the value's offset. -/
theorem array14 : (dats m 0 c).arrAt 14 cfg0.N = db (dval U A W B) := by
  refine (dats m 0 c).arrAt_eq_of_covers 14 _ (by decide +kernel) fun t hf y => ?_
  have hm := (flush0_14 t).mp hf
  blk_simp
  rw [after0_14, Pipeline.eq_sum_fin_of_reset_step_apply_of_flush (fun n h => (outsAt0 m c n h).2.2.2.2.2) 65 (fun _ => (0 : EReal))
    (fun t j => ∑ p : Fin 128, ((dval U A W B (t.val % 65 * 128 + p.val) (t.val / 65 * 1408 + (j 1).val) : ℝ) : EReal))
    (fun t h j => by
      rw [outsAt0_A m c t h (by omega)]; frame_out
      rw [shifted_0 H t 8 2 rfl (by omega), shifted_0 H t 6 0 rfl (by omega), shifted_0 H t 7 1 rfl (by omega), tap_5 H t 2, tap_5 H t 0, tap_5 H t 1, block_7 H, block_4 H]
      repeat first | rw [tap_5 H t 2] | rw [tap_5 H t 0] | rw [tap_5 H t 1] | rw [p12] | rw [p13] | rw [p14] | rw [p15]
      rw [p17, p3, zero_add]
      rfl)
    (fun t h j => by
      rw [outsAt0_B m c t h (by omega)]; frame_out
      rw [shifted_0 H t 8 2 rfl (by omega), shifted_0 H t 6 0 rfl (by omega), shifted_0 H t 7 1 rfl (by omega), tap_5 H t 2, tap_5 H t 0, tap_5 H t 1, block_7 H, block_4 H]
      repeat first | rw [tap_5 H t 2] | rw [tap_5 H t 0] | rw [tap_5 H t 1] | rw [p12] | rw [p13] | rw [p14] | rw [p15]
      rw [p17, p7]
      rfl) t hm _, zero_add]
  unfold db
  refine Fin.sum_mul_add_congr fun s k hl => ?_
  have hs : s.val < 65 := s.isLt
  have e : ((win0_14.blk t).view.emb y 1).val = t.val / 65 * 1408 + (y 1).val := by
    show win0_14.index t 1 * 1408 + 1 * (y 1).val = _
    rw [index_14]; show t.val / 65 * 1408 + 1 * (y 1).val = _; omega
  rw [e]
  show ((dval U A W B ((65 * (t.val / 65) + s.val) % 65 * 128 + k.val) ((65 * (t.val / 65) + s.val) / 65 * 1408 + (y 1).val) : ℝ) : EReal) = _
  rw [show (65 * (t.val / 65) + s.val) % 65 = s.val by omega, show (65 * (t.val / 65) + s.val) / 65 = t.val / 65 by omega]

end Cert.Kernel32Ideal.Grad

namespace Cert.Reference32Ideal.Grad

open Cert.Reference32Ideal Cert.Reference32Ideal.Read Idealize.ShloMosaic Idealize.SL.Sem Cert.Attn Cert.Norm Cert.Ffn

variable (U V A W X B C : ℕ → ℕ → ℝ)

/-- The rows that the taps meet. -/
theorem s4 (i : Fin 8320) (q : Fin 2816) : val_main_v4 (F := Ideal) (R2 U) (ix2 i q) = ((sh U 0 i.val q.val : ℝ) : EReal) := by
  pointwise [val_main_v4, val_main_v1, val_main_v0, val_main_cst]
  simp only [R2_ix2]
  unfold sh
  split_ifs <;> first | omega | rfl | rw [Nat.add_comm]
theorem s12 (i : Fin 8320) (q : Fin 2816) : val_main_v12 (F := Ideal) (R2 U) (ix2 i q) = ((sh U 1 i.val q.val : ℝ) : EReal) := by
  pointwise [val_main_v12, val_main_v1, val_main_v0, val_main_cst]
  simp only [R2_ix2]
  unfold sh
  split_ifs <;> first | omega | rfl | rw [Nat.add_comm]
theorem s19 (i : Fin 8320) (q : Fin 2816) : val_main_v19 (F := Ideal) (R2 U) (ix2 i q) = ((sh U 2 i.val q.val : ℝ) : EReal) := by
  pointwise [val_main_v19, val_main_v1, val_main_v0, val_main_cst]
  simp only [R2_ix2]
  unfold sh
  split_ifs <;> first | omega | rfl | rw [Nat.add_comm]
theorem s30 (i : Fin 8320) (q : Fin 2816) : val_main_v30 (F := Ideal) (R2 U) (ix2 i q) = ((sh U 0 i.val q.val : ℝ) : EReal) := s4 U i q
theorem s38 (i : Fin 8320) (q : Fin 2816) : val_main_v38 (F := Ideal) (R2 U) (ix2 i q) = ((sh U 1 i.val q.val : ℝ) : EReal) := s12 U i q
theorem s45 (i : Fin 8320) (q : Fin 2816) : val_main_v45 (F := Ideal) (R2 U) (ix2 i q) = ((sh U 2 i.val q.val : ℝ) : EReal) := s19 U i q
/-- The two convolutions. -/
theorem s25 (i : Fin 8320) (q : Fin 2816) : val_main_v25 (F := Ideal) (R2 U) (R2 W) (R2 B) (ix2 i q) = ((cv U W B i.val q.val : ℝ) : EReal) := by
  pointwise [val_main_v25, val_main_v24, val_main_v23, val_main_v22, val_main_v21, val_main_v20, val_main_v18, val_main_v17, val_main_v16, val_main_v15,
    val_main_v14, val_main_v13, val_main_v11, val_main_v10, val_main_v9, val_main_v8, val_main_cst_0, val_main_v7, val_main_v6, val_main_v5, val_main_v3, val_main_v2]
  simp only [s4, s12, s19, R2_ix2, ← EReal.coe_mul, ← EReal.coe_add, zero_add]
  refine congrArg Real.toEReal ?_
  unfold cv
  show W 0 q.val * sh U 0 i.val q.val + W 1 q.val * sh U 1 i.val q.val + W 2 q.val * sh U 2 i.val q.val + B 0 q.val = _
  ring
theorem s51 (i : Fin 8320) (q : Fin 2816) : val_main_v51 (F := Ideal) (R2 U) (R2 W) (R2 B) (ix2 i q) = ((cv U W B i.val q.val : ℝ) : EReal) := s25 U W B i q
theorem s52 (i : Fin 8320) (q : Fin 2816) : val_main_v52_2 (F := Ideal) (R2 U) (R2 W) (R2 B) (ix2 i q) = ((sg (cv U W B i.val q.val) : ℝ) : EReal) := by
  pointwise [val_main_v52_2, val_main_call0_v4, val_main_call0_cst_0, val_main_call0_v3, val_main_call0_v2, val_main_call0_cst, val_main_call0_v1, val_main_call0_v0]
  rw [s25, sg_real]
/-- The gradients of the two convolutions. -/
theorem s56 (i : Fin 8320) (q : Fin 2816) : val_main_v56 (F := Ideal) (R2 U) (R2 V) (R2 A) (R2 W) (R2 X) (R2 B) (R2 C) (ix2 i q) = ((dgate U V A W X B C i.val q.val : ℝ) : EReal) := by
  pointwise [val_main_v56, val_main_call1_v2, val_main_call1_v1, val_main_call1_v0, val_main_v55, val_main_v52_1, val_main_call0_v7, val_main_call0_v6, val_main_call0_cst_1]
  simp only [s25, s51, s52, R2_ix2]
  rw [← EReal.coe_one]
  simp only [← EReal.coe_mul, ← EReal.coe_add, ← EReal.coe_sub]
  refine congrArg Real.toEReal ?_
  unfold dgate
  ring
theorem s54 (i : Fin 8320) (q : Fin 2816) : val_main_v54 (F := Ideal) (R2 U) (R2 A) (R2 W) (R2 B) (ix2 i q) = ((dval U A W B i.val q.val : ℝ) : EReal) := by
  pointwise [val_main_v54, val_main_v52_0]
  simp only [s25, s52, R2_ix2, ← EReal.coe_mul]
  refine congrArg Real.toEReal ?_
  unfold dval
  ring
theorem value56 : val_main_v56 (F := Ideal) (R2 U) (R2 V) (R2 A) (R2 W) (R2 X) (R2 B) (R2 C) = R2 (dgate U V A W X B C) := by
  funext i
  idx_vars i
  exact s56 U V A W X B C i0 i1
theorem value54 : val_main_v54 (F := Ideal) (R2 U) (R2 A) (R2 W) (R2 B) = R2 (dval U A W B) := by
  funext i
  idx_vars i
  exact s54 U A W B i0 i1
/-- The gradients of the taps. -/
theorem value100 : val_main_v100 (F := Ideal) (R2 U) (R2 V) (R2 A) (R2 W) (R2 X) (R2 B) (R2 C) = dw U (dgate U V A W X B C) := by
  funext i
  idx_vars i
  fin_cases i0
  all_goals
    pointwise [val_main_v100, val_main_v99, val_main_v98, val_main_v97, val_main_v96, val_main_v95, val_main_v94, val_main_v93, val_main_v92, val_main_v91, val_main_v90,
      val_main_v89, val_main_v88, val_main_v87, val_main_v86, val_main_v85, val_main_v84, val_main_v83, val_main_v82, val_main_v81, val_main_cst_14, val_main_cst_15,
      val_main_cst_16, val_main_cst_17, val_main_cst_18, val_main_cst_19, val_main_cst_20, val_main_cst_21, val_main_cst_22, dw]
    simp only [s4, s12, s19, s56, Finset.univ_unique, Finset.sum_singleton, ← EReal.coe_mul]
theorem value78 : val_main_v78 (F := Ideal) (R2 U) (R2 V) (R2 A) (R2 W) (R2 B) = dw V (dval U A W B) := by
  funext i
  idx_vars i
  fin_cases i0
  all_goals
    pointwise [val_main_v78, val_main_v77, val_main_v76, val_main_v75, val_main_v74, val_main_v73, val_main_v72, val_main_v71, val_main_v70, val_main_v69, val_main_v68,
      val_main_v67, val_main_v66, val_main_v65, val_main_v64, val_main_v63, val_main_v62, val_main_v61, val_main_v60, val_main_v59, val_main_cst_4, val_main_cst_5,
      val_main_cst_6, val_main_cst_7, val_main_cst_8, val_main_cst_9, val_main_cst_10, val_main_cst_11, val_main_cst_12, dw]
    simp only [s30, s38, s45, s54, Finset.univ_unique, Finset.sum_singleton, ← EReal.coe_mul]
/-- The gradients of the offsets. -/
theorem value80 : val_main_v80 (F := Ideal) (R2 U) (R2 V) (R2 A) (R2 W) (R2 X) (R2 B) (R2 C) = db (dgate U V A W X B C) := by
  funext i
  idx_vars i
  pointwise [val_main_v80, val_main_v79, val_main_cst_13, db]
  simp only [s56]
theorem value58 : val_main_v58 (F := Ideal) (R2 U) (R2 A) (R2 W) (R2 B) = db (dval U A W B) := by
  funext i
  idx_vars i
  pointwise [val_main_v58, val_main_v57, val_main_cst_3, db]
  simp only [s54]

end Cert.Reference32Ideal.Grad
namespace Cert.Proof

open Idealize.ShloMosaic Idealize.SL.Sem Cert.Attn Cert.Norm Cert.Ffn

theorem preFacts32 : Cert.Pre_finite32.Facts where
  bcast_S_S8320x2816 := by decide
  bcast_S_S3x2816 := by decide
  bcast_S_S1x2816 := by decide

local instance facts32 : Cert.Pre_finite32.Facts := preFacts32

/-- Under the precondition the seven arguments are real arrays. -/
theorem realArgs32 (m : (ℓ : Loc Cert.Kernel32Ideal.nD Cert.Kernel32Ideal.τ Cert.Kernel32Ideal.sig) → Buf (Elt Ideal) ℓ) (h : Pre_Kernel32Ideal_finite32 m) (c : Dev Cert.Kernel32Ideal.nD) :
    Cert.Kernel32Ideal.Grad.RealArgs m (real2 (m (c.tc.loc Cert.Kernel32Ideal.main_arg0))) (real2 (m (c.tc.loc Cert.Kernel32Ideal.main_arg1)))
      (real2 (m (c.tc.loc Cert.Kernel32Ideal.main_arg2))) (real2 (m (c.tc.loc Cert.Kernel32Ideal.main_arg3))) (real2 (m (c.tc.loc Cert.Kernel32Ideal.main_arg4)))
      (real2 (m (c.tc.loc Cert.Kernel32Ideal.main_arg5))) (real2 (m (c.tc.loc Cert.Kernel32Ideal.main_arg6))) c := by
  obtain ⟨h0, h1, h2, h3, h4, h5, h6⟩ := h c
  exact ⟨R2_real2 _ (entry_real32 (by decide) _ h0), R2_real2 _ (entry_real32 (by decide) _ h1), R2_real2 _ (entry_real32 (by decide) _ h2),
    R2_real2 _ (entry_real32 (by decide) _ h3), R2_real2 _ (entry_real32 (by decide) _ h4), R2_real2 _ (entry_real32 (by decide) _ h5),
    R2_real2 _ (entry_real32 (by decide) _ h6)⟩

/-- The kernel's six results are the reference's. -/
theorem algebraic32 : algebraic_Kernel32Ideal_Reference32Ideal_pre_finite32 (hKernel32Ideal := Cert.Kernel32Ideal.Gen.facts) (hReference32Ideal := Cert.Reference32Ideal.Gen.facts) := by
  intro m ρ m' ρ' hpre hag
  have H := realArgs32 m hpre
  refine ⟨_, _, _, _, _, _,
    (θ_run _ _ _).mono (fun r h c => ⟨(h c).1.trans (Cert.Kernel32Ideal.Grad.array9 (H c)), (h c).2.1.trans (Cert.Kernel32Ideal.Grad.array10 (H c)),
      (h c).2.2.1.trans (Cert.Kernel32Ideal.Grad.array11 (H c)), (h c).2.2.2.1.trans (Cert.Kernel32Ideal.Grad.array12 (H c)),
      (h c).2.2.2.2.1.trans (Cert.Kernel32Ideal.Grad.array13 (H c)), (h c).2.2.2.2.2.1.trans (Cert.Kernel32Ideal.Grad.array14 (H c)), (h c).2.2.2.2.2.2⟩)
      (Cert.Kernel32Ideal.Value.run_blocks m ρ),
    (θ_run _ _ _).mono (fun r h c => ?_) (Cert.Reference32Ideal.Value.run m' ρ')⟩
  obtain ⟨hu, hv, ha, hw, hx, hb, hc⟩ := H c
  obtain ⟨e0, e1, e2, e3, e4, e5, e6⟩ := hag c
  refine ⟨(h c).1.trans ?_, (h c).2.1.trans ?_, (h c).2.2.1.trans ?_, (h c).2.2.2.1.trans ?_, (h c).2.2.2.2.1.trans ?_, (h c).2.2.2.2.2.1.trans ?_, (h c).2.2.2.2.2.2⟩
  · rw [Cert.Reference32Ideal.Read.val_main_v56_eq, e0, e1, e2, e3, e4, e5, e6]
    refine Eq.trans ?_ (Cert.Reference32Ideal.Grad.value56 _ _ _ _ _ _ _)
    rw [← hu, ← hv, ← ha, ← hw, ← hx, ← hb, ← hc]
  · rw [Cert.Reference32Ideal.Read.val_main_v54_eq, e0, e2, e3, e5]
    refine Eq.trans ?_ (Cert.Reference32Ideal.Grad.value54 _ _ _ _)
    rw [← hu, ← ha, ← hw, ← hb]
  · rw [Cert.Reference32Ideal.Read.val_main_v100_eq, e0, e1, e2, e3, e4, e5, e6]
    refine Eq.trans ?_ (Cert.Reference32Ideal.Grad.value100 _ _ _ _ _ _ _)
    rw [← hu, ← hv, ← ha, ← hw, ← hx, ← hb, ← hc]
  · rw [Cert.Reference32Ideal.Read.val_main_v78_eq, e0, e1, e2, e3, e5]
    refine Eq.trans ?_ (Cert.Reference32Ideal.Grad.value78 _ _ _ _ _)
    rw [← hu, ← hv, ← ha, ← hw, ← hb]
  · rw [Cert.Reference32Ideal.Read.val_main_v80_eq, e0, e1, e2, e3, e4, e5, e6]
    refine Eq.trans ?_ (Cert.Reference32Ideal.Grad.value80 _ _ _ _ _ _ _)
    rw [← hu, ← hv, ← ha, ← hw, ← hx, ← hb, ← hc]
  · rw [Cert.Reference32Ideal.Read.val_main_v58_eq, e0, e2, e3, e5]
    refine Eq.trans ?_ (Cert.Reference32Ideal.Grad.value58 _ _ _ _)
    rw [← hu, ← ha, ← hw, ← hb]

end Cert.Proof
end
-- ==== Proof.lean ====
/-
The certificate of the flash-attention backward: the two programs run to the end; the ideal program is the kernel with its
two constants named; and over the extended reals, at finite arguments, the kernel's four gradients are those of the
reference.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Attn.Launch
public import proofs.«01_k».proof.Proof.Attn.KerOut
public import proofs.«01_k».proof.Proof.Attn.RefReal
public import proofs.«01_k».proof.Proof.Attn.Finite
public import proofs.«01_k».proof.Proof.AttnBits.Launch
public import proofs.«01_k».proof.Proof.Gen.Kernel2.Frame
public import proofs.«01_k».proof.Proof.Grad.K2
public import proofs.«01_k».proof.Proof.Gen.Kernel3.Frame
public import proofs.«01_k».proof.Proof.Grad.K3
public import proofs.«01_k».proof.Proof.Gen.Kernel4.Frame
public import proofs.«01_k».proof.Proof.Grad.K4
public import proofs.«01_k».proof.Proof.Gen.Kernel5.Frame
public import proofs.«01_k».proof.Proof.Grad.K5
public import proofs.«01_k».proof.Proof.Gen.Kernel6.Frame
public import proofs.«01_k».proof.Proof.Grad.K6
public import proofs.«01_k».proof.Proof.Gen.Kernel7.Frame
public import proofs.«01_k».proof.Proof.Grad.K7
public import proofs.«01_k».proof.Proof.Gen.Kernel8.Frame
public import proofs.«01_k».proof.Proof.Grad.K8
public import proofs.«01_k».proof.Proof.Gen.Kernel9.Frame
public import proofs.«01_k».proof.Proof.Grad.K9
public import proofs.«01_k».proof.Proof.Gen.Kernel10.Frame
public import proofs.«01_k».proof.Proof.Grad.K10
public import proofs.«01_k».proof.Proof.Gen.Kernel11.Frame
public import proofs.«01_k».proof.Proof.Grad.K11
public import proofs.«01_k».proof.Proof.Gen.Kernel12.Frame
public import proofs.«01_k».proof.Proof.Grad.K12
public import proofs.«01_k».proof.Proof.Gen.Kernel13.Frame
public import proofs.«01_k».proof.Proof.Grad.K13
public import proofs.«01_k».proof.Proof.Gen.Kernel14.Frame
public import proofs.«01_k».proof.Proof.Grad.K14
public import proofs.«01_k».proof.Proof.Gen.Kernel15.Frame
public import proofs.«01_k».proof.Proof.Grad.K15
public import proofs.«01_k».proof.Proof.Gen.Kernel16.Frame
public import proofs.«01_k».proof.Proof.Grad.K16
public import proofs.«01_k».proof.Proof.Gen.Kernel17.Frame
public import proofs.«01_k».proof.Proof.Grad.K17
public import proofs.«01_k».proof.Proof.Gen.Kernel18.Frame
public import proofs.«01_k».proof.Proof.Grad.K18
public import proofs.«01_k».proof.Proof.Gen.Kernel19.Frame
public import proofs.«01_k».proof.Proof.Grad.K19
public import proofs.«01_k».proof.Proof.Gen.Kernel20.Frame
public import proofs.«01_k».proof.Proof.Grad.K20
public import proofs.«01_k».proof.Proof.Gen.Kernel21.Frame
public import proofs.«01_k».proof.Proof.Grad.K21
public import proofs.«01_k».proof.Proof.Gen.Kernel22.Frame
public import proofs.«01_k».proof.Proof.Grad.K22
public import proofs.«01_k».proof.Proof.Gen.Kernel23.Frame
public import proofs.«01_k».proof.Proof.Grad.K23
public import proofs.«01_k».proof.Proof.Gen.Kernel24.Frame
public import proofs.«01_k».proof.Proof.Grad.K24
public import proofs.«01_k».proof.Proof.Gen.Kernel25.Frame
public import proofs.«01_k».proof.Proof.Grad.K25
public import proofs.«01_k».proof.Proof.Gen.Kernel26.Frame
public import proofs.«01_k».proof.Proof.Grad.K26
public import proofs.«01_k».proof.Proof.Gen.Kernel27.Frame
public import proofs.«01_k».proof.Proof.Grad.K27
public import proofs.«01_k».proof.Proof.Gen.Kernel28.Frame
public import proofs.«01_k».proof.Proof.Grad.K28
public import proofs.«01_k».proof.Proof.Gen.Kernel29.Frame
public import proofs.«01_k».proof.Proof.Grad.K29
public import proofs.«01_k».proof.Proof.Gen.Kernel30.Frame
public import proofs.«01_k».proof.Proof.Grad.K30
public import proofs.«01_k».proof.Proof.Gen.Kernel31.Frame
public import proofs.«01_k».proof.Proof.Grad.K31
public import proofs.«01_k».proof.Proof.Gen.Kernel32.Frame
public import proofs.«01_k».proof.Proof.Grad.K32

@[expose] public section
set_option maxRecDepth 16384

noncomputable section
namespace Cert.Proof
open Idealize.ShloMosaic Idealize.SL.Sem Cert.Attn

theorem preFacts : Cert.Pre_finite.Facts where
  bitsLt_bf16_f32 := by decide
  bcast_S_S8320x8x192 := by decide
  bcast_S_S8320x2048 := by decide
  bcast_S_S8320x64 := by decide
  bcast_S_S8320x1024 := by decide

section Pre
local instance : Cert.Pre_finite.Facts := preFacts

/-- Under the precondition the four arguments are real arrays. -/
theorem realArgs (m : (ℓ : Loc Cert.KernelIdeal.nD Cert.KernelIdeal.τ Cert.KernelIdeal.sig) → Buf (Elt Ideal) ℓ) (h : Pre_KernelIdeal_finite m) (c : Dev Cert.KernelIdeal.nD) :
    Cert.KernelIdeal.Attn.RealArgs m (real3 (m (c.tc.loc Cert.KernelIdeal.main_arg0))) (real2 (m (c.tc.loc Cert.KernelIdeal.main_arg1)))
      (real2 (m (c.tc.loc Cert.KernelIdeal.main_arg2))) (real2 (m (c.tc.loc Cert.KernelIdeal.main_arg3))) c := by
  obtain ⟨h0, h1, h2, h3⟩ := h c
  exact ⟨R3_real3 _ (entry_real .bf16 (by decide) (by decide) _ h0), R2_real2 _ (entry_real .bf16 (by decide) (by decide) _ h1),
    R2_real2 _ (entry_real .bf16 (by decide) (by decide) _ h2), R2_real2 _ (entry_real .bf16 (by decide) (by decide) _ h3)⟩
end Pre

/-- The reference terminates, its arguments and the counters as they were. -/
theorem frame_ref (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun r h => ⟨fun c => (h c).2.2.2.2, sem_eq_zero_of_no_sems (by decide) r.2⟩) (Cert.ReferenceIdeal.Value.run m ρ)

section Value
local instance : Cert.Pre_finite.Facts := preFacts

/-- The kernel's four gradients are the reference's. -/
theorem algebraic : algebraic_KernelIdeal_ReferenceIdeal_pre_finite (hKernelIdeal := Cert.KernelIdeal.Gen.facts) (hReferenceIdeal := Cert.ReferenceIdeal.Gen.facts) := by
  intro m ρ m' ρ' hpre hag
  have H := realArgs m hpre
  have one : ∀ c : Dev Cert.KernelIdeal.nD, c = 0 := fun c => Subsingleton.elim _ _
  have H' : ∀ c, Cert.KernelIdeal.Attn.RealArgs m (real3 (m ((0 : Dev Cert.KernelIdeal.nD).tc.loc Cert.KernelIdeal.main_arg0))) (real2 (m ((0 : Dev Cert.KernelIdeal.nD).tc.loc Cert.KernelIdeal.main_arg1)))
      (real2 (m ((0 : Dev Cert.KernelIdeal.nD).tc.loc Cert.KernelIdeal.main_arg2))) (real2 (m ((0 : Dev Cert.KernelIdeal.nD).tc.loc Cert.KernelIdeal.main_arg3))) c := fun c => by
    rw [one c]; exact H 0
  generalize real3 (m ((0 : Dev Cert.KernelIdeal.nD).tc.loc Cert.KernelIdeal.main_arg0)) = Q at H'
  generalize real2 (m ((0 : Dev Cert.KernelIdeal.nD).tc.loc Cert.KernelIdeal.main_arg1)) = KV at H'
  generalize real2 (m ((0 : Dev Cert.KernelIdeal.nD).tc.loc Cert.KernelIdeal.main_arg2)) = KP at H'
  generalize real2 (m ((0 : Dev Cert.KernelIdeal.nD).tc.loc Cert.KernelIdeal.main_arg3)) = O at H'
  refine ⟨fun _ => R3 (gQ Q KV KP O), fun _ => R2 (gK Q KV KP O), fun _ => R2 (gP Q KV KP O), fun _ => R2 (gV Q KV KP O),
    Cert.KernelIdeal.Attn.run_value ρ H', (θ_run _ _ _).mono (fun r h c => ?_) (Cert.ReferenceIdeal.Value.run m' ρ')⟩
  obtain ⟨r0, r1, r2, r3, a⟩ := h c
  obtain ⟨e0, e1, e2, e3⟩ := hag c
  obtain ⟨q, kv, kp, o⟩ := H' c
  refine ⟨r0.trans ?_, r1.trans ?_, r2.trans ?_, r3.trans ?_, a⟩
  · rw [Cert.ReferenceIdeal.Read.val_main_v91_eq, e0, e1, e2, e3]
    refine Eq.trans ?_ (Cert.ReferenceIdeal.Attn.v91_real Q KV KP O)
    rw [← q, ← kv, ← kp, ← o]
  · rw [Cert.ReferenceIdeal.Read.val_main_v90_eq, e0, e1, e2, e3]
    refine Eq.trans ?_ (Cert.ReferenceIdeal.Attn.v90_real Q KV KP O)
    rw [← q, ← kv, ← kp, ← o]
  · rw [Cert.ReferenceIdeal.Read.val_main_v89_eq, e0, e1, e2, e3]
    refine Eq.trans ?_ (Cert.ReferenceIdeal.Attn.v89_real Q KV KP O)
    rw [← q, ← kv, ← kp, ← o]
  · rw [Cert.ReferenceIdeal.Read.val_main_v88_eq, e0, e1, e2, e3]
    refine Eq.trans ?_ (Cert.ReferenceIdeal.Attn.v88_real Q KV KP O)
    rw [← q, ← kv, ← kp, ← o]
end Value

/-- The reference of program 2 terminates, its arguments and the counters as they were. -/
theorem frame_ref2 (m : (ℓ : Loc Cert.Reference2Ideal.nD Cert.Reference2Ideal.τ Cert.Reference2Ideal.sig) → Buf (Elt Ideal) ℓ) (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0) :=
  (θ_run _ _ _).mono (fun r h => ⟨fun c => (h c).2, sem_eq_zero_of_no_sems (by decide) r.2⟩) (Cert.Reference2Ideal.Value.run m ρ)

/-- The reference of program 3 terminates, its arguments and the counters as they were. -/
theorem frame_ref3 (m : (ℓ : Loc Cert.Reference3Ideal.nD Cert.Reference3Ideal.τ Cert.Reference3Ideal.sig) → Buf (Elt Ideal) ℓ) (ρ : Dev Cert.Reference3Ideal.nD → PrngReg) :
    θ_run (Cert.Reference3Ideal.defs (F := Ideal)) (onTc (τ := Cert.Reference3Ideal.τ) (Cert.Reference3Ideal.main (F := Ideal))) ⟨m, fun _ => 0, ρ⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0) :=
  (θ_run _ _ _).mono (fun r h => ⟨fun c => (h c).2, sem_eq_zero_of_no_sems (by decide) r.2⟩) (Cert.Reference3Ideal.Value.run m ρ)

/-- The reference of program 4 terminates, its arguments and the counters as they were. -/
theorem frame_ref4 (m : (ℓ : Loc Cert.Reference4Ideal.nD Cert.Reference4Ideal.τ Cert.Reference4Ideal.sig) → Buf (Elt Ideal) ℓ) (ρ : Dev Cert.Reference4Ideal.nD → PrngReg) :
    θ_run (Cert.Reference4Ideal.defs (F := Ideal)) (onTc (τ := Cert.Reference4Ideal.τ) (Cert.Reference4Ideal.main (F := Ideal))) ⟨m, fun _ => 0, ρ⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0) :=
  (θ_run _ _ _).mono (fun r h => ⟨fun c => (h c).2, sem_eq_zero_of_no_sems (by decide) r.2⟩) (Cert.Reference4Ideal.Value.run m ρ)

/-- The reference of program 5 terminates, its arguments and the counters as they were. -/
theorem frame_ref5 (m : (ℓ : Loc Cert.Reference5Ideal.nD Cert.Reference5Ideal.τ Cert.Reference5Ideal.sig) → Buf (Elt Ideal) ℓ) (ρ : Dev Cert.Reference5Ideal.nD → PrngReg) :
    θ_run (Cert.Reference5Ideal.defs (F := Ideal)) (onTc (τ := Cert.Reference5Ideal.τ) (Cert.Reference5Ideal.main (F := Ideal))) ⟨m, fun _ => 0, ρ⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0) :=
  (θ_run _ _ _).mono (fun r h => ⟨fun c => (h c).2, sem_eq_zero_of_no_sems (by decide) r.2⟩) (Cert.Reference5Ideal.Value.run m ρ)

/-- The reference of program 6 terminates, its arguments and the counters as they were. -/
theorem frame_ref6 (m : (ℓ : Loc Cert.Reference6Ideal.nD Cert.Reference6Ideal.τ Cert.Reference6Ideal.sig) → Buf (Elt Ideal) ℓ) (ρ : Dev Cert.Reference6Ideal.nD → PrngReg) :
    θ_run (Cert.Reference6Ideal.defs (F := Ideal)) (onTc (τ := Cert.Reference6Ideal.τ) (Cert.Reference6Ideal.main (F := Ideal))) ⟨m, fun _ => 0, ρ⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0) :=
  (θ_run _ _ _).mono (fun r h => ⟨fun c => (h c).2, sem_eq_zero_of_no_sems (by decide) r.2⟩) (Cert.Reference6Ideal.Value.run m ρ)

/-- The reference of program 7 terminates, its arguments and the counters as they were. -/
theorem frame_ref7 (m : (ℓ : Loc Cert.Reference7Ideal.nD Cert.Reference7Ideal.τ Cert.Reference7Ideal.sig) → Buf (Elt Ideal) ℓ) (ρ : Dev Cert.Reference7Ideal.nD → PrngReg) :
    θ_run (Cert.Reference7Ideal.defs (F := Ideal)) (onTc (τ := Cert.Reference7Ideal.τ) (Cert.Reference7Ideal.main (F := Ideal))) ⟨m, fun _ => 0, ρ⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0) :=
  (θ_run _ _ _).mono (fun r h => ⟨fun c => (h c).2, sem_eq_zero_of_no_sems (by decide) r.2⟩) (Cert.Reference7Ideal.Value.run m ρ)

/-- The reference of program 8 terminates, its arguments and the counters as they were. -/
theorem frame_ref8 (m : (ℓ : Loc Cert.Reference8Ideal.nD Cert.Reference8Ideal.τ Cert.Reference8Ideal.sig) → Buf (Elt Ideal) ℓ) (ρ : Dev Cert.Reference8Ideal.nD → PrngReg) :
    θ_run (Cert.Reference8Ideal.defs (F := Ideal)) (onTc (τ := Cert.Reference8Ideal.τ) (Cert.Reference8Ideal.main (F := Ideal))) ⟨m, fun _ => 0, ρ⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0) :=
  (θ_run _ _ _).mono (fun r h => ⟨fun c => (h c).2, sem_eq_zero_of_no_sems (by decide) r.2⟩) (Cert.Reference8Ideal.Value.run m ρ)

/-- The reference of program 9 terminates, its arguments and the counters as they were. -/
theorem frame_ref9 (m : (ℓ : Loc Cert.Reference9Ideal.nD Cert.Reference9Ideal.τ Cert.Reference9Ideal.sig) → Buf (Elt Ideal) ℓ) (ρ : Dev Cert.Reference9Ideal.nD → PrngReg) :
    θ_run (Cert.Reference9Ideal.defs (F := Ideal)) (onTc (τ := Cert.Reference9Ideal.τ) (Cert.Reference9Ideal.main (F := Ideal))) ⟨m, fun _ => 0, ρ⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0) :=
  (θ_run _ _ _).mono (fun r h => ⟨fun c => (h c).2, sem_eq_zero_of_no_sems (by decide) r.2⟩) (Cert.Reference9Ideal.Value.run m ρ)

/-- The reference of program 10 terminates, its arguments and the counters as they were. -/
theorem frame_ref10 (m : (ℓ : Loc Cert.Reference10Ideal.nD Cert.Reference10Ideal.τ Cert.Reference10Ideal.sig) → Buf (Elt Ideal) ℓ) (ρ : Dev Cert.Reference10Ideal.nD → PrngReg) :
    θ_run (Cert.Reference10Ideal.defs (F := Ideal)) (onTc (τ := Cert.Reference10Ideal.τ) (Cert.Reference10Ideal.main (F := Ideal))) ⟨m, fun _ => 0, ρ⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0) :=
  (θ_run _ _ _).mono (fun r h => ⟨fun c => (h c).2, sem_eq_zero_of_no_sems (by decide) r.2⟩) (Cert.Reference10Ideal.Value.run m ρ)

/-- The reference of program 11 terminates, its arguments and the counters as they were. -/
theorem frame_ref11 (m : (ℓ : Loc Cert.Reference11Ideal.nD Cert.Reference11Ideal.τ Cert.Reference11Ideal.sig) → Buf (Elt Ideal) ℓ) (ρ : Dev Cert.Reference11Ideal.nD → PrngReg) :
    θ_run (Cert.Reference11Ideal.defs (F := Ideal)) (onTc (τ := Cert.Reference11Ideal.τ) (Cert.Reference11Ideal.main (F := Ideal))) ⟨m, fun _ => 0, ρ⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0) :=
  (θ_run _ _ _).mono (fun r h => ⟨fun c => (h c).2, sem_eq_zero_of_no_sems (by decide) r.2⟩) (Cert.Reference11Ideal.Value.run m ρ)

/-- The reference of program 12 terminates, its arguments and the counters as they were. -/
theorem frame_ref12 (m : (ℓ : Loc Cert.Reference12Ideal.nD Cert.Reference12Ideal.τ Cert.Reference12Ideal.sig) → Buf (Elt Ideal) ℓ) (ρ : Dev Cert.Reference12Ideal.nD → PrngReg) :
    θ_run (Cert.Reference12Ideal.defs (F := Ideal)) (onTc (τ := Cert.Reference12Ideal.τ) (Cert.Reference12Ideal.main (F := Ideal))) ⟨m, fun _ => 0, ρ⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0) :=
  (θ_run _ _ _).mono (fun r h => ⟨fun c => (h c).2, sem_eq_zero_of_no_sems (by decide) r.2⟩) (Cert.Reference12Ideal.Value.run m ρ)

/-- The reference of program 13 terminates, its arguments and the counters as they were. -/
theorem frame_ref13 (m : (ℓ : Loc Cert.Reference13Ideal.nD Cert.Reference13Ideal.τ Cert.Reference13Ideal.sig) → Buf (Elt Ideal) ℓ) (ρ : Dev Cert.Reference13Ideal.nD → PrngReg) :
    θ_run (Cert.Reference13Ideal.defs (F := Ideal)) (onTc (τ := Cert.Reference13Ideal.τ) (Cert.Reference13Ideal.main (F := Ideal))) ⟨m, fun _ => 0, ρ⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0) :=
  (θ_run _ _ _).mono (fun r h => ⟨fun c => (h c).2, sem_eq_zero_of_no_sems (by decide) r.2⟩) (Cert.Reference13Ideal.Value.run m ρ)

/-- The reference of program 14 terminates, its arguments and the counters as they were. -/
theorem frame_ref14 (m : (ℓ : Loc Cert.Reference14Ideal.nD Cert.Reference14Ideal.τ Cert.Reference14Ideal.sig) → Buf (Elt Ideal) ℓ) (ρ : Dev Cert.Reference14Ideal.nD → PrngReg) :
    θ_run (Cert.Reference14Ideal.defs (F := Ideal)) (onTc (τ := Cert.Reference14Ideal.τ) (Cert.Reference14Ideal.main (F := Ideal))) ⟨m, fun _ => 0, ρ⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0) :=
  (θ_run _ _ _).mono (fun r h => ⟨fun c => (h c).2, sem_eq_zero_of_no_sems (by decide) r.2⟩) (Cert.Reference14Ideal.Value.run m ρ)

/-- The reference of program 15 terminates, its arguments and the counters as they were. -/
theorem frame_ref15 (m : (ℓ : Loc Cert.Reference15Ideal.nD Cert.Reference15Ideal.τ Cert.Reference15Ideal.sig) → Buf (Elt Ideal) ℓ) (ρ : Dev Cert.Reference15Ideal.nD → PrngReg) :
    θ_run (Cert.Reference15Ideal.defs (F := Ideal)) (onTc (τ := Cert.Reference15Ideal.τ) (Cert.Reference15Ideal.main (F := Ideal))) ⟨m, fun _ => 0, ρ⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0) :=
  (θ_run _ _ _).mono (fun r h => ⟨fun c => (h c).2, sem_eq_zero_of_no_sems (by decide) r.2⟩) (Cert.Reference15Ideal.Value.run m ρ)

/-- The reference of program 16 terminates, its arguments and the counters as they were. -/
theorem frame_ref16 (m : (ℓ : Loc Cert.Reference16Ideal.nD Cert.Reference16Ideal.τ Cert.Reference16Ideal.sig) → Buf (Elt Ideal) ℓ) (ρ : Dev Cert.Reference16Ideal.nD → PrngReg) :
    θ_run (Cert.Reference16Ideal.defs (F := Ideal)) (onTc (τ := Cert.Reference16Ideal.τ) (Cert.Reference16Ideal.main (F := Ideal))) ⟨m, fun _ => 0, ρ⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0) :=
  (θ_run _ _ _).mono (fun r h => ⟨fun c => (h c).2, sem_eq_zero_of_no_sems (by decide) r.2⟩) (Cert.Reference16Ideal.Value.run m ρ)

/-- The reference of program 17 terminates, its arguments and the counters as they were. -/
theorem frame_ref17 (m : (ℓ : Loc Cert.Reference17Ideal.nD Cert.Reference17Ideal.τ Cert.Reference17Ideal.sig) → Buf (Elt Ideal) ℓ) (ρ : Dev Cert.Reference17Ideal.nD → PrngReg) :
    θ_run (Cert.Reference17Ideal.defs (F := Ideal)) (onTc (τ := Cert.Reference17Ideal.τ) (Cert.Reference17Ideal.main (F := Ideal))) ⟨m, fun _ => 0, ρ⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0) :=
  (θ_run _ _ _).mono (fun r h => ⟨fun c => (h c).2, sem_eq_zero_of_no_sems (by decide) r.2⟩) (Cert.Reference17Ideal.Value.run m ρ)

/-- The reference of program 18 terminates, its arguments and the counters as they were. -/
theorem frame_ref18 (m : (ℓ : Loc Cert.Reference18Ideal.nD Cert.Reference18Ideal.τ Cert.Reference18Ideal.sig) → Buf (Elt Ideal) ℓ) (ρ : Dev Cert.Reference18Ideal.nD → PrngReg) :
    θ_run (Cert.Reference18Ideal.defs (F := Ideal)) (onTc (τ := Cert.Reference18Ideal.τ) (Cert.Reference18Ideal.main (F := Ideal))) ⟨m, fun _ => 0, ρ⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0) :=
  (θ_run _ _ _).mono (fun r h => ⟨fun c => (h c).2, sem_eq_zero_of_no_sems (by decide) r.2⟩) (Cert.Reference18Ideal.Value.run m ρ)

/-- The reference of program 19 terminates, its arguments and the counters as they were. -/
theorem frame_ref19 (m : (ℓ : Loc Cert.Reference19Ideal.nD Cert.Reference19Ideal.τ Cert.Reference19Ideal.sig) → Buf (Elt Ideal) ℓ) (ρ : Dev Cert.Reference19Ideal.nD → PrngReg) :
    θ_run (Cert.Reference19Ideal.defs (F := Ideal)) (onTc (τ := Cert.Reference19Ideal.τ) (Cert.Reference19Ideal.main (F := Ideal))) ⟨m, fun _ => 0, ρ⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0) :=
  (θ_run _ _ _).mono (fun r h => ⟨fun c => (h c).2, sem_eq_zero_of_no_sems (by decide) r.2⟩) (Cert.Reference19Ideal.Value.run m ρ)

/-- The reference of program 20 terminates, its arguments and the counters as they were. -/
theorem frame_ref20 (m : (ℓ : Loc Cert.Reference20Ideal.nD Cert.Reference20Ideal.τ Cert.Reference20Ideal.sig) → Buf (Elt Ideal) ℓ) (ρ : Dev Cert.Reference20Ideal.nD → PrngReg) :
    θ_run (Cert.Reference20Ideal.defs (F := Ideal)) (onTc (τ := Cert.Reference20Ideal.τ) (Cert.Reference20Ideal.main (F := Ideal))) ⟨m, fun _ => 0, ρ⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0) :=
  (θ_run _ _ _).mono (fun r h => ⟨fun c => (h c).2, sem_eq_zero_of_no_sems (by decide) r.2⟩) (Cert.Reference20Ideal.Value.run m ρ)

/-- The reference of program 21 terminates, its arguments and the counters as they were. -/
theorem frame_ref21 (m : (ℓ : Loc Cert.Reference21Ideal.nD Cert.Reference21Ideal.τ Cert.Reference21Ideal.sig) → Buf (Elt Ideal) ℓ) (ρ : Dev Cert.Reference21Ideal.nD → PrngReg) :
    θ_run (Cert.Reference21Ideal.defs (F := Ideal)) (onTc (τ := Cert.Reference21Ideal.τ) (Cert.Reference21Ideal.main (F := Ideal))) ⟨m, fun _ => 0, ρ⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0) :=
  (θ_run _ _ _).mono (fun r h => ⟨fun c => (h c).2, sem_eq_zero_of_no_sems (by decide) r.2⟩) (Cert.Reference21Ideal.Value.run m ρ)

/-- The reference of program 22 terminates, its arguments and the counters as they were. -/
theorem frame_ref22 (m : (ℓ : Loc Cert.Reference22Ideal.nD Cert.Reference22Ideal.τ Cert.Reference22Ideal.sig) → Buf (Elt Ideal) ℓ) (ρ : Dev Cert.Reference22Ideal.nD → PrngReg) :
    θ_run (Cert.Reference22Ideal.defs (F := Ideal)) (onTc (τ := Cert.Reference22Ideal.τ) (Cert.Reference22Ideal.main (F := Ideal))) ⟨m, fun _ => 0, ρ⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0) :=
  (θ_run _ _ _).mono (fun r h => ⟨fun c => (h c).2, sem_eq_zero_of_no_sems (by decide) r.2⟩) (Cert.Reference22Ideal.Value.run m ρ)

/-- The reference of program 23 terminates, its arguments and the counters as they were. -/
theorem frame_ref23 (m : (ℓ : Loc Cert.Reference23Ideal.nD Cert.Reference23Ideal.τ Cert.Reference23Ideal.sig) → Buf (Elt Ideal) ℓ) (ρ : Dev Cert.Reference23Ideal.nD → PrngReg) :
    θ_run (Cert.Reference23Ideal.defs (F := Ideal)) (onTc (τ := Cert.Reference23Ideal.τ) (Cert.Reference23Ideal.main (F := Ideal))) ⟨m, fun _ => 0, ρ⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0) :=
  (θ_run _ _ _).mono (fun r h => ⟨fun c => (h c).2, sem_eq_zero_of_no_sems (by decide) r.2⟩) (Cert.Reference23Ideal.Value.run m ρ)

/-- The reference of program 24 terminates, its arguments and the counters as they were. -/
theorem frame_ref24 (m : (ℓ : Loc Cert.Reference24Ideal.nD Cert.Reference24Ideal.τ Cert.Reference24Ideal.sig) → Buf (Elt Ideal) ℓ) (ρ : Dev Cert.Reference24Ideal.nD → PrngReg) :
    θ_run (Cert.Reference24Ideal.defs (F := Ideal)) (onTc (τ := Cert.Reference24Ideal.τ) (Cert.Reference24Ideal.main (F := Ideal))) ⟨m, fun _ => 0, ρ⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5)
      ∧ r.2.mem ((c.tc : Thread Cert.Reference24Ideal.nD Cert.Reference24Ideal.τ).loc Cert.Reference24Ideal.main_arg6) = m ((c.tc : Thread Cert.Reference24Ideal.nD Cert.Reference24Ideal.τ).loc Cert.Reference24Ideal.main_arg6)
      ∧ r.2.mem ((c.tc : Thread Cert.Reference24Ideal.nD Cert.Reference24Ideal.τ).loc Cert.Reference24Ideal.main_arg7) = m ((c.tc : Thread Cert.Reference24Ideal.nD Cert.Reference24Ideal.τ).loc Cert.Reference24Ideal.main_arg7)
      ∧ r.2.mem ((c.tc : Thread Cert.Reference24Ideal.nD Cert.Reference24Ideal.τ).loc Cert.Reference24Ideal.main_arg8) = m ((c.tc : Thread Cert.Reference24Ideal.nD Cert.Reference24Ideal.τ).loc Cert.Reference24Ideal.main_arg8)
      ∧ r.2.mem ((c.tc : Thread Cert.Reference24Ideal.nD Cert.Reference24Ideal.τ).loc Cert.Reference24Ideal.main_arg9) = m ((c.tc : Thread Cert.Reference24Ideal.nD Cert.Reference24Ideal.τ).loc Cert.Reference24Ideal.main_arg9)
      ∧ r.2.mem ((c.tc : Thread Cert.Reference24Ideal.nD Cert.Reference24Ideal.τ).loc Cert.Reference24Ideal.main_arg10) = m ((c.tc : Thread Cert.Reference24Ideal.nD Cert.Reference24Ideal.τ).loc Cert.Reference24Ideal.main_arg10)
      ∧ r.2.mem ((c.tc : Thread Cert.Reference24Ideal.nD Cert.Reference24Ideal.τ).loc Cert.Reference24Ideal.main_arg11) = m ((c.tc : Thread Cert.Reference24Ideal.nD Cert.Reference24Ideal.τ).loc Cert.Reference24Ideal.main_arg11)
      ∧ r.2.mem ((c.tc : Thread Cert.Reference24Ideal.nD Cert.Reference24Ideal.τ).loc Cert.Reference24Ideal.main_arg12) = m ((c.tc : Thread Cert.Reference24Ideal.nD Cert.Reference24Ideal.τ).loc Cert.Reference24Ideal.main_arg12))
      ∧ r.2.sem = fun _ => 0) :=
  (θ_run _ _ _).mono (fun r h => ⟨fun c => (h c).2, sem_eq_zero_of_no_sems (by decide) r.2⟩) (Cert.Reference24Ideal.Value.run m ρ)

/-- The reference of program 25 terminates, its arguments and the counters as they were. -/
theorem frame_ref25 (m : (ℓ : Loc Cert.Reference25Ideal.nD Cert.Reference25Ideal.τ Cert.Reference25Ideal.sig) → Buf (Elt Ideal) ℓ) (ρ : Dev Cert.Reference25Ideal.nD → PrngReg) :
    θ_run (Cert.Reference25Ideal.defs (F := Ideal)) (onTc (τ := Cert.Reference25Ideal.τ) (Cert.Reference25Ideal.main (F := Ideal))) ⟨m, fun _ => 0, ρ⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4))
      ∧ r.2.sem = fun _ => 0) :=
  (θ_run _ _ _).mono (fun r h => ⟨fun c => (h c).2.2.2.2, sem_eq_zero_of_no_sems (by decide) r.2⟩) (Cert.Reference25Ideal.Value.run m ρ)

/-- The reference of program 26 terminates, its arguments and the counters as they were. -/
theorem frame_ref26 (m : (ℓ : Loc Cert.Reference26Ideal.nD Cert.Reference26Ideal.τ Cert.Reference26Ideal.sig) → Buf (Elt Ideal) ℓ) (ρ : Dev Cert.Reference26Ideal.nD → PrngReg) :
    θ_run (Cert.Reference26Ideal.defs (F := Ideal)) (onTc (τ := Cert.Reference26Ideal.τ) (Cert.Reference26Ideal.main (F := Ideal))) ⟨m, fun _ => 0, ρ⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0) :=
  (θ_run _ _ _).mono (fun r h => ⟨fun c => (h c).2, sem_eq_zero_of_no_sems (by decide) r.2⟩) (Cert.Reference26Ideal.Value.run m ρ)

/-- The reference of program 27 terminates, its arguments and the counters as they were. -/
theorem frame_ref27 (m : (ℓ : Loc Cert.Reference27Ideal.nD Cert.Reference27Ideal.τ Cert.Reference27Ideal.sig) → Buf (Elt Ideal) ℓ) (ρ : Dev Cert.Reference27Ideal.nD → PrngReg) :
    θ_run (Cert.Reference27Ideal.defs (F := Ideal)) (onTc (τ := Cert.Reference27Ideal.τ) (Cert.Reference27Ideal.main (F := Ideal))) ⟨m, fun _ => 0, ρ⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0) :=
  (θ_run _ _ _).mono (fun r h => ⟨fun c => (h c).2, sem_eq_zero_of_no_sems (by decide) r.2⟩) (Cert.Reference27Ideal.Value.run m ρ)

/-- The reference of program 28 terminates, its arguments and the counters as they were. -/
theorem frame_ref28 (m : (ℓ : Loc Cert.Reference28Ideal.nD Cert.Reference28Ideal.τ Cert.Reference28Ideal.sig) → Buf (Elt Ideal) ℓ) (ρ : Dev Cert.Reference28Ideal.nD → PrngReg) :
    θ_run (Cert.Reference28Ideal.defs (F := Ideal)) (onTc (τ := Cert.Reference28Ideal.τ) (Cert.Reference28Ideal.main (F := Ideal))) ⟨m, fun _ => 0, ρ⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0) :=
  (θ_run _ _ _).mono (fun r h => ⟨fun c => (h c).2.2.2, sem_eq_zero_of_no_sems (by decide) r.2⟩) (Cert.Reference28Ideal.Value.run m ρ)

/-- The reference of program 29 terminates, its arguments and the counters as they were. -/
theorem frame_ref29 (m : (ℓ : Loc Cert.Reference29Ideal.nD Cert.Reference29Ideal.τ Cert.Reference29Ideal.sig) → Buf (Elt Ideal) ℓ) (ρ : Dev Cert.Reference29Ideal.nD → PrngReg) :
    θ_run (Cert.Reference29Ideal.defs (F := Ideal)) (onTc (τ := Cert.Reference29Ideal.τ) (Cert.Reference29Ideal.main (F := Ideal))) ⟨m, fun _ => 0, ρ⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2))
      ∧ r.2.sem = fun _ => 0) :=
  (θ_run _ _ _).mono (fun r h => ⟨fun c => (h c).2.2, sem_eq_zero_of_no_sems (by decide) r.2⟩) (Cert.Reference29Ideal.Value.run m ρ)

/-- The reference of program 30 terminates, its arguments and the counters as they were. -/
theorem frame_ref30 (m : (ℓ : Loc Cert.Reference30Ideal.nD Cert.Reference30Ideal.τ Cert.Reference30Ideal.sig) → Buf (Elt Ideal) ℓ) (ρ : Dev Cert.Reference30Ideal.nD → PrngReg) :
    θ_run (Cert.Reference30Ideal.defs (F := Ideal)) (onTc (τ := Cert.Reference30Ideal.τ) (Cert.Reference30Ideal.main (F := Ideal))) ⟨m, fun _ => 0, ρ⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2))
      ∧ r.2.sem = fun _ => 0) :=
  (θ_run _ _ _).mono (fun r h => ⟨fun c => (h c).2.2, sem_eq_zero_of_no_sems (by decide) r.2⟩) (Cert.Reference30Ideal.Value.run m ρ)

/-- The reference of program 31 terminates, its arguments and the counters as they were. -/
theorem frame_ref31 (m : (ℓ : Loc Cert.Reference31Ideal.nD Cert.Reference31Ideal.τ Cert.Reference31Ideal.sig) → Buf (Elt Ideal) ℓ) (ρ : Dev Cert.Reference31Ideal.nD → PrngReg) :
    θ_run (Cert.Reference31Ideal.defs (F := Ideal)) (onTc (τ := Cert.Reference31Ideal.τ) (Cert.Reference31Ideal.main (F := Ideal))) ⟨m, fun _ => 0, ρ⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0) :=
  (θ_run _ _ _).mono (fun r h => ⟨fun c => (h c).2.2.2.2, sem_eq_zero_of_no_sems (by decide) r.2⟩) (Cert.Reference31Ideal.Value.run m ρ)

/-- The reference of program 32 terminates, its arguments and the counters as they were. -/
theorem frame_ref32 (m : (ℓ : Loc Cert.Reference32Ideal.nD Cert.Reference32Ideal.τ Cert.Reference32Ideal.sig) → Buf (Elt Ideal) ℓ) (ρ : Dev Cert.Reference32Ideal.nD → PrngReg) :
    θ_run (Cert.Reference32Ideal.defs (F := Ideal)) (onTc (τ := Cert.Reference32Ideal.τ) (Cert.Reference32Ideal.main (F := Ideal))) ⟨m, fun _ => 0, ρ⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3)
      ∧ r.2.mem ((c.tc : Thread Cert.Reference32Ideal.nD Cert.Reference32Ideal.τ).loc Cert.Reference32Ideal.main_arg4) = m ((c.tc : Thread Cert.Reference32Ideal.nD Cert.Reference32Ideal.τ).loc Cert.Reference32Ideal.main_arg4)
      ∧ r.2.mem ((c.tc : Thread Cert.Reference32Ideal.nD Cert.Reference32Ideal.τ).loc Cert.Reference32Ideal.main_arg5) = m ((c.tc : Thread Cert.Reference32Ideal.nD Cert.Reference32Ideal.τ).loc Cert.Reference32Ideal.main_arg5)
      ∧ r.2.mem ((c.tc : Thread Cert.Reference32Ideal.nD Cert.Reference32Ideal.τ).loc Cert.Reference32Ideal.main_arg6) = m ((c.tc : Thread Cert.Reference32Ideal.nD Cert.Reference32Ideal.τ).loc Cert.Reference32Ideal.main_arg6))
      ∧ r.2.sem = fun _ => 0) :=
  (θ_run _ _ _).mono (fun r h => ⟨fun c => (h c).2.2.2.2.2.2, sem_eq_zero_of_no_sems (by decide) r.2⟩) (Cert.Reference32Ideal.Value.run m ρ)

/-- All the claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts,
  Cert.Kernel32.Gen.facts, Cert.Kernel32Ideal.Gen.facts, Cert.Reference32Ideal.Gen.facts,
  preFacts, preFacts28, preFacts31, preFacts32,
  fun m ρ _ => Cert.Kernel.Attn.frame m ρ,
  fun m ρ _ => Cert.KernelIdeal.Attn.frame m ρ,
  fun m ρ _ => Cert.KernelIdeal.Attn.frame m ρ,
  fun m ρ _ => frame_ref m ρ,
  fun m ρ _ => frame_ref m ρ,
  fun m ρ _ => Cert.Kernel2.Gen.frame m ρ, fun m ρ _ => Cert.Kernel2Ideal.Gen.frame m ρ, fun m ρ _ => frame_ref2 m ρ,
  fun m ρ _ => Cert.Kernel3.Gen.frame m ρ, fun m ρ _ => Cert.Kernel3Ideal.Gen.frame m ρ, fun m ρ _ => frame_ref3 m ρ,
  fun m ρ _ => Cert.Kernel4.Gen.frame m ρ, fun m ρ _ => Cert.Kernel4Ideal.Gen.frame m ρ, fun m ρ _ => frame_ref4 m ρ,
  fun m ρ _ => Cert.Kernel5.Gen.frame m ρ, fun m ρ _ => Cert.Kernel5Ideal.Gen.frame m ρ, fun m ρ _ => frame_ref5 m ρ,
  fun m ρ _ => Cert.Kernel6.Gen.frame m ρ, fun m ρ _ => Cert.Kernel6Ideal.Gen.frame m ρ, fun m ρ _ => frame_ref6 m ρ,
  fun m ρ _ => Cert.Kernel7.Gen.frame m ρ, fun m ρ _ => Cert.Kernel7Ideal.Gen.frame m ρ, fun m ρ _ => frame_ref7 m ρ,
  fun m ρ _ => Cert.Kernel8.Gen.frame m ρ, fun m ρ _ => Cert.Kernel8Ideal.Gen.frame m ρ, fun m ρ _ => frame_ref8 m ρ,
  fun m ρ _ => Cert.Kernel9.Gen.frame m ρ, fun m ρ _ => Cert.Kernel9Ideal.Gen.frame m ρ, fun m ρ _ => frame_ref9 m ρ,
  fun m ρ _ => Cert.Kernel10.Gen.frame m ρ, fun m ρ _ => Cert.Kernel10Ideal.Gen.frame m ρ, fun m ρ _ => frame_ref10 m ρ,
  fun m ρ _ => Cert.Kernel11.Gen.frame m ρ, fun m ρ _ => Cert.Kernel11Ideal.Gen.frame m ρ, fun m ρ _ => frame_ref11 m ρ,
  fun m ρ _ => Cert.Kernel12.Gen.frame m ρ, fun m ρ _ => Cert.Kernel12Ideal.Gen.frame m ρ, fun m ρ _ => frame_ref12 m ρ,
  fun m ρ _ => Cert.Kernel13.Gen.frame m ρ, fun m ρ _ => Cert.Kernel13Ideal.Gen.frame m ρ, fun m ρ _ => frame_ref13 m ρ,
  fun m ρ _ => Cert.Kernel14.Gen.frame m ρ, fun m ρ _ => Cert.Kernel14Ideal.Gen.frame m ρ, fun m ρ _ => frame_ref14 m ρ,
  fun m ρ _ => Cert.Kernel15.Gen.frame m ρ, fun m ρ _ => Cert.Kernel15Ideal.Gen.frame m ρ, fun m ρ _ => frame_ref15 m ρ,
  fun m ρ _ => Cert.Kernel16.Gen.frame m ρ, fun m ρ _ => Cert.Kernel16Ideal.Gen.frame m ρ, fun m ρ _ => frame_ref16 m ρ,
  fun m ρ _ => Cert.Kernel17.Gen.frame m ρ, fun m ρ _ => Cert.Kernel17Ideal.Gen.frame m ρ, fun m ρ _ => frame_ref17 m ρ,
  fun m ρ _ => Cert.Kernel18.Gen.frame m ρ, fun m ρ _ => Cert.Kernel18Ideal.Gen.frame m ρ, fun m ρ _ => frame_ref18 m ρ,
  fun m ρ _ => Cert.Kernel19.Gen.frame m ρ, fun m ρ _ => Cert.Kernel19Ideal.Gen.frame m ρ, fun m ρ _ => frame_ref19 m ρ,
  fun m ρ _ => Cert.Kernel20.Gen.frame m ρ, fun m ρ _ => Cert.Kernel20Ideal.Gen.frame m ρ, fun m ρ _ => frame_ref20 m ρ,
  fun m ρ _ => Cert.Kernel21.Gen.frame m ρ, fun m ρ _ => Cert.Kernel21Ideal.Gen.frame m ρ, fun m ρ _ => frame_ref21 m ρ,
  fun m ρ _ => Cert.Kernel22.Gen.frame m ρ, fun m ρ _ => Cert.Kernel22Ideal.Gen.frame m ρ, fun m ρ _ => frame_ref22 m ρ,
  fun m ρ _ => Cert.Kernel23.Gen.frame m ρ, fun m ρ _ => Cert.Kernel23Ideal.Gen.frame m ρ, fun m ρ _ => frame_ref23 m ρ,
  fun m ρ _ => Cert.Kernel24.Gen.frame m ρ, fun m ρ _ => Cert.Kernel24Ideal.Gen.frame m ρ, fun m ρ _ => frame_ref24 m ρ,
  fun m ρ _ => Cert.Kernel25.Gen.frame m ρ, fun m ρ _ => Cert.Kernel25Ideal.Gen.frame m ρ, fun m ρ _ => frame_ref25 m ρ,
  fun m ρ _ => Cert.Kernel26.Gen.frame m ρ, fun m ρ _ => Cert.Kernel26Ideal.Gen.frame m ρ, fun m ρ _ => frame_ref26 m ρ,
  fun m ρ _ => Cert.Kernel27.Gen.frame m ρ, fun m ρ _ => Cert.Kernel27Ideal.Gen.frame m ρ, fun m ρ _ => frame_ref27 m ρ,
  fun m ρ _ => Cert.Kernel28.Gen.frame m ρ, fun m ρ _ => Cert.Kernel28Ideal.Gen.frame m ρ, fun m ρ _ => Cert.Kernel28Ideal.Gen.frame m ρ, fun m ρ _ => frame_ref28 m ρ, fun m ρ _ => frame_ref28 m ρ,
  fun m ρ _ => Cert.Kernel29.Gen.frame m ρ, fun m ρ _ => Cert.Kernel29Ideal.Gen.frame m ρ, fun m ρ _ => frame_ref29 m ρ,
  fun m ρ _ => Cert.Kernel30.Gen.frame m ρ, fun m ρ _ => Cert.Kernel30Ideal.Gen.frame m ρ, fun m ρ _ => frame_ref30 m ρ,
  fun m ρ _ => Cert.Kernel31.Gen.frame m ρ, fun m ρ _ => Cert.Kernel31Ideal.Gen.frame m ρ, fun m ρ _ => Cert.Kernel31Ideal.Gen.frame m ρ, fun m ρ _ => frame_ref31 m ρ, fun m ρ _ => frame_ref31 m ρ,
  fun m ρ _ => Cert.Kernel32.Gen.frame m ρ, fun m ρ _ => Cert.Kernel32Ideal.Gen.frame m ρ, fun m ρ _ => Cert.Kernel32Ideal.Gen.frame m ρ, fun m ρ _ => frame_ref32 m ρ, fun m ρ _ => frame_ref32 m ρ,
  ⟨IdealRules.named_const.statement Cert.KernelIdeal.κ "masked" .f32 0xF149F2CA#32 ⊥ rfl,
    IdealRules.named_const.statement Cert.KernelIdeal.κ "ln2" .f32 0x3F317218#32 ((Real.log 2 : ℝ) : EReal) rfl⟩,
  algebraic,
  trivial, algebraic2,
  trivial, algebraic3,
  trivial, algebraic4,
  trivial, algebraic5,
  trivial, algebraic6,
  trivial, algebraic7,
  trivial, algebraic8,
  trivial, algebraic9,
  trivial, algebraic10,
  trivial, algebraic11,
  trivial, algebraic12,
  trivial, algebraic13,
  trivial, algebraic14,
  trivial, algebraic15,
  trivial, algebraic16,
  trivial, algebraic17,
  trivial, algebraic18,
  trivial, algebraic19,
  trivial, algebraic20,
  trivial, algebraic21,
  trivial, algebraic22,
  trivial, algebraic23,
  trivial, algebraic24,
  trivial, algebraic25,
  trivial, algebraic26,
  trivial, algebraic27,
  trivial, algebraic28,
  trivial, algebraic29,
  trivial, algebraic30,
  trivial, algebraic31,
  trivial, algebraic32⟩

end Cert.Proof
end
